-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_SbBwd (m : (ℓ : Loc Cert.SbBwd.nD Cert.SbBwd.τ Cert.SbBwd.sig) → Buf (Elt Bits) ℓ) : Prop :=
  True

def Pre_SbBwdIdeal (m : (ℓ : Loc Cert.SbBwdIdeal.nD Cert.SbBwdIdeal.τ Cert.SbBwdIdeal.sig) → Buf (Elt Ideal) ℓ) : Prop :=
  True

def Pre_SbBwdIdeal_sb_finite [hPre_sb_finite : Cert.Pre_sb_finite.Facts] (m : (ℓ : Loc Cert.SbBwdIdeal.nD Cert.SbBwdIdeal.τ Cert.SbBwdIdeal.sig) → Buf (Elt Ideal) ℓ) : Prop :=
  ∀ c : Dev Cert.SbBwdIdeal.nD,
    (Cert.Pre_sb_finite.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1))).1 = (fun _ => 1#1)
    ∧ (Cert.Pre_sb_finite.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1))).2 = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))).1 = (fun _ => 1#1)
    ∧ (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))).2 = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxIdeal_ffndx_finite [hPre_ffndx_finite : Cert.Pre_ffndx_finite.Facts] (m : (ℓ : Loc Cert.FfnDxIdeal.nD Cert.FfnDxIdeal.τ Cert.FfnDxIdeal.sig) → Buf (Elt Ideal) ℓ) : Prop :=
  ∀ c : Dev Cert.FfnDxIdeal.nD,
    (Cert.Pre_ffndx_finite.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4)) (m ((c.tc : Thread Cert.FfnDxIdeal.nD Cert.FfnDxIdeal.τ).loc Cert.FfnDxIdeal.main_arg5)) (m ((c.tc : Thread Cert.FfnDxIdeal.nD Cert.FfnDxIdeal.τ).loc Cert.FfnDxIdeal.main_arg6))).1 = (fun _ => 1#1)
    ∧ (Cert.Pre_ffndx_finite.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4)) (m ((c.tc : Thread Cert.FfnDxIdeal.nD Cert.FfnDxIdeal.τ).loc Cert.FfnDxIdeal.main_arg5)) (m ((c.tc : Thread Cert.FfnDxIdeal.nD Cert.FfnDxIdeal.τ).loc Cert.FfnDxIdeal.main_arg6))).2.1 = (fun _ => 1#1)
    ∧ (Cert.Pre_ffndx_finite.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4)) (m ((c.tc : Thread Cert.FfnDxIdeal.nD Cert.FfnDxIdeal.τ).loc Cert.FfnDxIdeal.main_arg5)) (m ((c.tc : Thread Cert.FfnDxIdeal.nD Cert.FfnDxIdeal.τ).loc Cert.FfnDxIdeal.main_arg6))).2.2.1 = (fun _ => 1#1)
    ∧ (Cert.Pre_ffndx_finite.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4)) (m ((c.tc : Thread Cert.FfnDxIdeal.nD Cert.FfnDxIdeal.τ).loc Cert.FfnDxIdeal.main_arg5)) (m ((c.tc : Thread Cert.FfnDxIdeal.nD Cert.FfnDxIdeal.τ).loc Cert.FfnDxIdeal.main_arg6))).2.2.2.1 = (fun _ => 1#1)
    ∧ (Cert.Pre_ffndx_finite.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4)) (m ((c.tc : Thread Cert.FfnDxIdeal.nD Cert.FfnDxIdeal.τ).loc Cert.FfnDxIdeal.main_arg5)) (m ((c.tc : Thread Cert.FfnDxIdeal.nD Cert.FfnDxIdeal.τ).loc Cert.FfnDxIdeal.main_arg6))).2.2.2.2.1 = (fun _ => 1#1)
    ∧ (Cert.Pre_ffndx_finite.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4)) (m ((c.tc : Thread Cert.FfnDxIdeal.nD Cert.FfnDxIdeal.τ).loc Cert.FfnDxIdeal.main_arg5)) (m ((c.tc : Thread Cert.FfnDxIdeal.nD Cert.FfnDxIdeal.τ).loc Cert.FfnDxIdeal.main_arg6))).2.2.2.2.2 = (fun _ => 1#1)

def Pre_FfnDxRefIdeal (m : (ℓ : Loc Cert.FfnDxRefIdeal.nD Cert.FfnDxRefIdeal.τ Cert.FfnDxRefIdeal.sig) → Buf (Elt Ideal) ℓ) : Prop :=
  True

def Pre_FfnDxRefIdeal_ffndx_finite [hPre_ffndx_finite : Cert.Pre_ffndx_finite.Facts] (m : (ℓ : Loc Cert.FfnDxRefIdeal.nD Cert.FfnDxRefIdeal.τ Cert.FfnDxRefIdeal.sig) → Buf (Elt Ideal) ℓ) : Prop :=
  ∀ c : Dev Cert.FfnDxRefIdeal.nD,
    (Cert.Pre_ffndx_finite.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4)) (m ((c.tc : Thread Cert.FfnDxRefIdeal.nD Cert.FfnDxRefIdeal.τ).loc Cert.FfnDxRefIdeal.main_arg5)) (m ((c.tc : Thread Cert.FfnDxRefIdeal.nD Cert.FfnDxRefIdeal.τ).loc Cert.FfnDxRefIdeal.main_arg6))).1 = (fun _ => 1#1)
    ∧ (Cert.Pre_ffndx_finite.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4)) (m ((c.tc : Thread Cert.FfnDxRefIdeal.nD Cert.FfnDxRefIdeal.τ).loc Cert.FfnDxRefIdeal.main_arg5)) (m ((c.tc : Thread Cert.FfnDxRefIdeal.nD Cert.FfnDxRefIdeal.τ).loc Cert.FfnDxRefIdeal.main_arg6))).2.1 = (fun _ => 1#1)
    ∧ (Cert.Pre_ffndx_finite.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4)) (m ((c.tc : Thread Cert.FfnDxRefIdeal.nD Cert.FfnDxRefIdeal.τ).loc Cert.FfnDxRefIdeal.main_arg5)) (m ((c.tc : Thread Cert.FfnDxRefIdeal.nD Cert.FfnDxRefIdeal.τ).loc Cert.FfnDxRefIdeal.main_arg6))).2.2.1 = (fun _ => 1#1)
    ∧ (Cert.Pre_ffndx_finite.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4)) (m ((c.tc : Thread Cert.FfnDxRefIdeal.nD Cert.FfnDxRefIdeal.τ).loc Cert.FfnDxRefIdeal.main_arg5)) (m ((c.tc : Thread Cert.FfnDxRefIdeal.nD Cert.FfnDxRefIdeal.τ).loc Cert.FfnDxRefIdeal.main_arg6))).2.2.2.1 = (fun _ => 1#1)
    ∧ (Cert.Pre_ffndx_finite.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4)) (m ((c.tc : Thread Cert.FfnDxRefIdeal.nD Cert.FfnDxRefIdeal.τ).loc Cert.FfnDxRefIdeal.main_arg5)) (m ((c.tc : Thread Cert.FfnDxRefIdeal.nD Cert.FfnDxRefIdeal.τ).loc Cert.FfnDxRefIdeal.main_arg6))).2.2.2.2.1 = (fun _ => 1#1)
    ∧ (Cert.Pre_ffndx_finite.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3)) (m ((c.tc : Thread Cert.FfnDxRefIdeal.nD Cert.FfnDxRefIdeal.τ).loc Cert.FfnDxRefIdeal.main_arg4)) (m ((c.tc : Thread Cert.FfnDxRefIdeal.nD Cert.FfnDxRefIdeal.τ).loc Cert.FfnDxRefIdeal.main_arg5)) (m ((c.tc : Thread Cert.FfnDxRefIdeal.nD Cert.FfnDxRefIdeal.τ).loc Cert.FfnDxRefIdeal.main_arg6))).2.2.2.2.2 = (fun _ => 1#1)

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxIdeal_mixdx_finite [hPre_mixdx_finite : Cert.Pre_mixdx_finite.Facts] (m : (ℓ : Loc Cert.MixDxIdeal.nD Cert.MixDxIdeal.τ Cert.MixDxIdeal.sig) → Buf (Elt Ideal) ℓ) : Prop :=
  ∀ c : Dev Cert.MixDxIdeal.nD,
    (Cert.Pre_mixdx_finite.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4))).1 = (fun _ => 1#1)
    ∧ (Cert.Pre_mixdx_finite.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4))).2.1 = (fun _ => 1#1)
    ∧ (Cert.Pre_mixdx_finite.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4))).2.2.1 = (fun _ => 1#1)
    ∧ (Cert.Pre_mixdx_finite.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4))).2.2.2 = (fun _ => 1#1)

def Pre_MixDxRefIdeal (m : (ℓ : Loc Cert.MixDxRefIdeal.nD Cert.MixDxRefIdeal.τ Cert.MixDxRefIdeal.sig) → Buf (Elt Ideal) ℓ) : Prop :=
  True

def Pre_MixDxRefIdeal_mixdx_finite [hPre_mixdx_finite : Cert.Pre_mixdx_finite.Facts] (m : (ℓ : Loc Cert.MixDxRefIdeal.nD Cert.MixDxRefIdeal.τ Cert.MixDxRefIdeal.sig) → Buf (Elt Ideal) ℓ) : Prop :=
  ∀ c : Dev Cert.MixDxRefIdeal.nD,
    (Cert.Pre_mixdx_finite.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4))).1 = (fun _ => 1#1)
    ∧ (Cert.Pre_mixdx_finite.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4))).2.1 = (fun _ => 1#1)
    ∧ (Cert.Pre_mixdx_finite.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4))).2.2.1 = (fun _ => 1#1)
    ∧ (Cert.Pre_mixdx_finite.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4))).2.2.2 = (fun _ => 1#1)

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactIdeal_fact_finite [hPre_fact_finite : Cert.Pre_fact_finite.Facts] (m : (ℓ : Loc Cert.FfnDactIdeal.nD Cert.FfnDactIdeal.τ Cert.FfnDactIdeal.sig) → Buf (Elt Ideal) ℓ) : Prop :=
  ∀ c : Dev Cert.FfnDactIdeal.nD,
    (Cert.Pre_fact_finite.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3)) (m ((c.tc : Thread Cert.FfnDactIdeal.nD Cert.FfnDactIdeal.τ).loc Cert.FfnDactIdeal.main_arg4)) (m ((c.tc : Thread Cert.FfnDactIdeal.nD Cert.FfnDactIdeal.τ).loc Cert.FfnDactIdeal.main_arg5))).1 = (fun _ => 1#1)
    ∧ (Cert.Pre_fact_finite.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3)) (m ((c.tc : Thread Cert.FfnDactIdeal.nD Cert.FfnDactIdeal.τ).loc Cert.FfnDactIdeal.main_arg4)) (m ((c.tc : Thread Cert.FfnDactIdeal.nD Cert.FfnDactIdeal.τ).loc Cert.FfnDactIdeal.main_arg5))).2.1 = (fun _ => 1#1)
    ∧ (Cert.Pre_fact_finite.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3)) (m ((c.tc : Thread Cert.FfnDactIdeal.nD Cert.FfnDactIdeal.τ).loc Cert.FfnDactIdeal.main_arg4)) (m ((c.tc : Thread Cert.FfnDactIdeal.nD Cert.FfnDactIdeal.τ).loc Cert.FfnDactIdeal.main_arg5))).2.2.1 = (fun _ => 1#1)
    ∧ (Cert.Pre_fact_finite.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3)) (m ((c.tc : Thread Cert.FfnDactIdeal.nD Cert.FfnDactIdeal.τ).loc Cert.FfnDactIdeal.main_arg4)) (m ((c.tc : Thread Cert.FfnDactIdeal.nD Cert.FfnDactIdeal.τ).loc Cert.FfnDactIdeal.main_arg5))).2.2.2 = (fun _ => 1#1)

def Pre_FfnDactRefIdeal (m : (ℓ : Loc Cert.FfnDactRefIdeal.nD Cert.FfnDactRefIdeal.τ Cert.FfnDactRefIdeal.sig) → Buf (Elt Ideal) ℓ) : Prop :=
  True

def Pre_FfnDactRefIdeal_fact_finite [hPre_fact_finite : Cert.Pre_fact_finite.Facts] (m : (ℓ : Loc Cert.FfnDactRefIdeal.nD Cert.FfnDactRefIdeal.τ Cert.FfnDactRefIdeal.sig) → Buf (Elt Ideal) ℓ) : Prop :=
  ∀ c : Dev Cert.FfnDactRefIdeal.nD,
    (Cert.Pre_fact_finite.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3)) (m ((c.tc : Thread Cert.FfnDactRefIdeal.nD Cert.FfnDactRefIdeal.τ).loc Cert.FfnDactRefIdeal.main_arg4)) (m ((c.tc : Thread Cert.FfnDactRefIdeal.nD Cert.FfnDactRefIdeal.τ).loc Cert.FfnDactRefIdeal.main_arg5))).1 = (fun _ => 1#1)
    ∧ (Cert.Pre_fact_finite.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3)) (m ((c.tc : Thread Cert.FfnDactRefIdeal.nD Cert.FfnDactRefIdeal.τ).loc Cert.FfnDactRefIdeal.main_arg4)) (m ((c.tc : Thread Cert.FfnDactRefIdeal.nD Cert.FfnDactRefIdeal.τ).loc Cert.FfnDactRefIdeal.main_arg5))).2.1 = (fun _ => 1#1)
    ∧ (Cert.Pre_fact_finite.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3)) (m ((c.tc : Thread Cert.FfnDactRefIdeal.nD Cert.FfnDactRefIdeal.τ).loc Cert.FfnDactRefIdeal.main_arg4)) (m ((c.tc : Thread Cert.FfnDactRefIdeal.nD Cert.FfnDactRefIdeal.τ).loc Cert.FfnDactRefIdeal.main_arg5))).2.2.1 = (fun _ => 1#1)
    ∧ (Cert.Pre_fact_finite.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3)) (m ((c.tc : Thread Cert.FfnDactRefIdeal.nD Cert.FfnDactRefIdeal.τ).loc Cert.FfnDactRefIdeal.main_arg4)) (m ((c.tc : Thread Cert.FfnDactRefIdeal.nD Cert.FfnDactRefIdeal.τ).loc Cert.FfnDactRefIdeal.main_arg5))).2.2.2 = (fun _ => 1#1)

def Pre_MixDu (m : (ℓ : Loc Cert.MixDu.nD Cert.MixDu.τ Cert.MixDu.sig) → Buf (Elt Bits) ℓ) : Prop :=
  True

def Pre_MixDuIdeal (m : (ℓ : Loc Cert.MixDuIdeal.nD Cert.MixDuIdeal.τ Cert.MixDuIdeal.sig) → Buf (Elt Ideal) ℓ) : Prop :=
  True

def Pre_MixDuRefIdeal (m : (ℓ : Loc Cert.MixDuRefIdeal.nD Cert.MixDuRefIdeal.τ Cert.MixDuRefIdeal.sig) → Buf (Elt Ideal) ℓ) : Prop :=
  True

def Pre_Assemble (m : (ℓ : Loc Cert.Assemble.nD Cert.Assemble.τ Cert.Assemble.sig) → Buf (Elt Bits) ℓ) : Prop :=
  True

def Pre_AssembleIdeal (m : (ℓ : Loc Cert.AssembleIdeal.nD Cert.AssembleIdeal.τ Cert.AssembleIdeal.sig) → Buf (Elt Ideal) ℓ) : Prop :=
  True

def Pre_AssembleRefIdeal (m : (ℓ : Loc Cert.AssembleRefIdeal.nD Cert.AssembleRefIdeal.τ Cert.AssembleRefIdeal.sig) → Buf (Elt Ideal) ℓ) : Prop :=
  True

def Pre_DilMerge (m : (ℓ : Loc Cert.DilMerge.nD Cert.DilMerge.τ Cert.DilMerge.sig) → Buf (Elt Bits) ℓ) : Prop :=
  True

def Pre_DilMergeIdeal (m : (ℓ : Loc Cert.DilMergeIdeal.nD Cert.DilMergeIdeal.τ Cert.DilMergeIdeal.sig) → Buf (Elt Ideal) ℓ) : Prop :=
  True

def Pre_DilMergeIdeal_lse_finite [hPre_lse_finite : Cert.Pre_lse_finite.Facts] (m : (ℓ : Loc Cert.DilMergeIdeal.nD Cert.DilMergeIdeal.τ Cert.DilMergeIdeal.sig) → Buf (Elt Ideal) ℓ) : Prop :=
  ∀ c : Dev Cert.DilMergeIdeal.nD,
    (Cert.Pre_lse_finite.fn (F := Ideal) (m ((c.tc : Thread Cert.DilMergeIdeal.nD Cert.DilMergeIdeal.τ).loc Cert.DilMergeIdeal.main_arg0)) (m ((c.tc : Thread Cert.DilMergeIdeal.nD Cert.DilMergeIdeal.τ).loc Cert.DilMergeIdeal.main_arg1)) (m ((c.tc : Thread Cert.DilMergeIdeal.nD Cert.DilMergeIdeal.τ).loc Cert.DilMergeIdeal.main_arg2)) (m ((c.tc : Thread Cert.DilMergeIdeal.nD Cert.DilMergeIdeal.τ).loc Cert.DilMergeIdeal.main_arg3)) (m ((c.tc : Thread Cert.DilMergeIdeal.nD Cert.DilMergeIdeal.τ).loc Cert.DilMergeIdeal.main_arg4)) (m ((c.tc : Thread Cert.DilMergeIdeal.nD Cert.DilMergeIdeal.τ).loc Cert.DilMergeIdeal.main_arg5))).1 = (fun _ => 1#1)
    ∧ (Cert.Pre_lse_finite.fn (F := Ideal) (m ((c.tc : Thread Cert.DilMergeIdeal.nD Cert.DilMergeIdeal.τ).loc Cert.DilMergeIdeal.main_arg0)) (m ((c.tc : Thread Cert.DilMergeIdeal.nD Cert.DilMergeIdeal.τ).loc Cert.DilMergeIdeal.main_arg1)) (m ((c.tc : Thread Cert.DilMergeIdeal.nD Cert.DilMergeIdeal.τ).loc Cert.DilMergeIdeal.main_arg2)) (m ((c.tc : Thread Cert.DilMergeIdeal.nD Cert.DilMergeIdeal.τ).loc Cert.DilMergeIdeal.main_arg3)) (m ((c.tc : Thread Cert.DilMergeIdeal.nD Cert.DilMergeIdeal.τ).loc Cert.DilMergeIdeal.main_arg4)) (m ((c.tc : Thread Cert.DilMergeIdeal.nD Cert.DilMergeIdeal.τ).loc Cert.DilMergeIdeal.main_arg5))).2.1 = (fun _ => 1#1)
    ∧ (Cert.Pre_lse_finite.fn (F := Ideal) (m ((c.tc : Thread Cert.DilMergeIdeal.nD Cert.DilMergeIdeal.τ).loc Cert.DilMergeIdeal.main_arg0)) (m ((c.tc : Thread Cert.DilMergeIdeal.nD Cert.DilMergeIdeal.τ).loc Cert.DilMergeIdeal.main_arg1)) (m ((c.tc : Thread Cert.DilMergeIdeal.nD Cert.DilMergeIdeal.τ).loc Cert.DilMergeIdeal.main_arg2)) (m ((c.tc : Thread Cert.DilMergeIdeal.nD Cert.DilMergeIdeal.τ).loc Cert.DilMergeIdeal.main_arg3)) (m ((c.tc : Thread Cert.DilMergeIdeal.nD Cert.DilMergeIdeal.τ).loc Cert.DilMergeIdeal.main_arg4)) (m ((c.tc : Thread Cert.DilMergeIdeal.nD Cert.DilMergeIdeal.τ).loc Cert.DilMergeIdeal.main_arg5))).2.2 = (fun _ => 1#1)

def Pre_DilMergeRefIdeal (m : (ℓ : Loc Cert.DilMergeRefIdeal.nD Cert.DilMergeRefIdeal.τ Cert.DilMergeRefIdeal.sig) → Buf (Elt Ideal) ℓ) : Prop :=
  True

def Pre_DilMergeRefIdeal_lse_finite [hPre_lse_finite : Cert.Pre_lse_finite.Facts] (m : (ℓ : Loc Cert.DilMergeRefIdeal.nD Cert.DilMergeRefIdeal.τ Cert.DilMergeRefIdeal.sig) → Buf (Elt Ideal) ℓ) : Prop :=
  ∀ c : Dev Cert.DilMergeRefIdeal.nD,
    (Cert.Pre_lse_finite.fn (F := Ideal) (m ((c.tc : Thread Cert.DilMergeRefIdeal.nD Cert.DilMergeRefIdeal.τ).loc Cert.DilMergeRefIdeal.main_arg0)) (m ((c.tc : Thread Cert.DilMergeRefIdeal.nD Cert.DilMergeRefIdeal.τ).loc Cert.DilMergeRefIdeal.main_arg1)) (m ((c.tc : Thread Cert.DilMergeRefIdeal.nD Cert.DilMergeRefIdeal.τ).loc Cert.DilMergeRefIdeal.main_arg2)) (m ((c.tc : Thread Cert.DilMergeRefIdeal.nD Cert.DilMergeRefIdeal.τ).loc Cert.DilMergeRefIdeal.main_arg3)) (m ((c.tc : Thread Cert.DilMergeRefIdeal.nD Cert.DilMergeRefIdeal.τ).loc Cert.DilMergeRefIdeal.main_arg4)) (m ((c.tc : Thread Cert.DilMergeRefIdeal.nD Cert.DilMergeRefIdeal.τ).loc Cert.DilMergeRefIdeal.main_arg5))).1 = (fun _ => 1#1)
    ∧ (Cert.Pre_lse_finite.fn (F := Ideal) (m ((c.tc : Thread Cert.DilMergeRefIdeal.nD Cert.DilMergeRefIdeal.τ).loc Cert.DilMergeRefIdeal.main_arg0)) (m ((c.tc : Thread Cert.DilMergeRefIdeal.nD Cert.DilMergeRefIdeal.τ).loc Cert.DilMergeRefIdeal.main_arg1)) (m ((c.tc : Thread Cert.DilMergeRefIdeal.nD Cert.DilMergeRefIdeal.τ).loc Cert.DilMergeRefIdeal.main_arg2)) (m ((c.tc : Thread Cert.DilMergeRefIdeal.nD Cert.DilMergeRefIdeal.τ).loc Cert.DilMergeRefIdeal.main_arg3)) (m ((c.tc : Thread Cert.DilMergeRefIdeal.nD Cert.DilMergeRefIdeal.τ).loc Cert.DilMergeRefIdeal.main_arg4)) (m ((c.tc : Thread Cert.DilMergeRefIdeal.nD Cert.DilMergeRefIdeal.τ).loc Cert.DilMergeRefIdeal.main_arg5))).2.1 = (fun _ => 1#1)
    ∧ (Cert.Pre_lse_finite.fn (F := Ideal) (m ((c.tc : Thread Cert.DilMergeRefIdeal.nD Cert.DilMergeRefIdeal.τ).loc Cert.DilMergeRefIdeal.main_arg0)) (m ((c.tc : Thread Cert.DilMergeRefIdeal.nD Cert.DilMergeRefIdeal.τ).loc Cert.DilMergeRefIdeal.main_arg1)) (m ((c.tc : Thread Cert.DilMergeRefIdeal.nD Cert.DilMergeRefIdeal.τ).loc Cert.DilMergeRefIdeal.main_arg2)) (m ((c.tc : Thread Cert.DilMergeRefIdeal.nD Cert.DilMergeRefIdeal.τ).loc Cert.DilMergeRefIdeal.main_arg3)) (m ((c.tc : Thread Cert.DilMergeRefIdeal.nD Cert.DilMergeRefIdeal.τ).loc Cert.DilMergeRefIdeal.main_arg4)) (m ((c.tc : Thread Cert.DilMergeRefIdeal.nD Cert.DilMergeRefIdeal.τ).loc Cert.DilMergeRefIdeal.main_arg5))).2.2 = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_SbBwd [hSbBwd : Cert.SbBwd.Facts] : Prop :=
  ∀ (m : (ℓ : Loc Cert.SbBwd.nD Cert.SbBwd.τ Cert.SbBwd.sig) → Buf (Elt Bits) ℓ) (g : Dev Cert.SbBwd.nD → PrngReg), Pre_SbBwd m →
    θ_run (Cert.SbBwd.defs (F := Bits)) (onTc (τ := Cert.SbBwd.τ) (Cert.SbBwd.main (F := Bits))) ⟨m, fun _ => 0, g⟩ (fun r => (∀ c : Dev Cert.SbBwd.nD,
      r.2.mem ((c.tc : Thread Cert.SbBwd.nD Cert.SbBwd.τ).loc Cert.SbBwd.main_arg0) = m ((c.tc : Thread Cert.SbBwd.nD Cert.SbBwd.τ).loc Cert.SbBwd.main_arg0)
      ∧ r.2.mem ((c.tc : Thread Cert.SbBwd.nD Cert.SbBwd.τ).loc Cert.SbBwd.main_arg1) = m ((c.tc : Thread Cert.SbBwd.nD Cert.SbBwd.τ).loc Cert.SbBwd.main_arg1))
      ∧ r.2.sem = fun _ => 0)

def quiescent_SbBwdIdeal [hSbBwdIdeal : Cert.SbBwdIdeal.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ r.2.sem = fun _ => 0)

def quiescent_SbBwdIdeal_pre_sb_finite [hSbBwdIdeal : Cert.SbBwdIdeal.Facts] [hPre_sb_finite : Cert.Pre_sb_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal_sb_finite m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4)
      ∧ r.2.mem ((c.tc : Thread Cert.FfnDx.nD Cert.FfnDx.τ).loc Cert.FfnDx.main_arg5) = m ((c.tc : Thread Cert.FfnDx.nD Cert.FfnDx.τ).loc Cert.FfnDx.main_arg5)
      ∧ r.2.mem ((c.tc : Thread Cert.FfnDx.nD Cert.FfnDx.τ).loc Cert.FfnDx.main_arg6) = m ((c.tc : Thread Cert.FfnDx.nD Cert.FfnDx.τ).loc Cert.FfnDx.main_arg6))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
      ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
      ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ r.2.sem = fun _ => 0)

def quiescent_FfnDxIdeal_pre_ffndx_finite [hFfnDxIdeal : Cert.FfnDxIdeal.Facts] [hPre_ffndx_finite : Cert.Pre_ffndx_finite.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal_ffndx_finite m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
      ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
      ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4)
      ∧ r.2.mem ((c.tc : Thread Cert.FfnDxRefIdeal.nD Cert.FfnDxRefIdeal.τ).loc Cert.FfnDxRefIdeal.main_arg5) = m ((c.tc : Thread Cert.FfnDxRefIdeal.nD Cert.FfnDxRefIdeal.τ).loc Cert.FfnDxRefIdeal.main_arg5)
      ∧ r.2.mem ((c.tc : Thread Cert.FfnDxRefIdeal.nD Cert.FfnDxRefIdeal.τ).loc Cert.FfnDxRefIdeal.main_arg6) = m ((c.tc : Thread Cert.FfnDxRefIdeal.nD Cert.FfnDxRefIdeal.τ).loc Cert.FfnDxRefIdeal.main_arg6))
      ∧ r.2.sem = fun _ => 0)

def quiescent_FfnDxRefIdeal_pre_ffndx_finite [hFfnDxRefIdeal : Cert.FfnDxRefIdeal.Facts] [hPre_ffndx_finite : Cert.Pre_ffndx_finite.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal_ffndx_finite m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4)
      ∧ r.2.mem ((c.tc : Thread Cert.FfnDxRefIdeal.nD Cert.FfnDxRefIdeal.τ).loc Cert.FfnDxRefIdeal.main_arg5) = m ((c.tc : Thread Cert.FfnDxRefIdeal.nD Cert.FfnDxRefIdeal.τ).loc Cert.FfnDxRefIdeal.main_arg5)
      ∧ r.2.mem ((c.tc : Thread Cert.FfnDxRefIdeal.nD Cert.FfnDxRefIdeal.τ).loc Cert.FfnDxRefIdeal.main_arg6) = m ((c.tc : Thread Cert.FfnDxRefIdeal.nD Cert.FfnDxRefIdeal.τ).loc Cert.FfnDxRefIdeal.main_arg6))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2)
      ∧ r.2.mem ((c.tc : Thread Cert.MixDx.nD Cert.MixDx.τ).loc Cert.MixDx.main_arg3) = m ((c.tc : Thread Cert.MixDx.nD Cert.MixDx.τ).loc Cert.MixDx.main_arg3)
      ∧ r.2.mem ((c.tc : Thread Cert.MixDx.nD Cert.MixDx.τ).loc Cert.MixDx.main_arg4) = m ((c.tc : Thread Cert.MixDx.nD Cert.MixDx.τ).loc Cert.MixDx.main_arg4))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4))
      ∧ r.2.sem = fun _ => 0)

def quiescent_MixDxIdeal_pre_mixdx_finite [hMixDxIdeal : Cert.MixDxIdeal.Facts] [hPre_mixdx_finite : Cert.Pre_mixdx_finite.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal_mixdx_finite m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4))
      ∧ r.2.sem = fun _ => 0)

def quiescent_MixDxRefIdeal_pre_mixdx_finite [hMixDxRefIdeal : Cert.MixDxRefIdeal.Facts] [hPre_mixdx_finite : Cert.Pre_mixdx_finite.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal_mixdx_finite m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2)
      ∧ r.2.mem ((c.tc : Thread Cert.FfnDact.nD Cert.FfnDact.τ).loc Cert.FfnDact.main_arg3) = m ((c.tc : Thread Cert.FfnDact.nD Cert.FfnDact.τ).loc Cert.FfnDact.main_arg3)
      ∧ r.2.mem ((c.tc : Thread Cert.FfnDact.nD Cert.FfnDact.τ).loc Cert.FfnDact.main_arg4) = m ((c.tc : Thread Cert.FfnDact.nD Cert.FfnDact.τ).loc Cert.FfnDact.main_arg4)
      ∧ r.2.mem ((c.tc : Thread Cert.FfnDact.nD Cert.FfnDact.τ).loc Cert.FfnDact.main_arg5) = m ((c.tc : Thread Cert.FfnDact.nD Cert.FfnDact.τ).loc Cert.FfnDact.main_arg5))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3)
      ∧ r.2.mem ((c.tc : Thread Cert.FfnDactIdeal.nD Cert.FfnDactIdeal.τ).loc Cert.FfnDactIdeal.main_arg4) = m ((c.tc : Thread Cert.FfnDactIdeal.nD Cert.FfnDactIdeal.τ).loc Cert.FfnDactIdeal.main_arg4)
      ∧ r.2.mem ((c.tc : Thread Cert.FfnDactIdeal.nD Cert.FfnDactIdeal.τ).loc Cert.FfnDactIdeal.main_arg5) = m ((c.tc : Thread Cert.FfnDactIdeal.nD Cert.FfnDactIdeal.τ).loc Cert.FfnDactIdeal.main_arg5))
      ∧ r.2.sem = fun _ => 0)

def quiescent_FfnDactIdeal_pre_fact_finite [hFfnDactIdeal : Cert.FfnDactIdeal.Facts] [hPre_fact_finite : Cert.Pre_fact_finite.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal_fact_finite m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3)
      ∧ r.2.mem ((c.tc : Thread Cert.FfnDactIdeal.nD Cert.FfnDactIdeal.τ).loc Cert.FfnDactIdeal.main_arg4) = m ((c.tc : Thread Cert.FfnDactIdeal.nD Cert.FfnDactIdeal.τ).loc Cert.FfnDactIdeal.main_arg4)
      ∧ r.2.mem ((c.tc : Thread Cert.FfnDactIdeal.nD Cert.FfnDactIdeal.τ).loc Cert.FfnDactIdeal.main_arg5) = m ((c.tc : Thread Cert.FfnDactIdeal.nD Cert.FfnDactIdeal.τ).loc Cert.FfnDactIdeal.main_arg5))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3)
      ∧ r.2.mem ((c.tc : Thread Cert.FfnDactRefIdeal.nD Cert.FfnDactRefIdeal.τ).loc Cert.FfnDactRefIdeal.main_arg4) = m ((c.tc : Thread Cert.FfnDactRefIdeal.nD Cert.FfnDactRefIdeal.τ).loc Cert.FfnDactRefIdeal.main_arg4)
      ∧ r.2.mem ((c.tc : Thread Cert.FfnDactRefIdeal.nD Cert.FfnDactRefIdeal.τ).loc Cert.FfnDactRefIdeal.main_arg5) = m ((c.tc : Thread Cert.FfnDactRefIdeal.nD Cert.FfnDactRefIdeal.τ).loc Cert.FfnDactRefIdeal.main_arg5))
      ∧ r.2.sem = fun _ => 0)

def quiescent_FfnDactRefIdeal_pre_fact_finite [hFfnDactRefIdeal : Cert.FfnDactRefIdeal.Facts] [hPre_fact_finite : Cert.Pre_fact_finite.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal_fact_finite m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3)
      ∧ r.2.mem ((c.tc : Thread Cert.FfnDactRefIdeal.nD Cert.FfnDactRefIdeal.τ).loc Cert.FfnDactRefIdeal.main_arg4) = m ((c.tc : Thread Cert.FfnDactRefIdeal.nD Cert.FfnDactRefIdeal.τ).loc Cert.FfnDactRefIdeal.main_arg4)
      ∧ r.2.mem ((c.tc : Thread Cert.FfnDactRefIdeal.nD Cert.FfnDactRefIdeal.τ).loc Cert.FfnDactRefIdeal.main_arg5) = m ((c.tc : Thread Cert.FfnDactRefIdeal.nD Cert.FfnDactRefIdeal.τ).loc Cert.FfnDactRefIdeal.main_arg5))
      ∧ r.2.sem = fun _ => 0)

def quiescent_MixDu [hMixDu : Cert.MixDu.Facts] : Prop :=
  ∀ (m : (ℓ : Loc Cert.MixDu.nD Cert.MixDu.τ Cert.MixDu.sig) → Buf (Elt Bits) ℓ) (g : Dev Cert.MixDu.nD → PrngReg), Pre_MixDu m →
    θ_run (Cert.MixDu.defs (F := Bits)) (onTc (τ := Cert.MixDu.τ) (Cert.MixDu.main (F := Bits))) ⟨m, fun _ => 0, g⟩ (fun r => (∀ c : Dev Cert.MixDu.nD,
      r.2.mem ((c.tc : Thread Cert.MixDu.nD Cert.MixDu.τ).loc Cert.MixDu.main_arg0) = m ((c.tc : Thread Cert.MixDu.nD Cert.MixDu.τ).loc Cert.MixDu.main_arg0)
      ∧ r.2.mem ((c.tc : Thread Cert.MixDu.nD Cert.MixDu.τ).loc Cert.MixDu.main_arg1) = m ((c.tc : Thread Cert.MixDu.nD Cert.MixDu.τ).loc Cert.MixDu.main_arg1)
      ∧ r.2.mem ((c.tc : Thread Cert.MixDu.nD Cert.MixDu.τ).loc Cert.MixDu.main_arg2) = m ((c.tc : Thread Cert.MixDu.nD Cert.MixDu.τ).loc Cert.MixDu.main_arg2)
      ∧ r.2.mem ((c.tc : Thread Cert.MixDu.nD Cert.MixDu.τ).loc Cert.MixDu.main_arg3) = m ((c.tc : Thread Cert.MixDu.nD Cert.MixDu.τ).loc Cert.MixDu.main_arg3)
      ∧ r.2.mem ((c.tc : Thread Cert.MixDu.nD Cert.MixDu.τ).loc Cert.MixDu.main_arg4) = m ((c.tc : Thread Cert.MixDu.nD Cert.MixDu.τ).loc Cert.MixDu.main_arg4)
      ∧ r.2.mem ((c.tc : Thread Cert.MixDu.nD Cert.MixDu.τ).loc Cert.MixDu.main_arg5) = m ((c.tc : Thread Cert.MixDu.nD Cert.MixDu.τ).loc Cert.MixDu.main_arg5)
      ∧ r.2.mem ((c.tc : Thread Cert.MixDu.nD Cert.MixDu.τ).loc Cert.MixDu.main_arg6) = m ((c.tc : Thread Cert.MixDu.nD Cert.MixDu.τ).loc Cert.MixDu.main_arg6))
      ∧ r.2.sem = fun _ => 0)

def quiescent_MixDuIdeal [hMixDuIdeal : Cert.MixDuIdeal.Facts] : Prop :=
  ∀ (m : (ℓ : Loc Cert.MixDuIdeal.nD Cert.MixDuIdeal.τ Cert.MixDuIdeal.sig) → Buf (Elt Ideal) ℓ) (g : Dev Cert.MixDuIdeal.nD → PrngReg), Pre_MixDuIdeal m →
    θ_run (Cert.MixDuIdeal.defs (F := Ideal)) (onTc (τ := Cert.MixDuIdeal.τ) (Cert.MixDuIdeal.main (F := Ideal))) ⟨m, fun _ => 0, g⟩ (fun r => (∀ c : Dev Cert.MixDuIdeal.nD,
      r.2.mem ((c.tc : Thread Cert.MixDuIdeal.nD Cert.MixDuIdeal.τ).loc Cert.MixDuIdeal.main_arg0) = m ((c.tc : Thread Cert.MixDuIdeal.nD Cert.MixDuIdeal.τ).loc Cert.MixDuIdeal.main_arg0)
      ∧ r.2.mem ((c.tc : Thread Cert.MixDuIdeal.nD Cert.MixDuIdeal.τ).loc Cert.MixDuIdeal.main_arg1) = m ((c.tc : Thread Cert.MixDuIdeal.nD Cert.MixDuIdeal.τ).loc Cert.MixDuIdeal.main_arg1)
      ∧ r.2.mem ((c.tc : Thread Cert.MixDuIdeal.nD Cert.MixDuIdeal.τ).loc Cert.MixDuIdeal.main_arg2) = m ((c.tc : Thread Cert.MixDuIdeal.nD Cert.MixDuIdeal.τ).loc Cert.MixDuIdeal.main_arg2)
      ∧ r.2.mem ((c.tc : Thread Cert.MixDuIdeal.nD Cert.MixDuIdeal.τ).loc Cert.MixDuIdeal.main_arg3) = m ((c.tc : Thread Cert.MixDuIdeal.nD Cert.MixDuIdeal.τ).loc Cert.MixDuIdeal.main_arg3)
      ∧ r.2.mem ((c.tc : Thread Cert.MixDuIdeal.nD Cert.MixDuIdeal.τ).loc Cert.MixDuIdeal.main_arg4) = m ((c.tc : Thread Cert.MixDuIdeal.nD Cert.MixDuIdeal.τ).loc Cert.MixDuIdeal.main_arg4)
      ∧ r.2.mem ((c.tc : Thread Cert.MixDuIdeal.nD Cert.MixDuIdeal.τ).loc Cert.MixDuIdeal.main_arg5) = m ((c.tc : Thread Cert.MixDuIdeal.nD Cert.MixDuIdeal.τ).loc Cert.MixDuIdeal.main_arg5)
      ∧ r.2.mem ((c.tc : Thread Cert.MixDuIdeal.nD Cert.MixDuIdeal.τ).loc Cert.MixDuIdeal.main_arg6) = m ((c.tc : Thread Cert.MixDuIdeal.nD Cert.MixDuIdeal.τ).loc Cert.MixDuIdeal.main_arg6))
      ∧ r.2.sem = fun _ => 0)

def quiescent_MixDuRefIdeal [hMixDuRefIdeal : Cert.MixDuRefIdeal.Facts] : Prop :=
  ∀ (m : (ℓ : Loc Cert.MixDuRefIdeal.nD Cert.MixDuRefIdeal.τ Cert.MixDuRefIdeal.sig) → Buf (Elt Ideal) ℓ) (g : Dev Cert.MixDuRefIdeal.nD → PrngReg), Pre_MixDuRefIdeal m →
    θ_run (Cert.MixDuRefIdeal.defs (F := Ideal)) (onTc (τ := Cert.MixDuRefIdeal.τ) (Cert.MixDuRefIdeal.main (F := Ideal))) ⟨m, fun _ => 0, g⟩ (fun r => (∀ c : Dev Cert.MixDuRefIdeal.nD,
      r.2.mem ((c.tc : Thread Cert.MixDuRefIdeal.nD Cert.MixDuRefIdeal.τ).loc Cert.MixDuRefIdeal.main_arg0) = m ((c.tc : Thread Cert.MixDuRefIdeal.nD Cert.MixDuRefIdeal.τ).loc Cert.MixDuRefIdeal.main_arg0)
      ∧ r.2.mem ((c.tc : Thread Cert.MixDuRefIdeal.nD Cert.MixDuRefIdeal.τ).loc Cert.MixDuRefIdeal.main_arg1) = m ((c.tc : Thread Cert.MixDuRefIdeal.nD Cert.MixDuRefIdeal.τ).loc Cert.MixDuRefIdeal.main_arg1)
      ∧ r.2.mem ((c.tc : Thread Cert.MixDuRefIdeal.nD Cert.MixDuRefIdeal.τ).loc Cert.MixDuRefIdeal.main_arg2) = m ((c.tc : Thread Cert.MixDuRefIdeal.nD Cert.MixDuRefIdeal.τ).loc Cert.MixDuRefIdeal.main_arg2)
      ∧ r.2.mem ((c.tc : Thread Cert.MixDuRefIdeal.nD Cert.MixDuRefIdeal.τ).loc Cert.MixDuRefIdeal.main_arg3) = m ((c.tc : Thread Cert.MixDuRefIdeal.nD Cert.MixDuRefIdeal.τ).loc Cert.MixDuRefIdeal.main_arg3)
      ∧ r.2.mem ((c.tc : Thread Cert.MixDuRefIdeal.nD Cert.MixDuRefIdeal.τ).loc Cert.MixDuRefIdeal.main_arg4) = m ((c.tc : Thread Cert.MixDuRefIdeal.nD Cert.MixDuRefIdeal.τ).loc Cert.MixDuRefIdeal.main_arg4)
      ∧ r.2.mem ((c.tc : Thread Cert.MixDuRefIdeal.nD Cert.MixDuRefIdeal.τ).loc Cert.MixDuRefIdeal.main_arg5) = m ((c.tc : Thread Cert.MixDuRefIdeal.nD Cert.MixDuRefIdeal.τ).loc Cert.MixDuRefIdeal.main_arg5)
      ∧ r.2.mem ((c.tc : Thread Cert.MixDuRefIdeal.nD Cert.MixDuRefIdeal.τ).loc Cert.MixDuRefIdeal.main_arg6) = m ((c.tc : Thread Cert.MixDuRefIdeal.nD Cert.MixDuRefIdeal.τ).loc Cert.MixDuRefIdeal.main_arg6))
      ∧ r.2.sem = fun _ => 0)

def quiescent_Assemble [hAssemble : Cert.Assemble.Facts] : Prop :=
  ∀ (m : (ℓ : Loc Cert.Assemble.nD Cert.Assemble.τ Cert.Assemble.sig) → Buf (Elt Bits) ℓ) (g : Dev Cert.Assemble.nD → PrngReg), Pre_Assemble m →
    θ_run (Cert.Assemble.defs (F := Bits)) (onTc (τ := Cert.Assemble.τ) (Cert.Assemble.main (F := Bits))) ⟨m, fun _ => 0, g⟩ (fun r => (∀ c : Dev Cert.Assemble.nD,
      r.2.mem ((c.tc : Thread Cert.Assemble.nD Cert.Assemble.τ).loc Cert.Assemble.main_arg0) = m ((c.tc : Thread Cert.Assemble.nD Cert.Assemble.τ).loc Cert.Assemble.main_arg0)
      ∧ r.2.mem ((c.tc : Thread Cert.Assemble.nD Cert.Assemble.τ).loc Cert.Assemble.main_arg1) = m ((c.tc : Thread Cert.Assemble.nD Cert.Assemble.τ).loc Cert.Assemble.main_arg1)
      ∧ r.2.mem ((c.tc : Thread Cert.Assemble.nD Cert.Assemble.τ).loc Cert.Assemble.main_arg2) = m ((c.tc : Thread Cert.Assemble.nD Cert.Assemble.τ).loc Cert.Assemble.main_arg2)
      ∧ r.2.mem ((c.tc : Thread Cert.Assemble.nD Cert.Assemble.τ).loc Cert.Assemble.main_arg3) = m ((c.tc : Thread Cert.Assemble.nD Cert.Assemble.τ).loc Cert.Assemble.main_arg3)
      ∧ r.2.mem ((c.tc : Thread Cert.Assemble.nD Cert.Assemble.τ).loc Cert.Assemble.main_arg4) = m ((c.tc : Thread Cert.Assemble.nD Cert.Assemble.τ).loc Cert.Assemble.main_arg4)
      ∧ r.2.mem ((c.tc : Thread Cert.Assemble.nD Cert.Assemble.τ).loc Cert.Assemble.main_arg5) = m ((c.tc : Thread Cert.Assemble.nD Cert.Assemble.τ).loc Cert.Assemble.main_arg5)
      ∧ r.2.mem ((c.tc : Thread Cert.Assemble.nD Cert.Assemble.τ).loc Cert.Assemble.main_arg6) = m ((c.tc : Thread Cert.Assemble.nD Cert.Assemble.τ).loc Cert.Assemble.main_arg6)
      ∧ r.2.mem ((c.tc : Thread Cert.Assemble.nD Cert.Assemble.τ).loc Cert.Assemble.main_arg7) = m ((c.tc : Thread Cert.Assemble.nD Cert.Assemble.τ).loc Cert.Assemble.main_arg7))
      ∧ r.2.sem = fun _ => 0)

def quiescent_AssembleIdeal [hAssembleIdeal : Cert.AssembleIdeal.Facts] : Prop :=
  ∀ (m : (ℓ : Loc Cert.AssembleIdeal.nD Cert.AssembleIdeal.τ Cert.AssembleIdeal.sig) → Buf (Elt Ideal) ℓ) (g : Dev Cert.AssembleIdeal.nD → PrngReg), Pre_AssembleIdeal m →
    θ_run (Cert.AssembleIdeal.defs (F := Ideal)) (onTc (τ := Cert.AssembleIdeal.τ) (Cert.AssembleIdeal.main (F := Ideal))) ⟨m, fun _ => 0, g⟩ (fun r => (∀ c : Dev Cert.AssembleIdeal.nD,
      r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
      ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1)
      ∧ r.2.mem ((c.tc : Thread Cert.AssembleIdeal.nD Cert.AssembleIdeal.τ).loc Cert.AssembleIdeal.main_arg2) = m ((c.tc : Thread Cert.AssembleIdeal.nD Cert.AssembleIdeal.τ).loc Cert.AssembleIdeal.main_arg2)
      ∧ r.2.mem ((c.tc : Thread Cert.AssembleIdeal.nD Cert.AssembleIdeal.τ).loc Cert.AssembleIdeal.main_arg3) = m ((c.tc : Thread Cert.AssembleIdeal.nD Cert.AssembleIdeal.τ).loc Cert.AssembleIdeal.main_arg3)
      ∧ r.2.mem ((c.tc : Thread Cert.AssembleIdeal.nD Cert.AssembleIdeal.τ).loc Cert.AssembleIdeal.main_arg4) = m ((c.tc : Thread Cert.AssembleIdeal.nD Cert.AssembleIdeal.τ).loc Cert.AssembleIdeal.main_arg4)
      ∧ r.2.mem ((c.tc : Thread Cert.AssembleIdeal.nD Cert.AssembleIdeal.τ).loc Cert.AssembleIdeal.main_arg5) = m ((c.tc : Thread Cert.AssembleIdeal.nD Cert.AssembleIdeal.τ).loc Cert.AssembleIdeal.main_arg5)
      ∧ r.2.mem ((c.tc : Thread Cert.AssembleIdeal.nD Cert.AssembleIdeal.τ).loc Cert.AssembleIdeal.main_arg6) = m ((c.tc : Thread Cert.AssembleIdeal.nD Cert.AssembleIdeal.τ).loc Cert.AssembleIdeal.main_arg6)
      ∧ r.2.mem ((c.tc : Thread Cert.AssembleIdeal.nD Cert.AssembleIdeal.τ).loc Cert.AssembleIdeal.main_arg7) = m ((c.tc : Thread Cert.AssembleIdeal.nD Cert.AssembleIdeal.τ).loc Cert.AssembleIdeal.main_arg7))
      ∧ r.2.sem = fun _ => 0)

def quiescent_AssembleRefIdeal [hAssembleRefIdeal : Cert.AssembleRefIdeal.Facts] : Prop :=
  ∀ (m : (ℓ : Loc Cert.AssembleRefIdeal.nD Cert.AssembleRefIdeal.τ Cert.AssembleRefIdeal.sig) → Buf (Elt Ideal) ℓ) (g : Dev Cert.AssembleRefIdeal.nD → PrngReg), Pre_AssembleRefIdeal m →
    θ_run (Cert.AssembleRefIdeal.defs (F := Ideal)) (onTc (τ := Cert.AssembleRefIdeal.τ) (Cert.AssembleRefIdeal.main (F := Ideal))) ⟨m, fun _ => 0, g⟩ (fun r => (∀ c : Dev Cert.AssembleRefIdeal.nD,
      r.2.mem ((c.tc : Thread Cert.AssembleRefIdeal.nD Cert.AssembleRefIdeal.τ).loc Cert.AssembleRefIdeal.main_arg0) = m ((c.tc : Thread Cert.AssembleRefIdeal.nD Cert.AssembleRefIdeal.τ).loc Cert.AssembleRefIdeal.main_arg0)
      ∧ r.2.mem ((c.tc : Thread Cert.AssembleRefIdeal.nD Cert.AssembleRefIdeal.τ).loc Cert.AssembleRefIdeal.main_arg1) = m ((c.tc : Thread Cert.AssembleRefIdeal.nD Cert.AssembleRefIdeal.τ).loc Cert.AssembleRefIdeal.main_arg1)
      ∧ r.2.mem ((c.tc : Thread Cert.AssembleRefIdeal.nD Cert.AssembleRefIdeal.τ).loc Cert.AssembleRefIdeal.main_arg2) = m ((c.tc : Thread Cert.AssembleRefIdeal.nD Cert.AssembleRefIdeal.τ).loc Cert.AssembleRefIdeal.main_arg2)
      ∧ r.2.mem ((c.tc : Thread Cert.AssembleRefIdeal.nD Cert.AssembleRefIdeal.τ).loc Cert.AssembleRefIdeal.main_arg3) = m ((c.tc : Thread Cert.AssembleRefIdeal.nD Cert.AssembleRefIdeal.τ).loc Cert.AssembleRefIdeal.main_arg3)
      ∧ r.2.mem ((c.tc : Thread Cert.AssembleRefIdeal.nD Cert.AssembleRefIdeal.τ).loc Cert.AssembleRefIdeal.main_arg4) = m ((c.tc : Thread Cert.AssembleRefIdeal.nD Cert.AssembleRefIdeal.τ).loc Cert.AssembleRefIdeal.main_arg4)
      ∧ r.2.mem ((c.tc : Thread Cert.AssembleRefIdeal.nD Cert.AssembleRefIdeal.τ).loc Cert.AssembleRefIdeal.main_arg5) = m ((c.tc : Thread Cert.AssembleRefIdeal.nD Cert.AssembleRefIdeal.τ).loc Cert.AssembleRefIdeal.main_arg5)
      ∧ r.2.mem ((c.tc : Thread Cert.AssembleRefIdeal.nD Cert.AssembleRefIdeal.τ).loc Cert.AssembleRefIdeal.main_arg6) = m ((c.tc : Thread Cert.AssembleRefIdeal.nD Cert.AssembleRefIdeal.τ).loc Cert.AssembleRefIdeal.main_arg6)
      ∧ r.2.mem ((c.tc : Thread Cert.AssembleRefIdeal.nD Cert.AssembleRefIdeal.τ).loc Cert.AssembleRefIdeal.main_arg7) = m ((c.tc : Thread Cert.AssembleRefIdeal.nD Cert.AssembleRefIdeal.τ).loc Cert.AssembleRefIdeal.main_arg7))
      ∧ r.2.sem = fun _ => 0)

def quiescent_DilMerge [hDilMerge : Cert.DilMerge.Facts] : Prop :=
  ∀ (m : (ℓ : Loc Cert.DilMerge.nD Cert.DilMerge.τ Cert.DilMerge.sig) → Buf (Elt Bits) ℓ) (g : Dev Cert.DilMerge.nD → PrngReg), Pre_DilMerge m →
    θ_run (Cert.DilMerge.defs (F := Bits)) (onTc (τ := Cert.DilMerge.τ) (Cert.DilMerge.main (F := Bits))) ⟨m, fun _ => 0, g⟩ (fun r => (∀ c : Dev Cert.DilMerge.nD,
      r.2.mem ((c.tc : Thread Cert.DilMerge.nD Cert.DilMerge.τ).loc Cert.DilMerge.main_arg0) = m ((c.tc : Thread Cert.DilMerge.nD Cert.DilMerge.τ).loc Cert.DilMerge.main_arg0)
      ∧ r.2.mem ((c.tc : Thread Cert.DilMerge.nD Cert.DilMerge.τ).loc Cert.DilMerge.main_arg1) = m ((c.tc : Thread Cert.DilMerge.nD Cert.DilMerge.τ).loc Cert.DilMerge.main_arg1)
      ∧ r.2.mem ((c.tc : Thread Cert.DilMerge.nD Cert.DilMerge.τ).loc Cert.DilMerge.main_arg2) = m ((c.tc : Thread Cert.DilMerge.nD Cert.DilMerge.τ).loc Cert.DilMerge.main_arg2)
      ∧ r.2.mem ((c.tc : Thread Cert.DilMerge.nD Cert.DilMerge.τ).loc Cert.DilMerge.main_arg3) = m ((c.tc : Thread Cert.DilMerge.nD Cert.DilMerge.τ).loc Cert.DilMerge.main_arg3)
      ∧ r.2.mem ((c.tc : Thread Cert.DilMerge.nD Cert.DilMerge.τ).loc Cert.DilMerge.main_arg4) = m ((c.tc : Thread Cert.DilMerge.nD Cert.DilMerge.τ).loc Cert.DilMerge.main_arg4)
      ∧ r.2.mem ((c.tc : Thread Cert.DilMerge.nD Cert.DilMerge.τ).loc Cert.DilMerge.main_arg5) = m ((c.tc : Thread Cert.DilMerge.nD Cert.DilMerge.τ).loc Cert.DilMerge.main_arg5))
      ∧ r.2.sem = fun _ => 0)

def quiescent_DilMergeIdeal [hDilMergeIdeal : Cert.DilMergeIdeal.Facts] : Prop :=
  ∀ (m : (ℓ : Loc Cert.DilMergeIdeal.nD Cert.DilMergeIdeal.τ Cert.DilMergeIdeal.sig) → Buf (Elt Ideal) ℓ) (g : Dev Cert.DilMergeIdeal.nD → PrngReg), Pre_DilMergeIdeal m →
    θ_run (Cert.DilMergeIdeal.defs (F := Ideal)) (onTc (τ := Cert.DilMergeIdeal.τ) (Cert.DilMergeIdeal.main (F := Ideal))) ⟨m, fun _ => 0, g⟩ (fun r => (∀ c : Dev Cert.DilMergeIdeal.nD,
      r.2.mem ((c.tc : Thread Cert.DilMergeIdeal.nD Cert.DilMergeIdeal.τ).loc Cert.DilMergeIdeal.main_arg0) = m ((c.tc : Thread Cert.DilMergeIdeal.nD Cert.DilMergeIdeal.τ).loc Cert.DilMergeIdeal.main_arg0)
      ∧ r.2.mem ((c.tc : Thread Cert.DilMergeIdeal.nD Cert.DilMergeIdeal.τ).loc Cert.DilMergeIdeal.main_arg1) = m ((c.tc : Thread Cert.DilMergeIdeal.nD Cert.DilMergeIdeal.τ).loc Cert.DilMergeIdeal.main_arg1)
      ∧ r.2.mem ((c.tc : Thread Cert.DilMergeIdeal.nD Cert.DilMergeIdeal.τ).loc Cert.DilMergeIdeal.main_arg2) = m ((c.tc : Thread Cert.DilMergeIdeal.nD Cert.DilMergeIdeal.τ).loc Cert.DilMergeIdeal.main_arg2)
      ∧ r.2.mem ((c.tc : Thread Cert.DilMergeIdeal.nD Cert.DilMergeIdeal.τ).loc Cert.DilMergeIdeal.main_arg3) = m ((c.tc : Thread Cert.DilMergeIdeal.nD Cert.DilMergeIdeal.τ).loc Cert.DilMergeIdeal.main_arg3)
      ∧ r.2.mem ((c.tc : Thread Cert.DilMergeIdeal.nD Cert.DilMergeIdeal.τ).loc Cert.DilMergeIdeal.main_arg4) = m ((c.tc : Thread Cert.DilMergeIdeal.nD Cert.DilMergeIdeal.τ).loc Cert.DilMergeIdeal.main_arg4)
      ∧ r.2.mem ((c.tc : Thread Cert.DilMergeIdeal.nD Cert.DilMergeIdeal.τ).loc Cert.DilMergeIdeal.main_arg5) = m ((c.tc : Thread Cert.DilMergeIdeal.nD Cert.DilMergeIdeal.τ).loc Cert.DilMergeIdeal.main_arg5))
      ∧ r.2.sem = fun _ => 0)

def quiescent_DilMergeIdeal_pre_lse_finite [hDilMergeIdeal : Cert.DilMergeIdeal.Facts] [hPre_lse_finite : Cert.Pre_lse_finite.Facts] : Prop :=
  ∀ (m : (ℓ : Loc Cert.DilMergeIdeal.nD Cert.DilMergeIdeal.τ Cert.DilMergeIdeal.sig) → Buf (Elt Ideal) ℓ) (g : Dev Cert.DilMergeIdeal.nD → PrngReg), Pre_DilMergeIdeal_lse_finite m →
    θ_run (Cert.DilMergeIdeal.defs (F := Ideal)) (onTc (τ := Cert.DilMergeIdeal.τ) (Cert.DilMergeIdeal.main (F := Ideal))) ⟨m, fun _ => 0, g⟩ (fun r => (∀ c : Dev Cert.DilMergeIdeal.nD,
      r.2.mem ((c.tc : Thread Cert.DilMergeIdeal.nD Cert.DilMergeIdeal.τ).loc Cert.DilMergeIdeal.main_arg0) = m ((c.tc : Thread Cert.DilMergeIdeal.nD Cert.DilMergeIdeal.τ).loc Cert.DilMergeIdeal.main_arg0)
      ∧ r.2.mem ((c.tc : Thread Cert.DilMergeIdeal.nD Cert.DilMergeIdeal.τ).loc Cert.DilMergeIdeal.main_arg1) = m ((c.tc : Thread Cert.DilMergeIdeal.nD Cert.DilMergeIdeal.τ).loc Cert.DilMergeIdeal.main_arg1)
      ∧ r.2.mem ((c.tc : Thread Cert.DilMergeIdeal.nD Cert.DilMergeIdeal.τ).loc Cert.DilMergeIdeal.main_arg2) = m ((c.tc : Thread Cert.DilMergeIdeal.nD Cert.DilMergeIdeal.τ).loc Cert.DilMergeIdeal.main_arg2)
      ∧ r.2.mem ((c.tc : Thread Cert.DilMergeIdeal.nD Cert.DilMergeIdeal.τ).loc Cert.DilMergeIdeal.main_arg3) = m ((c.tc : Thread Cert.DilMergeIdeal.nD Cert.DilMergeIdeal.τ).loc Cert.DilMergeIdeal.main_arg3)
      ∧ r.2.mem ((c.tc : Thread Cert.DilMergeIdeal.nD Cert.DilMergeIdeal.τ).loc Cert.DilMergeIdeal.main_arg4) = m ((c.tc : Thread Cert.DilMergeIdeal.nD Cert.DilMergeIdeal.τ).loc Cert.DilMergeIdeal.main_arg4)
      ∧ r.2.mem ((c.tc : Thread Cert.DilMergeIdeal.nD Cert.DilMergeIdeal.τ).loc Cert.DilMergeIdeal.main_arg5) = m ((c.tc : Thread Cert.DilMergeIdeal.nD Cert.DilMergeIdeal.τ).loc Cert.DilMergeIdeal.main_arg5))
      ∧ r.2.sem = fun _ => 0)

def quiescent_DilMergeRefIdeal [hDilMergeRefIdeal : Cert.DilMergeRefIdeal.Facts] : Prop :=
  ∀ (m : (ℓ : Loc Cert.DilMergeRefIdeal.nD Cert.DilMergeRefIdeal.τ Cert.DilMergeRefIdeal.sig) → Buf (Elt Ideal) ℓ) (g : Dev Cert.DilMergeRefIdeal.nD → PrngReg), Pre_DilMergeRefIdeal m →
    θ_run (Cert.DilMergeRefIdeal.defs (F := Ideal)) (onTc (τ := Cert.DilMergeRefIdeal.τ) (Cert.DilMergeRefIdeal.main (F := Ideal))) ⟨m, fun _ => 0, g⟩ (fun r => (∀ c : Dev Cert.DilMergeRefIdeal.nD,
      r.2.mem ((c.tc : Thread Cert.DilMergeRefIdeal.nD Cert.DilMergeRefIdeal.τ).loc Cert.DilMergeRefIdeal.main_arg0) = m ((c.tc : Thread Cert.DilMergeRefIdeal.nD Cert.DilMergeRefIdeal.τ).loc Cert.DilMergeRefIdeal.main_arg0)
      ∧ r.2.mem ((c.tc : Thread Cert.DilMergeRefIdeal.nD Cert.DilMergeRefIdeal.τ).loc Cert.DilMergeRefIdeal.main_arg1) = m ((c.tc : Thread Cert.DilMergeRefIdeal.nD Cert.DilMergeRefIdeal.τ).loc Cert.DilMergeRefIdeal.main_arg1)
      ∧ r.2.mem ((c.tc : Thread Cert.DilMergeRefIdeal.nD Cert.DilMergeRefIdeal.τ).loc Cert.DilMergeRefIdeal.main_arg2) = m ((c.tc : Thread Cert.DilMergeRefIdeal.nD Cert.DilMergeRefIdeal.τ).loc Cert.DilMergeRefIdeal.main_arg2)
      ∧ r.2.mem ((c.tc : Thread Cert.DilMergeRefIdeal.nD Cert.DilMergeRefIdeal.τ).loc Cert.DilMergeRefIdeal.main_arg3) = m ((c.tc : Thread Cert.DilMergeRefIdeal.nD Cert.DilMergeRefIdeal.τ).loc Cert.DilMergeRefIdeal.main_arg3)
      ∧ r.2.mem ((c.tc : Thread Cert.DilMergeRefIdeal.nD Cert.DilMergeRefIdeal.τ).loc Cert.DilMergeRefIdeal.main_arg4) = m ((c.tc : Thread Cert.DilMergeRefIdeal.nD Cert.DilMergeRefIdeal.τ).loc Cert.DilMergeRefIdeal.main_arg4)
      ∧ r.2.mem ((c.tc : Thread Cert.DilMergeRefIdeal.nD Cert.DilMergeRefIdeal.τ).loc Cert.DilMergeRefIdeal.main_arg5) = m ((c.tc : Thread Cert.DilMergeRefIdeal.nD Cert.DilMergeRefIdeal.τ).loc Cert.DilMergeRefIdeal.main_arg5))
      ∧ r.2.sem = fun _ => 0)

def quiescent_DilMergeRefIdeal_pre_lse_finite [hDilMergeRefIdeal : Cert.DilMergeRefIdeal.Facts] [hPre_lse_finite : Cert.Pre_lse_finite.Facts] : Prop :=
  ∀ (m : (ℓ : Loc Cert.DilMergeRefIdeal.nD Cert.DilMergeRefIdeal.τ Cert.DilMergeRefIdeal.sig) → Buf (Elt Ideal) ℓ) (g : Dev Cert.DilMergeRefIdeal.nD → PrngReg), Pre_DilMergeRefIdeal_lse_finite m →
    θ_run (Cert.DilMergeRefIdeal.defs (F := Ideal)) (onTc (τ := Cert.DilMergeRefIdeal.τ) (Cert.DilMergeRefIdeal.main (F := Ideal))) ⟨m, fun _ => 0, g⟩ (fun r => (∀ c : Dev Cert.DilMergeRefIdeal.nD,
      r.2.mem ((c.tc : Thread Cert.DilMergeRefIdeal.nD Cert.DilMergeRefIdeal.τ).loc Cert.DilMergeRefIdeal.main_arg0) = m ((c.tc : Thread Cert.DilMergeRefIdeal.nD Cert.DilMergeRefIdeal.τ).loc Cert.DilMergeRefIdeal.main_arg0)
      ∧ r.2.mem ((c.tc : Thread Cert.DilMergeRefIdeal.nD Cert.DilMergeRefIdeal.τ).loc Cert.DilMergeRefIdeal.main_arg1) = m ((c.tc : Thread Cert.DilMergeRefIdeal.nD Cert.DilMergeRefIdeal.τ).loc Cert.DilMergeRefIdeal.main_arg1)
      ∧ r.2.mem ((c.tc : Thread Cert.DilMergeRefIdeal.nD Cert.DilMergeRefIdeal.τ).loc Cert.DilMergeRefIdeal.main_arg2) = m ((c.tc : Thread Cert.DilMergeRefIdeal.nD Cert.DilMergeRefIdeal.τ).loc Cert.DilMergeRefIdeal.main_arg2)
      ∧ r.2.mem ((c.tc : Thread Cert.DilMergeRefIdeal.nD Cert.DilMergeRefIdeal.τ).loc Cert.DilMergeRefIdeal.main_arg3) = m ((c.tc : Thread Cert.DilMergeRefIdeal.nD Cert.DilMergeRefIdeal.τ).loc Cert.DilMergeRefIdeal.main_arg3)
      ∧ r.2.mem ((c.tc : Thread Cert.DilMergeRefIdeal.nD Cert.DilMergeRefIdeal.τ).loc Cert.DilMergeRefIdeal.main_arg4) = m ((c.tc : Thread Cert.DilMergeRefIdeal.nD Cert.DilMergeRefIdeal.τ).loc Cert.DilMergeRefIdeal.main_arg4)
      ∧ r.2.mem ((c.tc : Thread Cert.DilMergeRefIdeal.nD Cert.DilMergeRefIdeal.τ).loc Cert.DilMergeRefIdeal.main_arg5) = m ((c.tc : Thread Cert.DilMergeRefIdeal.nD Cert.DilMergeRefIdeal.τ).loc Cert.DilMergeRefIdeal.main_arg5))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_SbBwd_SbBwdIdeal : Prop :=
  IdealRules.named_const.Statement Cert.SbBwdIdeal.κ "nlog2e" .f32 0xBFB8AA3B#32 ((-((Real.log 2)⁻¹) : ℝ) : EReal)

def algebraic_SbBwdIdeal_SbRefIdeal_pre_sb_finite [hSbBwdIdeal : Cert.SbBwdIdeal.Facts] [hSbRefIdeal : Cert.SbRefIdeal.Facts] [hPre_sb_finite : Cert.Pre_sb_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbBwdIdeal_sb_finite m →
    (∀ c : Dev Cert.SbBwdIdeal.nD,
      m' ((c.tc : Thread Cert.SbRefIdeal.nD Cert.SbRefIdeal.τ).loc Cert.SbRefIdeal.main_arg0) = m ((c.tc : Thread Cert.SbBwdIdeal.nD Cert.SbBwdIdeal.τ).loc Cert.SbBwdIdeal.main_arg0)
      ∧ m' ((c.tc : Thread Cert.SbRefIdeal.nD Cert.SbRefIdeal.τ).loc Cert.SbRefIdeal.main_arg1) = m ((c.tc : Thread Cert.SbBwdIdeal.nD Cert.SbBwdIdeal.τ).loc Cert.SbBwdIdeal.main_arg1)) →
    ∃ (v0 : (c : Dev Cert.SbBwdIdeal.nD) → Buf (Elt Ideal) ((c.tc : Thread Cert.SbBwdIdeal.nD Cert.SbBwdIdeal.τ).loc Cert.SbBwdIdeal.main_v33_0)) (v1 : (c : Dev Cert.SbBwdIdeal.nD) → Buf (Elt Ideal) ((c.tc : Thread Cert.SbBwdIdeal.nD Cert.SbBwdIdeal.τ).loc Cert.SbBwdIdeal.main_v33_1)) (v2 : (c : Dev Cert.SbBwdIdeal.nD) → Buf (Elt Ideal) ((c.tc : Thread Cert.SbBwdIdeal.nD Cert.SbBwdIdeal.τ).loc Cert.SbBwdIdeal.main_v33_2)),
      θ_run (Cert.SbBwdIdeal.defs (F := Ideal)) (onTc (τ := Cert.SbBwdIdeal.τ) (Cert.SbBwdIdeal.main (F := Ideal))) ⟨m, fun _ => 0, g⟩ (fun r => ∀ c : Dev Cert.SbBwdIdeal.nD,
          r.2.mem ((c.tc : Thread Cert.SbBwdIdeal.nD Cert.SbBwdIdeal.τ).loc Cert.SbBwdIdeal.main_v33_0) = v0 c
          ∧ r.2.mem ((c.tc : Thread Cert.SbBwdIdeal.nD Cert.SbBwdIdeal.τ).loc Cert.SbBwdIdeal.main_v33_1) = v1 c
          ∧ r.2.mem ((c.tc : Thread Cert.SbBwdIdeal.nD Cert.SbBwdIdeal.τ).loc Cert.SbBwdIdeal.main_v33_2) = v2 c
          ∧ r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
          ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v61) = v0 c
          ∧ r.2.mem ((c.tc : Thread Cert.SbRefIdeal.nD Cert.SbRefIdeal.τ).loc Cert.SbRefIdeal.main_v64) = v1 c
          ∧ r.2.mem ((c.tc : Thread Cert.SbRefIdeal.nD Cert.SbRefIdeal.τ).loc Cert.SbRefIdeal.main_v67) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def preserves_FfnDx_FfnDxIdeal : Prop :=
  True

def algebraic_FfnDxIdeal_FfnDxRefIdeal_pre_ffndx_finite [hFfnDxIdeal : Cert.FfnDxIdeal.Facts] [hFfnDxRefIdeal : Cert.FfnDxRefIdeal.Facts] [hPre_ffndx_finite : Cert.Pre_ffndx_finite.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal_ffndx_finite m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)
      ∧ m' ((c.tc : Thread Cert.FfnDxRefIdeal.nD Cert.FfnDxRefIdeal.τ).loc Cert.FfnDxRefIdeal.main_arg5) = m ((c.tc : Thread Cert.FfnDxIdeal.nD Cert.FfnDxIdeal.τ).loc Cert.FfnDxIdeal.main_arg5)
      ∧ m' ((c.tc : Thread Cert.FfnDxRefIdeal.nD Cert.FfnDxRefIdeal.τ).loc Cert.FfnDxRefIdeal.main_arg6) = m ((c.tc : Thread Cert.FfnDxIdeal.nD Cert.FfnDxIdeal.τ).loc Cert.FfnDxIdeal.main_arg6)) →
    ∃ (v0 : (c : Dev Cert.FfnDxIdeal.nD) → Buf (Elt Ideal) ((c.tc : Thread Cert.FfnDxIdeal.nD Cert.FfnDxIdeal.τ).loc Cert.FfnDxIdeal.main_v11_0)) (v1 : (c : Dev Cert.FfnDxIdeal.nD) → Buf (Elt Ideal) ((c.tc : Thread Cert.FfnDxIdeal.nD Cert.FfnDxIdeal.τ).loc Cert.FfnDxIdeal.main_v11_1)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v11_0) = v0 c
          ∧ r.2.mem ((c.tc : Thread Cert.FfnDxIdeal.nD Cert.FfnDxIdeal.τ).loc Cert.FfnDxIdeal.main_v11_1) = v1 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
          ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
          ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v41) = v0 c
          ∧ r.2.mem ((c.tc : Thread Cert.FfnDxRefIdeal.nD Cert.FfnDxRefIdeal.τ).loc Cert.FfnDxRefIdeal.main_v42) = v1 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4)
          ∧ r.2.mem ((c.tc : Thread Cert.FfnDxRefIdeal.nD Cert.FfnDxRefIdeal.τ).loc Cert.FfnDxRefIdeal.main_arg5) = m' ((c.tc : Thread Cert.FfnDxRefIdeal.nD Cert.FfnDxRefIdeal.τ).loc Cert.FfnDxRefIdeal.main_arg5)
          ∧ r.2.mem ((c.tc : Thread Cert.FfnDxRefIdeal.nD Cert.FfnDxRefIdeal.τ).loc Cert.FfnDxRefIdeal.main_arg6) = m' ((c.tc : Thread Cert.FfnDxRefIdeal.nD Cert.FfnDxRefIdeal.τ).loc Cert.FfnDxRefIdeal.main_arg6))

def preserves_MixDx_MixDxIdeal : Prop :=
  True

def algebraic_MixDxIdeal_MixDxRefIdeal_pre_mixdx_finite [hMixDxIdeal : Cert.MixDxIdeal.Facts] [hMixDxRefIdeal : Cert.MixDxRefIdeal.Facts] [hPre_mixdx_finite : Cert.Pre_mixdx_finite.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal_mixdx_finite m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)
      ∧ m' ((c.tc : Thread Cert.MixDxRefIdeal.nD Cert.MixDxRefIdeal.τ).loc Cert.MixDxRefIdeal.main_arg2) = m ((c.tc : Thread Cert.MixDxIdeal.nD Cert.MixDxIdeal.τ).loc Cert.MixDxIdeal.main_arg2)
      ∧ m' ((c.tc : Thread Cert.MixDxRefIdeal.nD Cert.MixDxRefIdeal.τ).loc Cert.MixDxRefIdeal.main_arg3) = m ((c.tc : Thread Cert.MixDxIdeal.nD Cert.MixDxIdeal.τ).loc Cert.MixDxIdeal.main_arg3)
      ∧ m' ((c.tc : Thread Cert.MixDxRefIdeal.nD Cert.MixDxRefIdeal.τ).loc Cert.MixDxRefIdeal.main_arg4) = m ((c.tc : Thread Cert.MixDxIdeal.nD Cert.MixDxIdeal.τ).loc Cert.MixDxIdeal.main_arg4)) →
    ∃ (v0 : (c : Dev Cert.MixDxIdeal.nD) → Buf (Elt Ideal) ((c.tc : Thread Cert.MixDxIdeal.nD Cert.MixDxIdeal.τ).loc Cert.MixDxIdeal.main_v6_0)) (v1 : (c : Dev Cert.MixDxIdeal.nD) → Buf (Elt Ideal) ((c.tc : Thread Cert.MixDxIdeal.nD Cert.MixDxIdeal.τ).loc Cert.MixDxIdeal.main_v6_1)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v6_0) = v0 c
          ∧ r.2.mem ((c.tc : Thread Cert.MixDxIdeal.nD Cert.MixDxIdeal.τ).loc Cert.MixDxIdeal.main_v6_1) = v1 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
          ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
          ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v38) = v0 c
          ∧ r.2.mem ((c.tc : Thread Cert.MixDxRefIdeal.nD Cert.MixDxRefIdeal.τ).loc Cert.MixDxRefIdeal.main_v39) = v1 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1)
          ∧ r.2.mem ((c.tc : Thread Cert.MixDxRefIdeal.nD Cert.MixDxRefIdeal.τ).loc Cert.MixDxRefIdeal.main_arg2) = m' ((c.tc : Thread Cert.MixDxRefIdeal.nD Cert.MixDxRefIdeal.τ).loc Cert.MixDxRefIdeal.main_arg2)
          ∧ r.2.mem ((c.tc : Thread Cert.MixDxRefIdeal.nD Cert.MixDxRefIdeal.τ).loc Cert.MixDxRefIdeal.main_arg3) = m' ((c.tc : Thread Cert.MixDxRefIdeal.nD Cert.MixDxRefIdeal.τ).loc Cert.MixDxRefIdeal.main_arg3)
          ∧ r.2.mem ((c.tc : Thread Cert.MixDxRefIdeal.nD Cert.MixDxRefIdeal.τ).loc Cert.MixDxRefIdeal.main_arg4) = m' ((c.tc : Thread Cert.MixDxRefIdeal.nD Cert.MixDxRefIdeal.τ).loc Cert.MixDxRefIdeal.main_arg4))

def preserves_FfnDact_FfnDactIdeal : Prop :=
  True

def algebraic_FfnDactIdeal_FfnDactRefIdeal_pre_fact_finite [hFfnDactIdeal : Cert.FfnDactIdeal.Facts] [hFfnDactRefIdeal : Cert.FfnDactRefIdeal.Facts] [hPre_fact_finite : Cert.Pre_fact_finite.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal_fact_finite m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)
      ∧ m' ((c.tc : Thread Cert.FfnDactRefIdeal.nD Cert.FfnDactRefIdeal.τ).loc Cert.FfnDactRefIdeal.main_arg2) = m ((c.tc : Thread Cert.FfnDactIdeal.nD Cert.FfnDactIdeal.τ).loc Cert.FfnDactIdeal.main_arg2)
      ∧ m' ((c.tc : Thread Cert.FfnDactRefIdeal.nD Cert.FfnDactRefIdeal.τ).loc Cert.FfnDactRefIdeal.main_arg3) = m ((c.tc : Thread Cert.FfnDactIdeal.nD Cert.FfnDactIdeal.τ).loc Cert.FfnDactIdeal.main_arg3)
      ∧ m' ((c.tc : Thread Cert.FfnDactRefIdeal.nD Cert.FfnDactRefIdeal.τ).loc Cert.FfnDactRefIdeal.main_arg4) = m ((c.tc : Thread Cert.FfnDactIdeal.nD Cert.FfnDactIdeal.τ).loc Cert.FfnDactIdeal.main_arg4)
      ∧ m' ((c.tc : Thread Cert.FfnDactRefIdeal.nD Cert.FfnDactRefIdeal.τ).loc Cert.FfnDactRefIdeal.main_arg5) = m ((c.tc : Thread Cert.FfnDactIdeal.nD Cert.FfnDactIdeal.τ).loc Cert.FfnDactIdeal.main_arg5)) →
    ∃ (v0 : (c : Dev Cert.FfnDactIdeal.nD) → Buf (Elt Ideal) ((c.tc : Thread Cert.FfnDactIdeal.nD Cert.FfnDactIdeal.τ).loc Cert.FfnDactIdeal.main_v9_2)) (v1 : (c : Dev Cert.FfnDactIdeal.nD) → Buf (Elt Ideal) ((c.tc : Thread Cert.FfnDactIdeal.nD Cert.FfnDactIdeal.τ).loc Cert.FfnDactIdeal.main_v9_3)) (v2 : (c : Dev Cert.FfnDactIdeal.nD) → Buf (Elt Ideal) ((c.tc : Thread Cert.FfnDactIdeal.nD Cert.FfnDactIdeal.τ).loc Cert.FfnDactIdeal.main_v13_0)) (v3 : (c : Dev Cert.FfnDactIdeal.nD) → Buf (Elt Ideal) ((c.tc : Thread Cert.FfnDactIdeal.nD Cert.FfnDactIdeal.τ).loc Cert.FfnDactIdeal.main_v13_1)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v9_2) = v0 c
          ∧ r.2.mem ((c.tc : Thread Cert.FfnDactIdeal.nD Cert.FfnDactIdeal.τ).loc Cert.FfnDactIdeal.main_v9_3) = v1 c
          ∧ r.2.mem ((c.tc : Thread Cert.FfnDactIdeal.nD Cert.FfnDactIdeal.τ).loc Cert.FfnDactIdeal.main_v13_0) = v2 c
          ∧ r.2.mem ((c.tc : Thread Cert.FfnDactIdeal.nD Cert.FfnDactIdeal.τ).loc Cert.FfnDactIdeal.main_v13_1) = v3 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
          ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3)
          ∧ r.2.mem ((c.tc : Thread Cert.FfnDactIdeal.nD Cert.FfnDactIdeal.τ).loc Cert.FfnDactIdeal.main_arg4) = m ((c.tc : Thread Cert.FfnDactIdeal.nD Cert.FfnDactIdeal.τ).loc Cert.FfnDactIdeal.main_arg4)
          ∧ r.2.mem ((c.tc : Thread Cert.FfnDactIdeal.nD Cert.FfnDactIdeal.τ).loc Cert.FfnDactIdeal.main_arg5) = m ((c.tc : Thread Cert.FfnDactIdeal.nD Cert.FfnDactIdeal.τ).loc Cert.FfnDactIdeal.main_arg5))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v26) = v0 c
          ∧ r.2.mem ((c.tc : Thread Cert.FfnDactRefIdeal.nD Cert.FfnDactRefIdeal.τ).loc Cert.FfnDactRefIdeal.main_v27) = v1 c
          ∧ r.2.mem ((c.tc : Thread Cert.FfnDactRefIdeal.nD Cert.FfnDactRefIdeal.τ).loc Cert.FfnDactRefIdeal.main_v28) = v2 c
          ∧ r.2.mem ((c.tc : Thread Cert.FfnDactRefIdeal.nD Cert.FfnDactRefIdeal.τ).loc Cert.FfnDactRefIdeal.main_v29) = v3 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1)
          ∧ r.2.mem ((c.tc : Thread Cert.FfnDactRefIdeal.nD Cert.FfnDactRefIdeal.τ).loc Cert.FfnDactRefIdeal.main_arg2) = m' ((c.tc : Thread Cert.FfnDactRefIdeal.nD Cert.FfnDactRefIdeal.τ).loc Cert.FfnDactRefIdeal.main_arg2)
          ∧ r.2.mem ((c.tc : Thread Cert.FfnDactRefIdeal.nD Cert.FfnDactRefIdeal.τ).loc Cert.FfnDactRefIdeal.main_arg3) = m' ((c.tc : Thread Cert.FfnDactRefIdeal.nD Cert.FfnDactRefIdeal.τ).loc Cert.FfnDactRefIdeal.main_arg3)
          ∧ r.2.mem ((c.tc : Thread Cert.FfnDactRefIdeal.nD Cert.FfnDactRefIdeal.τ).loc Cert.FfnDactRefIdeal.main_arg4) = m' ((c.tc : Thread Cert.FfnDactRefIdeal.nD Cert.FfnDactRefIdeal.τ).loc Cert.FfnDactRefIdeal.main_arg4)
          ∧ r.2.mem ((c.tc : Thread Cert.FfnDactRefIdeal.nD Cert.FfnDactRefIdeal.τ).loc Cert.FfnDactRefIdeal.main_arg5) = m' ((c.tc : Thread Cert.FfnDactRefIdeal.nD Cert.FfnDactRefIdeal.τ).loc Cert.FfnDactRefIdeal.main_arg5))

def preserves_MixDu_MixDuIdeal : Prop :=
  True

def algebraic_MixDuIdeal_MixDuRefIdeal [hMixDuIdeal : Cert.MixDuIdeal.Facts] [hMixDuRefIdeal : Cert.MixDuRefIdeal.Facts] : Prop :=
  ∀ (m : (ℓ : Loc Cert.MixDuIdeal.nD Cert.MixDuIdeal.τ Cert.MixDuIdeal.sig) → Buf (Elt Ideal) ℓ) (g : Dev Cert.MixDuIdeal.nD → PrngReg)
    (m' : (ℓ : Loc Cert.MixDuRefIdeal.nD Cert.MixDuRefIdeal.τ Cert.MixDuRefIdeal.sig) → Buf (Elt Ideal) ℓ) (g' : Dev Cert.MixDuRefIdeal.nD → PrngReg), Pre_MixDuIdeal m →
    (∀ c : Dev Cert.MixDuIdeal.nD,
      m' ((c.tc : Thread Cert.MixDuRefIdeal.nD Cert.MixDuRefIdeal.τ).loc Cert.MixDuRefIdeal.main_arg0) = m ((c.tc : Thread Cert.MixDuIdeal.nD Cert.MixDuIdeal.τ).loc Cert.MixDuIdeal.main_arg0)
      ∧ m' ((c.tc : Thread Cert.MixDuRefIdeal.nD Cert.MixDuRefIdeal.τ).loc Cert.MixDuRefIdeal.main_arg1) = m ((c.tc : Thread Cert.MixDuIdeal.nD Cert.MixDuIdeal.τ).loc Cert.MixDuIdeal.main_arg1)
      ∧ m' ((c.tc : Thread Cert.MixDuRefIdeal.nD Cert.MixDuRefIdeal.τ).loc Cert.MixDuRefIdeal.main_arg2) = m ((c.tc : Thread Cert.MixDuIdeal.nD Cert.MixDuIdeal.τ).loc Cert.MixDuIdeal.main_arg2)
      ∧ m' ((c.tc : Thread Cert.MixDuRefIdeal.nD Cert.MixDuRefIdeal.τ).loc Cert.MixDuRefIdeal.main_arg3) = m ((c.tc : Thread Cert.MixDuIdeal.nD Cert.MixDuIdeal.τ).loc Cert.MixDuIdeal.main_arg3)
      ∧ m' ((c.tc : Thread Cert.MixDuRefIdeal.nD Cert.MixDuRefIdeal.τ).loc Cert.MixDuRefIdeal.main_arg4) = m ((c.tc : Thread Cert.MixDuIdeal.nD Cert.MixDuIdeal.τ).loc Cert.MixDuIdeal.main_arg4)
      ∧ m' ((c.tc : Thread Cert.MixDuRefIdeal.nD Cert.MixDuRefIdeal.τ).loc Cert.MixDuRefIdeal.main_arg5) = m ((c.tc : Thread Cert.MixDuIdeal.nD Cert.MixDuIdeal.τ).loc Cert.MixDuIdeal.main_arg5)
      ∧ m' ((c.tc : Thread Cert.MixDuRefIdeal.nD Cert.MixDuRefIdeal.τ).loc Cert.MixDuRefIdeal.main_arg6) = m ((c.tc : Thread Cert.MixDuIdeal.nD Cert.MixDuIdeal.τ).loc Cert.MixDuIdeal.main_arg6)) →
    ∃ (v0 : (c : Dev Cert.MixDuIdeal.nD) → Buf (Elt Ideal) ((c.tc : Thread Cert.MixDuIdeal.nD Cert.MixDuIdeal.τ).loc Cert.MixDuIdeal.main_v17_0)) (v1 : (c : Dev Cert.MixDuIdeal.nD) → Buf (Elt Ideal) ((c.tc : Thread Cert.MixDuIdeal.nD Cert.MixDuIdeal.τ).loc Cert.MixDuIdeal.main_v18_0)) (v2 : (c : Dev Cert.MixDuIdeal.nD) → Buf (Elt Ideal) ((c.tc : Thread Cert.MixDuIdeal.nD Cert.MixDuIdeal.τ).loc Cert.MixDuIdeal.main_v18_1)) (v3 : (c : Dev Cert.MixDuIdeal.nD) → Buf (Elt Ideal) ((c.tc : Thread Cert.MixDuIdeal.nD Cert.MixDuIdeal.τ).loc Cert.MixDuIdeal.main_v18_2)) (v4 : (c : Dev Cert.MixDuIdeal.nD) → Buf (Elt Ideal) ((c.tc : Thread Cert.MixDuIdeal.nD Cert.MixDuIdeal.τ).loc Cert.MixDuIdeal.main_v18_3)),
      θ_run (Cert.MixDuIdeal.defs (F := Ideal)) (onTc (τ := Cert.MixDuIdeal.τ) (Cert.MixDuIdeal.main (F := Ideal))) ⟨m, fun _ => 0, g⟩ (fun r => ∀ c : Dev Cert.MixDuIdeal.nD,
          r.2.mem ((c.tc : Thread Cert.MixDuIdeal.nD Cert.MixDuIdeal.τ).loc Cert.MixDuIdeal.main_v17_0) = v0 c
          ∧ r.2.mem ((c.tc : Thread Cert.MixDuIdeal.nD Cert.MixDuIdeal.τ).loc Cert.MixDuIdeal.main_v18_0) = v1 c
          ∧ r.2.mem ((c.tc : Thread Cert.MixDuIdeal.nD Cert.MixDuIdeal.τ).loc Cert.MixDuIdeal.main_v18_1) = v2 c
          ∧ r.2.mem ((c.tc : Thread Cert.MixDuIdeal.nD Cert.MixDuIdeal.τ).loc Cert.MixDuIdeal.main_v18_2) = v3 c
          ∧ r.2.mem ((c.tc : Thread Cert.MixDuIdeal.nD Cert.MixDuIdeal.τ).loc Cert.MixDuIdeal.main_v18_3) = v4 c
          ∧ r.2.mem ((c.tc : Thread Cert.MixDuIdeal.nD Cert.MixDuIdeal.τ).loc Cert.MixDuIdeal.main_arg0) = m ((c.tc : Thread Cert.MixDuIdeal.nD Cert.MixDuIdeal.τ).loc Cert.MixDuIdeal.main_arg0)
          ∧ r.2.mem ((c.tc : Thread Cert.MixDuIdeal.nD Cert.MixDuIdeal.τ).loc Cert.MixDuIdeal.main_arg1) = m ((c.tc : Thread Cert.MixDuIdeal.nD Cert.MixDuIdeal.τ).loc Cert.MixDuIdeal.main_arg1)
          ∧ r.2.mem ((c.tc : Thread Cert.MixDuIdeal.nD Cert.MixDuIdeal.τ).loc Cert.MixDuIdeal.main_arg2) = m ((c.tc : Thread Cert.MixDuIdeal.nD Cert.MixDuIdeal.τ).loc Cert.MixDuIdeal.main_arg2)
          ∧ r.2.mem ((c.tc : Thread Cert.MixDuIdeal.nD Cert.MixDuIdeal.τ).loc Cert.MixDuIdeal.main_arg3) = m ((c.tc : Thread Cert.MixDuIdeal.nD Cert.MixDuIdeal.τ).loc Cert.MixDuIdeal.main_arg3)
          ∧ r.2.mem ((c.tc : Thread Cert.MixDuIdeal.nD Cert.MixDuIdeal.τ).loc Cert.MixDuIdeal.main_arg4) = m ((c.tc : Thread Cert.MixDuIdeal.nD Cert.MixDuIdeal.τ).loc Cert.MixDuIdeal.main_arg4)
          ∧ r.2.mem ((c.tc : Thread Cert.MixDuIdeal.nD Cert.MixDuIdeal.τ).loc Cert.MixDuIdeal.main_arg5) = m ((c.tc : Thread Cert.MixDuIdeal.nD Cert.MixDuIdeal.τ).loc Cert.MixDuIdeal.main_arg5)
          ∧ r.2.mem ((c.tc : Thread Cert.MixDuIdeal.nD Cert.MixDuIdeal.τ).loc Cert.MixDuIdeal.main_arg6) = m ((c.tc : Thread Cert.MixDuIdeal.nD Cert.MixDuIdeal.τ).loc Cert.MixDuIdeal.main_arg6))
      ∧ θ_run (Cert.MixDuRefIdeal.defs (F := Ideal)) (onTc (τ := Cert.MixDuRefIdeal.τ) (Cert.MixDuRefIdeal.main (F := Ideal))) ⟨m', fun _ => 0, g'⟩ (fun r => ∀ c : Dev Cert.MixDuRefIdeal.nD,
          r.2.mem ((c.tc : Thread Cert.MixDuRefIdeal.nD Cert.MixDuRefIdeal.τ).loc Cert.MixDuRefIdeal.main_v33) = v0 c
          ∧ r.2.mem ((c.tc : Thread Cert.MixDuRefIdeal.nD Cert.MixDuRefIdeal.τ).loc Cert.MixDuRefIdeal.main_v34) = v1 c
          ∧ r.2.mem ((c.tc : Thread Cert.MixDuRefIdeal.nD Cert.MixDuRefIdeal.τ).loc Cert.MixDuRefIdeal.main_v35) = v2 c
          ∧ r.2.mem ((c.tc : Thread Cert.MixDuRefIdeal.nD Cert.MixDuRefIdeal.τ).loc Cert.MixDuRefIdeal.main_v36) = v3 c
          ∧ r.2.mem ((c.tc : Thread Cert.MixDuRefIdeal.nD Cert.MixDuRefIdeal.τ).loc Cert.MixDuRefIdeal.main_v37) = v4 c
          ∧ r.2.mem ((c.tc : Thread Cert.MixDuRefIdeal.nD Cert.MixDuRefIdeal.τ).loc Cert.MixDuRefIdeal.main_arg0) = m' ((c.tc : Thread Cert.MixDuRefIdeal.nD Cert.MixDuRefIdeal.τ).loc Cert.MixDuRefIdeal.main_arg0)
          ∧ r.2.mem ((c.tc : Thread Cert.MixDuRefIdeal.nD Cert.MixDuRefIdeal.τ).loc Cert.MixDuRefIdeal.main_arg1) = m' ((c.tc : Thread Cert.MixDuRefIdeal.nD Cert.MixDuRefIdeal.τ).loc Cert.MixDuRefIdeal.main_arg1)
          ∧ r.2.mem ((c.tc : Thread Cert.MixDuRefIdeal.nD Cert.MixDuRefIdeal.τ).loc Cert.MixDuRefIdeal.main_arg2) = m' ((c.tc : Thread Cert.MixDuRefIdeal.nD Cert.MixDuRefIdeal.τ).loc Cert.MixDuRefIdeal.main_arg2)
          ∧ r.2.mem ((c.tc : Thread Cert.MixDuRefIdeal.nD Cert.MixDuRefIdeal.τ).loc Cert.MixDuRefIdeal.main_arg3) = m' ((c.tc : Thread Cert.MixDuRefIdeal.nD Cert.MixDuRefIdeal.τ).loc Cert.MixDuRefIdeal.main_arg3)
          ∧ r.2.mem ((c.tc : Thread Cert.MixDuRefIdeal.nD Cert.MixDuRefIdeal.τ).loc Cert.MixDuRefIdeal.main_arg4) = m' ((c.tc : Thread Cert.MixDuRefIdeal.nD Cert.MixDuRefIdeal.τ).loc Cert.MixDuRefIdeal.main_arg4)
          ∧ r.2.mem ((c.tc : Thread Cert.MixDuRefIdeal.nD Cert.MixDuRefIdeal.τ).loc Cert.MixDuRefIdeal.main_arg5) = m' ((c.tc : Thread Cert.MixDuRefIdeal.nD Cert.MixDuRefIdeal.τ).loc Cert.MixDuRefIdeal.main_arg5)
          ∧ r.2.mem ((c.tc : Thread Cert.MixDuRefIdeal.nD Cert.MixDuRefIdeal.τ).loc Cert.MixDuRefIdeal.main_arg6) = m' ((c.tc : Thread Cert.MixDuRefIdeal.nD Cert.MixDuRefIdeal.τ).loc Cert.MixDuRefIdeal.main_arg6))

def preserves_Assemble_AssembleIdeal : Prop :=
  True

def algebraic_AssembleIdeal_AssembleRefIdeal [hAssembleIdeal : Cert.AssembleIdeal.Facts] [hAssembleRefIdeal : Cert.AssembleRefIdeal.Facts] : Prop :=
  ∀ (m : (ℓ : Loc Cert.AssembleIdeal.nD Cert.AssembleIdeal.τ Cert.AssembleIdeal.sig) → Buf (Elt Ideal) ℓ) (g : Dev Cert.AssembleIdeal.nD → PrngReg)
    (m' : (ℓ : Loc Cert.AssembleRefIdeal.nD Cert.AssembleRefIdeal.τ Cert.AssembleRefIdeal.sig) → Buf (Elt Ideal) ℓ) (g' : Dev Cert.AssembleRefIdeal.nD → PrngReg), Pre_AssembleIdeal m →
    (∀ c : Dev Cert.AssembleIdeal.nD,
      m' ((c.tc : Thread Cert.AssembleRefIdeal.nD Cert.AssembleRefIdeal.τ).loc Cert.AssembleRefIdeal.main_arg0) = m ((c.tc : Thread Cert.AssembleIdeal.nD Cert.AssembleIdeal.τ).loc Cert.AssembleIdeal.main_arg0)
      ∧ m' ((c.tc : Thread Cert.AssembleRefIdeal.nD Cert.AssembleRefIdeal.τ).loc Cert.AssembleRefIdeal.main_arg1) = m ((c.tc : Thread Cert.AssembleIdeal.nD Cert.AssembleIdeal.τ).loc Cert.AssembleIdeal.main_arg1)
      ∧ m' ((c.tc : Thread Cert.AssembleRefIdeal.nD Cert.AssembleRefIdeal.τ).loc Cert.AssembleRefIdeal.main_arg2) = m ((c.tc : Thread Cert.AssembleIdeal.nD Cert.AssembleIdeal.τ).loc Cert.AssembleIdeal.main_arg2)
      ∧ m' ((c.tc : Thread Cert.AssembleRefIdeal.nD Cert.AssembleRefIdeal.τ).loc Cert.AssembleRefIdeal.main_arg3) = m ((c.tc : Thread Cert.AssembleIdeal.nD Cert.AssembleIdeal.τ).loc Cert.AssembleIdeal.main_arg3)
      ∧ m' ((c.tc : Thread Cert.AssembleRefIdeal.nD Cert.AssembleRefIdeal.τ).loc Cert.AssembleRefIdeal.main_arg4) = m ((c.tc : Thread Cert.AssembleIdeal.nD Cert.AssembleIdeal.τ).loc Cert.AssembleIdeal.main_arg4)
      ∧ m' ((c.tc : Thread Cert.AssembleRefIdeal.nD Cert.AssembleRefIdeal.τ).loc Cert.AssembleRefIdeal.main_arg5) = m ((c.tc : Thread Cert.AssembleIdeal.nD Cert.AssembleIdeal.τ).loc Cert.AssembleIdeal.main_arg5)
      ∧ m' ((c.tc : Thread Cert.AssembleRefIdeal.nD Cert.AssembleRefIdeal.τ).loc Cert.AssembleRefIdeal.main_arg6) = m ((c.tc : Thread Cert.AssembleIdeal.nD Cert.AssembleIdeal.τ).loc Cert.AssembleIdeal.main_arg6)
      ∧ m' ((c.tc : Thread Cert.AssembleRefIdeal.nD Cert.AssembleRefIdeal.τ).loc Cert.AssembleRefIdeal.main_arg7) = m ((c.tc : Thread Cert.AssembleIdeal.nD Cert.AssembleIdeal.τ).loc Cert.AssembleIdeal.main_arg7)) →
    ∃ (v0 : (c : Dev Cert.AssembleIdeal.nD) → Buf (Elt Ideal) ((c.tc : Thread Cert.AssembleIdeal.nD Cert.AssembleIdeal.τ).loc Cert.AssembleIdeal.main_v43)),
      θ_run (Cert.AssembleIdeal.defs (F := Ideal)) (onTc (τ := Cert.AssembleIdeal.τ) (Cert.AssembleIdeal.main (F := Ideal))) ⟨m, fun _ => 0, g⟩ (fun r => ∀ c : Dev Cert.AssembleIdeal.nD,
          r.2.mem ((c.tc : Thread Cert.AssembleIdeal.nD Cert.AssembleIdeal.τ).loc Cert.AssembleIdeal.main_v43) = v0 c
          ∧ r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
          ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1)
          ∧ r.2.mem ((c.tc : Thread Cert.AssembleIdeal.nD Cert.AssembleIdeal.τ).loc Cert.AssembleIdeal.main_arg2) = m ((c.tc : Thread Cert.AssembleIdeal.nD Cert.AssembleIdeal.τ).loc Cert.AssembleIdeal.main_arg2)
          ∧ r.2.mem ((c.tc : Thread Cert.AssembleIdeal.nD Cert.AssembleIdeal.τ).loc Cert.AssembleIdeal.main_arg3) = m ((c.tc : Thread Cert.AssembleIdeal.nD Cert.AssembleIdeal.τ).loc Cert.AssembleIdeal.main_arg3)
          ∧ r.2.mem ((c.tc : Thread Cert.AssembleIdeal.nD Cert.AssembleIdeal.τ).loc Cert.AssembleIdeal.main_arg4) = m ((c.tc : Thread Cert.AssembleIdeal.nD Cert.AssembleIdeal.τ).loc Cert.AssembleIdeal.main_arg4)
          ∧ r.2.mem ((c.tc : Thread Cert.AssembleIdeal.nD Cert.AssembleIdeal.τ).loc Cert.AssembleIdeal.main_arg5) = m ((c.tc : Thread Cert.AssembleIdeal.nD Cert.AssembleIdeal.τ).loc Cert.AssembleIdeal.main_arg5)
          ∧ r.2.mem ((c.tc : Thread Cert.AssembleIdeal.nD Cert.AssembleIdeal.τ).loc Cert.AssembleIdeal.main_arg6) = m ((c.tc : Thread Cert.AssembleIdeal.nD Cert.AssembleIdeal.τ).loc Cert.AssembleIdeal.main_arg6)
          ∧ r.2.mem ((c.tc : Thread Cert.AssembleIdeal.nD Cert.AssembleIdeal.τ).loc Cert.AssembleIdeal.main_arg7) = m ((c.tc : Thread Cert.AssembleIdeal.nD Cert.AssembleIdeal.τ).loc Cert.AssembleIdeal.main_arg7))
      ∧ θ_run (Cert.AssembleRefIdeal.defs (F := Ideal)) (onTc (τ := Cert.AssembleRefIdeal.τ) (Cert.AssembleRefIdeal.main (F := Ideal))) ⟨m', fun _ => 0, g'⟩ (fun r => ∀ c : Dev Cert.AssembleRefIdeal.nD,
          r.2.mem ((c.tc : Thread Cert.AssembleRefIdeal.nD Cert.AssembleRefIdeal.τ).loc Cert.AssembleRefIdeal.main_v134) = v0 c
          ∧ r.2.mem ((c.tc : Thread Cert.AssembleRefIdeal.nD Cert.AssembleRefIdeal.τ).loc Cert.AssembleRefIdeal.main_arg0) = m' ((c.tc : Thread Cert.AssembleRefIdeal.nD Cert.AssembleRefIdeal.τ).loc Cert.AssembleRefIdeal.main_arg0)
          ∧ r.2.mem ((c.tc : Thread Cert.AssembleRefIdeal.nD Cert.AssembleRefIdeal.τ).loc Cert.AssembleRefIdeal.main_arg1) = m' ((c.tc : Thread Cert.AssembleRefIdeal.nD Cert.AssembleRefIdeal.τ).loc Cert.AssembleRefIdeal.main_arg1)
          ∧ r.2.mem ((c.tc : Thread Cert.AssembleRefIdeal.nD Cert.AssembleRefIdeal.τ).loc Cert.AssembleRefIdeal.main_arg2) = m' ((c.tc : Thread Cert.AssembleRefIdeal.nD Cert.AssembleRefIdeal.τ).loc Cert.AssembleRefIdeal.main_arg2)
          ∧ r.2.mem ((c.tc : Thread Cert.AssembleRefIdeal.nD Cert.AssembleRefIdeal.τ).loc Cert.AssembleRefIdeal.main_arg3) = m' ((c.tc : Thread Cert.AssembleRefIdeal.nD Cert.AssembleRefIdeal.τ).loc Cert.AssembleRefIdeal.main_arg3)
          ∧ r.2.mem ((c.tc : Thread Cert.AssembleRefIdeal.nD Cert.AssembleRefIdeal.τ).loc Cert.AssembleRefIdeal.main_arg4) = m' ((c.tc : Thread Cert.AssembleRefIdeal.nD Cert.AssembleRefIdeal.τ).loc Cert.AssembleRefIdeal.main_arg4)
          ∧ r.2.mem ((c.tc : Thread Cert.AssembleRefIdeal.nD Cert.AssembleRefIdeal.τ).loc Cert.AssembleRefIdeal.main_arg5) = m' ((c.tc : Thread Cert.AssembleRefIdeal.nD Cert.AssembleRefIdeal.τ).loc Cert.AssembleRefIdeal.main_arg5)
          ∧ r.2.mem ((c.tc : Thread Cert.AssembleRefIdeal.nD Cert.AssembleRefIdeal.τ).loc Cert.AssembleRefIdeal.main_arg6) = m' ((c.tc : Thread Cert.AssembleRefIdeal.nD Cert.AssembleRefIdeal.τ).loc Cert.AssembleRefIdeal.main_arg6)
          ∧ r.2.mem ((c.tc : Thread Cert.AssembleRefIdeal.nD Cert.AssembleRefIdeal.τ).loc Cert.AssembleRefIdeal.main_arg7) = m' ((c.tc : Thread Cert.AssembleRefIdeal.nD Cert.AssembleRefIdeal.τ).loc Cert.AssembleRefIdeal.main_arg7))

def preserves_DilMerge_DilMergeIdeal : Prop :=
  True

def algebraic_DilMergeIdeal_DilMergeRefIdeal_pre_lse_finite [hDilMergeIdeal : Cert.DilMergeIdeal.Facts] [hDilMergeRefIdeal : Cert.DilMergeRefIdeal.Facts] [hPre_lse_finite : Cert.Pre_lse_finite.Facts] : Prop :=
  ∀ (m : (ℓ : Loc Cert.DilMergeIdeal.nD Cert.DilMergeIdeal.τ Cert.DilMergeIdeal.sig) → Buf (Elt Ideal) ℓ) (g : Dev Cert.DilMergeIdeal.nD → PrngReg)
    (m' : (ℓ : Loc Cert.DilMergeRefIdeal.nD Cert.DilMergeRefIdeal.τ Cert.DilMergeRefIdeal.sig) → Buf (Elt Ideal) ℓ) (g' : Dev Cert.DilMergeRefIdeal.nD → PrngReg), Pre_DilMergeIdeal_lse_finite m →
    (∀ c : Dev Cert.DilMergeIdeal.nD,
      m' ((c.tc : Thread Cert.DilMergeRefIdeal.nD Cert.DilMergeRefIdeal.τ).loc Cert.DilMergeRefIdeal.main_arg0) = m ((c.tc : Thread Cert.DilMergeIdeal.nD Cert.DilMergeIdeal.τ).loc Cert.DilMergeIdeal.main_arg0)
      ∧ m' ((c.tc : Thread Cert.DilMergeRefIdeal.nD Cert.DilMergeRefIdeal.τ).loc Cert.DilMergeRefIdeal.main_arg1) = m ((c.tc : Thread Cert.DilMergeIdeal.nD Cert.DilMergeIdeal.τ).loc Cert.DilMergeIdeal.main_arg1)
      ∧ m' ((c.tc : Thread Cert.DilMergeRefIdeal.nD Cert.DilMergeRefIdeal.τ).loc Cert.DilMergeRefIdeal.main_arg2) = m ((c.tc : Thread Cert.DilMergeIdeal.nD Cert.DilMergeIdeal.τ).loc Cert.DilMergeIdeal.main_arg2)
      ∧ m' ((c.tc : Thread Cert.DilMergeRefIdeal.nD Cert.DilMergeRefIdeal.τ).loc Cert.DilMergeRefIdeal.main_arg3) = m ((c.tc : Thread Cert.DilMergeIdeal.nD Cert.DilMergeIdeal.τ).loc Cert.DilMergeIdeal.main_arg3)
      ∧ m' ((c.tc : Thread Cert.DilMergeRefIdeal.nD Cert.DilMergeRefIdeal.τ).loc Cert.DilMergeRefIdeal.main_arg4) = m ((c.tc : Thread Cert.DilMergeIdeal.nD Cert.DilMergeIdeal.τ).loc Cert.DilMergeIdeal.main_arg4)
      ∧ m' ((c.tc : Thread Cert.DilMergeRefIdeal.nD Cert.DilMergeRefIdeal.τ).loc Cert.DilMergeRefIdeal.main_arg5) = m ((c.tc : Thread Cert.DilMergeIdeal.nD Cert.DilMergeIdeal.τ).loc Cert.DilMergeIdeal.main_arg5)) →
    ∃ (v0 : (c : Dev Cert.DilMergeIdeal.nD) → Buf (Elt Ideal) ((c.tc : Thread Cert.DilMergeIdeal.nD Cert.DilMergeIdeal.τ).loc Cert.DilMergeIdeal.main_v24_0)) (v1 : (c : Dev Cert.DilMergeIdeal.nD) → Buf (Elt Ideal) ((c.tc : Thread Cert.DilMergeIdeal.nD Cert.DilMergeIdeal.τ).loc Cert.DilMergeIdeal.main_v24_1)),
      θ_run (Cert.DilMergeIdeal.defs (F := Ideal)) (onTc (τ := Cert.DilMergeIdeal.τ) (Cert.DilMergeIdeal.main (F := Ideal))) ⟨m, fun _ => 0, g⟩ (fun r => ∀ c : Dev Cert.DilMergeIdeal.nD,
          r.2.mem ((c.tc : Thread Cert.DilMergeIdeal.nD Cert.DilMergeIdeal.τ).loc Cert.DilMergeIdeal.main_v24_0) = v0 c
          ∧ r.2.mem ((c.tc : Thread Cert.DilMergeIdeal.nD Cert.DilMergeIdeal.τ).loc Cert.DilMergeIdeal.main_v24_1) = v1 c
          ∧ r.2.mem ((c.tc : Thread Cert.DilMergeIdeal.nD Cert.DilMergeIdeal.τ).loc Cert.DilMergeIdeal.main_arg0) = m ((c.tc : Thread Cert.DilMergeIdeal.nD Cert.DilMergeIdeal.τ).loc Cert.DilMergeIdeal.main_arg0)
          ∧ r.2.mem ((c.tc : Thread Cert.DilMergeIdeal.nD Cert.DilMergeIdeal.τ).loc Cert.DilMergeIdeal.main_arg1) = m ((c.tc : Thread Cert.DilMergeIdeal.nD Cert.DilMergeIdeal.τ).loc Cert.DilMergeIdeal.main_arg1)
          ∧ r.2.mem ((c.tc : Thread Cert.DilMergeIdeal.nD Cert.DilMergeIdeal.τ).loc Cert.DilMergeIdeal.main_arg2) = m ((c.tc : Thread Cert.DilMergeIdeal.nD Cert.DilMergeIdeal.τ).loc Cert.DilMergeIdeal.main_arg2)
          ∧ r.2.mem ((c.tc : Thread Cert.DilMergeIdeal.nD Cert.DilMergeIdeal.τ).loc Cert.DilMergeIdeal.main_arg3) = m ((c.tc : Thread Cert.DilMergeIdeal.nD Cert.DilMergeIdeal.τ).loc Cert.DilMergeIdeal.main_arg3)
          ∧ r.2.mem ((c.tc : Thread Cert.DilMergeIdeal.nD Cert.DilMergeIdeal.τ).loc Cert.DilMergeIdeal.main_arg4) = m ((c.tc : Thread Cert.DilMergeIdeal.nD Cert.DilMergeIdeal.τ).loc Cert.DilMergeIdeal.main_arg4)
          ∧ r.2.mem ((c.tc : Thread Cert.DilMergeIdeal.nD Cert.DilMergeIdeal.τ).loc Cert.DilMergeIdeal.main_arg5) = m ((c.tc : Thread Cert.DilMergeIdeal.nD Cert.DilMergeIdeal.τ).loc Cert.DilMergeIdeal.main_arg5))
      ∧ θ_run (Cert.DilMergeRefIdeal.defs (F := Ideal)) (onTc (τ := Cert.DilMergeRefIdeal.τ) (Cert.DilMergeRefIdeal.main (F := Ideal))) ⟨m', fun _ => 0, g'⟩ (fun r => ∀ c : Dev Cert.DilMergeRefIdeal.nD,
          r.2.mem ((c.tc : Thread Cert.DilMergeRefIdeal.nD Cert.DilMergeRefIdeal.τ).loc Cert.DilMergeRefIdeal.main_v43) = v0 c
          ∧ r.2.mem ((c.tc : Thread Cert.DilMergeRefIdeal.nD Cert.DilMergeRefIdeal.τ).loc Cert.DilMergeRefIdeal.main_v46) = v1 c
          ∧ r.2.mem ((c.tc : Thread Cert.DilMergeRefIdeal.nD Cert.DilMergeRefIdeal.τ).loc Cert.DilMergeRefIdeal.main_arg0) = m' ((c.tc : Thread Cert.DilMergeRefIdeal.nD Cert.DilMergeRefIdeal.τ).loc Cert.DilMergeRefIdeal.main_arg0)
          ∧ r.2.mem ((c.tc : Thread Cert.DilMergeRefIdeal.nD Cert.DilMergeRefIdeal.τ).loc Cert.DilMergeRefIdeal.main_arg1) = m' ((c.tc : Thread Cert.DilMergeRefIdeal.nD Cert.DilMergeRefIdeal.τ).loc Cert.DilMergeRefIdeal.main_arg1)
          ∧ r.2.mem ((c.tc : Thread Cert.DilMergeRefIdeal.nD Cert.DilMergeRefIdeal.τ).loc Cert.DilMergeRefIdeal.main_arg2) = m' ((c.tc : Thread Cert.DilMergeRefIdeal.nD Cert.DilMergeRefIdeal.τ).loc Cert.DilMergeRefIdeal.main_arg2)
          ∧ r.2.mem ((c.tc : Thread Cert.DilMergeRefIdeal.nD Cert.DilMergeRefIdeal.τ).loc Cert.DilMergeRefIdeal.main_arg3) = m' ((c.tc : Thread Cert.DilMergeRefIdeal.nD Cert.DilMergeRefIdeal.τ).loc Cert.DilMergeRefIdeal.main_arg3)
          ∧ r.2.mem ((c.tc : Thread Cert.DilMergeRefIdeal.nD Cert.DilMergeRefIdeal.τ).loc Cert.DilMergeRefIdeal.main_arg4) = m' ((c.tc : Thread Cert.DilMergeRefIdeal.nD Cert.DilMergeRefIdeal.τ).loc Cert.DilMergeRefIdeal.main_arg4)
          ∧ r.2.mem ((c.tc : Thread Cert.DilMergeRefIdeal.nD Cert.DilMergeRefIdeal.τ).loc Cert.DilMergeRefIdeal.main_arg5) = m' ((c.tc : Thread Cert.DilMergeRefIdeal.nD Cert.DilMergeRefIdeal.τ).loc Cert.DilMergeRefIdeal.main_arg5))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v37_0)) (v1 : (c : Dev Cert.MixInIdeal.nD) → Buf (Elt Ideal) ((c.tc : Thread Cert.MixInIdeal.nD Cert.MixInIdeal.τ).loc Cert.MixInIdeal.main_v37_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v37_0) = v0 c
          ∧ r.2.mem ((c.tc : Thread Cert.MixInIdeal.nD Cert.MixInIdeal.τ).loc Cert.MixInIdeal.main_v37_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v84) = v0 c
          ∧ r.2.mem ((c.tc : Thread Cert.MixInRefIdeal.nD Cert.MixInRefIdeal.τ).loc Cert.MixInRefIdeal.main_v85) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def Claim : Prop :=
  ∃ (hLoss : Cert.Loss.Facts) (hLossIdeal : Cert.LossIdeal.Facts) (hLossRefIdeal : Cert.LossRefIdeal.Facts) (hSbBwd : Cert.SbBwd.Facts) (hSbBwdIdeal : Cert.SbBwdIdeal.Facts) (hSbRefIdeal : Cert.SbRefIdeal.Facts) (hFfnDx : Cert.FfnDx.Facts) (hFfnDxIdeal : Cert.FfnDxIdeal.Facts) (hFfnDxRefIdeal : Cert.FfnDxRefIdeal.Facts) (hMixDx : Cert.MixDx.Facts) (hMixDxIdeal : Cert.MixDxIdeal.Facts) (hMixDxRefIdeal : Cert.MixDxRefIdeal.Facts) (hFfnDact : Cert.FfnDact.Facts) (hFfnDactIdeal : Cert.FfnDactIdeal.Facts) (hFfnDactRefIdeal : Cert.FfnDactRefIdeal.Facts) (hMixDu : Cert.MixDu.Facts) (hMixDuIdeal : Cert.MixDuIdeal.Facts) (hMixDuRefIdeal : Cert.MixDuRefIdeal.Facts) (hAssemble : Cert.Assemble.Facts) (hAssembleIdeal : Cert.AssembleIdeal.Facts) (hAssembleRefIdeal : Cert.AssembleRefIdeal.Facts) (hDilMerge : Cert.DilMerge.Facts) (hDilMergeIdeal : Cert.DilMergeIdeal.Facts) (hDilMergeRefIdeal : Cert.DilMergeRefIdeal.Facts) (hMixIn : Cert.MixIn.Facts) (hMixInIdeal : Cert.MixInIdeal.Facts) (hMixInRefIdeal : Cert.MixInRefIdeal.Facts) (hPre_loss_finite : Cert.Pre_loss_finite.Facts) (hPre_sb_finite : Cert.Pre_sb_finite.Facts) (hPre_ffndx_finite : Cert.Pre_ffndx_finite.Facts) (hPre_mixdx_finite : Cert.Pre_mixdx_finite.Facts) (hPre_fact_finite : Cert.Pre_fact_finite.Facts) (hPre_lse_finite : Cert.Pre_lse_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_SbBwd (hSbBwd := hSbBwd)
    ∧ quiescent_SbBwdIdeal (hSbBwdIdeal := hSbBwdIdeal)
    ∧ quiescent_SbBwdIdeal_pre_sb_finite (hSbBwdIdeal := hSbBwdIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_FfnDx (hFfnDx := hFfnDx)
    ∧ quiescent_FfnDxIdeal (hFfnDxIdeal := hFfnDxIdeal)
    ∧ quiescent_FfnDxIdeal_pre_ffndx_finite (hFfnDxIdeal := hFfnDxIdeal) (hPre_ffndx_finite := hPre_ffndx_finite)
    ∧ quiescent_FfnDxRefIdeal (hFfnDxRefIdeal := hFfnDxRefIdeal)
    ∧ quiescent_FfnDxRefIdeal_pre_ffndx_finite (hFfnDxRefIdeal := hFfnDxRefIdeal) (hPre_ffndx_finite := hPre_ffndx_finite)
    ∧ quiescent_MixDx (hMixDx := hMixDx)
    ∧ quiescent_MixDxIdeal (hMixDxIdeal := hMixDxIdeal)
    ∧ quiescent_MixDxIdeal_pre_mixdx_finite (hMixDxIdeal := hMixDxIdeal) (hPre_mixdx_finite := hPre_mixdx_finite)
    ∧ quiescent_MixDxRefIdeal (hMixDxRefIdeal := hMixDxRefIdeal)
    ∧ quiescent_MixDxRefIdeal_pre_mixdx_finite (hMixDxRefIdeal := hMixDxRefIdeal) (hPre_mixdx_finite := hPre_mixdx_finite)
    ∧ quiescent_FfnDact (hFfnDact := hFfnDact)
    ∧ quiescent_FfnDactIdeal (hFfnDactIdeal := hFfnDactIdeal)
    ∧ quiescent_FfnDactIdeal_pre_fact_finite (hFfnDactIdeal := hFfnDactIdeal) (hPre_fact_finite := hPre_fact_finite)
    ∧ quiescent_FfnDactRefIdeal (hFfnDactRefIdeal := hFfnDactRefIdeal)
    ∧ quiescent_FfnDactRefIdeal_pre_fact_finite (hFfnDactRefIdeal := hFfnDactRefIdeal) (hPre_fact_finite := hPre_fact_finite)
    ∧ quiescent_MixDu (hMixDu := hMixDu)
    ∧ quiescent_MixDuIdeal (hMixDuIdeal := hMixDuIdeal)
    ∧ quiescent_MixDuRefIdeal (hMixDuRefIdeal := hMixDuRefIdeal)
    ∧ quiescent_Assemble (hAssemble := hAssemble)
    ∧ quiescent_AssembleIdeal (hAssembleIdeal := hAssembleIdeal)
    ∧ quiescent_AssembleRefIdeal (hAssembleRefIdeal := hAssembleRefIdeal)
    ∧ quiescent_DilMerge (hDilMerge := hDilMerge)
    ∧ quiescent_DilMergeIdeal (hDilMergeIdeal := hDilMergeIdeal)
    ∧ quiescent_DilMergeIdeal_pre_lse_finite (hDilMergeIdeal := hDilMergeIdeal) (hPre_lse_finite := hPre_lse_finite)
    ∧ quiescent_DilMergeRefIdeal (hDilMergeRefIdeal := hDilMergeRefIdeal)
    ∧ quiescent_DilMergeRefIdeal_pre_lse_finite (hDilMergeRefIdeal := hDilMergeRefIdeal) (hPre_lse_finite := hPre_lse_finite)
    ∧ quiescent_MixIn (hMixIn := hMixIn)
    ∧ quiescent_MixInIdeal (hMixInIdeal := hMixInIdeal)
    ∧ quiescent_MixInRefIdeal (hMixInRefIdeal := hMixInRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_SbBwd_SbBwdIdeal
    ∧ algebraic_SbBwdIdeal_SbRefIdeal_pre_sb_finite (hSbBwdIdeal := hSbBwdIdeal) (hSbRefIdeal := hSbRefIdeal) (hPre_sb_finite := hPre_sb_finite)
    ∧ preserves_FfnDx_FfnDxIdeal
    ∧ algebraic_FfnDxIdeal_FfnDxRefIdeal_pre_ffndx_finite (hFfnDxIdeal := hFfnDxIdeal) (hFfnDxRefIdeal := hFfnDxRefIdeal) (hPre_ffndx_finite := hPre_ffndx_finite)
    ∧ preserves_MixDx_MixDxIdeal
    ∧ algebraic_MixDxIdeal_MixDxRefIdeal_pre_mixdx_finite (hMixDxIdeal := hMixDxIdeal) (hMixDxRefIdeal := hMixDxRefIdeal) (hPre_mixdx_finite := hPre_mixdx_finite)
    ∧ preserves_FfnDact_FfnDactIdeal
    ∧ algebraic_FfnDactIdeal_FfnDactRefIdeal_pre_fact_finite (hFfnDactIdeal := hFfnDactIdeal) (hFfnDactRefIdeal := hFfnDactRefIdeal) (hPre_fact_finite := hPre_fact_finite)
    ∧ preserves_MixDu_MixDuIdeal
    ∧ algebraic_MixDuIdeal_MixDuRefIdeal (hMixDuIdeal := hMixDuIdeal) (hMixDuRefIdeal := hMixDuRefIdeal)
    ∧ preserves_Assemble_AssembleIdeal
    ∧ algebraic_AssembleIdeal_AssembleRefIdeal (hAssembleIdeal := hAssembleIdeal) (hAssembleRefIdeal := hAssembleRefIdeal)
    ∧ preserves_DilMerge_DilMergeIdeal
    ∧ algebraic_DilMergeIdeal_DilMergeRefIdeal_pre_lse_finite (hDilMergeIdeal := hDilMergeIdeal) (hDilMergeRefIdeal := hDilMergeRefIdeal) (hPre_lse_finite := hPre_lse_finite)
    ∧ preserves_MixIn_MixInIdeal
    ∧ algebraic_MixInIdeal_MixInRefIdeal (hMixInIdeal := hMixInIdeal) (hMixInRefIdeal := hMixInRefIdeal)
-- ==== Pre_fact_finite.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S1024 1 × IVec S1024x2816 1 × IVec S2816x1024 1 × IVec S4096x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg4
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg5
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_ffndx_finite.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S1024 .f32) (main_arg2 : FVec F S1024x2816 .f32) (main_arg3 : FVec F S1024x2816 .f32) (main_arg4 : FVec F S4096x2816 .f32) (main_arg5 : FVec F S4096x2816 .f32) (main_arg6 : FVec F S4096x1024 .f32) : IVec S4096x1024 1 × IVec S1024 1 × IVec S1024x2816 1 × IVec S1024x2816 1 × IVec S4096x2816 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S4096x2816 .f32 := Host.absf main_arg4
  let main_cst_3 : FVec F S_ .f32 := constant S_ .f32 0x7F800000#32
  let main_v13 : FVec F S4096x2816 .f32 := broadcastInDim S4096x2816 ![] bcast_S_S4096x2816 main_cst_3
  let main_v14 : IVec S4096x2816 1 := cmpf .olt main_v12 main_v13
  let main_v15 : FVec F S4096x2816 .f32 := Host.absf main_arg5
  let main_cst_4 : FVec F S_ .f32 := constant S_ .f32 0x7F800000#32
  let main_v16 : FVec F S4096x2816 .f32 := broadcastInDim S4096x2816 ![] bcast_S_S4096x2816 main_cst_4
  let main_v17 : IVec S4096x2816 1 := cmpf .olt main_v15 main_v16
  (main_v2, main_v5, main_v8, main_v11, main_v14, main_v17)
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_lse_finite.lean ====
abbrev S1x4x4096x64 : Shape := ⟨4, ![1, 4, 4096, 64]⟩
abbrev S1x4x4096 : Shape := ⟨3, ![1, 4, 4096]⟩
abbrev S_ : Shape := ⟨0, ![]⟩

class Facts : Prop where
  bcast_S_S1x4x4096 : S_.BroadcastsInDim S1x4x4096 (![] : Fin 0 → Fin S1x4x4096.rank)

variable [Facts]

def fn {F : FTy → Type} [FloatOps F] (main_arg0 : FVec F S1x4x4096x64 .f32) (main_arg1 : FVec F S1x4x4096x64 .f32) (main_arg2 : FVec F S1x4x4096x64 .f32) (main_arg3 : FVec F S1x4x4096 .f32) (main_arg4 : FVec F S1x4x4096 .f32) (main_arg5 : FVec F S1x4x4096 .f32) : IVec S1x4x4096 1 × IVec S1x4x4096 1 × IVec S1x4x4096 1 :=
  let main_v0 : FVec F S1x4x4096 .f32 := Host.absf main_arg3
  let main_cst : FVec F S_ .f32 := constant S_ .f32 0x7F800000#32
  let main_v1 : FVec F S1x4x4096 .f32 := broadcastInDim S1x4x4096 ![] bcast_S_S1x4x4096 main_cst
  let main_v2 : IVec S1x4x4096 1 := cmpf .olt main_v0 main_v1
  let main_v3 : FVec F S1x4x4096 .f32 := Host.absf main_arg4
  let main_cst_0 : FVec F S_ .f32 := constant S_ .f32 0x7F800000#32
  let main_v4 : FVec F S1x4x4096 .f32 := broadcastInDim S1x4x4096 ![] bcast_S_S1x4x4096 main_cst_0
  let main_v5 : IVec S1x4x4096 1 := cmpf .olt main_v3 main_v4
  let main_v6 : FVec F S1x4x4096 .f32 := Host.absf main_arg5
  let main_cst_1 : FVec F S_ .f32 := constant S_ .f32 0x7F800000#32
  let main_v7 : FVec F S1x4x4096 .f32 := broadcastInDim S1x4x4096 ![] bcast_S_S1x4x4096 main_cst_1
  let main_v8 : IVec S1x4x4096 1 := cmpf .olt main_v6 main_v7
  (main_v2, main_v5, main_v8)
-- ==== Pre_mixdx_finite.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5120 : S_.BroadcastsInDim S1024x5120 (![] : Fin 0 → Fin S1024x5120.rank)
  bcast_S_S4096x5120 : S_.BroadcastsInDim S4096x5120 (![] : Fin 0 → Fin S4096x5120.rank)

variable [Facts]

def fn {F : FTy → Type} [FloatOps F] (main_arg0 : FVec F S4096x1024 .f32) (main_arg1 : FVec F S1024 .f32) (main_arg2 : FVec F S1024x5120 .f32) (main_arg3 : FVec F S4096x5120 .f32) (main_arg4 : FVec F S4096x1024 .f32) : IVec S4096x1024 1 × IVec S1024 1 × IVec S1024x5120 1 × IVec S4096x5120 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5120 .f32 := Host.absf main_arg2
  let main_cst_1 : FVec F S_ .f32 := constant S_ .f32 0x7F800000#32
  let main_v7 : FVec F S1024x5120 .f32 := broadcastInDim S1024x5120 ![] bcast_S_S1024x5120 main_cst_1
  let main_v8 : IVec S1024x5120 1 := cmpf .olt main_v6 main_v7
  let main_v9 : FVec F S4096x5120 .f32 := Host.absf main_arg3
  let main_cst_2 : FVec F S_ .f32 := constant S_ .f32 0x7F800000#32
  let main_v10 : FVec F S4096x5120 .f32 := broadcastInDim S4096x5120 ![] bcast_S_S4096x5120 main_cst_2
  let main_v11 : IVec S4096x5120 1 := cmpf .olt main_v9 main_v10
  (main_v2, main_v5, main_v8, main_v11)
-- ==== Pre_sb_finite.lean ====
abbrev S1x4096x5120 : Shape := ⟨3, ![1, 4096, 5120]⟩
abbrev S1x4096x256 : Shape := ⟨3, ![1, 4096, 256]⟩
abbrev S1x4096x768 : Shape := ⟨3, ![1, 4096, 768]⟩
abbrev S4096x768 : Shape := ⟨2, ![4096, 768]⟩
abbrev S_ : Shape := ⟨0, ![]⟩

class Facts : Prop where
  slices_S1x4096x5120_S1x4096x768_0_0_2304 : S1x4096x5120.Slices ![0, 0, 2304] S1x4096x768
  shapeCasts_S1x4096x768_S4096x768 : S1x4096x768.ShapeCasts S4096x768
  bcast_S_S4096x768 : S_.BroadcastsInDim S4096x768 (![] : Fin 0 → Fin S4096x768.rank)
  bcast_S_S1x4096x256 : S_.BroadcastsInDim S1x4096x256 (![] : Fin 0 → Fin S1x4096x256.rank)

variable [Facts]

def fn {F : FTy → Type} [FloatOps F] (main_arg0 : FVec F S1x4096x5120 .f32) (main_arg1 : FVec F S1x4096x256 .f32) : IVec S4096x768 1 × IVec S1x4096x256 1 :=
  let main_v0 : FVec F S1x4096x768 .f32 := (extractStridedSlice S1x4096x768 ![0, 0, 2304] · slices_S1x4096x5120_S1x4096x768_0_0_2304) main_arg0
  let main_v1 : FVec F S4096x768 .f32 := shapeCast S4096x768 main_v0 shapeCasts_S1x4096x768_S4096x768
  let main_v2 : FVec F S4096x768 .f32 := Host.absf main_v1
  let main_cst : FVec F S_ .f32 := constant S_ .f32 0x7F800000#32
  let main_v3 : FVec F S4096x768 .f32 := broadcastInDim S4096x768 ![] bcast_S_S4096x768 main_cst
  let main_v4 : IVec S4096x768 1 := cmpf .olt main_v2 main_v3
  let main_v5 : FVec F S1x4096x256 .f32 := Host.absf main_arg1
  let main_cst_0 : FVec F S_ .f32 := constant S_ .f32 0x7F800000#32
  let main_v6 : FVec F S1x4096x256 .f32 := broadcastInDim S1x4096x256 ![] bcast_S_S1x4096x256 main_cst_0
  let main_v7 : IVec S1x4096x256 1 := cmpf .olt main_v5 main_v6
  (main_v4, main_v7)
-- ==== Loss.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_17 : BitVec 32 := 0#32
  let v50 : BitVec 1 := Scalar.cmpi .ne v49 c0_i32_17
  v50

def k0_cond2 (i : grid0.Coords) : BitVec 1 :=
  let arg0 : BitVec 32 := BitVec.ofNat 32 (i 0).val
  let c0_i32_18 : BitVec 32 := 0#32
  let v51 : BitVec 1 := Scalar.cmpi .sgt arg0 c0_i32_18
  let v52 : BitVec 32 := Scalar.extui v51
  let c0_i32_19 : BitVec 32 := 0#32
  let v53 : BitVec 1 := Scalar.cmpi .ne v52 c0_i32_19
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x1024, .f32⟩
  | .hbm, ⟨72, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== SbBwd.lean ====
abbrev S1x4096x5120 : Shape := ⟨3, ![1, 4096, 5120]⟩
abbrev S1x4096x256 : Shape := ⟨3, ![1, 4096, 256]⟩
abbrev S1x4096x768 : Shape := ⟨3, ![1, 4096, 768]⟩
abbrev S1x4096x3x4x64 : Shape := ⟨5, ![1, 4096, 3, 4, 64]⟩
abbrev S3x1x4x4096x64 : Shape := ⟨5, ![3, 1, 4, 4096, 64]⟩
abbrev S1x1x4x4096x64 : Shape := ⟨5, ![1, 1, 4, 4096, 64]⟩
abbrev S1x4x4096x64 : Shape := ⟨4, ![1, 4, 4096, 64]⟩
abbrev S4096 : Shape := ⟨1, ![4096]⟩
abbrev S1x4x4096x4096 : Shape := ⟨4, ![1, 4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x4096x4x64 : Shape := ⟨4, ![1, 4096, 4, 64]⟩
abbrev S4096x5120 : Shape := ⟨2, ![4096, 5120]⟩
abbrev S4096x256 : Shape := ⟨2, ![4096, 256]⟩
abbrev S256x4096 : Shape := ⟨2, ![256, 4096]⟩
abbrev S128x256 : Shape := ⟨2, ![128, 256]⟩
abbrev S2x1x512x512 : Shape := ⟨4, ![2, 1, 512, 512]⟩
abbrev S128x128 : Shape := ⟨2, ![128, 128]⟩
abbrev S512x256 : Shape := ⟨2, ![512, 256]⟩
abbrev S256x512 : Shape := ⟨2, ![256, 512]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S1x1x512x512 : Shape := ⟨4, ![1, 1, 512, 512]⟩
abbrev S1024x128 : Shape := ⟨2, ![1024, 128]⟩
abbrev S512x384 : Shape := ⟨2, ![512, 384]⟩
abbrev S4096x128 : Shape := ⟨2, ![4096, 128]⟩
abbrev S256x256 : Shape := ⟨2, ![256, 256]⟩
abbrev S2048x128 : Shape := ⟨2, ![2048, 128]⟩
abbrev S384x256 : Shape := ⟨2, ![384, 256]⟩
abbrev S3072x128 : Shape := ⟨2, ![3072, 128]⟩

abbrev nBuf : Space → Nat
  | .hbm => 79
  | .vmem => 16
  | .smem => 0
  | _ => 0

abbrev bufTy : (tb : Table) → Fin (tcTables nBuf tb) → BufTy
  | .hbm, ⟨0, _⟩ => ⟨S1x4096x5120, .f32⟩
  | .hbm, ⟨1, _⟩ => ⟨S1x4096x256, .f32⟩
  | .hbm, ⟨2, _⟩ => ⟨S1x4096x768, .f32⟩
  | .hbm, ⟨3, _⟩ => ⟨S1x4096x3x4x64, .f32⟩
  | .hbm, ⟨4, _⟩ => ⟨S3x1x4x4096x64, .f32⟩
  | .hbm, ⟨5, _⟩ => ⟨S1x1x4x4096x64, .f32⟩
  | .hbm, ⟨6, _⟩ => ⟨S1x4x4096x64, .f32⟩
  | .hbm, ⟨7, _⟩ => ⟨S1x1x4x4096x64, .f32⟩
  | .hbm, ⟨8, _⟩ => ⟨S1x4x4096x64, .f32⟩
  | .hbm, ⟨9, _⟩ => ⟨S1x1x4x4096x64, .f32⟩
  | .hbm, ⟨10, _⟩ => ⟨S1x4x4096x64, .f32⟩
  | .hbm, ⟨11, _⟩ => ⟨S4096, .i32⟩
  | .hbm, ⟨12, _⟩ => ⟨S1x4x4096x4096, .f32⟩
  | .hbm, ⟨13, _⟩ => ⟨S_, .f32⟩
  | .hbm, ⟨14, _⟩ => ⟨S1x4x4096x4096, .f32⟩
  | .hbm, ⟨15, _⟩ => ⟨S1x4x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x4x4096x4096, .f32⟩
  | .hbm, ⟨22, _⟩ => ⟨S_, .f32⟩
  | .hbm, ⟨23, _⟩ => ⟨S1x4x4096x4096, .f32⟩
  | .hbm, ⟨24, _⟩ => ⟨S1x4x4096x4096, .f32⟩
  | .hbm, ⟨25, _⟩ => ⟨S1x4x4096x4096, .f32⟩
  | .hbm, ⟨26, _⟩ => ⟨S1x4x4096x4096, .f32⟩
  | .hbm, ⟨27, _⟩ => ⟨S1x4x4096x4096, .i1⟩
  | .hbm, ⟨28, _⟩ => ⟨S1x4x4096x4096, .f32⟩
  | .hbm, ⟨29, _⟩ => ⟨S1x4x4096x4096, .f32⟩
  | .hbm, ⟨30, _⟩ => ⟨S1x4x4096x4096, .f32⟩
  | .hbm, ⟨31, _⟩ => ⟨S1x4x4096x4096, .f32⟩
  | .hbm, ⟨32, _⟩ => ⟨S1x4x4096x4096, .f32⟩
  | .hbm, ⟨33, _⟩ => ⟨S1x4x4096x4096, .f32⟩
  | .hbm, ⟨34, _⟩ => ⟨S1x4x4096x4096, .f32⟩
  | .hbm, ⟨35, _⟩ => ⟨S1x4x4096x4096, .f32⟩
  | .hbm, ⟨36, _⟩ => ⟨S1x4x4096x4096, .f32⟩
  | .hbm, ⟨37, _⟩ => ⟨S1x4x4096x4096, .f32⟩
  | .hbm, ⟨38, _⟩ => ⟨S1x4x4096x4096, .f32⟩
  | .hbm, ⟨39, _⟩ => ⟨S_, .f32⟩
  | .hbm, ⟨40, _⟩ => ⟨S1x4x4096x4096, .f32⟩
  | .hbm, ⟨41, _⟩ => ⟨S1x4x4096x4096, .f32⟩
  | .hbm, ⟨42, _⟩ => ⟨S1x4x4096x4096, .f32⟩
  | .hbm, ⟨43, _⟩ => ⟨S1x4x4096x4096, .f32⟩
  | .hbm, ⟨44, _⟩ => ⟨S1x4x4096x4096, .i1⟩
  | .hbm, ⟨45, _⟩ => ⟨S1x4x4096x4096, .f32⟩
  | .hbm, ⟨46, _⟩ => ⟨S1x4x4096x4096, .f32⟩
  | .hbm, ⟨47, _⟩ => ⟨S1x4x4096x4096, .f32⟩
  | .hbm, ⟨48, _⟩ => ⟨S1x4x4096x4096, .f32⟩
  | .hbm, ⟨49, _⟩ => ⟨S1x4x4096x4096, .f32⟩
  | .hbm, ⟨50, _⟩ => ⟨S1x4x4096x4096, .f32⟩
  | .hbm, ⟨51, _⟩ => ⟨S1x4x4096x4096, .f32⟩
  | .hbm, ⟨52, _⟩ => ⟨S1x4x4096x4096, .f32⟩
  | .hbm, ⟨53, _⟩ => ⟨S1x4x4096x4096, .f32⟩
  | .hbm, ⟨54, _⟩ => ⟨S_, .f32⟩
  | .hbm, ⟨55, _⟩ => ⟨S_, .f32⟩
  | .hbm, ⟨56, _⟩ => ⟨S1x4x4096x4096, .i1⟩
  | .hbm, ⟨57, _⟩ => ⟨S1x4x4096x4096, .f32⟩
  | .hbm, ⟨58, _⟩ => ⟨S1x4x4096x4096, .f32⟩
  | .hbm, ⟨59, _⟩ => ⟨S_, .f32⟩
  | .hbm, ⟨60, _⟩ => ⟨S_, .f32⟩
  | .hbm, ⟨61, _⟩ => ⟨S1x4x4096x4096, .f32⟩
  | .hbm, ⟨62, _⟩ => ⟨S1x4x4096x4096, .f32⟩
  | .hbm, ⟨63, _⟩ => ⟨S1x4x4096x4096, .f32⟩
  | .hbm, ⟨64, _⟩ => ⟨S1x4x4096x4096, .f32⟩
  | .hbm, ⟨65, _⟩ => ⟨S_, .f32⟩
  | .hbm, ⟨66, _⟩ => ⟨S_, .f32⟩
  | .hbm, ⟨67, _⟩ => ⟨S1x4x4096x4096, .i1⟩
  | .hbm, ⟨68, _⟩ => ⟨S1x4x4096x4096, .f32⟩
  | .hbm, ⟨69, _⟩ => ⟨S1x4x4096x4096, .f32⟩
  | .hbm, ⟨70, _⟩ => ⟨S1x4x4096x64, .f32⟩
  | .hbm, ⟨71, _⟩ => ⟨S1x4096x4x64, .f32⟩
  | .hbm, ⟨72, _⟩ => ⟨S1x4096x256, .f32⟩
  | .hbm, ⟨73, _⟩ => ⟨S4096x5120, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S256x4096, .f32⟩
  | .hbm, ⟨78, _⟩ => ⟨S256x4096, .f32⟩
  | .local _ .vmem, ⟨0, _⟩ => ⟨S128x256, .f32⟩
  | .local _ .vmem, ⟨1, _⟩ => ⟨S128x256, .f32⟩
  | .local _ .vmem, ⟨2, _⟩ => ⟨S4096x256, .f32⟩
  | .local _ .vmem, ⟨3, _⟩ => ⟨S4096x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S256x4096, .f32⟩
  | .local _ .vmem, ⟨11, _⟩ => ⟨S256x4096, .f32⟩
  | .local _ .vmem, ⟨12, _⟩ => ⟨S2x1x512x512, .f32⟩
  | .local _ .vmem, ⟨13, _⟩ => ⟨S2x1x512x512, .f32⟩
  | .local _ .vmem, ⟨14, _⟩ => ⟨S2x1x512x512, .bf16⟩
  | .local _ .vmem, ⟨15, _⟩ => ⟨S2x1x512x512, .bf16⟩
  | _, _ => ⟨S1x4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v20 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v21 : Ref sig .tc := ⟨.hbm, 58, rfl⟩
abbrev main_call3_cst : Ref sig .tc := ⟨.hbm, 59, rfl⟩
abbrev main_call3_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33_0 : Ref sig .tc := ⟨.hbm, 76, rfl⟩
abbrev main_v33_1 : Ref sig .tc := ⟨.hbm, 77, rfl⟩
abbrev main_v33_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let arg1 : BitVec 32 := BitVec.ofNat 32 (i 1).val
  let c1_i32 : BitVec 32 := 1#32
  let v0 : BitVec 32 := Scalar.addi arg1 c1_i32
  let c1_i32_43 : BitVec 32 := 1#32
  let v113 : BitVec 32 := Scalar.subi v0 c1_i32_43
  let c512_i32 : BitVec 32 := 512#32
  let v114 : BitVec 32 := Scalar.muli v113 c512_i32
  v114
def k0_off1 (i : grid0.Coords) : Fin 2 → Nat :=
  let arg1 : BitVec 32 := BitVec.ofNat 32 (i 1).val
  let c1_i32 : BitVec 32 := 1#32
  let v0 : BitVec 32 := Scalar.addi arg1 c1_i32
  let c1_i32_43 : BitVec 32 := 1#32
  let v113 : BitVec 32 := Scalar.subi v0 c1_i32_43
  let c512_i32 : BitVec 32 := 512#32
  let v114 : BitVec 32 := Scalar.muli v113 c512_i32
  let v115 : BitVec 32 := v114
  let v116 : Index := Scalar.indexCast v115
  let c0_44 : Index := 0#32
  ![v116.toNat, 0]
def k0_mult2 (i : grid0.Coords) : BitVec 32 :=
  let arg1 : BitVec 32 := BitVec.ofNat 32 (i 1).val
  let c1_i32 : BitVec 32 := 1#32
  let v0 : BitVec 32 := Scalar.addi arg1 c1_i32
  let c1_i32_46 : BitVec 32 := 1#32
  let v121 : BitVec 32 := Scalar.subi v0 c1_i32_46
  let c512_i32_47 : BitVec 32 := 512#32
  let v122 : BitVec 32 := Scalar.muli v121 c512_i32_47
  v122
def k0_mult3 (i : grid0.Coords) : BitVec 32 :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_50 : BitVec 32 := 512#32
  let v129 : BitVec 32 := Scalar.muli v112 c512_i32_50
  v129
def k0_off2 (i : grid0.Coords) : Fin 2 → Nat :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_50 : BitVec 32 := 512#32
  let v129 : BitVec 32 := Scalar.muli v112 c512_i32_50
  let v130 : BitVec 32 := v129
  let v131 : Index := Scalar.indexCast v130
  let c0_51 : Index := 0#32
  ![v131.toNat, 0]
def k0_mult4 (i : grid0.Coords) : BitVec 32 :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_57 : BitVec 32 := 512#32
  let v139 : BitVec 32 := Scalar.muli v112 c512_i32_57
  v139
@[reducible] def k0_t1_loop (i : grid0.Coords) : Scf.Loop 32 :=
  let c0_i32_87 : BitVec 32 := 0#32
  let arg1 : BitVec 32 := BitVec.ofNat 32 (i 1).val
  let c1_i32 : BitVec 32 := 1#32
  let v0 : BitVec 32 := Scalar.addi arg1 c1_i32
  let c1_i32_85 : BitVec 32 := 1#32
  let v223 : BitVec 32 := Scalar.subi v0 c1_i32_85
  let v225 : BitVec 32 := Scalar.subi v223 c0_i32_87
  let c1_i32_88 : BitVec 32 := 1#32
  let v227 : BitVec 32 := Scalar.divsi v225 c1_i32_88
  let v228 : BitVec 32 := Scalar.muli v227 c1_i32_88
  let v229 : BitVec 32 := Scalar.addi c0_i32_87 v228
  let c1_i32_89 : BitVec 32 := 1#32
  ⟨c0_i32_87, v229, c1_i32_89⟩
def k0_mult5 (i : grid0.Coords) (k0_t1 : Fin (k0_t1_loop i).trips) : BitVec 32 :=
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_89 : BitVec 32 := 1#32
  let arg14 : BitVec 32 := Scf.iv c0_i32_87 c1_i32_89 k0_t1
  let v280 : BitVec 32 := Scalar.subi v279 arg14
  let c1_i32_119 : BitVec 32 := 1#32
  let v284 : BitVec 32 := Scalar.addi v280 c1_i32_119
  let c512_i32_120 : BitVec 32 := 512#32
  let v285 : BitVec 32 := Scalar.muli v284 c512_i32_120
  v285
def k0_off3 (i : grid0.Coords) (k0_t1 : Fin (k0_t1_loop i).trips) : Fin 2 → Nat :=
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_89 : BitVec 32 := 1#32
  let arg14 : BitVec 32 := Scf.iv c0_i32_87 c1_i32_89 k0_t1
  let v280 : BitVec 32 := Scalar.subi v279 arg14
  let c1_i32_119 : BitVec 32 := 1#32
  let v284 : BitVec 32 := Scalar.addi v280 c1_i32_119
  let c512_i32_120 : BitVec 32 := 512#32
  let v285 : BitVec 32 := Scalar.muli v284 c512_i32_120
  let v286 : BitVec 32 := v285
  let v287 : Index := Scalar.indexCast v286
  let c0_121 : Index := 0#32
  ![v287.toNat, 0]
def k0_off4 (i : grid0.Coords) (k0_t1 : Fin (k0_t1_loop i).trips) : Fin 4 → Nat :=
  let c0_i32_87 : BitVec 32 := 0#32
  let c1_i32_89 : BitVec 32 := 1#32
  let arg14 : BitVec 32 := Scf.iv c0_i32_87 c1_i32_89 k0_t1
  let c1_i32_116 : BitVec 32 := 1#32
  let v281 : BitVec 32 := Scalar.andi arg14 c1_i32_116
  let v291 : Index := Scalar.indexCast v281
  let c0_122 : Index := 0#32
  let c0_123 : Index := 0#32
  let c0_124 : Index := 0#32
  ![v291.toNat, 0, 0, 0]
def k0_off5 (i : grid0.Coords) (k0_t1 : Fin (k0_t1_loop i).trips) : Fin 2 → Nat :=
  let c0_135 : Index := 0#32
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_89 : BitVec 32 := 1#32
  let arg14 : BitVec 32 := Scf.iv c0_i32_87 c1_i32_89 k0_t1
  let v280 : BitVec 32 := Scalar.subi v279 arg14
  let c1_i32_119 : BitVec 32 := 1#32
  let v284 : BitVec 32 := Scalar.addi v280 c1_i32_119
  let c512_i32_120 : BitVec 32 := 512#32
  let v285 : BitVec 32 := Scalar.muli v284 c512_i32_120
  let v286 : BitVec 32 := v285
  let v316 : Index := Scalar.indexCast v286
  ![0, v316.toNat]
def k0_mult6 (i : grid0.Coords) (k0_t1 : Fin (k0_t1_loop i).trips) : BitVec 32 :=
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_89 : BitVec 32 := 1#32
  let arg14 : BitVec 32 := Scf.iv c0_i32_87 c1_i32_89 k0_t1
  let v280 : BitVec 32 := Scalar.subi v279 arg14
  let c1_i32_117 : BitVec 32 := 1#32
  let v282 : BitVec 32 := Scalar.subi v280 c1_i32_117
  let c0_i32_118 : BitVec 32 := 0#32
  let v283 : BitVec 32 := Scalar.maxsi v282 c0_i32_118
  let c512_i32_147 : BitVec 32 := 512#32
  let v365 : BitVec 32 := Scalar.muli v283 c512_i32_147
  v365
def k0_off6 (i : grid0.Coords) (k0_t1 : Fin (k0_t1_loop i).trips) : Fin 2 → Nat :=
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_89 : BitVec 32 := 1#32
  let arg14 : BitVec 32 := Scf.iv c0_i32_87 c1_i32_89 k0_t1
  let v280 : BitVec 32 := Scalar.subi v279 arg14
  let c1_i32_117 : BitVec 32 := 1#32
  let v282 : BitVec 32 := Scalar.subi v280 c1_i32_117
  let c0_i32_118 : BitVec 32 := 0#32
  let v283 : BitVec 32 := Scalar.maxsi v282 c0_i32_118
  let c512_i32_147 : BitVec 32 := 512#32
  let v365 : BitVec 32 := Scalar.muli v283 c512_i32_147
  let v366 : BitVec 32 := v365
  let v367 : Index := Scalar.indexCast v366
  let c0_148 : Index := 0#32
  ![v367.toNat, 0]
def k0_off7 (i : grid0.Coords) (k0_t1 : Fin (k0_t1_loop i).trips) : Fin 4 → Nat :=
  let c1_i32_146 : BitVec 32 := 1#32
  let c0_i32_87 : BitVec 32 := 0#32
  let c1_i32_89 : BitVec 32 := 1#32
  let arg14 : BitVec 32 := Scf.iv c0_i32_87 c1_i32_89 k0_t1
  let c1_i32_116 : BitVec 32 := 1#32
  let v281 : BitVec 32 := Scalar.andi arg14 c1_i32_116
  let v364 : BitVec 32 := Scalar.subi c1_i32_146 v281
  let v372 : Index := Scalar.indexCast v364
  let c0_150 : Index := 0#32
  let c0_151 : Index := 0#32
  let c0_152 : Index := 0#32
  ![v372.toNat, 0, 0, 0]
def k0_mult7 (i : grid0.Coords) (k0_t1 : Fin (k0_t1_loop i).trips) : BitVec 32 :=
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_89 : BitVec 32 := 1#32
  let arg14 : BitVec 32 := Scf.iv c0_i32_87 c1_i32_89 k0_t1
  let v280 : BitVec 32 := Scalar.subi v279 arg14
  let c1_i32_117 : BitVec 32 := 1#32
  let v282 : BitVec 32 := Scalar.subi v280 c1_i32_117
  let c0_i32_118 : BitVec 32 := 0#32
  let v283 : BitVec 32 := Scalar.maxsi v282 c0_i32_118
  let c512_i32_162 : BitVec 32 := 512#32
  let v440 : BitVec 32 := Scalar.muli v283 c512_i32_162
  v440
@[reducible] def k0_t2_loop (i : grid0.Coords) : Scf.Loop 32 :=
  let c0_i32_87 : BitVec 32 := 0#32
  let arg1 : BitVec 32 := BitVec.ofNat 32 (i 1).val
  let c1_i32 : BitVec 32 := 1#32
  let v0 : BitVec 32 := Scalar.addi arg1 c1_i32
  let c1_i32_85 : BitVec 32 := 1#32
  let v223 : BitVec 32 := Scalar.subi v0 c1_i32_85
  let v225 : BitVec 32 := Scalar.subi v223 c0_i32_87
  let c1_i32_88 : BitVec 32 := 1#32
  let v227 : BitVec 32 := Scalar.divsi v225 c1_i32_88
  let v228 : BitVec 32 := Scalar.muli v227 c1_i32_88
  let v229 : BitVec 32 := Scalar.addi c0_i32_87 v228
  let v226 : BitVec 32 := Scalar.addi c0_i32_87 v225
  let c1_i32_90 : BitVec 32 := 1#32
  ⟨v229, v226, c1_i32_90⟩
def k0_mult8 (i : grid0.Coords) (k0_t2 : Fin (k0_t2_loop i).trips) : BitVec 32 :=
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_85 : BitVec 32 := 1#32
  let v223 : BitVec 32 := Scalar.subi v0 c1_i32_85
  let v225 : BitVec 32 := Scalar.subi v223 c0_i32_87
  let c1_i32_88 : BitVec 32 := 1#32
  let v227 : BitVec 32 := Scalar.divsi v225 c1_i32_88
  let v228 : BitVec 32 := Scalar.muli v227 c1_i32_88
  let v229 : BitVec 32 := Scalar.addi c0_i32_87 v228
  let c1_i32_90 : BitVec 32 := 1#32
  let arg14 : BitVec 32 := Scf.iv v229 c1_i32_90 k0_t2
  let v280 : BitVec 32 := Scalar.subi v279 arg14
  let c1_i32_119 : BitVec 32 := 1#32
  let v284 : BitVec 32 := Scalar.addi v280 c1_i32_119
  let c512_i32_120 : BitVec 32 := 512#32
  let v285 : BitVec 32 := Scalar.muli v284 c512_i32_120
  v285
def k0_off8 (i : grid0.Coords) (k0_t2 : Fin (k0_t2_loop i).trips) : Fin 2 → Nat :=
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_85 : BitVec 32 := 1#32
  let v223 : BitVec 32 := Scalar.subi v0 c1_i32_85
  let v225 : BitVec 32 := Scalar.subi v223 c0_i32_87
  let c1_i32_88 : BitVec 32 := 1#32
  let v227 : BitVec 32 := Scalar.divsi v225 c1_i32_88
  let v228 : BitVec 32 := Scalar.muli v227 c1_i32_88
  let v229 : BitVec 32 := Scalar.addi c0_i32_87 v228
  let c1_i32_90 : BitVec 32 := 1#32
  let arg14 : BitVec 32 := Scf.iv v229 c1_i32_90 k0_t2
  let v280 : BitVec 32 := Scalar.subi v279 arg14
  let c1_i32_119 : BitVec 32 := 1#32
  let v284 : BitVec 32 := Scalar.addi v280 c1_i32_119
  let c512_i32_120 : BitVec 32 := 512#32
  let v285 : BitVec 32 := Scalar.muli v284 c512_i32_120
  let v286 : BitVec 32 := v285
  let v287 : Index := Scalar.indexCast v286
  let c0_121 : Index := 0#32
  ![v287.toNat, 0]
def k0_off9 (i : grid0.Coords) (k0_t2 : Fin (k0_t2_loop i).trips) : Fin 4 → Nat :=
  let c0_i32_87 : BitVec 32 := 0#32
  let arg1 : BitVec 32 := BitVec.ofNat 32 (i 1).val
  let c1_i32 : BitVec 32 := 1#32
  let v0 : BitVec 32 := Scalar.addi arg1 c1_i32
  let c1_i32_85 : BitVec 32 := 1#32
  let v223 : BitVec 32 := Scalar.subi v0 c1_i32_85
  let v225 : BitVec 32 := Scalar.subi v223 c0_i32_87
  let c1_i32_88 : BitVec 32 := 1#32
  let v227 : BitVec 32 := Scalar.divsi v225 c1_i32_88
  let v228 : BitVec 32 := Scalar.muli v227 c1_i32_88
  let v229 : BitVec 32 := Scalar.addi c0_i32_87 v228
  let c1_i32_90 : BitVec 32 := 1#32
  let arg14 : BitVec 32 := Scf.iv v229 c1_i32_90 k0_t2
  let c1_i32_116 : BitVec 32 := 1#32
  let v281 : BitVec 32 := Scalar.andi arg14 c1_i32_116
  let v291 : Index := Scalar.indexCast v281
  let c0_122 : Index := 0#32
  let c0_123 : Index := 0#32
  let c0_124 : Index := 0#32
  ![v291.toNat, 0, 0, 0]
def k0_off10 (i : grid0.Coords) (k0_t2 : Fin (k0_t2_loop i).trips) : Fin 2 → Nat :=
  let c0_135 : Index := 0#32
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_85 : BitVec 32 := 1#32
  let v223 : BitVec 32 := Scalar.subi v0 c1_i32_85
  let v225 : BitVec 32 := Scalar.subi v223 c0_i32_87
  let c1_i32_88 : BitVec 32 := 1#32
  let v227 : BitVec 32 := Scalar.divsi v225 c1_i32_88
  let v228 : BitVec 32 := Scalar.muli v227 c1_i32_88
  let v229 : BitVec 32 := Scalar.addi c0_i32_87 v228
  let c1_i32_90 : BitVec 32 := 1#32
  let arg14 : BitVec 32 := Scf.iv v229 c1_i32_90 k0_t2
  let v280 : BitVec 32 := Scalar.subi v279 arg14
  let c1_i32_119 : BitVec 32 := 1#32
  let v284 : BitVec 32 := Scalar.addi v280 c1_i32_119
  let c512_i32_120 : BitVec 32 := 512#32
  let v285 : BitVec 32 := Scalar.muli v284 c512_i32_120
  let v286 : BitVec 32 := v285
  let v316 : Index := Scalar.indexCast v286
  ![0, v316.toNat]
def k0_mult9 (i : grid0.Coords) (k0_t2 : Fin (k0_t2_loop i).trips) : BitVec 32 :=
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_85 : BitVec 32 := 1#32
  let v223 : BitVec 32 := Scalar.subi v0 c1_i32_85
  let v225 : BitVec 32 := Scalar.subi v223 c0_i32_87
  let c1_i32_88 : BitVec 32 := 1#32
  let v227 : BitVec 32 := Scalar.divsi v225 c1_i32_88
  let v228 : BitVec 32 := Scalar.muli v227 c1_i32_88
  let v229 : BitVec 32 := Scalar.addi c0_i32_87 v228
  let c1_i32_90 : BitVec 32 := 1#32
  let arg14 : BitVec 32 := Scf.iv v229 c1_i32_90 k0_t2
  let v280 : BitVec 32 := Scalar.subi v279 arg14
  let c1_i32_117 : BitVec 32 := 1#32
  let v282 : BitVec 32 := Scalar.subi v280 c1_i32_117
  let c0_i32_118 : BitVec 32 := 0#32
  let v283 : BitVec 32 := Scalar.maxsi v282 c0_i32_118
  let c512_i32_147 : BitVec 32 := 512#32
  let v365 : BitVec 32 := Scalar.muli v283 c512_i32_147
  v365
def k0_off11 (i : grid0.Coords) (k0_t2 : Fin (k0_t2_loop i).trips) : Fin 2 → Nat :=
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_85 : BitVec 32 := 1#32
  let v223 : BitVec 32 := Scalar.subi v0 c1_i32_85
  let v225 : BitVec 32 := Scalar.subi v223 c0_i32_87
  let c1_i32_88 : BitVec 32 := 1#32
  let v227 : BitVec 32 := Scalar.divsi v225 c1_i32_88
  let v228 : BitVec 32 := Scalar.muli v227 c1_i32_88
  let v229 : BitVec 32 := Scalar.addi c0_i32_87 v228
  let c1_i32_90 : BitVec 32 := 1#32
  let arg14 : BitVec 32 := Scf.iv v229 c1_i32_90 k0_t2
  let v280 : BitVec 32 := Scalar.subi v279 arg14
  let c1_i32_117 : BitVec 32 := 1#32
  let v282 : BitVec 32 := Scalar.subi v280 c1_i32_117
  let c0_i32_118 : BitVec 32 := 0#32
  let v283 : BitVec 32 := Scalar.maxsi v282 c0_i32_118
  let c512_i32_147 : BitVec 32 := 512#32
  let v365 : BitVec 32 := Scalar.muli v283 c512_i32_147
  let v366 : BitVec 32 := v365
  let v367 : Index := Scalar.indexCast v366
  let c0_148 : Index := 0#32
  ![v367.toNat, 0]
def k0_off12 (i : grid0.Coords) (k0_t2 : Fin (k0_t2_loop i).trips) : Fin 4 → Nat :=
  let c1_i32_146 : BitVec 32 := 1#32
  let c0_i32_87 : BitVec 32 := 0#32
  let arg1 : BitVec 32 := BitVec.ofNat 32 (i 1).val
  let c1_i32 : BitVec 32 := 1#32
  let v0 : BitVec 32 := Scalar.addi arg1 c1_i32
  let c1_i32_85 : BitVec 32 := 1#32
  let v223 : BitVec 32 := Scalar.subi v0 c1_i32_85
  let v225 : BitVec 32 := Scalar.subi v223 c0_i32_87
  let c1_i32_88 : BitVec 32 := 1#32
  let v227 : BitVec 32 := Scalar.divsi v225 c1_i32_88
  let v228 : BitVec 32 := Scalar.muli v227 c1_i32_88
  let v229 : BitVec 32 := Scalar.addi c0_i32_87 v228
  let c1_i32_90 : BitVec 32 := 1#32
  let arg14 : BitVec 32 := Scf.iv v229 c1_i32_90 k0_t2
  let c1_i32_116 : BitVec 32 := 1#32
  let v281 : BitVec 32 := Scalar.andi arg14 c1_i32_116
  let v364 : BitVec 32 := Scalar.subi c1_i32_146 v281
  let v372 : Index := Scalar.indexCast v364
  let c0_150 : Index := 0#32
  let c0_151 : Index := 0#32
  let c0_152 : Index := 0#32
  ![v372.toNat, 0, 0, 0]
def k0_mult10 (i : grid0.Coords) (k0_t2 : Fin (k0_t2_loop i).trips) : BitVec 32 :=
  let arg1 : BitVec 32 := BitVec.ofNat 32 (i 1).val
  let c1_i32 : BitVec 32 := 1#32
  let v0 : BitVec 32 := Scalar.addi arg1 c1_i32
  let c2_i32_115 : BitVec 32 := 2#32
  let v279 : BitVec 32 := Scalar.subi v0 c2_i32_115
  let c0_i32_87 : BitVec 32 := 0#32
  let c1_i32_85 : BitVec 32 := 1#32
  let v223 : BitVec 32 := Scalar.subi v0 c1_i32_85
  let v225 : BitVec 32 := Scalar.subi v223 c0_i32_87
  let c1_i32_88 : BitVec 32 := 1#32
  let v227 : BitVec 32 := Scalar.divsi v225 c1_i32_88
  let v228 : BitVec 32 := Scalar.muli v227 c1_i32_88
  let v229 : BitVec 32 := Scalar.addi c0_i32_87 v228
  let c1_i32_90 : BitVec 32 := 1#32
  let arg14 : BitVec 32 := Scf.iv v229 c1_i32_90 k0_t2
  let v280 : BitVec 32 := Scalar.subi v279 arg14
  let c1_i32_117 : BitVec 32 := 1#32
  let v282 : BitVec 32 := Scalar.subi v280 c1_i32_117
  let c0_i32_118 : BitVec 32 := 0#32
  let v283 : BitVec 32 := Scalar.maxsi v282 c0_i32_118
  let c512_i32_162 : BitVec 32 := 512#32
  let v440 : BitVec 32 := Scalar.muli v283 c512_i32_162
  v440
def k0_mult11 : BitVec 32 :=
  let c0_i32_93 : BitVec 32 := 0#32
  c0_i32_93
def k0_off13 (i : grid0.Coords) : Fin 4 → Nat :=
  let arg1 : BitVec 32 := BitVec.ofNat 32 (i 1).val
  let c1_i32 : BitVec 32 := 1#32
  let v0 : BitVec 32 := Scalar.addi arg1 c1_i32
  let c1_i32_91 : BitVec 32 := 1#32
  let v232 : BitVec 32 := Scalar.subi v0 c1_i32_91
  let c1_i32_92 : BitVec 32 := 1#32
  let v233 : BitVec 32 := Scalar.andi v232 c1_i32_92
  let v239 : Index := Scalar.indexCast v233
  let c0_95 : Index := 0#32
  let c0_96 : Index := 0#32
  let c0_97 : Index := 0#32
  ![v239.toNat, 0, 0, 0]
def k0_cond3 (i : grid0.Coords) : BitVec 1 :=
  let arg0 : BitVec 32 := BitVec.ofNat 32 (i 0).val
  let c1_i32_4 : BitVec 32 := 1#32
  let v9 : BitVec 1 := Scalar.cmpi .eq arg0 c1_i32_4
  let v10 : BitVec 32 := Scalar.extui v9
  let c0_i32_5 : BitVec 32 := 0#32
  let v11 : BitVec 1 := Scalar.cmpi .ne v10 c0_i32_5
  v11

def k0_mult12 (i : grid0.Coords) : BitVec 32 :=
  let arg1 : BitVec 32 := BitVec.ofNat 32 (i 1).val
  let c1_i32 : BitVec 32 := 1#32
  let v0 : BitVec 32 := Scalar.addi arg1 c1_i32
  let c1_i32_43 : BitVec 32 := 1#32
  let v113 : BitVec 32 := Scalar.subi v0 c1_i32_43
  let c512_i32 : BitVec 32 := 512#32
  let v114 : BitVec 32 := Scalar.muli v113 c512_i32
  v114
def k0_off14 (i : grid0.Coords) : Fin 2 → Nat :=
  let arg1 : BitVec 32 := BitVec.ofNat 32 (i 1).val
  let c1_i32 : BitVec 32 := 1#32
  let v0 : BitVec 32 := Scalar.addi arg1 c1_i32
  let c1_i32_43 : BitVec 32 := 1#32
  let v113 : BitVec 32 := Scalar.subi v0 c1_i32_43
  let c512_i32 : BitVec 32 := 512#32
  let v114 : BitVec 32 := Scalar.muli v113 c512_i32
  let v115 : BitVec 32 := v114
  let v116 : Index := Scalar.indexCast v115
  let c0_44 : Index := 0#32
  ![v116.toNat, 0]
def k0_mult13 (i : grid0.Coords) : BitVec 32 :=
  let arg1 : BitVec 32 := BitVec.ofNat 32 (i 1).val
  let c1_i32 : BitVec 32 := 1#32
  let v0 : BitVec 32 := Scalar.addi arg1 c1_i32
  let c1_i32_46 : BitVec 32 := 1#32
  let v121 : BitVec 32 := Scalar.subi v0 c1_i32_46
  let c512_i32_47 : BitVec 32 := 512#32
  let v122 : BitVec 32 := Scalar.muli v121 c512_i32_47
  v122
def k0_mult14 (i : grid0.Coords) : BitVec 32 :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_50 : BitVec 32 := 512#32
  let v129 : BitVec 32 := Scalar.muli v112 c512_i32_50
  v129
def k0_off15 (i : grid0.Coords) : Fin 2 → Nat :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_50 : BitVec 32 := 512#32
  let v129 : BitVec 32 := Scalar.muli v112 c512_i32_50
  let v130 : BitVec 32 := v129
  let v131 : Index := Scalar.indexCast v130
  let c0_51 : Index := 0#32
  ![v131.toNat, 0]
def k0_mult15 (i : grid0.Coords) : BitVec 32 :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_57 : BitVec 32 := 512#32
  let v139 : BitVec 32 := Scalar.muli v112 c512_i32_57
  v139
@[reducible] def k0_t3_loop (i : grid0.Coords) : Scf.Loop 32 :=
  let c0_i32_89 : BitVec 32 := 0#32
  let arg1 : BitVec 32 := BitVec.ofNat 32 (i 1).val
  let c1_i32 : BitVec 32 := 1#32
  let v0 : BitVec 32 := Scalar.addi arg1 c1_i32
  let c1_i32_87 : BitVec 32 := 1#32
  let v253 : BitVec 32 := Scalar.subi v0 c1_i32_87
  let v255 : BitVec 32 := Scalar.subi v253 c0_i32_89
  let c1_i32_90 : BitVec 32 := 1#32
  let v257 : BitVec 32 := Scalar.divsi v255 c1_i32_90
  let v258 : BitVec 32 := Scalar.muli v257 c1_i32_90
  let v259 : BitVec 32 := Scalar.addi c0_i32_89 v258
  let c1_i32_91 : BitVec 32 := 1#32
  ⟨c0_i32_89, v259, c1_i32_91⟩
def k0_mult16 (i : grid0.Coords) (k0_t3 : Fin (k0_t3_loop i).trips) : BitVec 32 :=
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_91 : BitVec 32 := 1#32
  let arg14 : BitVec 32 := Scf.iv c0_i32_89 c1_i32_91 k0_t3
  let v310 : BitVec 32 := Scalar.subi v309 arg14
  let c1_i32_121 : BitVec 32 := 1#32
  let v314 : BitVec 32 := Scalar.addi v310 c1_i32_121
  let c512_i32_122 : BitVec 32 := 512#32
  let v315 : BitVec 32 := Scalar.muli v314 c512_i32_122
  v315
def k0_off16 (i : grid0.Coords) (k0_t3 : Fin (k0_t3_loop i).trips) : Fin 2 → Nat :=
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_91 : BitVec 32 := 1#32
  let arg14 : BitVec 32 := Scf.iv c0_i32_89 c1_i32_91 k0_t3
  let v310 : BitVec 32 := Scalar.subi v309 arg14
  let c1_i32_121 : BitVec 32 := 1#32
  let v314 : BitVec 32 := Scalar.addi v310 c1_i32_121
  let c512_i32_122 : BitVec 32 := 512#32
  let v315 : BitVec 32 := Scalar.muli v314 c512_i32_122
  let v316 : BitVec 32 := v315
  let v317 : Index := Scalar.indexCast v316
  let c0_123 : Index := 0#32
  ![v317.toNat, 0]
def k0_off17 (i : grid0.Coords) (k0_t3 : Fin (k0_t3_loop i).trips) : Fin 4 → Nat :=
  let c0_i32_89 : BitVec 32 := 0#32
  let c1_i32_91 : BitVec 32 := 1#32
  let arg14 : BitVec 32 := Scf.iv c0_i32_89 c1_i32_91 k0_t3
  let c1_i32_118 : BitVec 32 := 1#32
  let v311 : BitVec 32 := Scalar.andi arg14 c1_i32_118
  let v321 : Index := Scalar.indexCast v311
  let c0_124 : Index := 0#32
  let c0_125 : Index := 0#32
  let c0_126 : Index := 0#32
  ![v321.toNat, 0, 0, 0]
def k0_off18 (i : grid0.Coords) (k0_t3 : Fin (k0_t3_loop i).trips) : Fin 2 → Nat :=
  let c0_137 : Index := 0#32
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_91 : BitVec 32 := 1#32
  let arg14 : BitVec 32 := Scf.iv c0_i32_89 c1_i32_91 k0_t3
  let v310 : BitVec 32 := Scalar.subi v309 arg14
  let c1_i32_121 : BitVec 32 := 1#32
  let v314 : BitVec 32 := Scalar.addi v310 c1_i32_121
  let c512_i32_122 : BitVec 32 := 512#32
  let v315 : BitVec 32 := Scalar.muli v314 c512_i32_122
  let v316 : BitVec 32 := v315
  let v346 : Index := Scalar.indexCast v316
  ![0, v346.toNat]
def k0_mult17 (i : grid0.Coords) (k0_t3 : Fin (k0_t3_loop i).trips) : BitVec 32 :=
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_91 : BitVec 32 := 1#32
  let arg14 : BitVec 32 := Scf.iv c0_i32_89 c1_i32_91 k0_t3
  let v310 : BitVec 32 := Scalar.subi v309 arg14
  let c1_i32_119 : BitVec 32 := 1#32
  let v312 : BitVec 32 := Scalar.subi v310 c1_i32_119
  let c0_i32_120 : BitVec 32 := 0#32
  let v313 : BitVec 32 := Scalar.maxsi v312 c0_i32_120
  let c512_i32_149 : BitVec 32 := 512#32
  let v395 : BitVec 32 := Scalar.muli v313 c512_i32_149
  v395
def k0_off19 (i : grid0.Coords) (k0_t3 : Fin (k0_t3_loop i).trips) : Fin 2 → Nat :=
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_91 : BitVec 32 := 1#32
  let arg14 : BitVec 32 := Scf.iv c0_i32_89 c1_i32_91 k0_t3
  let v310 : BitVec 32 := Scalar.subi v309 arg14
  let c1_i32_119 : BitVec 32 := 1#32
  let v312 : BitVec 32 := Scalar.subi v310 c1_i32_119
  let c0_i32_120 : BitVec 32 := 0#32
  let v313 : BitVec 32 := Scalar.maxsi v312 c0_i32_120
  let c512_i32_149 : BitVec 32 := 512#32
  let v395 : BitVec 32 := Scalar.muli v313 c512_i32_149
  let v396 : BitVec 32 := v395
  let v397 : Index := Scalar.indexCast v396
  let c0_150 : Index := 0#32
  ![v397.toNat, 0]
def k0_off20 (i : grid0.Coords) (k0_t3 : Fin (k0_t3_loop i).trips) : Fin 4 → Nat :=
  let c1_i32_148 : BitVec 32 := 1#32
  let c0_i32_89 : BitVec 32 := 0#32
  let c1_i32_91 : BitVec 32 := 1#32
  let arg14 : BitVec 32 := Scf.iv c0_i32_89 c1_i32_91 k0_t3
  let c1_i32_118 : BitVec 32 := 1#32
  let v311 : BitVec 32 := Scalar.andi arg14 c1_i32_118
  let v394 : BitVec 32 := Scalar.subi c1_i32_148 v311
  let v402 : Index := Scalar.indexCast v394
  let c0_152 : Index := 0#32
  let c0_153 : Index := 0#32
  let c0_154 : Index := 0#32
  ![v402.toNat, 0, 0, 0]
def k0_mult18 (i : grid0.Coords) (k0_t3 : Fin (k0_t3_loop i).trips) : BitVec 32 :=
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_91 : BitVec 32 := 1#32
  let arg14 : BitVec 32 := Scf.iv c0_i32_89 c1_i32_91 k0_t3
  let v310 : BitVec 32 := Scalar.subi v309 arg14
  let c1_i32_119 : BitVec 32 := 1#32
  let v312 : BitVec 32 := Scalar.subi v310 c1_i32_119
  let c0_i32_120 : BitVec 32 := 0#32
  let v313 : BitVec 32 := Scalar.maxsi v312 c0_i32_120
  let c512_i32_164 : BitVec 32 := 512#32
  let v470 : BitVec 32 := Scalar.muli v313 c512_i32_164
  v470
@[reducible] def k0_t4_loop (i : grid0.Coords) : Scf.Loop 32 :=
  let c0_i32_89 : BitVec 32 := 0#32
  let arg1 : BitVec 32 := BitVec.ofNat 32 (i 1).val
  let c1_i32 : BitVec 32 := 1#32
  let v0 : BitVec 32 := Scalar.addi arg1 c1_i32
  let c1_i32_87 : BitVec 32 := 1#32
  let v253 : BitVec 32 := Scalar.subi v0 c1_i32_87
  let v255 : BitVec 32 := Scalar.subi v253 c0_i32_89
  let c1_i32_90 : BitVec 32 := 1#32
  let v257 : BitVec 32 := Scalar.divsi v255 c1_i32_90
  let v258 : BitVec 32 := Scalar.muli v257 c1_i32_90
  let v259 : BitVec 32 := Scalar.addi c0_i32_89 v258
  let v256 : BitVec 32 := Scalar.addi c0_i32_89 v255
  let c1_i32_92 : BitVec 32 := 1#32
  ⟨v259, v256, c1_i32_92⟩
def k0_mult19 (i : grid0.Coords) (k0_t4 : Fin (k0_t4_loop i).trips) : BitVec 32 :=
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_87 : BitVec 32 := 1#32
  let v253 : BitVec 32 := Scalar.subi v0 c1_i32_87
  let v255 : BitVec 32 := Scalar.subi v253 c0_i32_89
  let c1_i32_90 : BitVec 32 := 1#32
  let v257 : BitVec 32 := Scalar.divsi v255 c1_i32_90
  let v258 : BitVec 32 := Scalar.muli v257 c1_i32_90
  let v259 : BitVec 32 := Scalar.addi c0_i32_89 v258
  let c1_i32_92 : BitVec 32 := 1#32
  let arg14 : BitVec 32 := Scf.iv v259 c1_i32_92 k0_t4
  let v310 : BitVec 32 := Scalar.subi v309 arg14
  let c1_i32_121 : BitVec 32 := 1#32
  let v314 : BitVec 32 := Scalar.addi v310 c1_i32_121
  let c512_i32_122 : BitVec 32 := 512#32
  let v315 : BitVec 32 := Scalar.muli v314 c512_i32_122
  v315
def k0_off21 (i : grid0.Coords) (k0_t4 : Fin (k0_t4_loop i).trips) : Fin 2 → Nat :=
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_87 : BitVec 32 := 1#32
  let v253 : BitVec 32 := Scalar.subi v0 c1_i32_87
  let v255 : BitVec 32 := Scalar.subi v253 c0_i32_89
  let c1_i32_90 : BitVec 32 := 1#32
  let v257 : BitVec 32 := Scalar.divsi v255 c1_i32_90
  let v258 : BitVec 32 := Scalar.muli v257 c1_i32_90
  let v259 : BitVec 32 := Scalar.addi c0_i32_89 v258
  let c1_i32_92 : BitVec 32 := 1#32
  let arg14 : BitVec 32 := Scf.iv v259 c1_i32_92 k0_t4
  let v310 : BitVec 32 := Scalar.subi v309 arg14
  let c1_i32_121 : BitVec 32 := 1#32
  let v314 : BitVec 32 := Scalar.addi v310 c1_i32_121
  let c512_i32_122 : BitVec 32 := 512#32
  let v315 : BitVec 32 := Scalar.muli v314 c512_i32_122
  let v316 : BitVec 32 := v315
  let v317 : Index := Scalar.indexCast v316
  let c0_123 : Index := 0#32
  ![v317.toNat, 0]
def k0_off22 (i : grid0.Coords) (k0_t4 : Fin (k0_t4_loop i).trips) : Fin 4 → Nat :=
  let c0_i32_89 : BitVec 32 := 0#32
  let arg1 : BitVec 32 := BitVec.ofNat 32 (i 1).val
  let c1_i32 : BitVec 32 := 1#32
  let v0 : BitVec 32 := Scalar.addi arg1 c1_i32
  let c1_i32_87 : BitVec 32 := 1#32
  let v253 : BitVec 32 := Scalar.subi v0 c1_i32_87
  let v255 : BitVec 32 := Scalar.subi v253 c0_i32_89
  let c1_i32_90 : BitVec 32 := 1#32
  let v257 : BitVec 32 := Scalar.divsi v255 c1_i32_90
  let v258 : BitVec 32 := Scalar.muli v257 c1_i32_90
  let v259 : BitVec 32 := Scalar.addi c0_i32_89 v258
  let c1_i32_92 : BitVec 32 := 1#32
  let arg14 : BitVec 32 := Scf.iv v259 c1_i32_92 k0_t4
  let c1_i32_118 : BitVec 32 := 1#32
  let v311 : BitVec 32 := Scalar.andi arg14 c1_i32_118
  let v321 : Index := Scalar.indexCast v311
  let c0_124 : Index := 0#32
  let c0_125 : Index := 0#32
  let c0_126 : Index := 0#32
  ![v321.toNat, 0, 0, 0]
def k0_off23 (i : grid0.Coords) (k0_t4 : Fin (k0_t4_loop i).trips) : Fin 2 → Nat :=
  let c0_137 : Index := 0#32
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_87 : BitVec 32 := 1#32
  let v253 : BitVec 32 := Scalar.subi v0 c1_i32_87
  let v255 : BitVec 32 := Scalar.subi v253 c0_i32_89
  let c1_i32_90 : BitVec 32 := 1#32
  let v257 : BitVec 32 := Scalar.divsi v255 c1_i32_90
  let v258 : BitVec 32 := Scalar.muli v257 c1_i32_90
  let v259 : BitVec 32 := Scalar.addi c0_i32_89 v258
  let c1_i32_92 : BitVec 32 := 1#32
  let arg14 : BitVec 32 := Scf.iv v259 c1_i32_92 k0_t4
  let v310 : BitVec 32 := Scalar.subi v309 arg14
  let c1_i32_121 : BitVec 32 := 1#32
  let v314 : BitVec 32 := Scalar.addi v310 c1_i32_121
  let c512_i32_122 : BitVec 32 := 512#32
  let v315 : BitVec 32 := Scalar.muli v314 c512_i32_122
  let v316 : BitVec 32 := v315
  let v346 : Index := Scalar.indexCast v316
  ![0, v346.toNat]
def k0_mult20 (i : grid0.Coords) (k0_t4 : Fin (k0_t4_loop i).trips) : BitVec 32 :=
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_87 : BitVec 32 := 1#32
  let v253 : BitVec 32 := Scalar.subi v0 c1_i32_87
  let v255 : BitVec 32 := Scalar.subi v253 c0_i32_89
  let c1_i32_90 : BitVec 32 := 1#32
  let v257 : BitVec 32 := Scalar.divsi v255 c1_i32_90
  let v258 : BitVec 32 := Scalar.muli v257 c1_i32_90
  let v259 : BitVec 32 := Scalar.addi c0_i32_89 v258
  let c1_i32_92 : BitVec 32 := 1#32
  let arg14 : BitVec 32 := Scf.iv v259 c1_i32_92 k0_t4
  let v310 : BitVec 32 := Scalar.subi v309 arg14
  let c1_i32_119 : BitVec 32 := 1#32
  let v312 : BitVec 32 := Scalar.subi v310 c1_i32_119
  let c0_i32_120 : BitVec 32 := 0#32
  let v313 : BitVec 32 := Scalar.maxsi v312 c0_i32_120
  let c512_i32_149 : BitVec 32 := 512#32
  let v395 : BitVec 32 := Scalar.muli v313 c512_i32_149
  v395
def k0_off24 (i : grid0.Coords) (k0_t4 : Fin (k0_t4_loop i).trips) : Fin 2 → Nat :=
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_87 : BitVec 32 := 1#32
  let v253 : BitVec 32 := Scalar.subi v0 c1_i32_87
  let v255 : BitVec 32 := Scalar.subi v253 c0_i32_89
  let c1_i32_90 : BitVec 32 := 1#32
  let v257 : BitVec 32 := Scalar.divsi v255 c1_i32_90
  let v258 : BitVec 32 := Scalar.muli v257 c1_i32_90
  let v259 : BitVec 32 := Scalar.addi c0_i32_89 v258
  let c1_i32_92 : BitVec 32 := 1#32
  let arg14 : BitVec 32 := Scf.iv v259 c1_i32_92 k0_t4
  let v310 : BitVec 32 := Scalar.subi v309 arg14
  let c1_i32_119 : BitVec 32 := 1#32
  let v312 : BitVec 32 := Scalar.subi v310 c1_i32_119
  let c0_i32_120 : BitVec 32 := 0#32
  let v313 : BitVec 32 := Scalar.maxsi v312 c0_i32_120
  let c512_i32_149 : BitVec 32 := 512#32
  let v395 : BitVec 32 := Scalar.muli v313 c512_i32_149
  let v396 : BitVec 32 := v395
  let v397 : Index := Scalar.indexCast v396
  let c0_150 : Index := 0#32
  ![v397.toNat, 0]
def k0_off25 (i : grid0.Coords) (k0_t4 : Fin (k0_t4_loop i).trips) : Fin 4 → Nat :=
  let c1_i32_148 : BitVec 32 := 1#32
  let c0_i32_89 : BitVec 32 := 0#32
  let arg1 : BitVec 32 := BitVec.ofNat 32 (i 1).val
  let c1_i32 : BitVec 32 := 1#32
  let v0 : BitVec 32 := Scalar.addi arg1 c1_i32
  let c1_i32_87 : BitVec 32 := 1#32
  let v253 : BitVec 32 := Scalar.subi v0 c1_i32_87
  let v255 : BitVec 32 := Scalar.subi v253 c0_i32_89
  let c1_i32_90 : BitVec 32 := 1#32
  let v257 : BitVec 32 := Scalar.divsi v255 c1_i32_90
  let v258 : BitVec 32 := Scalar.muli v257 c1_i32_90
  let v259 : BitVec 32 := Scalar.addi c0_i32_89 v258
  let c1_i32_92 : BitVec 32 := 1#32
  let arg14 : BitVec 32 := Scf.iv v259 c1_i32_92 k0_t4
  let c1_i32_118 : BitVec 32 := 1#32
  let v311 : BitVec 32 := Scalar.andi arg14 c1_i32_118
  let v394 : BitVec 32 := Scalar.subi c1_i32_148 v311
  let v402 : Index := Scalar.indexCast v394
  let c0_152 : Index := 0#32
  let c0_153 : Index := 0#32
  let c0_154 : Index := 0#32
  ![v402.toNat, 0, 0, 0]
def k0_mult21 (i : grid0.Coords) (k0_t4 : Fin (k0_t4_loop i).trips) : BitVec 32 :=
  let arg1 : BitVec 32 := BitVec.ofNat 32 (i 1).val
  let c1_i32 : BitVec 32 := 1#32
  let v0 : BitVec 32 := Scalar.addi arg1 c1_i32
  let c2_i32_117 : BitVec 32 := 2#32
  let v309 : BitVec 32 := Scalar.subi v0 c2_i32_117
  let c0_i32_89 : BitVec 32 := 0#32
  let c1_i32_87 : BitVec 32 := 1#32
  let v253 : BitVec 32 := Scalar.subi v0 c1_i32_87
  let v255 : BitVec 32 := Scalar.subi v253 c0_i32_89
  let c1_i32_90 : BitVec 32 := 1#32
  let v257 : BitVec 32 := Scalar.divsi v255 c1_i32_90
  let v258 : BitVec 32 := Scalar.muli v257 c1_i32_90
  let v259 : BitVec 32 := Scalar.addi c0_i32_89 v258
  let c1_i32_92 : BitVec 32 := 1#32
  let arg14 : BitVec 32 := Scf.iv v259 c1_i32_92 k0_t4
  let v310 : BitVec 32 := Scalar.subi v309 arg14
  let c1_i32_119 : BitVec 32 := 1#32
  let v312 : BitVec 32 := Scalar.subi v310 c1_i32_119
  let c0_i32_120 : BitVec 32 := 0#32
  let v313 : BitVec 32 := Scalar.maxsi v312 c0_i32_120
  let c512_i32_164 : BitVec 32 := 512#32
  let v470 : BitVec 32 := Scalar.muli v313 c512_i32_164
  v470
def k0_mult22 : BitVec 32 :=
  let c0_i32_95 : BitVec 32 := 0#32
  c0_i32_95
def k0_off26 (i : grid0.Coords) : Fin 4 → Nat :=
  let arg1 : BitVec 32 := BitVec.ofNat 32 (i 1).val
  let c1_i32 : BitVec 32 := 1#32
  let v0 : BitVec 32 := Scalar.addi arg1 c1_i32
  let c1_i32_93 : BitVec 32 := 1#32
  let v262 : BitVec 32 := Scalar.subi v0 c1_i32_93
  let c1_i32_94 : BitVec 32 := 1#32
  let v263 : BitVec 32 := Scalar.andi v262 c1_i32_94
  let v269 : Index := Scalar.indexCast v263
  let c0_97 : Index := 0#32
  let c0_98 : Index := 0#32
  let c0_99 : Index := 0#32
  ![v269.toNat, 0, 0, 0]
def k0_cond4 (i : grid0.Coords) : BitVec 1 :=
  let arg0 : BitVec 32 := BitVec.ofNat 32 (i 0).val
  let c2_i32 : BitVec 32 := 2#32
  let v12 : BitVec 1 := Scalar.cmpi .eq arg0 c2_i32
  let v13 : BitVec 32 := Scalar.extui v12
  let c0_i32_6 : BitVec 32 := 0#32
  let v14 : BitVec 1 := Scalar.cmpi .ne v13 c0_i32_6
  v14

def k0_mult23 (i : grid0.Coords) : BitVec 32 :=
  let arg1 : BitVec 32 := BitVec.ofNat 32 (i 1).val
  let c1_i32 : BitVec 32 := 1#32
  let v0 : BitVec 32 := Scalar.addi arg1 c1_i32
  let c1_i32_43 : BitVec 32 := 1#32
  let v113 : BitVec 32 := Scalar.subi v0 c1_i32_43
  let c512_i32 : BitVec 32 := 512#32
  let v114 : BitVec 32 := Scalar.muli v113 c512_i32
  v114
def k0_off27 (i : grid0.Coords) : Fin 2 → Nat :=
  let arg1 : BitVec 32 := BitVec.ofNat 32 (i 1).val
  let c1_i32 : BitVec 32 := 1#32
  let v0 : BitVec 32 := Scalar.addi arg1 c1_i32
  let c1_i32_43 : BitVec 32 := 1#32
  let v113 : BitVec 32 := Scalar.subi v0 c1_i32_43
  let c512_i32 : BitVec 32 := 512#32
  let v114 : BitVec 32 := Scalar.muli v113 c512_i32
  let v115 : BitVec 32 := v114
  let v116 : Index := Scalar.indexCast v115
  let c0_44 : Index := 0#32
  ![v116.toNat, 0]
def k0_mult24 (i : grid0.Coords) : BitVec 32 :=
  let arg1 : BitVec 32 := BitVec.ofNat 32 (i 1).val
  let c1_i32 : BitVec 32 := 1#32
  let v0 : BitVec 32 := Scalar.addi arg1 c1_i32
  let c1_i32_46 : BitVec 32 := 1#32
  let v121 : BitVec 32 := Scalar.subi v0 c1_i32_46
  let c512_i32_47 : BitVec 32 := 512#32
  let v122 : BitVec 32 := Scalar.muli v121 c512_i32_47
  v122
def k0_mult25 (i : grid0.Coords) : BitVec 32 :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_50 : BitVec 32 := 512#32
  let v129 : BitVec 32 := Scalar.muli v112 c512_i32_50
  v129
def k0_off28 (i : grid0.Coords) : Fin 2 → Nat :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_50 : BitVec 32 := 512#32
  let v129 : BitVec 32 := Scalar.muli v112 c512_i32_50
  let v130 : BitVec 32 := v129
  let v131 : Index := Scalar.indexCast v130
  let c0_51 : Index := 0#32
  ![v131.toNat, 0]
def k0_mult26 (i : grid0.Coords) : BitVec 32 :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_57 : BitVec 32 := 512#32
  let v139 : BitVec 32 := Scalar.muli v112 c512_i32_57
  v139
@[reducible] def k0_t5_loop (i : grid0.Coords) : Scf.Loop 32 :=
  let c0_i32_91 : BitVec 32 := 0#32
  let arg1 : BitVec 32 := BitVec.ofNat 32 (i 1).val
  let c1_i32 : BitVec 32 := 1#32
  let v0 : BitVec 32 := Scalar.addi arg1 c1_i32
  let c1_i32_89 : BitVec 32 := 1#32
  let v279 : BitVec 32 := Scalar.subi v0 c1_i32_89
  let v281 : BitVec 32 := Scalar.subi v279 c0_i32_91
  let c1_i32_92 : BitVec 32 := 1#32
  let v283 : BitVec 32 := Scalar.divsi v281 c1_i32_92
  let v284 : BitVec 32 := Scalar.muli v283 c1_i32_92
  let v285 : BitVec 32 := Scalar.addi c0_i32_91 v284
  let c1_i32_93 : BitVec 32 := 1#32
  ⟨c0_i32_91, v285, c1_i32_93⟩
def k0_mult27 (i : grid0.Coords) (k0_t5 : Fin (k0_t5_loop i).trips) : BitVec 32 :=
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_93 : BitVec 32 := 1#32
  let arg14 : BitVec 32 := Scf.iv c0_i32_91 c1_i32_93 k0_t5
  let v336 : BitVec 32 := Scalar.subi v335 arg14
  let c1_i32_123 : BitVec 32 := 1#32
  let v340 : BitVec 32 := Scalar.addi v336 c1_i32_123
  let c512_i32_124 : BitVec 32 := 512#32
  let v341 : BitVec 32 := Scalar.muli v340 c512_i32_124
  v341
def k0_off29 (i : grid0.Coords) (k0_t5 : Fin (k0_t5_loop i).trips) : Fin 2 → Nat :=
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_93 : BitVec 32 := 1#32
  let arg14 : BitVec 32 := Scf.iv c0_i32_91 c1_i32_93 k0_t5
  let v336 : BitVec 32 := Scalar.subi v335 arg14
  let c1_i32_123 : BitVec 32 := 1#32
  let v340 : BitVec 32 := Scalar.addi v336 c1_i32_123
  let c512_i32_124 : BitVec 32 := 512#32
  let v341 : BitVec 32 := Scalar.muli v340 c512_i32_124
  let v342 : BitVec 32 := v341
  let v343 : Index := Scalar.indexCast v342
  let c0_125 : Index := 0#32
  ![v343.toNat, 0]
def k0_off30 (i : grid0.Coords) (k0_t5 : Fin (k0_t5_loop i).trips) : Fin 4 → Nat :=
  let c0_i32_91 : BitVec 32 := 0#32
  let c1_i32_93 : BitVec 32 := 1#32
  let arg14 : BitVec 32 := Scf.iv c0_i32_91 c1_i32_93 k0_t5
  let c1_i32_120 : BitVec 32 := 1#32
  let v337 : BitVec 32 := Scalar.andi arg14 c1_i32_120
  let v347 : Index := Scalar.indexCast v337
  let c0_126 : Index := 0#32
  let c0_127 : Index := 0#32
  let c0_128 : Index := 0#32
  ![v347.toNat, 0, 0, 0]
def k0_off31 (i : grid0.Coords) (k0_t5 : Fin (k0_t5_loop i).trips) : Fin 2 → Nat :=
  let c0_139 : Index := 0#32
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_93 : BitVec 32 := 1#32
  let arg14 : BitVec 32 := Scf.iv c0_i32_91 c1_i32_93 k0_t5
  let v336 : BitVec 32 := Scalar.subi v335 arg14
  let c1_i32_123 : BitVec 32 := 1#32
  let v340 : BitVec 32 := Scalar.addi v336 c1_i32_123
  let c512_i32_124 : BitVec 32 := 512#32
  let v341 : BitVec 32 := Scalar.muli v340 c512_i32_124
  let v342 : BitVec 32 := v341
  let v372 : Index := Scalar.indexCast v342
  ![0, v372.toNat]
def k0_mult28 (i : grid0.Coords) (k0_t5 : Fin (k0_t5_loop i).trips) : BitVec 32 :=
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_93 : BitVec 32 := 1#32
  let arg14 : BitVec 32 := Scf.iv c0_i32_91 c1_i32_93 k0_t5
  let v336 : BitVec 32 := Scalar.subi v335 arg14
  let c1_i32_121 : BitVec 32 := 1#32
  let v338 : BitVec 32 := Scalar.subi v336 c1_i32_121
  let c0_i32_122 : BitVec 32 := 0#32
  let v339 : BitVec 32 := Scalar.maxsi v338 c0_i32_122
  let c512_i32_151 : BitVec 32 := 512#32
  let v421 : BitVec 32 := Scalar.muli v339 c512_i32_151
  v421
def k0_off32 (i : grid0.Coords) (k0_t5 : Fin (k0_t5_loop i).trips) : Fin 2 → Nat :=
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_93 : BitVec 32 := 1#32
  let arg14 : BitVec 32 := Scf.iv c0_i32_91 c1_i32_93 k0_t5
  let v336 : BitVec 32 := Scalar.subi v335 arg14
  let c1_i32_121 : BitVec 32 := 1#32
  let v338 : BitVec 32 := Scalar.subi v336 c1_i32_121
  let c0_i32_122 : BitVec 32 := 0#32
  let v339 : BitVec 32 := Scalar.maxsi v338 c0_i32_122
  let c512_i32_151 : BitVec 32 := 512#32
  let v421 : BitVec 32 := Scalar.muli v339 c512_i32_151
  let v422 : BitVec 32 := v421
  let v423 : Index := Scalar.indexCast v422
  let c0_152 : Index := 0#32
  ![v423.toNat, 0]
def k0_off33 (i : grid0.Coords) (k0_t5 : Fin (k0_t5_loop i).trips) : Fin 4 → Nat :=
  let c1_i32_150 : BitVec 32 := 1#32
  let c0_i32_91 : BitVec 32 := 0#32
  let c1_i32_93 : BitVec 32 := 1#32
  let arg14 : BitVec 32 := Scf.iv c0_i32_91 c1_i32_93 k0_t5
  let c1_i32_120 : BitVec 32 := 1#32
  let v337 : BitVec 32 := Scalar.andi arg14 c1_i32_120
  let v420 : BitVec 32 := Scalar.subi c1_i32_150 v337
  let v428 : Index := Scalar.indexCast v420
  let c0_154 : Index := 0#32
  let c0_155 : Index := 0#32
  let c0_156 : Index := 0#32
  ![v428.toNat, 0, 0, 0]
def k0_mult29 (i : grid0.Coords) (k0_t5 : Fin (k0_t5_loop i).trips) : BitVec 32 :=
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_93 : BitVec 32 := 1#32
  let arg14 : BitVec 32 := Scf.iv c0_i32_91 c1_i32_93 k0_t5
  let v336 : BitVec 32 := Scalar.subi v335 arg14
  let c1_i32_121 : BitVec 32 := 1#32
  let v338 : BitVec 32 := Scalar.subi v336 c1_i32_121
  let c0_i32_122 : BitVec 32 := 0#32
  let v339 : BitVec 32 := Scalar.maxsi v338 c0_i32_122
  let c512_i32_166 : BitVec 32 := 512#32
  let v496 : BitVec 32 := Scalar.muli v339 c512_i32_166
  v496
@[reducible] def k0_t6_loop (i : grid0.Coords) : Scf.Loop 32 :=
  let c0_i32_91 : BitVec 32 := 0#32
  let arg1 : BitVec 32 := BitVec.ofNat 32 (i 1).val
  let c1_i32 : BitVec 32 := 1#32
  let v0 : BitVec 32 := Scalar.addi arg1 c1_i32
  let c1_i32_89 : BitVec 32 := 1#32
  let v279 : BitVec 32 := Scalar.subi v0 c1_i32_89
  let v281 : BitVec 32 := Scalar.subi v279 c0_i32_91
  let c1_i32_92 : BitVec 32 := 1#32
  let v283 : BitVec 32 := Scalar.divsi v281 c1_i32_92
  let v284 : BitVec 32 := Scalar.muli v283 c1_i32_92
  let v285 : BitVec 32 := Scalar.addi c0_i32_91 v284
  let v282 : BitVec 32 := Scalar.addi c0_i32_91 v281
  let c1_i32_94 : BitVec 32 := 1#32
  ⟨v285, v282, c1_i32_94⟩
def k0_mult30 (i : grid0.Coords) (k0_t6 : Fin (k0_t6_loop i).trips) : BitVec 32 :=
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_89 : BitVec 32 := 1#32
  let v279 : BitVec 32 := Scalar.subi v0 c1_i32_89
  let v281 : BitVec 32 := Scalar.subi v279 c0_i32_91
  let c1_i32_92 : BitVec 32 := 1#32
  let v283 : BitVec 32 := Scalar.divsi v281 c1_i32_92
  let v284 : BitVec 32 := Scalar.muli v283 c1_i32_92
  let v285 : BitVec 32 := Scalar.addi c0_i32_91 v284
  let c1_i32_94 : BitVec 32 := 1#32
  let arg14 : BitVec 32 := Scf.iv v285 c1_i32_94 k0_t6
  let v336 : BitVec 32 := Scalar.subi v335 arg14
  let c1_i32_123 : BitVec 32 := 1#32
  let v340 : BitVec 32 := Scalar.addi v336 c1_i32_123
  let c512_i32_124 : BitVec 32 := 512#32
  let v341 : BitVec 32 := Scalar.muli v340 c512_i32_124
  v341
def k0_off34 (i : grid0.Coords) (k0_t6 : Fin (k0_t6_loop i).trips) : Fin 2 → Nat :=
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_89 : BitVec 32 := 1#32
  let v279 : BitVec 32 := Scalar.subi v0 c1_i32_89
  let v281 : BitVec 32 := Scalar.subi v279 c0_i32_91
  let c1_i32_92 : BitVec 32 := 1#32
  let v283 : BitVec 32 := Scalar.divsi v281 c1_i32_92
  let v284 : BitVec 32 := Scalar.muli v283 c1_i32_92
  let v285 : BitVec 32 := Scalar.addi c0_i32_91 v284
  let c1_i32_94 : BitVec 32 := 1#32
  let arg14 : BitVec 32 := Scf.iv v285 c1_i32_94 k0_t6
  let v336 : BitVec 32 := Scalar.subi v335 arg14
  let c1_i32_123 : BitVec 32 := 1#32
  let v340 : BitVec 32 := Scalar.addi v336 c1_i32_123
  let c512_i32_124 : BitVec 32 := 512#32
  let v341 : BitVec 32 := Scalar.muli v340 c512_i32_124
  let v342 : BitVec 32 := v341
  let v343 : Index := Scalar.indexCast v342
  let c0_125 : Index := 0#32
  ![v343.toNat, 0]
def k0_off35 (i : grid0.Coords) (k0_t6 : Fin (k0_t6_loop i).trips) : Fin 4 → Nat :=
  let c0_i32_91 : BitVec 32 := 0#32
  let arg1 : BitVec 32 := BitVec.ofNat 32 (i 1).val
  let c1_i32 : BitVec 32 := 1#32
  let v0 : BitVec 32 := Scalar.addi arg1 c1_i32
  let c1_i32_89 : BitVec 32 := 1#32
  let v279 : BitVec 32 := Scalar.subi v0 c1_i32_89
  let v281 : BitVec 32 := Scalar.subi v279 c0_i32_91
  let c1_i32_92 : BitVec 32 := 1#32
  let v283 : BitVec 32 := Scalar.divsi v281 c1_i32_92
  let v284 : BitVec 32 := Scalar.muli v283 c1_i32_92
  let v285 : BitVec 32 := Scalar.addi c0_i32_91 v284
  let c1_i32_94 : BitVec 32 := 1#32
  let arg14 : BitVec 32 := Scf.iv v285 c1_i32_94 k0_t6
  let c1_i32_120 : BitVec 32 := 1#32
  let v337 : BitVec 32 := Scalar.andi arg14 c1_i32_120
  let v347 : Index := Scalar.indexCast v337
  let c0_126 : Index := 0#32
  let c0_127 : Index := 0#32
  let c0_128 : Index := 0#32
  ![v347.toNat, 0, 0, 0]
def k0_off36 (i : grid0.Coords) (k0_t6 : Fin (k0_t6_loop i).trips) : Fin 2 → Nat :=
  let c0_139 : Index := 0#32
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_89 : BitVec 32 := 1#32
  let v279 : BitVec 32 := Scalar.subi v0 c1_i32_89
  let v281 : BitVec 32 := Scalar.subi v279 c0_i32_91
  let c1_i32_92 : BitVec 32 := 1#32
  let v283 : BitVec 32 := Scalar.divsi v281 c1_i32_92
  let v284 : BitVec 32 := Scalar.muli v283 c1_i32_92
  let v285 : BitVec 32 := Scalar.addi c0_i32_91 v284
  let c1_i32_94 : BitVec 32 := 1#32
  let arg14 : BitVec 32 := Scf.iv v285 c1_i32_94 k0_t6
  let v336 : BitVec 32 := Scalar.subi v335 arg14
  let c1_i32_123 : BitVec 32 := 1#32
  let v340 : BitVec 32 := Scalar.addi v336 c1_i32_123
  let c512_i32_124 : BitVec 32 := 512#32
  let v341 : BitVec 32 := Scalar.muli v340 c512_i32_124
  let v342 : BitVec 32 := v341
  let v372 : Index := Scalar.indexCast v342
  ![0, v372.toNat]
def k0_mult31 (i : grid0.Coords) (k0_t6 : Fin (k0_t6_loop i).trips) : BitVec 32 :=
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_89 : BitVec 32 := 1#32
  let v279 : BitVec 32 := Scalar.subi v0 c1_i32_89
  let v281 : BitVec 32 := Scalar.subi v279 c0_i32_91
  let c1_i32_92 : BitVec 32 := 1#32
  let v283 : BitVec 32 := Scalar.divsi v281 c1_i32_92
  let v284 : BitVec 32 := Scalar.muli v283 c1_i32_92
  let v285 : BitVec 32 := Scalar.addi c0_i32_91 v284
  let c1_i32_94 : BitVec 32 := 1#32
  let arg14 : BitVec 32 := Scf.iv v285 c1_i32_94 k0_t6
  let v336 : BitVec 32 := Scalar.subi v335 arg14
  let c1_i32_121 : BitVec 32 := 1#32
  let v338 : BitVec 32 := Scalar.subi v336 c1_i32_121
  let c0_i32_122 : BitVec 32 := 0#32
  let v339 : BitVec 32 := Scalar.maxsi v338 c0_i32_122
  let c512_i32_151 : BitVec 32 := 512#32
  let v421 : BitVec 32 := Scalar.muli v339 c512_i32_151
  v421
def k0_off37 (i : grid0.Coords) (k0_t6 : Fin (k0_t6_loop i).trips) : Fin 2 → Nat :=
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_89 : BitVec 32 := 1#32
  let v279 : BitVec 32 := Scalar.subi v0 c1_i32_89
  let v281 : BitVec 32 := Scalar.subi v279 c0_i32_91
  let c1_i32_92 : BitVec 32 := 1#32
  let v283 : BitVec 32 := Scalar.divsi v281 c1_i32_92
  let v284 : BitVec 32 := Scalar.muli v283 c1_i32_92
  let v285 : BitVec 32 := Scalar.addi c0_i32_91 v284
  let c1_i32_94 : BitVec 32 := 1#32
  let arg14 : BitVec 32 := Scf.iv v285 c1_i32_94 k0_t6
  let v336 : BitVec 32 := Scalar.subi v335 arg14
  let c1_i32_121 : BitVec 32 := 1#32
  let v338 : BitVec 32 := Scalar.subi v336 c1_i32_121
  let c0_i32_122 : BitVec 32 := 0#32
  let v339 : BitVec 32 := Scalar.maxsi v338 c0_i32_122
  let c512_i32_151 : BitVec 32 := 512#32
  let v421 : BitVec 32 := Scalar.muli v339 c512_i32_151
  let v422 : BitVec 32 := v421
  let v423 : Index := Scalar.indexCast v422
  let c0_152 : Index := 0#32
  ![v423.toNat, 0]
def k0_off38 (i : grid0.Coords) (k0_t6 : Fin (k0_t6_loop i).trips) : Fin 4 → Nat :=
  let c1_i32_150 : BitVec 32 := 1#32
  let c0_i32_91 : BitVec 32 := 0#32
  let arg1 : BitVec 32 := BitVec.ofNat 32 (i 1).val
  let c1_i32 : BitVec 32 := 1#32
  let v0 : BitVec 32 := Scalar.addi arg1 c1_i32
  let c1_i32_89 : BitVec 32 := 1#32
  let v279 : BitVec 32 := Scalar.subi v0 c1_i32_89
  let v281 : BitVec 32 := Scalar.subi v279 c0_i32_91
  let c1_i32_92 : BitVec 32 := 1#32
  let v283 : BitVec 32 := Scalar.divsi v281 c1_i32_92
  let v284 : BitVec 32 := Scalar.muli v283 c1_i32_92
  let v285 : BitVec 32 := Scalar.addi c0_i32_91 v284
  let c1_i32_94 : BitVec 32 := 1#32
  let arg14 : BitVec 32 := Scf.iv v285 c1_i32_94 k0_t6
  let c1_i32_120 : BitVec 32 := 1#32
  let v337 : BitVec 32 := Scalar.andi arg14 c1_i32_120
  let v420 : BitVec 32 := Scalar.subi c1_i32_150 v337
  let v428 : Index := Scalar.indexCast v420
  let c0_154 : Index := 0#32
  let c0_155 : Index := 0#32
  let c0_156 : Index := 0#32
  ![v428.toNat, 0, 0, 0]
def k0_mult32 (i : grid0.Coords) (k0_t6 : Fin (k0_t6_loop i).trips) : BitVec 32 :=
  let arg1 : BitVec 32 := BitVec.ofNat 32 (i 1).val
  let c1_i32 : BitVec 32 := 1#32
  let v0 : BitVec 32 := Scalar.addi arg1 c1_i32
  let c2_i32_119 : BitVec 32 := 2#32
  let v335 : BitVec 32 := Scalar.subi v0 c2_i32_119
  let c0_i32_91 : BitVec 32 := 0#32
  let c1_i32_89 : BitVec 32 := 1#32
  let v279 : BitVec 32 := Scalar.subi v0 c1_i32_89
  let v281 : BitVec 32 := Scalar.subi v279 c0_i32_91
  let c1_i32_92 : BitVec 32 := 1#32
  let v283 : BitVec 32 := Scalar.divsi v281 c1_i32_92
  let v284 : BitVec 32 := Scalar.muli v283 c1_i32_92
  let v285 : BitVec 32 := Scalar.addi c0_i32_91 v284
  let c1_i32_94 : BitVec 32 := 1#32
  let arg14 : BitVec 32 := Scf.iv v285 c1_i32_94 k0_t6
  let v336 : BitVec 32 := Scalar.subi v335 arg14
  let c1_i32_121 : BitVec 32 := 1#32
  let v338 : BitVec 32 := Scalar.subi v336 c1_i32_121
  let c0_i32_122 : BitVec 32 := 0#32
  let v339 : BitVec 32 := Scalar.maxsi v338 c0_i32_122
  let c512_i32_166 : BitVec 32 := 512#32
  let v496 : BitVec 32 := Scalar.muli v339 c512_i32_166
  v496
def k0_mult33 : BitVec 32 :=
  let c0_i32_97 : BitVec 32 := 0#32
  c0_i32_97
def k0_off39 (i : grid0.Coords) : Fin 4 → Nat :=
  let arg1 : BitVec 32 := BitVec.ofNat 32 (i 1).val
  let c1_i32 : BitVec 32 := 1#32
  let v0 : BitVec 32 := Scalar.addi arg1 c1_i32
  let c1_i32_95 : BitVec 32 := 1#32
  let v288 : BitVec 32 := Scalar.subi v0 c1_i32_95
  let c1_i32_96 : BitVec 32 := 1#32
  let v289 : BitVec 32 := Scalar.andi v288 c1_i32_96
  let v295 : Index := Scalar.indexCast v289
  let c0_99 : Index := 0#32
  let c0_100 : Index := 0#32
  let c0_101 : Index := 0#32
  ![v295.toNat, 0, 0, 0]
def k0_cond5 (i : grid0.Coords) : BitVec 1 :=
  let arg0 : BitVec 32 := BitVec.ofNat 32 (i 0).val
  let c3_i32 : BitVec 32 := 3#32
  let v15 : BitVec 1 := Scalar.cmpi .eq arg0 c3_i32
  let v16 : BitVec 32 := Scalar.extui v15
  let c0_i32_7 : BitVec 32 := 0#32
  let v17 : BitVec 1 := Scalar.cmpi .ne v16 c0_i32_7
  v17

def k0_mult34 (i : grid0.Coords) : BitVec 32 :=
  let arg1 : BitVec 32 := BitVec.ofNat 32 (i 1).val
  let c1_i32 : BitVec 32 := 1#32
  let v0 : BitVec 32 := Scalar.addi arg1 c1_i32
  let c1_i32_43 : BitVec 32 := 1#32
  let v113 : BitVec 32 := Scalar.subi v0 c1_i32_43
  let c512_i32 : BitVec 32 := 512#32
  let v114 : BitVec 32 := Scalar.muli v113 c512_i32
  v114
def k0_off40 (i : grid0.Coords) : Fin 2 → Nat :=
  let arg1 : BitVec 32 := BitVec.ofNat 32 (i 1).val
  let c1_i32 : BitVec 32 := 1#32
  let v0 : BitVec 32 := Scalar.addi arg1 c1_i32
  let c1_i32_43 : BitVec 32 := 1#32
  let v113 : BitVec 32 := Scalar.subi v0 c1_i32_43
  let c512_i32 : BitVec 32 := 512#32
  let v114 : BitVec 32 := Scalar.muli v113 c512_i32
  let v115 : BitVec 32 := v114
  let v116 : Index := Scalar.indexCast v115
  let c0_44 : Index := 0#32
  ![v116.toNat, 0]
def k0_mult35 (i : grid0.Coords) : BitVec 32 :=
  let arg1 : BitVec 32 := BitVec.ofNat 32 (i 1).val
  let c1_i32 : BitVec 32 := 1#32
  let v0 : BitVec 32 := Scalar.addi arg1 c1_i32
  let c1_i32_46 : BitVec 32 := 1#32
  let v121 : BitVec 32 := Scalar.subi v0 c1_i32_46
  let c512_i32_47 : BitVec 32 := 512#32
  let v122 : BitVec 32 := Scalar.muli v121 c512_i32_47
  v122
def k0_mult36 (i : grid0.Coords) : BitVec 32 :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_50 : BitVec 32 := 512#32
  let v129 : BitVec 32 := Scalar.muli v112 c512_i32_50
  v129
def k0_off41 (i : grid0.Coords) : Fin 2 → Nat :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_50 : BitVec 32 := 512#32
  let v129 : BitVec 32 := Scalar.muli v112 c512_i32_50
  let v130 : BitVec 32 := v129
  let v131 : Index := Scalar.indexCast v130
  let c0_51 : Index := 0#32
  ![v131.toNat, 0]
def k0_mult37 (i : grid0.Coords) : BitVec 32 :=
  let arg1 : BitVec 32 := BitVec.ofNat 32 (i 1).val
  let c1_i32 : BitVec 32 := 1#32
  let v0 : BitVec 32 := Scalar.addi arg1 c1_i32
  let c2_i32_41 : BitVec 32 := 2#32
  let v111 : BitVec 32 := Scalar.subi v0 c2_i32_41
  let c0_i32_42 : BitVec 32 := 0#32
  let v112 : BitVec 32 := Scalar.maxsi v111 c0_i32_42
  let c512_i32_57 : BitVec 32 := 512#32
  let v139 : BitVec 32 := Scalar.muli v112 c512_i32_57
  v139
@[reducible] def k0_t7_loop (i : grid0.Coords) : Scf.Loop 32 :=
  let c0_i32_90 : BitVec 32 := 0#32
  let arg1 : BitVec 32 := BitVec.ofNat 32 (i 1).val
  let c1_i32 : BitVec 32 := 1#32
  let v0 : BitVec 32 := Scalar.addi arg1 c1_i32
  let c1_i32_88 : BitVec 32 := 1#32
  let v301 : BitVec 32 := Scalar.subi v0 c1_i32_88
  let v303 : BitVec 32 := Scalar.subi v301 c0_i32_90
  let c1_i32_91 : BitVec 32 := 1#32
  let v305 : BitVec 32 := Scalar.divsi v303 c1_i32_91
  let v306 : BitVec 32 := Scalar.muli v305 c1_i32_91
  let v307 : BitVec 32 := Scalar.addi c0_i32_90 v306
  let c1_i32_92 : BitVec 32 := 1#32
  ⟨c0_i32_90, v307, c1_i32_92⟩
def k0_mult38 (i : grid0.Coords) (k0_t7 : Fin (k0_t7_loop i).trips) : BitVec 32 :=
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_92 : BitVec 32 := 1#32
  let arg14 : BitVec 32 := Scf.iv c0_i32_90 c1_i32_92 k0_t7
  let v358 : BitVec 32 := Scalar.subi v357 arg14
  let c1_i32_122 : BitVec 32 := 1#32
  let v362 : BitVec 32 := Scalar.addi v358 c1_i32_122
  let c512_i32_123 : BitVec 32 := 512#32
  let v363 : BitVec 32 := Scalar.muli v362 c512_i32_123
  v363
def k0_off42 (i : grid0.Coords) (k0_t7 : Fin (k0_t7_loop i).trips) : Fin 2 → Nat :=
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_92 : BitVec 32 := 1#32
  let arg14 : BitVec 32 := Scf.iv c0_i32_90 c1_i32_92 k0_t7
  let v358 : BitVec 32 := Scalar.subi v357 arg14
  let c1_i32_122 : BitVec 32 := 1#32
  let v362 : BitVec 32 := Scalar.addi v358 c1_i32_122
  let c512_i32_123 : BitVec 32 := 512#32
  let v363 : BitVec 32 := Scalar.muli v362 c512_i32_123
  let v364 : BitVec 32 := v363
  let v365 : Index := Scalar.indexCast v364
  let c0_124 : Index := 0#32
  ![v365.toNat, 0]
def k0_off43 (i : grid0.Coords) (k0_t7 : Fin (k0_t7_loop i).trips) : Fin 4 → Nat :=
  let c0_i32_90 : BitVec 32 := 0#32
  let c1_i32_92 : BitVec 32 := 1#32
  let arg14 : BitVec 32 := Scf.iv c0_i32_90 c1_i32_92 k0_t7
  let c1_i32_119 : BitVec 32 := 1#32
  let v359 : BitVec 32 := Scalar.andi arg14 c1_i32_119
  let v369 : Index := Scalar.indexCast v359
  let c0_125 : Index := 0#32
  let c0_126 : Index := 0#32
  let c0_127 : Index := 0#32
  ![v369.toNat, 0, 0, 0]
def k0_off44 (i : grid0.Coords) (k0_t7 : Fin (k0_t7_loop i).trips) : Fin 2 → Nat :=
  let c0_138 : Index := 0#32
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_92 : BitVec 32 := 1#32
  let arg14 : BitVec 32 := Scf.iv c0_i32_90 c1_i32_92 k0_t7
  let v358 : BitVec 32 := Scalar.subi v357 arg14
  let c1_i32_122 : BitVec 32 := 1#32
  let v362 : BitVec 32 := Scalar.addi v358 c1_i32_122
  let c512_i32_123 : BitVec 32 := 512#32
  let v363 : BitVec 32 := Scalar.muli v362 c512_i32_123
  let v364 : BitVec 32 := v363
  let v394 : Index := Scalar.indexCast v364
  ![0, v394.toNat]
def k0_mult39 (i : grid0.Coords) (k0_t7 : Fin (k0_t7_loop i).trips) : BitVec 32 :=
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_92 : BitVec 32 := 1#32
  let arg14 : BitVec 32 := Scf.iv c0_i32_90 c1_i32_92 k0_t7
  let v358 : BitVec 32 := Scalar.subi v357 arg14
  let c1_i32_120 : BitVec 32 := 1#32
  let v360 : BitVec 32 := Scalar.subi v358 c1_i32_120
  let c0_i32_121 : BitVec 32 := 0#32
  let v361 : BitVec 32 := Scalar.maxsi v360 c0_i32_121
  let c512_i32_150 : BitVec 32 := 512#32
  let v443 : BitVec 32 := Scalar.muli v361 c512_i32_150
  v443
def k0_off45 (i : grid0.Coords) (k0_t7 : Fin (k0_t7_loop i).trips) : Fin 2 → Nat :=
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_92 : BitVec 32 := 1#32
  let arg14 : BitVec 32 := Scf.iv c0_i32_90 c1_i32_92 k0_t7
  let v358 : BitVec 32 := Scalar.subi v357 arg14
  let c1_i32_120 : BitVec 32 := 1#32
  let v360 : BitVec 32 := Scalar.subi v358 c1_i32_120
  let c0_i32_121 : BitVec 32 := 0#32
  let v361 : BitVec 32 := Scalar.maxsi v360 c0_i32_121
  let c512_i32_150 : BitVec 32 := 512#32
  let v443 : BitVec 32 := Scalar.muli v361 c512_i32_150
  let v444 : BitVec 32 := v443
  let v445 : Index := Scalar.indexCast v444
  let c0_151 : Index := 0#32
  ![v445.toNat, 0]
def k0_off46 (i : grid0.Coords) (k0_t7 : Fin (k0_t7_loop i).trips) : Fin 4 → Nat :=
  let c1_i32_149 : BitVec 32 := 1#32
  let c0_i32_90 : BitVec 32 := 0#32
  let c1_i32_92 : BitVec 32 := 1#32
  let arg14 : BitVec 32 := Scf.iv c0_i32_90 c1_i32_92 k0_t7
  let c1_i32_119 : BitVec 32 := 1#32
  let v359 : BitVec 32 := Scalar.andi arg14 c1_i32_119
  let v442 : BitVec 32 := Scalar.subi c1_i32_149 v359
  let v450 : Index := Scalar.indexCast v442
  let c0_153 : Index := 0#32
  let c0_154 : Index := 0#32
  let c0_155 : Index := 0#32
  ![v450.toNat, 0, 0, 0]
def k0_mult40 (i : grid0.Coords) (k0_t7 : Fin (k0_t7_loop i).trips) : BitVec 32 :=
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_92 : BitVec 32 := 1#32
  let arg14 : BitVec 32 := Scf.iv c0_i32_90 c1_i32_92 k0_t7
  let v358 : BitVec 32 := Scalar.subi v357 arg14
  let c1_i32_120 : BitVec 32 := 1#32
  let v360 : BitVec 32 := Scalar.subi v358 c1_i32_120
  let c0_i32_121 : BitVec 32 := 0#32
  let v361 : BitVec 32 := Scalar.maxsi v360 c0_i32_121
  let c512_i32_165 : BitVec 32 := 512#32
  let v518 : BitVec 32 := Scalar.muli v361 c512_i32_165
  v518
@[reducible] def k0_t8_loop (i : grid0.Coords) : Scf.Loop 32 :=
  let c0_i32_90 : BitVec 32 := 0#32
  let arg1 : BitVec 32 := BitVec.ofNat 32 (i 1).val
  let c1_i32 : BitVec 32 := 1#32
  let v0 : BitVec 32 := Scalar.addi arg1 c1_i32
  let c1_i32_88 : BitVec 32 := 1#32
  let v301 : BitVec 32 := Scalar.subi v0 c1_i32_88
  let v303 : BitVec 32 := Scalar.subi v301 c0_i32_90
  let c1_i32_91 : BitVec 32 := 1#32
  let v305 : BitVec 32 := Scalar.divsi v303 c1_i32_91
  let v306 : BitVec 32 := Scalar.muli v305 c1_i32_91
  let v307 : BitVec 32 := Scalar.addi c0_i32_90 v306
  let v304 : BitVec 32 := Scalar.addi c0_i32_90 v303
  let c1_i32_93 : BitVec 32 := 1#32
  ⟨v307, v304, c1_i32_93⟩
def k0_mult41 (i : grid0.Coords) (k0_t8 : Fin (k0_t8_loop i).trips) : BitVec 32 :=
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_88 : BitVec 32 := 1#32
  let v301 : BitVec 32 := Scalar.subi v0 c1_i32_88
  let v303 : BitVec 32 := Scalar.subi v301 c0_i32_90
  let c1_i32_91 : BitVec 32 := 1#32
  let v305 : BitVec 32 := Scalar.divsi v303 c1_i32_91
  let v306 : BitVec 32 := Scalar.muli v305 c1_i32_91
  let v307 : BitVec 32 := Scalar.addi c0_i32_90 v306
  let c1_i32_93 : BitVec 32 := 1#32
  let arg14 : BitVec 32 := Scf.iv v307 c1_i32_93 k0_t8
  let v358 : BitVec 32 := Scalar.subi v357 arg14
  let c1_i32_122 : BitVec 32 := 1#32
  let v362 : BitVec 32 := Scalar.addi v358 c1_i32_122
  let c512_i32_123 : BitVec 32 := 512#32
  let v363 : BitVec 32 := Scalar.muli v362 c512_i32_123
  v363
def k0_off47 (i : grid0.Coords) (k0_t8 : Fin (k0_t8_loop i).trips) : Fin 2 → Nat :=
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_88 : BitVec 32 := 1#32
  let v301 : BitVec 32 := Scalar.subi v0 c1_i32_88
  let v303 : BitVec 32 := Scalar.subi v301 c0_i32_90
  let c1_i32_91 : BitVec 32 := 1#32
  let v305 : BitVec 32 := Scalar.divsi v303 c1_i32_91
  let v306 : BitVec 32 := Scalar.muli v305 c1_i32_91
  let v307 : BitVec 32 := Scalar.addi c0_i32_90 v306
  let c1_i32_93 : BitVec 32 := 1#32
  let arg14 : BitVec 32 := Scf.iv v307 c1_i32_93 k0_t8
  let v358 : BitVec 32 := Scalar.subi v357 arg14
  let c1_i32_122 : BitVec 32 := 1#32
  let v362 : BitVec 32 := Scalar.addi v358 c1_i32_122
  let c512_i32_123 : BitVec 32 := 512#32
  let v363 : BitVec 32 := Scalar.muli v362 c512_i32_123
  let v364 : BitVec 32 := v363
  let v365 : Index := Scalar.indexCast v364
  let c0_124 : Index := 0#32
  ![v365.toNat, 0]
def k0_off48 (i : grid0.Coords) (k0_t8 : Fin (k0_t8_loop i).trips) : Fin 4 → Nat :=
  let c0_i32_90 : BitVec 32 := 0#32
  let arg1 : BitVec 32 := BitVec.ofNat 32 (i 1).val
  let c1_i32 : BitVec 32 := 1#32
  let v0 : BitVec 32 := Scalar.addi arg1 c1_i32
  let c1_i32_88 : BitVec 32 := 1#32
  let v301 : BitVec 32 := Scalar.subi v0 c1_i32_88
  let v303 : BitVec 32 := Scalar.subi v301 c0_i32_90
  let c1_i32_91 : BitVec 32 := 1#32
  let v305 : BitVec 32 := Scalar.divsi v303 c1_i32_91
  let v306 : BitVec 32 := Scalar.muli v305 c1_i32_91
  let v307 : BitVec 32 := Scalar.addi c0_i32_90 v306
  let c1_i32_93 : BitVec 32 := 1#32
  let arg14 : BitVec 32 := Scf.iv v307 c1_i32_93 k0_t8
  let c1_i32_119 : BitVec 32 := 1#32
  let v359 : BitVec 32 := Scalar.andi arg14 c1_i32_119
  let v369 : Index := Scalar.indexCast v359
  let c0_125 : Index := 0#32
  let c0_126 : Index := 0#32
  let c0_127 : Index := 0#32
  ![v369.toNat, 0, 0, 0]
def k0_off49 (i : grid0.Coords) (k0_t8 : Fin (k0_t8_loop i).trips) : Fin 2 → Nat :=
  let c0_138 : Index := 0#32
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_88 : BitVec 32 := 1#32
  let v301 : BitVec 32 := Scalar.subi v0 c1_i32_88
  let v303 : BitVec 32 := Scalar.subi v301 c0_i32_90
  let c1_i32_91 : BitVec 32 := 1#32
  let v305 : BitVec 32 := Scalar.divsi v303 c1_i32_91
  let v306 : BitVec 32 := Scalar.muli v305 c1_i32_91
  let v307 : BitVec 32 := Scalar.addi c0_i32_90 v306
  let c1_i32_93 : BitVec 32 := 1#32
  let arg14 : BitVec 32 := Scf.iv v307 c1_i32_93 k0_t8
  let v358 : BitVec 32 := Scalar.subi v357 arg14
  let c1_i32_122 : BitVec 32 := 1#32
  let v362 : BitVec 32 := Scalar.addi v358 c1_i32_122
  let c512_i32_123 : BitVec 32 := 512#32
  let v363 : BitVec 32 := Scalar.muli v362 c512_i32_123
  let v364 : BitVec 32 := v363
  let v394 : Index := Scalar.indexCast v364
  ![0, v394.toNat]
def k0_mult42 (i : grid0.Coords) (k0_t8 : Fin (k0_t8_loop i).trips) : BitVec 32 :=
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_88 : BitVec 32 := 1#32
  let v301 : BitVec 32 := Scalar.subi v0 c1_i32_88
  let v303 : BitVec 32 := Scalar.subi v301 c0_i32_90
  let c1_i32_91 : BitVec 32 := 1#32
  let v305 : BitVec 32 := Scalar.divsi v303 c1_i32_91
  let v306 : BitVec 32 := Scalar.muli v305 c1_i32_91
  let v307 : BitVec 32 := Scalar.addi c0_i32_90 v306
  let c1_i32_93 : BitVec 32 := 1#32
  let arg14 : BitVec 32 := Scf.iv v307 c1_i32_93 k0_t8
  let v358 : BitVec 32 := Scalar.subi v357 arg14
  let c1_i32_120 : BitVec 32 := 1#32
  let v360 : BitVec 32 := Scalar.subi v358 c1_i32_120
  let c0_i32_121 : BitVec 32 := 0#32
  let v361 : BitVec 32 := Scalar.maxsi v360 c0_i32_121
  let c512_i32_150 : BitVec 32 := 512#32
  let v443 : BitVec 32 := Scalar.muli v361 c512_i32_150
  v443
def k0_off50 (i : grid0.Coords) (k0_t8 : Fin (k0_t8_loop i).trips) : Fin 2 → Nat :=
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_88 : BitVec 32 := 1#32
  let v301 : BitVec 32 := Scalar.subi v0 c1_i32_88
  let v303 : BitVec 32 := Scalar.subi v301 c0_i32_90
  let c1_i32_91 : BitVec 32 := 1#32
  let v305 : BitVec 32 := Scalar.divsi v303 c1_i32_91
  let v306 : BitVec 32 := Scalar.muli v305 c1_i32_91
  let v307 : BitVec 32 := Scalar.addi c0_i32_90 v306
  let c1_i32_93 : BitVec 32 := 1#32
  let arg14 : BitVec 32 := Scf.iv v307 c1_i32_93 k0_t8
  let v358 : BitVec 32 := Scalar.subi v357 arg14
  let c1_i32_120 : BitVec 32 := 1#32
  let v360 : BitVec 32 := Scalar.subi v358 c1_i32_120
  let c0_i32_121 : BitVec 32 := 0#32
  let v361 : BitVec 32 := Scalar.maxsi v360 c0_i32_121
  let c512_i32_150 : BitVec 32 := 512#32
  let v443 : BitVec 32 := Scalar.muli v361 c512_i32_150
  let v444 : BitVec 32 := v443
  let v445 : Index := Scalar.indexCast v444
  let c0_151 : Index := 0#32
  ![v445.toNat, 0]
def k0_off51 (i : grid0.Coords) (k0_t8 : Fin (k0_t8_loop i).trips) : Fin 4 → Nat :=
  let c1_i32_149 : BitVec 32 := 1#32
  let c0_i32_90 : BitVec 32 := 0#32
  let arg1 : BitVec 32 := BitVec.ofNat 32 (i 1).val
  let c1_i32 : BitVec 32 := 1#32
  let v0 : BitVec 32 := Scalar.addi arg1 c1_i32
  let c1_i32_88 : BitVec 32 := 1#32
  let v301 : BitVec 32 := Scalar.subi v0 c1_i32_88
  let v303 : BitVec 32 := Scalar.subi v301 c0_i32_90
  let c1_i32_91 : BitVec 32 := 1#32
  let v305 : BitVec 32 := Scalar.divsi v303 c1_i32_91
  let v306 : BitVec 32 := Scalar.muli v305 c1_i32_91
  let v307 : BitVec 32 := Scalar.addi c0_i32_90 v306
  let c1_i32_93 : BitVec 32 := 1#32
  let arg14 : BitVec 32 := Scf.iv v307 c1_i32_93 k0_t8
  let c1_i32_119 : BitVec 32 := 1#32
  let v359 : BitVec 32 := Scalar.andi arg14 c1_i32_119
  let v442 : BitVec 32 := Scalar.subi c1_i32_149 v359
  let v450 : Index := Scalar.indexCast v442
  let c0_153 : Index := 0#32
  let c0_154 : Index := 0#32
  let c0_155 : Index := 0#32
  ![v450.toNat, 0, 0, 0]
def k0_mult43 (i : grid0.Coords) (k0_t8 : Fin (k0_t8_loop i).trips) : BitVec 32 :=
  let arg1 : BitVec 32 := BitVec.ofNat 32 (i 1).val
  let c1_i32 : BitVec 32 := 1#32
  let v0 : BitVec 32 := Scalar.addi arg1 c1_i32
  let c2_i32_118 : BitVec 32 := 2#32
  let v357 : BitVec 32 := Scalar.subi v0 c2_i32_118
  let c0_i32_90 : BitVec 32 := 0#32
  let c1_i32_88 : BitVec 32 := 1#32
  let v301 : BitVec 32 := Scalar.subi v0 c1_i32_88
  let v303 : BitVec 32 := Scalar.subi v301 c0_i32_90
  let c1_i32_91 : BitVec 32 := 1#32
  let v305 : BitVec 32 := Scalar.divsi v303 c1_i32_91
  let v306 : BitVec 32 := Scalar.muli v305 c1_i32_91
  let v307 : BitVec 32 := Scalar.addi c0_i32_90 v306
  let c1_i32_93 : BitVec 32 := 1#32
  let arg14 : BitVec 32 := Scf.iv v307 c1_i32_93 k0_t8
  let v358 : BitVec 32 := Scalar.subi v357 arg14
  let c1_i32_120 : BitVec 32 := 1#32
  let v360 : BitVec 32 := Scalar.subi v358 c1_i32_120
  let c0_i32_121 : BitVec 32 := 0#32
  let v361 : BitVec 32 := Scalar.maxsi v360 c0_i32_121
  let c512_i32_165 : BitVec 32 := 512#32
  let v518 : BitVec 32 := Scalar.muli v361 c512_i32_165
  v518
def k0_mult44 : BitVec 32 :=
  let c0_i32_96 : BitVec 32 := 0#32
  c0_i32_96
def k0_off52 (i : grid0.Coords) : Fin 4 → Nat :=
  let arg1 : BitVec 32 := BitVec.ofNat 32 (i 1).val
  let c1_i32 : BitVec 32 := 1#32
  let v0 : BitVec 32 := Scalar.addi arg1 c1_i32
  let c1_i32_94 : BitVec 32 := 1#32
  let v310 : BitVec 32 := Scalar.subi v0 c1_i32_94
  let c1_i32_95 : BitVec 32 := 1#32
  let v311 : BitVec 32 := Scalar.andi v310 c1_i32_95
  let v317 : Index := Scalar.indexCast v311
  let c0_98 : Index := 0#32
  let c0_99 : Index := 0#32
  let c0_100 : Index := 0#32
  ![v317.toNat, 0, 0, 0]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c1_i32 : BitVec 32 := 1#32
  let v0 : BitVec 32 := Scalar.addi arg1 c1_i32
  let c1_i32_0 : BitVec 32 := 1#32
  let v2 : BitVec 1 := Scalar.cmpi .eq v0 c1_i32_0
  let v3 : BitVec 1 := Scalar.andi v1 v2
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi v0 arg0
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c10_i32 : BitVec 32 := 10#32
  let c0_i32_0 : BitVec 32 := 0#32
  ![c0_i32.toNat, c10_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c11_i32 : BitVec 32 := 11#32
  let c0_i32_0 : BitVec 32 := 0#32
  ![c0_i32.toNat, c11_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi v0 arg0
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi v0 arg0
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let v1 : BitVec 32 := Scalar.addi v0 arg0
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== SbBwdIdeal.lean ====
variable {F : FTy → Type} [FloatOps F] [Named F]
def κ : String → Option EReal := fun
  | "nlog2e" => some ((-((Real.log 2)⁻¹) : ℝ) : EReal)
  | _ => none
-- ==== SbRefIdeal.lean ====
abbrev S1x4096x5120 : Shape := ⟨3, ![1, 4096, 5120]⟩
abbrev S1x4096x256 : Shape := ⟨3, ![1, 4096, 256]⟩
abbrev S1x4096x768 : Shape := ⟨3, ![1, 4096, 768]⟩
abbrev S1x4096x3x4x64 : Shape := ⟨5, ![1, 4096, 3, 4, 64]⟩
abbrev S3x1x4x4096x64 : Shape := ⟨5, ![3, 1, 4, 4096, 64]⟩
abbrev S1x1x4x4096x64 : Shape := ⟨5, ![1, 1, 4, 4096, 64]⟩
abbrev S1x4x4096x64 : Shape := ⟨4, ![1, 4, 4096, 64]⟩
abbrev S4096 : Shape := ⟨1, ![4096]⟩
abbrev S1x4x4096x4096 : Shape := ⟨4, ![1, 4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x4096x4x64 : Shape := ⟨4, ![1, 4096, 4, 64]⟩
abbrev S1x4x64x4096 : Shape := ⟨4, ![1, 4, 64, 4096]⟩
abbrev S4096x256 : Shape := ⟨2, ![4096, 256]⟩
abbrev S256x4096 : Shape := ⟨2, ![256, 4096]⟩

abbrev nBuf : Space → Nat
  | .hbm => 194
  | .vmem => 0
  | .smem => 0
  | _ => 0

abbrev hbmTy0_0 (i : Nat) : BufTy := match i % 128 with
  | 0 => ⟨S1x4096x5120, .f32⟩
  | 1 => ⟨S1x4096x256, .f32⟩
  | 2 => ⟨S1x4096x768, .f32⟩
  | 3 => ⟨S1x4096x3x4x64, .f32⟩
  | 4 => ⟨S3x1x4x4096x64, .f32⟩
  | 5 => ⟨S1x1x4x4096x64, .f32⟩
  | 6 => ⟨S1x4x4096x64, .f32⟩
  | 7 => ⟨S1x1x4x4096x64, .f32⟩
  | 8 => ⟨S1x4x4096x64, .f32⟩
  | 9 => ⟨S1x1x4x4096x64, .f32⟩
  | 10 => ⟨S1x4x4096x64, .f32⟩
  | 11 => ⟨S4096, .i32⟩
  | 12 => ⟨S1x4x4096x4096, .f32⟩
  | 13 => ⟨S_, .f32⟩
  | 14 => ⟨S1x4x4096x4096, .f32⟩
  | 15 => ⟨S1x4x4096x4096, .f32⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S1x4x4096x4096, .f32⟩
  | 22 => ⟨S_, .f32⟩
  | 23 => ⟨S1x4x4096x4096, .f32⟩
  | 24 => ⟨S1x4x4096x4096, .f32⟩
  | 25 => ⟨S1x4x4096x4096, .f32⟩
  | 26 => ⟨S1x4x4096x4096, .f32⟩
  | 27 => ⟨S1x4x4096x4096, .i1⟩
  | 28 => ⟨S1x4x4096x4096, .f32⟩
  | 29 => ⟨S1x4x4096x4096, .f32⟩
  | 30 => ⟨S1x4x4096x4096, .f32⟩
  | 31 => ⟨S1x4x4096x4096, .f32⟩
  | 32 => ⟨S1x4x4096x4096, .f32⟩
  | 33 => ⟨S1x4x4096x4096, .f32⟩
  | 34 => ⟨S1x4x4096x4096, .f32⟩
  | 35 => ⟨S1x4x4096x4096, .f32⟩
  | 36 => ⟨S_, .f32⟩
  | 37 => ⟨S1x4x4096x4096, .f32⟩
  | 38 => ⟨S1x4x4096x4096, .i1⟩
  | 39 => ⟨S_, .f32⟩
  | 40 => ⟨S1x4x4096x4096, .f32⟩
  | 41 => ⟨S1x4x4096x4096, .f32⟩
  | 42 => ⟨S_, .f32⟩
  | 43 => ⟨S1x4x4096x4096, .f32⟩
  | 44 => ⟨S1x4x4096x4096, .i1⟩
  | 45 => ⟨S_, .f32⟩
  | 46 => ⟨S1x4x4096x4096, .f32⟩
  | 47 => ⟨S1x4x4096x4096, .f32⟩
  | 48 => ⟨S1x4x4096x4096, .f32⟩
  | 49 => ⟨S1x4x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S1x4x4096x4096, .f32⟩
  | 58 => ⟨S1x4x4096x4096, .i1⟩
  | 59 => ⟨S_, .f32⟩
  | 60 => ⟨S1x4x4096x4096, .f32⟩
  | 61 => ⟨S1x4x4096x4096, .f32⟩
  | 62 => ⟨S1x4x4096x4096, .f32⟩
  | 63 => ⟨S1x4x4096x4096, .f32⟩
  | 64 => ⟨S1x4x4096x4096, .f32⟩
  | 65 => ⟨S_, .f32⟩
  | 66 => ⟨S1x4x4096x4096, .f32⟩
  | 67 => ⟨S1x4x4096x4096, .f32⟩
  | 68 => ⟨S1x4x4096x4096, .f32⟩
  | 69 => ⟨S1x4x4096x4096, .f32⟩
  | 70 => ⟨S1x4x4096x4096, .f32⟩
  | 71 => ⟨S_, .f32⟩
  | 72 => ⟨S1x4x4096x4096, .f32⟩
  | 73 => ⟨S1x4x4096x4096, .f32⟩
  | 74 => ⟨S1x4x4096x4096, .f32⟩
  | 75 => ⟨S1x4x4096x4096, .f32⟩
  | 76 => ⟨S1x4x4096x4096, .i1⟩
  | 77 => ⟨S1x4x4096x4096, .f32⟩
  | 78 => ⟨S1x4x4096x4096, .f32⟩
  | 79 => ⟨S1x4x4096x4096, .f32⟩
  | 80 => ⟨S1x4x4096x4096, .f32⟩
  | 81 => ⟨S1x4x4096x4096, .f32⟩
  | 82 => ⟨S1x4x4096x4096, .f32⟩
  | 83 => ⟨S1x4x4096x4096, .f32⟩
  | 84 => ⟨S1x4x4096x4096, .f32⟩
  | 85 => ⟨S_, .f32⟩
  | 86 => ⟨S1x4x4096x4096, .f32⟩
  | 87 => ⟨S1x4x4096x4096, .i1⟩
  | 88 => ⟨S_, .f32⟩
  | 89 => ⟨S1x4x4096x4096, .f32⟩
  | 90 => ⟨S1x4x4096x4096, .f32⟩
  | 91 => ⟨S_, .f32⟩
  | 92 => ⟨S1x4x4096x4096, .f32⟩
  | 93 => ⟨S1x4x4096x4096, .i1⟩
  | 94 => ⟨S_, .f32⟩
  | 95 => ⟨S1x4x4096x4096, .f32⟩
  | 96 => ⟨S1x4x4096x4096, .f32⟩
  | 97 => ⟨S1x4x4096x4096, .f32⟩
  | 98 => ⟨S1x4x4096x4096, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S1x4x4096x4096, .f32⟩
  | 107 => ⟨S1x4x4096x4096, .i1⟩
  | 108 => ⟨S_, .f32⟩
  | 109 => ⟨S1x4x4096x4096, .f32⟩
  | 110 => ⟨S1x4x4096x4096, .f32⟩
  | 111 => ⟨S1x4x4096x4096, .f32⟩
  | 112 => ⟨S1x4x4096x4096, .f32⟩
  | 113 => ⟨S1x4x4096x4096, .f32⟩
  | 114 => ⟨S_, .f32⟩
  | 115 => ⟨S1x4x4096x4096, .f32⟩
  | 116 => ⟨S1x4x4096x4096, .f32⟩
  | 117 => ⟨S1x4x4096x4096, .f32⟩
  | 118 => ⟨S_, .f32⟩
  | 119 => ⟨S_, .f32⟩
  | 120 => ⟨S1x4x4096x4096, .i1⟩
  | 121 => ⟨S1x4x4096x4096, .f32⟩
  | 122 => ⟨S1x4x4096x4096, .f32⟩
  | 123 => ⟨S_, .f32⟩
  | 124 => ⟨S1x4x4096x4096, .f32⟩
  | 125 => ⟨S_, .f32⟩
  | 126 => ⟨S_, .f32⟩
  | 127 => ⟨S1x4x4096x4096, .f32⟩
  | _ => ⟨S1x4096x5120, .f32⟩

abbrev hbmTy0_1 (i : Nat) : BufTy := match i % 128 with
  | 0 => ⟨S1x4x4096x4096, .f32⟩
  | 1 => ⟨S1x4x4096x4096, .f32⟩
  | 2 => ⟨S1x4x4096x4096, .f32⟩
  | 3 => ⟨S_, .f32⟩
  | 4 => ⟨S_, .f32⟩
  | 5 => ⟨S1x4x4096x4096, .i1⟩
  | 6 => ⟨S1x4x4096x4096, .f32⟩
  | 7 => ⟨S1x4x4096x4096, .f32⟩
  | 8 => ⟨S_, .f32⟩
  | 9 => ⟨S1x4x4096x4096, .f32⟩
  | 10 => ⟨S1x4x4096x64, .f32⟩
  | 11 => ⟨S1x4096x4x64, .f32⟩
  | 12 => ⟨S1x4096x256, .f32⟩
  | 13 => ⟨S1x4096x4x64, .f32⟩
  | 14 => ⟨S1x4x4096x64, .f32⟩
  | 15 => ⟨S1x4x64x4096, .f32⟩
  | 16 => ⟨S1x4x4096x64, .f32⟩
  | 17 => ⟨S1x4x4096x4096, .f32⟩
  | 18 => ⟨S_, .f32⟩
  | 19 => ⟨S1x4x4096x4096, .f32⟩
  | 20 => ⟨S1x4x4096x4096, .f32⟩
  | 21 => ⟨S1x4x4096x4096, .f32⟩
  | 22 => ⟨S1x4x4096x4096, .f32⟩
  | 23 => ⟨S_, .f32⟩
  | 24 => ⟨S_, .f32⟩
  | 25 => ⟨S1x4x4096x4096, .f32⟩
  | 26 => ⟨S1x4x4096x4096, .f32⟩
  | 27 => ⟨S_, .f32⟩
  | 28 => ⟨S1x4x4096x4096, .f32⟩
  | 29 => ⟨S1x4x4096x4096, .f32⟩
  | 30 => ⟨S1x4x4096x4096, .f32⟩
  | 31 => ⟨S1x4x4096x4096, .f32⟩
  | 32 => ⟨S1x4x4096x4096, .f32⟩
  | 33 => ⟨S1x4x4096x4096, .f32⟩
  | 34 => ⟨S1x4x4096x4096, .f32⟩
  | 35 => ⟨S1x4x4096x4096, .f32⟩
  | 36 => ⟨S1x4x4096x4096, .f32⟩
  | 37 => ⟨S1x4x4096x4096, .f32⟩
  | 38 => ⟨S_, .f32⟩
  | 39 => ⟨S1x4x4096x4096, .f32⟩
  | 40 => ⟨S1x4x4096x4096, .f32⟩
  | 41 => ⟨S1x4x4096x64, .f32⟩
  | 42 => ⟨S1x4x4096x64, .f32⟩
  | 43 => ⟨S1x1x4x4096x64, .f32⟩
  | 44 => ⟨S_, .f32⟩
  | 45 => ⟨S3x1x4x4096x64, .f32⟩
  | 46 => ⟨S1x1x4x4096x64, .f32⟩
  | 47 => ⟨S_, .f32⟩
  | 48 => ⟨S3x1x4x4096x64, .f32⟩
  | 49 => ⟨S3x1x4x4096x64, .f32⟩
  | 50 => ⟨S1x1x4x4096x64, .f32⟩
  | 51 => ⟨S_, .f32⟩
  | 52 => ⟨S3x1x4x4096x64, .f32⟩
  | 53 => ⟨S3x1x4x4096x64, .f32⟩
  | 54 => ⟨S1x4096x3x4x64, .f32⟩
  | 55 => ⟨S1x4096x768, .f32⟩
  | 56 => ⟨S_, .f32⟩
  | 57 => ⟨S1x4096x5120, .f32⟩
  | 58 => ⟨S1x4096x256, .f32⟩
  | 59 => ⟨S4096x256, .f32⟩
  | 60 => ⟨S1x4096x256, .f32⟩
  | 61 => ⟨S4096x256, .f32⟩
  | 62 => ⟨S256x4096, .f32⟩
  | 63 => ⟨S1x4096x256, .f32⟩
  | 64 => ⟨S4096x256, .f32⟩
  | 65 => ⟨S256x4096, .f32⟩
  | _ => ⟨S1x4096x5120, .f32⟩

abbrev hbmTy (i : Nat) : BufTy := match i / 128 with
  | 0 => hbmTy0_0 i
  | 1 => hbmTy0_1 i
  | _ => ⟨S1x4096x5120, .f32⟩

abbrev bufTy : (tb : Table) → Fin (tcTables nBuf tb) → BufTy
  | .hbm, ⟨i, _⟩ => hbmTy i
  | _, _ => ⟨S1x4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_v19 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v20_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v20_2 : Ref sig .tc := ⟨.hbm, 116, rfl⟩
abbrev main_v20_0 : Ref sig .tc := ⟨.hbm, 117, rfl⟩
abbrev main_cst_0 : Ref sig .tc := ⟨.hbm, 118, rfl⟩
abbrev main_call2_v0 : Ref sig .tc := ⟨.hbm, 119, rfl⟩
abbrev main_v21_1 : Ref sig .tc := ⟨.hbm, 120, rfl⟩
abbrev main_call2_v2 : Ref sig .tc := ⟨.hbm, 121, rfl⟩
abbrev main_v21_0 : Ref sig .tc := ⟨.hbm, 122, rfl⟩
abbrev main_call2_cst : Ref sig .tc := ⟨.hbm, 123, rfl⟩
abbrev main_v21_2 : Ref sig .tc := ⟨.hbm, 124, rfl⟩
abbrev main_call3_cst : Ref sig .tc := ⟨.hbm, 125, rfl⟩
abbrev main_call3_v0 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_call8_v0 : Ref sig .tc := ⟨.hbm, 158, rfl⟩
abbrev main_call8_v1 : Ref sig .tc := ⟨.hbm, 159, rfl⟩
abbrev main_v41 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_cst_3 : Ref sig .tc := ⟨.hbm, 172, rfl⟩
abbrev main_v50 : Ref sig .tc := ⟨.hbm, 173, rfl⟩
abbrev main_v51 : Ref sig .tc := ⟨.hbm, 174, rfl⟩
abbrev main_cst_4 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_cst_5 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_cst_6 : Ref sig .tc := ⟨.hbm, 184, rfl⟩
abbrev main_v59 : Ref sig .tc := ⟨.hbm, 185, rfl⟩
abbrev main_v60 : Ref sig .tc := ⟨.hbm, 186, rfl⟩
abbrev main_v61 : Ref sig .tc := ⟨.hbm, 187, rfl⟩
abbrev main_v62 : Ref sig .tc := ⟨.hbm, 188, rfl⟩
abbrev main_v63 : Ref sig .tc := ⟨.hbm, 189, rfl⟩
abbrev main_v64 : Ref sig .tc := ⟨.hbm, 190, rfl⟩
abbrev main_v65 : Ref sig .tc := ⟨.hbm, 191, rfl⟩
abbrev main_v66 : Ref sig .tc := ⟨.hbm, 192, rfl⟩
abbrev main_v67 : Ref sig .tc := ⟨.hbm, 193, rfl⟩

abbrev nD : Nat := 1
abbrev τ : Topo := Topo.v7x

variable {F : FTy → Type} [FloatOps F]
-- ==== FfnDx.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S2816x1024 : Shape := ⟨2, ![2816, 1024]⟩
abbrev S4x1x704x1024 : Shape := ⟨4, ![4, 1, 704, 1024]⟩
abbrev S1x1024 : Shape := ⟨2, ![1, 1024]⟩
abbrev S8x1024 : Shape := ⟨2, ![8, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x2816, .bf16⟩
  | .hbm, ⟨8, _⟩ => ⟨S4096x2816, .bf16⟩
  | .hbm, ⟨9, _⟩ => ⟨S2816x1024, .f32⟩
  | .hbm, ⟨10, _⟩ => ⟨S4x1x704x1024, .f32⟩
  | .hbm, ⟨11, _⟩ => ⟨S4x1x704x1024, .bf16⟩
  | .hbm, ⟨12, _⟩ => ⟨S2816x1024, .f32⟩
  | .hbm, ⟨13, _⟩ => ⟨S4x1x704x1024, .f32⟩
  | .hbm, ⟨14, _⟩ => ⟨S4x1x704x1024, .bf16⟩
  | .hbm, ⟨15, _⟩ => ⟨S1x1024, .f32⟩
  | .hbm, ⟨16, _⟩ => ⟨S2816x1024, .bf16⟩
  | .hbm, ⟨17, _⟩ => ⟨S2816x1024, .bf16⟩
  | .hbm, ⟨18, _⟩ => ⟨S4096x1024, .f32⟩
  | .hbm, ⟨19, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_22 : BitVec 32 := 0#32
  let v46 : BitVec 1 := Scalar.cmpi .ne v45 c0_i32_22
  v46

def k0_cond2 (i : grid0.Coords) : BitVec 1 :=
  let arg0 : BitVec 32 := BitVec.ofNat 32 (i 0).val
  let c0_i32_23 : BitVec 32 := 0#32
  let v47 : BitVec 1 := Scalar.cmpi .sgt arg0 c0_i32_23
  let v48 : BitVec 32 := Scalar.extui v47
  let c0_i32_24 : BitVec 32 := 0#32
  let v49 : BitVec 1 := Scalar.cmpi .ne v48 c0_i32_24
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== FfnDxRefIdeal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== MixDx.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S1024x4x1280 : Shape := ⟨3, ![1024, 4, 1280]⟩
abbrev S4x1024x1280 : Shape := ⟨3, ![4, 1024, 1280]⟩
abbrev S4x1x1024x1280 : Shape := ⟨4, ![4, 1, 1024, 1280]⟩
abbrev S1x1024 : Shape := ⟨2, ![1, 1024]⟩
abbrev S8x1024 : Shape := ⟨2, ![8, 1024]⟩
abbrev S512x5120 : Shape := ⟨2, ![512, 5120]⟩
abbrev S512x1024 : Shape := ⟨2, ![512, 1024]⟩
abbrev S512x1280 : Shape := ⟨2, ![512, 1280]⟩
abbrev S1x1x1024x1280 : Shape := ⟨4, ![1, 1, 1024, 1280]⟩
abbrev S1024x1280 : Shape := ⟨2, ![1024, 1280]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S4096x5120, .bf16⟩
  | .hbm, ⟨6, _⟩ => ⟨S1024x4x1280, .f32⟩
  | .hbm, ⟨7, _⟩ => ⟨S4x1024x1280, .f32⟩
  | .hbm, ⟨8, _⟩ => ⟨S4x1x1024x1280, .f32⟩
  | .hbm, ⟨9, _⟩ => ⟨S4x1x1024x1280, .bf16⟩
  | .hbm, ⟨10, _⟩ => ⟨S1x1024, .f32⟩
  | .hbm, ⟨11, _⟩ => ⟨S4096x1024, .f32⟩
  | .hbm, ⟨12, _⟩ => ⟨S8x1024, .f32⟩
  | .local _ .vmem, ⟨0, _⟩ => ⟨S512x5120, .bf16⟩
  | .local _ .vmem, ⟨1, _⟩ => ⟨S512x5120, .bf16⟩
  | .local _ .vmem, ⟨2, _⟩ => ⟨S4x1x1024x1280, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_34 : BitVec 32 := 0#32
  let v58 : BitVec 1 := Scalar.cmpi .ne v57 c0_i32_34
  v58

def k0_cond2 (i : grid0.Coords) : BitVec 1 :=
  let arg0 : BitVec 32 := BitVec.ofNat 32 (i 0).val
  let c0_i32_35 : BitVec 32 := 0#32
  let v59 : BitVec 1 := Scalar.cmpi .sgt arg0 c0_i32_35
  let v60 : BitVec 32 := Scalar.extui v59
  let c0_i32_36 : BitVec 32 := 0#32
  let v61 : BitVec 1 := Scalar.cmpi .ne v60 c0_i32_36
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x1x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== MixDxRefIdeal.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5120, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== FfnDact.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x1x704x1024 : Shape := ⟨4, ![4, 1, 704, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S512x1024 : Shape := ⟨2, ![512, 1024]⟩
abbrev S512x2816 : Shape := ⟨2, ![512, 2816]⟩

abbrev nBuf : Space → Nat
  | .hbm => 24
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S2816x1024, .f32⟩
  | .hbm, ⟨8, _⟩ => ⟨S4x1x704x1024, .f32⟩
  | .hbm, ⟨9, _⟩ => ⟨S4x1x704x1024, .bf16⟩
  | .hbm, ⟨10, _⟩ => ⟨S2816x1024, .f32⟩
  | .hbm, ⟨11, _⟩ => ⟨S4x1x704x1024, .f32⟩
  | .hbm, ⟨12, _⟩ => ⟨S4x1x704x1024, .bf16⟩
  | .hbm, ⟨13, _⟩ => ⟨S2816x1024, .bf16⟩
  | .hbm, ⟨14, _⟩ => ⟨S2816x1024, .bf16⟩
  | .hbm, ⟨15, _⟩ => ⟨S4096x2816, .bf16⟩
  | .hbm, ⟨16, _⟩ => ⟨S4096x2816, .bf16⟩
  | .hbm, ⟨17, _⟩ => ⟨S4096x2816, .bf16⟩
  | .hbm, ⟨18, _⟩ => ⟨S4096x1024, .bf16⟩
  | .hbm, ⟨19, _⟩ => ⟨S4x1x704x1024, .f32⟩
  | .hbm, ⟨20, _⟩ => ⟨S4x1x704x1024, .bf16⟩
  | .hbm, ⟨21, _⟩ => ⟨S2816x1024, .bf16⟩
  | .hbm, ⟨22, _⟩ => ⟨S4096x2816, .bf16⟩
  | .hbm, ⟨23, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S2816x1024, .bf16⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x1024, .bf16⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | .local _ .vmem, ⟨15, _⟩ => ⟨S2816x1024, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | .local _ .vmem, ⟨23, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S512x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]
-- ==== FfnDactRefIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .bf16⟩
  | .hbm, ⟨53, _⟩ => ⟨S4096x1024, .bf16⟩
  | .hbm, ⟨54, _⟩ => ⟨S4096x2816, .bf16⟩
  | .hbm, ⟨55, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== MixDu.lean ====
abbrev S4096x256 : Shape := ⟨2, ![4096, 256]⟩
abbrev S4096x5120 : Shape := ⟨2, ![4096, 5120]⟩
abbrev S256x1024 : Shape := ⟨2, ![256, 1024]⟩
abbrev S1024x1024 : Shape := ⟨2, ![1024, 1024]⟩
abbrev S4096x1024 : Shape := ⟨2, ![4096, 1024]⟩
abbrev S256x4x256 : Shape := ⟨3, ![256, 4, 256]⟩
abbrev S4x256x256 : Shape := ⟨3, ![4, 256, 256]⟩
abbrev S4x1x256x256 : Shape := ⟨4, ![4, 1, 256, 256]⟩
abbrev S4x1x256x1024 : Shape := ⟨4, ![4, 1, 256, 1024]⟩
abbrev S512x256 : Shape := ⟨2, ![512, 256]⟩
abbrev S512x1024 : Shape := ⟨2, ![512, 1024]⟩

abbrev nBuf : Space → Nat
  | .hbm => 31
  | .vmem => 35
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x5120, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S4096x1024, .f32⟩
  | .hbm, ⟨7, _⟩ => ⟨S256x4x256, .f32⟩
  | .hbm, ⟨8, _⟩ => ⟨S4x256x256, .f32⟩
  | .hbm, ⟨9, _⟩ => ⟨S4x1x256x256, .f32⟩
  | .hbm, ⟨10, _⟩ => ⟨S4x1x256x256, .bf16⟩
  | .hbm, ⟨11, _⟩ => ⟨S256x4x256, .f32⟩
  | .hbm, ⟨12, _⟩ => ⟨S4x256x256, .f32⟩
  | .hbm, ⟨13, _⟩ => ⟨S4x1x256x256, .f32⟩
  | .hbm, ⟨14, _⟩ => ⟨S4x1x256x256, .bf16⟩
  | .hbm, ⟨15, _⟩ => ⟨S4x1x256x1024, .f32⟩
  | .hbm, ⟨16, _⟩ => ⟨S4x1x256x1024, .bf16⟩
  | .hbm, ⟨17, _⟩ => ⟨S4x256x256, .bf16⟩
  | .hbm, ⟨18, _⟩ => ⟨S256x4x256, .bf16⟩
  | .hbm, ⟨19, _⟩ => ⟨S256x1024, .bf16⟩
  | .hbm, ⟨20, _⟩ => ⟨S4x256x256, .bf16⟩
  | .hbm, ⟨21, _⟩ => ⟨S256x4x256, .bf16⟩
  | .hbm, ⟨22, _⟩ => ⟨S256x1024, .bf16⟩
  | .hbm, ⟨23, _⟩ => ⟨S1024x1024, .bf16⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S4096x1024, .bf16⟩
  | .hbm, ⟨29, _⟩ => ⟨S4096x1024, .bf16⟩
  | .hbm, ⟨30, _⟩ => ⟨S4096x1024, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30
abbrev cc1_sem8_0 : DmaSem sig := 31
abbrev cc1_sem8_1 : DmaSem sig := 32
abbrev cc1_sem9_0 : DmaSem sig := 33
abbrev cc1_sem9_1 : DmaSem sig := 34

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false, false]
-- ==== MixDuRefIdeal.lean ====
abbrev S4096x256 : Shape := ⟨2, ![4096, 256]⟩
abbrev S4096x5120 : Shape := ⟨2, ![4096, 5120]⟩
abbrev S256x1024 : Shape := ⟨2, ![256, 1024]⟩
abbrev S1024x1024 : Shape := ⟨2, ![1024, 1024]⟩
abbrev S4096x1024 : Shape := ⟨2, ![4096, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x5120, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S4096x1024, .bf16⟩
  | .hbm, ⟨50, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Assemble.lean ====
abbrev S4096x768 : Shape := ⟨2, ![4096, 768]⟩
abbrev S4096x256 : Shape := ⟨2, ![4096, 256]⟩
abbrev S256x4096 : Shape := ⟨2, ![256, 4096]⟩
abbrev S4096x1024 : Shape := ⟨2, ![4096, 1024]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x5120 : Shape := ⟨2, ![4096, 5120]⟩
abbrev S512x256 : Shape := ⟨2, ![512, 256]⟩
abbrev S256x512 : Shape := ⟨2, ![256, 512]⟩
abbrev S512x1024 : Shape := ⟨2, ![512, 1024]⟩
abbrev S512x128 : Shape := ⟨2, ![512, 128]⟩
abbrev S512x5120 : Shape := ⟨2, ![512, 5120]⟩

abbrev nBuf : Space → Nat
  | .hbm => 113
  | .vmem => 36
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x256, .f32⟩
  | .hbm, ⟨4, _⟩ => ⟨S256x4096, .f32⟩
  | .hbm, ⟨5, _⟩ => ⟨S256x4096, .f32⟩
  | .hbm, ⟨6, _⟩ => ⟨S4096x1024, .f32⟩
  | .hbm, ⟨7, _⟩ => ⟨S4096x1024, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x1024, .bf16⟩
  | .hbm, ⟨18, _⟩ => ⟨S4096x1024, .bf16⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S_, .i1⟩
  | .hbm, ⟨36, _⟩ => ⟨S128, .i1⟩
  | .hbm, ⟨37, _⟩ => ⟨S128, .i1⟩
  | .hbm, ⟨38, _⟩ => ⟨S128, .i1⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S_, .i32⟩
  | .hbm, ⟨57, _⟩ => ⟨S_, .i1⟩
  | .hbm, ⟨58, _⟩ => ⟨S128, .i1⟩
  | .hbm, ⟨59, _⟩ => ⟨S128, .i1⟩
  | .hbm, ⟨60, _⟩ => ⟨S128, .i1⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S_, .i32⟩
  | .hbm, ⟨65, _⟩ => ⟨S128, .i32⟩
  | .hbm, ⟨66, _⟩ => ⟨S128, .i32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S4096, .f32⟩
  | .hbm, ⟨76, _⟩ => ⟨S4096x1, .f32⟩
  | .hbm, ⟨77, _⟩ => ⟨S1x128, .f32⟩
  | .hbm, ⟨78, _⟩ => ⟨S4096x128, .f32⟩
  | .hbm, ⟨79, _⟩ => ⟨S4096x128, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S_, .i32⟩
  | .hbm, ⟨84, _⟩ => ⟨S128, .i32⟩
  | .hbm, ⟨85, _⟩ => ⟨S128, .i1⟩
  | .hbm, ⟨86, _⟩ => ⟨S_, .f32⟩
  | .hbm, ⟨87, _⟩ => ⟨S_, .f32⟩
  | .hbm, ⟨88, _⟩ => ⟨S4096x128, .i1⟩
  | .hbm, ⟨89, _⟩ => ⟨S4096x128, .f32⟩
  | .hbm, ⟨90, _⟩ => ⟨S4096x128, .f32⟩
  | .hbm, ⟨91, _⟩ => ⟨S_, .i32⟩
  | .hbm, ⟨92, _⟩ => ⟨S128, .i32⟩
  | .hbm, ⟨93, _⟩ => ⟨S128, .i1⟩
  | .hbm, ⟨94, _⟩ => ⟨S4096x128, .f32⟩
  | .hbm, ⟨95, _⟩ => ⟨S_, .f32⟩
  | .hbm, ⟨96, _⟩ => ⟨S_, .f32⟩
  | .hbm, ⟨97, _⟩ => ⟨S4096x128, .i1⟩
  | .hbm, ⟨98, _⟩ => ⟨S4096x128, .f32⟩
  | .hbm, ⟨99, _⟩ => ⟨S4096x128, .f32⟩
  | .hbm, ⟨100, _⟩ => ⟨S_, .i32⟩
  | .hbm, ⟨101, _⟩ => ⟨S128, .i32⟩
  | .hbm, ⟨102, _⟩ => ⟨S128, .i1⟩
  | .hbm, ⟨103, _⟩ => ⟨S_, .i32⟩
  | .hbm, ⟨104, _⟩ => ⟨S128, .i32⟩
  | .hbm, ⟨105, _⟩ => ⟨S128, .i1⟩
  | .hbm, ⟨106, _⟩ => ⟨S128, .i1⟩
  | .hbm, ⟨107, _⟩ => ⟨S_, .f32⟩
  | .hbm, ⟨108, _⟩ => ⟨S_, .f32⟩
  | .hbm, ⟨109, _⟩ => ⟨S4096x128, .i1⟩
  | .hbm, ⟨110, _⟩ => ⟨S4096x128, .f32⟩
  | .hbm, ⟨111, _⟩ => ⟨S4096x128, .f32⟩
  | .hbm, ⟨112, _⟩ => ⟨S4096x5120, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x5120, .bf16⟩
  | .local _ .vmem, ⟨35, _⟩ => ⟨S512x5120, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v12 : Ref sig .tc := ⟨.hbm, 41, rfl⟩
abbrev main_c_0 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v13 : Ref sig .tc := ⟨.hbm, 63, rfl⟩
abbrev main_c_1 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_cst : Ref sig .tc := ⟨.hbm, 69, rfl⟩
abbrev main_v18 : Ref sig .tc := ⟨.hbm, 70, rfl⟩
abbrev main_v19 : Ref sig .tc := ⟨.hbm, 71, rfl⟩
abbrev main_cst_2 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_c_3 : Ref sig .tc := ⟨.hbm, 83, rfl⟩
abbrev main_v30 : Ref sig .tc := ⟨.hbm, 84, rfl⟩
abbrev main_v31 : Ref sig .tc := ⟨.hbm, 85, rfl⟩
abbrev main_cst_4 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v32 : Ref sig .tc := ⟨.hbm, 90, rfl⟩
abbrev main_c_5 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_6 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v36 : Ref sig .tc := ⟨.hbm, 99, rfl⟩
abbrev main_c_7 : Ref sig .tc := ⟨.hbm, 100, rfl⟩
abbrev main_v37 : Ref sig .tc := ⟨.hbm, 101, rfl⟩
abbrev main_v38 : Ref sig .tc := ⟨.hbm, 102, rfl⟩
abbrev main_c_8 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_9 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v42 : Ref sig .tc := ⟨.hbm, 111, rfl⟩
abbrev main_v43 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x5120 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== AssembleRefIdeal.lean ====
abbrev S4096x768 : Shape := ⟨2, ![4096, 768]⟩
abbrev S4096x256 : Shape := ⟨2, ![4096, 256]⟩
abbrev S256x4096 : Shape := ⟨2, ![256, 4096]⟩
abbrev S4096x1024 : Shape := ⟨2, ![4096, 1024]⟩
abbrev S_ : Shape := ⟨0, ![]⟩
abbrev S4096x5120 : Shape := ⟨2, ![4096, 5120]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x12x64 : Shape := ⟨3, ![4096, 12, 64]⟩
abbrev S12x4096x64 : Shape := ⟨3, ![12, 4096, 64]⟩
abbrev S12x4096x8 : Shape := ⟨3, ![12, 4096, 8]⟩
abbrev S1x4096x8 : Shape := ⟨3, ![1, 4096, 8]⟩
abbrev S12x4096x48 : Shape := ⟨3, ![12, 4096, 48]⟩

abbrev nBuf : Space → Nat
  | .hbm => 162
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x256, .f32⟩
  | 4 => ⟨S256x4096, .f32⟩
  | 5 => ⟨S256x4096, .f32⟩
  | 6 => ⟨S4096x1024, .f32⟩
  | 7 => ⟨S4096x1024, .f32⟩
  | 8 => ⟨S_, .f32⟩
  | 9 => ⟨S4096x5120, .f32⟩
  | 10 => ⟨S4096, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S4096x1, .f32⟩
  | 26 => ⟨S1x8, .f32⟩
  | 27 => ⟨S4096x8, .f32⟩
  | 28 => ⟨S4096x8, .f32⟩
  | 29 => ⟨S4096x8, .f32⟩
  | 30 => ⟨S4096x8, .f32⟩
  | 31 => ⟨S4096x8, .f32⟩
  | 32 => ⟨S4096x768, .f32⟩
  | 33 => ⟨S4096x12x64, .f32⟩
  | 34 => ⟨S12x4096x64, .f32⟩
  | 35 => ⟨S12x4096x8, .f32⟩
  | 36 => ⟨S12x4096x8, .f32⟩
  | 37 => ⟨S1x4096x8, .f32⟩
  | 38 => ⟨S12x4096x8, .f32⟩
  | 39 => ⟨S12x4096x8, .f32⟩
  | 40 => ⟨S1x4096x8, .f32⟩
  | 41 => ⟨S12x4096x8, .f32⟩
  | 42 => ⟨S12x4096x8, .f32⟩
  | 43 => ⟨S12x4096x8, .f32⟩
  | 44 => ⟨S1x4096x8, .f32⟩
  | 45 => ⟨S12x4096x8, .f32⟩
  | 46 => ⟨S12x4096x8, .f32⟩
  | 47 => ⟨S1x4096x8, .f32⟩
  | 48 => ⟨S12x4096x8, .f32⟩
  | 49 => ⟨S12x4096x8, .f32⟩
  | 50 => ⟨S12x4096x8, .f32⟩
  | 51 => ⟨S12x4096x48, .f32⟩
  | 52 => ⟨S12x4096x64, .f32⟩
  | 53 => ⟨S4096x12x64, .f32⟩
  | 54 => ⟨S4096x768, .f32⟩
  | 55 => ⟨S4096x768, .f32⟩
  | 56 => ⟨S4096x12x64, .f32⟩
  | 57 => ⟨S12x4096x64, .f32⟩
  | 58 => ⟨S12x4096x8, .f32⟩
  | 59 => ⟨S12x4096x8, .f32⟩
  | 60 => ⟨S1x4096x8, .f32⟩
  | 61 => ⟨S12x4096x8, .f32⟩
  | 62 => ⟨S12x4096x8, .f32⟩
  | 63 => ⟨S1x4096x8, .f32⟩
  | 64 => ⟨S12x4096x8, .f32⟩
  | 65 => ⟨S12x4096x8, .f32⟩
  | 66 => ⟨S12x4096x8, .f32⟩
  | 67 => ⟨S1x4096x8, .f32⟩
  | 68 => ⟨S12x4096x8, .f32⟩
  | 69 => ⟨S12x4096x8, .f32⟩
  | 70 => ⟨S1x4096x8, .f32⟩
  | 71 => ⟨S12x4096x8, .f32⟩
  | 72 => ⟨S12x4096x8, .f32⟩
  | 73 => ⟨S12x4096x8, .f32⟩
  | 74 => ⟨S12x4096x48, .f32⟩
  | 75 => ⟨S12x4096x64, .f32⟩
  | 76 => ⟨S4096x12x64, .f32⟩
  | 77 => ⟨S4096x768, .f32⟩
  | 78 => ⟨S4096x768, .f32⟩
  | 79 => ⟨S4096x256, .f32⟩
  | 80 => ⟨S4096x256, .f32⟩
  | 81 => ⟨S4096x256, .f32⟩
  | 82 => ⟨S4096x1024, .f32⟩
  | 83 => ⟨S4096x1024, .f32⟩
  | 84 => ⟨S4096x256, .f32⟩
  | 85 => ⟨S4096x256, .f32⟩
  | 86 => ⟨S_, .f32⟩
  | 87 => ⟨S4096x5120, .f32⟩
  | 88 => ⟨S_, .f32⟩
  | 89 => ⟨S4096x5120, .f32⟩
  | 90 => ⟨S4096x5120, .f32⟩
  | 91 => ⟨S_, .f32⟩
  | 92 => ⟨S4096x5120, .f32⟩
  | 93 => ⟨S4096x5120, .f32⟩
  | 94 => ⟨S_, .f32⟩
  | 95 => ⟨S4096x5120, .f32⟩
  | 96 => ⟨S4096x5120, .f32⟩
  | 97 => ⟨S_, .f32⟩
  | 98 => ⟨S4096x5120, .f32⟩
  | 99 => ⟨S4096x5120, .f32⟩
  | 100 => ⟨S_, .f32⟩
  | 101 => ⟨S4096x5120, .f32⟩
  | 102 => ⟨S4096x5120, .f32⟩
  | 103 => ⟨S4096x12x64, .f32⟩
  | 104 => ⟨S12x4096x64, .f32⟩
  | 105 => ⟨S12x4096x8, .f32⟩
  | 106 => ⟨S12x4096x8, .f32⟩
  | 107 => ⟨S12x4096x48, .f32⟩
  | 108 => ⟨S_, .f32⟩
  | 109 => ⟨S12x4096x64, .f32⟩
  | 110 => ⟨S12x4096x8, .f32⟩
  | 111 => ⟨S12x4096x8, .f32⟩
  | 112 => ⟨S12x4096x8, .f32⟩
  | 113 => ⟨S12x4096x8, .f32⟩
  | 114 => ⟨S12x4096x8, .f32⟩
  | 115 => ⟨S12x4096x8, .f32⟩
  | 116 => ⟨S12x4096x8, .f32⟩
  | 117 => ⟨S12x4096x8, .f32⟩
  | 118 => ⟨S12x4096x8, .f32⟩
  | 119 => ⟨S12x4096x8, .f32⟩
  | 120 => ⟨S12x4096x8, .f32⟩
  | 121 => ⟨S_, .f32⟩
  | 122 => ⟨S12x4096x64, .f32⟩
  | 123 => ⟨S12x4096x64, .f32⟩
  | 124 => ⟨S_, .f32⟩
  | 125 => ⟨S12x4096x64, .f32⟩
  | 126 => ⟨S12x4096x64, .f32⟩
  | 127 => ⟨S4096x12x64, .f32⟩
  | _ => ⟨S4096x768, .f32⟩

abbrev hbmTy0_1 (i : Nat) : BufTy := match i % 128 with
  | 0 => ⟨S4096x768, .f32⟩
  | 1 => ⟨S_, .f32⟩
  | 2 => ⟨S4096x5120, .f32⟩
  | 3 => ⟨S4096x5120, .f32⟩
  | 4 => ⟨S4096x12x64, .f32⟩
  | 5 => ⟨S12x4096x64, .f32⟩
  | 6 => ⟨S12x4096x8, .f32⟩
  | 7 => ⟨S12x4096x8, .f32⟩
  | 8 => ⟨S12x4096x48, .f32⟩
  | 9 => ⟨S_, .f32⟩
  | 10 => ⟨S12x4096x64, .f32⟩
  | 11 => ⟨S12x4096x8, .f32⟩
  | 12 => ⟨S12x4096x8, .f32⟩
  | 13 => ⟨S12x4096x8, .f32⟩
  | 14 => ⟨S12x4096x8, .f32⟩
  | 15 => ⟨S12x4096x8, .f32⟩
  | 16 => ⟨S12x4096x8, .f32⟩
  | 17 => ⟨S12x4096x8, .f32⟩
  | 18 => ⟨S12x4096x8, .f32⟩
  | 19 => ⟨S12x4096x8, .f32⟩
  | 20 => ⟨S12x4096x8, .f32⟩
  | 21 => ⟨S12x4096x8, .f32⟩
  | 22 => ⟨S_, .f32⟩
  | 23 => ⟨S12x4096x64, .f32⟩
  | 24 => ⟨S12x4096x64, .f32⟩
  | 25 => ⟨S_, .f32⟩
  | 26 => ⟨S12x4096x64, .f32⟩
  | 27 => ⟨S12x4096x64, .f32⟩
  | 28 => ⟨S4096x12x64, .f32⟩
  | 29 => ⟨S4096x768, .f32⟩
  | 30 => ⟨S_, .f32⟩
  | 31 => ⟨S4096x5120, .f32⟩
  | 32 => ⟨S4096x5120, .f32⟩
  | 33 => ⟨S4096x5120, .bf16⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_4 : Ref sig .tc := ⟨.hbm, 86, rfl⟩
abbrev main_v73 : Ref sig .tc := ⟨.hbm, 87, rfl⟩
abbrev main_cst_5 : Ref sig .tc := ⟨.hbm, 88, rfl⟩
abbrev main_v74 : Ref sig .tc := ⟨.hbm, 89, rfl⟩
abbrev main_v75 : Ref sig .tc := ⟨.hbm, 90, rfl⟩
abbrev main_cst_6 : Ref sig .tc := ⟨.hbm, 91, rfl⟩
abbrev main_v76 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_cst_8 : Ref sig .tc := ⟨.hbm, 97, rfl⟩
abbrev main_v80 : Ref sig .tc := ⟨.hbm, 98, rfl⟩
abbrev main_v81 : Ref sig .tc := ⟨.hbm, 99, rfl⟩
abbrev main_cst_9 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_10 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_11 : Ref sig .tc := ⟨.hbm, 121, rfl⟩
abbrev main_v101 : Ref sig .tc := ⟨.hbm, 122, rfl⟩
abbrev main_v102 : Ref sig .tc := ⟨.hbm, 123, rfl⟩
abbrev main_cst_12 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_13 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_14 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_15 : Ref sig .tc := ⟨.hbm, 150, rfl⟩
abbrev main_v126 : Ref sig .tc := ⟨.hbm, 151, rfl⟩
abbrev main_v127 : Ref sig .tc := ⟨.hbm, 152, rfl⟩
abbrev main_cst_16 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_17 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩

abbrev nD : Nat := 1
abbrev τ : Topo := Topo.v7x

variable {F : FTy → Type} [FloatOps F]
-- ==== DilMerge.lean ====
abbrev S1x4x4096x64 : Shape := ⟨4, ![1, 4, 4096, 64]⟩
abbrev S1x4x4096 : Shape := ⟨3, ![1, 4, 4096]⟩
abbrev S4x4096x64 : Shape := ⟨3, ![4, 4096, 64]⟩
abbrev S4096x4x64 : Shape := ⟨3, ![4096, 4, 64]⟩
abbrev S4096x256 : Shape := ⟨2, ![4096, 256]⟩
abbrev S4x4096 : Shape := ⟨2, ![4, 4096]⟩
abbrev S4096x4 : Shape := ⟨2, ![4096, 4]⟩
abbrev S4096x4x1 : Shape := ⟨3, ![4096, 4, 1]⟩
abbrev S512x256 : Shape := ⟨2, ![512, 256]⟩

abbrev nBuf : Space → Nat
  | .hbm => 32
  | .vmem => 16
  | .smem => 0
  | _ => 0

abbrev bufTy : (tb : Table) → Fin (tcTables nBuf tb) → BufTy
  | .hbm, ⟨0, _⟩ => ⟨S1x4x4096x64, .f32⟩
  | .hbm, ⟨1, _⟩ => ⟨S1x4x4096x64, .f32⟩
  | .hbm, ⟨2, _⟩ => ⟨S1x4x4096x64, .f32⟩
  | .hbm, ⟨3, _⟩ => ⟨S1x4x4096, .f32⟩
  | .hbm, ⟨4, _⟩ => ⟨S1x4x4096, .f32⟩
  | .hbm, ⟨5, _⟩ => ⟨S1x4x4096, .f32⟩
  | .hbm, ⟨6, _⟩ => ⟨S4x4096x64, .f32⟩
  | .hbm, ⟨7, _⟩ => ⟨S4096x4x64, .f32⟩
  | .hbm, ⟨8, _⟩ => ⟨S4096x256, .f32⟩
  | .hbm, ⟨9, _⟩ => ⟨S4x4096x64, .f32⟩
  | .hbm, ⟨10, _⟩ => ⟨S4096x4x64, .f32⟩
  | .hbm, ⟨11, _⟩ => ⟨S4096x256, .f32⟩
  | .hbm, ⟨12, _⟩ => ⟨S4x4096x64, .f32⟩
  | .hbm, ⟨13, _⟩ => ⟨S4096x4x64, .f32⟩
  | .hbm, ⟨14, _⟩ => ⟨S4096x256, .f32⟩
  | .hbm, ⟨15, _⟩ => ⟨S4x4096, .f32⟩
  | .hbm, ⟨16, _⟩ => ⟨S4096x4, .f32⟩
  | .hbm, ⟨17, _⟩ => ⟨S4096x4x1, .f32⟩
  | .hbm, ⟨18, _⟩ => ⟨S4096x4x64, .f32⟩
  | .hbm, ⟨19, _⟩ => ⟨S4096x256, .f32⟩
  | .hbm, ⟨20, _⟩ => ⟨S4x4096, .f32⟩
  | .hbm, ⟨21, _⟩ => ⟨S4096x4, .f32⟩
  | .hbm, ⟨22, _⟩ => ⟨S4096x4x1, .f32⟩
  | .hbm, ⟨23, _⟩ => ⟨S4096x4x64, .f32⟩
  | .hbm, ⟨24, _⟩ => ⟨S4096x256, .f32⟩
  | .hbm, ⟨25, _⟩ => ⟨S4x4096, .f32⟩
  | .hbm, ⟨26, _⟩ => ⟨S4096x4, .f32⟩
  | .hbm, ⟨27, _⟩ => ⟨S4096x4x1, .f32⟩
  | .hbm, ⟨28, _⟩ => ⟨S4096x4x64, .f32⟩
  | .hbm, ⟨29, _⟩ => ⟨S4096x256, .f32⟩
  | .hbm, ⟨30, _⟩ => ⟨S4096x256, .f32⟩
  | .hbm, ⟨31, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S1x4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DilMergeRefIdeal.lean ====
abbrev S1x4x4096x64 : Shape := ⟨4, ![1, 4, 4096, 64]⟩
abbrev S1x4x4096 : Shape := ⟨3, ![1, 4, 4096]⟩
abbrev S1x1x4x4096 : Shape := ⟨4, ![1, 1, 4, 4096]⟩
abbrev S3x1x4x4096 : Shape := ⟨4, ![3, 1, 4, 4096]⟩
abbrev S_ : Shape := ⟨0, ![]⟩
abbrev S3x1x4x4096x1 : Shape := ⟨5, ![3, 1, 4, 4096, 1]⟩
abbrev S1x1x4x4096x64 : Shape := ⟨5, ![1, 1, 4, 4096, 64]⟩
abbrev S3x1x4x4096x64 : Shape := ⟨5, ![3, 1, 4, 4096, 64]⟩
abbrev S1x4x4096x1 : Shape := ⟨4, ![1, 4, 4096, 1]⟩
abbrev S4x4096x64 : Shape := ⟨3, ![4, 4096, 64]⟩
abbrev S4096x4x64 : Shape := ⟨3, ![4096, 4, 64]⟩
abbrev S4096x256 : Shape := ⟨2, ![4096, 256]⟩

abbrev nBuf : Space → Nat
  | .hbm => 59
  | .vmem => 0
  | .smem => 0
  | _ => 0

abbrev bufTy : (tb : Table) → Fin (tcTables nBuf tb) → BufTy
  | .hbm, ⟨0, _⟩ => ⟨S1x4x4096x64, .f32⟩
  | .hbm, ⟨1, _⟩ => ⟨S1x4x4096x64, .f32⟩
  | .hbm, ⟨2, _⟩ => ⟨S1x4x4096x64, .f32⟩
  | .hbm, ⟨3, _⟩ => ⟨S1x4x4096, .f32⟩
  | .hbm, ⟨4, _⟩ => ⟨S1x4x4096, .f32⟩
  | .hbm, ⟨5, _⟩ => ⟨S1x4x4096, .f32⟩
  | .hbm, ⟨6, _⟩ => ⟨S1x1x4x4096, .f32⟩
  | .hbm, ⟨7, _⟩ => ⟨S1x1x4x4096, .f32⟩
  | .hbm, ⟨8, _⟩ => ⟨S1x1x4x4096, .f32⟩
  | .hbm, ⟨9, _⟩ => ⟨S3x1x4x4096, .f32⟩
  | .hbm, ⟨10, _⟩ => ⟨S_, .f32⟩
  | .hbm, ⟨11, _⟩ => ⟨S1x4x4096, .f32⟩
  | .hbm, ⟨12, _⟩ => ⟨S_, .f32⟩
  | .hbm, ⟨13, _⟩ => ⟨S1x4x4096, .f32⟩
  | .hbm, ⟨14, _⟩ => ⟨S1x4x4096, .f32⟩
  | .hbm, ⟨15, _⟩ => ⟨S1x1x4x4096, .f32⟩
  | .hbm, ⟨16, _⟩ => ⟨S3x1x4x4096, .f32⟩
  | .hbm, ⟨17, _⟩ => ⟨S3x1x4x4096, .f32⟩
  | .hbm, ⟨18, _⟩ => ⟨S3x1x4x4096, .f32⟩
  | .hbm, ⟨19, _⟩ => ⟨S_, .f32⟩
  | .hbm, ⟨20, _⟩ => ⟨S1x4x4096, .f32⟩
  | .hbm, ⟨21, _⟩ => ⟨S1x1x4x4096, .f32⟩
  | .hbm, ⟨22, _⟩ => ⟨S3x1x4x4096, .f32⟩
  | .hbm, ⟨23, _⟩ => ⟨S3x1x4x4096, .f32⟩
  | .hbm, ⟨24, _⟩ => ⟨S3x1x4x4096x1, .f32⟩
  | .hbm, ⟨25, _⟩ => ⟨S1x1x4x4096x64, .f32⟩
  | .hbm, ⟨26, _⟩ => ⟨S1x1x4x4096x64, .f32⟩
  | .hbm, ⟨27, _⟩ => ⟨S1x1x4x4096x64, .f32⟩
  | .hbm, ⟨28, _⟩ => ⟨S3x1x4x4096x64, .f32⟩
  | .hbm, ⟨29, _⟩ => ⟨S3x1x4x4096x64, .f32⟩
  | .hbm, ⟨30, _⟩ => ⟨S3x1x4x4096x64, .f32⟩
  | .hbm, ⟨31, _⟩ => ⟨S_, .f32⟩
  | .hbm, ⟨32, _⟩ => ⟨S1x4x4096x64, .f32⟩
  | .hbm, ⟨33, _⟩ => ⟨S1x1x4x4096, .f32⟩
  | .hbm, ⟨34, _⟩ => ⟨S1x1x4x4096, .f32⟩
  | .hbm, ⟨35, _⟩ => ⟨S1x1x4x4096, .f32⟩
  | .hbm, ⟨36, _⟩ => ⟨S3x1x4x4096, .f32⟩
  | .hbm, ⟨37, _⟩ => ⟨S_, .f32⟩
  | .hbm, ⟨38, _⟩ => ⟨S1x4x4096, .f32⟩
  | .hbm, ⟨39, _⟩ => ⟨S1x1x4x4096, .f32⟩
  | .hbm, ⟨40, _⟩ => ⟨S1x1x4x4096, .f32⟩
  | .hbm, ⟨41, _⟩ => ⟨S1x1x4x4096, .f32⟩
  | .hbm, ⟨42, _⟩ => ⟨S3x1x4x4096, .f32⟩
  | .hbm, ⟨43, _⟩ => ⟨S1x1x4x4096, .f32⟩
  | .hbm, ⟨44, _⟩ => ⟨S3x1x4x4096, .f32⟩
  | .hbm, ⟨45, _⟩ => ⟨S3x1x4x4096, .f32⟩
  | .hbm, ⟨46, _⟩ => ⟨S3x1x4x4096, .f32⟩
  | .hbm, ⟨47, _⟩ => ⟨S_, .f32⟩
  | .hbm, ⟨48, _⟩ => ⟨S1x4x4096, .f32⟩
  | .hbm, ⟨49, _⟩ => ⟨S1x4x4096, .f32⟩
  | .hbm, ⟨50, _⟩ => ⟨S1x4x4096, .f32⟩
  | .hbm, ⟨51, _⟩ => ⟨S1x4x4096x1, .f32⟩
  | .hbm, ⟨52, _⟩ => ⟨S1x4x4096x64, .f32⟩
  | .hbm, ⟨53, _⟩ => ⟨S4x4096x64, .f32⟩
  | .hbm, ⟨54, _⟩ => ⟨S4096x4x64, .f32⟩
  | .hbm, ⟨55, _⟩ => ⟨S4096x256, .f32⟩
  | .hbm, ⟨56, _⟩ => ⟨S4x4096x64, .f32⟩
  | .hbm, ⟨57, _⟩ => ⟨S4096x4x64, .f32⟩
  | .hbm, ⟨58, _⟩ => ⟨S4096x256, .f32⟩
  | _, _ => ⟨S1x4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== MixIn.lean ====
abbrev S4096x1024 : Shape := ⟨2, ![4096, 1024]⟩
abbrev S1024 : Shape := ⟨1, ![1024]⟩
abbrev S1024x5120 : Shape := ⟨2, ![1024, 5120]⟩
abbrev S1x1024 : Shape := ⟨2, ![1, 1024]⟩
abbrev S1024x4x1280 : Shape := ⟨3, ![1024, 4, 1280]⟩
abbrev S4x1024x1280 : Shape := ⟨3, ![4, 1024, 1280]⟩
abbrev S4x1x1024x1280 : Shape := ⟨4, ![4, 1, 1024, 1280]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x5120 : Shape := ⟨2, ![4096, 5120]⟩
abbrev S256x1024 : Shape := ⟨2, ![256, 1024]⟩
abbrev S256x128 : Shape := ⟨2, ![256, 128]⟩
abbrev S256x5120 : Shape := ⟨2, ![256, 5120]⟩
abbrev S256 : Shape := ⟨1, ![256]⟩
abbrev S256x1 : Shape := ⟨2, ![256, 1]⟩
abbrev S1x1x1024x1280 : Shape := ⟨4, ![1, 1, 1024, 1280]⟩
abbrev S1024x1280 : Shape := ⟨2, ![1024, 1280]⟩
abbrev S256x1280 : Shape := ⟨2, ![256, 1280]⟩
abbrev S256x256 : Shape := ⟨2, ![256, 256]⟩

abbrev nBuf : Space → Nat
  | .hbm => 103
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S1x1024, .f32⟩
  | .hbm, ⟨4, _⟩ => ⟨S1024x4x1280, .f32⟩
  | .hbm, ⟨5, _⟩ => ⟨S4x1024x1280, .f32⟩
  | .hbm, ⟨6, _⟩ => ⟨S4x1x1024x1280, .f32⟩
  | .hbm, ⟨7, _⟩ => ⟨S4x1x1024x1280, .bf16⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S_, .i1⟩
  | .hbm, ⟨25, _⟩ => ⟨S128, .i1⟩
  | .hbm, ⟨26, _⟩ => ⟨S128, .i1⟩
  | .hbm, ⟨27, _⟩ => ⟨S128, .i1⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S_, .i1⟩
  | .hbm, ⟨47, _⟩ => ⟨S128, .i1⟩
  | .hbm, ⟨48, _⟩ => ⟨S128, .i1⟩
  | .hbm, ⟨49, _⟩ => ⟨S128, .i1⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S4096, .f32⟩
  | .hbm, ⟨65, _⟩ => ⟨S4096x1, .f32⟩
  | .hbm, ⟨66, _⟩ => ⟨S1x128, .f32⟩
  | .hbm, ⟨67, _⟩ => ⟨S4096x128, .f32⟩
  | .hbm, ⟨68, _⟩ => ⟨S4096x128, .f32⟩
  | .hbm, ⟨69, _⟩ => ⟨S4096x128, .f32⟩
  | .hbm, ⟨70, _⟩ => ⟨S4096x128, .f32⟩
  | .hbm, ⟨71, _⟩ => ⟨S4096x128, .f32⟩
  | .hbm, ⟨72, _⟩ => ⟨S_, .i32⟩
  | .hbm, ⟨73, _⟩ => ⟨S128, .i32⟩
  | .hbm, ⟨74, _⟩ => ⟨S128, .i1⟩
  | .hbm, ⟨75, _⟩ => ⟨S_, .f32⟩
  | .hbm, ⟨76, _⟩ => ⟨S_, .f32⟩
  | .hbm, ⟨77, _⟩ => ⟨S4096x128, .i1⟩
  | .hbm, ⟨78, _⟩ => ⟨S4096x128, .f32⟩
  | .hbm, ⟨79, _⟩ => ⟨S4096x128, .f32⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S4096x128, .f32⟩
  | .hbm, ⟨84, _⟩ => ⟨S_, .f32⟩
  | .hbm, ⟨85, _⟩ => ⟨S_, .f32⟩
  | .hbm, ⟨86, _⟩ => ⟨S4096x128, .i1⟩
  | .hbm, ⟨87, _⟩ => ⟨S4096x128, .f32⟩
  | .hbm, ⟨88, _⟩ => ⟨S4096x128, .f32⟩
  | .hbm, ⟨89, _⟩ => ⟨S_, .i32⟩
  | .hbm, ⟨90, _⟩ => ⟨S128, .i32⟩
  | .hbm, ⟨91, _⟩ => ⟨S128, .i1⟩
  | .hbm, ⟨92, _⟩ => ⟨S_, .i32⟩
  | .hbm, ⟨93, _⟩ => ⟨S128, .i32⟩
  | .hbm, ⟨94, _⟩ => ⟨S128, .i1⟩
  | .hbm, ⟨95, _⟩ => ⟨S128, .i1⟩
  | .hbm, ⟨96, _⟩ => ⟨S_, .f32⟩
  | .hbm, ⟨97, _⟩ => ⟨S_, .f32⟩
  | .hbm, ⟨98, _⟩ => ⟨S4096x128, .i1⟩
  | .hbm, ⟨99, _⟩ => ⟨S4096x128, .f32⟩
  | .hbm, ⟨100, _⟩ => ⟨S4096x128, .f32⟩
  | .hbm, ⟨101, _⟩ => ⟨S4096x5120, .f32⟩
  | .hbm, ⟨102, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S4x1x1024x1280, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x1024, .f32⟩
  | .local _ .vmem, ⟨10, _⟩ => ⟨S256x5120, .f32⟩
  | .local _ .vmem, ⟨11, _⟩ => ⟨S256x5120, .f32⟩
  | .local _ .vmem, ⟨12, _⟩ => ⟨S256x1024, .bf16⟩
  | .local _ .vmem, ⟨13, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v7 : Ref sig .tc := ⟨.hbm, 52, rfl⟩
abbrev main_c_1 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst : Ref sig .tc := ⟨.hbm, 58, rfl⟩
abbrev main_v12 : Ref sig .tc := ⟨.hbm, 59, rfl⟩
abbrev main_v13 : Ref sig .tc := ⟨.hbm, 60, rfl⟩
abbrev main_cst_2 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_c_3 : Ref sig .tc := ⟨.hbm, 72, rfl⟩
abbrev main_v24 : Ref sig .tc := ⟨.hbm, 73, rfl⟩
abbrev main_v25 : Ref sig .tc := ⟨.hbm, 74, rfl⟩
abbrev main_cst_4 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v26 : Ref sig .tc := ⟨.hbm, 79, rfl⟩
abbrev main_c_5 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_cst_6 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v30 : Ref sig .tc := ⟨.hbm, 88, rfl⟩
abbrev main_c_7 : Ref sig .tc := ⟨.hbm, 89, rfl⟩
abbrev main_v31 : Ref sig .tc := ⟨.hbm, 90, rfl⟩
abbrev main_v32 : Ref sig .tc := ⟨.hbm, 91, rfl⟩
abbrev main_c_8 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_cst_9 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_v36 : Ref sig .tc := ⟨.hbm, 100, rfl⟩
abbrev main_v37_0 : Ref sig .tc := ⟨.hbm, 101, rfl⟩
abbrev main_v37_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x1x1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MixInRefIdeal.lean ====
abbrev S4096x1024 : Shape := ⟨2, ![4096, 1024]⟩
abbrev S1024 : Shape := ⟨1, ![1024]⟩
abbrev S1024x5120 : Shape := ⟨2, ![1024, 5120]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S1x1024 : Shape := ⟨2, ![1, 1024]⟩
abbrev S4096x5120 : Shape := ⟨2, ![4096, 5120]⟩
abbrev S4096x2304 : Shape := ⟨2, ![4096, 2304]⟩
abbrev S4096x3x12x64 : Shape := ⟨4, ![4096, 3, 12, 64]⟩
abbrev S3x12x4096x64 : Shape := ⟨4, ![3, 12, 4096, 64]⟩
abbrev S1x12x4096x64 : Shape := ⟨4, ![1, 12, 4096, 64]⟩
abbrev S12x4096x64 : Shape := ⟨3, ![12, 4096, 64]⟩
abbrev S12x4096x8 : Shape := ⟨3, ![12, 4096, 8]⟩
abbrev S1x4096x8 : Shape := ⟨3, ![1, 4096, 8]⟩
abbrev S12x4096x48 : Shape := ⟨3, ![12, 4096, 48]⟩
abbrev S4096x12x64 : Shape := ⟨3, ![4096, 12, 64]⟩
abbrev S4096x768 : Shape := ⟨2, ![4096, 768]⟩
abbrev S4096x2816 : Shape := ⟨2, ![4096, 2816]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S4096, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x5120, .f32⟩
  | .hbm, ⟨42, _⟩ => ⟨S4096x2304, .f32⟩
  | .hbm, ⟨43, _⟩ => ⟨S4096x3x12x64, .f32⟩
  | .hbm, ⟨44, _⟩ => ⟨S3x12x4096x64, .f32⟩
  | .hbm, ⟨45, _⟩ => ⟨S1x12x4096x64, .f32⟩
  | .hbm, ⟨46, _⟩ => ⟨S12x4096x64, .f32⟩
  | .hbm, ⟨47, _⟩ => ⟨S12x4096x8, .f32⟩
  | .hbm, ⟨48, _⟩ => ⟨S12x4096x8, .f32⟩
  | .hbm, ⟨49, _⟩ => ⟨S1x4096x8, .f32⟩
  | .hbm, ⟨50, _⟩ => ⟨S12x4096x8, .f32⟩
  | .hbm, ⟨51, _⟩ => ⟨S12x4096x8, .f32⟩
  | .hbm, ⟨52, _⟩ => ⟨S1x4096x8, .f32⟩
  | .hbm, ⟨53, _⟩ => ⟨S12x4096x8, .f32⟩
  | .hbm, ⟨54, _⟩ => ⟨S12x4096x8, .f32⟩
  | .hbm, ⟨55, _⟩ => ⟨S12x4096x8, .f32⟩
  | .hbm, ⟨56, _⟩ => ⟨S1x4096x8, .f32⟩
  | .hbm, ⟨57, _⟩ => ⟨S12x4096x8, .f32⟩
  | .hbm, ⟨58, _⟩ => ⟨S12x4096x8, .f32⟩
  | .hbm, ⟨59, _⟩ => ⟨S1x4096x8, .f32⟩
  | .hbm, ⟨60, _⟩ => ⟨S12x4096x8, .f32⟩
  | .hbm, ⟨61, _⟩ => ⟨S12x4096x8, .f32⟩
  | .hbm, ⟨62, _⟩ => ⟨S12x4096x8, .f32⟩
  | .hbm, ⟨63, _⟩ => ⟨S12x4096x48, .f32⟩
  | .hbm, ⟨64, _⟩ => ⟨S12x4096x64, .f32⟩
  | .hbm, ⟨65, _⟩ => ⟨S1x12x4096x64, .f32⟩
  | .hbm, ⟨66, _⟩ => ⟨S12x4096x64, .f32⟩
  | .hbm, ⟨67, _⟩ => ⟨S12x4096x8, .f32⟩
  | .hbm, ⟨68, _⟩ => ⟨S12x4096x8, .f32⟩
  | .hbm, ⟨69, _⟩ => ⟨S1x4096x8, .f32⟩
  | .hbm, ⟨70, _⟩ => ⟨S12x4096x8, .f32⟩
  | .hbm, ⟨71, _⟩ => ⟨S12x4096x8, .f32⟩
  | .hbm, ⟨72, _⟩ => ⟨S1x4096x8, .f32⟩
  | .hbm, ⟨73, _⟩ => ⟨S12x4096x8, .f32⟩
  | .hbm, ⟨74, _⟩ => ⟨S12x4096x8, .f32⟩
  | .hbm, ⟨75, _⟩ => ⟨S12x4096x8, .f32⟩
  | .hbm, ⟨76, _⟩ => ⟨S1x4096x8, .f32⟩
  | .hbm, ⟨77, _⟩ => ⟨S12x4096x8, .f32⟩
  | .hbm, ⟨78, _⟩ => ⟨S12x4096x8, .f32⟩
  | .hbm, ⟨79, _⟩ => ⟨S1x4096x8, .f32⟩
  | .hbm, ⟨80, _⟩ => ⟨S12x4096x8, .f32⟩
  | .hbm, ⟨81, _⟩ => ⟨S12x4096x8, .f32⟩
  | .hbm, ⟨82, _⟩ => ⟨S12x4096x8, .f32⟩
  | .hbm, ⟨83, _⟩ => ⟨S12x4096x48, .f32⟩
  | .hbm, ⟨84, _⟩ => ⟨S12x4096x64, .f32⟩
  | .hbm, ⟨85, _⟩ => ⟨S1x12x4096x64, .f32⟩
  | .hbm, ⟨86, _⟩ => ⟨S12x4096x64, .f32⟩
  | .hbm, ⟨87, _⟩ => ⟨S4096x12x64, .f32⟩
  | .hbm, ⟨88, _⟩ => ⟨S4096x768, .f32⟩
  | .hbm, ⟨89, _⟩ => ⟨S4096x12x64, .f32⟩
  | .hbm, ⟨90, _⟩ => ⟨S4096x768, .f32⟩
  | .hbm, ⟨91, _⟩ => ⟨S4096x12x64, .f32⟩
  | .hbm, ⟨92, _⟩ => ⟨S4096x768, .f32⟩
  | .hbm, ⟨93, _⟩ => ⟨S4096x2816, .f32⟩
  | .hbm, ⟨94, _⟩ => ⟨S4096x5120, .f32⟩
  | .hbm, ⟨95, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩

abbrev nD : Nat := 1
abbrev τ : Topo := Topo.v7x

variable {F : FTy → Type} [FloatOps F]
-- ==== Proof.RealCoe.lean ====
/-
  Real numbers inside the extended reals: sums, and the literals of the programs.
-/
module

public import Idealize.ShloMosaic.PureOps.Ideal
public import Mathlib.Algebra.BigOperators.Fin

@[expose] public section

noncomputable section

namespace Cert.Train

open Idealize.ShloMosaic
open scoped BigOperators

/-- A finite sum of real numbers is the same sum in the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- An extended real whose magnitude is below `+∞` is a real number. -/
theorem real_of_abs_lt {x : EReal} (h : max x (-x) < ⊤) : ∃ r : ℝ, x = r := by
  induction x using EReal.rec with
  | bot => simp at h
  | top => simp at h
  | coe r => exact ⟨r, rfl⟩

/-- The host's test `|x| < +∞` says that `x` is a real number. -/
theorem real_of_test (x : EReal) (h : BitVec.ofBool (decide (max x (-x) < Ideal.ofBits .f32 0x7F800000#32)) = 1#1) : ∃ r : ℝ, x = r := by
  refine real_of_abs_lt ?_
  by_contra hn
  have e : Ideal.ofBits .f32 0x7F800000#32 = ⊤ := by simp [Ideal.ofBits, Ideal.ieee]
  rw [e, decide_eq_false hn] at h
  exact absurd h (by decide)

/-- The reciprocal square root of a positive real number. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- A quotient of real numbers. -/
theorem div_real {a b : ℝ} (h : b ≠ 0) : Ideal.div (a : EReal) (b : EReal) = ((a / b : ℝ) : EReal) := by
  rw [Ideal.div_coe h, ← EReal.coe_mul, one_div, div_eq_mul_inv]

/-- The small number that keeps a mean square away from zero: the `f32` nearest to `10⁻⁶`. -/
def eps : ℝ := 8796093 / 2 ^ 43

theorem eps_pos : 0 < eps := by unfold eps; positivity

theorem lit_eps : Ideal.ofBits .f32 0x358637BD#32 = ((eps : ℝ) : EReal) := by
  simp [Ideal.ofBits, Ideal.ieee, -EReal.coe_mul, eps]; norm_num
theorem lit_zero : Ideal.ofBits .f32 0x00000000#32 = ((0 : ℝ) : EReal) := by
  simp [Ideal.ofBits, Ideal.ieee, -EReal.coe_mul]
theorem lit_1024 : Ideal.ofBits .f32 0x44800000#32 = ((1024 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

end Cert.Train

end
-- ==== Proof.NormMath.lean ====
/-
  A row divided by its root mean square, and the gradient that goes back through it, in real numbers.
-/
module

public import proofs.«01_k».proof.Proof.RealCoe

@[expose] public section

noncomputable section

namespace Cert.Train

open scoped BigOperators

/-- The mean square of a row, plus the small number. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg _) (by norm_num)) eps_pos

/-- The reciprocal root mean square of a row. -/
def rs (x : Fin 1024 → ℝ) : ℝ := (Real.sqrt (ms x))⁻¹

/-- `1 / (√v)` cubed is `1 / √v` over `v`. -/
theorem rs_sq (x : Fin 1024 → ℝ) : rs x * rs x = 1 / ms x := by
  unfold rs; rw [← mul_inv, Real.mul_self_sqrt (ms_pos x).le, one_div]

/-- The gradient of a row `x` whose normalised and gained row has the cotangent `d`, as the calls write it. -/
def normDx (x g d : Fin 1024 → ℝ) (k : Fin 1024) : ℝ :=
  rs x * (d k * g k - x k * rs x * ((∑ l, d l * g l * (x l * rs x)) / 1024))

/-- The calls' way to write a row's gradient is the derivative's. -/
theorem normDx_eq (x g d : Fin 1024 → ℝ) (l : Fin 1024) :
    normDx x g d l = d l * g l * rs x
      + x l * ((∑ k, x k * (d k * g k)) * (-1 / 2 * (rs x / ms x)) / 1024)
      + (∑ k, x k * (d k * g k)) * (-1 / 2 * (rs x / ms x)) / 1024 * x l := by
  have h : ∑ k, d k * g k * (x k * rs x) = (∑ k, x k * (d k * g k)) * rs x := by
    rw [Finset.sum_mul]; exact Finset.sum_congr rfl fun k _ => by ring
  unfold normDx
  rw [h, show rs x / ms x = rs x * (rs x * rs x) by rw [rs_sq]; ring]
  ring

end Cert.Train

end
-- ==== Proof.FfnDxBlock.lean ====
/-
  What one block of 256 rows of the gate and up products' backward call computes, in real numbers: the cotangent of the
  normalised rows, the rows' gradient and the gain's.
-/
module

public import proofs.«01_k».proof.Proof.NormMath
public import proofs.«01_k».proof.Proof.Gen.FfnDxIdeal.Value
public import Idealize.ShloMosaic.Lib.Pointwise

@[expose] public section

set_option maxRecDepth 16384

noncomputable section

namespace Cert.Train.FfnDx

open Idealize.ShloMosaic
open scoped BigOperators
open Cert.FfnDxIdeal Cert.FfnDxIdeal.Gen

/-- The cotangent of a normalised and gained row: the gate's and the up product's gradients times the transposed weights. -/
def dh (wg wu : Fin 1024 → Fin 2816 → ℝ) (dg du : Fin 2816 → ℝ) (l : Fin 1024) : ℝ :=
  ∑ a, dg a * wg l a + ∑ a, du a * wu l a

section Block
variable (v0 v5 : Vec Ideal S256x2816 .bf16) (v2 v7 : Vec Ideal S2816x1024 .bf16) (v11 v36 : Vec Ideal S256x1024 .f32) (v12 : Vec Ideal S1x1024 .f32)
variable (X : Fin 256 → Fin 1024 → ℝ) (G : Fin 1024 → ℝ) (Dg Du : Fin 256 → Fin 2816 → ℝ) (Wg Wu : Fin 1024 → Fin 2816 → ℝ)
variable (h0 : ∀ r a, v0 (ix2 r a) = ((Dg r a : ℝ) : EReal)) (h2 : ∀ a l, v2 (ix2 a l) = ((Wg l a : ℝ) : EReal))
variable (h5 : ∀ r a, v5 (ix2 r a) = ((Du r a : ℝ) : EReal)) (h7 : ∀ a l, v7 (ix2 a l) = ((Wu l a : ℝ) : EReal))
variable (h11 : ∀ r l, v11 (ix2 r l) = ((X r l : ℝ) : EReal)) (h12 : ∀ l, v12 (ix2 0 l) = ((G l : ℝ) : EReal))

include h0 h2 h5 h7 in
theorem pay4_apply (r : Fin 256) (l : Fin 1024) : k0_pay4 v0 v2 v5 v7 (ix2 r l) = ((dh Wg Wu (Dg r) (Du r) l : ℝ) : EReal) := by
  pointwise [k0_pay4]
  simp only [h0, h2, h5, h7, ← EReal.coe_mul, coe_sum, ← EReal.coe_add]
  rfl

include h11 in
theorem pay5_apply (r : Fin 256) : k0_pay5 v11 (ix2 r 0) = ((rs (X r) : ℝ) : EReal) := by
  pointwise [k0_pay5]
  simp only [h11, lit_1024, lit_eps, ← EReal.coe_mul, coe_sum]
  rw [div_real (by norm_num), ← EReal.coe_add]
  exact rsqrt_pos (ms_pos (X r))

include h11 in
theorem pay6_apply (r : Fin 256) (l : Fin 1024) : k0_pay6 v11 (ix2 r l) = ((X r l * rs (X r) : ℝ) : EReal) := by
  pointwise [k0_pay6]
  rw [pay5_apply v11 X h11, h11, EReal.coe_mul]

include h0 h2 h5 h7 h11 h12 in
theorem pay7_apply (r : Fin 256) (l : Fin 1024) :
    k0_pay7 v0 v2 v5 v7 v11 v12 (ix2 r l) = ((normDx (X r) G (dh Wg Wu (Dg r) (Du r)) l : ℝ) : EReal) := by
  pointwise [k0_pay7]
  simp only [pay4_apply v0 v5 v2 v7 Dg Du Wg Wu h0 h2 h5 h7, pay5_apply v11 X h11, pay6_apply v11 X h11, h12, lit_1024, ← EReal.coe_mul, coe_sum,
    div_real (show (1024 : ℝ) ≠ 0 by norm_num), ← EReal.coe_sub]
  rfl

include h0 h2 h5 h7 h11 in
theorem pay2_apply (a : Fin 8) (l : Fin 1024) :
    k0_pay2 (k0_pay4 v0 v2 v5 v7) (k0_pay6 v11) (ix2 a l) = ((∑ r, dh Wg Wu (Dg r) (Du r) l * (X r l * rs (X r)) : ℝ) : EReal) := by
  pointwise [k0_pay2]
  simp only [pay4_apply v0 v5 v2 v7 Dg Du Wg Wu h0 h2 h5 h7, pay6_apply v11 X h11, ← EReal.coe_mul, coe_sum]

end Block

end Cert.Train.FfnDx

end
-- ==== Proof.FfnDxArr.lean ====
/-
  The arrays of the gate and up products' backward call after its run: each row's gradient and, collected block after
  block, the gain's.
-/
module

public import proofs.«01_k».proof.Proof.FfnDxBlock
public import Idealize.ShloMosaic.Lib.Pipeline.ValueKit
public import Idealize.ShloMosaic.Lib.Claim

@[expose] public section

set_option maxRecDepth 16384

noncomputable section

namespace Cert.Train.FfnDx

open Idealize.ShloMosaic Idealize.ShloMosaic.TcCoe Idealize.SL.Sem
open Idealize.ShloMosaic.Pipeline (Dat)
open scoped BigOperators
open Cert.FfnDxIdeal Cert.FfnDxIdeal.Gen

variable (m : (ℓ : Loc nD τ sig) → Buf (Elt Ideal) ℓ) (c : Dev nD)
variable (X : Fin 4096 → Fin 1024 → ℝ) (G : Fin 1024 → ℝ) (Wg Wu : Fin 1024 → Fin 2816 → ℝ) (Dg Du : Fin 4096 → Fin 2816 → ℝ)

/-- The call's arguments, but for the cotangent that passes by the layer, are real arrays. -/
structure Args : Prop where
  x : ∀ r l, m ((c : Thread nD τ).loc main_arg0) (ix2 r l) = ((X r l : ℝ) : EReal)
  g : ∀ l, m ((c : Thread nD τ).loc main_arg1) (ix1 l) = ((G l : ℝ) : EReal)
  wg : ∀ l a, m ((c : Thread nD τ).loc main_arg2) (ix2 l a) = ((Wg l a : ℝ) : EReal)
  wu : ∀ l a, m ((c : Thread nD τ).loc main_arg3) (ix2 l a) = ((Wu l a : ℝ) : EReal)
  dg : ∀ r a, m ((c : Thread nD τ).loc main_arg4) (ix2 r a) = ((Dg r a : ℝ) : EReal)
  du : ∀ r a, m ((c : Thread nD τ).loc main_arg5) (ix2 r a) = ((Du r a : ℝ) : EReal)

theorem N16 : cfg0.N = 16 := N_0

/-- Row `r` of block `n`. -/
def rowOf (n : Fin cfg0.N) (r : Fin 256) : Fin 4096 := ⟨n.val * 256 + r.val, by have := n.isLt; have hN : cfg0.N = 16 := N16; omega⟩

theorem idxs : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0])

variable {m c X G Wg Wu Dg Du} (h : Args m c X G Wg Wu Dg Du)
include h

theorem blk0 (t : Fin cfg0.N) (r : Fin 256) (a : Fin 2816) : iblk m c 0 t (ix2 r a) = ((Dg (rowOf t r) a : ℝ) : EReal) := by
  rw [← h.dg]
  blk_simp [iblk, idxs t]
  entry_read
  pointwise
  blk_ext [idxs t, rowOf]

theorem blk1 (t : Fin cfg0.N) (r : Fin 256) (a : Fin 2816) : iblk m c 1 t (ix2 r a) = ((Du (rowOf t r) a : ℝ) : EReal) := by
  rw [← h.du]
  blk_simp [iblk, idxs t]
  entry_read
  pointwise
  blk_ext [idxs t, rowOf]

theorem blk2 (t : Fin cfg0.N) (a : Fin 2816) (l : Fin 1024) : iblk m c 2 t (ix2 a l) = ((Wg l a : ℝ) : EReal) := by
  rw [← h.wg]
  blk_simp [iblk, idxs t]
  entry_read
  pointwise
  blk_ext [idxs t]

theorem blk3 (t : Fin cfg0.N) (a : Fin 2816) (l : Fin 1024) : iblk m c 3 t (ix2 a l) = ((Wu l a : ℝ) : EReal) := by
  rw [← h.wu]
  blk_simp [iblk, idxs t]
  entry_read
  pointwise
  blk_ext [idxs t]

theorem blk4 (t : Fin cfg0.N) (r : Fin 256) (l : Fin 1024) : iblk m c 4 t (ix2 r l) = ((X (rowOf t r) l : ℝ) : EReal) := by
  rw [← h.x]
  blk_ext [iblk, V, idxs t, rowOf]

theorem blk5 (t : Fin cfg0.N) (l : Fin 1024) : iblk m c 5 t (ix2 0 l) = ((G l : ℝ) : EReal) := by
  rw [← h.g]
  blk_simp [iblk, idxs t]
  entry_read
  pointwise
  blk_ext [idxs t]

omit h in
theorem blk6 (t : Fin cfg0.N) (r : Fin 256) (l : Fin 1024) :
    iblk m c 6 t (ix2 r l) = m ((c : Thread nD τ).loc main_arg6) (ix2 (rowOf t r) l) := by
  blk_ext [iblk, V, idxs t, rowOf]

/-- A row's gradient without the part that passes by the layer, and its part of the gain's gradient. -/
def dxRow (X : Fin 4096 → Fin 1024 → ℝ) (G : Fin 1024 → ℝ) (Wg Wu : Fin 1024 → Fin 2816 → ℝ) (Dg Du : Fin 4096 → Fin 2816 → ℝ) (r : Fin 4096) : Fin 1024 → ℝ :=
  normDx (X r) G (dh Wg Wu (Dg r) (Du r))
def dgRow (X : Fin 4096 → Fin 1024 → ℝ) (Wg Wu : Fin 1024 → Fin 2816 → ℝ) (Dg Du : Fin 4096 → Fin 2816 → ℝ) (l : Fin 1024) (r : Fin 4096) : ℝ :=
  dh Wg Wu (Dg r) (Du r) l * (X r l * rs (X r))

/-- All rows' gradients: what passes by the layer, and the layer's part. -/
def dxAll (y : S4096x1024.Idx → EReal) (X : Fin 4096 → Fin 1024 → ℝ) (G : Fin 1024 → ℝ) (Wg Wu : Fin 1024 → Fin 2816 → ℝ) (Dg Du : Fin 4096 → Fin 2816 → ℝ) :
    S4096x1024.Idx → EReal :=
  fun j => y j + ((dxRow X G Wg Wu Dg Du (j 0) (j 1) : ℝ) : EReal)

/-- Block `t`'s part of the gain's gradient. -/
def dgBlk (X : Fin 4096 → Fin 1024 → ℝ) (Wg Wu : Fin 1024 → Fin 2816 → ℝ) (Dg Du : Fin 4096 → Fin 2816 → ℝ) (l : Fin 1024) (t : Fin cfg0.N) : ℝ :=
  ∑ r, dgRow X Wg Wu Dg Du l (rowOf t r)

theorem blkDg (t : Fin cfg0.N) (a : Fin 8) (l : Fin 1024) :
    k0_pay2 (k0_pay4 (iblk m c 0 t) (iblk m c 2 t) (iblk m c 1 t) (iblk m c 3 t)) (k0_pay6 (iblk m c 4 t)) (ix2 a l)
      = ((dgBlk X Wg Wu Dg Du l t : ℝ) : EReal) :=
  pay2_apply _ _ _ _ _ _ _ _ Wg Wu (blk0 h t) (blk2 h t) (blk1 h t) (blk3 h t) (blk4 h t) a l

/-- After point `n` the collecting block holds the sum over blocks `0 … n`. -/
theorem outs_sum (a : Fin 8) (l : Fin 1024) : ∀ (n : ℕ) (hn : n < cfg0.N),
    (outsAt0 m c n hn).2 (ix2 a l) = ((∑ s : Fin (n + 1), dgBlk X Wg Wu Dg Du l ⟨s.val, by omega⟩ : ℝ) : EReal)
  | 0, hn => by
    rw [outsAt0_A m c ⟨0, hn⟩ rfl (by show ¬1 ≤ 0; omega)]
    dsimp only; frame_out
    rw [blkDg h]
    simp
  | n + 1, hn => by
    have ih := outs_sum a l n (Nat.lt_of_succ_lt hn)
    have hN : cfg0.N = 16 := N16
    rw [outsAt0_B m c ⟨n + 1, hn⟩ (by show ¬(n + 1) % 16 = 0; omega) (by show 1 ≤ n + 1; omega)]
    dsimp only; frame_out
    pointwise [k0_pay3]
    rw [blkDg h, Fin.sum_univ_castSucc, EReal.coe_add]
    exact congrArg₂ (· + ·) ih rfl

/-- The first array: each row's gradient, and what passes by the layer. -/
theorem final7 : (dats m 0 c).arrAt 7 cfg0.N = dxAll (m ((c : Thread nD τ).loc main_arg6)) X G Wg Wu Dg Du := by
  refine (dats m 0 c).arrAt_eq_of_covers 7 _ (by decide +kernel) fun t hf y => ?_
  have hN : cfg0.N = 16 := N16
  have key : (outsAt0 m c t.val t.isLt).1 = k0_pay1 (k0_pay7 (iblk m c 0 t) (iblk m c 2 t) (iblk m c 1 t) (iblk m c 3 t) (iblk m c 4 t) (iblk m c 5 t)) (iblk m c 6 t) := by
    by_cases h0 : t.val % 16 = 0
    · rw [outsAt0_A m c t h0 (by have := lt_of_lt_of_eq t.isLt hN; omega)]; funext y; dsimp only; frame_out
    · rw [outsAt0_B m c t h0 (by omega)]; funext y; dsimp only; frame_out
  blk_simp; rw [after0_7, key]
  idx_vars y
  have e : (win0_7.rect t).emb (ix2 y0 y1) = ix2 (rowOf t y0) y1 := by
    funext a; apply Fin.ext
    rw [Pipeline.Window.rect_emb_val win0_7 t (ix2 y0 y1) a, (idxs t).2.2.2.2.2.2.2.1]
    fin_cases a
    · rfl
    · exact Nat.zero_add _
  show _ = dxAll (m ((c : Thread nD τ).loc main_arg6)) X G Wg Wu Dg Du ((win0_7.rect t).emb (ix2 y0 y1))
  rw [e]
  refine Eq.trans ?_ (congrArg (· + ((dxRow X G Wg Wu Dg Du (rowOf t y0) y1 : ℝ) : EReal)) (blk6 (m := m) (c := c) t y0 y1))
  pointwise [k0_pay1]
  rw [pay7_apply _ _ _ _ _ _ _ G _ _ Wg Wu (blk0 h t) (blk2 h t) (blk1 h t) (blk3 h t) (blk4 h t) (blk5 h t) y0 y1]
  rfl

/-- Sums over the sixteen blocks are sums over all rows. -/
theorem dg_total (l : Fin 1024) (a : ∀ s : Fin 16, s.val < cfg0.N) :
    ∑ s : Fin 16, dgBlk X Wg Wu Dg Du l ⟨s.val, a s⟩ = ∑ i, dgRow X Wg Wu Dg Du l i :=
  Fin.sum_mul_add_fin 16 256 fun i : Fin 4096 => dgRow X Wg Wu Dg Du l i

/-- The second: the gain's gradient, in each of the eight rows. -/
theorem final8 : (dats m 0 c).arrAt 8 cfg0.N = fun j : S8x1024.Idx => ((∑ i, dgRow X Wg Wu Dg Du (j 1) i : ℝ) : EReal) := by
  refine (dats m 0 c).arrAt_eq_of_after_last 8 ⟨15, by rw [N16]; omega⟩ (by decide +kernel) _ fun j => ?_
  refine (congrFun (after0_8 m c ⟨15, by rw [N16]; omega⟩) _).trans ?_
  idx_vars j
  refine (outs_sum h j0 j1 15 (by rw [N16]; omega)).trans ?_
  exact congrArg _ (dg_total h j1 _)

end Cert.Train.FfnDx

end
-- ==== Proof.FfnDxRef.lean ====
/-
  What the derivative of the normalisation and the two products holds, element by element, in real numbers.
-/
module

public import proofs.«01_k».proof.Proof.FfnDxArr
public import proofs.«01_k».proof.Proof.Gen.FfnDxRefIdeal.Read

@[expose] public section

set_option maxRecDepth 16384

noncomputable section

namespace Cert.Train.FfnDx

open Idealize.ShloMosaic
open scoped BigOperators
open Cert.FfnDxRefIdeal Cert.FfnDxRefIdeal.Gen Cert.FfnDxRefIdeal.Read

section Ref
variable (x dy : Vec Ideal S4096x1024 .f32) (g : Vec Ideal S1024 .f32) (wg wu : Vec Ideal S1024x2816 .f32) (dg du : Vec Ideal S4096x2816 .f32)
variable (X : Fin 4096 → Fin 1024 → ℝ) (G : Fin 1024 → ℝ) (Wg Wu : Fin 1024 → Fin 2816 → ℝ) (Dg Du : Fin 4096 → Fin 2816 → ℝ)
variable (hx : ∀ r l, x (ix2 r l) = ((X r l : ℝ) : EReal)) (hg : ∀ l, g (ix1 l) = ((G l : ℝ) : EReal))
variable (hwg : ∀ l a, wg (ix2 l a) = ((Wg l a : ℝ) : EReal)) (hwu : ∀ l a, wu (ix2 l a) = ((Wu l a : ℝ) : EReal))
variable (hdg : ∀ r a, dg (ix2 r a) = ((Dg r a : ℝ) : EReal)) (hdu : ∀ r a, du (ix2 r a) = ((Du r a : ℝ) : EReal))

include hx in
theorem ref6 (r : Fin 4096) : val_main_v6 x (ix2 r 0) = ((ms (X r) : ℝ) : EReal) := by
  pointwise [val_main_v6, val_main_v5, val_main_v4, val_main_v3, val_main_v2, val_main_v1, val_main_v0, val_main_cst, val_main_cst_0, val_main_cst_1]
  simp only [hx, lit_1024, lit_eps, lit_zero, ← EReal.coe_mul, coe_sum, EReal.coe_zero, zero_add]
  rw [div_real (by norm_num), ← EReal.coe_add]; rfl

include hx in
theorem ref7 (r : Fin 4096) : val_main_v7 x (ix2 r 0) = ((rs (X r) : ℝ) : EReal) := by
  pointwise [val_main_v7]
  rw [ref6 x X hx, rsqrt_pos (ms_pos _)]; rfl

include hx in
theorem ref10 (r : Fin 4096) (a : Fin 1) : val_main_v10 x (ix2 r a) = ((-1 / 2 * (rs (X r) / ms (X r)) : ℝ) : EReal) := by
  obtain rfl : a = 0 := Subsingleton.elim _ _
  pointwise [val_main_v10, val_main_v9, val_main_v8, val_main_cst_2]
  rw [ref6 x X hx, ref7 x X hx, lit_neg_half, div_real (ms_pos _).ne', ← EReal.coe_mul]

include hx in
theorem ref12 (r : Fin 4096) (l : Fin 1024) : val_main_v12 x (ix2 r l) = ((X r l * rs (X r) : ℝ) : EReal) := by
  pointwise [val_main_v12, val_main_v11]
  rw [ref7 x X hx, hx, EReal.coe_mul]

include hwg hwu hdg hdu in
/-- The cotangent of the normalised row: the derivative adds the two products in the other order. -/
theorem ref20 (r : Fin 4096) (l : Fin 1024) : val_main_v20 wg wu dg du (ix2 r l) = ((dh Wg Wu (Dg r) (Du r) l : ℝ) : EReal) := by
  pointwise [val_main_v20, val_main_v19, val_main_v18]
  simp only [hwg, hwu, hdg, hdu, ← EReal.coe_mul, coe_sum, ← EReal.coe_add]
  exact congrArg _ (add_comm _ _)

include hx hwg hwu hdg hdu in
theorem ref42 (a : Fin 8) (l : Fin 1024) : val_main_v42 x wg wu dg du (ix2 a l) = ((∑ r, dgRow X Wg Wu Dg Du l r : ℝ) : EReal) := by
  pointwise [val_main_v42, val_main_v26, val_main_v23, val_main_v22, val_main_v21, val_main_cst_3, val_main_cst_4]
  simp only [ref12 x X hx, ref20 wg wu dg du Wg Wu Dg Du hwg hwu hdg hdu, lit_zero, ← EReal.coe_mul, coe_sum, EReal.coe_zero, zero_add]
  rw [Finset.univ_unique, Finset.sum_singleton]
  simp only [dgRow, mul_comm]

include hx hg hwg hwu hdg hdu in
theorem ref41 (r : Fin 4096) (l : Fin 1024) :
    val_main_v41 x g wg wu dg du dy (ix2 r l) = dxAll dy X G Wg Wu Dg Du (ix2 r l) := by
  refine Eq.trans ?_ (rfl : dy (ix2 r l) + ((dxRow X G Wg Wu Dg Du r l : ℝ) : EReal) = _)
  pointwise [val_main_v41, val_main_v40, val_main_v39, val_main_v38, val_main_v37, val_main_v36, val_main_v35, val_main_v34, val_main_v33, val_main_v32, val_main_v31, val_main_v30, val_main_v29, val_main_v28, val_main_v27, val_main_v25, val_main_v24, val_main_v13, val_main_cst_5, val_main_cst_6, val_main_cst_7]
  simp only [ref7 x X hx, ref10 x X hx, ref20 wg wu dg du Wg Wu Dg Du hwg hwu hdg hdu, hx, hg, lit_1024, lit_zero, ← EReal.coe_mul, coe_sum, EReal.coe_zero, zero_add,
    div_real (show (1024 : ℝ) ≠ 0 by norm_num), Finset.univ_unique, Finset.sum_singleton, add_assoc, ← EReal.coe_add]
  rw [dxRow, normDx_eq, add_assoc]

end Ref

end Cert.Train.FfnDx

end
-- ==== Proof.FfnDxPre.lean ====
/-
  The precondition of the gate and up products' backward call read as real arrays.
-/
module

public import proofs.«01_k».proof.Proof.FfnDxArr
public import proofs.«01_k».proof.Proof.Gen.Pre_ffndx_finite
public import proofs.«01_k».proof.Defs

@[expose] public section

set_option maxRecDepth 16384

noncomputable section

namespace Cert.Train.FfnDx

open Idealize.ShloMosaic Idealize.ShloMosaic.TcCoe
open Cert.FfnDxIdeal

/-- Arguments that lie strictly between minus and plus infinity are real. -/
theorem pre_reals {m : (ℓ : Loc nD τ sig) → Buf (Elt Ideal) ℓ} (H : Cert.Pre_FfnDxIdeal_ffndx_finite m) (c : Dev nD) :
    ∃ X G Wg Wu Dg Du, Args m c X G Wg Wu Dg Du := by
  obtain ⟨h0, h1, h2, h3, h4, h5⟩ := H c
  choose X hX using fun (r : Fin 4096) (l : Fin 1024) => real_of_test (m ((c : Thread nD τ).loc main_arg0) (ix2 r l)) (congrFun h0 (ix2 r l))
  choose G hG using fun (l : Fin 1024) => real_of_test (m ((c : Thread nD τ).loc main_arg1) (ix1 l)) (congrFun h1 (ix1 l))
  choose Wg hWg using fun (l : Fin 1024) (a : Fin 2816) => real_of_test (m ((c : Thread nD τ).loc main_arg2) (ix2 l a)) (congrFun h2 (ix2 l a))
  choose Wu hWu using fun (l : Fin 1024) (a : Fin 2816) => real_of_test (m ((c : Thread nD τ).loc main_arg3) (ix2 l a)) (congrFun h3 (ix2 l a))
  choose Dg hDg using fun (r : Fin 4096) (a : Fin 2816) => real_of_test (m ((c : Thread nD τ).loc main_arg4) (ix2 r a)) (congrFun h4 (ix2 r a))
  choose Du hDu using fun (r : Fin 4096) (a : Fin 2816) => real_of_test (m ((c : Thread nD τ).loc main_arg5) (ix2 r a)) (congrFun h5 (ix2 r a))
  exact ⟨X, G, Wg, Wu, Dg, Du, ⟨hX, hG, hWg, hWu, hDg, hDu⟩⟩

end Cert.Train.FfnDx

end
-- ==== Proof.FfnDxValue.lean ====
/-
  The gate and up products' backward call: its frame as the reference has it, and its value.
-/
module

public import proofs.«01_k».proof.Proof.FfnDxRef
public import proofs.«01_k».proof.Proof.FfnDxPre
public import proofs.«01_k».proof.Proof.Gen.FfnDxRefIdeal.Run
public import Idealize.ShloMosaic.Lib.Quiescent

@[expose] public section

set_option maxRecDepth 16384

noncomputable section

namespace Cert.Train.FfnDx

open Idealize.ShloMosaic Idealize.ShloMosaic.TcCoe Idealize.SL.Sem

theorem frame_ref : Cert.quiescent_FfnDxRefIdeal := fun m ρ _ =>
  (θ_run _ _ _).mono (fun r h => ⟨fun c => (h c).2.2, sem_eq_zero_of_no_sems rfl r.2⟩) (Cert.FfnDxRefIdeal.Value.run (F := Ideal) m ρ)

/-- The call's two arrays are the derivative's. -/
theorem value : Cert.algebraic_FfnDxIdeal_FfnDxRefIdeal_pre_ffndx_finite := by
  intro m g m' g' hpre hargs
  choose X G Wg Wu Dg Du hr using pre_reals hpre
  refine ⟨fun c => dxAll (m ((c : Thread Cert.FfnDxIdeal.nD Cert.FfnDxIdeal.τ).loc Cert.FfnDxIdeal.main_arg6)) (X c) (G c) (Wg c) (Wu c) (Dg c) (Du c),
    fun c j => ((∑ i, dgRow (X c) (Wg c) (Wu c) (Dg c) (Du c) (j 1) i : ℝ) : EReal), ?_, ?_⟩
  · refine (θ_run _ _ _).mono (fun r h c => ?_) (Cert.FfnDxIdeal.Value.run_blocks (F := Ideal) m g)
    exact ⟨(h c).1.trans (final7 (hr c)), (h c).2.1.trans (final8 (hr c)), (h c).2.2⟩
  · refine (θ_run _ _ _).mono (fun r h c => ?_) (Cert.FfnDxRefIdeal.Value.run (F := Ideal) m' g')
    obtain ⟨h0, h1, ha⟩ := h c
    obtain ⟨a0, a1, a2, a3, a4, a5, a6⟩ := hargs c
    have e := hr c
    refine ⟨h0.trans ((Cert.FfnDxRefIdeal.Read.val_main_v41_eq m' c).trans ?_), h1.trans ((Cert.FfnDxRefIdeal.Read.val_main_v42_eq _ _ _ _ _).trans ?_), ha⟩
    · rw [a0, a1, a2, a3, a4, a5, a6]
      funext j; idx_vars j
      exact ref41 _ _ _ _ _ _ _ _ _ _ _ _ _ e.x e.g e.wg e.wu e.dg e.du j0 j1
    · rw [a0, a2, a3, a4, a5]
      funext j; idx_vars j
      exact ref42 _ _ _ _ _ _ _ _ _ _ e.x e.wg e.wu e.dg e.du j0 j1

end Cert.Train.FfnDx

end
-- ==== Proof.MixDxBlock.lean ====
/-
  What one block of 512 rows of the mixer's input product's backward call computes, in real numbers: the cotangent of the
  normalised rows in four pieces of columns, the rows' gradient and the gain's.
-/
module

public import proofs.«01_k».proof.Proof.NormMath
public import proofs.«01_k».proof.Proof.Gen.MixDxIdeal.Value
public import Idealize.ShloMosaic.Lib.Pipeline.ValueKit
public import Idealize.ShloMosaic.Lib.Pointwise

@[expose] public section

set_option maxRecDepth 16384

noncomputable section

namespace Cert.Train.MixDx

open Idealize.ShloMosaic
open scoped BigOperators
open Cert.MixDxIdeal Cert.MixDxIdeal.Gen

/-- The cotangent of a normalised and gained row: the product's gradient times the transposed weight. -/
def dh (w : Fin 1024 → Fin 5120 → ℝ) (d : Fin 5120 → ℝ) (l : Fin 1024) : ℝ := ∑ a, d a * w l a

/-- Column `a` of the `s`-th piece of columns. -/
def col (s : Fin 4) (a : Fin 1280) : Fin 5120 := ⟨s.val * 1280 + a.val, by have := s.isLt; have := a.isLt; omega⟩

/-- The product's sum is collected piece after piece. -/
theorem dh_pieces (w : Fin 1024 → Fin 5120 → ℝ) (d : Fin 5120 → ℝ) (l : Fin 1024) :
    ∑ a, d (col 0 a) * w l (col 0 a) + ∑ a, d (col 1 a) * w l (col 1 a) + ∑ a, d (col 2 a) * w l (col 2 a) + ∑ a, d (col 3 a) * w l (col 3 a)
      = dh w d l :=
  (Fin.sum_univ_four fun s => ∑ a, d (col s a) * w l (col s a)).symm.trans (Fin.sum_mul_add_fin 4 1280 fun a : Fin 5120 => d a * w l a)

section Product
variable (d0 d1 d2 d3 : Vec Ideal S512x1280 .bf16) (w0 w1 w2 w3 : Vec Ideal S1x1x1024x1280 .bf16)
variable (D : Fin 512 → Fin 5120 → ℝ) (W : Fin 1024 → Fin 5120 → ℝ)

/-- The call's four products, added up. -/
theorem pay6_apply (hd0 : ∀ r a, d0 (ix2 r a) = ((D r (col 0 a) : ℝ) : EReal)) (hd1 : ∀ r a, d1 (ix2 r a) = ((D r (col 1 a) : ℝ) : EReal))
    (hd2 : ∀ r a, d2 (ix2 r a) = ((D r (col 2 a) : ℝ) : EReal)) (hd3 : ∀ r a, d3 (ix2 r a) = ((D r (col 3 a) : ℝ) : EReal))
    (hw0 : ∀ l a, w0 (ix4 0 0 l a) = ((W l (col 0 a) : ℝ) : EReal)) (hw1 : ∀ l a, w1 (ix4 0 0 l a) = ((W l (col 1 a) : ℝ) : EReal))
    (hw2 : ∀ l a, w2 (ix4 0 0 l a) = ((W l (col 2 a) : ℝ) : EReal)) (hw3 : ∀ l a, w3 (ix4 0 0 l a) = ((W l (col 3 a) : ℝ) : EReal))
    (r : Fin 512) (l : Fin 1024) : k0_pay6 d0 w0 d1 w1 d2 w2 d3 w3 (ix2 r l) = ((dh W (D r) l : ℝ) : EReal) := by
  pointwise [k0_pay6]
  simp only [hd0, hd1, hd2, hd3, hw0, hw1, hw2, hw3, ← EReal.coe_mul, coe_sum, ← EReal.coe_add]
  rw [dh_pieces]

end Product

section Block
variable (v22 : FVec Ideal S512x1024 .f32) (v23 v48 : Vec Ideal S512x1024 .f32) (v24 : Vec Ideal S1x1024 .f32)
variable (X E : Fin 512 → Fin 1024 → ℝ) (G : Fin 1024 → ℝ)
variable (h22 : ∀ r l, v22 (ix2 r l) = ((E r l : ℝ) : EReal)) (h23 : ∀ r l, v23 (ix2 r l) = ((X r l : ℝ) : EReal))
variable (h24 : ∀ l, v24 (ix2 0 l) = ((G l : ℝ) : EReal))

include h23 in
theorem pay1_apply (r : Fin 512) : k0_pay1 v23 (ix2 r 0) = ((rs (X r) : ℝ) : EReal) := by
  pointwise [k0_pay1]
  simp only [h23, lit_1024, lit_eps, ← EReal.coe_mul, coe_sum]
  rw [div_real (by norm_num), ← EReal.coe_add]
  exact rsqrt_pos (ms_pos (X r))

include h23 in
theorem pay2_apply (r : Fin 512) (l : Fin 1024) : k0_pay2 v23 (ix2 r l) = ((X r l * rs (X r) : ℝ) : EReal) := by
  pointwise [k0_pay2]
  rw [pay1_apply v23 X h23, h23, EReal.coe_mul]

include h22 h23 h24 in
theorem pay3_apply (r : Fin 512) (l : Fin 1024) :
    k0_pay3 v22 v23 v24 v48 (ix2 r l) = v48 (ix2 r l) + ((normDx (X r) G (E r) l : ℝ) : EReal) := by
  pointwise [k0_pay3]
  simp only [pay1_apply v23 X h23, pay2_apply v23 X h23, h22, h24, lit_1024, ← EReal.coe_mul, coe_sum,
    div_real (show (1024 : ℝ) ≠ 0 by norm_num), ← EReal.coe_sub]
  rfl

include h22 h23 in
theorem pay4_apply (a : Fin 8) (l : Fin 1024) : k0_pay4 v22 v23 (ix2 a l) = ((∑ r, E r l * (X r l * rs (X r)) : ℝ) : EReal) := by
  pointwise [k0_pay4]
  simp only [h22, pay2_apply v23 X h23, ← EReal.coe_mul, coe_sum]

end Block

end Cert.Train.MixDx

end
-- ==== Proof.MixDxArr.lean ====
/-
  The arrays of the mixer's input product's backward call after its run: each row's gradient and, collected block after
  block, the gain's.
-/
module

public import proofs.«01_k».proof.Proof.MixDxBlock
public import Idealize.ShloMosaic.Lib.Pipeline.ValueKit
public import Idealize.ShloMosaic.Lib.Claim

@[expose] public section

set_option maxRecDepth 16384

noncomputable section

namespace Cert.Train.MixDx

open Idealize.ShloMosaic Idealize.ShloMosaic.TcCoe Idealize.SL.Sem
open Idealize.ShloMosaic.Pipeline (Dat)
open scoped BigOperators
open Cert.MixDxIdeal Cert.MixDxIdeal.Gen

variable (m : (ℓ : Loc nD τ sig) → Buf (Elt Ideal) ℓ) (c : Dev nD)
variable (X : Fin 4096 → Fin 1024 → ℝ) (G : Fin 1024 → ℝ) (W : Fin 1024 → Fin 5120 → ℝ) (D : Fin 4096 → Fin 5120 → ℝ)

/-- The call's arguments, but for the cotangent that passes by the layer, are real arrays. -/
structure Args : Prop where
  x : ∀ r l, m ((c : Thread nD τ).loc main_arg0) (ix2 r l) = ((X r l : ℝ) : EReal)
  g : ∀ l, m ((c : Thread nD τ).loc main_arg1) (ix1 l) = ((G l : ℝ) : EReal)
  w : ∀ l a, m ((c : Thread nD τ).loc main_arg2) (ix2 l a) = ((W l a : ℝ) : EReal)
  d : ∀ r a, m ((c : Thread nD τ).loc main_arg3) (ix2 r a) = ((D r a : ℝ) : EReal)

theorem N8 : cfg0.N = 8 := N_0

/-- Row `r` of block `n`. -/
def rowOf (n : Fin cfg0.N) (r : Fin 512) : Fin 4096 := ⟨n.val * 512 + r.val, by have := n.isLt; have hN : cfg0.N = 8 := N8; omega⟩

theorem idxs : ∀ t : Fin cfg0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![0, 0])

variable {m c X G W D} (h : Args m c X G W D)
include h

theorem blk0 (t : Fin cfg0.N) (r : Fin 512) (a : Fin 5120) : iblk m c 0 t (ix2 r a) = ((D (rowOf t r) a : ℝ) : EReal) := by
  rw [← h.d]
  blk_simp [iblk, idxs t]
  entry_read
  pointwise
  blk_ext [idxs t, rowOf]

theorem blk1 (t : Fin cfg0.N) (s : Fin 4) (l : Fin 1024) (a : Fin 1280) : iblk m c 1 t (ix4 s 0 l a) = ((W l (col s a) : ℝ) : EReal) := by
  rw [← h.w]
  blk_simp [iblk, idxs t]
  entry_read
  pointwise
  blk_ext [idxs t, col]

theorem blk2 (t : Fin cfg0.N) (r : Fin 512) (l : Fin 1024) : iblk m c 2 t (ix2 r l) = ((X (rowOf t r) l : ℝ) : EReal) := by
  rw [← h.x]
  blk_ext [iblk, V, idxs t, rowOf]

theorem blk3 (t : Fin cfg0.N) (l : Fin 1024) : iblk m c 3 t (ix2 0 l) = ((G l : ℝ) : EReal) := by
  rw [← h.g]
  blk_simp [iblk, idxs t]
  entry_read
  pointwise
  blk_ext [idxs t]

omit h in
theorem blk4 (t : Fin cfg0.N) (r : Fin 512) (l : Fin 1024) :
    iblk m c 4 t (ix2 r l) = m ((c : Thread nD τ).loc main_arg4) (ix2 (rowOf t r) l) := by
  blk_ext [iblk, V, idxs t, rowOf]

/-- A row's gradient without the part that passes by the layer, and its part of the gain's gradient. -/
def dxRow (X : Fin 4096 → Fin 1024 → ℝ) (G : Fin 1024 → ℝ) (W : Fin 1024 → Fin 5120 → ℝ) (D : Fin 4096 → Fin 5120 → ℝ) (r : Fin 4096) : Fin 1024 → ℝ :=
  normDx (X r) G (dh W (D r))
def dgRow (X : Fin 4096 → Fin 1024 → ℝ) (W : Fin 1024 → Fin 5120 → ℝ) (D : Fin 4096 → Fin 5120 → ℝ) (l : Fin 1024) (r : Fin 4096) : ℝ :=
  dh W (D r) l * (X r l * rs (X r))

/-- All rows' gradients: what passes by the layer, and the layer's part. -/
def dxAll (y : S4096x1024.Idx → EReal) (X : Fin 4096 → Fin 1024 → ℝ) (G : Fin 1024 → ℝ) (W : Fin 1024 → Fin 5120 → ℝ) (D : Fin 4096 → Fin 5120 → ℝ) :
    S4096x1024.Idx → EReal :=
  fun j => y j + ((dxRow X G W D (j 0) (j 1) : ℝ) : EReal)

/-- Block `t`'s part of the gain's gradient. -/
def dgBlk (X : Fin 4096 → Fin 1024 → ℝ) (W : Fin 1024 → Fin 5120 → ℝ) (D : Fin 4096 → Fin 5120 → ℝ) (l : Fin 1024) (t : Fin cfg0.N) : ℝ :=
  ∑ r, dgRow X W D l (rowOf t r)

/-- The product of point `t`'s block of gradients and the weight, as the body loads their pieces. -/
def prod (m : (ℓ : Loc nD τ sig) → Buf (Elt Ideal) ℓ) (c : Dev nD) (t : Fin cfg0.N) : FVec Ideal S512x1024 .f32 :=
  k0_pay6 (View.ld (iblk m c 0 t) (Rect.unit ![0, 0] ![512, 1280] inb_S512x5120_S512x1280_0_0))
    (View.ld (iblk m c 1 t) (Rect.unit ![0, 0, 0, 0] ![1, 1, 1024, 1280] inb_S4x1x1024x1280_S1x1x1024x1280_0_0_0_0))
    (View.ld (iblk m c 0 t) (Rect.unit ![0, 1280] ![512, 1280] inb_S512x5120_S512x1280_0_1280))
    (View.ld (iblk m c 1 t) (Rect.unit ![1, 0, 0, 0] ![1, 1, 1024, 1280] inb_S4x1x1024x1280_S1x1x1024x1280_1_0_0_0))
    (View.ld (iblk m c 0 t) (Rect.unit ![0, 2560] ![512, 1280] inb_S512x5120_S512x1280_0_2560))
    (View.ld (iblk m c 1 t) (Rect.unit ![2, 0, 0, 0] ![1, 1, 1024, 1280] inb_S4x1x1024x1280_S1x1x1024x1280_2_0_0_0))
    (View.ld (iblk m c 0 t) (Rect.unit ![0, 3840] ![512, 1280] inb_S512x5120_S512x1280_0_3840))
    (View.ld (iblk m c 1 t) (Rect.unit ![3, 0, 0, 0] ![1, 1, 1024, 1280] inb_S4x1x1024x1280_S1x1x1024x1280_3_0_0_0))

omit h in
theorem ldD (v : Vec Ideal S512x5120 .bf16) (s : Fin 4) (inb : ∀ a, ![0, s.val * 1280] a + ![512, 1280] a ≤ S512x5120.size a) (r : Fin 512) (a : Fin 1280) :
    View.ld v (Rect.unit ![0, s.val * 1280] ![512, 1280] inb) (ix2 r a) = v (ix2 r (col s a)) := by
  refine View.ld_unit_apply_of v _ _ inb (ix2 r a) _ fun k => ?_
  fin_cases k
  · exact (Nat.zero_add _).symm
  · rfl

omit h in
theorem ldW (v : Vec Ideal S4x1x1024x1280 .bf16) (s : Fin 4) (inb : ∀ a, ![s.val, 0, 0, 0] a + ![1, 1, 1024, 1280] a ≤ S4x1x1024x1280.size a) (l : Fin 1024) (a : Fin 1280) :
    View.ld v (Rect.unit ![s.val, 0, 0, 0] ![1, 1, 1024, 1280] inb) (ix4 0 0 l a) = v (ix4 s 0 l a) := by
  refine View.ld_unit_apply_of v _ _ inb (ix4 0 0 l a) _ fun k => ?_
  fin_cases k
  · rfl
  · rfl
  · exact (Nat.zero_add _).symm
  · exact (Nat.zero_add _).symm

theorem prod_apply (t : Fin cfg0.N) (r : Fin 512) (l : Fin 1024) : prod m c t (ix2 r l) = ((dh W (D (rowOf t r)) l : ℝ) : EReal) :=
  pay6_apply _ _ _ _ _ _ _ _ (fun r => D (rowOf t r)) W
    (fun r a => (ldD (iblk m c 0 t) 0 _ r a).trans (blk0 h t r _)) (fun r a => (ldD (iblk m c 0 t) 1 _ r a).trans (blk0 h t r _))
    (fun r a => (ldD (iblk m c 0 t) 2 _ r a).trans (blk0 h t r _)) (fun r a => (ldD (iblk m c 0 t) 3 _ r a).trans (blk0 h t r _))
    (fun l a => (ldW (iblk m c 1 t) 0 _ l a).trans (blk1 h t 0 l a)) (fun l a => (ldW (iblk m c 1 t) 1 _ l a).trans (blk1 h t 1 l a))
    (fun l a => (ldW (iblk m c 1 t) 2 _ l a).trans (blk1 h t 2 l a)) (fun l a => (ldW (iblk m c 1 t) 3 _ l a).trans (blk1 h t 3 l a)) r l

theorem blkDg (t : Fin cfg0.N) (a : Fin 8) (l : Fin 1024) :
    k0_pay4 (prod m c t) (iblk m c 2 t) (ix2 a l) = ((dgBlk X W D l t : ℝ) : EReal) :=
  pay4_apply _ _ _ _ (prod_apply h t) (blk2 h t) a l

/-- After point `n` the collecting block holds the sum over blocks `0 … n`. -/
theorem outs_sum (a : Fin 8) (l : Fin 1024) : ∀ (n : ℕ) (hn : n < cfg0.N),
    (outsAt0 m c n hn).2 (ix2 a l) = ((∑ s : Fin (n + 1), dgBlk X W D l ⟨s.val, by omega⟩ : ℝ) : EReal)
  | 0, hn => by
    rw [outsAt0_A m c ⟨0, hn⟩ rfl (by show ¬1 ≤ 0; omega)]
    dsimp only; frame_out
    refine (blkDg h ⟨0, hn⟩ a l).trans ?_
    simp
  | n + 1, hn => by
    have ih := outs_sum a l n (Nat.lt_of_succ_lt hn)
    have hN : cfg0.N = 8 := N8
    rw [outsAt0_B m c ⟨n + 1, hn⟩ (by show ¬(n + 1) % 8 = 0; omega) (by show 1 ≤ n + 1; omega)]
    dsimp only; frame_out
    pointwise [k0_pay5]
    rw [Fin.sum_univ_castSucc, EReal.coe_add]
    exact congrArg₂ (· + ·) ih (blkDg h ⟨n + 1, hn⟩ a l)

/-- The first array: each row's gradient, and what passes by the layer. -/
theorem final5 : (dats m 0 c).arrAt 5 cfg0.N = dxAll (m ((c : Thread nD τ).loc main_arg4)) X G W D := by
  refine (dats m 0 c).arrAt_eq_of_covers 5 _ (by decide +kernel) fun t hf y => ?_
  have hN : cfg0.N = 8 := N8
  have key : (outsAt0 m c t.val t.isLt).1 = k0_pay3 (prod m c t) (iblk m c 2 t) (iblk m c 3 t) (iblk m c 4 t) := by
    by_cases h0 : t.val % 8 = 0
    · rw [outsAt0_A m c t h0 (by have := lt_of_lt_of_eq t.isLt hN; omega)]; funext y; dsimp only; frame_out; rfl
    · rw [outsAt0_B m c t h0 (by omega)]; funext y; dsimp only; frame_out; rfl
  blk_simp; rw [after0_5, key]
  idx_vars y
  have e : (win0_5.rect t).emb (ix2 y0 y1) = ix2 (rowOf t y0) y1 := by
    funext a; apply Fin.ext
    rw [Pipeline.Window.rect_emb_val win0_5 t (ix2 y0 y1) a, (idxs t).2.2.2.2.2.1]
    fin_cases a
    · rfl
    · exact Nat.zero_add _
  show _ = dxAll (m ((c : Thread nD τ).loc main_arg4)) X G W D ((win0_5.rect t).emb (ix2 y0 y1))
  rw [e]
  refine Eq.trans ?_ (congrArg (· + ((dxRow X G W D (rowOf t y0) y1 : ℝ) : EReal)) (blk4 (m := m) (c := c) t y0 y1))
  exact pay3_apply _ _ _ _ _ _ G (prod_apply h t) (blk2 h t) (blk3 h t) y0 y1

/-- Sums over the eight blocks are sums over all rows. -/
theorem dg_total (l : Fin 1024) (a : ∀ s : Fin 8, s.val < cfg0.N) : ∑ s : Fin 8, dgBlk X W D l ⟨s.val, a s⟩ = ∑ i, dgRow X W D l i :=
  Fin.sum_mul_add_fin 8 512 fun i : Fin 4096 => dgRow X W D l i

/-- The second: the gain's gradient, in each of the eight rows. -/
theorem final6 : (dats m 0 c).arrAt 6 cfg0.N = fun j : S8x1024.Idx => ((∑ i, dgRow X W D (j 1) i : ℝ) : EReal) := by
  refine (dats m 0 c).arrAt_eq_of_after_last 6 ⟨7, by rw [N8]; omega⟩ (by decide +kernel) _ fun j => ?_
  refine (congrFun (after0_6 m c ⟨7, by rw [N8]; omega⟩) _).trans ?_
  idx_vars j
  refine (outs_sum h j0 j1 7 (by rw [N8]; omega)).trans ?_
  exact congrArg _ (dg_total h j1 _)

end Cert.Train.MixDx

end
-- ==== Proof.MixDxRef.lean ====
/-
  What the derivative of the normalisation and the mixer's input product holds, element by element, in real numbers.
-/
module

public import proofs.«01_k».proof.Proof.MixDxArr
public import proofs.«01_k».proof.Proof.Gen.MixDxRefIdeal.Read

@[expose] public section

set_option maxRecDepth 16384

noncomputable section

namespace Cert.Train.MixDx

open Idealize.ShloMosaic
open scoped BigOperators
open Cert.MixDxRefIdeal Cert.MixDxRefIdeal.Gen Cert.MixDxRefIdeal.Read

section Ref
variable (x dy : Vec Ideal S4096x1024 .f32) (g : Vec Ideal S1024 .f32) (w : Vec Ideal S1024x5120 .f32) (d : Vec Ideal S4096x5120 .f32)
variable (X : Fin 4096 → Fin 1024 → ℝ) (G : Fin 1024 → ℝ) (W : Fin 1024 → Fin 5120 → ℝ) (D : Fin 4096 → Fin 5120 → ℝ)
variable (hx : ∀ r l, x (ix2 r l) = ((X r l : ℝ) : EReal)) (hg : ∀ l, g (ix1 l) = ((G l : ℝ) : EReal))
variable (hw : ∀ l a, w (ix2 l a) = ((W l a : ℝ) : EReal)) (hd : ∀ r a, d (ix2 r a) = ((D r a : ℝ) : EReal))

include hx in
theorem ref6 (r : Fin 4096) : val_main_v6 x (ix2 r 0) = ((ms (X r) : ℝ) : EReal) := by
  pointwise [val_main_v6, val_main_v5, val_main_v4, val_main_v3, val_main_v2, val_main_v1, val_main_v0, val_main_cst, val_main_cst_0, val_main_cst_1]
  simp only [hx, lit_1024, lit_eps, lit_zero, ← EReal.coe_mul, coe_sum, EReal.coe_zero, zero_add]
  rw [div_real (by norm_num), ← EReal.coe_add]; rfl

include hx in
theorem ref7 (r : Fin 4096) : val_main_v7 x (ix2 r 0) = ((rs (X r) : ℝ) : EReal) := by
  pointwise [val_main_v7]
  rw [ref6 x X hx, rsqrt_pos (ms_pos _)]; rfl

include hx in
theorem ref10 (r : Fin 4096) (a : Fin 1) : val_main_v10 x (ix2 r a) = ((-1 / 2 * (rs (X r) / ms (X r)) : ℝ) : EReal) := by
  obtain rfl : a = 0 := Subsingleton.elim _ _
  pointwise [val_main_v10, val_main_v9, val_main_v8, val_main_cst_2]
  rw [ref6 x X hx, ref7 x X hx, lit_neg_half, div_real (ms_pos _).ne', ← EReal.coe_mul]

include hx in
theorem ref12 (r : Fin 4096) (l : Fin 1024) : val_main_v12 x (ix2 r l) = ((X r l * rs (X r) : ℝ) : EReal) := by
  pointwise [val_main_v12, val_main_v11]
  rw [ref7 x X hx, hx, EReal.coe_mul]

include hw hd in
/-- The cotangent of the normalised row. -/
theorem ref17 (r : Fin 4096) (l : Fin 1024) : val_main_v17 w d (ix2 r l) = ((dh W (D r) l : ℝ) : EReal) := by
  pointwise [val_main_v17]
  simp only [hw, hd, ← EReal.coe_mul, coe_sum]
  rfl

include hx hw hd in
theorem ref39 (a : Fin 8) (l : Fin 1024) : val_main_v39 x w d (ix2 a l) = ((∑ r, dgRow X W D l r : ℝ) : EReal) := by
  pointwise [val_main_v39, val_main_v23, val_main_v20, val_main_v19, val_main_v18, val_main_cst_3, val_main_cst_4]
  simp only [ref12 x X hx, ref17 w d W D hw hd, lit_zero, ← EReal.coe_mul, coe_sum, EReal.coe_zero, zero_add]
  rw [Finset.univ_unique, Finset.sum_singleton]
  simp only [dgRow, mul_comm]

include hx hg hw hd in
theorem ref38 (r : Fin 4096) (l : Fin 1024) : val_main_v38 x g w d dy (ix2 r l) = dxAll dy X G W D (ix2 r l) := by
  refine Eq.trans ?_ (rfl : dy (ix2 r l) + ((dxRow X G W D r l : ℝ) : EReal) = _)
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v13, val_main_cst_5, val_main_cst_6, val_main_cst_7]
  simp only [ref7 x X hx, ref10 x X hx, ref17 w d W D hw hd, hx, hg, lit_1024, lit_zero, ← EReal.coe_mul, coe_sum, EReal.coe_zero, zero_add,
    div_real (show (1024 : ℝ) ≠ 0 by norm_num), Finset.univ_unique, Finset.sum_singleton, add_assoc, ← EReal.coe_add]
  rw [dxRow, normDx_eq, add_assoc]

end Ref

end Cert.Train.MixDx

end
-- ==== Proof.MixDxPre.lean ====
/-
  The precondition of the mixer's input product's backward call read as real arrays.
-/
module

public import proofs.«01_k».proof.Proof.MixDxArr
public import proofs.«01_k».proof.Proof.Gen.Pre_mixdx_finite
public import proofs.«01_k».proof.Defs

@[expose] public section

set_option maxRecDepth 16384

noncomputable section

namespace Cert.Train.MixDx

open Idealize.ShloMosaic Idealize.ShloMosaic.TcCoe
open Cert.MixDxIdeal

/-- Arguments that lie strictly between minus and plus infinity are real. -/
theorem pre_reals {m : (ℓ : Loc nD τ sig) → Buf (Elt Ideal) ℓ} (H : Cert.Pre_MixDxIdeal_mixdx_finite m) (c : Dev nD) :
    ∃ X G W D, Args m c X G W D := by
  obtain ⟨h0, h1, h2, h3⟩ := H c
  choose X hX using fun (r : Fin 4096) (l : Fin 1024) => real_of_test (m ((c : Thread nD τ).loc main_arg0) (ix2 r l)) (congrFun h0 (ix2 r l))
  choose G hG using fun (l : Fin 1024) => real_of_test (m ((c : Thread nD τ).loc main_arg1) (ix1 l)) (congrFun h1 (ix1 l))
  choose W hW using fun (l : Fin 1024) (a : Fin 5120) => real_of_test (m ((c : Thread nD τ).loc main_arg2) (ix2 l a)) (congrFun h2 (ix2 l a))
  choose D hD using fun (r : Fin 4096) (a : Fin 5120) => real_of_test (m ((c : Thread nD τ).loc main_arg3) (ix2 r a)) (congrFun h3 (ix2 r a))
  exact ⟨X, G, W, D, ⟨hX, hG, hW, hD⟩⟩

end Cert.Train.MixDx

end
-- ==== Proof.MixDxValue.lean ====
/-
  The mixer's input product's backward call: its frame as the reference has it, and its value.
-/
module

public import proofs.«01_k».proof.Proof.MixDxRef
public import proofs.«01_k».proof.Proof.MixDxPre
public import proofs.«01_k».proof.Proof.Gen.MixDxRefIdeal.Run
public import Idealize.ShloMosaic.Lib.Quiescent

@[expose] public section

set_option maxRecDepth 16384

noncomputable section

namespace Cert.Train.MixDx

open Idealize.ShloMosaic Idealize.ShloMosaic.TcCoe Idealize.SL.Sem

theorem frame_ref : Cert.quiescent_MixDxRefIdeal := fun m ρ _ =>
  (θ_run _ _ _).mono (fun r h => ⟨fun c => (h c).2.2, sem_eq_zero_of_no_sems rfl r.2⟩) (Cert.MixDxRefIdeal.Value.run (F := Ideal) m ρ)

/-- The call's two arrays are the derivative's. -/
theorem value : Cert.algebraic_MixDxIdeal_MixDxRefIdeal_pre_mixdx_finite := by
  intro m g m' g' hpre hargs
  choose X G W D hr using pre_reals hpre
  refine ⟨fun c => dxAll (m ((c : Thread Cert.MixDxIdeal.nD Cert.MixDxIdeal.τ).loc Cert.MixDxIdeal.main_arg4)) (X c) (G c) (W c) (D c),
    fun c j => ((∑ i, dgRow (X c) (W c) (D c) (j 1) i : ℝ) : EReal), ?_, ?_⟩
  · refine (θ_run _ _ _).mono (fun r h c => ?_) (Cert.MixDxIdeal.Value.run_blocks (F := Ideal) m g)
    exact ⟨(h c).1.trans (final5 (hr c)), (h c).2.1.trans (final6 (hr c)), (h c).2.2⟩
  · refine (θ_run _ _ _).mono (fun r h c => ?_) (Cert.MixDxRefIdeal.Value.run (F := Ideal) m' g')
    obtain ⟨h0, h1, ha⟩ := h c
    obtain ⟨a0, a1, a2, a3, a4⟩ := hargs c
    have e := hr c
    refine ⟨h0.trans ((Cert.MixDxRefIdeal.Read.val_main_v38_eq m' c).trans ?_), h1.trans ((Cert.MixDxRefIdeal.Read.val_main_v39_eq _ _ _).trans ?_), ha⟩
    · rw [a0, a1, a2, a3, a4]
      funext j; idx_vars j
      exact ref38 _ _ _ _ _ _ _ _ _ e.x e.g e.w e.d j0 j1
    · rw [a0, a2, a3]
      funext j; idx_vars j
      exact ref39 _ _ _ _ _ _ e.x e.w e.d j0 j1

end Cert.Train.MixDx

end
-- ==== Proof.FfnGateRun.lean ====
/-
  The run of the gate's two calls: every buffer ends at what the second call leaves.
-/
module

public import proofs.«01_k».proof.Proof.Gen.FfnDactIdeal.Frame

@[expose] public section

set_option maxRecDepth 16384

noncomputable section

namespace Cert.Train.FfnGate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnDactIdeal Cert.FfnDactIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends with each buffer of the host at `W4`. -/
theorem run : θ_run defs (onTc (τ := τ) (main (F := F))) ⟨m, fun _ => 0, ρ⟩ (fun r =>
    ∀ c : Dev nD, ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.Train.FfnGate

end
-- ==== Proof.GateMath.lean ====
/-
  The logistic function on the extended reals: the hyperbolic tangent's form of it, and the derivative of a gate.
-/
module

public import proofs.«01_k».proof.Proof.RealCoe

@[expose] public section

noncomputable section

namespace Cert.Train

open Idealize.ShloMosaic
open scoped BigOperators

/-- `1 / (1 + exp (-x))`. -/
def sgm (x : EReal) : EReal := Ideal.div 1 (1 + Ideal.exp (-x))

/-- The logistic function of a real number. -/
def sgmR (x : ℝ) : ℝ := 1 / (1 + Real.exp (-x))

theorem sgm_coe (x : ℝ) : sgm x = ((sgmR x : ℝ) : EReal) := by
  have h : (1 : ℝ) + Real.exp (-x) ≠ 0 := by positivity
  have e : Ideal.exp (-(x : EReal)) = ((Real.exp (-x) : ℝ) : EReal) := rfl
  unfold sgm
  rw [e, ← EReal.coe_one, ← EReal.coe_add, div_real h]; rfl

theorem sgm_top : sgm ⊤ = 1 := by
  have e : Ideal.exp (-(⊤ : EReal)) = 0 := rfl
  unfold sgm
  rw [e, add_zero, ← EReal.coe_one, div_real one_ne_zero, div_one]

theorem sgm_bot : sgm ⊥ = 0 := by
  have e : Ideal.exp (-(⊥ : EReal)) = ⊤ := rfl
  unfold sgm
  rw [e, EReal.add_top_of_ne_bot (by decide)]
  simp [Ideal.div]

/-- Half the hyperbolic tangent of half the argument, and a half, is the logistic function. -/
theorem sgm_tanh (x : EReal) :
    ((1 / 2 : ℝ) : EReal) * Ideal.tanh (((1 / 2 : ℝ) : EReal) * x) + ((1 / 2 : ℝ) : EReal) = sgm x := by
  induction x using EReal.rec with
  | bot =>
    rw [sgm_bot, EReal.coe_mul_bot_of_pos (by norm_num)]
    show ((1 / 2 : ℝ) : EReal) * ((-1 : ℝ) : EReal) + ((1 / 2 : ℝ) : EReal) = 0
    rw [← EReal.coe_mul, ← EReal.coe_add]; norm_num
  | top =>
    rw [sgm_top, EReal.coe_mul_top_of_pos (by norm_num)]
    show ((1 / 2 : ℝ) : EReal) * ((1 : ℝ) : EReal) + ((1 / 2 : ℝ) : EReal) = 1
    rw [← EReal.coe_mul, ← EReal.coe_add]; norm_num
  | coe r =>
    rw [sgm_coe, ← EReal.coe_mul]
    show ((1 / 2 : ℝ) : EReal) * ((Real.tanh (1 / 2 * r) : ℝ) : EReal) + ((1 / 2 : ℝ) : EReal) = _
    rw [← EReal.coe_mul, ← EReal.coe_add]
    congr 1
    have hp := Real.exp_pos (1 / 2 * r)
    have hm : Real.exp (-(1 / 2 * r)) = (Real.exp (1 / 2 * r))⁻¹ := Real.exp_neg _
    have h2 : Real.exp (-r) = (Real.exp (1 / 2 * r))⁻¹ * (Real.exp (1 / 2 * r))⁻¹ := by
      rw [← Real.exp_neg, ← Real.exp_add]; ring_nf
    unfold sgmR
    rw [Real.tanh_eq_sinh_div_cosh, Real.sinh_eq, Real.cosh_eq, hm, h2]
    field_simp
    ring

/-- The derivative of `x · sgm x` as a call writes it, times a real cotangent, is the product rule's. -/
theorem silu_grad (ct : ℝ) (x : EReal) :
    (ct : EReal) * sgm x + x * ct * (sgm x * (1 - sgm x)) = ct * (sgm x * (1 + x * (1 - sgm x))) := by
  induction x using EReal.rec with
  | bot => simp [sgm_bot]
  | top =>
    have h : (1 : EReal) - 1 = 0 := by rw [← EReal.coe_one, ← EReal.coe_sub, sub_self, EReal.coe_zero]
    simp [sgm_top, h]
  | coe r =>
    rw [sgm_coe, ← EReal.coe_one]
    simp only [← EReal.coe_mul, ← EReal.coe_sub, ← EReal.coe_add]
    congr 1; ring

/-- The square of an extended real is not negative, and `+∞` where it is infinite. -/
theorem sq_nonneg' (x : EReal) : 0 ≤ x * x := by
  induction x using EReal.rec with
  | bot => simp
  | top => simp
  | coe r => rw [← EReal.coe_mul]; exact_mod_cast mul_self_nonneg r

/-- A row divided by its root mean square is real, whatever the row: an infinite entry makes the divisor infinite. -/
theorem row_real {n : ℕ} {d e : ℝ} (hd : 0 < d) (he : 0 < e) (x : Fin n → EReal) (k : Fin n) :
    ∃ r : ℝ, x k * Ideal.rsqrt (Ideal.div (∑ l, x l * x l) d + e) = r := by
  by_cases h : ∀ l, ∃ r : ℝ, x l = r
  · choose X hX using h
    refine ⟨X k * (Real.sqrt ((∑ l, X l * X l) / d + e))⁻¹, ?_⟩
    simp only [hX, ← EReal.coe_mul, coe_sum]
    rw [div_real hd.ne', ← EReal.coe_add,
      rsqrt_pos (add_pos_of_nonneg_of_pos (div_nonneg (Finset.sum_nonneg fun k _ => mul_self_nonneg _) hd.le) he), EReal.coe_mul]
  · obtain ⟨l, hl⟩ := not_forall.mp h
    have e1 : x l * x l = ⊤ := by
      generalize x l = y at hl
      induction y using EReal.rec with
      | bot => rfl
      | top => rfl
      | coe r => exact absurd ⟨r, rfl⟩ hl
    have e2 : ∑ l, x l * x l = ⊤ :=
      top_le_iff.mp (e1 ▸ Finset.single_le_sum (f := fun l => x l * x l) (fun l _ => sq_nonneg' (x l)) (Finset.mem_univ l))
    refine ⟨0, ?_⟩
    have e3 : Ideal.div (⊤ : EReal) (d : EReal) = ⊤ := by
      rw [Ideal.div_coe hd.ne', EReal.top_mul_coe_of_pos (by positivity)]
    have e4 : Ideal.rsqrt (⊤ : EReal) = 0 := rfl
    rw [e2, e3, EReal.top_add_coe, e4, mul_zero, EReal.coe_zero]

end Cert.Train

end
-- ==== Proof.FfnGateBlock.lean ====
/-
  What one block of rows of the gate's forward call and of its backward call computes, element by element.
-/
module

public import proofs.«01_k».proof.Proof.GateMath
public import proofs.«01_k».proof.Proof.Gen.FfnDactIdeal.Frame
public import Idealize.ShloMosaic.Lib.Pointwise

@[expose] public section

set_option maxRecDepth 16384

noncomputable section

namespace Cert.Train.FfnGate

open Idealize.ShloMosaic
open scoped BigOperators
open Cert.FfnDactIdeal Cert.FfnDactIdeal.Gen

/-- A normalised and gained row. -/
def hRow (x g : Fin 1024 → EReal) (l : Fin 1024) : EReal :=
  x l * Ideal.rsqrt (Ideal.div (∑ k, x k * x k) ((1024 : ℝ) : EReal) + ((eps : ℝ) : EReal)) * g l

/-- A row times a column of weights. -/
def dot {n : ℕ} (h w : Fin n → EReal) : EReal := ∑ l, h l * w l

section Up
variable (v0 : Vec Ideal S256x1024 .f32) (v11 : Vec Ideal S1x1024 .f32) (v16 v19 : Vec Ideal S2816x1024 .bf16)

theorem pay3_apply (r : Fin 256) (l : Fin 1024) : k0_pay3 v0 v11 (ix2 r l) = hRow (fun l => v0 (ix2 r l)) (fun l => v11 (ix2 0 l)) l := by
  pointwise [k0_pay3]
  simp only [lit_1024, lit_eps]
  rfl

theorem pay4_apply (r : Fin 256) (a : Fin 2816) :
    k0_pay4 v0 v11 v16 (ix2 r a) = dot (hRow (fun l => v0 (ix2 r l)) (fun l => v11 (ix2 0 l))) (fun l => v16 (ix2 a l)) := by
  pointwise [k0_pay4]
  simp only [pay3_apply]
  rfl

theorem pay5_apply (r : Fin 256) (a : Fin 2816) :
    k0_pay5 v0 v11 v19 (ix2 r a) = dot (hRow (fun l => v0 (ix2 r l)) (fun l => v11 (ix2 0 l))) (fun l => v19 (ix2 a l)) := by
  pointwise [k0_pay5]
  simp only [pay3_apply]
  rfl

theorem pay6_apply (r : Fin 256) (a : Fin 2816) : k0_pay6 v0 v11 v16 (ix2 r a) = sgm (k0_pay4 v0 v11 v16 (ix2 r a)) := by
  rw [← sgm_tanh]
  pointwise [k0_pay6]
  simp only [lit_half]

theorem pay8_apply (r : Fin 256) (a : Fin 2816) :
    k0_pay8 v0 v11 v16 (ix2 r a) = k0_pay4 v0 v11 v16 (ix2 r a) * sgm (k0_pay4 v0 v11 v16 (ix2 r a)) := by
  pointwise [k0_pay8, k0_pay7]
  rw [pay6_apply]

theorem pay1_apply (r : Fin 256) (a : Fin 2816) :
    k0_pay1 (k0_pay5 v0 v11 v19) (k0_pay6 v0 v11 v16) (k0_pay9 v0 v11 v16) k0_pay10 (ix2 r a)
      = k0_pay5 v0 v11 v19 (ix2 r a) * (sgm (k0_pay4 v0 v11 v16 (ix2 r a))
        * (1 + k0_pay4 v0 v11 v16 (ix2 r a) * (1 - sgm (k0_pay4 v0 v11 v16 (ix2 r a))))) := by
  pointwise [k0_pay1, k0_pay9, k0_pay10]
  rw [pay6_apply]

theorem pay2_apply (r : Fin 256) (a : Fin 2816) :
    k0_pay2 (k0_pay5 v0 v11 v19) (k0_pay7 v0 v11 v16) (ix2 r a)
      = k0_pay4 v0 v11 v16 (ix2 r a) * sgm (k0_pay4 v0 v11 v16 (ix2 r a)) * k0_pay5 v0 v11 v19 (ix2 r a) := by
  pointwise [k0_pay2, k0_pay7]
  rw [pay6_apply]

end Up

section Dact
variable (v0 : Vec Ideal S512x1024 .f32) (v2 : Vec Ideal S2816x1024 .bf16) (v6 : Vec Ideal S512x2816 .bf16)

theorem dact1_apply (r : Fin 512) (a : Fin 2816) :
    k1_pay1 v0 v2 (ix2 r a) = ((1 / 2 : ℝ) : EReal) * dot (fun k => v0 (ix2 r k)) (fun k => v2 (ix2 a k)) := by
  pointwise [k1_pay1]
  rw [lit_half]; rfl

theorem dact2_apply (r : Fin 512) (a : Fin 2816) : k1_pay2 v0 v2 v6 (ix2 r a) = k1_pay1 v0 v2 (ix2 r a) * v6 (ix2 r a) := by
  pointwise [k1_pay2]

theorem dact3_apply (r : Fin 512) (a : Fin 2816) : k1_pay3 v0 v2 v6 (ix2 r a) = k1_pay1 v0 v2 (ix2 r a) * v6 (ix2 r a) := by
  pointwise [k1_pay3]

end Dact

end Cert.Train.FfnGate

end
-- ==== Proof.FfnGateArr.lean ====
/-
  The arrays of the gate's two calls after their run, as functions of the arguments.
-/
module

public import proofs.«01_k».proof.Proof.FfnGateBlock
public import Idealize.ShloMosaic.Lib.Pipeline.ValueKit
public import Idealize.ShloMosaic.Lib.Claim

@[expose] public section

set_option maxRecDepth 16384

noncomputable section

namespace Cert.Train.FfnGate

open Idealize.ShloMosaic Idealize.ShloMosaic.TcCoe Idealize.SL.Sem
open Idealize.ShloMosaic.Pipeline (Dat)
open scoped BigOperators
open Cert.FfnDactIdeal Cert.FfnDactIdeal.Gen

section Spec
variable (x : S4096x1024.Idx → EReal) (g : S1024.Idx → EReal) (wg wu : S1024x2816.Idx → EReal) (wd : S2816x1024.Idx → EReal) (dy : S4096x1024.Idx → EReal)

/-- The normalised and gained rows, the gate's argument, the up product, and half the cotangent of the gate's result. -/
def hAll : S4096x1024.Idx → EReal := fun j => hRow (fun l => x (ix2 (j 0) l)) (fun l => g (ix1 l)) (j 1)
def gateAll : S4096x2816.Idx → EReal := fun j => dot (fun l => hAll x g (ix2 (j 0) l)) (fun l => wg (ix2 l (j 1)))
def upAll : S4096x2816.Idx → EReal := fun j => dot (fun l => hAll x g (ix2 (j 0) l)) (fun l => wu (ix2 l (j 1)))
def daAll : S4096x2816.Idx → EReal := fun j => ((1 / 2 : ℝ) : EReal) * dot (fun k => dy (ix2 (j 0) k)) (fun k => wd (ix2 (j 1) k))

/-- `silu` of the gate, and the up product times its derivative. -/
def silAll : S4096x2816.Idx → EReal := fun j => gateAll x g wg j * sgm (gateAll x g wg j)
def dsilAll : S4096x2816.Idx → EReal := fun j =>
  upAll x g wu j * (sgm (gateAll x g wg j) * (1 + gateAll x g wg j * (1 - sgm (gateAll x g wg j))))
/-- The gate's result, and the gradients of its two arguments. -/
def actAll : S4096x2816.Idx → EReal := fun j => silAll x g wg j * upAll x g wu j
def dgateAll : S4096x2816.Idx → EReal := fun j => daAll wd dy j * dsilAll x g wg wu j
def dupAll : S4096x2816.Idx → EReal := fun j => daAll wd dy j * silAll x g wg j
end Spec

variable (m : (ℓ : Loc nD τ sig) → Buf (Elt Ideal) ℓ) (ρ : Dev nD → PrngReg) (c : Dev nD)

theorem N16 : cfg0.N = 16 := N_0
theorem N8 : cfg1.N = 8 := N_1

/-- Row `r` of block `n`, of the forward call and of the backward call. -/
def rowOf (n : Fin cfg0.N) (r : Fin 256) : Fin 4096 := ⟨n.val * 256 + r.val, by have := n.isLt; have hN : cfg0.N = 16 := N16; omega⟩
def rowOf1 (n : Fin cfg1.N) (r : Fin 512) : Fin 4096 := ⟨n.val * 512 + r.val, by have := n.isLt; have hN : cfg1.N = 8 := N8; omega⟩

theorem idxs : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0])

theorem idxs1 : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![t.val, 0] :=
  (by decide +kernel : ∀ t : Fin grid1.N, win1_0.index t = ![t.val, 0] ∧ win1_1.index t = ![0, 0] ∧ win1_2.index t = ![t.val, 0]
    ∧ win1_3.index t = ![t.val, 0] ∧ win1_4.index t = ![t.val, 0] ∧ win1_5.index t = ![t.val, 0])

/-! ### What the forward call reads -/

theorem blk0 (t : Fin cfg0.N) (r : Fin 256) (l : Fin 1024) :
    iblk0 (V1 m ρ) c 0 t (ix2 r l) = m ((c : Thread nD τ).loc main_arg0) (ix2 (rowOf t r) l) := by
  blk_simp [iblk0, idxs t, V1, W1]
  entry_read
  blk_ext [idxs t, rowOf]

theorem blk1 (t : Fin cfg0.N) (a : Fin 2816) (l : Fin 1024) :
    iblk0 (V1 m ρ) c 1 t (ix2 a l) = m ((c : Thread nD τ).loc main_arg2) (ix2 l a) := by
  blk_simp [iblk0, idxs t, V1, W1]
  entry_read
  pointwise
  blk_ext [idxs t]

theorem blk2 (t : Fin cfg0.N) (a : Fin 2816) (l : Fin 1024) :
    iblk0 (V1 m ρ) c 2 t (ix2 a l) = m ((c : Thread nD τ).loc main_arg3) (ix2 l a) := by
  blk_simp [iblk0, idxs t, V1, W1]
  entry_read
  pointwise
  blk_ext [idxs t]

theorem blk3 (t : Fin cfg0.N) (l : Fin 1024) :
    iblk0 (V1 m ρ) c 3 t (ix2 0 l) = m ((c : Thread nD τ).loc main_arg1) (ix1 l) := by
  blk_simp [iblk0, idxs t, V1, W1]
  entry_read
  pointwise
  blk_ext [idxs t]

/-! ### The contents of a block, through the payloads -/

theorem up_h (t : Fin cfg0.N) (r : Fin 256) (l : Fin 1024) :
    k0_pay3 (iblk0 (V1 m ρ) c 0 t) (iblk0 (V1 m ρ) c 3 t) (ix2 r l)
      = hAll (m ((c : Thread nD τ).loc main_arg0)) (m ((c : Thread nD τ).loc main_arg1)) (ix2 (rowOf t r) l) := by
  rw [pay3_apply]
  simp only [blk0, blk3]
  rfl

theorem up_gate (t : Fin cfg0.N) (r : Fin 256) (a : Fin 2816) :
    k0_pay4 (iblk0 (V1 m ρ) c 0 t) (iblk0 (V1 m ρ) c 3 t) (iblk0 (V1 m ρ) c 1 t) (ix2 r a)
      = gateAll (m ((c : Thread nD τ).loc main_arg0)) (m ((c : Thread nD τ).loc main_arg1)) (m ((c : Thread nD τ).loc main_arg2)) (ix2 (rowOf t r) a) := by
  rw [pay4_apply]
  simp only [blk0, blk1, blk3]
  rfl

theorem up_up (t : Fin cfg0.N) (r : Fin 256) (a : Fin 2816) :
    k0_pay5 (iblk0 (V1 m ρ) c 0 t) (iblk0 (V1 m ρ) c 3 t) (iblk0 (V1 m ρ) c 2 t) (ix2 r a)
      = upAll (m ((c : Thread nD τ).loc main_arg0)) (m ((c : Thread nD τ).loc main_arg1)) (m ((c : Thread nD τ).loc main_arg3)) (ix2 (rowOf t r) a) := by
  rw [pay5_apply]
  simp only [blk0, blk2, blk3]
  rfl

/-- The forward call's first array: `silu` of the gate. -/
theorem final0_4 : (dat0 (V1 m ρ) c).arrAt 4 cfg0.N = silAll (m ((c : Thread nD τ).loc main_arg0)) (m ((c : Thread nD τ).loc main_arg1)) (m ((c : Thread nD τ).loc main_arg2)) := by
  refine (dat0 (V1 m ρ) c).arrAt_eq_of_covers 4 _ (by decide +kernel) fun t hf y => ?_
  blk_simp; rw [after0_4]
  idx_vars y
  have e : (win0_4.rect t).emb (ix2 y0 y1) = ix2 (rowOf t y0) y1 := by
    funext a; apply Fin.ext
    rw [Pipeline.Window.rect_emb_val win0_4 t (ix2 y0 y1) a, (idxs t).2.2.2.2.1]
    fin_cases a
    · rfl
    · exact Nat.zero_add _
  show _ = silAll _ _ _ ((win0_4.rect t).emb (ix2 y0 y1))
  rw [e]
  unfold_out out0_4
  frame_out
  rw [pay8_apply, up_gate]
  rfl

/-- The second: the up product times the derivative of `silu`. -/
theorem final0_5 : (dat0 (V1 m ρ) c).arrAt 5 cfg0.N = dsilAll (m ((c : Thread nD τ).loc main_arg0)) (m ((c : Thread nD τ).loc main_arg1)) (m ((c : Thread nD τ).loc main_arg2)) (m ((c : Thread nD τ).loc main_arg3)) := by
  refine (dat0 (V1 m ρ) c).arrAt_eq_of_covers 5 _ (by decide +kernel) fun t hf y => ?_
  blk_simp; rw [after0_5]
  idx_vars y
  have e : (win0_5.rect t).emb (ix2 y0 y1) = ix2 (rowOf t y0) y1 := by
    funext a; apply Fin.ext
    rw [Pipeline.Window.rect_emb_val win0_5 t (ix2 y0 y1) a, (idxs t).2.2.2.2.2.1]
    fin_cases a
    · rfl
    · exact Nat.zero_add _
  show _ = dsilAll _ _ _ _ ((win0_5.rect t).emb (ix2 y0 y1))
  rw [e]
  unfold_out out0_5
  frame_out
  rw [pay1_apply, up_gate, up_up]
  rfl

/-- The third: the gate's result. -/
theorem final0_6 : (dat0 (V1 m ρ) c).arrAt 6 cfg0.N = actAll (m ((c : Thread nD τ).loc main_arg0)) (m ((c : Thread nD τ).loc main_arg1)) (m ((c : Thread nD τ).loc main_arg2)) (m ((c : Thread nD τ).loc main_arg3)) := by
  refine (dat0 (V1 m ρ) c).arrAt_eq_of_covers 6 _ (by decide +kernel) fun t hf y => ?_
  blk_simp; rw [after0_6]
  idx_vars y
  have e : (win0_6.rect t).emb (ix2 y0 y1) = ix2 (rowOf t y0) y1 := by
    funext a; apply Fin.ext
    rw [Pipeline.Window.rect_emb_val win0_6 t (ix2 y0 y1) a, (idxs t).2.2.2.2.2.2.1]
    fin_cases a
    · rfl
    · exact Nat.zero_add _
  show _ = actAll _ _ _ _ ((win0_6.rect t).emb (ix2 y0 y1))
  rw [e]
  unfold_out out0_6
  frame_out
  rw [pay2_apply, up_gate, up_up]
  rfl

/-- The fourth: the normalised and gained rows. -/
theorem final0_7 : (dat0 (V1 m ρ) c).arrAt 7 cfg0.N = hAll (m ((c : Thread nD τ).loc main_arg0)) (m ((c : Thread nD τ).loc main_arg1)) := by
  refine (dat0 (V1 m ρ) c).arrAt_eq_of_covers 7 _ (by decide +kernel) fun t hf y => ?_
  blk_simp; rw [after0_7]
  idx_vars y
  have e : (win0_7.rect t).emb (ix2 y0 y1) = ix2 (rowOf t y0) y1 := by
    funext a; apply Fin.ext
    rw [Pipeline.Window.rect_emb_val win0_7 t (ix2 y0 y1) a, (idxs t).2.2.2.2.2.2.2]
    fin_cases a
    · rfl
    · exact Nat.zero_add _
  show _ = hAll _ _ ((win0_7.rect t).emb (ix2 y0 y1))
  rw [e]
  unfold_out out0_7
  frame_out
  rw [up_h]

/-! ### What the backward call reads -/

theorem blk10 (t : Fin cfg1.N) (r : Fin 512) (l : Fin 1024) :
    iblk1 (V3 m ρ) c 0 t (ix2 r l) = m ((c : Thread nD τ).loc main_arg5) (ix2 (rowOf1 t r) l) := by
  refine Eq.trans ?_ (congrFun (W3_args m ρ c main_arg5 (by decide)) _)
  blk_ext [iblk1, idxs1 t, rowOf1]

theorem blk11 (t : Fin cfg1.N) (a : Fin 2816) (l : Fin 1024) :
    iblk1 (V3 m ρ) c 1 t (ix2 a l) = m ((c : Thread nD τ).loc main_arg4) (ix2 a l) := by
  rw [← W2_args m ρ c main_arg4 (by decide)]
  blk_simp [iblk1, idxs1 t, V3, W3]
  entry_read
  generalize W2 m ρ c (Proc.tc.devRef main_arg4) = A
  pointwise
  blk_ext [idxs1 t]

theorem blk12 (t : Fin cfg1.N) (r : Fin 512) (a : Fin 2816) :
    iblk1 (V3 m ρ) c 2 t (ix2 r a) = silAll (m ((c : Thread nD τ).loc main_arg0)) (m ((c : Thread nD τ).loc main_arg1)) (m ((c : Thread nD τ).loc main_arg2)) (ix2 (rowOf1 t r) a) := by
  refine Eq.trans ?_ (congrFun (((W3_of m ρ c main_v9_0 (by decide)).trans (W2_arr m ρ c 4)).trans (final0_4 m ρ c)) _)
  blk_ext [iblk1, idxs1 t, rowOf1]

theorem blk13 (t : Fin cfg1.N) (r : Fin 512) (a : Fin 2816) :
    iblk1 (V3 m ρ) c 3 t (ix2 r a) = dsilAll (m ((c : Thread nD τ).loc main_arg0)) (m ((c : Thread nD τ).loc main_arg1)) (m ((c : Thread nD τ).loc main_arg2)) (m ((c : Thread nD τ).loc main_arg3)) (ix2 (rowOf1 t r) a) := by
  refine Eq.trans ?_ (congrFun (((W3_of m ρ c main_v9_1 (by decide)).trans (W2_arr m ρ c 5)).trans (final0_5 m ρ c)) _)
  blk_ext [iblk1, idxs1 t, rowOf1]

theorem dact_da (t : Fin cfg1.N) (r : Fin 512) (a : Fin 2816) :
    k1_pay1 (iblk1 (V3 m ρ) c 0 t) (iblk1 (V3 m ρ) c 1 t) (ix2 r a) = daAll (m ((c : Thread nD τ).loc main_arg4)) (m ((c : Thread nD τ).loc main_arg5)) (ix2 (rowOf1 t r) a) := by
  rw [dact1_apply]
  simp only [blk10, blk11]
  rfl

/-- The backward call's first array: the gradient of the gate's argument. -/
theorem final1_4 : (dat1 (V3 m ρ) c).arrAt 4 cfg1.N = dgateAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dat1 (V3 m ρ) c).arrAt_eq_of_covers 4 _ (by decide +kernel) fun t hf y => ?_
  blk_simp; rw [after1_4]
  idx_vars y
  have e : (win1_4.rect t).emb (ix2 y0 y1) = ix2 (rowOf1 t y0) y1 := by
    funext a; apply Fin.ext
    rw [Pipeline.Window.rect_emb_val win1_4 t (ix2 y0 y1) a, (idxs1 t).2.2.2.2.1]
    fin_cases a
    · rfl
    · exact Nat.zero_add _
  show _ = dgateAll _ _ _ _ _ _ ((win1_4.rect t).emb (ix2 y0 y1))
  rw [e]
  unfold out1_4
  frame_out
  rw [dact2_apply, dact_da, blk13]
  rfl

/-- The second: the gradient of the up product. -/
theorem final1_5 : (dat1 (V3 m ρ) c).arrAt 5 cfg1.N = dupAll (m ((c : Thread nD τ).loc main_arg0)) (m ((c : Thread nD τ).loc main_arg1)) (m ((c : Thread nD τ).loc main_arg2)) (m ((c : Thread nD τ).loc main_arg4)) (m ((c : Thread nD τ).loc main_arg5)) := by
  refine (dat1 (V3 m ρ) c).arrAt_eq_of_covers 5 _ (by decide +kernel) fun t hf y => ?_
  blk_simp; rw [after1_5]
  idx_vars y
  have e : (win1_5.rect t).emb (ix2 y0 y1) = ix2 (rowOf1 t y0) y1 := by
    funext a; apply Fin.ext
    rw [Pipeline.Window.rect_emb_val win1_5 t (ix2 y0 y1) a, (idxs1 t).2.2.2.2.2]
    fin_cases a
    · rfl
    · exact Nat.zero_add _
  show _ = dupAll _ _ _ _ _ ((win1_5.rect t).emb (ix2 y0 y1))
  rw [e]
  unfold out1_5
  frame_out
  rw [dact3_apply, dact_da, blk12]
  rfl

end Cert.Train.FfnGate

end
-- ==== Proof.FfnGateRef.lean ====
/-
  What the derivative of the gate holds, element by element: what the two calls hold, where the gain, the up weights, the
  down weights and the cotangent are real.
-/
module

public import proofs.«01_k».proof.Proof.FfnGateArr
public import proofs.«01_k».proof.Proof.Gen.FfnDactRefIdeal.Read

@[expose] public section

set_option maxRecDepth 16384

noncomputable section

namespace Cert.Train.FfnGate

open Idealize.ShloMosaic
open scoped BigOperators
open Cert.FfnDactRefIdeal Cert.FfnDactRefIdeal.Gen Cert.FfnDactRefIdeal.Read

section Ref
variable (x : Vec Ideal S4096x1024 .f32) (g : Vec Ideal S1024 .f32) (wg wu : Vec Ideal S1024x2816 .f32) (wd : Vec Ideal S2816x1024 .f32) (dy : Vec Ideal S4096x1024 .f32)

theorem ref12 (r : Fin 4096) (l : Fin 1024) : val_main_v12 x g (ix2 r l) = hAll x g (ix2 r l) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [lit_1024, lit_eps, lit_zero, EReal.coe_zero, zero_add]
  rfl

theorem ref13 (r : Fin 4096) (a : Fin 2816) : val_main_v13 x g wg (ix2 r a) = gateAll x g wg (ix2 r a) := by
  pointwise [val_main_v13]
  simp only [ref12]
  rfl

theorem ref14 (r : Fin 4096) (a : Fin 2816) : val_main_v14 x g wu (ix2 r a) = upAll x g wu (ix2 r a) := by
  pointwise [val_main_v14]
  simp only [ref12]
  rfl

theorem ref15_2 (r : Fin 4096) (a : Fin 2816) : val_main_v15_2 x g wg (ix2 r a) = sgm (gateAll x g wg (ix2 r a)) := by
  pointwise [val_main_v15_2, val_main_call0_v4, val_main_call0_v3, val_main_call0_v2, val_main_call0_v1, val_main_call0_v0, val_main_call0_cst, val_main_call0_cst_0]
  simp only [ref13, lit_one, EReal.coe_one]
  rfl

theorem ref15_0 (r : Fin 4096) (a : Fin 2816) : val_main_v15_0 x g wg (ix2 r a) = silAll x g wg (ix2 r a) := by
  pointwise [val_main_v15_0]
  rw [ref13, ref15_2]; rfl

theorem ref16 (r : Fin 4096) (a : Fin 2816) : val_main_v26 x g wg wu (ix2 r a) = actAll x g wg wu (ix2 r a) := by
  pointwise [val_main_v26, val_main_v16]
  rw [ref15_0, ref14]; rfl

theorem ref27 (r : Fin 4096) (l : Fin 1024) : val_main_v27 x g (ix2 r l) = hAll x g (ix2 r l) := by
  pointwise [val_main_v27]
  rw [ref12]

variable (Wd : Fin 2816 → Fin 1024 → ℝ) (Dy : Fin 4096 → Fin 1024 → ℝ)
variable (hwd : ∀ a l, wd (ix2 a l) = ((Wd a l : ℝ) : EReal)) (hdy : ∀ r l, dy (ix2 r l) = ((Dy r l : ℝ) : EReal))

/-- Half the cotangent of the gate's result, as a real number. -/
def daR (Wd : Fin 2816 → Fin 1024 → ℝ) (Dy : Fin 4096 → Fin 1024 → ℝ) (r : Fin 4096) (a : Fin 2816) : ℝ := 1 / 2 * ∑ k, Dy r k * Wd a k

include hwd hdy in
theorem da_real (r : Fin 4096) (a : Fin 2816) : daAll wd dy (ix2 r a) = ((daR Wd Dy r a : ℝ) : EReal) := by
  show ((1 / 2 : ℝ) : EReal) * ∑ k, dy (ix2 r k) * wd (ix2 a k) = _
  simp only [hwd, hdy, ← EReal.coe_mul, coe_sum]
  rfl

include hwd hdy in
theorem ref22 (r : Fin 4096) (a : Fin 2816) : val_main_v22 wd dy (ix2 r a) = daAll wd dy (ix2 r a) := by
  rw [da_real wd dy Wd Dy hwd hdy]
  pointwise [val_main_v22, val_main_v21, val_main_v20, val_main_cst_3]
  simp only [hwd, hdy, lit_half, ← EReal.coe_mul, coe_sum]
  unfold daR
  rw [Finset.mul_sum]
  exact congrArg _ (Finset.sum_congr rfl fun k _ => by ring)

include hwd hdy in
theorem ref29 (r : Fin 4096) (a : Fin 2816) : val_main_v29 x g wg wd dy (ix2 r a) = dupAll x g wg wd dy (ix2 r a) := by
  pointwise [val_main_v29, val_main_v23]
  rw [ref15_0, ref22 wd dy Wd Dy hwd hdy]
  exact mul_comm _ _

variable (G : Fin 1024 → ℝ) (Wu : Fin 1024 → Fin 2816 → ℝ)
variable (hg : ∀ l, g (ix1 l) = ((G l : ℝ) : EReal)) (hwu : ∀ l a, wu (ix2 l a) = ((Wu l a : ℝ) : EReal))

include hg hwu in
/-- The up product is real, whatever the rows are. -/
theorem up_real (r : Fin 4096) (a : Fin 2816) : ∃ u : ℝ, upAll x g wu (ix2 r a) = u := by
  choose n hn using row_real (by norm_num : (0 : ℝ) < 1024) eps_pos fun l : Fin 1024 => x (ix2 r l)
  refine ⟨∑ l, n l * G l * Wu l a, ?_⟩
  rw [← coe_sum]
  show ∑ l : Fin 1024, hAll x g (ix2 r l) * wu (ix2 l a) = _
  refine Finset.sum_congr rfl fun l _ => ?_
  rw [EReal.coe_mul, EReal.coe_mul, ← hwu, ← hg, ← hn]
  rfl

include hwd hdy hg hwu in
theorem ref28 (r : Fin 4096) (a : Fin 2816) : val_main_v28 x g wg wu wd dy (ix2 r a) = dgateAll x g wg wu wd dy (ix2 r a) := by
  pointwise [val_main_v28, val_main_v25, val_main_call1_v2, val_main_call1_v1, val_main_call1_v0, val_main_v24, val_main_v15_1, val_main_call0_v7, val_main_call0_v6, val_main_call0_cst_1]
  rw [ref13, ref14, ref15_2, ref22 wd dy Wd Dy hwd hdy]
  obtain ⟨u, hu⟩ := up_real x g wu G Wu hg hwu r a
  have e : dgateAll x g wg wu wd dy (ix2 r a) = daAll wd dy (ix2 r a) * (upAll x g wu (ix2 r a) * (sgm (gateAll x g wg (ix2 r a))
    * (1 + gateAll x g wg (ix2 r a) * (1 - sgm (gateAll x g wg (ix2 r a)))))) := rfl
  rw [e, hu, da_real wd dy Wd Dy hwd hdy, ← EReal.coe_mul]
  refine (silu_grad _ _).trans ?_
  rw [EReal.coe_mul, mul_assoc]

end Ref

end Cert.Train.FfnGate

end
-- ==== Proof.FfnGateValue.lean ====
/-
  The gate's forward call and its backward call: their frame as the reference has it, and their value.
-/
module

public import proofs.«01_k».proof.Proof.FfnGateRun
public import proofs.«01_k».proof.Proof.FfnGateRef
public import proofs.«01_k».proof.Proof.Gen.FfnDactRefIdeal.Run
public import proofs.«01_k».proof.Proof.Gen.Pre_fact_finite
public import proofs.«01_k».proof.Defs
public import Idealize.ShloMosaic.Lib.Quiescent

@[expose] public section

set_option maxRecDepth 16384

noncomputable section

namespace Cert.Train.FfnGate

open Idealize.ShloMosaic Idealize.ShloMosaic.TcCoe Idealize.SL.Sem
open Cert.FfnDactIdeal Cert.FfnDactIdeal.Gen

theorem frame_ref : Cert.quiescent_FfnDactRefIdeal := fun m ρ _ =>
  (θ_run _ _ _).mono (fun r h => ⟨fun c => (h c).2.2.2.2, sem_eq_zero_of_no_sems rfl r.2⟩) (Cert.FfnDactRefIdeal.Value.run (F := Ideal) m ρ)

/-- The arguments that must be real: the gain, the up and the down weights, the cotangent. -/
structure Args (m : (ℓ : Loc nD τ sig) → Buf (Elt Ideal) ℓ) (c : Dev nD) (G : Fin 1024 → ℝ) (Wu : Fin 1024 → Fin 2816 → ℝ)
    (Wd : Fin 2816 → Fin 1024 → ℝ) (Dy : Fin 4096 → Fin 1024 → ℝ) : Prop where
  g : ∀ l, m ((c : Thread nD τ).loc main_arg1) (ix1 l) = ((G l : ℝ) : EReal)
  wu : ∀ l a, m ((c : Thread nD τ).loc main_arg3) (ix2 l a) = ((Wu l a : ℝ) : EReal)
  wd : ∀ a l, m ((c : Thread nD τ).loc main_arg4) (ix2 a l) = ((Wd a l : ℝ) : EReal)
  dy : ∀ r l, m ((c : Thread nD τ).loc main_arg5) (ix2 r l) = ((Dy r l : ℝ) : EReal)

theorem pre_reals {m : (ℓ : Loc nD τ sig) → Buf (Elt Ideal) ℓ} (H : Cert.Pre_FfnDactIdeal_fact_finite m) (c : Dev nD) :
    ∃ G Wu Wd Dy, Args m c G Wu Wd Dy := by
  obtain ⟨h0, h1, h2, h3⟩ := H c
  choose G hG using fun (l : Fin 1024) => real_of_test (m ((c : Thread nD τ).loc main_arg1) (ix1 l)) (congrFun h0 (ix1 l))
  choose Wu hWu using fun (l : Fin 1024) (a : Fin 2816) => real_of_test (m ((c : Thread nD τ).loc main_arg3) (ix2 l a)) (congrFun h1 (ix2 l a))
  choose Wd hWd using fun (a : Fin 2816) (l : Fin 1024) => real_of_test (m ((c : Thread nD τ).loc main_arg4) (ix2 a l)) (congrFun h2 (ix2 a l))
  choose Dy hDy using fun (r : Fin 4096) (l : Fin 1024) => real_of_test (m ((c : Thread nD τ).loc main_arg5) (ix2 r l)) (congrFun h3 (ix2 r l))
  exact ⟨G, Wu, Wd, Dy, ⟨hG, hWu, hWd, hDy⟩⟩

/-- What the run leaves in the four results. -/
theorem results (m : (ℓ : Loc nD τ sig) → Buf (Elt Ideal) ℓ) (ρ : Dev nD → PrngReg) (c : Dev nD) :
    W4 m ρ c (Proc.devRef .tc main_v9_2) = actAll (m ((c : Thread nD τ).loc main_arg0)) (m ((c : Thread nD τ).loc main_arg1)) (m ((c : Thread nD τ).loc main_arg2)) (m ((c : Thread nD τ).loc main_arg3))
    ∧ W4 m ρ c (Proc.devRef .tc main_v9_3) = hAll (m ((c : Thread nD τ).loc main_arg0)) (m ((c : Thread nD τ).loc main_arg1))
    ∧ W4 m ρ c (Proc.devRef .tc main_v13_0) = dgateAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ W4 m ρ c (Proc.devRef .tc main_v13_1) = dupAll (m ((c : Thread nD τ).loc main_arg0)) (m ((c : Thread nD τ).loc main_arg1)) (m ((c : Thread nD τ).loc main_arg2)) (m ((c : Thread nD τ).loc main_arg4)) (m ((c : Thread nD τ).loc main_arg5)) :=
  ⟨((W4_of m ρ c main_v9_2 (by decide)).trans ((W3_of m ρ c main_v9_2 (by decide)).trans (W2_arr m ρ c 6))).trans (final0_6 m ρ c),
   ((W4_of m ρ c main_v9_3 (by decide)).trans ((W3_of m ρ c main_v9_3 (by decide)).trans (W2_arr m ρ c 7))).trans (final0_7 m ρ c),
   (W4_arr m ρ c 4).trans (final1_4 m ρ c), (W4_arr m ρ c 5).trans (final1_5 m ρ c)⟩

/-- The two calls' four arrays are the forward pass's and the derivative's. -/
theorem value : Cert.algebraic_FfnDactIdeal_FfnDactRefIdeal_pre_fact_finite := by
  intro m g m' g' hpre hargs
  choose G Wu Wd Dy hr using pre_reals hpre
  refine ⟨fun c => actAll (m ((c : Thread nD τ).loc main_arg0)) (m ((c : Thread nD τ).loc main_arg1)) (m ((c : Thread nD τ).loc main_arg2)) (m ((c : Thread nD τ).loc main_arg3)),
    fun c => hAll (m ((c : Thread nD τ).loc main_arg0)) (m ((c : Thread nD τ).loc main_arg1)),
    fun c => dgateAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => dupAll (m ((c : Thread nD τ).loc main_arg0)) (m ((c : Thread nD τ).loc main_arg1)) (m ((c : Thread nD τ).loc main_arg2)) (m ((c : Thread nD τ).loc main_arg4)) (m ((c : Thread nD τ).loc main_arg5)), ?_, ?_⟩
  · refine (θ_run _ _ _).mono (fun r h c => ?_) (run (F := Ideal) m g)
    obtain ⟨r0, r1, r2, r3⟩ := results m g c
    exact ⟨(h c _ (mem_uc main_v9_2 (by decide))).trans r0, (h c _ (mem_uc main_v9_3 (by decide))).trans r1,
      (h c _ (mem_uc main_v13_0 (by decide))).trans r2, (h c _ (mem_uc main_v13_1 (by decide))).trans r3,
      (h c _ (mem_uc main_arg0 (by decide))).trans (W4_main_arg0 m g c), (h c _ (mem_uc main_arg1 (by decide))).trans (W4_main_arg1 m g c),
      (h c _ (mem_uc main_arg2 (by decide))).trans (W4_main_arg2 m g c), (h c _ (mem_uc main_arg3 (by decide))).trans (W4_main_arg3 m g c),
      (h c _ (mem_uc main_arg4 (by decide))).trans (W4_main_arg4 m g c), (h c _ (mem_uc main_arg5 (by decide))).trans (W4_main_arg5 m g c)⟩
  · refine (θ_run _ _ _).mono (fun r h c => ?_) (Cert.FfnDactRefIdeal.Value.run (F := Ideal) m' g')
    obtain ⟨h0, h1, h2, h3, ha⟩ := h c
    obtain ⟨a0, a1, a2, a3, a4, a5⟩ := hargs c
    have e := hr c
    refine ⟨h0.trans ((Cert.FfnDactRefIdeal.Read.val_main_v26_eq _ _ _ _).trans ?_), h1.trans ((Cert.FfnDactRefIdeal.Read.val_main_v27_eq _ _).trans ?_),
      h2.trans ((Cert.FfnDactRefIdeal.Read.val_main_v28_eq m' c).trans ?_), h3.trans ((Cert.FfnDactRefIdeal.Read.val_main_v29_eq _ _ _ _ _).trans ?_), ha⟩
    · rw [a0, a1, a2, a3]
      funext j; idx_vars j
      exact ref16 _ _ _ _ j0 j1
    · rw [a0, a1]
      funext j; idx_vars j
      exact ref27 _ _ j0 j1
    · rw [a0, a1, a2, a3, a4, a5]
      funext j; idx_vars j
      exact ref28 _ _ _ _ _ _ _ _ e.wd e.dy _ _ e.g e.wu j0 j1
    · rw [a0, a1, a2, a4, a5]
      funext j; idx_vars j
      exact ref29 _ _ _ _ _ _ _ e.wd e.dy j0 j1

end Cert.Train.FfnGate

end
-- ==== Proof.MixGateRun.lean ====
/-
  The run of the mixer gates' two calls: every buffer ends at what the second call leaves.
-/
module

public import proofs.«01_k».proof.Proof.Gen.MixDuIdeal.Frame

@[expose] public section

set_option maxRecDepth 16384

noncomputable section

namespace Cert.Train.MixGate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixDuIdeal Cert.MixDuIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends with each buffer of the host at `W3`. -/
theorem run : θ_run defs (onTc (τ := τ) (main (F := F))) ⟨m, fun _ => 0, ρ⟩ (fun r =>
    ∀ c : Dev nD, ∀ b ∈ Pipeline.ucRefs τ sig, r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.Train.MixGate

end
-- ==== Proof.MixGateBlock.lean ====
/-
  What one block of 512 rows of the mixer gates' forward call and of their backward call computes, element by element.
-/
module

public import proofs.«01_k».proof.Proof.GateMath
public import proofs.«01_k».proof.Proof.Gen.MixDuIdeal.Frame
public import Idealize.ShloMosaic.Lib.Pointwise

@[expose] public section

set_option maxRecDepth 16384

noncomputable section

namespace Cert.Train.MixGate

open Idealize.ShloMosaic
open scoped BigOperators
open Cert.MixDuIdeal Cert.MixDuIdeal.Gen

/-- Two rows' product. -/
def dot {n : ℕ} (h w : Fin n → EReal) : EReal := ∑ l, h l * w l

section Gate
variable (v0 v5 : Vec Ideal S512x256 .f32) (v2 v7 : Vec Ideal S256x1024 .bf16) (v10 v19 : Vec Ideal S512x1024 .f32)

theorem pay2_apply (r : Fin 512) (l : Fin 1024) : k0_pay2 v0 v2 (ix2 r l) = dot (fun k => v0 (ix2 r k)) (fun k => v2 (ix2 k l)) := by
  pointwise [k0_pay2]
  rfl

theorem pay3_apply (r : Fin 512) (l : Fin 1024) : k0_pay3 v5 v7 (ix2 r l) = dot (fun k => v5 (ix2 r k)) (fun k => v7 (ix2 k l)) := by
  pointwise [k0_pay3]
  rfl

theorem pay4_apply (r : Fin 512) (l : Fin 1024) : k0_pay4 v0 v2 v5 v7 v10 v19 (ix2 r l)
    = sgm (v10 (ix2 r l)) * k0_pay2 v0 v2 (ix2 r l) + sgm (v19 (ix2 r l)) * k0_pay3 v5 v7 (ix2 r l) := by
  rw [← sgm_tanh, ← sgm_tanh]
  pointwise [k0_pay4]
  simp only [lit_half]

theorem pay5_apply (r : Fin 512) (l : Fin 1024) : k0_pay5 v0 v2 (ix2 r l) = k0_pay2 v0 v2 (ix2 r l) := by
  pointwise [k0_pay5]

theorem pay1_apply (r : Fin 512) (l : Fin 1024) : k0_pay1 (k0_pay3 v5 v7) (ix2 r l) = k0_pay3 v5 v7 (ix2 r l) := by
  pointwise [k0_pay1]

end Gate

section Du
variable (v0 : Vec Ideal S512x1024 .f32) (v2 : Vec Ideal S1024x1024 .bf16) (v5 v13 : Vec Ideal S512x1024 .f32) (v27 v37 : Vec Ideal S512x1024 .bf16)

theorem du3_apply (r : Fin 512) (l : Fin 1024) : k1_pay3 v0 v2 (ix2 r l) = dot (fun k => v0 (ix2 r k)) (fun k => v2 (ix2 l k)) := by
  pointwise [k1_pay3]
  rfl

theorem du4_apply (r : Fin 512) (l : Fin 1024) : k1_pay4 v5 (ix2 r l) = sgm (v5 (ix2 r l)) := by
  rw [← sgm_tanh]
  pointwise [k1_pay4]
  simp only [lit_half]

theorem du5_apply (r : Fin 512) (l : Fin 1024) : k1_pay5 v13 (ix2 r l) = sgm (v13 (ix2 r l)) := by
  rw [← sgm_tanh]
  pointwise [k1_pay5]
  simp only [lit_half]

theorem du6_apply (r : Fin 512) (l : Fin 1024) : k1_pay6 v0 v2 v5 (ix2 r l) = k1_pay3 v0 v2 (ix2 r l) * sgm (v5 (ix2 r l)) := by
  pointwise [k1_pay6]
  rw [du4_apply]

theorem du7_apply (r : Fin 512) (l : Fin 1024) : k1_pay7 v0 v2 v13 (ix2 r l) = k1_pay3 v0 v2 (ix2 r l) * sgm (v13 (ix2 r l)) := by
  pointwise [k1_pay7]
  rw [du5_apply]

theorem du1_apply (r : Fin 512) (l : Fin 1024) : k1_pay1 (k1_pay4 v5) (k1_pay8 v0 v2 v5 v27) k1_pay9 (ix2 r l)
    = k1_pay3 v0 v2 (ix2 r l) * v27 (ix2 r l) * sgm (v5 (ix2 r l)) * (1 - sgm (v5 (ix2 r l))) := by
  pointwise [k1_pay1, k1_pay8, k1_pay9]
  rw [du4_apply]

theorem du2_apply (r : Fin 512) (l : Fin 1024) : k1_pay2 (k1_pay3 v0 v2) (k1_pay5 v13) v37 (ix2 r l)
    = k1_pay3 v0 v2 (ix2 r l) * v37 (ix2 r l) * sgm (v13 (ix2 r l)) * (1 - sgm (v13 (ix2 r l))) := by
  pointwise [k1_pay2]
  rw [du5_apply]

end Du

end Cert.Train.MixGate

end
-- ==== Proof.MixGateArr.lean ====
/-
  The arrays of the mixer gates' two calls after their run, as functions of the arguments.
-/
module

public import proofs.«01_k».proof.Proof.MixGateBlock
public import Idealize.ShloMosaic.Lib.Pipeline.ValueKit
public import Idealize.ShloMosaic.Lib.Claim

@[expose] public section

set_option maxRecDepth 16384

noncomputable section

namespace Cert.Train.MixGate

open Idealize.ShloMosaic Idealize.ShloMosaic.TcCoe Idealize.SL.Sem
open Idealize.ShloMosaic.Pipeline (Dat)
open scoped BigOperators
open Cert.MixDuIdeal Cert.MixDuIdeal.Gen

section Spec
variable (o : S4096x256.Idx → EReal) (w : S256x1024.Idx → EReal) (pj : S4096x5120.Idx → EReal) (wo : S1024x1024.Idx → EReal) (dy : S4096x1024.Idx → EReal)

/-- An attention's output after its own product. -/
def mixed : S4096x1024.Idx → EReal := fun j => dot (fun k => o (ix2 (j 0) k)) (fun k => w (ix2 k (j 1)))
/-- The two gates: the logistic function of the last two thousand columns of the projected input. -/
def gateD : S4096x1024.Idx → EReal := fun j => sgm (pj (ix2 (j 0) ⟨3072 + (j 1).val, by have := (j 1).isLt; have e : S4096x1024.size 1 = 1024 := rfl; omega⟩))
def gateS : S4096x1024.Idx → EReal := fun j => sgm (pj (ix2 (j 0) ⟨4096 + (j 1).val, by have := (j 1).isLt; have e : S4096x1024.size 1 = 1024 := rfl; omega⟩))
/-- The cotangent of the gated sum. -/
def duAll : S4096x1024.Idx → EReal := fun j => dot (fun k => dy (ix2 (j 0) k)) (fun k => wo (ix2 (j 1) k))

/-- The gated sum, the gradients of the two products, and those of the two gates' arguments. -/
def uAll (od os : S4096x256.Idx → EReal) (pj : S4096x5120.Idx → EReal) (wd ws : S256x1024.Idx → EReal) : S4096x1024.Idx → EReal :=
  fun j => gateD pj j * mixed od wd j + gateS pj j * mixed os ws j
def dpdAll : S4096x1024.Idx → EReal := fun j => duAll wo dy j * gateD pj j
def dpsAll : S4096x1024.Idx → EReal := fun j => duAll wo dy j * gateS pj j
def dgdAll : S4096x1024.Idx → EReal := fun j => duAll wo dy j * mixed o w j * gateD pj j * (1 - gateD pj j)
def dgsAll : S4096x1024.Idx → EReal := fun j => duAll wo dy j * mixed o w j * gateS pj j * (1 - gateS pj j)
end Spec

variable (m : (ℓ : Loc nD τ sig) → Buf (Elt Ideal) ℓ) (ρ : Dev nD → PrngReg) (c : Dev nD)

theorem N8 : cfg0.N = 8 := N_0
theorem N8' : cfg1.N = 8 := N_1

/-- Row `r` of block `n`, of the forward call and of the backward call. -/
def rowOf (n : Fin cfg0.N) (r : Fin 512) : Fin 4096 := ⟨n.val * 512 + r.val, by have := n.isLt; have hN : cfg0.N = 8 := N8; omega⟩
def rowOf1 (n : Fin cfg1.N) (r : Fin 512) : Fin 4096 := ⟨n.val * 512 + r.val, by have := n.isLt; have hN : cfg1.N = 8 := N8'; omega⟩

theorem idxs : ∀ t : Fin cfg0.N, win0_0.index t = ![t.val, 0]
    ∧ win0_1.index t = ![t.val, 0]
    ∧ win0_2.index t = ![0, 0]
    ∧ win0_3.index t = ![0, 0]
    ∧ win0_4.index t = ![t.val, 3]
    ∧ win0_5.index t = ![t.val, 4]
    ∧ win0_6.index t = ![t.val, 0]
    ∧ win0_7.index t = ![t.val, 0]
    ∧ win0_8.index t = ![t.val, 0] :=
  (by decide +kernel : ∀ t : Fin grid0.N, win0_0.index t = ![t.val, 0]
    ∧ win0_1.index t = ![t.val, 0]
    ∧ win0_2.index t = ![0, 0]
    ∧ win0_3.index t = ![0, 0]
    ∧ win0_4.index t = ![t.val, 3]
    ∧ win0_5.index t = ![t.val, 4]
    ∧ win0_6.index t = ![t.val, 0]
    ∧ win0_7.index t = ![t.val, 0]
    ∧ win0_8.index t = ![t.val, 0])

theorem idxs1 : ∀ t : Fin cfg1.N, win1_0.index t = ![t.val, 0]
    ∧ win1_1.index t = ![0, 0]
    ∧ win1_2.index t = ![t.val, 0]
    ∧ win1_3.index t = ![t.val, 0]
    ∧ win1_4.index t = ![t.val, 3]
    ∧ win1_5.index t = ![t.val, 4]
    ∧ win1_6.index t = ![t.val, 0]
    ∧ win1_7.index t = ![t.val, 0]
    ∧ win1_8.index t = ![t.val, 0]
    ∧ win1_9.index t = ![t.val, 0] :=
  (by decide +kernel : ∀ t : Fin grid1.N, win1_0.index t = ![t.val, 0]
    ∧ win1_1.index t = ![0, 0]
    ∧ win1_2.index t = ![t.val, 0]
    ∧ win1_3.index t = ![t.val, 0]
    ∧ win1_4.index t = ![t.val, 3]
    ∧ win1_5.index t = ![t.val, 4]
    ∧ win1_6.index t = ![t.val, 0]
    ∧ win1_7.index t = ![t.val, 0]
    ∧ win1_8.index t = ![t.val, 0]
    ∧ win1_9.index t = ![t.val, 0])

/-! ### What the forward call reads -/

theorem blk0 (t : Fin cfg0.N) (r : Fin 512) (l : Fin 256) :
    iblk0 (V1 m ρ) c 0 t (ix2 r l) = m ((c : Thread nD τ).loc main_arg0) (ix2 (rowOf t r) l) := by
  blk_simp [iblk0, idxs t, V1, W1]
  entry_read
  blk_ext [idxs t, rowOf]

theorem blk1 (t : Fin cfg0.N) (r : Fin 512) (l : Fin 256) :
    iblk0 (V1 m ρ) c 1 t (ix2 r l) = m ((c : Thread nD τ).loc main_arg1) (ix2 (rowOf t r) l) := by
  blk_simp [iblk0, idxs t, V1, W1]
  entry_read
  blk_ext [idxs t, rowOf]

theorem blk2 (t : Fin cfg0.N) (r : Fin 256) (l : Fin 1024) :
    iblk0 (V1 m ρ) c 2 t (ix2 r l) = m ((c : Thread nD τ).loc main_arg3) (ix2 r l) := by
  blk_simp [iblk0, idxs t, V1, W1]
  entry_read
  pointwise
  blk_ext [idxs t, rowOf]

theorem blk3 (t : Fin cfg0.N) (r : Fin 256) (l : Fin 1024) :
    iblk0 (V1 m ρ) c 3 t (ix2 r l) = m ((c : Thread nD τ).loc main_arg4) (ix2 r l) := by
  blk_simp [iblk0, idxs t, V1, W1]
  entry_read
  pointwise
  blk_ext [idxs t, rowOf]

theorem blk4 (t : Fin cfg0.N) (r : Fin 512) (l : Fin 1024) :
    iblk0 (V1 m ρ) c 4 t (ix2 r l) = m ((c : Thread nD τ).loc main_arg2) (ix2 (rowOf t r) ⟨3072 + l.val, by omega⟩) := by
  blk_simp [iblk0, idxs t, V1, W1]
  entry_read
  blk_ext [idxs t, rowOf]

theorem blk5 (t : Fin cfg0.N) (r : Fin 512) (l : Fin 1024) :
    iblk0 (V1 m ρ) c 5 t (ix2 r l) = m ((c : Thread nD τ).loc main_arg2) (ix2 (rowOf t r) ⟨4096 + l.val, by omega⟩) := by
  blk_simp [iblk0, idxs t, V1, W1]
  entry_read
  blk_ext [idxs t, rowOf]

theorem gate_pd (t : Fin cfg0.N) (r : Fin 512) (l : Fin 1024) :
    k0_pay2 (iblk0 (V1 m ρ) c 0 t) (iblk0 (V1 m ρ) c 2 t) (ix2 r l) = mixed (m ((c : Thread nD τ).loc main_arg0)) (m ((c : Thread nD τ).loc main_arg3)) (ix2 (rowOf t r) l) := by
  rw [pay2_apply]
  simp only [blk0, blk2]
  rfl

theorem gate_ps (t : Fin cfg0.N) (r : Fin 512) (l : Fin 1024) :
    k0_pay3 (iblk0 (V1 m ρ) c 1 t) (iblk0 (V1 m ρ) c 3 t) (ix2 r l) = mixed (m ((c : Thread nD τ).loc main_arg1)) (m ((c : Thread nD τ).loc main_arg4)) (ix2 (rowOf t r) l) := by
  rw [pay3_apply]
  simp only [blk1, blk3]
  rfl

/-- The forward call's first array: the gated sum. -/
theorem final0_6 : (dat0 (V1 m ρ) c).arrAt 6 cfg0.N = uAll (m ((c : Thread nD τ).loc main_arg0)) (m ((c : Thread nD τ).loc main_arg1)) (m ((c : Thread nD τ).loc main_arg2)) (m ((c : Thread nD τ).loc main_arg3)) (m ((c : Thread nD τ).loc main_arg4)) := by
  refine (dat0 (V1 m ρ) c).arrAt_eq_of_covers 6 _ (by decide +kernel) fun t hf y => ?_
  blk_simp; rw [after0_6]
  idx_vars y
  have e : (win0_6.rect t).emb (ix2 y0 y1) = ix2 (rowOf t y0) y1 := by
    funext a; apply Fin.ext
    rw [Pipeline.Window.rect_emb_val win0_6 t (ix2 y0 y1) a, (idxs t).2.2.2.2.2.2.1]
    fin_cases a
    · rfl
    · exact Nat.zero_add _
  show _ = uAll _ _ _ _ _ ((win0_6.rect t).emb (ix2 y0 y1))
  rw [e]
  unfold out0_6
  frame_out
  rw [pay4_apply, gate_pd, gate_ps, blk4, blk5]
  rfl

/-- The second: the dilated attention's output after its product. -/
theorem final0_7 : (dat0 (V1 m ρ) c).arrAt 7 cfg0.N = mixed (m ((c : Thread nD τ).loc main_arg0)) (m ((c : Thread nD τ).loc main_arg3)) := by
  refine (dat0 (V1 m ρ) c).arrAt_eq_of_covers 7 _ (by decide +kernel) fun t hf y => ?_
  blk_simp; rw [after0_7]
  idx_vars y
  have e : (win0_7.rect t).emb (ix2 y0 y1) = ix2 (rowOf t y0) y1 := by
    funext a; apply Fin.ext
    rw [Pipeline.Window.rect_emb_val win0_7 t (ix2 y0 y1) a, (idxs t).2.2.2.2.2.2.2.1]
    fin_cases a
    · rfl
    · exact Nat.zero_add _
  show _ = mixed _ _ ((win0_7.rect t).emb (ix2 y0 y1))
  rw [e]
  unfold out0_7
  frame_out
  rw [pay5_apply, gate_pd]

/-- The third: the stick-breaking attention's output after its product. -/
theorem final0_8 : (dat0 (V1 m ρ) c).arrAt 8 cfg0.N = mixed (m ((c : Thread nD τ).loc main_arg1)) (m ((c : Thread nD τ).loc main_arg4)) := by
  refine (dat0 (V1 m ρ) c).arrAt_eq_of_covers 8 _ (by decide +kernel) fun t hf y => ?_
  blk_simp; rw [after0_8]
  idx_vars y
  have e : (win0_8.rect t).emb (ix2 y0 y1) = ix2 (rowOf t y0) y1 := by
    funext a; apply Fin.ext
    rw [Pipeline.Window.rect_emb_val win0_8 t (ix2 y0 y1) a, (idxs t).2.2.2.2.2.2.2.2]
    fin_cases a
    · rfl
    · exact Nat.zero_add _
  show _ = mixed _ _ ((win0_8.rect t).emb (ix2 y0 y1))
  rw [e]
  unfold out0_8
  frame_out
  rw [pay1_apply, gate_ps]

/-! ### What the backward call reads -/

theorem blk10 (t : Fin cfg1.N) (r : Fin 512) (l : Fin 1024) :
    iblk1 (V2 m ρ) c 0 t (ix2 r l) = m ((c : Thread nD τ).loc main_arg6) (ix2 (rowOf1 t r) l) := by
  refine Eq.trans ?_ (congrFun (W2_args m ρ c main_arg6 (by decide)) _)
  blk_ext [iblk1, idxs1 t, rowOf1]

/-- The output weights as the host has packed them. -/
theorem packed (a : Fin 1024) (l : Fin 1024) :
    V2 m ρ c main_v16 (ix2 a l) = m ((c : Thread nD τ).loc main_arg5) (ix2 a l) := by
  refine (congrFun (W2_of m ρ c main_v16 (by decide)) _).trans ?_
  simp only [W1]
  entry_read
  pointwise
  blk_ext []

theorem blk11 (t : Fin cfg1.N) (a : Fin 1024) (l : Fin 1024) :
    iblk1 (V2 m ρ) c 1 t (ix2 a l) = m ((c : Thread nD τ).loc main_arg5) (ix2 a l) := by
  refine Eq.trans ?_ (packed m ρ c a l)
  blk_ext [iblk1, idxs1 t]

theorem blk12 (t : Fin cfg1.N) (r : Fin 512) (a : Fin 1024) :
    iblk1 (V2 m ρ) c 2 t (ix2 r a) = mixed (m ((c : Thread nD τ).loc main_arg0)) (m ((c : Thread nD τ).loc main_arg3)) (ix2 (rowOf1 t r) a) := by
  refine Eq.trans ?_ (congrFun ((W2_arr m ρ c 7).trans (final0_7 m ρ c)) _)
  blk_ext [iblk1, idxs1 t, rowOf1]

theorem blk13 (t : Fin cfg1.N) (r : Fin 512) (a : Fin 1024) :
    iblk1 (V2 m ρ) c 3 t (ix2 r a) = mixed (m ((c : Thread nD τ).loc main_arg1)) (m ((c : Thread nD τ).loc main_arg4)) (ix2 (rowOf1 t r) a) := by
  refine Eq.trans ?_ (congrFun ((W2_arr m ρ c 8).trans (final0_8 m ρ c)) _)
  blk_ext [iblk1, idxs1 t, rowOf1]

theorem blk14 (t : Fin cfg1.N) (r : Fin 512) (l : Fin 1024) :
    iblk1 (V2 m ρ) c 4 t (ix2 r l) = m ((c : Thread nD τ).loc main_arg2) (ix2 (rowOf1 t r) ⟨3072 + l.val, by omega⟩) := by
  refine Eq.trans ?_ (congrFun (W2_args m ρ c main_arg2 (by decide)) _)
  blk_ext [iblk1, idxs1 t, rowOf1]

theorem blk15 (t : Fin cfg1.N) (r : Fin 512) (l : Fin 1024) :
    iblk1 (V2 m ρ) c 5 t (ix2 r l) = m ((c : Thread nD τ).loc main_arg2) (ix2 (rowOf1 t r) ⟨4096 + l.val, by omega⟩) := by
  refine Eq.trans ?_ (congrFun (W2_args m ρ c main_arg2 (by decide)) _)
  blk_ext [iblk1, idxs1 t, rowOf1]

theorem du_du (t : Fin cfg1.N) (r : Fin 512) (l : Fin 1024) :
    k1_pay3 (iblk1 (V2 m ρ) c 0 t) (iblk1 (V2 m ρ) c 1 t) (ix2 r l) = duAll (m ((c : Thread nD τ).loc main_arg5)) (m ((c : Thread nD τ).loc main_arg6)) (ix2 (rowOf1 t r) l) := by
  rw [du3_apply]
  simp only [blk10, blk11]
  rfl

/-- The backward call's first array: the gradient of the dilated attention's product. -/
theorem final1_6 : (dat1 (V2 m ρ) c).arrAt 6 cfg1.N = dpdAll (m ((c : Thread nD τ).loc main_arg2)) (m ((c : Thread nD τ).loc main_arg5)) (m ((c : Thread nD τ).loc main_arg6)) := by
  refine (dat1 (V2 m ρ) c).arrAt_eq_of_covers 6 _ (by decide +kernel) fun t hf y => ?_
  blk_simp; rw [after1_6]
  idx_vars y
  have e : (win1_6.rect t).emb (ix2 y0 y1) = ix2 (rowOf1 t y0) y1 := by
    funext a; apply Fin.ext
    rw [Pipeline.Window.rect_emb_val win1_6 t (ix2 y0 y1) a, (idxs1 t).2.2.2.2.2.2.1]
    fin_cases a
    · rfl
    · exact Nat.zero_add _
  show _ = dpdAll _ _ _ ((win1_6.rect t).emb (ix2 y0 y1))
  rw [e]
  unfold out1_6
  frame_out
  rw [du6_apply, du_du, blk14]
  rfl

/-- The second: the gradient of the stick-breaking attention's product. -/
theorem final1_7 : (dat1 (V2 m ρ) c).arrAt 7 cfg1.N = dpsAll (m ((c : Thread nD τ).loc main_arg2)) (m ((c : Thread nD τ).loc main_arg5)) (m ((c : Thread nD τ).loc main_arg6)) := by
  refine (dat1 (V2 m ρ) c).arrAt_eq_of_covers 7 _ (by decide +kernel) fun t hf y => ?_
  blk_simp; rw [after1_7]
  idx_vars y
  have e : (win1_7.rect t).emb (ix2 y0 y1) = ix2 (rowOf1 t y0) y1 := by
    funext a; apply Fin.ext
    rw [Pipeline.Window.rect_emb_val win1_7 t (ix2 y0 y1) a, (idxs1 t).2.2.2.2.2.2.2.1]
    fin_cases a
    · rfl
    · exact Nat.zero_add _
  show _ = dpsAll _ _ _ ((win1_7.rect t).emb (ix2 y0 y1))
  rw [e]
  unfold out1_7
  frame_out
  rw [du7_apply, du_du, blk15]
  rfl

/-- The third: the gradient of the first gate's argument. -/
theorem final1_8 : (dat1 (V2 m ρ) c).arrAt 8 cfg1.N = dgdAll (m ((c : Thread nD τ).loc main_arg0)) (m ((c : Thread nD τ).loc main_arg3)) (m ((c : Thread nD τ).loc main_arg2)) (m ((c : Thread nD τ).loc main_arg5)) (m ((c : Thread nD τ).loc main_arg6)) := by
  refine (dat1 (V2 m ρ) c).arrAt_eq_of_covers 8 _ (by decide +kernel) fun t hf y => ?_
  blk_simp; rw [after1_8]
  idx_vars y
  have e : (win1_8.rect t).emb (ix2 y0 y1) = ix2 (rowOf1 t y0) y1 := by
    funext a; apply Fin.ext
    rw [Pipeline.Window.rect_emb_val win1_8 t (ix2 y0 y1) a, (idxs1 t).2.2.2.2.2.2.2.2.1]
    fin_cases a
    · rfl
    · exact Nat.zero_add _
  show _ = dgdAll _ _ _ _ _ ((win1_8.rect t).emb (ix2 y0 y1))
  rw [e]
  unfold out1_8
  frame_out
  rw [du1_apply, du_du, blk12, blk14]
  rfl

/-- The fourth: the gradient of the second gate's argument. -/
theorem final1_9 : (dat1 (V2 m ρ) c).arrAt 9 cfg1.N = dgsAll (m ((c : Thread nD τ).loc main_arg1)) (m ((c : Thread nD τ).loc main_arg4)) (m ((c : Thread nD τ).loc main_arg2)) (m ((c : Thread nD τ).loc main_arg5)) (m ((c : Thread nD τ).loc main_arg6)) := by
  refine (dat1 (V2 m ρ) c).arrAt_eq_of_covers 9 _ (by decide +kernel) fun t hf y => ?_
  blk_simp; rw [after1_9]
  idx_vars y
  have e : (win1_9.rect t).emb (ix2 y0 y1) = ix2 (rowOf1 t y0) y1 := by
    funext a; apply Fin.ext
    rw [Pipeline.Window.rect_emb_val win1_9 t (ix2 y0 y1) a, (idxs1 t).2.2.2.2.2.2.2.2.2]
    fin_cases a
    · rfl
    · exact Nat.zero_add _
  show _ = dgsAll _ _ _ _ _ ((win1_9.rect t).emb (ix2 y0 y1))
  rw [e]
  unfold out1_9
  frame_out
  rw [du2_apply, du_du, blk13, blk15]
  rfl

end Cert.Train.MixGate

end
-- ==== Proof.MixGateRef.lean ====
/-
  What the derivative of the mixer's two gates holds, element by element: what the two calls hold, whatever the arguments.
-/
module

public import proofs.«01_k».proof.Proof.MixGateArr
public import proofs.«01_k».proof.Proof.Gen.MixDuRefIdeal.Read

@[expose] public section

set_option maxRecDepth 16384

noncomputable section

namespace Cert.Train.MixGate

open Idealize.ShloMosaic
open scoped BigOperators
open Cert.MixDuRefIdeal Cert.MixDuRefIdeal.Gen Cert.MixDuRefIdeal.Read

section Ref
variable (od os : Vec Ideal S4096x256 .f32) (pj : Vec Ideal S4096x5120 .f32) (wd ws : Vec Ideal S256x1024 .f32) (wo : Vec Ideal S1024x1024 .f32) (dy : Vec Ideal S4096x1024 .f32)

theorem ref0 (r : Fin 4096) (l : Fin 1024) : val_main_v0 od wd (ix2 r l) = mixed od wd (ix2 r l) := by
  pointwise [val_main_v0]
  rfl

theorem ref1 (r : Fin 4096) (l : Fin 1024) : val_main_v1 os ws (ix2 r l) = mixed os ws (ix2 r l) := by
  pointwise [val_main_v1]
  rfl

theorem ref9 (r : Fin 4096) (l : Fin 1024) : val_main_v9 pj (ix2 r l) = gateD pj (ix2 r l) := by
  pointwise [val_main_v9, val_main_v8, val_main_v7, val_main_v6, val_main_v5, val_main_v4, val_main_v2, val_main_cst, val_main_cst_0]
  rfl

theorem ref19 (r : Fin 4096) (l : Fin 1024) : val_main_v19 pj (ix2 r l) = gateS pj (ix2 r l) := by
  pointwise [val_main_v19, val_main_v18, val_main_v17, val_main_v16, val_main_v15, val_main_v14, val_main_v3, val_main_cst_2, val_main_cst_3]
  rfl

theorem ref26 (r : Fin 4096) (l : Fin 1024) : val_main_v26 wo dy (ix2 r l) = duAll wo dy (ix2 r l) := by
  pointwise [val_main_v26]
  rfl

theorem ref33 (r : Fin 4096) (l : Fin 1024) : val_main_v33 od os pj wd ws (ix2 r l) = uAll od os pj wd ws (ix2 r l) := by
  pointwise [val_main_v33, val_main_v24, val_main_v23, val_main_v13]
  rw [ref0, ref1, ref9, ref19]
  rfl

theorem ref34 (r : Fin 4096) (l : Fin 1024) : val_main_v34 pj wo dy (ix2 r l) = dpdAll pj wo dy (ix2 r l) := by
  pointwise [val_main_v34, val_main_v30]
  rw [ref9, ref26]
  exact mul_comm _ _

theorem ref35 (r : Fin 4096) (l : Fin 1024) : val_main_v35 pj wo dy (ix2 r l) = dpsAll pj wo dy (ix2 r l) := by
  pointwise [val_main_v35, val_main_v27]
  rw [ref19, ref26]
  exact mul_comm _ _

theorem ref36 (r : Fin 4096) (l : Fin 1024) : val_main_v36 od pj wd wo dy (ix2 r l) = dgdAll od wd pj wo dy (ix2 r l) := by
  pointwise [val_main_v36, val_main_v32, val_main_v31, val_main_v12, val_main_v11, val_main_v10, val_main_cst_1]
  rw [ref0, ref9, ref26]
  exact (mul_assoc _ _ _).symm

theorem ref37 (r : Fin 4096) (l : Fin 1024) : val_main_v37 os pj ws wo dy (ix2 r l) = dgsAll os ws pj wo dy (ix2 r l) := by
  pointwise [val_main_v37, val_main_v29, val_main_v28, val_main_v22, val_main_v21, val_main_v20, val_main_cst_4]
  rw [ref1, ref19, ref26]
  exact (mul_assoc _ _ _).symm

end Ref

end Cert.Train.MixGate

end
-- ==== Proof.MixGateValue.lean ====
/-
  The mixer gates' forward call and their backward call: their frame as the reference has it, and their value.
-/
module

public import proofs.«01_k».proof.Proof.MixGateRun
public import proofs.«01_k».proof.Proof.MixGateRef
public import proofs.«01_k».proof.Proof.Gen.MixDuRefIdeal.Run
public import proofs.«01_k».proof.Defs
public import Idealize.ShloMosaic.Lib.Quiescent

@[expose] public section

set_option maxRecDepth 16384

noncomputable section

namespace Cert.Train.MixGate

open Idealize.ShloMosaic Idealize.ShloMosaic.TcCoe Idealize.SL.Sem
open Cert.MixDuIdeal Cert.MixDuIdeal.Gen

theorem frame_ref : Cert.quiescent_MixDuRefIdeal := fun m ρ _ =>
  (θ_run _ _ _).mono (fun r h => ⟨fun c => (h c).2.2.2.2.2, sem_eq_zero_of_no_sems rfl r.2⟩) (Cert.MixDuRefIdeal.Value.run (F := Ideal) m ρ)

/-- What the run leaves in the five results. -/
theorem results (m : (ℓ : Loc nD τ sig) → Buf (Elt Ideal) ℓ) (ρ : Dev nD → PrngReg) (c : Dev nD) :
    W3 m ρ c (Proc.devRef .tc main_v17_0) = uAll (m ((c : Thread nD τ).loc main_arg0)) (m ((c : Thread nD τ).loc main_arg1)) (m ((c : Thread nD τ).loc main_arg2)) (m ((c : Thread nD τ).loc main_arg3)) (m ((c : Thread nD τ).loc main_arg4))
    ∧ W3 m ρ c (Proc.devRef .tc main_v18_0) = dpdAll (m ((c : Thread nD τ).loc main_arg2)) (m ((c : Thread nD τ).loc main_arg5)) (m ((c : Thread nD τ).loc main_arg6))
    ∧ W3 m ρ c (Proc.devRef .tc main_v18_1) = dpsAll (m ((c : Thread nD τ).loc main_arg2)) (m ((c : Thread nD τ).loc main_arg5)) (m ((c : Thread nD τ).loc main_arg6))
    ∧ W3 m ρ c (Proc.devRef .tc main_v18_2) = dgdAll (m ((c : Thread nD τ).loc main_arg0)) (m ((c : Thread nD τ).loc main_arg3)) (m ((c : Thread nD τ).loc main_arg2)) (m ((c : Thread nD τ).loc main_arg5)) (m ((c : Thread nD τ).loc main_arg6))
    ∧ W3 m ρ c (Proc.devRef .tc main_v18_3) = dgsAll (m ((c : Thread nD τ).loc main_arg1)) (m ((c : Thread nD τ).loc main_arg4)) (m ((c : Thread nD τ).loc main_arg2)) (m ((c : Thread nD τ).loc main_arg5)) (m ((c : Thread nD τ).loc main_arg6)) :=
  ⟨((W3_of m ρ c main_v17_0 (by decide)).trans (W2_arr m ρ c 6)).trans (final0_6 m ρ c),
   (W3_arr m ρ c 6).trans (final1_6 m ρ c), (W3_arr m ρ c 7).trans (final1_7 m ρ c), (W3_arr m ρ c 8).trans (final1_8 m ρ c), (W3_arr m ρ c 9).trans (final1_9 m ρ c)⟩

/-- The two calls' five arrays are the forward pass's and the derivative's, whatever the arguments. -/
theorem value : Cert.algebraic_MixDuIdeal_MixDuRefIdeal := by
  intro m g m' g' _ hargs
  refine ⟨fun c => uAll (m ((c : Thread nD τ).loc main_arg0)) (m ((c : Thread nD τ).loc main_arg1)) (m ((c : Thread nD τ).loc main_arg2)) (m ((c : Thread nD τ).loc main_arg3)) (m ((c : Thread nD τ).loc main_arg4)),
    fun c => dpdAll (m ((c : Thread nD τ).loc main_arg2)) (m ((c : Thread nD τ).loc main_arg5)) (m ((c : Thread nD τ).loc main_arg6)),
    fun c => dpsAll (m ((c : Thread nD τ).loc main_arg2)) (m ((c : Thread nD τ).loc main_arg5)) (m ((c : Thread nD τ).loc main_arg6)),
    fun c => dgdAll (m ((c : Thread nD τ).loc main_arg0)) (m ((c : Thread nD τ).loc main_arg3)) (m ((c : Thread nD τ).loc main_arg2)) (m ((c : Thread nD τ).loc main_arg5)) (m ((c : Thread nD τ).loc main_arg6)),
    fun c => dgsAll (m ((c : Thread nD τ).loc main_arg1)) (m ((c : Thread nD τ).loc main_arg4)) (m ((c : Thread nD τ).loc main_arg2)) (m ((c : Thread nD τ).loc main_arg5)) (m ((c : Thread nD τ).loc main_arg6)), ?_, ?_⟩
  · refine (θ_run _ _ _).mono (fun r h c => ?_) (run (F := Ideal) m g)
    obtain ⟨r0, r1, r2, r3, r4⟩ := results m g c
    exact ⟨(h c _ (mem_uc main_v17_0 (by decide))).trans r0,
      (h c _ (mem_uc main_v18_0 (by decide))).trans r1,
      (h c _ (mem_uc main_v18_1 (by decide))).trans r2,
      (h c _ (mem_uc main_v18_2 (by decide))).trans r3,
      (h c _ (mem_uc main_v18_3 (by decide))).trans r4,
      (h c _ (mem_uc main_arg0 (by decide))).trans (W3_main_arg0 m g c),
      (h c _ (mem_uc main_arg1 (by decide))).trans (W3_main_arg1 m g c),
      (h c _ (mem_uc main_arg2 (by decide))).trans (W3_main_arg2 m g c),
      (h c _ (mem_uc main_arg3 (by decide))).trans (W3_main_arg3 m g c),
      (h c _ (mem_uc main_arg4 (by decide))).trans (W3_main_arg4 m g c),
      (h c _ (mem_uc main_arg5 (by decide))).trans (W3_main_arg5 m g c),
      (h c _ (mem_uc main_arg6 (by decide))).trans (W3_main_arg6 m g c)⟩
  · refine (θ_run _ _ _).mono (fun r h c => ?_) (Cert.MixDuRefIdeal.Value.run (F := Ideal) m' g')
    obtain ⟨h0, h1, h2, h3, h4, ha⟩ := h c
    obtain ⟨a0, a1, a2, a3, a4, a5, a6⟩ := hargs c
    refine ⟨h0.trans ((Cert.MixDuRefIdeal.Read.val_main_v33_eq _ _ _ _ _).trans ?_),
      h1.trans ((Cert.MixDuRefIdeal.Read.val_main_v34_eq _ _ _).trans ?_),
      h2.trans ((Cert.MixDuRefIdeal.Read.val_main_v35_eq _ _ _).trans ?_),
      h3.trans ((Cert.MixDuRefIdeal.Read.val_main_v36_eq _ _ _ _ _).trans ?_),
      h4.trans ((Cert.MixDuRefIdeal.Read.val_main_v37_eq _ _ _ _ _).trans ?_), ha⟩
    · rw [a0, a1, a2, a3, a4]
      funext j; idx_vars j
      exact ref33 _ _ _ _ _ j0 j1
    · rw [a2, a5, a6]
      funext j; idx_vars j
      exact ref34 _ _ _ j0 j1
    · rw [a2, a5, a6]
      funext j; idx_vars j
      exact ref35 _ _ _ j0 j1
    · rw [a0, a2, a3, a5, a6]
      funext j; idx_vars j
      exact ref36 _ _ _ _ _ j0 j1
    · rw [a1, a2, a4, a5, a6]
      funext j; idx_vars j
      exact ref37 _ _ _ _ _ j0 j1

end Cert.Train.MixGate

end
-- ==== Proof.MergeMath.lean ====
/-
  The merging of three attentions over the same rows: each row's outputs weighted by the exponentials of its three
  logarithms of denominators, and the logarithm of their sum.
-/
module

public import proofs.«01_k».proof.Proof.RealCoe
public import Idealize.ShloMosaic.Lib.Pointwise

@[expose] public section

noncomputable section

namespace Cert.Train.DilMerge

open Idealize.ShloMosaic Cert.Train

/-- The greatest of three logarithms, the sum of their exponentials after it has been taken off, the weighted mean of three
outputs, and the logarithm of the whole denominator. -/
def top3 (a b c : EReal) : EReal := max (max a b) c
def den3 (a b c : EReal) : EReal := Ideal.exp (a - top3 a b c) + Ideal.exp (b - top3 a b c) + Ideal.exp (c - top3 a b c)
def mean3 (a b c x y z : EReal) : EReal :=
  Ideal.div (Ideal.exp (a - top3 a b c) * x + Ideal.exp (b - top3 a b c) * y + Ideal.exp (c - top3 a b c) * z) (den3 a b c)
def lse3 (a b c : EReal) : EReal := top3 a b c + Ideal.log (den3 a b c)

variable (a b c : ℝ)

/-- The same greatest logarithm and sum over real numbers. -/
def top3R : ℝ := max (max a b) c
def den3R : ℝ := Real.exp (a - top3R a b c) + Real.exp (b - top3R a b c) + Real.exp (c - top3R a b c)

theorem den3R_pos : 0 < den3R a b c := by unfold den3R; positivity

theorem top3_real : top3 a b c = ((top3R a b c : ℝ) : EReal) := by
  unfold top3 top3R
  rw [EReal.coe_strictMono.monotone.map_max, EReal.coe_strictMono.monotone.map_max]

theorem exp_off (x t : ℝ) : Ideal.exp ((x : EReal) - (t : EReal)) = ((Real.exp (x - t) : ℝ) : EReal) := by
  rw [← EReal.coe_sub, Ideal.exp_coe]

theorem den3_real : den3 a b c = ((den3R a b c : ℝ) : EReal) := by
  unfold den3 den3R
  rw [top3_real]
  simp only [exp_off, EReal.coe_add]

/-- Dividing by a positive number passes through a sum. -/
theorem div_add (x y : EReal) {d : ℝ} (h : 0 < d) : Ideal.div (x + y) (d : EReal) = Ideal.div x d + Ideal.div y d := by
  rw [Ideal.div_coe h.ne', Ideal.div_coe h.ne', Ideal.div_coe h.ne']
  exact EReal.right_distrib_of_nonneg_of_ne_top (EReal.coe_nonneg.mpr (by positivity)) (EReal.coe_ne_top _) _ _

/-- Weights divided by their sum first, or the weighted sum divided by it. -/
theorem mean3_weights (x y z : EReal) : mean3 a b c x y z
    = Ideal.div (Ideal.exp (a - top3 a b c)) (den3 a b c) * x + Ideal.div (Ideal.exp (b - top3 a b c)) (den3 a b c) * y
      + Ideal.div (Ideal.exp (c - top3 a b c)) (den3 a b c) * z := by
  have h := den3R_pos a b c
  unfold mean3
  rw [den3_real, div_add _ _ h, div_add _ _ h]
  simp only [Ideal.div_coe h.ne', mul_right_comm]

theorem lse3_real : lse3 a b c = ((top3R a b c + Real.log (den3R a b c) : ℝ) : EReal) := by
  unfold lse3
  rw [den3_real, top3_real, Ideal.log_coe, if_neg (not_le.mpr (den3R_pos a b c)), EReal.coe_add]

end Cert.Train.DilMerge

end
-- ==== Proof.MergeArr.lean ====
/-
  The merging call's two arrays after its run, as functions of the arguments.
-/
module

public import proofs.«01_k».proof.Proof.MergeMath
public import proofs.«01_k».proof.Proof.Gen.DilMergeIdeal.Value
public import Idealize.ShloMosaic.Lib.Pipeline.ValueKit

@[expose] public section

set_option maxRecDepth 16384

noncomputable section

namespace Cert.Train.DilMerge

open Idealize.ShloMosaic Idealize.ShloMosaic.TcCoe Idealize.SL.Sem
open Idealize.ShloMosaic.Pipeline (Dat)
open Cert.DilMergeIdeal Cert.DilMergeIdeal.Gen

section Block
variable (v0 v2 v4 v16 v19 v23 : Vec Ideal S512x256 .f32) (r : Fin 512) (l : Fin 256)

theorem pay4_apply : k0_pay4 v0 v2 v4 (ix2 r l) = top3 (v0 (ix2 r l)) (v2 (ix2 r l)) (v4 (ix2 r l)) := by
  pointwise [k0_pay4, k0_pay1, k0_pay2, k0_pay3]
  rfl

theorem pay8_apply : k0_pay8 v0 v2 v4 (ix2 r l) = den3 (v0 (ix2 r l)) (v2 (ix2 r l)) (v4 (ix2 r l)) := by
  pointwise [k0_pay8, k0_pay5, k0_pay6, k0_pay7, k0_pay1, k0_pay2, k0_pay3]
  rw [pay4_apply]
  rfl

theorem pay9_apply : k0_pay9 v0 v2 v4 v16 v19 v23 (ix2 r l)
    = mean3 (v0 (ix2 r l)) (v2 (ix2 r l)) (v4 (ix2 r l)) (v16 (ix2 r l)) (v19 (ix2 r l)) (v23 (ix2 r l)) := by
  pointwise [k0_pay9, k0_pay5, k0_pay6, k0_pay7, k0_pay1, k0_pay2, k0_pay3]
  rw [pay4_apply, pay8_apply]
  rfl

theorem pay10_apply : k0_pay10 v0 v2 v4 (ix2 r l) = lse3 (v0 (ix2 r l)) (v2 (ix2 r l)) (v4 (ix2 r l)) := by
  pointwise [k0_pay10]
  rw [pay4_apply, pay8_apply]
  rfl

end Block

/-- The head and the place in it of a lane. -/
def headOf (l : Fin 256) : Fin 4 := ⟨l.val / 64, by omega⟩
def laneOf (l : Fin 256) : Fin 64 := ⟨l.val % 64, by omega⟩

/-- The merged outputs and the logarithms of the whole denominators, a head's lanes side by side. -/
def outAll (x y z : S1x4x4096x64.Idx → EReal) (a b c : S1x4x4096.Idx → EReal) : S4096x256.Idx → EReal :=
  fun j => mean3 (a (ix3 0 (headOf (j 1)) (j 0))) (b (ix3 0 (headOf (j 1)) (j 0))) (c (ix3 0 (headOf (j 1)) (j 0)))
    (x (ix4 0 (headOf (j 1)) (j 0) (laneOf (j 1)))) (y (ix4 0 (headOf (j 1)) (j 0) (laneOf (j 1)))) (z (ix4 0 (headOf (j 1)) (j 0) (laneOf (j 1))))
def lseAll (a b c : S1x4x4096.Idx → EReal) : S4096x256.Idx → EReal :=
  fun j => lse3 (a (ix3 0 (headOf (j 1)) (j 0))) (b (ix3 0 (headOf (j 1)) (j 0))) (c (ix3 0 (headOf (j 1)) (j 0)))

variable (m : (ℓ : Loc nD τ sig) → Buf (Elt Ideal) ℓ) (c : Dev nD)

/-- Row `r` of block `n`. -/
def rowOf (n : Fin cfg0.N) (r : Fin 512) : Fin 4096 := ⟨n.val * 512 + r.val, by have := n.isLt; have hN : cfg0.N = 8 := N_0; omega⟩

theorem idxs : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0])

theorem blk0 (t : Fin cfg0.N) (r : Fin 512) (l : Fin 256) :
    iblk m c 0 t (ix2 r l) = m ((c : Thread nD τ).loc main_arg0) (ix4 0 (headOf l) (rowOf t r) (laneOf l)) := by
  blk_simp [iblk, idxs t]
  entry_read
  pointwise
  blk_ext [idxs t, rowOf, headOf, laneOf]

theorem blk1 (t : Fin cfg0.N) (r : Fin 512) (l : Fin 256) :
    iblk m c 1 t (ix2 r l) = m ((c : Thread nD τ).loc main_arg1) (ix4 0 (headOf l) (rowOf t r) (laneOf l)) := by
  blk_simp [iblk, idxs t]
  entry_read
  pointwise
  blk_ext [idxs t, rowOf, headOf, laneOf]

theorem blk2 (t : Fin cfg0.N) (r : Fin 512) (l : Fin 256) :
    iblk m c 2 t (ix2 r l) = m ((c : Thread nD τ).loc main_arg2) (ix4 0 (headOf l) (rowOf t r) (laneOf l)) := by
  blk_simp [iblk, idxs t]
  entry_read
  pointwise
  blk_ext [idxs t, rowOf, headOf, laneOf]

theorem blk3 (t : Fin cfg0.N) (r : Fin 512) (l : Fin 256) :
    iblk m c 3 t (ix2 r l) = m ((c : Thread nD τ).loc main_arg3) (ix3 0 (headOf l) (rowOf t r)) := by
  blk_simp [iblk, idxs t]
  entry_read
  pointwise
  blk_ext [idxs t, rowOf, headOf, laneOf]

theorem blk4 (t : Fin cfg0.N) (r : Fin 512) (l : Fin 256) :
    iblk m c 4 t (ix2 r l) = m ((c : Thread nD τ).loc main_arg4) (ix3 0 (headOf l) (rowOf t r)) := by
  blk_simp [iblk, idxs t]
  entry_read
  pointwise
  blk_ext [idxs t, rowOf, headOf, laneOf]

theorem blk5 (t : Fin cfg0.N) (r : Fin 512) (l : Fin 256) :
    iblk m c 5 t (ix2 r l) = m ((c : Thread nD τ).loc main_arg5) (ix3 0 (headOf l) (rowOf t r)) := by
  blk_simp [iblk, idxs t]
  entry_read
  pointwise
  blk_ext [idxs t, rowOf, headOf, laneOf]

/-- The merged outputs. -/
theorem final6 : (dats m 0 c).arrAt 6 cfg0.N = outAll (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  idx_vars y
  have e : (win0_6.rect t).emb (ix2 y0 y1) = ix2 (rowOf t y0) y1 := by
    funext a; apply Fin.ext
    rw [Pipeline.Window.rect_emb_val win0_6 t (ix2 y0 y1) a, (idxs t).2.2.2.2.2.2.1]
    fin_cases a
    · rfl
    · exact Nat.zero_add _
  show _ = outAll _ _ _ _ _ _ ((win0_6.rect t).emb (ix2 y0 y1))
  rw [e]
  unfold out0_6
  frame_out
  rw [pay9_apply]
  simp only [blk0, blk1, blk2, blk3, blk4, blk5]
  rfl

/-- The logarithms of the whole denominators. -/
theorem final7 : (dats m 0 c).arrAt 7 cfg0.N = lseAll (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]
  idx_vars y
  have e : (win0_7.rect t).emb (ix2 y0 y1) = ix2 (rowOf t y0) y1 := by
    funext a; apply Fin.ext
    rw [Pipeline.Window.rect_emb_val win0_7 t (ix2 y0 y1) a, (idxs t).2.2.2.2.2.2.2]
    fin_cases a
    · rfl
    · exact Nat.zero_add _
  show _ = lseAll _ _ _ ((win0_7.rect t).emb (ix2 y0 y1))
  rw [e]
  unfold out0_7
  frame_out
  rw [pay10_apply]
  simp only [blk3, blk4, blk5]
  rfl

end Cert.Train.DilMerge

end
-- ==== Proof.MergeRef.lean ====
/-
  The reference's merging of the three attentions, element by element.
-/
module

public import proofs.«01_k».proof.Proof.MergeArr
public import proofs.«01_k».proof.Proof.Gen.DilMergeRefIdeal.Read
public import Idealize.ShloMosaic.Lib.Pointwise

@[expose] public section

set_option maxRecDepth 16384

noncomputable section

namespace Cert.Train.DilMerge

open Idealize.ShloMosaic Cert.Train
open Cert.DilMergeRefIdeal Cert.DilMergeRefIdeal.Read

section
variable (x0 x1 x2 : Vec Ideal S1x4x4096x64 .f32) (x3 x4 x5 : Vec Ideal S1x4x4096 .f32) (h : Fin 4) (t : Fin 4096) (l : Fin 64)

theorem ref3_0 : val_main_v3 (F := Ideal) x3 x4 x5 (ix4 0 0 h t) = x3 (ix3 0 h t) := by
  pointwise [val_main_v3, val_main_v0, val_main_v1, val_main_v2]
theorem ref3_1 : val_main_v3 (F := Ideal) x3 x4 x5 (ix4 1 0 h t) = x4 (ix3 0 h t) := by
  pointwise [val_main_v3, val_main_v0, val_main_v1, val_main_v2]
theorem ref3_2 : val_main_v3 (F := Ideal) x3 x4 x5 (ix4 2 0 h t) = x5 (ix3 0 h t) := by
  pointwise [val_main_v3, val_main_v0, val_main_v1, val_main_v2]
theorem lit_bot : (FloatOps.ofBits .f32 0xFF800000#32 : Ideal .f32) = (⊥ : EReal) := by
  show Ideal.ofBits .f32 0xFF800000#32 = _
  simp [Ideal.ofBits, Ideal.ieee]

theorem lit_nought : (FloatOps.ofBits .f32 0x00000000#32 : Ideal .f32) = (0 : EReal) := lit_zero

/-- The greatest of three numbers, folded from below. -/
theorem fold3 (f : Fin 3 → EReal) : Finset.fold max ⊥ f Finset.univ = top3 (f 0) (f 1) (f 2) := by
  have e : (Finset.univ : Finset (Fin 3)) = {0, 1, 2} := by decide
  rw [e, Finset.fold_insert (by decide), Finset.fold_insert (by decide), Finset.fold_singleton, top3]
  simp only [max_bot_right, max_assoc]

theorem ref4 : val_main_v4 (F := Ideal) x3 x4 x5 (ix3 0 h t) = top3 (x3 (ix3 0 h t)) (x4 (ix3 0 h t)) (x5 (ix3 0 h t)) := by
  pointwise [val_main_v4]
  rw [show val_main_cst (F := Ideal) (Shape.Idx.first Gen.h_S_) = (⊥ : EReal) from lit_bot, fold3, ref3_0, ref3_1, ref3_2]

theorem ref6 : val_main_v6 (F := Ideal) x3 x4 x5 (ix3 0 h t) = top3 (x3 (ix3 0 h t)) (x4 (ix3 0 h t)) (x5 (ix3 0 h t)) := by
  pointwise [val_main_v6, val_main_v5]
  rw [show val_main_cst_0 (F := Ideal) _ = (⊥ : EReal) from lit_bot, ref4]
  exact max_bot_left _

theorem ref10 (g : Fin 3) : val_main_v10 (F := Ideal) x3 x4 x5 (ix4 g 0 h t)
    = Ideal.exp (val_main_v3 (F := Ideal) x3 x4 x5 (ix4 g 0 h t) - top3 (x3 (ix3 0 h t)) (x4 (ix3 0 h t)) (x5 (ix3 0 h t))) := by
  rw [← ref6]
  pointwise [val_main_v10, val_main_v9, val_main_v8, val_main_v7]

theorem ref11 : val_main_v11 (F := Ideal) x3 x4 x5 (ix3 0 h t) = den3 (x3 (ix3 0 h t)) (x4 (ix3 0 h t)) (x5 (ix3 0 h t)) := by
  pointwise [val_main_v11]
  rw [show val_main_cst_1 (F := Ideal) (Shape.Idx.first Gen.h_S_) = (0 : EReal) from lit_nought, Fin.sum_univ_three]
  simp only [ref10, ref3_0, ref3_1, ref3_2]
  exact zero_add _

theorem ref14 (g : Fin 3) : val_main_v14 (F := Ideal) x3 x4 x5 (ix4 g 0 h t)
    = Ideal.div (Ideal.exp (val_main_v3 (F := Ideal) x3 x4 x5 (ix4 g 0 h t) - top3 (x3 (ix3 0 h t)) (x4 (ix3 0 h t)) (x5 (ix3 0 h t))))
      (den3 (x3 (ix3 0 h t)) (x4 (ix3 0 h t)) (x5 (ix3 0 h t))) := by
  rw [← ref10, ← ref11]
  pointwise [val_main_v14, val_main_v13, val_main_v12]

theorem ref19_0 : val_main_v19 (F := Ideal) x0 x1 x2 (ix5 0 0 h t l) = x0 (ix4 0 h t l) := by
  pointwise [val_main_v19, val_main_v16, val_main_v17, val_main_v18]
theorem ref19_1 : val_main_v19 (F := Ideal) x0 x1 x2 (ix5 1 0 h t l) = x1 (ix4 0 h t l) := by
  pointwise [val_main_v19, val_main_v16, val_main_v17, val_main_v18]
theorem ref19_2 : val_main_v19 (F := Ideal) x0 x1 x2 (ix5 2 0 h t l) = x2 (ix4 0 h t l) := by
  pointwise [val_main_v19, val_main_v16, val_main_v17, val_main_v18]

theorem ref21 (g : Fin 3) : val_main_v21 (F := Ideal) x0 x1 x2 x3 x4 x5 (ix5 g 0 h t l)
    = val_main_v14 (F := Ideal) x3 x4 x5 (ix4 g 0 h t) * val_main_v19 (F := Ideal) x0 x1 x2 (ix5 g 0 h t l) := by
  pointwise [val_main_v21, val_main_v20, val_main_v15]

theorem ref22 (a b c : ℝ) (ha : x3 (ix3 0 h t) = (a : EReal)) (hb : x4 (ix3 0 h t) = (b : EReal)) (hc : x5 (ix3 0 h t) = (c : EReal)) :
    val_main_v22 (F := Ideal) x0 x1 x2 x3 x4 x5 (ix4 0 h t l)
      = mean3 (x3 (ix3 0 h t)) (x4 (ix3 0 h t)) (x5 (ix3 0 h t)) (x0 (ix4 0 h t l)) (x1 (ix4 0 h t l)) (x2 (ix4 0 h t l)) := by
  pointwise [val_main_v22]
  rw [show val_main_cst_2 (F := Ideal) (Shape.Idx.first Gen.h_S_) = (0 : EReal) from lit_nought, Fin.sum_univ_three]
  simp only [ref21, ref14, ref3_0, ref3_1, ref3_2, ref19_0, ref19_1, ref19_2]
  rw [ha, hb, hc, mean3_weights]
  exact zero_add _

theorem ref26_0 : val_main_v26 (F := Ideal) x3 x4 x5 = val_main_v3 (F := Ideal) x3 x4 x5 := rfl
theorem ref31_0 : val_main_v31 (F := Ideal) x3 x4 x5 = val_main_v3 (F := Ideal) x3 x4 x5 := rfl
theorem ref27_0 : val_main_v27 (F := Ideal) x3 x4 x5 = val_main_v4 (F := Ideal) x3 x4 x5 := rfl

theorem ref35 (g : Fin 3) : val_main_v35 (F := Ideal) x3 x4 x5 (ix4 g 0 h t)
    = Ideal.exp (val_main_v3 (F := Ideal) x3 x4 x5 (ix4 g 0 h t) - top3 (x3 (ix3 0 h t)) (x4 (ix3 0 h t)) (x5 (ix3 0 h t))) := by
  rw [← ref4, ← ref27_0, ← ref31_0]
  pointwise [val_main_v35, val_main_v34, val_main_v33, val_main_v32]

theorem ref38 : val_main_v38 (F := Ideal) x3 x4 x5 (ix3 0 h t) = lse3 (x3 (ix3 0 h t)) (x4 (ix3 0 h t)) (x5 (ix3 0 h t)) := by
  have e : val_main_v36 (F := Ideal) x3 x4 x5 (ix3 0 h t) = den3 (x3 (ix3 0 h t)) (x4 (ix3 0 h t)) (x5 (ix3 0 h t)) := by
    pointwise [val_main_v36]
    rw [show val_main_cst_4 (F := Ideal) (Shape.Idx.first Gen.h_S_) = (0 : EReal) from lit_nought, Fin.sum_univ_three]
    simp only [ref35, ref3_0, ref3_1, ref3_2]
    exact zero_add _
  pointwise [val_main_v38, val_main_v37]
  rw [e, ref27_0, ref4]
  rfl

end

section Results
variable (x0 x1 x2 : Vec Ideal S1x4x4096x64 .f32) (x3 x4 x5 : Vec Ideal S1x4x4096 .f32) (t : Fin 4096) (l : Fin 256)

/-- The reference's merged outputs. -/
theorem ref43 (a b c : ℝ) (ha : x3 (ix3 0 (headOf l) t) = (a : EReal)) (hb : x4 (ix3 0 (headOf l) t) = (b : EReal)) (hc : x5 (ix3 0 (headOf l) t) = (c : EReal)) :
    val_main_v43 (F := Ideal) x0 x1 x2 x3 x4 x5 (ix2 t l) = outAll x0 x1 x2 x3 x4 x5 (ix2 t l) := by
  refine Eq.trans ?_ (ref22 x0 x1 x2 x3 x4 x5 (headOf l) t (laneOf l) a b c ha hb hc)
  pointwise [val_main_v43, val_main_v42, val_main_v41]
  blk_ext [headOf, laneOf]

/-- The reference's logarithms of the whole denominators. -/
theorem ref46 : val_main_v46 (F := Ideal) x3 x4 x5 (ix2 t l) = lseAll x3 x4 x5 (ix2 t l) := by
  refine Eq.trans ?_ (ref38 x3 x4 x5 (headOf l) t)
  pointwise [val_main_v46, val_main_v45, val_main_v44, val_main_v40, val_main_v39]
  blk_ext [headOf, laneOf]

end Results

end Cert.Train.DilMerge

end
-- ==== Proof.MergeValue.lean ====
/-
  The merging call: its frame as the reference has it, and its value.
-/
module

public import proofs.«01_k».proof.Proof.MergeRef
public import proofs.«01_k».proof.Proof.Gen.DilMergeRefIdeal.Run
public import proofs.«01_k».proof.Defs
public import proofs.«01_k».proof.Proof.Gen.Pre_lse_finite
public import Idealize.ShloMosaic.Lib.Quiescent

@[expose] public section

set_option maxRecDepth 16384

noncomputable section

namespace Cert.Train.DilMerge

open Idealize.ShloMosaic Idealize.ShloMosaic.TcCoe Idealize.SL.Sem
open Cert.DilMergeIdeal

theorem frame_ref : Cert.quiescent_DilMergeRefIdeal := fun m ρ _ =>
  (θ_run _ _ _).mono (fun r h => ⟨fun c => (h c).2.2, sem_eq_zero_of_no_sems rfl r.2⟩) (Cert.DilMergeRefIdeal.Value.run (F := Ideal) m ρ)

/-- Logarithms that lie strictly between minus and plus infinity are real. -/
theorem pre_reals {m : (ℓ : Loc nD τ sig) → Buf (Elt Ideal) ℓ} (H : Cert.Pre_DilMergeIdeal_lse_finite m) (c : Dev nD) (h : Fin 4) (t : Fin 4096) :
    (∃ a : ℝ, m ((c : Thread nD τ).loc main_arg3) (ix3 0 h t) = (a : EReal)) ∧ (∃ a : ℝ, m ((c : Thread nD τ).loc main_arg4) (ix3 0 h t) = (a : EReal))
      ∧ ∃ a : ℝ, m ((c : Thread nD τ).loc main_arg5) (ix3 0 h t) = (a : EReal) := by
  obtain ⟨h0, h1, h2⟩ := H c
  exact ⟨real_of_test _ (congrFun h0 (ix3 0 h t)), real_of_test _ (congrFun h1 (ix3 0 h t)), real_of_test _ (congrFun h2 (ix3 0 h t))⟩

/-- The call's two arrays are the reference's. -/
theorem value : Cert.algebraic_DilMergeIdeal_DilMergeRefIdeal_pre_lse_finite := by
  intro m g m' g' hpre hargs
  refine ⟨fun c => outAll (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
    fun c => lseAll (m ((c : Thread nD τ).loc main_arg3)) (m ((c : Thread nD τ).loc main_arg4)) (m ((c : Thread nD τ).loc main_arg5)), ?_, ?_⟩
  · refine (θ_run _ _ _).mono (fun r h c => ?_) (Cert.DilMergeIdeal.Value.run_blocks (F := Ideal) m g)
    exact ⟨(h c).1.trans (final6 m c), (h c).2.1.trans (final7 m c), (h c).2.2⟩
  · refine (θ_run _ _ _).mono (fun r h c => ?_) (Cert.DilMergeRefIdeal.Value.run (F := Ideal) m' g')
    obtain ⟨h0, h1, ha⟩ := h c
    obtain ⟨a0, a1, a2, a3, a4, a5⟩ := hargs c
    refine ⟨h0.trans ((Cert.DilMergeRefIdeal.Read.val_main_v43_eq m' c).trans ?_), h1.trans ((Cert.DilMergeRefIdeal.Read.val_main_v46_eq _ _ _).trans ?_), ha⟩
    · rw [a0, a1, a2, a3, a4, a5]
      funext j; idx_vars j
      obtain ⟨⟨a, ea⟩, ⟨b, eb⟩, ⟨d, ed⟩⟩ := pre_reals hpre c (headOf j1) j0
      exact ref43 _ _ _ _ _ _ j0 j1 a b d ea eb ed
    · rw [a3, a4, a5]
      funext j; idx_vars j
      exact ref46 _ _ _ j0 j1

end Cert.Train.DilMerge

end
-- ==== Proof.AsmSpec.lean ====
/-
  The gradient of the projected input, entry by entry: the six parts side by side, the parts of q and k turned back by the
  rotation's angle in the first sixteen lanes of each head of 64 lanes.
-/
module

public import Idealize.ShloMosaic.Lib.Pointwise
public import Idealize.ShloMosaic.PureOps.Ideal

@[expose] public section

noncomputable section

namespace Cert.Train.Asm

open Idealize.ShloMosaic

/-- A row of a matrix, zero outside. -/
def row {w : ℕ} (a : Vec Ideal ⟨2, ![4096, w]⟩ .f32) (n : Fin 4096) (k : ℕ) : EReal := if h : k < w then a (ix2 n ⟨k, h⟩) else 0

/-- A column of a matrix of 256 rows, zero outside. -/
def col (a : Vec Ideal ⟨2, ![256, 4096]⟩ .f32) (n : Fin 4096) (k : ℕ) : EReal := if h : k < 256 then a (ix2 ⟨k, h⟩ n) else 0

/-- The rotation's angle at position `n` in the pair of lanes `d`. -/
def ang (n : Fin 4096) (d : ℕ) : EReal :=
  FloatOps.sitofp (F := Ideal) FTy.f32 (BitVec.ofNat 32 n) * Ideal.pow (Ideal.ofBits FTy.f32 1223959552#32)
    (Ideal.div (-(Ideal.ofBits FTy.f32 1073741824#32 * FloatOps.sitofp (F := Ideal) FTy.f32 (BitVec.ofNat 32 d))) (Ideal.ofBits FTy.f32 1098907648#32))

/-- The rotation's transpose on the row `f`, at position `n` and column `j`. -/
def turn (f : ℕ → EReal) (n : Fin 4096) (j : ℕ) : EReal :=
  if j % 64 < 8 then f (j + 8) * Ideal.sin (ang n (j % 64)) + f j * Ideal.cos (ang n (j % 64))
  else if j % 64 < 16 then f j * Ideal.cos (ang n (j % 64 - 8)) + -f (j - 8) * Ideal.sin (ang n (j % 64 - 8))
  else f j

theorem row_of {w : ℕ} (a : Vec Ideal ⟨2, ![4096, w]⟩ .f32) (n : Fin 4096) (k : ℕ) (h : k < w) : row a n k = a (ix2 n ⟨k, h⟩) := dif_pos h

theorem col_of (a : Vec Ideal ⟨2, ![256, 4096]⟩ .f32) (n : Fin 4096) (k : ℕ) (h : k < 256) : col a n k = a (ix2 ⟨k, h⟩ n) := dif_pos h

/-- The rotation sees columns modulo 64 only. -/
theorem turn_shift (f : ℕ → EReal) (n : Fin 4096) (o j : ℕ) (ho : o % 64 = 0) : turn f n (o + j) = turn (fun k => f (o + k)) n j := by
  unfold turn
  rw [show (o + j) % 64 = j % 64 by omega, show o + j + 8 = o + (j + 8) by omega]
  by_cases h8 : j % 64 < 8
  · rw [if_pos h8, if_pos h8]
  by_cases h16 : j % 64 < 16
  · rw [if_neg h8, if_neg h8, if_pos h16, if_pos h16, show o + j - 8 = o + (j - 8) by omega]
  · rw [if_neg h8, if_neg h8, if_neg h16, if_neg h16]

/-- The whole result: eight parts side by side. -/
def all (x0 x1 x2 : Vec Ideal ⟨2, ![4096, 768]⟩ .f32) (x3 : Vec Ideal ⟨2, ![4096, 256]⟩ .f32) (x4 x5 : Vec Ideal ⟨2, ![256, 4096]⟩ .f32)
    (x6 x7 : Vec Ideal ⟨2, ![4096, 1024]⟩ .f32) (n : Fin 4096) (j : ℕ) : EReal :=
  if j < 768 then turn (row x0 n) n j else if j < 1536 then turn (row x1 n) n (j - 768) else if j < 2304 then row x2 n (j - 1536)
  else if j < 2560 then row x3 n (j - 2304) else if j < 2816 then col x4 n (j - 2560) else if j < 3072 then col x5 n (j - 2816)
  else if j < 4096 then row x6 n (j - 3072) else row x7 n (j - 4096)

end Cert.Train.Asm

end
-- ==== Proof.MixInSpec.lean ====
/-
  The mixer's input, entry by entry: a row divided by its root mean square and gained, its product with the weights, and the
  rotation of the columns of q and k in the first sixteen lanes of each head of 64 lanes.
-/
module

public import proofs.«01_k».proof.Proof.AsmSpec
public import proofs.«01_k».proof.Proof.GateMath

@[expose] public section

noncomputable section

namespace Cert.Train.MixIn

open Idealize.ShloMosaic Cert.Train.Asm
open scoped BigOperators

/-- A normalised and gained row. -/
def hRow (x g : Fin 1024 → EReal) (l : Fin 1024) : EReal :=
  x l * Ideal.rsqrt (Ideal.div (∑ k, x k * x k) ((1024 : ℝ) : EReal) + ((eps : ℝ) : EReal)) * g l

/-- The normed input. -/
def hAll (x : Vec Ideal ⟨2, ![4096, 1024]⟩ .f32) (g : Vec Ideal ⟨1, ![1024]⟩ .f32) (n : Fin 4096) (l : Fin 1024) : EReal :=
  hRow (fun l => x (ix2 n l)) (fun l => g (ix1 l)) l

/-- Row `n` of the product, zero beyond its 5120 columns. -/
def prod (x : Vec Ideal ⟨2, ![4096, 1024]⟩ .f32) (g : Vec Ideal ⟨1, ![1024]⟩ .f32) (w : Vec Ideal ⟨2, ![1024, 5120]⟩ .f32) (n : Fin 4096) (k : ℕ) : EReal :=
  if h : k < 5120 then ∑ l, hAll x g n l * w (ix2 l ⟨k, h⟩) else 0

theorem prod_of (x : Vec Ideal ⟨2, ![4096, 1024]⟩ .f32) (g : Vec Ideal ⟨1, ![1024]⟩ .f32) (w : Vec Ideal ⟨2, ![1024, 5120]⟩ .f32) (n : Fin 4096) (k : ℕ) (h : k < 5120) :
    prod x g w n k = ∑ l, hAll x g n l * w (ix2 l ⟨k, h⟩) := dif_pos h

/-- The rotation on the row `f`, at position `n` and column `j`. -/
def spin (f : ℕ → EReal) (n : Fin 4096) (j : ℕ) : EReal :=
  if j % 64 < 8 then f j * Ideal.cos (ang n (j % 64)) - f (j + 8) * Ideal.sin (ang n (j % 64))
  else if j % 64 < 16 then f j * Ideal.cos (ang n (j % 64 - 8)) + f (j - 8) * Ideal.sin (ang n (j % 64 - 8))
  else f j

/-- The rotation sees columns modulo 64 only. -/
theorem spin_shift (f : ℕ → EReal) (n : Fin 4096) (o j : ℕ) (ho : o % 64 = 0) : spin f n (o + j) = spin (fun k => f (o + k)) n j := by
  unfold spin
  rw [show (o + j) % 64 = j % 64 by omega, show o + j + 8 = o + (j + 8) by omega]
  by_cases h8 : j % 64 < 8
  · rw [if_pos h8, if_pos h8]
  by_cases h16 : j % 64 < 16
  · rw [if_neg h8, if_neg h8, if_pos h16, if_pos h16, show o + j - 8 = o + (j - 8) by omega]
  · rw [if_neg h8, if_neg h8, if_neg h16, if_neg h16]

/-- The projected input: the first 1536 columns turned. -/
def projAll (x : Vec Ideal ⟨2, ![4096, 1024]⟩ .f32) (g : Vec Ideal ⟨1, ![1024]⟩ .f32) (w : Vec Ideal ⟨2, ![1024, 5120]⟩ .f32) (n : Fin 4096) (j : ℕ) : EReal :=
  if j < 1536 then spin (prod x g w n) n j else prod x g w n j

/-- The three tables, by lane. -/
def tabC (n : Fin 4096) (l : ℕ) : EReal := if l % 64 < 16 then Ideal.cos (ang n (l % 8)) else 1
def tabA (n : Fin 4096) (l : ℕ) : EReal := if l % 64 < 8 then -Ideal.sin (ang n (l % 8)) else 0
def tabB (n : Fin 4096) (l : ℕ) : EReal := if 8 ≤ l % 64 ∧ l % 64 < 16 then Ideal.sin (ang n (l % 8)) else 0

/-- A lane rotation by eight either way and the three tables are the rotation: beyond a head's first 16 lanes the tables hold
    one and zeros. The two rotated rows matter only where they do not wrap. -/
theorem spin_tabs (n : Fin 4096) (f : ℕ → EReal) (a b : EReal) (j : ℕ) (ha : j % 64 < 8 → a = f (j + 8)) (hb : 8 ≤ j % 64 → b = f (j - 8)) :
    f j * tabC n j + a * tabA n j + b * tabB n j = spin f n j := by
  unfold tabC tabA tabB spin
  by_cases h8 : j % 64 < 8
  · rw [if_pos (show j % 64 < 16 by omega), if_pos h8, if_neg (show ¬(8 ≤ j % 64 ∧ j % 64 < 16) by omega), if_pos h8, mul_zero, add_zero, ha h8,
      mul_neg, show j % 8 = j % 64 by omega]
    rfl
  by_cases h16 : j % 64 < 16
  · rw [if_pos h16, if_neg h8, if_pos (show 8 ≤ j % 64 ∧ j % 64 < 16 by omega), if_neg h8, if_pos h16, mul_zero, add_zero, hb (by omega),
      show j % 8 = j % 64 - 8 by omega]
  · rw [if_neg h16, if_neg h8, if_neg (show ¬(8 ≤ j % 64 ∧ j % 64 < 16) by omega), if_neg h8, if_neg h16, mul_zero, mul_zero, add_zero, add_zero, mul_one]

end Cert.Train.MixIn

end
-- ==== Proof.MixInBlock.lean ====
/-
  What one block of 256 rows of the mixer's input call computes, element by element.
-/
module

public import proofs.«01_k».proof.Proof.MixInSpec
public import proofs.«01_k».proof.Proof.Gen.MixInIdeal.Frame
public import Idealize.ShloMosaic.Lib.Pointwise

@[expose] public section

set_option maxRecDepth 16384

noncomputable section

namespace Cert.Train.MixIn

open Idealize.ShloMosaic
open scoped BigOperators
open Cert.MixInIdeal Cert.MixInIdeal.Gen

variable (v0 : Vec Ideal S256x1024 .f32) (v11 : Vec Ideal S1x1024 .f32) (v16 : Vec Ideal S1x1x1024x1280 .bf16)

theorem pay1_apply (r : Fin 256) (l : Fin 1024) : k0_pay1 v0 v11 (ix2 r l) = hRow (fun l => v0 (ix2 r l)) (fun l => v11 (ix2 0 l)) l := by
  pointwise [k0_pay1]
  simp only [lit_1024, lit_eps]
  rfl

/-- A slab's product. -/
theorem pay2_apply (r : Fin 256) (b : Fin 1280) :
    k0_pay2 v0 v11 v16 (ix2 r b) = ∑ l : Fin 1024, hRow (fun l => v0 (ix2 r l)) (fun l => v11 (ix2 0 l)) l * v16 (ix4 0 0 l b) := by
  pointwise [k0_pay2]
  simp only [pay1_apply]

theorem pay3_eq : k0_pay3 v0 v11 v16 = k0_pay2 v0 v11 v16 := rfl
theorem pay4_eq : k0_pay4 v0 v11 v16 = k0_pay2 v0 v11 v16 := rfl
theorem pay5_eq : k0_pay5 v0 v11 v16 = k0_pay2 v0 v11 v16 := rfl

/-- A table of 128 lanes laid ten times, and twice. -/
theorem laid10 (T : ℕ → EReal) (hT : ∀ a b, a % 64 = b % 64 → T a = T b) (k : ℕ) :
    (if _h : k < 128 then T k else if _h : k - 128 < 128 then T (k - 128) else if _h : k - 128 - 128 < 128 then T (k - 128 - 128)
      else if _h : k - 128 - 128 - 128 < 128 then T (k - 128 - 128 - 128)
      else if _h : k - 128 - 128 - 128 - 128 < 128 then T (k - 128 - 128 - 128 - 128)
      else if _h : k - 128 - 128 - 128 - 128 - 128 < 128 then T (k - 128 - 128 - 128 - 128 - 128)
      else if _h : k - 128 - 128 - 128 - 128 - 128 - 128 < 128 then T (k - 128 - 128 - 128 - 128 - 128 - 128)
      else if _h : k - 128 - 128 - 128 - 128 - 128 - 128 - 128 < 128 then T (k - 128 - 128 - 128 - 128 - 128 - 128 - 128)
      else if _h : k - 128 - 128 - 128 - 128 - 128 - 128 - 128 - 128 < 128 then T (k - 128 - 128 - 128 - 128 - 128 - 128 - 128 - 128)
      else T (k - 128 - 128 - 128 - 128 - 128 - 128 - 128 - 128 - 128)) = T k := by
  split_ifs <;> exact hT _ _ (by omega)

theorem laid2 (T : ℕ → EReal) (hT : ∀ a b, a % 64 = b % 64 → T a = T b) (k : ℕ) : (if _h : k < 128 then T k else T (k - 128)) = T k := by
  split_ifs <;> exact hT _ _ (by omega)

theorem tabC_mod (n : Fin 4096) (a b : ℕ) (h : a % 64 = b % 64) : tabC n a = tabC n b := by
  unfold tabC; rw [h, show a % 8 = b % 8 by omega]
theorem tabA_mod (n : Fin 4096) (a b : ℕ) (h : a % 64 = b % 64) : tabA n a = tabA n b := by
  unfold tabA; rw [h, show a % 8 = b % 8 by omega]
theorem tabB_mod (n : Fin 4096) (a b : ℕ) (h : a % 64 = b % 64) : tabB n a = tabB n b := by
  unfold tabB; rw [h, show a % 8 = b % 8 by omega]

section Turn
variable (n : Fin 4096) (f : ℕ → EReal) (cc s1 s2 : Vec Ideal S256x128 .f32) (x : Vec Ideal S256x1280 .f32) (r : Fin 256)
  (hc : ∀ l : Fin 128, cc (ix2 r l) = tabC n l) (ha : ∀ l : Fin 128, s1 (ix2 r l) = tabA n l) (hb : ∀ l : Fin 128, s2 (ix2 r l) = tabB n l)
  (hx : ∀ l : Fin 1280, x (ix2 r l) = f l)

include hc ha hb hx in
theorem pay6_apply (l : Fin 1280) : k0_pay6 x cc s1 s2 (ix2 r l) = spin f n l := by
  have hl := l.isLt
  pointwise [k0_pay6]
  simp only [hc, ha, hb, hx]
  rw [laid10 (tabC n) (tabC_mod n), laid10 (tabA n) (tabA_mod n), laid10 (tabB n) (tabB_mod n)]
  exact spin_tabs n f _ _ l (fun h => congrArg f (by omega)) fun h => congrArg f (by omega)

include hc ha hb hx in
theorem pay7_apply (l : Fin 256) : k0_pay7 x cc s1 s2 (ix2 r l) = spin f n l := by
  have hl := l.isLt
  pointwise [k0_pay7]
  simp only [hc, ha, hb, hx]
  rw [laid2 (tabC n) (tabC_mod n), laid2 (tabA n) (tabA_mod n), laid2 (tabB n) (tabB_mod n)]
  exact spin_tabs n f _ _ l (fun h => congrArg f (by omega)) fun h => congrArg f (by omega)

theorem pay8_apply (l : Fin 1024) : k0_pay8 (F := Ideal) x (ix2 r l) = x (ix2 r ⟨256 + l, by have := l.isLt; omega⟩) := by
  pointwise [k0_pay8]

end Turn

end Cert.Train.MixIn

end
-- ==== Proof.RopeInts.lean ====
/-
  The integer arithmetic of the rotation's tables: lanes modulo 64 and modulo 8, and the conditions on them.
-/
module

public import proofs.«01_k».proof.Proof.AsmSpec
public import Idealize.ShloMosaic.Lib.Pointwise

@[expose] public section

set_option maxRecDepth 16384

noncomputable section

namespace Cert.Train.Asm

open Idealize.ShloMosaic Idealize.ShloMosaic.TcCoe Idealize.ShloMosaic.StableHlo

/-- The remainder of two integers as the host takes it: the machine's, plus the divisor where the signs differ. -/
def remH (a k : BitVec 32) : BitVec 32 :=
  Scalar.select
    (IntOp.andi (IntOp.cmpi .ne (IntOp.cmpi .slt (IntOp.remsi .host a (Scalar.select (IntOp.cmpi .eq k 0#32) 1#32 k)) 0#32)
        (IntOp.cmpi .slt (Scalar.select (IntOp.cmpi .eq k 0#32) 1#32 k) 0#32))
      (IntOp.cmpi .ne (IntOp.remsi .host a (Scalar.select (IntOp.cmpi .eq k 0#32) 1#32 k)) 0#32))
    (IntOp.addi (IntOp.remsi .host a (Scalar.select (IntOp.cmpi .eq k 0#32) 1#32 k)) (Scalar.select (IntOp.cmpi .eq k 0#32) 1#32 k))
    (IntOp.remsi .host a (Scalar.select (IntOp.cmpi .eq k 0#32) 1#32 k))

theorem remH64 : ∀ l : Fin 128, remH (BitVec.ofNat 32 l) 64#32 = BitVec.ofNat 32 (l % 64) := by decide +kernel

theorem remH8 : ∀ l : Fin 128, remH (BitVec.ofNat 32 (l % 64)) 8#32 = BitVec.ofNat 32 (l % 8) := by decide +kernel

theorem lt16 : ∀ l : Fin 128, IntOp.cmpi .slt (BitVec.ofNat 32 (l % 64)) 16#32 = BitVec.ofBool (decide ((l : ℕ) % 64 < 16)) := by decide +kernel

theorem lt8 : ∀ l : Fin 128, IntOp.cmpi .slt (BitVec.ofNat 32 (l % 64)) 8#32 = BitVec.ofBool (decide ((l : ℕ) % 64 < 8)) := by decide +kernel

theorem mid : ∀ l : Fin 128, IntOp.andi (IntOp.cmpi .sge (BitVec.ofNat 32 (l % 64)) 8#32) (IntOp.cmpi .slt (BitVec.ofNat 32 (l % 64)) 16#32)
    = BitVec.ofBool (decide (8 ≤ (l : ℕ) % 64 ∧ (l : ℕ) % 64 < 16)) := by decide +kernel

theorem lit_one : Ideal.ofBits FTy.f32 1065353216#32 = 1 := by
  rw [show (1 : EReal) = ((1 : ℝ) : EReal) from rfl]; simp [Ideal.ofBits, Ideal.ieee, -EReal.coe_mul]; norm_num

theorem lit_nought : Ideal.ofBits FTy.f32 0#32 = 0 := by simp [Ideal.ofBits, Ideal.ieee]

/-- Twice an integer lane number, cast after the product or before it. -/
theorem twice (k : ℕ) (hk : k < 128) : FloatOps.sitofp (F := Ideal) FTy.f32 (IntOp.muli 2#32 (BitVec.ofNat 32 k))
    = Ideal.ofBits FTy.f32 1073741824#32 * FloatOps.sitofp (F := Ideal) FTy.f32 (BitVec.ofNat 32 k) := by
  have h1 : ∀ q : Fin 128, (IntOp.muli 2#32 (BitVec.ofNat 32 q)).toInt = 2 * (BitVec.ofNat 32 q.val).toInt := by decide +kernel
  have h := h1 ⟨k, hk⟩
  have h2 : Ideal.ofBits FTy.f32 1073741824#32 = ((2 : ℝ) : EReal) := by
    simp [Ideal.ofBits, Ideal.ieee, -EReal.coe_mul]; norm_num
  rw [h2]
  show (((IntOp.muli 2#32 (BitVec.ofNat 32 k)).toInt : ℝ) : EReal) = ((2 : ℝ) : EReal) * (((BitVec.ofNat 32 k).toInt : ℝ) : EReal)
  rw [← EReal.coe_mul]
  dsimp only at h
  rw [h]; push_cast; rfl

end Cert.Train.Asm

end
-- ==== Proof.MixInHost.lean ====
/-
  What the host's lines before the mixer's input call compute: the gain as a row, the weights cut by chips, and the tables
  of the rotation for 128 lanes.
-/
module

public import proofs.«01_k».proof.Proof.RopeInts
public import proofs.«01_k».proof.Proof.Gen.MixInIdeal.Frame.Runs
public import Idealize.ShloMosaic.Lib.Claim
public import Idealize.ShloMosaic.Lib.Pointwise
public import Idealize.ShloMosaic.Lib.Pipeline.ValueKit

@[expose] public section

set_option maxRecDepth 16384

noncomputable section

namespace Cert.Train.MixIn

open Idealize.ShloMosaic Idealize.ShloMosaic.TcCoe Idealize.ShloMosaic.StableHlo
open Cert.MixInIdeal Cert.MixInIdeal.Gen Cert.Train.Asm

variable (W : Valuation τ sig (Elt Ideal))

theorem s0_gain (l : Fin 1024) :
    (after hostOps0 W (Proc.devRef .tc main_v0) : Vec Ideal S1x1024 .f32) (ix2 0 l) = (W (Proc.devRef .tc main_arg1) : Vec Ideal S1024 .f32) (ix1 l) := by
  simp only [hostOps0, TRef.ternary, TRef.binary, TRef.nullary, TRef.unary, TRef.toBuf, TRef.ofBuf, cast_eq]
  after_results_simp
  pointwise

theorem s0_win (j : Fin 4) (l : Fin 1024) (b : Fin 1280) :
    (after hostOps0 W (Proc.devRef .tc main_v4) : Vec Ideal S4x1x1024x1280 .bf16) (ix4 j 0 l b)
      = (W (Proc.devRef .tc main_arg2) : Vec Ideal S1024x5120 .f32) (ix2 l ⟨1280 * j + b, by have := j.isLt; have := b.isLt; omega⟩) := by
  simp only [hostOps0, TRef.ternary, TRef.binary, TRef.nullary, TRef.unary, TRef.toBuf, TRef.ofBuf, cast_eq]
  after_results_simp
  pointwise
  blk_ext

theorem s0_v5 : after hostOps0 W (Proc.devRef .tc main_v5) = iotaInDim S128 32 0 := by
  simp only [hostOps0, TRef.ternary, TRef.binary, TRef.nullary, TRef.unary, TRef.toBuf, TRef.ofBuf, cast_eq]
  after_results_simp

theorem s0_c : after hostOps0 W (Proc.devRef .tc main_c) = constantI S_ 32 64#32 := by
  simp only [hostOps0, TRef.ternary, TRef.binary, TRef.nullary, TRef.unary, TRef.toBuf, TRef.ofBuf, cast_eq]
  after_results_simp

theorem s2_c : after hostOps0_2 W (Proc.devRef .tc main_c_0) = constantI S_ 32 8#32 := by
  simp only [hostOps0_2, TRef.ternary, TRef.binary, TRef.nullary, TRef.unary, TRef.toBuf, TRef.ofBuf, cast_eq]
  after_results_simp

theorem s4_c : after hostOps0_4 W (Proc.devRef .tc main_cst_4) = constant (F := Ideal) S_ .f32 0x3F800000#32 := by
  simp only [hostOps0_4, TRef.ternary, TRef.binary, TRef.nullary, TRef.unary, TRef.toBuf, TRef.ofBuf, cast_eq]
  after_results_simp

theorem s6_c : after hostOps0_6 W (Proc.devRef .tc main_cst_6) = constant (F := Ideal) S_ .f32 0#32 := by
  simp only [hostOps0_6, TRef.ternary, TRef.binary, TRef.nullary, TRef.unary, TRef.toBuf, TRef.ofBuf, cast_eq]
  after_results_simp

theorem s8_c : after hostOps0_8 W (Proc.devRef .tc main_cst_9) = constant (F := Ideal) S_ .f32 0#32 := by
  simp only [hostOps0_8, TRef.ternary, TRef.binary, TRef.nullary, TRef.unary, TRef.toBuf, TRef.ofBuf, cast_eq]
  after_results_simp

theorem s1_v6 (h0 : W (Proc.devRef .tc main_v5) = iotaInDim S128 32 0) (h1 : W (Proc.devRef .tc main_c) = constantI S_ 32 64#32) (l : Fin 128) :
    (after hostOps0_1 W (Proc.devRef .tc main_v6) : Vec Ideal S128 .i32) (ix1 l) = BitVec.ofNat 32 (l % 64) := by
  simp only [hostOps0_1, TRef.ternary, TRef.binary, TRef.nullary, TRef.unary, TRef.toBuf, TRef.ofBuf, cast_eq]
  after_results_simp
  rw [h0, h1]
  pointwise
  exact remH64 l

theorem s3_v7 (h0 : ∀ l : Fin 128, (W (Proc.devRef .tc main_v6) : Vec Ideal S128 .i32) (ix1 l) = BitVec.ofNat 32 (l % 64)) (h1 : W (Proc.devRef .tc main_c_0) = constantI S_ 32 8#32) (l : Fin 128) :
    (after hostOps0_3 W (Proc.devRef .tc main_v7) : Vec Ideal S128 .i32) (ix1 l) = BitVec.ofNat 32 (l % 8) := by
  simp only [hostOps0_3, TRef.ternary, TRef.binary, TRef.nullary, TRef.unary, TRef.toBuf, TRef.ofBuf, cast_eq]
  after_results_simp
  rw [h1]
  pointwise [h0]
  exact remH8 l

theorem s4_v22 (h0 : ∀ l : Fin 128, (W (Proc.devRef .tc main_v7) : Vec Ideal S128 .i32) (ix1 l) = BitVec.ofNat 32 (l % 8)) (n : Fin 4096) (l : Fin 128) :
    (after hostOps0_4 W (Proc.devRef .tc main_v22) : Vec Ideal S4096x128 .f32) (ix2 n l) = Ideal.cos (ang n (l % 8)) := by
  simp only [hostOps0_4, TRef.ternary, TRef.binary, TRef.nullary, TRef.unary, TRef.toBuf, TRef.ofBuf, cast_eq]
  after_results_simp
  pointwise [h0]
  rw [twice _ (by omega)]
  rfl

theorem s4_v23 (h0 : ∀ l : Fin 128, (W (Proc.devRef .tc main_v7) : Vec Ideal S128 .i32) (ix1 l) = BitVec.ofNat 32 (l % 8)) (n : Fin 4096) (l : Fin 128) :
    (after hostOps0_4 W (Proc.devRef .tc main_v23) : Vec Ideal S4096x128 .f32) (ix2 n l) = Ideal.sin (ang n (l % 8)) := by
  simp only [hostOps0_4, TRef.ternary, TRef.binary, TRef.nullary, TRef.unary, TRef.toBuf, TRef.ofBuf, cast_eq]
  after_results_simp
  pointwise [h0]
  rw [twice _ (by omega)]
  rfl

theorem s4_v25 (h0 : ∀ l : Fin 128, (W (Proc.devRef .tc main_v6) : Vec Ideal S128 .i32) (ix1 l) = BitVec.ofNat 32 (l % 64)) (l : Fin 128) :
    (after hostOps0_4 W (Proc.devRef .tc main_v25) : Vec Ideal S128 .i1) (ix1 l) = BitVec.ofBool (decide ((l : ℕ) % 64 < 16)) := by
  simp only [hostOps0_4, TRef.ternary, TRef.binary, TRef.nullary, TRef.unary, TRef.toBuf, TRef.ofBuf, cast_eq]
  after_results_simp
  pointwise [h0]
  exact lt16 l

theorem s6_v28 (h0 : ∀ l : Fin 128, (W (Proc.devRef .tc main_v6) : Vec Ideal S128 .i32) (ix1 l) = BitVec.ofNat 32 (l % 64)) (l : Fin 128) :
    (after hostOps0_6 W (Proc.devRef .tc main_v28) : Vec Ideal S128 .i1) (ix1 l) = BitVec.ofBool (decide ((l : ℕ) % 64 < 8)) := by
  simp only [hostOps0_6, TRef.ternary, TRef.binary, TRef.nullary, TRef.unary, TRef.toBuf, TRef.ofBuf, cast_eq]
  after_results_simp
  pointwise [h0]
  exact lt8 l

theorem s6_v29  (n : Fin 4096) (l : Fin 128) :
    (after hostOps0_6 W (Proc.devRef .tc main_v29) : Vec Ideal S4096x128 .f32) (ix2 n l) = @Neg.neg EReal _ ((W (Proc.devRef .tc main_v23) : Vec Ideal S4096x128 .f32) (ix2 n l)) := by
  simp only [hostOps0_6, TRef.ternary, TRef.binary, TRef.nullary, TRef.unary, TRef.toBuf, TRef.ofBuf, cast_eq]
  after_results_simp
  pointwise

theorem s8_v35 (h0 : ∀ l : Fin 128, (W (Proc.devRef .tc main_v6) : Vec Ideal S128 .i32) (ix1 l) = BitVec.ofNat 32 (l % 64)) (l : Fin 128) :
    (after hostOps0_8 W (Proc.devRef .tc main_v35) : Vec Ideal S128 .i1) (ix1 l) = BitVec.ofBool (decide (8 ≤ (l : ℕ) % 64 ∧ (l : ℕ) % 64 < 16)) := by
  simp only [hostOps0_8, TRef.ternary, TRef.binary, TRef.nullary, TRef.unary, TRef.toBuf, TRef.ofBuf, cast_eq]
  after_results_simp
  pointwise [h0]
  exact mid l

theorem s5_v26 (h0 : ∀ l : Fin 128, (W (Proc.devRef .tc main_v25) : Vec Ideal S128 .i1) (ix1 l) = BitVec.ofBool (decide ((l : ℕ) % 64 < 16))) (h1 : W (Proc.devRef .tc main_cst_4) = constant (F := Ideal) S_ .f32 0x3F800000#32) (n : Fin 4096) (l : Fin 128) :
    (after hostOps0_5 W (Proc.devRef .tc main_v26) : Vec Ideal S4096x128 .f32) (ix2 n l) = @ite EReal ((l : ℕ) % 64 < 16) _ ((W (Proc.devRef .tc main_v22) : Vec Ideal S4096x128 .f32) (ix2 n l)) (1 : EReal) := by
  simp only [hostOps0_5, TRef.ternary, TRef.binary, TRef.nullary, TRef.unary, TRef.toBuf, TRef.ofBuf, cast_eq]
  after_results_simp
  rw [h1]
  pointwise [h0]
  refine if_congr Iff.rfl rfl ?_
  exact lit_one

theorem s7_v30 (h0 : ∀ l : Fin 128, (W (Proc.devRef .tc main_v28) : Vec Ideal S128 .i1) (ix1 l) = BitVec.ofBool (decide ((l : ℕ) % 64 < 8))) (h1 : W (Proc.devRef .tc main_cst_6) = constant (F := Ideal) S_ .f32 0#32) (n : Fin 4096) (l : Fin 128) :
    (after hostOps0_7 W (Proc.devRef .tc main_v30) : Vec Ideal S4096x128 .f32) (ix2 n l) = @ite EReal ((l : ℕ) % 64 < 8) _ ((W (Proc.devRef .tc main_v29) : Vec Ideal S4096x128 .f32) (ix2 n l)) 0 := by
  simp only [hostOps0_7, TRef.ternary, TRef.binary, TRef.nullary, TRef.unary, TRef.toBuf, TRef.ofBuf, cast_eq]
  after_results_simp
  rw [h1]
  pointwise [h0]
  refine if_congr Iff.rfl rfl ?_
  exact lit_nought

theorem s9_v36 (h0 : ∀ l : Fin 128, (W (Proc.devRef .tc main_v35) : Vec Ideal S128 .i1) (ix1 l) = BitVec.ofBool (decide (8 ≤ (l : ℕ) % 64 ∧ (l : ℕ) % 64 < 16))) (h1 : W (Proc.devRef .tc main_cst_9) = constant (F := Ideal) S_ .f32 0#32) (n : Fin 4096) (l : Fin 128) :
    (after hostOps0_9 W (Proc.devRef .tc main_v36) : Vec Ideal S4096x128 .f32) (ix2 n l) = @ite EReal (8 ≤ (l : ℕ) % 64 ∧ (l : ℕ) % 64 < 16) _ ((W (Proc.devRef .tc main_v23) : Vec Ideal S4096x128 .f32) (ix2 n l)) 0 := by
  simp only [hostOps0_9, TRef.ternary, TRef.binary, TRef.nullary, TRef.unary, TRef.toBuf, TRef.ofBuf, cast_eq]
  after_results_simp
  rw [h1]
  pointwise [h0]
  refine if_congr Iff.rfl rfl ?_
  exact lit_nought

theorem keep1 : ∀ b ∈ [main_arg0, main_v0, main_v4], after hostOps0_1 W (Proc.devRef .tc b) = W (Proc.devRef .tc b) := by
  simp only [List.forall_mem_cons, List.not_mem_nil, false_imp_iff, implies_true, and_true]
  refine ⟨?_, ?_, ?_⟩ <;> (simp only [hostOps0_1, TRef.ternary, TRef.binary, TRef.nullary, TRef.unary, TRef.toBuf, TRef.ofBuf, cast_eq]; after_results_simp)

theorem keep2 : ∀ b ∈ [main_arg0, main_v0, main_v4, main_v6], after hostOps0_2 W (Proc.devRef .tc b) = W (Proc.devRef .tc b) := by
  simp only [List.forall_mem_cons, List.not_mem_nil, false_imp_iff, implies_true, and_true]
  refine ⟨?_, ?_, ?_, ?_⟩ <;> (simp only [hostOps0_2, TRef.ternary, TRef.binary, TRef.nullary, TRef.unary, TRef.toBuf, TRef.ofBuf, cast_eq]; after_results_simp)

theorem keep3 : ∀ b ∈ [main_arg0, main_v0, main_v4, main_v6], after hostOps0_3 W (Proc.devRef .tc b) = W (Proc.devRef .tc b) := by
  simp only [List.forall_mem_cons, List.not_mem_nil, false_imp_iff, implies_true, and_true]
  refine ⟨?_, ?_, ?_, ?_⟩ <;> (simp only [hostOps0_3, TRef.ternary, TRef.binary, TRef.nullary, TRef.unary, TRef.toBuf, TRef.ofBuf, cast_eq]; after_results_simp)

theorem keep4 : ∀ b ∈ [main_arg0, main_v0, main_v4, main_v6], after hostOps0_4 W (Proc.devRef .tc b) = W (Proc.devRef .tc b) := by
  simp only [List.forall_mem_cons, List.not_mem_nil, false_imp_iff, implies_true, and_true]
  refine ⟨?_, ?_, ?_, ?_⟩ <;> (simp only [hostOps0_4, TRef.ternary, TRef.binary, TRef.nullary, TRef.unary, TRef.toBuf, TRef.ofBuf, cast_eq]; after_results_simp)

theorem keep5 : ∀ b ∈ [main_arg0, main_v0, main_v4, main_v6, main_v23], after hostOps0_5 W (Proc.devRef .tc b) = W (Proc.devRef .tc b) := by
  simp only [List.forall_mem_cons, List.not_mem_nil, false_imp_iff, implies_true, and_true]
  refine ⟨?_, ?_, ?_, ?_, ?_⟩ <;> (simp only [hostOps0_5, TRef.ternary, TRef.binary, TRef.nullary, TRef.unary, TRef.toBuf, TRef.ofBuf, cast_eq]; after_results_simp)

theorem keep6 : ∀ b ∈ [main_arg0, main_v0, main_v4, main_v6, main_v23, main_v26], after hostOps0_6 W (Proc.devRef .tc b) = W (Proc.devRef .tc b) := by
  simp only [List.forall_mem_cons, List.not_mem_nil, false_imp_iff, implies_true, and_true]
  refine ⟨?_, ?_, ?_, ?_, ?_, ?_⟩ <;> (simp only [hostOps0_6, TRef.ternary, TRef.binary, TRef.nullary, TRef.unary, TRef.toBuf, TRef.ofBuf, cast_eq]; after_results_simp)

theorem keep7 : ∀ b ∈ [main_arg0, main_v0, main_v4, main_v6, main_v23, main_v26], after hostOps0_7 W (Proc.devRef .tc b) = W (Proc.devRef .tc b) := by
  simp only [List.forall_mem_cons, List.not_mem_nil, false_imp_iff, implies_true, and_true]
  refine ⟨?_, ?_, ?_, ?_, ?_, ?_⟩ <;> (simp only [hostOps0_7, TRef.ternary, TRef.binary, TRef.nullary, TRef.unary, TRef.toBuf, TRef.ofBuf, cast_eq]; after_results_simp)

theorem keep8 : ∀ b ∈ [main_arg0, main_v0, main_v4, main_v23, main_v26, main_v30], after hostOps0_8 W (Proc.devRef .tc b) = W (Proc.devRef .tc b) := by
  simp only [List.forall_mem_cons, List.not_mem_nil, false_imp_iff, implies_true, and_true]
  refine ⟨?_, ?_, ?_, ?_, ?_, ?_⟩ <;> (simp only [hostOps0_8, TRef.ternary, TRef.binary, TRef.nullary, TRef.unary, TRef.toBuf, TRef.ofBuf, cast_eq]; after_results_simp)

theorem keep9 : ∀ b ∈ [main_arg0, main_v0, main_v4, main_v26, main_v30], after hostOps0_9 W (Proc.devRef .tc b) = W (Proc.devRef .tc b) := by
  simp only [List.forall_mem_cons, List.not_mem_nil, false_imp_iff, implies_true, and_true]
  refine ⟨?_, ?_, ?_, ?_, ?_⟩ <;> (simp only [hostOps0_9, TRef.ternary, TRef.binary, TRef.nullary, TRef.unary, TRef.toBuf, TRef.ofBuf, cast_eq]; after_results_simp)

end Cert.Train.MixIn

end
-- ==== Proof.MixInEntry.lean ====
/-
  What the mixer's input call reads at each grid point: its blocks, entry by entry, in terms of the arguments, and the tables
  of the rotation.
-/
module

public import proofs.«01_k».proof.Proof.MixInHost

@[expose] public section

set_option maxRecDepth 16384

noncomputable section

namespace Cert.Train.MixIn

open Idealize.ShloMosaic Idealize.ShloMosaic.TcCoe Idealize.ShloMosaic.StableHlo
open Cert.MixInIdeal Cert.MixInIdeal.Gen Cert.Train.Asm

/-- Row `r` of block `n`. -/
def rowOf (n : Fin cfg0.N) (r : Fin 256) : Fin 4096 := ⟨n.val * 256 + r.val, by have := n.isLt; have hN : cfg0.N = 16 := N_0; omega⟩

theorem idxs : ∀ t : Fin cfg0.N, win0_0.index t = ![t.val, 0] ∧ win0_1.index t = ![0, 0, 0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] :=
  (by decide +kernel : ∀ t : Fin grid0.N, win0_0.index t = ![t.val, 0] ∧ win0_1.index t = ![0, 0, 0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0])

variable (m : (ℓ : Loc nD τ sig) → Buf (Elt Ideal) ℓ) (c : Dev nD)

/-- The buffers after two stretches. -/
theorem after_two (l₁ l₂ : List (HloOp τ sig (Elt Ideal))) (W : Valuation τ sig (Elt Ideal)) : after (l₁ ++ l₂) W = after l₂ (after l₁ W) := by
  induction l₁ generalizing W with
  | nil => rfl
  | cons a l ih => rw [List.cons_append, after_cons, after_cons, ih]

/-- The buffers at the call: the arguments through the ten stretches. -/
theorem V_after (b : Ref sig .tc) : V m c b
    = after hostOps0_9 (after hostOps0_8 (after hostOps0_7 (after hostOps0_6 (after hostOps0_5 (after hostOps0_4 (after hostOps0_3 (after hostOps0_2
        (after hostOps0_1 (after hostOps0 fun b => m (c, b)))))))))) (Proc.devRef .tc b) := by
  unfold V
  simp only [List.flatten_cons, List.flatten_nil, List.append_nil, after_two]

/-- What the first stretch leaves of the input, the gain and the weights is at the call as it was. -/
theorem V_first (b : Ref sig .tc) (h : b ∈ [main_arg0, main_v0, main_v4]) :
    V m c b = after hostOps0 (fun b => m (c, b)) (Proc.devRef .tc b) := by
  rw [V_after]
  have hh : ∀ l : List (Ref sig .tc), b ∈ [main_arg0, main_v0, main_v4] ++ l := fun l => List.mem_append_left l h
  rw [keep9 _ b (hh [main_v26, main_v30]), keep8 _ b (hh [main_v23, main_v26, main_v30]), keep7 _ b (hh [main_v6, main_v23, main_v26]),
    keep6 _ b (hh [main_v6, main_v23, main_v26]), keep5 _ b (hh [main_v6, main_v23]), keep4 _ b (hh [main_v6]), keep3 _ b (hh [main_v6]),
    keep2 _ b (hh [main_v6]), keep1 _ b (hh [])]

/-- Lanes modulo 64, after the fourth stretch and in the later ones. -/
theorem lanes (W : Valuation τ sig (Elt Ideal)) (l : Fin 128) :
    (after hostOps0_3 (after hostOps0_2 (after hostOps0_1 (after hostOps0 W))) (Proc.devRef .tc main_v6) : Vec Ideal S128 .i32) (ix1 l) = BitVec.ofNat 32 (l % 64) := by
  rw [keep3 _ main_v6 (by simp), keep2 _ main_v6 (by simp)]
  exact s1_v6 _ (s0_v5 W) (s0_c W) l

/-- Lanes modulo 8. -/
theorem eights (W : Valuation τ sig (Elt Ideal)) (l : Fin 128) :
    (after hostOps0_3 (after hostOps0_2 (after hostOps0_1 (after hostOps0 W))) (Proc.devRef .tc main_v7) : Vec Ideal S128 .i32) (ix1 l) = BitVec.ofNat 32 (l % 8) := by
  refine s3_v7 _ (fun l => ?_) (s2_c _) l
  rw [keep2 _ main_v6 (by simp)]
  exact s1_v6 _ (s0_v5 W) (s0_c W) l

theorem V_v26 (n : Fin 4096) (l : Fin 128) : (V m c main_v26 : Vec Ideal S4096x128 .f32) (ix2 n l)
    = @ite EReal ((l : ℕ) % 64 < 16) _ (Ideal.cos (ang n (l % 8))) 1 := by
  rw [V_after, keep9 _ main_v26 (by simp), keep8 _ main_v26 (by simp), keep7 _ main_v26 (by simp), keep6 _ main_v26 (by simp)]
  rw [s5_v26 _ (s4_v25 _ (lanes _)) (s4_c _), s4_v22 _ (eights _)]

theorem V_v30 (n : Fin 4096) (l : Fin 128) : (V m c main_v30 : Vec Ideal S4096x128 .f32) (ix2 n l)
    = @ite EReal ((l : ℕ) % 64 < 8) _ (-Ideal.sin (ang n (l % 8))) 0 := by
  rw [V_after, keep9 _ main_v30 (by simp), keep8 _ main_v30 (by simp)]
  rw [s7_v30 _ (s6_v28 _ fun l => by rw [keep5 _ main_v6 (by simp), keep4 _ main_v6 (by simp)]; exact lanes _ l) (s6_c _), s6_v29,
    keep5 _ main_v23 (by simp), s4_v23 _ (eights _)]

theorem V_v36 (n : Fin 4096) (l : Fin 128) : (V m c main_v36 : Vec Ideal S4096x128 .f32) (ix2 n l)
    = @ite EReal (8 ≤ (l : ℕ) % 64 ∧ (l : ℕ) % 64 < 16) _ (Ideal.sin (ang n (l % 8))) 0 := by
  rw [V_after]
  rw [s9_v36 _ (s8_v35 _ fun l => by
      rw [keep7 _ main_v6 (by simp), keep6 _ main_v6 (by simp), keep5 _ main_v6 (by simp), keep4 _ main_v6 (by simp)]; exact lanes _ l) (s8_c _),
    keep8 _ main_v23 (by simp), keep7 _ main_v23 (by simp), keep6 _ main_v23 (by simp), keep5 _ main_v23 (by simp), s4_v23 _ (eights _)]

theorem blk0 (t : Fin cfg0.N) (r : Fin 256) (l : Fin 1024) :
    iblk m c 0 t (ix2 r l) = m ((c : Thread nD τ).loc main_arg0) (ix2 (rowOf t r) l) := by
  refine Eq.trans ?_ (congrFun (V_main_arg0 m c) (ix2 (rowOf t r) l))
  blk_simp [iblk, idxs t]
  blk_ext [idxs t, rowOf]

theorem blk1 (t : Fin cfg0.N) (j : Fin 4) (l : Fin 1024) (b : Fin 1280) :
    iblk m c 1 t (ix4 j 0 l b) = m ((c : Thread nD τ).loc main_arg2) (ix2 l ⟨1280 * j + b, by have := j.isLt; have := b.isLt; omega⟩) := by
  refine Eq.trans ?_ ((congrFun (V_first m c main_v4 (by simp)) (ix4 j 0 l b)).trans (s0_win _ _ _ _))
  blk_simp [iblk, idxs t]
  blk_ext [idxs t]

theorem blk2 (t : Fin cfg0.N) (r : Fin 256) (l : Fin 128) : iblk m c 2 t (ix2 r l) = @ite EReal ((l : ℕ) % 64 < 16) _ (Ideal.cos (ang (rowOf t r) (l % 8))) 1 := by
  refine Eq.trans ?_ (V_v26 m c (rowOf t r) l)
  blk_simp [iblk, idxs t]
  blk_ext [idxs t, rowOf]

theorem blk3 (t : Fin cfg0.N) (r : Fin 256) (l : Fin 128) : iblk m c 3 t (ix2 r l) = @ite EReal ((l : ℕ) % 64 < 8) _ (-Ideal.sin (ang (rowOf t r) (l % 8))) 0 := by
  refine Eq.trans ?_ (V_v30 m c (rowOf t r) l)
  blk_simp [iblk, idxs t]
  blk_ext [idxs t, rowOf]

theorem blk4 (t : Fin cfg0.N) (r : Fin 256) (l : Fin 128) : iblk m c 4 t (ix2 r l) = @ite EReal (8 ≤ (l : ℕ) % 64 ∧ (l : ℕ) % 64 < 16) _ (Ideal.sin (ang (rowOf t r) (l % 8))) 0 := by
  refine Eq.trans ?_ (V_v36 m c (rowOf t r) l)
  blk_simp [iblk, idxs t]
  blk_ext [idxs t, rowOf]

theorem blk5 (t : Fin cfg0.N) (l : Fin 1024) :
    iblk m c 5 t (ix2 0 l) = m ((c : Thread nD τ).loc main_arg1) (ix1 l) := by
  refine Eq.trans ?_ ((congrFun (V_first m c main_v0 (by simp)) (ix2 0 l)).trans (s0_gain _ _))
  blk_simp [iblk, idxs t]
  blk_ext [idxs t]

end Cert.Train.MixIn

end
-- ==== Proof.MixInArr.lean ====
/-
  The two arrays of the mixer's input call after its run, as functions of the arguments.
-/
module

public import proofs.«01_k».proof.Proof.MixInBlock
public import proofs.«01_k».proof.Proof.MixInEntry
public import Idealize.ShloMosaic.Lib.WholeRead

@[expose] public section

set_option maxRecDepth 16384

noncomputable section

namespace Cert.Train.MixIn

open Idealize.ShloMosaic Idealize.ShloMosaic.TcCoe
open scoped BigOperators
open Cert.MixInIdeal Cert.MixInIdeal.Gen

theorem whole_read {a b : ℕ} {e : EltTy} {m : Memref sig .tc .vmem ⟨2, ![a, b]⟩ e} (h : m.IsWhole) (X : Vec Ideal ⟨2, ![a, b]⟩ e)
    (inb : ∀ k, (![0, 0] : Fin 2 → ℕ) k + (![a, b] : Fin 2 → ℕ) k ≤ (⟨2, ![a, b]⟩ : Shape).size k) :
    View.readAt (Elt Idealize.ShloMosaic.Ideal) m.view (Rect.unit (s := ⟨2, ![a, b]⟩) ![0, 0] ![a, b] inb).toLoadRect (h.unread X) = X := by
  funext x
  rw [h.readAt_unread]
  congr 1
  funext k
  apply Fin.ext
  show (![0, 0] : Fin 2 → ℕ) k + 1 * (x k).val = (x k).val
  fin_cases k <;> simp

/-- Slab `j` of the weights. -/
def slab (X : Vec Ideal S4x1x1024x1280 .bf16) (j : Fin 4) : Vec Ideal S1x1x1024x1280 .bf16 := fun y => X (ix4 j 0 (y 2 : Fin 1024) (y 3 : Fin 1280))

theorem slab_read {m : Memref sig .tc .vmem S4x1x1024x1280 .bf16} (h : m.IsWhole) (X : Vec Ideal S4x1x1024x1280 .bf16) (j : Fin 4)
    (inb : ∀ k, (![j.val, 0, 0, 0] : Fin 4 → ℕ) k + S1x1x1024x1280.size k ≤ S4x1x1024x1280.size k) :
    View.readAt (Elt Idealize.ShloMosaic.Ideal) m.view (Rect.unit (s := S4x1x1024x1280) ![j.val, 0, 0, 0] S1x1x1024x1280.size inb).toLoadRect (h.unread X) = slab X j := by
  funext x
  rw [h.readAt_unread]
  unfold slab
  congr 1
  funext k
  apply Fin.ext
  show (![j.val, 0, 0, 0] : Fin 4 → ℕ) k + 1 * (x k).val = _
  have h0 : (x 0 : ℕ) = 0 := by have := (x 0).isLt; exact Nat.lt_one_iff.mp this
  have h1 : (x 1 : ℕ) = 0 := by have := (x 1).isLt; exact Nat.lt_one_iff.mp this
  fin_cases k
  · show j.val + 1 * (x 0 : ℕ) = j.val
    omega
  · show 0 + 1 * (x 1 : ℕ) = 0
    omega
  · show 0 + 1 * (x 2 : ℕ) = (x 2 : ℕ)
    omega
  · show 0 + 1 * (x 3 : ℕ) = (x 3 : ℕ)
    omega

variable (m : (ℓ : Loc nD τ sig) → Buf (Elt Idealize.ShloMosaic.Ideal) ℓ) (c : Dev nD)

/-- The run's pieces at point `t`. -/
abbrev runAt (t : Fin cfg0.N) := kernelRun0_A (F := Idealize.ShloMosaic.Ideal) c (grid0.coords t) (ms0_0 t) (hs0_0 t) (ms0_1 t) (hs0_1 t) (ms0_2 t) (hs0_2 t) (ms0_3 t) (hs0_3 t) (ms0_4 t) (hs0_4 t)
  (ms0_5 t) (hs0_5 t) (ms0_6 t) (hs0_6 t) (ms0_7 t) (hs0_7 t) (iblk m c 0 t) (iblk m c 1 t) (iblk m c 2 t) (iblk m c 3 t) (iblk m c 4 t) (iblk m c 5 t)

theorem pieces6 (t : Fin cfg0.N) : (runAt m c t).1 =
    [⟨Rect.unit ![0, 3840] ![256, 1280] inb_S256x5120_S256x1280_0_3840, k0_pay5 (iblk m c 0 t) (iblk m c 5 t) (slab (iblk m c 1 t) 3)⟩,
      ⟨Rect.unit ![0, 2560] ![256, 1280] inb_S256x5120_S256x1280_0_2560, k0_pay4 (iblk m c 0 t) (iblk m c 5 t) (slab (iblk m c 1 t) 2)⟩,
      ⟨Rect.unit ![0, 1536] ![256, 1024] inb_S256x5120_S256x1024_0_1536, k0_pay8 (k0_pay3 (iblk m c 0 t) (iblk m c 5 t) (slab (iblk m c 1 t) 1))⟩,
      ⟨Rect.unit ![0, 1280] ![256, 256] inb_S256x5120_S256x256_0_1280,
        k0_pay7 (k0_pay3 (iblk m c 0 t) (iblk m c 5 t) (slab (iblk m c 1 t) 1)) (iblk m c 2 t) (iblk m c 3 t) (iblk m c 4 t)⟩,
      ⟨Rect.unit ![0, 0] ![256, 1280] inb_S256x5120_S256x1280_0_0,
        k0_pay6 (k0_pay2 (iblk m c 0 t) (iblk m c 5 t) (slab (iblk m c 1 t) 0)) (iblk m c 2 t) (iblk m c 3 t) (iblk m c 4 t)⟩] := by
  dsimp only [runAt, kernelRun0_A, kernelRun0_A.sl.r, kernelRun0_A.sl.r_1, kernelRun0_A.sl.r_2, kernelRun0_A.sl.r_3, kernelRun0_A.sl.r_4]
  simp only [whole_read]
  rw [← slab_read (hs0_1 t) (iblk m c 1 t) 0 inb_S4x1x1024x1280_S1x1x1024x1280_0_0_0_0, ← slab_read (hs0_1 t) (iblk m c 1 t) 1 inb_S4x1x1024x1280_S1x1x1024x1280_1_0_0_0,
    ← slab_read (hs0_1 t) (iblk m c 1 t) 2 inb_S4x1x1024x1280_S1x1x1024x1280_2_0_0_0, ← slab_read (hs0_1 t) (iblk m c 1 t) 3 inb_S4x1x1024x1280_S1x1x1024x1280_3_0_0_0]
  rfl

theorem pieces7 (t : Fin cfg0.N) : (runAt m c t).2.1 =
    [⟨Rect.unit ![0, 0] ![256, 1024] inb_S256x1024_S256x1024_0_0, k0_pay1 (iblk m c 0 t) (iblk m c 5 t)⟩] := by
  dsimp only [runAt, kernelRun0_A, kernelRun0_A.sl.r, kernelRun0_A.sl.r_1, kernelRun0_A.sl.r_2, kernelRun0_A.sl.r_3, kernelRun0_A.sl.r_4]
  simp only [whole_read]

/-- What a piece of a block's columns must hold. -/
theorem band {W o w : ℕ} {e : EltTy} (inb) (g : Fin 256 → ℕ → Elt Idealize.ShloMosaic.Ideal e) (p : Vec Ideal ⟨2, ![256, w]⟩ e) (h : ∀ (r : Fin 256) (l : Fin w), p (ix2 r l) = g r (o + l))
    (x : (Rect.unit (s := ⟨2, ![256, W]⟩) ![0, o] ![256, w] inb).shape.Idx) :
    p x = (fun y : (⟨2, ![256, W]⟩ : Shape).Idx => g (y 0) (y 1 : ℕ)) ((Rect.unit (s := ⟨2, ![256, W]⟩) ![0, o] ![256, w] inb).emb x) := by
  have e0 : ((Rect.unit (s := ⟨2, ![256, W]⟩) ![0, o] ![256, w] inb).emb x) 0 = (x 0 : Fin 256) := by
    apply Fin.ext; show 0 + 1 * (x 0).val = (x 0).val; omega
  have e1 : (((Rect.unit (s := ⟨2, ![256, W]⟩) ![0, o] ![256, w] inb).emb x) 1 : ℕ) = o + (x 1).val := by
    show o + 1 * (x 1).val = _; omega
  have hp : p x = p (ix2 (x 0 : Fin 256) (x 1 : Fin w)) := congrArg p (by funext k; fin_cases k <;> rfl)
  exact hp.trans ((h (x 0) (x 1)).trans (congrArg₂ g e0.symm e1.symm))

/-- The arguments: the rows, the gain, the weights. -/
abbrev X : Vec Ideal S4096x1024 .f32 := m ((c : Thread nD τ).loc main_arg0)
abbrev G : Vec Ideal S1024 .f32 := m ((c : Thread nD τ).loc main_arg1)
abbrev Wt : Vec Ideal S1024x5120 .f32 := m ((c : Thread nD τ).loc main_arg2)

/-- The normed rows of a block. -/
theorem norm_at (t : Fin cfg0.N) (r : Fin 256) (l : Fin 1024) : k0_pay1 (iblk m c 0 t) (iblk m c 5 t) (ix2 r l) = hAll (X m c) (G m c) (rowOf t r) l := by
  rw [pay1_apply]
  simp only [blk0, blk5]
  rfl

/-- A slab's product is 1280 columns of the whole. -/
theorem slab_at (t : Fin cfg0.N) (j : Fin 4) (r : Fin 256) (b : Fin 1280) :
    k0_pay2 (iblk m c 0 t) (iblk m c 5 t) (slab (iblk m c 1 t) j) (ix2 r b) = prod (X m c) (G m c) (Wt m c) (rowOf t r) (1280 * j + b) := by
  have hj := j.isLt; have hb := b.isLt
  rw [pay2_apply, prod_of _ _ _ _ _ (by omega)]
  refine Finset.sum_congr rfl fun l _ => ?_
  simp only [blk0, blk5]
  exact congrArg (_ * ·) (blk1 m c t j l b)

/-- Entry `(r, j)` of the block at point `t`. -/
def goal (t : Fin cfg0.N) (r : Fin 256) (j : ℕ) : EReal := projAll (X m c) (G m c) (Wt m c) (rowOf t r) j

theorem band4 (t : Fin cfg0.N) (r : Fin 256) (l : Fin 1280) : k0_pay5 (iblk m c 0 t) (iblk m c 5 t) (slab (iblk m c 1 t) 3) (ix2 r l) = goal m c t r (3840 + l) := by
  rw [pay5_eq, slab_at]
  unfold goal projAll
  rw [if_neg (by omega)]
  exact congrArg (prod _ _ _ _) (by show 1280 * 3 + (l : ℕ) = 3840 + l; omega)

theorem band3 (t : Fin cfg0.N) (r : Fin 256) (l : Fin 1280) : k0_pay4 (iblk m c 0 t) (iblk m c 5 t) (slab (iblk m c 1 t) 2) (ix2 r l) = goal m c t r (2560 + l) := by
  rw [pay4_eq, slab_at]
  unfold goal projAll
  rw [if_neg (by omega)]
  exact congrArg (prod _ _ _ _) (by show 1280 * 2 + (l : ℕ) = 2560 + l; omega)

theorem band2 (t : Fin cfg0.N) (r : Fin 256) (l : Fin 1024) :
    k0_pay8 (F := Idealize.ShloMosaic.Ideal) (k0_pay3 (iblk m c 0 t) (iblk m c 5 t) (slab (iblk m c 1 t) 1)) (ix2 r l) = goal m c t r (1536 + l) := by
  rw [pay8_apply, pay3_eq, slab_at]
  unfold goal projAll
  rw [if_neg (by omega)]
  exact congrArg (prod _ _ _ _) (by show 1280 * 1 + (256 + (l : ℕ)) = 1536 + l; omega)

theorem band1 (t : Fin cfg0.N) (r : Fin 256) (l : Fin 256) :
    k0_pay7 (k0_pay3 (iblk m c 0 t) (iblk m c 5 t) (slab (iblk m c 1 t) 1)) (iblk m c 2 t) (iblk m c 3 t) (iblk m c 4 t) (ix2 r l) = goal m c t r (1280 + l) := by
  have hl := l.isLt
  unfold goal projAll
  rw [if_pos (by omega), spin_shift _ _ _ _ (by norm_num), pay3_eq]
  exact pay7_apply (rowOf t r) _ _ _ _ _ r (blk2 m c t r) (blk3 m c t r) (blk4 m c t r) (fun l => slab_at m c t 1 r l) l

theorem band0 (t : Fin cfg0.N) (r : Fin 256) (l : Fin 1280) :
    k0_pay6 (k0_pay2 (iblk m c 0 t) (iblk m c 5 t) (slab (iblk m c 1 t) 0)) (iblk m c 2 t) (iblk m c 3 t) (iblk m c 4 t) (ix2 r l) = goal m c t r (0 + l) := by
  have hl := l.isLt
  unfold goal projAll
  rw [if_pos (by omega), spin_shift _ _ _ _ (by norm_num)]
  exact pay6_apply (rowOf t r) _ _ _ _ _ r (blk2 m c t r) (blk3 m c t r) (blk4 m c t r) (fun l => slab_at m c t 0 r l) l

theorem cover6 (t : Fin cfg0.N) (y : S256x5120.Idx) : ∃ pc ∈ (runAt m c t).1, y ∈ pc.1.set :=
  cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) y

theorem cover7 (t : Fin cfg0.N) (y : S256x1024.Idx) : ∃ pc ∈ (runAt m c t).2.1, y ∈ pc.1.set :=
  cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) y

theorem outs_fst (t : Fin cfg0.N) : (outsAt0 m c t).1 = VO0_6.read (Elt Ideal) (VO0_6.writes (Elt Ideal) VO0_6.junk (runAt m c t).1) := by
  dsimp only [outsAt0, out0_A_6]

theorem outs_snd (t : Fin cfg0.N) : (outsAt0 m c t).2 = VO0_7.read (Elt Ideal) (VO0_7.writes (Elt Ideal) VO0_7.junk (runAt m c t).2.1) := by
  dsimp only [outsAt0, out0_A_7]

set_option maxHeartbeats 2000000 in
/-- The block of projected rows stored at point `t`. -/
theorem out6_eq (t : Fin cfg0.N) (r : Fin 256) (j : Fin 5120) : (outsAt0 m c t).1 (ix2 r j) = goal m c t r j := by
  rw [outs_fst]
  refine View.read_writes_apply_of_pieces VO0_6 _ (fun y : S256x5120.Idx => goal m c t (y 0) (y 1 : ℕ)) (runAt m c t).1 ?_ (ix2 r j) (cover6 m c t _)
  rw [pieces6]
  simp only [List.forall_mem_cons, List.not_mem_nil, false_imp_iff, implies_true, and_true]
  exact ⟨band (W := 5120) (o := 3840) (w := 1280) (e := .f32) inb_S256x5120_S256x1280_0_3840 (goal m c t) _ (band4 m c t),
    band (W := 5120) (o := 2560) (w := 1280) (e := .f32) inb_S256x5120_S256x1280_0_2560 (goal m c t) _ (band3 m c t),
    band (W := 5120) (o := 1536) (w := 1024) (e := .f32) inb_S256x5120_S256x1024_0_1536 (goal m c t) _ (band2 m c t),
    band (W := 5120) (o := 1280) (w := 256) (e := .f32) inb_S256x5120_S256x256_0_1280 (goal m c t) _ (band1 m c t),
    band (W := 5120) (o := 0) (w := 1280) (e := .f32) inb_S256x5120_S256x1280_0_0 (goal m c t) _ (band0 m c t)⟩

/-- The block of normed rows stored at point `t`. -/
theorem out7_eq (t : Fin cfg0.N) (r : Fin 256) (l : Fin 1024) : (outsAt0 m c t).2 (ix2 r l) = hAll (X m c) (G m c) (rowOf t r) l := by
  rw [outs_snd]
  refine (View.read_writes_apply_of_pieces VO0_7 _ (fun y : S256x1024.Idx => hAll (X m c) (G m c) (rowOf t (y 0)) (y 1)) (runAt m c t).2.1 ?_ (ix2 r l)
    (cover7 m c t _)).trans rfl
  rw [pieces7]
  simp only [List.forall_mem_cons, List.not_mem_nil, false_imp_iff, implies_true, and_true]
  intro x
  have hx : x = ix2 (x 0 : Fin 256) (x 1 : Fin 1024) := by funext k; fin_cases k <;> rfl
  have e : (Rect.unit (s := S256x1024) ![0, 0] ![256, 1024] inb_S256x1024_S256x1024_0_0).emb x = x := by
    funext k; apply Fin.ext; fin_cases k
    · show 0 + 1 * (x 0 : ℕ) = x 0; omega
    · show 0 + 1 * (x 1 : ℕ) = x 1; omega
  show _ = (fun y : S256x1024.Idx => hAll (X m c) (G m c) (rowOf t (y 0)) (y 1)) _
  rw [e]
  conv_lhs => rw [hx]
  exact norm_at m c t (x 0) (x 1)

/-- The whole arrays. -/
def projArr : S4096x5120.Idx → EReal := fun y => projAll (X m c) (G m c) (Wt m c) (y 0) (y 1 : ℕ)
def normArr : S4096x1024.Idx → EReal := fun y => hAll (X m c) (G m c) (y 0) (y 1)

theorem final6 : (dats m 0 c).arrAt 6 cfg0.N = projArr m c := by
  refine (dats m 0 c).arrAt_eq_of_covers 6 _ (by decide +kernel) fun t hf y => ?_
  blk_simp; rw [after0_6]
  idx_vars y
  have e : (win0_6.rect t).emb (ix2 y0 y1) = ix2 (rowOf t y0) y1 := by
    funext a; apply Fin.ext
    rw [Pipeline.Window.rect_emb_val win0_6 t (ix2 y0 y1) a, (idxs t).2.2.2.2.2.2.1]
    fin_cases a
    · rfl
    · exact Nat.zero_add _
  show _ = projArr m c ((win0_6.rect t).emb (ix2 y0 y1))
  rw [e]
  exact out6_eq m c t y0 y1

theorem final7 : (dats m 0 c).arrAt 7 cfg0.N = normArr m c := by
  refine (dats m 0 c).arrAt_eq_of_covers 7 _ (by decide +kernel) fun t hf y => ?_
  blk_simp; rw [after0_7]
  idx_vars y
  have e : (win0_7.rect t).emb (ix2 y0 y1) = ix2 (rowOf t y0) y1 := by
    funext a; apply Fin.ext
    rw [Pipeline.Window.rect_emb_val win0_7 t (ix2 y0 y1) a, (idxs t).2.2.2.2.2.2.2]
    fin_cases a
    · rfl
    · exact Nat.zero_add _
  show _ = normArr m c ((win0_7.rect t).emb (ix2 y0 y1))
  rw [e]
  exact out7_eq m c t y0 y1

end Cert.Train.MixIn

end
-- ==== Proof.MixInRef.lean ====
/-
  What the reference of the mixer's input call computes, entry by entry.
-/
module

public import proofs.«01_k».proof.Proof.MixInSpec
public import proofs.«01_k».proof.Proof.Gen.MixInRefIdeal.Read
public import Idealize.ShloMosaic.Lib.Pointwise

@[expose] public section

set_option maxRecDepth 16384

noncomputable section

namespace Cert.Train.MixIn

open scoped BigOperators
open Cert.MixInRefIdeal Cert.MixInRefIdeal.Gen Cert.MixInRefIdeal.Read Cert.Train.Asm
open Idealize.ShloMosaic

theorem cos_ref (n : Fin 4096) (d : Fin 8) : val_main_v16 (F := Ideal) (ix2 n d) = Ideal.cos (ang n d) := by
  pointwise [val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
  rfl

theorem sin_ref (n : Fin 4096) (d : Fin 8) : val_main_v17 (F := Ideal) (ix2 n d) = Ideal.sin (ang n d) := by
  pointwise [val_main_v17, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
  rfl

variable (x : Vec Ideal S4096x1024 .f32) (g : Vec Ideal S1024 .f32) (w : Vec Ideal S1024x5120 .f32)

theorem norm_ref (n : Fin 4096) (l : Fin 1024) : val_main_v30 x g (ix2 n l) = hAll x g n l := by
  pointwise [val_main_v30, val_main_v29, val_main_v28, val_main_v27, val_main_v26, val_main_v25, val_main_v24, val_main_v23, val_main_v22,
    val_main_v21, val_main_v20, val_main_v19, val_main_v18, val_main_cst_3, val_main_cst_4, val_main_cst_5]
  simp only [lit_1024, lit_eps, lit_zero, EReal.coe_zero, zero_add]
  rfl

theorem cast_ref (n : Fin 4096) (l : Fin 1024) : val_main_v85 x g (ix2 n l) = hAll x g n l := by
  pointwise [val_main_v85]
  exact norm_ref x g n l

theorem prod_ref (n : Fin 4096) (k : Fin 5120) : val_main_v31 x g w (ix2 n k) = prod x g w n k := by
  rw [prod_of _ _ _ _ _ k.isLt]
  pointwise [val_main_v31]
  simp only [norm_ref]

/-- The rotation as the reference writes it, with its cuts. -/
theorem spin_cut (f : ℕ → EReal) (n : Fin 4096) (h d : ℕ) (hd : d < 64) :
    (if d < 8 then f (h * 64 + d) * Ideal.cos (ang n d) - f (h * 64 + (8 + d)) * Ideal.sin (ang n d)
      else if d - 8 < 8 then f (h * 64 + (8 + (d - 8))) * Ideal.cos (ang n (d - 8)) + f (h * 64 + (d - 8)) * Ideal.sin (ang n (d - 8))
      else f (h * 64 + (16 + (d - 8 - 8)))) = spin f n (64 * h + d) := by
  unfold spin
  rw [show (64 * h + d) % 64 = d by omega, show h * 64 = 64 * h by omega]
  split_ifs with a b b
  · rw [show 64 * h + (8 + d) = 64 * h + d + 8 by omega]
  · rw [show 64 * h + (8 + (d - 8)) = 64 * h + d by omega, show 64 * h + (d - 8) = 64 * h + d - 8 by omega]
  · omega
  · omega
  · rw [show 64 * h + (16 + (d - 8 - 8)) = 64 * h + d by omega]

/-- A head of q, turned; and a head of k. -/
theorem rot_q (h : Fin 12) (n : Fin 4096) (d : Fin 64) : val_main_v54 x g w (ix3 h n d) = spin (prod x g w n) n (64 * h + d) := by
  have hh := h.isLt; have hd := d.isLt
  pointwise [val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35,
    val_main_v34, val_main_v33, val_main_v32, cos_ref, sin_ref, prod_ref]
  exact spin_cut (prod x g w n) n h d hd

theorem rot_k (h : Fin 12) (n : Fin 4096) (d : Fin 64) : val_main_v74 x g w (ix3 h n d) = spin (prod x g w n) n (768 + (64 * h + d)) := by
  have hh := h.isLt; have hd := d.isLt
  rw [spin_shift _ _ _ _ (by norm_num)]
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55,
    val_main_v34, val_main_v33, val_main_v32, cos_ref, sin_ref, prod_ref]
  simp only [Nat.add_assoc]
  exact spin_cut (fun k => prod x g w n (768 + k)) n h d hd

/-- The parts side by side. -/
theorem all_ref (n : Fin 4096) (j : Fin 5120) : val_main_v84 x g w (ix2 n j) = projAll x g w n j := by
  have hj := j.isLt
  unfold projAll
  pointwise [val_main_v84, val_main_v83, val_main_v82, val_main_v81, val_main_v80, val_main_v79, val_main_v78, val_main_v77, val_main_v76, val_main_v75,
    val_main_v34, val_main_v33, val_main_v32, rot_q, rot_k, prod_ref]
  split_ifs with h1 h2 h2 h3 h3 h4 h4
  all_goals first
    | omega
    | exact congrArg (spin _ _) (by omega)
    | exact congrArg (prod _ _ _ _) (by omega)

end Cert.Train.MixIn

end
-- ==== Proof.MixInValue.lean ====
/-
  The mixer's input call: its frame as the reference has it, and its value.
-/
module

public import proofs.«01_k».proof.Proof.MixInArr
public import proofs.«01_k».proof.Proof.MixInRef
public import proofs.«01_k».proof.Proof.Gen.MixInIdeal.Value
public import proofs.«01_k».proof.Proof.Gen.MixInRefIdeal.Run
public import proofs.«01_k».proof.Defs
public import Idealize.ShloMosaic.Lib.Quiescent

@[expose] public section

set_option maxRecDepth 16384

noncomputable section

namespace Cert.Train.MixIn

open Idealize.ShloMosaic Idealize.ShloMosaic.TcCoe Idealize.SL.Sem
open Cert.MixInIdeal

theorem frame_ref : Cert.quiescent_MixInRefIdeal := fun m ρ _ =>
  (θ_run _ _ _).mono (fun r h => ⟨fun c => (h c).2.2, sem_eq_zero_of_no_sems rfl r.2⟩) (Cert.MixInRefIdeal.Value.run (F := Ideal) m ρ)

/-- The call's two arrays are the reference's. -/
theorem value : Cert.algebraic_MixInIdeal_MixInRefIdeal := by
  intro m g m' g' _ hargs
  refine ⟨fun c => projArr m c, fun c => normArr m c, ?_, ?_⟩
  · refine (θ_run _ _ _).mono (fun r h c => ?_) (Cert.MixInIdeal.Value.run_blocks (F := Ideal) m g)
    exact ⟨(h c).1.trans (final6 m c), (h c).2.1.trans (final7 m c), (h c).2.2⟩
  · refine (θ_run _ _ _).mono (fun r h c => ?_) (Cert.MixInRefIdeal.Value.run (F := Ideal) m' g')
    obtain ⟨h0, h1, ha⟩ := h c
    obtain ⟨a0, a1, a2⟩ := hargs c
    refine ⟨h0.trans ((Cert.MixInRefIdeal.Read.val_main_v84_eq m' c).trans ?_), h1.trans ((Cert.MixInRefIdeal.Read.val_main_v85_eq _ _).trans ?_), ha⟩
    · rw [a0, a1, a2]
      funext j; idx_vars j
      exact all_ref _ _ _ j0 j1
    · rw [a0, a1]
      funext j; idx_vars j
      exact cast_ref _ _ j0 j1

end Cert.Train.MixIn

end
-- ==== Proof.AsmRun.lean ====
/- One grid point of the call that assembles the gradient of the projected input: it reads seventeen blocks and fills
   one block of 512 rows by fourteen stores side by side. -/
module

public import proofs.«01_k».proof.Proof.Gen.AssembleIdeal.Frame.Runs

@[expose] public section

set_option maxRecDepth 16384

noncomputable section

namespace Cert.AssembleIdeal.Own

open Cert.AssembleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords)
  {arg1 arg2 arg3 arg4 arg5 arg6 arg7 arg8 arg9 arg10 : Memref sig .tc .vmem S512x256 .f32}
  {arg11 arg12 : Memref sig .tc .vmem S256x512 .f32} {arg13 arg14 : Memref sig .tc .vmem S512x1024 .bf16}
  {arg15 arg16 arg17 : Memref sig .tc .vmem S512x128 .f32} {arg18 : Memref sig .tc .vmem S512x5120 .bf16}
  (harg1 : arg1.IsWhole) (harg2 : arg2.IsWhole) (harg3 : arg3.IsWhole) (harg4 : arg4.IsWhole) (harg5 : arg5.IsWhole)
  (harg6 : arg6.IsWhole) (harg7 : arg7.IsWhole) (harg8 : arg8.IsWhole) (harg9 : arg9.IsWhole)
  (harg10 : arg10.IsWhole) (harg11 : arg11.IsWhole) (harg12 : arg12.IsWhole) (harg13 : arg13.IsWhole)
  (harg14 : arg14.IsWhole) (harg15 : arg15.IsWhole) (harg16 : arg16.IsWhole) (harg17 : arg17.IsWhole)
  (harg18 : arg18.IsWhole) (x0 x1 x2 x3 x4 x5 x6 x7 x8 x9 : Vec F S512x256 .f32) (x10 x11 : Vec F S256x512 .f32)
  (x12 x13 : Vec F S512x1024 .bf16) (x14 x15 x16 : Vec F S512x128 .f32)

/-- The seventeen blocks that the body reads, held at their contents. -/
def ins : sProp 𝕄 :=
  iprop(owns (c : Thread nD τ) arg1 fullShare x0 ∗ owns (c : Thread nD τ) arg2 fullShare x1
      ∗ owns (c : Thread nD τ) arg3 fullShare x2 ∗ owns (c : Thread nD τ) arg4 fullShare x3
      ∗ owns (c : Thread nD τ) arg5 fullShare x4 ∗ owns (c : Thread nD τ) arg6 fullShare x5
      ∗ owns (c : Thread nD τ) arg7 fullShare x6 ∗ owns (c : Thread nD τ) arg8 fullShare x7
      ∗ owns (c : Thread nD τ) arg9 fullShare x8 ∗ owns (c : Thread nD τ) arg10 fullShare x9
      ∗ owns (c : Thread nD τ) arg11 fullShare x10 ∗ owns (c : Thread nD τ) arg12 fullShare x11
      ∗ owns (c : Thread nD τ) arg13 fullShare x12 ∗ owns (c : Thread nD τ) arg14 fullShare x13
      ∗ owns (c : Thread nD τ) arg15 fullShare x14 ∗ owns (c : Thread nD τ) arg16 fullShare x15
      ∗ owns (c : Thread nD τ) arg17 fullShare x16)

omit [FloatOps F] in
/-- A whole memref's buffer at the unread contents holds them. -/
theorem owns_back {s : Shape} {e : EltTy} {M : Memref sig .tc .vmem s e} (h : M.IsWhole) (x : Vec F s e) :
    iprop(M.view.loc (c : Thread nD τ) ↦[M.view.set]{fullShare} h.unread x) ⊢ (iprop(∃ f, ⌜M.view.read (Elt F) f = x⌝ ∗ (M.view.loc (c : Thread nD τ) ↦[M.view.set]{fullShare} f)) : sProp 𝕄) := by
  iintro H
  iexists _
  isplitr
  · ipureintro; exact h.read_unread _
  iexact H

-- one run through all fourteen stores, with the search for the pieces
set_option maxHeartbeats 6000000 in
/-- The body's stores as pieces of the block, last first, with the body's triple: from the blocks it reads and a buffer
    at anything to the same blocks and that buffer with the pieces written. -/
def kernelRun :
    { L : List (View.Piece (Elt F) S512x5120 .bf16) //
      ∀ (E : Set ℕ) (K : PUnit → sProp 𝕄),
        iprop(ins c (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) x0 x1 x2 x3 x4 x5 x6 x7 x8 x9 x10 x11 x12 x13 x14 x15 x16 ∗ (∃ d, owns (c : Thread nD τ) arg18 fullShare d)
            ∗ (iprop(ins c (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) x0 x1 x2 x3 x4 x5 x6 x7 x8 x9 x10 x11 x12 x13 x14 x15 x16 ∗ (∃ f, arg18.view.loc (c : Thread nD τ) ↦[arg18.view.set]{fullShare} arg18.view.writes (Elt F) f L)) -∗ K ⟨⟩))
          ⊢ wp frame (wpE (defs₀ (F := F)) Variants.none c none) E (cc0_assemble_dproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_assemble_dproj_eq_skeleton]; unfold cc0_assemble_dproj_skel
    simp only [k0_part1_eq_skeleton, k0_part2_eq_skeleton, k0_part3_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitr [H17]
    · isplitl [H0]; · iapply (owns_back c harg1 x0) $$ H0
      isplitl [H1]; · iapply (owns_back c harg2 x1) $$ H1
      isplitl [H2]; · iapply (owns_back c harg3 x2) $$ H2
      isplitl [H3]; · iapply (owns_back c harg4 x3) $$ H3
      isplitl [H4]; · iapply (owns_back c harg5 x4) $$ H4
      isplitl [H5]; · iapply (owns_back c harg6 x5) $$ H5
      isplitl [H6]; · iapply (owns_back c harg7 x6) $$ H6
      isplitl [H7]; · iapply (owns_back c harg8 x7) $$ H7
      isplitl [H8]; · iapply (owns_back c harg9 x8) $$ H8
      isplitl [H9]; · iapply (owns_back c harg10 x9) $$ H9
      isplitl [H10]; · iapply (owns_back c harg11 x10) $$ H10
      isplitl [H11]; · iapply (owns_back c harg12 x11) $$ H11
      isplitl [H12]; · iapply (owns_back c harg13 x12) $$ H12
      isplitl [H13]; · iapply (owns_back c harg14 x13) $$ H13
      isplitl [H14]; · iapply (owns_back c harg15 x14) $$ H14
      isplitl [H15]; · iapply (owns_back c harg16 x15) $$ H15
      iapply (owns_back c harg17 x16) $$ H16
    iexists _; iexact H17

end

end Cert.AssembleIdeal.Own

end
-- ==== Proof.AsmFrame.lean ====
/- The run of the call that assembles the gradient of the projected input: the contents of every block after the body,
   the body's obligation at every grid point, and the launch. -/
module

public import proofs.«01_k».proof.Proof.AsmRun
public import Idealize.ShloMosaic.Lib.Claim

@[expose] public section

set_option maxRecDepth 16384

noncomputable section

namespace Cert.AssembleIdeal.Own

open Cert.AssembleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces that the body stores at point `t`. -/
def pieces (c : Dev nD) (t : Fin cfg0.N) : List (View.Piece (Elt F) S512x5120 .bf16) :=
  (kernelRun c (grid0.coords t)
    (hs0_0 t) (hs0_1 t) (hs0_2 t) (hs0_3 t) (hs0_4 t) (hs0_5 t) (hs0_6 t) (hs0_7 t) (hs0_8 t) (hs0_9 t)
    (hs0_10 t) (hs0_11 t) (hs0_12 t) (hs0_13 t) (hs0_14 t) (hs0_15 t) (hs0_16 t) (hs0_17 t)
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t)).1

/-- They cut the block into tiles of 512 by 256, so they cover it. -/
theorem pieces_cover (c : Dev nD) (t : Fin cfg0.N) (y : S512x5120.Idx) : ∃ pc ∈ pieces m c t, y ∈ pc.1.set :=
  View.cover_of_tiledBy (pieces m c t) ![512, 256] (by sl_kernel_rfl) y

/-- The block after the body at point `t`. -/
def outAt (c : Dev nD) (t : Fin cfg0.N) : Vec F S512x5120 .bf16 :=
  VO0_17.read (Elt F) (VO0_17.writes (Elt F) VO0_17.junk (pieces m c t))

/-- The proof data of the pipeline: inputs at their blocks, the output at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨n + 18, h⟩ => absurd h (by have hW : cfg0.W = 18 := rfl; omega)
  Φ _ := Pipeline.ΦA spec0 c
  q _ := fullShare
  owed _ := 0

theorem A_eq (c : Dev nD) (w : Fin cfg0.W) : (dats m 0 c).A w = V m c (Pipeline.arrRef spec0 w) := by
  dsimp only [dats]

/-- An input's buffer after the body is at its block. -/
theorem after_in (c : Dev nD) :
    (∀ t, (dats m 0 c).after 0 t = iblk m c 0 t)
      ∧ (∀ t, (dats m 0 c).after 1 t = iblk m c 1 t)
      ∧ (∀ t, (dats m 0 c).after 2 t = iblk m c 2 t)
      ∧ (∀ t, (dats m 0 c).after 3 t = iblk m c 3 t)
      ∧ (∀ t, (dats m 0 c).after 4 t = iblk m c 4 t)
      ∧ (∀ t, (dats m 0 c).after 5 t = iblk m c 5 t)
      ∧ (∀ t, (dats m 0 c).after 6 t = iblk m c 6 t)
      ∧ (∀ t, (dats m 0 c).after 7 t = iblk m c 7 t)
      ∧ (∀ t, (dats m 0 c).after 8 t = iblk m c 8 t)
      ∧ (∀ t, (dats m 0 c).after 9 t = iblk m c 9 t)
      ∧ (∀ t, (dats m 0 c).after 10 t = iblk m c 10 t)
      ∧ (∀ t, (dats m 0 c).after 11 t = iblk m c 11 t)
      ∧ (∀ t, (dats m 0 c).after 12 t = iblk m c 12 t)
      ∧ (∀ t, (dats m 0 c).after 13 t = iblk m c 13 t)
      ∧ (∀ t, (dats m 0 c).after 14 t = iblk m c 14 t)
      ∧ (∀ t, (dats m 0 c).after 15 t = iblk m c 15 t)
      ∧ (∀ t, (dats m 0 c).after 16 t = iblk m c 16 t) := by
  refine ⟨?_, ?_, ?_, ?_, ?_, ?_, ?_, ?_, ?_, ?_, ?_, ?_, ?_, ?_, ?_, ?_, ?_⟩ <;> (intro t; dsimp only [dats])

theorem after_out (c : Dev nD) (t : Fin cfg0.N) : (dats m 0 c).after 17 t = outAt m c t := by dsimp only [dats]

/-- An input's buffer before the body is at its block too. -/
theorem before_in (c : Dev nD) (t : Fin cfg0.N) :
    (∀ d, (dats m 0 c).before 0 t d = iblk m c 0 t)
      ∧ (∀ d, (dats m 0 c).before 1 t d = iblk m c 1 t)
      ∧ (∀ d, (dats m 0 c).before 2 t d = iblk m c 2 t)
      ∧ (∀ d, (dats m 0 c).before 3 t d = iblk m c 3 t)
      ∧ (∀ d, (dats m 0 c).before 4 t d = iblk m c 4 t)
      ∧ (∀ d, (dats m 0 c).before 5 t d = iblk m c 5 t)
      ∧ (∀ d, (dats m 0 c).before 6 t d = iblk m c 6 t)
      ∧ (∀ d, (dats m 0 c).before 7 t d = iblk m c 7 t)
      ∧ (∀ d, (dats m 0 c).before 8 t d = iblk m c 8 t)
      ∧ (∀ d, (dats m 0 c).before 9 t d = iblk m c 9 t)
      ∧ (∀ d, (dats m 0 c).before 10 t d = iblk m c 10 t)
      ∧ (∀ d, (dats m 0 c).before 11 t d = iblk m c 11 t)
      ∧ (∀ d, (dats m 0 c).before 12 t d = iblk m c 12 t)
      ∧ (∀ d, (dats m 0 c).before 13 t d = iblk m c 13 t)
      ∧ (∀ d, (dats m 0 c).before 14 t d = iblk m c 14 t)
      ∧ (∀ d, (dats m 0 c).before 15 t d = iblk m c 15 t)
      ∧ (∀ d, (dats m 0 c).before 16 t d = iblk m c 16 t) := by
  obtain ⟨a0, a1, a2, a3, a4, a5, a6, a7, a8, a9, a10, a11, a12, a13, a14, a15, a16⟩ := after_in m c
  refine ⟨before0_0_of m _ (A_eq m c 0) a0 t,
    before0_1_of m _ (A_eq m c 1) a1 t,
    before0_2_of m _ (A_eq m c 2) a2 t,
    before0_3_of m _ (A_eq m c 3) a3 t,
    before0_4_of m _ (A_eq m c 4) a4 t,
    before0_5_of m _ (A_eq m c 5) a5 t,
    before0_6_of m _ (A_eq m c 6) a6 t,
    before0_7_of m _ (A_eq m c 7) a7 t,
    before0_8_of m _ (A_eq m c 8) a8 t,
    before0_9_of m _ (A_eq m c 9) a9 t,
    before0_10_of m _ (A_eq m c 10) a10 t,
    before0_11_of m _ (A_eq m c 11) a11 t,
    before0_12_of m _ (A_eq m c 12) a12 t,
    before0_13_of m _ (A_eq m c 13) a13 t,
    before0_14_of m _ (A_eq m c 14) a14 t,
    before0_15_of m _ (A_eq m c 15) a15 t,
    before0_16_of m _ (A_eq m c 16) a16 t⟩

/-- The body at point `t`: from the inputs' blocks and a buffer at anything to the blocks and `outAt`. -/
theorem body_at (c : Dev nD) (t : Fin cfg0.N) (K : PUnit → sProp 𝕄) :
    iprop(ins c (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t) (arg13 := ms0_12 t) (arg14 := ms0_13 t) (arg15 := ms0_14 t) (arg16 := ms0_15 t) (arg17 := ms0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ∗ (∃ d, owns (c : Thread nD τ) (ms0_17 t) fullShare d)
        ∗ (iprop(ins c (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t) (arg13 := ms0_12 t) (arg14 := ms0_13 t) (arg15 := ms0_14 t) (arg16 := ms0_15 t) (arg17 := ms0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ∗ owns (c : Thread nD τ) (ms0_17 t) fullShare (outAt m c t)) -∗ K ⟨⟩))
      ⊢ wp frame (wpE (defs₀ (F := F)) Variants.none c none) Set.univ (bodyAt0 t) K := by
  refine BIBase.Entails.trans ?_ ((kernelRun c (grid0.coords t)
    (hs0_0 t) (hs0_1 t) (hs0_2 t) (hs0_3 t) (hs0_4 t) (hs0_5 t) (hs0_6 t) (hs0_7 t) (hs0_8 t) (hs0_9 t)
    (hs0_10 t) (hs0_11 t) (hs0_12 t) (hs0_13 t) (hs0_14 t) (hs0_15 t) (hs0_16 t) (hs0_17 t)
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t) (iblk m c 16 t)).2 Set.univ K)
  iintro ⟨H, Ho, HK⟩
  isplitl [H]; · iexact H
  isplitl [Ho]; · iexact Ho
  iintro ⟨H, ⟨%e, He⟩⟩
  iapply HK
  isplitl [H]; · iexact H
  unfold owns; iexists _; isplitr
  swap; · iexact He
  ipureintro; exact View.read_writes_of_cover _ _ _ _ _ (pieces_cover m c t)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d))
    ∗ (∃ d, owns (c : Thread nD τ) (ms0_8 t) fullShare ((dats m 0 c).before 8 t d)) ∗ (∃ d, owns (c : Thread nD τ) (ms0_9 t) fullShare ((dats m 0 c).before 9 t d))
    ∗ (∃ d, owns (c : Thread nD τ) (ms0_10 t) fullShare ((dats m 0 c).before 10 t d)) ∗ (∃ d, owns (c : Thread nD τ) (ms0_11 t) fullShare ((dats m 0 c).before 11 t d))
    ∗ (∃ d, owns (c : Thread nD τ) (ms0_12 t) fullShare ((dats m 0 c).before 12 t d)) ∗ (∃ d, owns (c : Thread nD τ) (ms0_13 t) fullShare ((dats m 0 c).before 13 t d))
    ∗ (∃ d, owns (c : Thread nD τ) (ms0_14 t) fullShare ((dats m 0 c).before 14 t d)) ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t)
    ∗ owns (c : Thread nD τ) (ms0_2 t) fullShare ((dats m 0 c).after 2 t) ∗ owns (c : Thread nD τ) (ms0_3 t) fullShare ((dats m 0 c).after 3 t)
    ∗ owns (c : Thread nD τ) (ms0_4 t) fullShare ((dats m 0 c).after 4 t) ∗ owns (c : Thread nD τ) (ms0_5 t) fullShare ((dats m 0 c).after 5 t)
    ∗ owns (c : Thread nD τ) (ms0_6 t) fullShare ((dats m 0 c).after 6 t) ∗ owns (c : Thread nD τ) (ms0_7 t) fullShare ((dats m 0 c).after 7 t)
    ∗ owns (c : Thread nD τ) (ms0_8 t) fullShare ((dats m 0 c).after 8 t) ∗ owns (c : Thread nD τ) (ms0_9 t) fullShare ((dats m 0 c).after 9 t)
    ∗ owns (c : Thread nD τ) (ms0_10 t) fullShare ((dats m 0 c).after 10 t) ∗ owns (c : Thread nD τ) (ms0_11 t) fullShare ((dats m 0 c).after 11 t)
    ∗ owns (c : Thread nD τ) (ms0_12 t) fullShare ((dats m 0 c).after 12 t) ∗ owns (c : Thread nD τ) (ms0_13 t) fullShare ((dats m 0 c).after 13 t)
    ∗ owns (c : Thread nD τ) (ms0_14 t) fullShare ((dats m 0 c).after 14 t) ∗ owns (c : Thread nD τ) (ms0_15 t) fullShare ((dats m 0 c).after 15 t)
    ∗ owns (c : Thread nD τ) (ms0_16 t) fullShare ((dats m 0 c).after 16 t) ∗ owns (c : Thread nD τ) (ms0_17 t) fullShare ((dats m 0 c).after 17 t))

set_option maxHeartbeats 1600000 in
/-- The body's triple with the invariant and the debts, which it leaves alone. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5, b6, b7, b8, b9, b10, b11, b12, b13, b14, b15, b16⟩ := before_in m c t
  obtain ⟨a0, a1, a2, a3, a4, a5, a6, a7, a8, a9, a10, a11, a12, a13, a14, a15, a16⟩ := after_in m c
  unfold bodyPre bodyPost
  simp only [b0, b1, b2, b3, b4, b5, b6, b7, b8, b9, b10, b11, b12, b13, b14, b15, b16]
  rw [show (dats m 0 c).Φ t.succ = (dats m 0 c).Φ t.castSucc from rfl,
    show (dats m 0 c).owesAt () t.succ = (dats m 0 c).owesAt () t.castSucc from rfl,
    a0, a1, a2, a3, a4, a5, a6, a7, a8, a9, a10, a11, a12, a13, a14, a15, a16, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (body_at m c t _)
  unfold ins
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]; · iexists _; iexact H17
  iintro ⟨⟨H0, H1, H2, H3, H4, H5, H6, H7, H8, H9, H10, H11, H12, H13, H14, H15, H16⟩, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body's obligation at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (sound_body m c t) rfl .rfl fun _ => .rfl

set_option backward.isDefEq.respectTransparency.types false in
/-- The launch: every array of the pipeline ends at what the proof data says, every other buffer as the call found it, and
    every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AssembleIdeal.Own

end
-- ==== Proof.AsmHost.lean ====
/-
  What the host's lines before the assembling call compute: the parts cut from the arguments, and the tables of the
  rotation for 128 lanes.
-/
module

public import proofs.«01_k».proof.Proof.RopeInts
public import proofs.«01_k».proof.Proof.Gen.AssembleIdeal.Frame.Runs
public import Idealize.ShloMosaic.Lib.Claim
public import Idealize.ShloMosaic.Lib.Pointwise

@[expose] public section

set_option maxRecDepth 16384

noncomputable section

namespace Cert.Train.Asm

open Idealize.ShloMosaic Idealize.ShloMosaic.TcCoe Idealize.ShloMosaic.StableHlo
open Cert.AssembleIdeal Cert.AssembleIdeal.Gen

variable (W : Valuation τ sig (Elt Ideal))

theorem s0_v0  (n : Fin 4096) (l : Fin 256) :
    (after hostOps0 W (Proc.devRef .tc main_v0) : Vec Ideal S4096x256 .f32) (ix2 n l) = (W (Proc.devRef .tc main_arg0) : Vec Ideal S4096x768 .f32) (ix2 n ⟨0 + l, by have := l.isLt; omega⟩) := by
  simp only [hostOps0, TRef.ternary, TRef.binary, TRef.nullary, TRef.unary, TRef.toBuf, TRef.ofBuf, cast_eq]
  after_results_simp
  pointwise

theorem s0_v1  (n : Fin 4096) (l : Fin 256) :
    (after hostOps0 W (Proc.devRef .tc main_v1) : Vec Ideal S4096x256 .f32) (ix2 n l) = (W (Proc.devRef .tc main_arg0) : Vec Ideal S4096x768 .f32) (ix2 n ⟨256 + l, by have := l.isLt; omega⟩) := by
  simp only [hostOps0, TRef.ternary, TRef.binary, TRef.nullary, TRef.unary, TRef.toBuf, TRef.ofBuf, cast_eq]
  after_results_simp
  pointwise

theorem s0_v2  (n : Fin 4096) (l : Fin 256) :
    (after hostOps0 W (Proc.devRef .tc main_v2) : Vec Ideal S4096x256 .f32) (ix2 n l) = (W (Proc.devRef .tc main_arg0) : Vec Ideal S4096x768 .f32) (ix2 n ⟨512 + l, by have := l.isLt; omega⟩) := by
  simp only [hostOps0, TRef.ternary, TRef.binary, TRef.nullary, TRef.unary, TRef.toBuf, TRef.ofBuf, cast_eq]
  after_results_simp
  pointwise

theorem s0_v3  (n : Fin 4096) (l : Fin 256) :
    (after hostOps0 W (Proc.devRef .tc main_v3) : Vec Ideal S4096x256 .f32) (ix2 n l) = (W (Proc.devRef .tc main_arg1) : Vec Ideal S4096x768 .f32) (ix2 n ⟨0 + l, by have := l.isLt; omega⟩) := by
  simp only [hostOps0, TRef.ternary, TRef.binary, TRef.nullary, TRef.unary, TRef.toBuf, TRef.ofBuf, cast_eq]
  after_results_simp
  pointwise

theorem s0_v4  (n : Fin 4096) (l : Fin 256) :
    (after hostOps0 W (Proc.devRef .tc main_v4) : Vec Ideal S4096x256 .f32) (ix2 n l) = (W (Proc.devRef .tc main_arg1) : Vec Ideal S4096x768 .f32) (ix2 n ⟨256 + l, by have := l.isLt; omega⟩) := by
  simp only [hostOps0, TRef.ternary, TRef.binary, TRef.nullary, TRef.unary, TRef.toBuf, TRef.ofBuf, cast_eq]
  after_results_simp
  pointwise

theorem s0_v5  (n : Fin 4096) (l : Fin 256) :
    (after hostOps0 W (Proc.devRef .tc main_v5) : Vec Ideal S4096x256 .f32) (ix2 n l) = (W (Proc.devRef .tc main_arg1) : Vec Ideal S4096x768 .f32) (ix2 n ⟨512 + l, by have := l.isLt; omega⟩) := by
  simp only [hostOps0, TRef.ternary, TRef.binary, TRef.nullary, TRef.unary, TRef.toBuf, TRef.ofBuf, cast_eq]
  after_results_simp
  pointwise

theorem s0_v6  (n : Fin 4096) (l : Fin 256) :
    (after hostOps0 W (Proc.devRef .tc main_v6) : Vec Ideal S4096x256 .f32) (ix2 n l) = (W (Proc.devRef .tc main_arg2) : Vec Ideal S4096x768 .f32) (ix2 n ⟨0 + l, by have := l.isLt; omega⟩) := by
  simp only [hostOps0, TRef.ternary, TRef.binary, TRef.nullary, TRef.unary, TRef.toBuf, TRef.ofBuf, cast_eq]
  after_results_simp
  pointwise

theorem s0_v7  (n : Fin 4096) (l : Fin 256) :
    (after hostOps0 W (Proc.devRef .tc main_v7) : Vec Ideal S4096x256 .f32) (ix2 n l) = (W (Proc.devRef .tc main_arg2) : Vec Ideal S4096x768 .f32) (ix2 n ⟨256 + l, by have := l.isLt; omega⟩) := by
  simp only [hostOps0, TRef.ternary, TRef.binary, TRef.nullary, TRef.unary, TRef.toBuf, TRef.ofBuf, cast_eq]
  after_results_simp
  pointwise

theorem s0_v8  (n : Fin 4096) (l : Fin 256) :
    (after hostOps0 W (Proc.devRef .tc main_v8) : Vec Ideal S4096x256 .f32) (ix2 n l) = (W (Proc.devRef .tc main_arg2) : Vec Ideal S4096x768 .f32) (ix2 n ⟨512 + l, by have := l.isLt; omega⟩) := by
  simp only [hostOps0, TRef.ternary, TRef.binary, TRef.nullary, TRef.unary, TRef.toBuf, TRef.ofBuf, cast_eq]
  after_results_simp
  pointwise

theorem s0_v9  (n : Fin 4096) (l : Fin 1024) :
    (after hostOps0 W (Proc.devRef .tc main_v9) : Vec Ideal S4096x1024 .bf16) (ix2 n l) = (W (Proc.devRef .tc main_arg6) : Vec Ideal S4096x1024 .f32) (ix2 n l) := by
  simp only [hostOps0, TRef.ternary, TRef.binary, TRef.nullary, TRef.unary, TRef.toBuf, TRef.ofBuf, cast_eq]
  after_results_simp
  pointwise

theorem s0_v10  (n : Fin 4096) (l : Fin 1024) :
    (after hostOps0 W (Proc.devRef .tc main_v10) : Vec Ideal S4096x1024 .bf16) (ix2 n l) = (W (Proc.devRef .tc main_arg7) : Vec Ideal S4096x1024 .f32) (ix2 n l) := by
  simp only [hostOps0, TRef.ternary, TRef.binary, TRef.nullary, TRef.unary, TRef.toBuf, TRef.ofBuf, cast_eq]
  after_results_simp
  pointwise

theorem s0_v11 : after hostOps0 W (Proc.devRef .tc main_v11) = iotaInDim S128 32 0 := by
  simp only [hostOps0, TRef.ternary, TRef.binary, TRef.nullary, TRef.unary, TRef.toBuf, TRef.ofBuf, cast_eq]
  after_results_simp

theorem s0_c : after hostOps0 W (Proc.devRef .tc main_c) = constantI S_ 32 64#32 := by
  simp only [hostOps0, TRef.ternary, TRef.binary, TRef.nullary, TRef.unary, TRef.toBuf, TRef.ofBuf, cast_eq]
  after_results_simp

theorem s2_c : after hostOps0_2 W (Proc.devRef .tc main_c_0) = constantI S_ 32 8#32 := by
  simp only [hostOps0_2, TRef.ternary, TRef.binary, TRef.nullary, TRef.unary, TRef.toBuf, TRef.ofBuf, cast_eq]
  after_results_simp

theorem s4_c : after hostOps0_4 W (Proc.devRef .tc main_cst_4) = constant (F := Ideal) S_ .f32 0x3F800000#32 := by
  simp only [hostOps0_4, TRef.ternary, TRef.binary, TRef.nullary, TRef.unary, TRef.toBuf, TRef.ofBuf, cast_eq]
  after_results_simp

theorem s6_c : after hostOps0_6 W (Proc.devRef .tc main_cst_6) = constant (F := Ideal) S_ .f32 0#32 := by
  simp only [hostOps0_6, TRef.ternary, TRef.binary, TRef.nullary, TRef.unary, TRef.toBuf, TRef.ofBuf, cast_eq]
  after_results_simp

theorem s8_c : after hostOps0_8 W (Proc.devRef .tc main_cst_9) = constant (F := Ideal) S_ .f32 0#32 := by
  simp only [hostOps0_8, TRef.ternary, TRef.binary, TRef.nullary, TRef.unary, TRef.toBuf, TRef.ofBuf, cast_eq]
  after_results_simp

theorem s1_v12 (h0 : W (Proc.devRef .tc main_v11) = iotaInDim S128 32 0) (h1 : W (Proc.devRef .tc main_c) = constantI S_ 32 64#32) (l : Fin 128) :
    (after hostOps0_1 W (Proc.devRef .tc main_v12) : Vec Ideal S128 .i32) (ix1 l) = BitVec.ofNat 32 (l % 64) := by
  simp only [hostOps0_1, TRef.ternary, TRef.binary, TRef.nullary, TRef.unary, TRef.toBuf, TRef.ofBuf, cast_eq]
  after_results_simp
  rw [h0, h1]
  pointwise
  exact remH64 l

theorem s3_v13 (h0 : ∀ l : Fin 128, (W (Proc.devRef .tc main_v12) : Vec Ideal S128 .i32) (ix1 l) = BitVec.ofNat 32 (l % 64)) (h1 : W (Proc.devRef .tc main_c_0) = constantI S_ 32 8#32) (l : Fin 128) :
    (after hostOps0_3 W (Proc.devRef .tc main_v13) : Vec Ideal S128 .i32) (ix1 l) = BitVec.ofNat 32 (l % 8) := by
  simp only [hostOps0_3, TRef.ternary, TRef.binary, TRef.nullary, TRef.unary, TRef.toBuf, TRef.ofBuf, cast_eq]
  after_results_simp
  rw [h1]
  pointwise [h0]
  exact remH8 l

theorem s4_v28 (h0 : ∀ l : Fin 128, (W (Proc.devRef .tc main_v13) : Vec Ideal S128 .i32) (ix1 l) = BitVec.ofNat 32 (l % 8)) (n : Fin 4096) (l : Fin 128) :
    (after hostOps0_4 W (Proc.devRef .tc main_v28) : Vec Ideal S4096x128 .f32) (ix2 n l) = Ideal.cos (ang n (l % 8)) := by
  simp only [hostOps0_4, TRef.ternary, TRef.binary, TRef.nullary, TRef.unary, TRef.toBuf, TRef.ofBuf, cast_eq]
  after_results_simp
  pointwise [h0]
  rw [twice _ (by omega)]
  rfl

theorem s4_v29 (h0 : ∀ l : Fin 128, (W (Proc.devRef .tc main_v13) : Vec Ideal S128 .i32) (ix1 l) = BitVec.ofNat 32 (l % 8)) (n : Fin 4096) (l : Fin 128) :
    (after hostOps0_4 W (Proc.devRef .tc main_v29) : Vec Ideal S4096x128 .f32) (ix2 n l) = Ideal.sin (ang n (l % 8)) := by
  simp only [hostOps0_4, TRef.ternary, TRef.binary, TRef.nullary, TRef.unary, TRef.toBuf, TRef.ofBuf, cast_eq]
  after_results_simp
  pointwise [h0]
  rw [twice _ (by omega)]
  rfl

theorem s4_v31 (h0 : ∀ l : Fin 128, (W (Proc.devRef .tc main_v12) : Vec Ideal S128 .i32) (ix1 l) = BitVec.ofNat 32 (l % 64)) (l : Fin 128) :
    (after hostOps0_4 W (Proc.devRef .tc main_v31) : Vec Ideal S128 .i1) (ix1 l) = BitVec.ofBool (decide ((l : ℕ) % 64 < 16)) := by
  simp only [hostOps0_4, TRef.ternary, TRef.binary, TRef.nullary, TRef.unary, TRef.toBuf, TRef.ofBuf, cast_eq]
  after_results_simp
  pointwise [h0]
  exact lt16 l

theorem s6_v34 (h0 : ∀ l : Fin 128, (W (Proc.devRef .tc main_v12) : Vec Ideal S128 .i32) (ix1 l) = BitVec.ofNat 32 (l % 64)) (l : Fin 128) :
    (after hostOps0_6 W (Proc.devRef .tc main_v34) : Vec Ideal S128 .i1) (ix1 l) = BitVec.ofBool (decide ((l : ℕ) % 64 < 8)) := by
  simp only [hostOps0_6, TRef.ternary, TRef.binary, TRef.nullary, TRef.unary, TRef.toBuf, TRef.ofBuf, cast_eq]
  after_results_simp
  pointwise [h0]
  exact lt8 l

theorem s6_v35  (n : Fin 4096) (l : Fin 128) :
    (after hostOps0_6 W (Proc.devRef .tc main_v35) : Vec Ideal S4096x128 .f32) (ix2 n l) = @Neg.neg EReal _ ((W (Proc.devRef .tc main_v29) : Vec Ideal S4096x128 .f32) (ix2 n l)) := by
  simp only [hostOps0_6, TRef.ternary, TRef.binary, TRef.nullary, TRef.unary, TRef.toBuf, TRef.ofBuf, cast_eq]
  after_results_simp
  pointwise

theorem s8_v41 (h0 : ∀ l : Fin 128, (W (Proc.devRef .tc main_v12) : Vec Ideal S128 .i32) (ix1 l) = BitVec.ofNat 32 (l % 64)) (l : Fin 128) :
    (after hostOps0_8 W (Proc.devRef .tc main_v41) : Vec Ideal S128 .i1) (ix1 l) = BitVec.ofBool (decide (8 ≤ (l : ℕ) % 64 ∧ (l : ℕ) % 64 < 16)) := by
  simp only [hostOps0_8, TRef.ternary, TRef.binary, TRef.nullary, TRef.unary, TRef.toBuf, TRef.ofBuf, cast_eq]
  after_results_simp
  pointwise [h0]
  exact mid l

theorem s5_v32 (h0 : ∀ l : Fin 128, (W (Proc.devRef .tc main_v31) : Vec Ideal S128 .i1) (ix1 l) = BitVec.ofBool (decide ((l : ℕ) % 64 < 16))) (h1 : W (Proc.devRef .tc main_cst_4) = constant (F := Ideal) S_ .f32 0x3F800000#32) (n : Fin 4096) (l : Fin 128) :
    (after hostOps0_5 W (Proc.devRef .tc main_v32) : Vec Ideal S4096x128 .f32) (ix2 n l) = @ite EReal ((l : ℕ) % 64 < 16) _ ((W (Proc.devRef .tc main_v28) : Vec Ideal S4096x128 .f32) (ix2 n l)) (1 : EReal) := by
  simp only [hostOps0_5, TRef.ternary, TRef.binary, TRef.nullary, TRef.unary, TRef.toBuf, TRef.ofBuf, cast_eq]
  after_results_simp
  rw [h1]
  pointwise [h0]
  refine if_congr Iff.rfl rfl ?_
  exact lit_one

theorem s7_v36 (h0 : ∀ l : Fin 128, (W (Proc.devRef .tc main_v34) : Vec Ideal S128 .i1) (ix1 l) = BitVec.ofBool (decide ((l : ℕ) % 64 < 8))) (h1 : W (Proc.devRef .tc main_cst_6) = constant (F := Ideal) S_ .f32 0#32) (n : Fin 4096) (l : Fin 128) :
    (after hostOps0_7 W (Proc.devRef .tc main_v36) : Vec Ideal S4096x128 .f32) (ix2 n l) = @ite EReal ((l : ℕ) % 64 < 8) _ ((W (Proc.devRef .tc main_v35) : Vec Ideal S4096x128 .f32) (ix2 n l)) 0 := by
  simp only [hostOps0_7, TRef.ternary, TRef.binary, TRef.nullary, TRef.unary, TRef.toBuf, TRef.ofBuf, cast_eq]
  after_results_simp
  rw [h1]
  pointwise [h0]
  refine if_congr Iff.rfl rfl ?_
  exact lit_nought

theorem s9_v42 (h0 : ∀ l : Fin 128, (W (Proc.devRef .tc main_v41) : Vec Ideal S128 .i1) (ix1 l) = BitVec.ofBool (decide (8 ≤ (l : ℕ) % 64 ∧ (l : ℕ) % 64 < 16))) (h1 : W (Proc.devRef .tc main_cst_9) = constant (F := Ideal) S_ .f32 0#32) (n : Fin 4096) (l : Fin 128) :
    (after hostOps0_9 W (Proc.devRef .tc main_v42) : Vec Ideal S4096x128 .f32) (ix2 n l) = @ite EReal (8 ≤ (l : ℕ) % 64 ∧ (l : ℕ) % 64 < 16) _ ((W (Proc.devRef .tc main_v29) : Vec Ideal S4096x128 .f32) (ix2 n l)) 0 := by
  simp only [hostOps0_9, TRef.ternary, TRef.binary, TRef.nullary, TRef.unary, TRef.toBuf, TRef.ofBuf, cast_eq]
  after_results_simp
  rw [h1]
  pointwise [h0]
  refine if_congr Iff.rfl rfl ?_
  exact lit_nought

set_option maxHeartbeats 2000000 in
theorem keep1 : ∀ b ∈ [main_v0, main_v1, main_v2, main_v3, main_v4, main_v5, main_v6, main_v7, main_v8, main_v9, main_v10], after hostOps0_1 W (Proc.devRef .tc b) = W (Proc.devRef .tc b) := by
  simp only [List.forall_mem_cons, List.not_mem_nil, false_imp_iff, implies_true, and_true]
  refine ⟨?_, ?_, ?_, ?_, ?_, ?_, ?_, ?_, ?_, ?_, ?_⟩ <;> (simp only [hostOps0_1, TRef.ternary, TRef.binary, TRef.nullary, TRef.unary, TRef.toBuf, TRef.ofBuf, cast_eq]; after_results_simp)

set_option maxHeartbeats 2000000 in
theorem keep2 : ∀ b ∈ [main_v0, main_v1, main_v2, main_v3, main_v4, main_v5, main_v6, main_v7, main_v8, main_v9, main_v10, main_v12], after hostOps0_2 W (Proc.devRef .tc b) = W (Proc.devRef .tc b) := by
  simp only [List.forall_mem_cons, List.not_mem_nil, false_imp_iff, implies_true, and_true]
  refine ⟨?_, ?_, ?_, ?_, ?_, ?_, ?_, ?_, ?_, ?_, ?_, ?_⟩ <;> (simp only [hostOps0_2, TRef.ternary, TRef.binary, TRef.nullary, TRef.unary, TRef.toBuf, TRef.ofBuf, cast_eq]; after_results_simp)

set_option maxHeartbeats 2000000 in
theorem keep3 : ∀ b ∈ [main_v0, main_v1, main_v2, main_v3, main_v4, main_v5, main_v6, main_v7, main_v8, main_v9, main_v10, main_v12], after hostOps0_3 W (Proc.devRef .tc b) = W (Proc.devRef .tc b) := by
  simp only [List.forall_mem_cons, List.not_mem_nil, false_imp_iff, implies_true, and_true]
  refine ⟨?_, ?_, ?_, ?_, ?_, ?_, ?_, ?_, ?_, ?_, ?_, ?_⟩ <;> (simp only [hostOps0_3, TRef.ternary, TRef.binary, TRef.nullary, TRef.unary, TRef.toBuf, TRef.ofBuf, cast_eq]; after_results_simp)

set_option maxHeartbeats 2000000 in
theorem keep4 : ∀ b ∈ [main_v0, main_v1, main_v2, main_v3, main_v4, main_v5, main_v6, main_v7, main_v8, main_v9, main_v10, main_v12], after hostOps0_4 W (Proc.devRef .tc b) = W (Proc.devRef .tc b) := by
  simp only [List.forall_mem_cons, List.not_mem_nil, false_imp_iff, implies_true, and_true]
  refine ⟨?_, ?_, ?_, ?_, ?_, ?_, ?_, ?_, ?_, ?_, ?_, ?_⟩ <;> (simp only [hostOps0_4, TRef.ternary, TRef.binary, TRef.nullary, TRef.unary, TRef.toBuf, TRef.ofBuf, cast_eq]; after_results_simp)

set_option maxHeartbeats 2000000 in
theorem keep5 : ∀ b ∈ [main_v0, main_v1, main_v2, main_v3, main_v4, main_v5, main_v6, main_v7, main_v8, main_v9, main_v10, main_v12, main_v29], after hostOps0_5 W (Proc.devRef .tc b) = W (Proc.devRef .tc b) := by
  simp only [List.forall_mem_cons, List.not_mem_nil, false_imp_iff, implies_true, and_true]
  refine ⟨?_, ?_, ?_, ?_, ?_, ?_, ?_, ?_, ?_, ?_, ?_, ?_, ?_⟩ <;> (simp only [hostOps0_5, TRef.ternary, TRef.binary, TRef.nullary, TRef.unary, TRef.toBuf, TRef.ofBuf, cast_eq]; after_results_simp)

set_option maxHeartbeats 2000000 in
theorem keep6 : ∀ b ∈ [main_v0, main_v1, main_v2, main_v3, main_v4, main_v5, main_v6, main_v7, main_v8, main_v9, main_v10, main_v12, main_v29, main_v32], after hostOps0_6 W (Proc.devRef .tc b) = W (Proc.devRef .tc b) := by
  simp only [List.forall_mem_cons, List.not_mem_nil, false_imp_iff, implies_true, and_true]
  refine ⟨?_, ?_, ?_, ?_, ?_, ?_, ?_, ?_, ?_, ?_, ?_, ?_, ?_, ?_⟩ <;> (simp only [hostOps0_6, TRef.ternary, TRef.binary, TRef.nullary, TRef.unary, TRef.toBuf, TRef.ofBuf, cast_eq]; after_results_simp)

set_option maxHeartbeats 2000000 in
theorem keep7 : ∀ b ∈ [main_v0, main_v1, main_v2, main_v3, main_v4, main_v5, main_v6, main_v7, main_v8, main_v9, main_v10, main_v12, main_v29, main_v32], after hostOps0_7 W (Proc.devRef .tc b) = W (Proc.devRef .tc b) := by
  simp only [List.forall_mem_cons, List.not_mem_nil, false_imp_iff, implies_true, and_true]
  refine ⟨?_, ?_, ?_, ?_, ?_, ?_, ?_, ?_, ?_, ?_, ?_, ?_, ?_, ?_⟩ <;> (simp only [hostOps0_7, TRef.ternary, TRef.binary, TRef.nullary, TRef.unary, TRef.toBuf, TRef.ofBuf, cast_eq]; after_results_simp)

set_option maxHeartbeats 2000000 in
theorem keep8 : ∀ b ∈ [main_v0, main_v1, main_v2, main_v3, main_v4, main_v5, main_v6, main_v7, main_v8, main_v9, main_v10, main_v29, main_v32, main_v36], after hostOps0_8 W (Proc.devRef .tc b) = W (Proc.devRef .tc b) := by
  simp only [List.forall_mem_cons, List.not_mem_nil, false_imp_iff, implies_true, and_true]
  refine ⟨?_, ?_, ?_, ?_, ?_, ?_, ?_, ?_, ?_, ?_, ?_, ?_, ?_, ?_⟩ <;> (simp only [hostOps0_8, TRef.ternary, TRef.binary, TRef.nullary, TRef.unary, TRef.toBuf, TRef.ofBuf, cast_eq]; after_results_simp)

set_option maxHeartbeats 2000000 in
theorem keep9 : ∀ b ∈ [main_v0, main_v1, main_v2, main_v3, main_v4, main_v5, main_v6, main_v7, main_v8, main_v9, main_v10, main_v32, main_v36], after hostOps0_9 W (Proc.devRef .tc b) = W (Proc.devRef .tc b) := by
  simp only [List.forall_mem_cons, List.not_mem_nil, false_imp_iff, implies_true, and_true]
  refine ⟨?_, ?_, ?_, ?_, ?_, ?_, ?_, ?_, ?_, ?_, ?_, ?_, ?_⟩ <;> (simp only [hostOps0_9, TRef.ternary, TRef.binary, TRef.nullary, TRef.unary, TRef.toBuf, TRef.ofBuf, cast_eq]; after_results_simp)

end Cert.Train.Asm

end
-- ==== Proof.AsmEntry.lean ====
/-
  What the call that assembles the gradient of the projected input reads at each grid point: its blocks, entry by entry,
  in terms of the arguments, and the tables of the rotation.
-/
module

public import proofs.«01_k».proof.Proof.AsmHost
public import Idealize.ShloMosaic.Lib.Claim
public import Idealize.ShloMosaic.Lib.Pipeline.ValueKit

@[expose] public section

set_option maxRecDepth 16384

noncomputable section

namespace Cert.Train.Asm

open Idealize.ShloMosaic Idealize.ShloMosaic.TcCoe Idealize.ShloMosaic.StableHlo
open Cert.AssembleIdeal Cert.AssembleIdeal.Gen

/-- Row `r` of block `n`. -/
def rowOf (n : Fin cfg0.N) (r : Fin 512) : Fin 4096 := ⟨n.val * 512 + r.val, by have := n.isLt; have hN : cfg0.N = 8 := N_0; omega⟩

theorem idxs : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![0, t.val]
    ∧ win0_11.index t = ![0, t.val]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0] :=
  (by decide +kernel : ∀ t : Fin grid0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![0, t.val]
    ∧ win0_11.index t = ![0, t.val]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0])

variable (m : (ℓ : Loc nD τ sig) → Buf (Elt Ideal) ℓ) (c : Dev nD)

/-- The buffers after two stretches. -/
theorem after_two (l₁ l₂ : List (HloOp τ sig (Elt Ideal))) (W : Valuation τ sig (Elt Ideal)) : after (l₁ ++ l₂) W = after l₂ (after l₁ W) := by
  induction l₁ generalizing W with
  | nil => rfl
  | cons a l ih => rw [List.cons_append, after_cons, after_cons, ih]

/-- The buffers at the call: the arguments through the ten stretches. -/
theorem V_after (b : Ref sig .tc) : V m c b
    = after hostOps0_9 (after hostOps0_8 (after hostOps0_7 (after hostOps0_6 (after hostOps0_5 (after hostOps0_4 (after hostOps0_3 (after hostOps0_2
        (after hostOps0_1 (after hostOps0 fun b => m (c, b)))))))))) (Proc.devRef .tc b) := by
  unfold V
  simp only [List.flatten_cons, List.flatten_nil, List.append_nil, after_two]

/-- A part cut in the first stretch is at the call as it was cut. -/
theorem V_first (b : Ref sig .tc) (h : b ∈ [main_v0, main_v1, main_v2, main_v3, main_v4, main_v5, main_v6, main_v7, main_v8, main_v9, main_v10]) :
    V m c b = after hostOps0 (fun b => m (c, b)) (Proc.devRef .tc b) := by
  rw [V_after]
  have hh : ∀ l : List (Ref sig .tc), b ∈ [main_v0, main_v1, main_v2, main_v3, main_v4, main_v5, main_v6, main_v7, main_v8, main_v9, main_v10] ++ l :=
    fun l => List.mem_append_left l h
  rw [keep9 _ b (hh [main_v32, main_v36]), keep8 _ b (hh [main_v29, main_v32, main_v36]), keep7 _ b (hh [main_v12, main_v29, main_v32]),
    keep6 _ b (hh [main_v12, main_v29, main_v32]), keep5 _ b (hh [main_v12, main_v29]), keep4 _ b (hh [main_v12]), keep3 _ b (hh [main_v12]),
    keep2 _ b (hh [main_v12]), keep1 _ b (hh [])]

/-- Lanes modulo 64, after the fourth stretch and in the later ones. -/
theorem lanes (W : Valuation τ sig (Elt Ideal)) (l : Fin 128) :
    (after hostOps0_3 (after hostOps0_2 (after hostOps0_1 (after hostOps0 W))) (Proc.devRef .tc main_v12) : Vec Ideal S128 .i32) (ix1 l) = BitVec.ofNat 32 (l % 64) := by
  rw [keep3 _ main_v12 (by simp), keep2 _ main_v12 (by simp)]
  exact s1_v12 _ (s0_v11 W) (s0_c W) l

/-- Lanes modulo 8. -/
theorem eights (W : Valuation τ sig (Elt Ideal)) (l : Fin 128) :
    (after hostOps0_3 (after hostOps0_2 (after hostOps0_1 (after hostOps0 W))) (Proc.devRef .tc main_v13) : Vec Ideal S128 .i32) (ix1 l) = BitVec.ofNat 32 (l % 8) := by
  refine s3_v13 _ (fun l => ?_) (s2_c _) l
  rw [keep2 _ main_v12 (by simp)]
  exact s1_v12 _ (s0_v11 W) (s0_c W) l

theorem V_v32 (n : Fin 4096) (l : Fin 128) : (V m c main_v32 : Vec Ideal S4096x128 .f32) (ix2 n l)
    = @ite EReal ((l : ℕ) % 64 < 16) _ (Ideal.cos (ang n (l % 8))) 1 := by
  rw [V_after, keep9 _ main_v32 (by simp), keep8 _ main_v32 (by simp), keep7 _ main_v32 (by simp), keep6 _ main_v32 (by simp)]
  rw [s5_v32 _ (s4_v31 _ (lanes _)) (s4_c _), s4_v28 _ (eights _)]

theorem V_v36 (n : Fin 4096) (l : Fin 128) : (V m c main_v36 : Vec Ideal S4096x128 .f32) (ix2 n l)
    = @ite EReal ((l : ℕ) % 64 < 8) _ (-Ideal.sin (ang n (l % 8))) 0 := by
  rw [V_after, keep9 _ main_v36 (by simp), keep8 _ main_v36 (by simp)]
  rw [s7_v36 _ (s6_v34 _ fun l => by rw [keep5 _ main_v12 (by simp), keep4 _ main_v12 (by simp)]; exact lanes _ l) (s6_c _), s6_v35,
    keep5 _ main_v29 (by simp), s4_v29 _ (eights _)]

theorem V_v42 (n : Fin 4096) (l : Fin 128) : (V m c main_v42 : Vec Ideal S4096x128 .f32) (ix2 n l)
    = @ite EReal (8 ≤ (l : ℕ) % 64 ∧ (l : ℕ) % 64 < 16) _ (Ideal.sin (ang n (l % 8))) 0 := by
  rw [V_after]
  rw [s9_v42 _ (s8_v41 _ fun l => by
      rw [keep7 _ main_v12 (by simp), keep6 _ main_v12 (by simp), keep5 _ main_v12 (by simp), keep4 _ main_v12 (by simp)]; exact lanes _ l) (s8_c _),
    keep8 _ main_v29 (by simp), keep7 _ main_v29 (by simp), keep6 _ main_v29 (by simp), keep5 _ main_v29 (by simp), s4_v29 _ (eights _)]

theorem blk0 (t : Fin cfg0.N) (r : Fin 512) (l : Fin 256) :
    iblk m c 0 t (ix2 r l) = m ((c : Thread nD τ).loc main_arg0) (ix2 (rowOf t r) ⟨0 + l, by have := l.isLt; omega⟩) := by
  refine Eq.trans ?_ ((congrFun (V_first m c main_v0 (by simp)) (ix2 (rowOf t r) l)).trans (s0_v0 _ _ _))
  blk_simp [iblk, idxs t]
  blk_ext [idxs t, rowOf]

theorem blk1 (t : Fin cfg0.N) (r : Fin 512) (l : Fin 256) :
    iblk m c 1 t (ix2 r l) = m ((c : Thread nD τ).loc main_arg0) (ix2 (rowOf t r) ⟨256 + l, by have := l.isLt; omega⟩) := by
  refine Eq.trans ?_ ((congrFun (V_first m c main_v1 (by simp)) (ix2 (rowOf t r) l)).trans (s0_v1 _ _ _))
  blk_simp [iblk, idxs t]
  blk_ext [idxs t, rowOf]

theorem blk2 (t : Fin cfg0.N) (r : Fin 512) (l : Fin 256) :
    iblk m c 2 t (ix2 r l) = m ((c : Thread nD τ).loc main_arg0) (ix2 (rowOf t r) ⟨512 + l, by have := l.isLt; omega⟩) := by
  refine Eq.trans ?_ ((congrFun (V_first m c main_v2 (by simp)) (ix2 (rowOf t r) l)).trans (s0_v2 _ _ _))
  blk_simp [iblk, idxs t]
  blk_ext [idxs t, rowOf]

theorem blk3 (t : Fin cfg0.N) (r : Fin 512) (l : Fin 256) :
    iblk m c 3 t (ix2 r l) = m ((c : Thread nD τ).loc main_arg1) (ix2 (rowOf t r) ⟨0 + l, by have := l.isLt; omega⟩) := by
  refine Eq.trans ?_ ((congrFun (V_first m c main_v3 (by simp)) (ix2 (rowOf t r) l)).trans (s0_v3 _ _ _))
  blk_simp [iblk, idxs t]
  blk_ext [idxs t, rowOf]

theorem blk4 (t : Fin cfg0.N) (r : Fin 512) (l : Fin 256) :
    iblk m c 4 t (ix2 r l) = m ((c : Thread nD τ).loc main_arg1) (ix2 (rowOf t r) ⟨256 + l, by have := l.isLt; omega⟩) := by
  refine Eq.trans ?_ ((congrFun (V_first m c main_v4 (by simp)) (ix2 (rowOf t r) l)).trans (s0_v4 _ _ _))
  blk_simp [iblk, idxs t]
  blk_ext [idxs t, rowOf]

theorem blk5 (t : Fin cfg0.N) (r : Fin 512) (l : Fin 256) :
    iblk m c 5 t (ix2 r l) = m ((c : Thread nD τ).loc main_arg1) (ix2 (rowOf t r) ⟨512 + l, by have := l.isLt; omega⟩) := by
  refine Eq.trans ?_ ((congrFun (V_first m c main_v5 (by simp)) (ix2 (rowOf t r) l)).trans (s0_v5 _ _ _))
  blk_simp [iblk, idxs t]
  blk_ext [idxs t, rowOf]

theorem blk6 (t : Fin cfg0.N) (r : Fin 512) (l : Fin 256) :
    iblk m c 6 t (ix2 r l) = m ((c : Thread nD τ).loc main_arg2) (ix2 (rowOf t r) ⟨0 + l, by have := l.isLt; omega⟩) := by
  refine Eq.trans ?_ ((congrFun (V_first m c main_v6 (by simp)) (ix2 (rowOf t r) l)).trans (s0_v6 _ _ _))
  blk_simp [iblk, idxs t]
  blk_ext [idxs t, rowOf]

theorem blk7 (t : Fin cfg0.N) (r : Fin 512) (l : Fin 256) :
    iblk m c 7 t (ix2 r l) = m ((c : Thread nD τ).loc main_arg2) (ix2 (rowOf t r) ⟨256 + l, by have := l.isLt; omega⟩) := by
  refine Eq.trans ?_ ((congrFun (V_first m c main_v7 (by simp)) (ix2 (rowOf t r) l)).trans (s0_v7 _ _ _))
  blk_simp [iblk, idxs t]
  blk_ext [idxs t, rowOf]

theorem blk8 (t : Fin cfg0.N) (r : Fin 512) (l : Fin 256) :
    iblk m c 8 t (ix2 r l) = m ((c : Thread nD τ).loc main_arg2) (ix2 (rowOf t r) ⟨512 + l, by have := l.isLt; omega⟩) := by
  refine Eq.trans ?_ ((congrFun (V_first m c main_v8 (by simp)) (ix2 (rowOf t r) l)).trans (s0_v8 _ _ _))
  blk_simp [iblk, idxs t]
  blk_ext [idxs t, rowOf]

theorem blk12 (t : Fin cfg0.N) (r : Fin 512) (l : Fin 1024) :
    iblk m c 12 t (ix2 r l) = m ((c : Thread nD τ).loc main_arg6) (ix2 (rowOf t r) l) := by
  refine Eq.trans ?_ ((congrFun (V_first m c main_v9 (by simp)) (ix2 (rowOf t r) l)).trans (s0_v9 _ _ _))
  blk_simp [iblk, idxs t]
  blk_ext [idxs t, rowOf]

theorem blk13 (t : Fin cfg0.N) (r : Fin 512) (l : Fin 1024) :
    iblk m c 13 t (ix2 r l) = m ((c : Thread nD τ).loc main_arg7) (ix2 (rowOf t r) l) := by
  refine Eq.trans ?_ ((congrFun (V_first m c main_v10 (by simp)) (ix2 (rowOf t r) l)).trans (s0_v10 _ _ _))
  blk_simp [iblk, idxs t]
  blk_ext [idxs t, rowOf]

theorem blk14 (t : Fin cfg0.N) (r : Fin 512) (l : Fin 128) : iblk m c 14 t (ix2 r l) = @ite EReal ((l : ℕ) % 64 < 16) _ (Ideal.cos (ang (rowOf t r) (l % 8))) 1 := by
  refine Eq.trans ?_ (V_v32 m c (rowOf t r) l)
  blk_simp [iblk, idxs t]
  blk_ext [idxs t, rowOf]

theorem blk15 (t : Fin cfg0.N) (r : Fin 512) (l : Fin 128) : iblk m c 15 t (ix2 r l) = @ite EReal ((l : ℕ) % 64 < 8) _ (-Ideal.sin (ang (rowOf t r) (l % 8))) 0 := by
  refine Eq.trans ?_ (V_v36 m c (rowOf t r) l)
  blk_simp [iblk, idxs t]
  blk_ext [idxs t, rowOf]

theorem blk16 (t : Fin cfg0.N) (r : Fin 512) (l : Fin 128) : iblk m c 16 t (ix2 r l) = @ite EReal (8 ≤ (l : ℕ) % 64 ∧ (l : ℕ) % 64 < 16) _ (Ideal.sin (ang (rowOf t r) (l % 8))) 0 := by
  refine Eq.trans ?_ (V_v42 m c (rowOf t r) l)
  blk_simp [iblk, idxs t]
  blk_ext [idxs t, rowOf]

theorem blk9 (t : Fin cfg0.N) (r : Fin 512) (l : Fin 256) :
    iblk m c 9 t (ix2 r l) = m ((c : Thread nD τ).loc main_arg3) (ix2 (rowOf t r) l) := by
  blk_simp [iblk, idxs t]
  entry_read
  blk_ext [idxs t, rowOf]

theorem blk10 (t : Fin cfg0.N) (r : Fin 512) (l : Fin 256) :
    iblk m c 10 t (ix2 l r) = m ((c : Thread nD τ).loc main_arg4) (ix2 l (rowOf t r)) := by
  blk_simp [iblk, idxs t]
  entry_read
  blk_ext [idxs t, rowOf]

theorem blk11 (t : Fin cfg0.N) (r : Fin 512) (l : Fin 256) :
    iblk m c 11 t (ix2 l r) = m ((c : Thread nD τ).loc main_arg5) (ix2 l (rowOf t r)) := by
  blk_simp [iblk, idxs t]
  entry_read
  blk_ext [idxs t, rowOf]

end Cert.Train.Asm

end
-- ==== Proof.AsmBlock.lean ====
/-
  The block that the assembling call stores at a grid point: rows of the gradient of the projected input.
-/
module

public import proofs.«01_k».proof.Proof.AsmFrame
public import proofs.«01_k».proof.Proof.AsmEntry
public import Idealize.ShloMosaic.Lib.Pointwise
public import Idealize.ShloMosaic.Lib.WholeRead

@[expose] public section

set_option maxRecDepth 16384

noncomputable section

namespace Cert.Train.Asm

open Idealize.ShloMosaic Idealize.ShloMosaic.TcCoe
open Cert.AssembleIdeal Cert.AssembleIdeal.Gen Cert.AssembleIdeal.Own

theorem whole_read {a b : ℕ} {e : EltTy} {m : Memref sig .tc .vmem ⟨2, ![a, b]⟩ e} (h : m.IsWhole) (X : Vec Ideal ⟨2, ![a, b]⟩ e)
    (inb : ∀ k, (![0, 0] : Fin 2 → ℕ) k + (![a, b] : Fin 2 → ℕ) k ≤ (⟨2, ![a, b]⟩ : Shape).size k) :
    View.readAt (Elt Idealize.ShloMosaic.Ideal) m.view (Rect.unit (s := ⟨2, ![a, b]⟩) ![0, 0] ![a, b] inb).toLoadRect (h.unread X) = X := by
  funext x
  rw [h.readAt_unread]
  congr 1
  funext k
  apply Fin.ext
  show (![0, 0] : Fin 2 → ℕ) k + 1 * (x k).val = (x k).val
  fin_cases k <;> simp

/-- The three tables, by lane. -/
def tabC (n : Fin 4096) (l : ℕ) : EReal := if l % 64 < 16 then Ideal.cos (ang n (l % 8)) else 1
def tabA (n : Fin 4096) (l : ℕ) : EReal := if l % 64 < 8 then -Ideal.sin (ang n (l % 8)) else 0
def tabB (n : Fin 4096) (l : ℕ) : EReal := if 8 ≤ l % 64 ∧ l % 64 < 16 then Ideal.sin (ang n (l % 8)) else 0

/-- A table of 128 lanes, laid twice. -/
theorem twice_laid (T : ℕ → EReal) (hT : ∀ l, T (l + 128) = T l) (s : Vec Ideal S512x128 .f32) (r : Fin 512) (hs : ∀ l : Fin 128, s (ix2 r l) = T l) (k : ℕ) (hk : k < 256) :
    (if h : k < 128 then s (ix2 r ⟨k, h⟩) else s (ix2 r ⟨k - 128, by omega⟩)) = T k := by
  by_cases h : k < 128
  · rw [dif_pos h]; exact hs _
  · rw [dif_neg h, hs]
    have := hT (k - 128)
    rw [show k - 128 + 128 = k by omega] at this
    exact this.symm

theorem tabC_per (n : Fin 4096) (l : ℕ) : tabC n (l + 128) = tabC n l := by
  unfold tabC; rw [show (l + 128) % 64 = l % 64 by omega, show (l + 128) % 8 = l % 8 by omega]
theorem tabA_per (n : Fin 4096) (l : ℕ) : tabA n (l + 128) = tabA n l := by
  unfold tabA; rw [show (l + 128) % 64 = l % 64 by omega, show (l + 128) % 8 = l % 8 by omega]
theorem tabB_per (n : Fin 4096) (l : ℕ) : tabB n (l + 128) = tabB n l := by
  unfold tabB; rw [show (l + 128) % 64 = l % 64 by omega, show (l + 128) % 8 = l % 8 by omega]

/-- Two lane rotations and three tables are the rotation's transpose: beyond a head's first 16 lanes the tables hold one
    and zeros. -/
theorem pay_turn (n : Fin 4096) (f : ℕ → EReal) (cc s1 s2 : Vec Ideal S512x128 .f32) (x : Vec Ideal S512x256 .f32) (r : Fin 512)
    (hc : ∀ l : Fin 128, cc (ix2 r l) = tabC n l) (ha : ∀ l : Fin 128, s1 (ix2 r l) = tabA n l) (hb : ∀ l : Fin 128, s2 (ix2 r l) = tabB n l)
    (hx : ∀ l : Fin 256, x (ix2 r l) = f l) (l : Fin 256) : k0_pay6 cc s1 s2 x (ix2 r l) = turn f n l := by
  have hl := l.isLt
  pointwise [k0_pay6, k0_pay3, k0_pay4, k0_pay5]
  rw [twice_laid (tabC n) (tabC_per n) cc r hc l hl, twice_laid (tabA n) (tabA_per n) s1 r ha _ (by omega),
    twice_laid (tabB n) (tabB_per n) s2 r hb _ (by omega), hx, hx, hx]
  dsimp only
  unfold tabC tabA tabB turn
  by_cases h8 : (l : ℕ) % 64 < 8
  · rw [if_pos (by omega : (l : ℕ) % 64 < 16), if_neg (by omega), if_pos (by omega), if_pos h8, mul_zero, add_zero, add_comm,
      show ((l : ℕ) + 256 - 248) % 256 = l + 8 by omega, show ((l : ℕ) + 8) % 8 = l % 64 by omega, show (l : ℕ) % 8 = l % 64 by omega]
  by_cases h16 : (l : ℕ) % 64 < 16
  · rw [if_pos h16, if_pos (by omega), if_neg (by omega), if_neg h8, if_pos h16, mul_zero, add_zero, mul_neg, neg_mul,
      show ((l : ℕ) + 256 - 8) % 256 = l - 8 by omega, show ((l : ℕ) - 8) % 8 = l % 64 - 8 by omega, show (l : ℕ) % 8 = l % 64 - 8 by omega]
  · rw [if_neg h16, if_neg (by omega), if_neg (by omega), if_neg h8, if_neg h16, mul_zero, mul_zero, add_zero, add_zero, mul_one]

theorem pay_flat (x : Vec Ideal S512x256 .f32) (r : Fin 512) (l : Fin 256) : k0_pay15 x (ix2 r l) = x (ix2 r l) := by
  pointwise [k0_pay15]

theorem pay_plain (x : Vec Ideal S512x256 .f32) (r : Fin 512) (l : Fin 256) : k0_pay18 x (ix2 r l) = x (ix2 r l) := by
  pointwise [k0_pay18]

theorem pay_back (x : Vec Ideal S256x512 .f32) (r : Fin 512) (l : Fin 256) : k0_pay19 x (ix2 r l) = x (ix2 l r) := by
  pointwise [k0_pay19]

theorem pay_wide (x : Vec Ideal S512x1024 .bf16) (r : Fin 512) (l : Fin 1024) : k0_pay1 x (ix2 r l) = x (ix2 r l) := by
  pointwise [k0_pay1]

variable (m : (ℓ : Loc nD τ sig) → Buf (Elt Idealize.ShloMosaic.Ideal) ℓ) (c : Dev nD)

theorem pieces_eq (t : Fin cfg0.N) : pieces m c t =
    [⟨Rect.unit ![0, 4096] ![512, 1024] inb_S512x5120_S512x1024_0_4096, k0_pay1 (iblk m c 13 t)⟩,
      ⟨Rect.unit ![0, 3072] ![512, 1024] inb_S512x5120_S512x1024_0_3072, k0_pay1 (iblk m c 12 t)⟩,
      ⟨Rect.unit ![0, 2816] ![512, 256] inb_S512x5120_S512x256_0_2816, k0_pay19 (iblk m c 11 t)⟩,
      ⟨Rect.unit ![0, 2560] ![512, 256] inb_S512x5120_S512x256_0_2560, k0_pay19 (iblk m c 10 t)⟩,
      ⟨Rect.unit ![0, 2304] ![512, 256] inb_S512x5120_S512x256_0_2304, k0_pay18 (iblk m c 9 t)⟩,
      ⟨Rect.unit ![0, 2048] ![512, 256] inb_S512x5120_S512x256_0_2048, k0_pay15 (iblk m c 8 t)⟩,
      ⟨Rect.unit ![0, 1792] ![512, 256] inb_S512x5120_S512x256_0_1792, k0_pay15 (iblk m c 7 t)⟩,
      ⟨Rect.unit ![0, 1536] ![512, 256] inb_S512x5120_S512x256_0_1536, k0_pay15 (iblk m c 6 t)⟩,
      ⟨Rect.unit ![0, 1280] ![512, 256] inb_S512x5120_S512x256_0_1280, k0_pay6 (iblk m c 14 t) (iblk m c 15 t) (iblk m c 16 t) (iblk m c 5 t)⟩,
      ⟨Rect.unit ![0, 1024] ![512, 256] inb_S512x5120_S512x256_0_1024, k0_pay6 (iblk m c 14 t) (iblk m c 15 t) (iblk m c 16 t) (iblk m c 4 t)⟩,
      ⟨Rect.unit ![0, 768] ![512, 256] inb_S512x5120_S512x256_0_768, k0_pay6 (iblk m c 14 t) (iblk m c 15 t) (iblk m c 16 t) (iblk m c 3 t)⟩,
      ⟨Rect.unit ![0, 512] ![512, 256] inb_S512x5120_S512x256_0_512, k0_pay6 (iblk m c 14 t) (iblk m c 15 t) (iblk m c 16 t) (iblk m c 2 t)⟩,
      ⟨Rect.unit ![0, 256] ![512, 256] inb_S512x5120_S512x256_0_256, k0_pay6 (iblk m c 14 t) (iblk m c 15 t) (iblk m c 16 t) (iblk m c 1 t)⟩,
      ⟨Rect.unit ![0, 0] ![512, 256] inb_S512x5120_S512x256_0_0, k0_pay6 (iblk m c 14 t) (iblk m c 15 t) (iblk m c 16 t) (iblk m c 0 t)⟩] := by
  dsimp only [pieces, kernelRun, kernelRun.sl.r, kernelRun.sl.r_1, kernelRun.sl.r_2, kernelRun.sl.r_3, kernelRun.sl.r_4, kernelRun.sl.r_5,
    kernelRun.sl.r_6, kernelRun.sl.r_7]
  simp only [whole_read]
  rfl

/-- What a piece of a block's columns must hold. -/
theorem band {o w : ℕ} (inb) (g : Fin 512 → ℕ → EReal) (p : Vec Ideal ⟨2, ![512, w]⟩ .bf16) (h : ∀ (r : Fin 512) (l : Fin w), p (ix2 r l) = g r (o + l))
    (x : (Rect.unit (s := S512x5120) ![0, o] ![512, w] inb).shape.Idx) :
    p x = (fun y : S512x5120.Idx => g (y 0) (y 1 : ℕ)) ((Rect.unit (s := S512x5120) ![0, o] ![512, w] inb).emb x) := by
  have e0 : ((Rect.unit (s := S512x5120) ![0, o] ![512, w] inb).emb x) 0 = (x 0 : Fin 512) := by
    apply Fin.ext; show 0 + 1 * (x 0).val = (x 0).val; omega
  have e1 : (((Rect.unit (s := S512x5120) ![0, o] ![512, w] inb).emb x) 1 : ℕ) = o + (x 1).val := by
    show o + 1 * (x 1).val = _; omega
  have hp : p x = p (ix2 (x 0 : Fin 512) (x 1 : Fin w)) := congrArg p (by funext k; fin_cases k <;> rfl)
  exact hp.trans ((h (x 0) (x 1)).trans (congrArg₂ g e0.symm e1.symm))

/-- Entry `(r, j)` of the block at point `t`. -/
def goal (t : Fin cfg0.N) (r : Fin 512) (j : ℕ) : EReal :=
  all (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (rowOf t r) j

/-- A band of rotated columns: columns `o` to `o + 255` of an argument. -/
theorem turned (a : Vec Ideal S4096x768 .f32) (t : Fin cfg0.N) (r : Fin 512) (l : Fin 256) (o : ℕ) (ho : o % 64 = 0) (hb : o + 256 ≤ 768)
    (x : Vec Ideal S512x256 .f32) (hx : ∀ l : Fin 256, x (ix2 r l) = a (ix2 (rowOf t r) ⟨o + l, by have := l.isLt; omega⟩)) :
    k0_pay6 (iblk m c 14 t) (iblk m c 15 t) (iblk m c 16 t) x (ix2 r l) = turn (row a (rowOf t r)) (rowOf t r) (o + l) := by
  rw [turn_shift _ _ _ _ ho]
  exact pay_turn (rowOf t r) _ _ _ _ _ r (blk14 m c t r) (blk15 m c t r) (blk16 m c t r)
    (fun l => by rw [hx, row_of _ _ _ (by have := l.isLt; omega)]) l

theorem band13 (t : Fin cfg0.N) (r : Fin 512) (l : Fin 1024) : k0_pay1 (iblk m c 13 t) (ix2 r l) = goal m c t r (4096 + l) := by
  have hl := l.isLt
  unfold goal
  rw [pay_wide, blk13]
  unfold all
  rw [if_neg (by omega), if_neg (by omega), if_neg (by omega), if_neg (by omega), if_neg (by omega), if_neg (by omega), if_neg (by omega), row_of _ _ _ (by omega)]
  exact congrArg (fun k => (m ((c : Thread nD τ).loc main_arg7) : Vec Ideal S4096x1024 .f32) (ix2 _ k)) (Fin.ext (by dsimp only; omega))

theorem band12 (t : Fin cfg0.N) (r : Fin 512) (l : Fin 1024) : k0_pay1 (iblk m c 12 t) (ix2 r l) = goal m c t r (3072 + l) := by
  have hl := l.isLt
  unfold goal
  rw [pay_wide, blk12]
  unfold all
  rw [if_neg (by omega), if_neg (by omega), if_neg (by omega), if_neg (by omega), if_neg (by omega), if_neg (by omega), if_pos (by omega), row_of _ _ _ (by omega)]
  exact congrArg (fun k => (m ((c : Thread nD τ).loc main_arg6) : Vec Ideal S4096x1024 .f32) (ix2 _ k)) (Fin.ext (by dsimp only; omega))

theorem band11 (t : Fin cfg0.N) (r : Fin 512) (l : Fin 256) : k0_pay19 (iblk m c 11 t) (ix2 r l) = goal m c t r (2816 + l) := by
  have hl := l.isLt
  unfold goal
  rw [pay_back, blk11]
  unfold all
  rw [if_neg (by omega), if_neg (by omega), if_neg (by omega), if_neg (by omega), if_neg (by omega), if_pos (by omega), col_of _ _ _ (by omega)]
  exact congrArg (fun k => (m ((c : Thread nD τ).loc main_arg5) : Vec Ideal S256x4096 .f32) (ix2 k _)) (Fin.ext (by dsimp only; omega))

theorem band10 (t : Fin cfg0.N) (r : Fin 512) (l : Fin 256) : k0_pay19 (iblk m c 10 t) (ix2 r l) = goal m c t r (2560 + l) := by
  have hl := l.isLt
  unfold goal
  rw [pay_back, blk10]
  unfold all
  rw [if_neg (by omega), if_neg (by omega), if_neg (by omega), if_neg (by omega), if_pos (by omega), col_of _ _ _ (by omega)]
  exact congrArg (fun k => (m ((c : Thread nD τ).loc main_arg4) : Vec Ideal S256x4096 .f32) (ix2 k _)) (Fin.ext (by dsimp only; omega))

theorem band9 (t : Fin cfg0.N) (r : Fin 512) (l : Fin 256) : k0_pay18 (iblk m c 9 t) (ix2 r l) = goal m c t r (2304 + l) := by
  have hl := l.isLt
  unfold goal
  rw [pay_plain, blk9]
  unfold all
  rw [if_neg (by omega), if_neg (by omega), if_neg (by omega), if_pos (by omega), row_of _ _ _ (by omega)]
  exact congrArg (fun k => (m ((c : Thread nD τ).loc main_arg3) : Vec Ideal S4096x256 .f32) (ix2 _ k)) (Fin.ext (by dsimp only; omega))

theorem band8 (t : Fin cfg0.N) (r : Fin 512) (l : Fin 256) : k0_pay15 (iblk m c 8 t) (ix2 r l) = goal m c t r (2048 + l) := by
  have hl := l.isLt
  unfold goal
  rw [pay_flat, blk8]
  unfold all
  rw [if_neg (by omega), if_neg (by omega), if_pos (by omega), row_of _ _ _ (by omega)]
  exact congrArg (fun k => (m ((c : Thread nD τ).loc main_arg2) : Vec Ideal S4096x768 .f32) (ix2 _ k)) (Fin.ext (by dsimp only; omega))

theorem band7 (t : Fin cfg0.N) (r : Fin 512) (l : Fin 256) : k0_pay15 (iblk m c 7 t) (ix2 r l) = goal m c t r (1792 + l) := by
  have hl := l.isLt
  unfold goal
  rw [pay_flat, blk7]
  unfold all
  rw [if_neg (by omega), if_neg (by omega), if_pos (by omega), row_of _ _ _ (by omega)]
  exact congrArg (fun k => (m ((c : Thread nD τ).loc main_arg2) : Vec Ideal S4096x768 .f32) (ix2 _ k)) (Fin.ext (by dsimp only; omega))

theorem band6 (t : Fin cfg0.N) (r : Fin 512) (l : Fin 256) : k0_pay15 (iblk m c 6 t) (ix2 r l) = goal m c t r (1536 + l) := by
  have hl := l.isLt
  unfold goal
  rw [pay_flat, blk6]
  unfold all
  rw [if_neg (by omega), if_neg (by omega), if_pos (by omega), row_of _ _ _ (by omega)]
  exact congrArg (fun k => (m ((c : Thread nD τ).loc main_arg2) : Vec Ideal S4096x768 .f32) (ix2 _ k)) (Fin.ext (by dsimp only; omega))

theorem band5 (t : Fin cfg0.N) (r : Fin 512) (l : Fin 256) : k0_pay6 (iblk m c 14 t) (iblk m c 15 t) (iblk m c 16 t) (iblk m c 5 t) (ix2 r l) = goal m c t r (1280 + l) := by
  have hl := l.isLt
  unfold goal
  refine (turned m c (m ((c : Thread nD τ).loc main_arg1)) t r l 512 (by norm_num) (by norm_num) _ (blk5 m c t r)).trans ?_
  unfold all
  rw [if_neg (by omega), if_pos (by omega)]
  exact congrArg (turn _ _) (by omega)

theorem band4 (t : Fin cfg0.N) (r : Fin 512) (l : Fin 256) : k0_pay6 (iblk m c 14 t) (iblk m c 15 t) (iblk m c 16 t) (iblk m c 4 t) (ix2 r l) = goal m c t r (1024 + l) := by
  have hl := l.isLt
  unfold goal
  refine (turned m c (m ((c : Thread nD τ).loc main_arg1)) t r l 256 (by norm_num) (by norm_num) _ (blk4 m c t r)).trans ?_
  unfold all
  rw [if_neg (by omega), if_pos (by omega)]
  exact congrArg (turn _ _) (by omega)

theorem band3 (t : Fin cfg0.N) (r : Fin 512) (l : Fin 256) : k0_pay6 (iblk m c 14 t) (iblk m c 15 t) (iblk m c 16 t) (iblk m c 3 t) (ix2 r l) = goal m c t r (768 + l) := by
  have hl := l.isLt
  unfold goal
  refine (turned m c (m ((c : Thread nD τ).loc main_arg1)) t r l 0 (by norm_num) (by norm_num) _ (blk3 m c t r)).trans ?_
  unfold all
  rw [if_neg (by omega), if_pos (by omega)]
  exact congrArg (turn _ _) (by omega)

theorem band2 (t : Fin cfg0.N) (r : Fin 512) (l : Fin 256) : k0_pay6 (iblk m c 14 t) (iblk m c 15 t) (iblk m c 16 t) (iblk m c 2 t) (ix2 r l) = goal m c t r (512 + l) := by
  have hl := l.isLt
  unfold goal
  refine (turned m c (m ((c : Thread nD τ).loc main_arg0)) t r l 512 (by norm_num) (by norm_num) _ (blk2 m c t r)).trans ?_
  unfold all
  rw [if_pos (by omega)]

theorem band1 (t : Fin cfg0.N) (r : Fin 512) (l : Fin 256) : k0_pay6 (iblk m c 14 t) (iblk m c 15 t) (iblk m c 16 t) (iblk m c 1 t) (ix2 r l) = goal m c t r (256 + l) := by
  have hl := l.isLt
  unfold goal
  refine (turned m c (m ((c : Thread nD τ).loc main_arg0)) t r l 256 (by norm_num) (by norm_num) _ (blk1 m c t r)).trans ?_
  unfold all
  rw [if_pos (by omega)]

theorem band0 (t : Fin cfg0.N) (r : Fin 512) (l : Fin 256) : k0_pay6 (iblk m c 14 t) (iblk m c 15 t) (iblk m c 16 t) (iblk m c 0 t) (ix2 r l) = goal m c t r (0 + l) := by
  have hl := l.isLt
  unfold goal
  refine (turned m c (m ((c : Thread nD τ).loc main_arg0)) t r l 0 (by norm_num) (by norm_num) _ (blk0 m c t r)).trans ?_
  unfold all
  rw [if_pos (by omega)]

/-- The block stored at point `t`. -/
theorem outAt_eq (t : Fin cfg0.N) (r : Fin 512) (j : Fin 5120) : outAt m c t (ix2 r j) = goal m c t r j := by
  refine View.read_writes_apply_of_pieces VO0_17 _ (fun y : S512x5120.Idx => goal m c t (y 0) (y 1 : ℕ)) (pieces m c t) ?_ (ix2 r j) (pieces_cover m c t _)
  rw [pieces_eq]
  simp only [List.forall_mem_cons, List.not_mem_nil, false_imp_iff, implies_true, and_true]
  exact ⟨band _ (goal m c t) _ (band13 m c t),
    band _ (goal m c t) _ (band12 m c t),
    band _ (goal m c t) _ (band11 m c t),
    band _ (goal m c t) _ (band10 m c t),
    band _ (goal m c t) _ (band9 m c t),
    band _ (goal m c t) _ (band8 m c t),
    band _ (goal m c t) _ (band7 m c t),
    band _ (goal m c t) _ (band6 m c t),
    band _ (goal m c t) _ (band5 m c t),
    band _ (goal m c t) _ (band4 m c t),
    band _ (goal m c t) _ (band3 m c t),
    band _ (goal m c t) _ (band2 m c t),
    band _ (goal m c t) _ (band1 m c t),
    band _ (goal m c t) _ (band0 m c t)⟩

/-- The whole array. -/
def allArr : S4096x5120.Idx → EReal := fun y =>
    all (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (y 0) (y 1 : ℕ)

/-- The array after the call. -/
theorem final17 : (dats m 0 c).arrAt 17 cfg0.N = allArr m c := by
  refine (dats m 0 c).arrAt_eq_of_covers 17 _ (by decide +kernel) fun t hf y => ?_
  blk_simp; rw [after_out]
  idx_vars y
  have e : (win0_17.rect t).emb (ix2 y0 y1) = ix2 (rowOf t y0) y1 := by
    funext a; apply Fin.ext
    rw [Pipeline.Window.rect_emb_val win0_17 t (ix2 y0 y1) a, (idxs t).2.2.2.2.2.2.2.2.2.2.2.2.2.2.2.2.2]
    fin_cases a
    · rfl
    · exact Nat.zero_add _
  show _ = allArr m c ((win0_17.rect t).emb (ix2 y0 y1))
  rw [e]
  exact outAt_eq m c t y0 y1

end Cert.Train.Asm

end
-- ==== Proof.AsmRef.lean ====
/- What the reference of the assembling call computes: entry by entry. -/
module

public import proofs.«01_k».proof.Defs
public import proofs.«01_k».proof.Proof.Gen.AssembleRefIdeal.Run
public import proofs.«01_k».proof.Proof.Gen.AssembleRefIdeal.Read
public import Idealize.ShloMosaic.Lib.Pointwise
public import proofs.«01_k».proof.Proof.AsmSpec

@[expose] public section

set_option maxRecDepth 16384

noncomputable section

namespace Cert.Train.Asm

open scoped BigOperators
open Cert.AssembleRefIdeal Cert.AssembleRefIdeal.Gen Cert.AssembleRefIdeal.Read
open Idealize.ShloMosaic Idealize.ShloMosaic.TcCoe
open Idealize.SL Idealize.SL.Sem

theorem cos_ref (n : Fin 4096) (d : Fin 8) : val_main_v17 (F := Ideal) (ix2 n d) = Ideal.cos (ang n d) := by
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_cst_0, val_main_cst_1, val_main_cst_2, val_main_cst_3]
  rfl

theorem sin_ref (n : Fin 4096) (d : Fin 8) : val_main_v18 (F := Ideal) (ix2 n d) = Ideal.sin (ang n d) := by
  pointwise [val_main_v18, val_main_v16, val_main_v15, val_main_v14, val_main_v13, val_main_v12, val_main_v11, val_main_v10,
    val_main_v9, val_main_v8, val_main_v7, val_main_v6, val_main_v5, val_main_v4, val_main_v3, val_main_v2, val_main_v1,
    val_main_cst_0, val_main_cst_1, val_main_cst_2, val_main_cst_3]
  rfl

variable (x0 x1 x2 : Vec Ideal S4096x768 .f32) (x3 : Vec Ideal S4096x256 .f32) (x4 x5 : Vec Ideal S256x4096 .f32) (x6 x7 : Vec Ideal S4096x1024 .f32)

theorem rot_ref (h : Fin 12) (n : Fin 4096) (d : Fin 64) : val_main_v129 (F := Ideal) x0 (ix3 h n d) = turn (row x0 n) n (64 * h + d) := by
  have hh := h.isLt; have hd := d.isLt
  pointwise [val_main_v129, val_main_v128, val_main_v127, val_main_v126, val_main_v125, val_main_v124, val_main_v123, val_main_v122,
    val_main_v121, val_main_v120, val_main_v119, val_main_v118, val_main_v117, val_main_v116, val_main_v115, val_main_v114, val_main_v113,
    val_main_v112, val_main_v111, val_main_v110, val_main_v109, val_main_v34, val_main_v31, val_main_v27, val_main_v24, val_main_cst_14, val_main_cst_15, val_main_cst_16, cos_ref, sin_ref]
  have hm : (64 * (h : ℕ) + d) % 64 = d := by omega
  unfold turn
  rw [hm]
  by_cases h8 : (d : ℕ) < 8
  · rw [dif_neg (by omega), dif_neg (by omega), dif_pos h8, if_pos h8, zero_add, zero_add, row_of x0 n (64 * h + d + 8) (by omega), row_of x0 n (64 * h + d) (by omega)]
    exact congr (congrArg _ (congrArg (· * _) (congrArg (fun k => x0 (ix2 n k)) (Fin.ext (by dsimp only; omega))))) (congrArg (· * _) (congrArg (fun k => x0 (ix2 n k)) (Fin.ext (by dsimp only; omega))))
  by_cases h16 : (d : ℕ) < 16
  · rw [dif_neg (by omega), dif_pos (by omega), dif_neg h8, if_neg h8, if_pos h16, zero_add, add_zero, row_of x0 n (64 * h + d) (by omega), row_of x0 n (64 * h + d - 8) (by omega)]
    exact congr (congrArg _ (congrArg (· * _) (congrArg (fun k => x0 (ix2 n k)) (Fin.ext (by dsimp only; omega))))) (congrArg (fun z => -z * _) (congrArg (fun k => x0 (ix2 n k)) (Fin.ext (by dsimp only; omega))))
  · rw [dif_pos (by omega), dif_neg (by omega), dif_neg h8, if_neg h8, if_neg h16, add_zero, add_zero, row_of x0 n (64 * h + d) (by omega)]
    exact congrArg (fun k => x0 (ix2 n k)) (Fin.ext (by dsimp only; omega))

theorem flat_ref (n : Fin 4096) (j : Fin 768) : val_main_v131 (F := Ideal) x0 (ix2 n j) = turn (row x0 n) n j := by
  pointwise [val_main_v131, val_main_v130]
  rw [rot_ref]
  exact congrArg (turn _ n) (by show 64 * ((j : ℕ) / 64) + (j : ℕ) % 64 = j; omega)

theorem same_ref : val_main_v106 (F := Ideal) x1 = val_main_v131 (F := Ideal) x1 := rfl

theorem val_ref (n : Fin 4096) (j : Fin 5120) : val_main_v134 (F := Ideal) x0 x1 x2 x3 x4 x5 x6 x7 (ix2 n j) = all x0 x1 x2 x3 x4 x5 x6 x7 n j := by
  have hj := j.isLt
  pointwise [val_main_v134, val_main_v133, val_main_v132, val_main_v108, val_main_v107, val_main_v83, val_main_v82,
    val_main_v81, val_main_v80, val_main_v79, val_main_v78, val_main_v77, val_main_v76, val_main_v75, val_main_v74, val_main_v73, val_main_v72, val_main_v71,
    val_main_cst_4, val_main_cst_5, val_main_cst_6, val_main_cst_7, val_main_cst_8, val_main_cst_9, val_main_cst_13, val_main_cst_17]
  unfold all
  by_cases h0 : (j : ℕ) < 768
  · simp only [h0, if_true, dif_pos]
    repeat rw [dif_neg (by omega)]
    simp only [zero_add]
    exact flat_ref x0 n ⟨j, h0⟩
  rw [dif_neg h0, if_neg h0, add_zero]
  by_cases h1 : (j : ℕ) < 1536
  · rw [dif_pos (show 768 ≤ (j : ℕ) ∧ (j : ℕ) - 768 < 768 by omega), if_pos h1]
    repeat rw [dif_neg (by omega)]
    simp only [zero_add]
    rw [same_ref]
    exact flat_ref x1 n ⟨j - 768, by omega⟩
  rw [dif_neg (show ¬(768 ≤ (j : ℕ) ∧ (j : ℕ) - 768 < 768) by omega), if_neg h1, add_zero]
  by_cases h2 : (j : ℕ) < 2304
  · rw [dif_pos (show 1536 ≤ (j : ℕ) ∧ (j : ℕ) - 1536 < 768 by omega), if_pos h2, row_of x2 n _ (by omega)]
    repeat rw [dif_neg (by omega)]
    simp only [zero_add]
  rw [dif_neg (show ¬(1536 ≤ (j : ℕ) ∧ (j : ℕ) - 1536 < 768) by omega), if_neg h2, add_zero]
  by_cases h3 : (j : ℕ) < 2560
  · rw [dif_pos (show 2304 ≤ (j : ℕ) ∧ (j : ℕ) - 2304 < 256 by omega), if_pos h3, row_of x3 n _ (by omega)]
    repeat rw [dif_neg (by omega)]
    simp only [zero_add]
  rw [dif_neg (show ¬(2304 ≤ (j : ℕ) ∧ (j : ℕ) - 2304 < 256) by omega), if_neg h3, add_zero]
  by_cases h4 : (j : ℕ) < 2816
  · rw [dif_pos (show 2560 ≤ (j : ℕ) ∧ (j : ℕ) - 2560 < 256 by omega), if_pos h4, col_of x4 n _ (by omega)]
    repeat rw [dif_neg (by omega)]
    simp only [zero_add]
  rw [dif_neg (show ¬(2560 ≤ (j : ℕ) ∧ (j : ℕ) - 2560 < 256) by omega), if_neg h4, add_zero]
  by_cases h5 : (j : ℕ) < 3072
  · rw [dif_pos (show 2816 ≤ (j : ℕ) ∧ (j : ℕ) - 2816 < 256 by omega), if_pos h5, col_of x5 n _ (by omega)]
    repeat rw [dif_neg (by omega)]
    simp only [zero_add]
  rw [dif_neg (show ¬(2816 ≤ (j : ℕ) ∧ (j : ℕ) - 2816 < 256) by omega), if_neg h5, add_zero]
  by_cases h6 : (j : ℕ) < 4096
  · rw [dif_pos (show 3072 ≤ (j : ℕ) ∧ (j : ℕ) - 3072 < 1024 by omega), if_pos h6, row_of x6 n _ (by omega)]
    repeat rw [dif_neg (by omega)]
    simp only [zero_add]
  rw [dif_neg (show ¬(3072 ≤ (j : ℕ) ∧ (j : ℕ) - 3072 < 1024) by omega), if_neg h6, add_zero, dif_pos (by omega), row_of x7 n _ (by omega)]

end Cert.Train.Asm

end
-- ==== Proof.AsmValue.lean ====
/-
  The call that assembles the gradient of the projected input: its frames, and its value.
-/
module

public import proofs.«01_k».proof.Defs
public import proofs.«01_k».proof.Proof.AsmBlock
public import proofs.«01_k».proof.Proof.AsmRef
public import proofs.«01_k».proof.Proof.Gen.Assemble
public import proofs.«01_k».proof.Proof.Gen.AssembleRefIdeal.Run
public import Idealize.ShloMosaic.Lib.Quiescent

@[expose] public section

set_option maxRecDepth 16384

noncomputable section

namespace Cert.Train.Asm

open Idealize.ShloMosaic Idealize.ShloMosaic.TcCoe Idealize.SL Idealize.SL.Sem
open Cert.AssembleIdeal.Own

theorem frame_ideal : Cert.quiescent_AssembleIdeal := fun m ρ _ => Cert.AssembleIdeal.Own.frame (F := Idealize.ShloMosaic.Ideal) m ρ

theorem frame_bits : Cert.quiescent_Assemble := fun m ρ _ => Eq.mp (by sl_kernel_rfl) (@Cert.AssembleIdeal.Own.frame Bits _ m ρ)

theorem frame_ref : Cert.quiescent_AssembleRefIdeal := fun m ρ _ =>
  (θ_run _ _ _).mono (fun r h => ⟨fun c => (h c).2, sem_eq_zero_of_no_sems rfl r.2⟩) (Cert.AssembleRefIdeal.Value.run (F := Ideal) m ρ)

/-- The call's array is the derivative's. -/
theorem value : Cert.algebraic_AssembleIdeal_AssembleRefIdeal := by
  intro m g m' g' hpre hargs
  refine ⟨fun c => allArr m c, ?_, ?_⟩
  · refine (θ_run _ _ _).mono (fun r h c => ?_) (θ_run_and (Cert.AssembleIdeal.Own.frame (F := Idealize.ShloMosaic.Ideal) m g) (run_main (F := Idealize.ShloMosaic.Ideal) m g))
    exact ⟨((h.2.1 c).1 17).trans (final17 m c), h.1.1 c⟩
  · refine (θ_run _ _ _).mono (fun r h c => ?_) (Cert.AssembleRefIdeal.Value.run (F := Ideal) m' g')
    obtain ⟨h0, ha⟩ := h c
    obtain ⟨a0, a1, a2, a3, a4, a5, a6, a7⟩ := hargs c
    refine ⟨h0.trans ((Cert.AssembleRefIdeal.Read.val_main_v134_eq m' c).trans ?_), ha⟩
    rw [a0, a1, a2, a3, a4, a5, a6, a7]
    funext j; idx_vars j
    exact val_ref _ _ _ _ _ _ _ _ j0 j1

end Cert.Train.Asm

end
-- ==== Proof.LossBlock.lean ====
/-
  What one block of 512 rows of the loss call computes, in real numbers.
-/
module

public import proofs.«01_k».proof.Proof.NormMath
public import proofs.«01_k».proof.Proof.Gen.LossIdeal.Value
public import Idealize.ShloMosaic.Lib.Pointwise

@[expose] public section

set_option maxRecDepth 16384

noncomputable section

namespace Cert.Train

open Idealize.ShloMosaic
open scoped BigOperators
open Cert.LossIdeal Cert.LossIdeal.Gen

/-- The error of a row's normalised prediction. -/
def er (x g t : Fin 1024 → ℝ) (k : Fin 1024) : ℝ := x k * rs x * g k - t k

/-- The row's part of the gain's gradient. -/
def dgRow (x g t : Fin 1024 → ℝ) (k : Fin 1024) : ℝ := er x g t k * (1 / 1024) * (x k * rs x)

/-- The row's mean squared error. -/
def lossRow (x g t : Fin 1024 → ℝ) : ℝ := (∑ k, er x g t k * er x g t k) / 1024

/-- The gradient of the row as the call writes it. -/
def dxRow (x g t : Fin 1024 → ℝ) : Fin 1024 → ℝ := normDx x g fun k => er x g t k * (1 / 1024)

section Block
variable (v0 v15 : Vec Ideal S512x1024 .f32) (v1 : Vec Ideal S1x1024 .f32)
variable (X T : Fin 512 → Fin 1024 → ℝ) (G : Fin 1024 → ℝ)
variable (h0 : ∀ r l, v0 (ix2 r l) = ((X r l : ℝ) : EReal)) (h1 : ∀ l, v1 (ix2 0 l) = ((G l : ℝ) : EReal))
variable (h15 : ∀ r l, v15 (ix2 r l) = ((T r l : ℝ) : EReal))

include h0 in
theorem pay6_apply (r : Fin 512) : k0_pay6 v0 (ix2 r 0) = ((rs (X r) : ℝ) : EReal) := by
  pointwise [k0_pay6]
  simp only [h0, lit_1024, lit_eps, ← EReal.coe_mul, coe_sum]
  rw [div_real (by norm_num), ← EReal.coe_add]
  exact rsqrt_pos (ms_pos (X r))

include h0 in
theorem pay7_apply (r : Fin 512) (l : Fin 1024) : k0_pay7 v0 (ix2 r l) = ((X r l * rs (X r) : ℝ) : EReal) := by
  pointwise [k0_pay7]
  rw [pay6_apply v0 X h0, h0, EReal.coe_mul]

include h0 h1 h15 in
theorem pay8_apply (r : Fin 512) (l : Fin 1024) : k0_pay8 v0 v1 v15 (ix2 r l) = ((er (X r) G (T r) l : ℝ) : EReal) := by
  pointwise [k0_pay8, k0_pay5]
  rw [pay7_apply v0 X h0, h1, h15, ← EReal.coe_mul, ← EReal.coe_sub]; rfl

include h0 h1 h15 in
theorem pay10_apply (r : Fin 512) (l : Fin 1024) : k0_pay10 v0 v1 v15 (ix2 r l) = ((er (X r) G (T r) l * (1 / 1024) : ℝ) : EReal) := by
  pointwise [k0_pay10]
  rw [pay8_apply v0 v15 v1 X T G h0 h1 h15, lit_inv1024, ← EReal.coe_mul]

include h0 h1 h15 in
theorem pay9_apply : k0_pay9 v0 v1 v15 (ix2 0 0) = ((1 / 2 * ∑ r, lossRow (X r) G (T r) : ℝ) : EReal) := by
  pointwise [k0_pay9]
  simp only [pay8_apply v0 v15 v1 X T G h0 h1 h15, lit_1024, lit_half, ← EReal.coe_mul, coe_sum, div_real (show (1024 : ℝ) ≠ 0 by norm_num)]
  rfl

include h0 h1 h15 in
theorem pay11_apply (r : Fin 512) (l : Fin 1024) : k0_pay11 v0 v1 v15 (ix2 r l) = ((dxRow (X r) G (T r) l : ℝ) : EReal) := by
  pointwise [k0_pay11, k0_pay5]
  simp only [pay6_apply v0 X h0, pay7_apply v0 X h0, pay10_apply v0 v15 v1 X T G h0 h1 h15, h1, lit_1024, ← EReal.coe_mul, coe_sum,
    div_real (show (1024 : ℝ) ≠ 0 by norm_num), ← EReal.coe_sub]
  rfl

include h0 h1 h15 in
theorem pay1_apply (a : Fin 8) (l : Fin 1024) :
    k0_pay1 (k0_pay7 v0) (k0_pay10 v0 v1 v15) (ix2 a l) = ((∑ r, dgRow (X r) G (T r) l : ℝ) : EReal) := by
  pointwise [k0_pay1]
  simp only [pay7_apply v0 X h0, pay10_apply v0 v15 v1 X T G h0 h1 h15, ← EReal.coe_mul, coe_sum]
  rfl

include h0 h1 h15 in
theorem pay2_apply (a : Fin 8) (l : Fin 1024) :
    k0_pay2 (k0_pay9 v0 v1 v15) (ix2 a l) = ((1 / 2 * ∑ r, lossRow (X r) G (T r) : ℝ) : EReal) := by
  pointwise [k0_pay2]
  exact pay9_apply v0 v15 v1 X T G h0 h1 h15

end Block

end Cert.Train

end
-- ==== Proof.LossArr.lean ====
/-
  The loss call's three arrays after its run: each row's gradient, and the sums over all rows of the gain's gradient
  and of the loss, collected block after block.
-/
module

public import proofs.«01_k».proof.Proof.LossBlock
public import Idealize.ShloMosaic.Lib.Pipeline.ValueKit
public import Idealize.ShloMosaic.Lib.Claim

@[expose] public section

set_option maxRecDepth 16384

noncomputable section

namespace Cert.Train

open Idealize.ShloMosaic Idealize.ShloMosaic.TcCoe Idealize.SL.Sem
open Idealize.ShloMosaic.Pipeline (Dat)
open scoped BigOperators
open Cert.LossIdeal Cert.LossIdeal.Gen

variable (m : (ℓ : Loc nD τ sig) → Buf (Elt Ideal) ℓ) (c : Dev nD)
variable (X T : Fin 4096 → Fin 1024 → ℝ) (G : Fin 1024 → ℝ)

/-- The call's arguments are the real arrays `X`, `G`, `T`. -/
structure LossArgs : Prop where
  x : ∀ r l, m ((c : Thread nD τ).loc main_arg0) (ix2 r l) = ((X r l : ℝ) : EReal)
  g : ∀ l, m ((c : Thread nD τ).loc main_arg1) (ix1 l) = ((G l : ℝ) : EReal)
  t : ∀ r l, m ((c : Thread nD τ).loc main_arg2) (ix2 r l) = ((T r l : ℝ) : EReal)

theorem N8 : cfg0.N = 8 := N_0

/-- Row `r` of block `n`. -/
def rowOf (n : Fin cfg0.N) (r : Fin 512) : Fin 4096 := ⟨n.val * 512 + r.val, by have := n.isLt; have hN : cfg0.N = 8 := N8; omega⟩

theorem idxs : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0])

variable {m c X T G} (h : LossArgs m c X T G)
include h

theorem blk0 (t : Fin cfg0.N) (r : Fin 512) (l : Fin 1024) : iblk m c 0 t (ix2 r l) = ((X (rowOf t r) l : ℝ) : EReal) := by
  rw [← h.x]
  blk_ext [iblk, V, idxs t, rowOf]

theorem blk2 (t : Fin cfg0.N) (r : Fin 512) (l : Fin 1024) : iblk m c 2 t (ix2 r l) = ((T (rowOf t r) l : ℝ) : EReal) := by
  rw [← h.t]
  blk_ext [iblk, V, idxs t, rowOf]

theorem blk1 (t : Fin cfg0.N) (l : Fin 1024) : iblk m c 1 t (ix2 0 l) = ((G l : ℝ) : EReal) := by
  rw [← h.g]
  blk_simp [iblk, idxs t]
  entry_read
  pointwise
  blk_ext [idxs t]

/-- Block `t`'s part of the gain's gradient, and of the loss. -/
def dgBlk (X T : Fin 4096 → Fin 1024 → ℝ) (G : Fin 1024 → ℝ) (l : Fin 1024) (t : Fin cfg0.N) : ℝ :=
  ∑ r, dgRow (X (rowOf t r)) G (T (rowOf t r)) l
def lossBlk (X T : Fin 4096 → Fin 1024 → ℝ) (G : Fin 1024 → ℝ) (t : Fin cfg0.N) : ℝ :=
  1 / 2 * ∑ r, lossRow (X (rowOf t r)) G (T (rowOf t r))

theorem blkDg (t : Fin cfg0.N) (a : Fin 8) (l : Fin 1024) :
    k0_pay1 (k0_pay7 (iblk m c 0 t)) (k0_pay10 (iblk m c 0 t) (iblk m c 1 t) (iblk m c 2 t)) (ix2 a l) = ((dgBlk X T G l t : ℝ) : EReal) :=
  pay1_apply _ _ _ _ _ G (blk0 h t) (blk1 h t) (blk2 h t) a l

theorem blkLoss (t : Fin cfg0.N) (a : Fin 8) (l : Fin 1024) :
    k0_pay2 (k0_pay9 (iblk m c 0 t) (iblk m c 1 t) (iblk m c 2 t)) (ix2 a l) = ((lossBlk X T G t : ℝ) : EReal) :=
  pay2_apply _ _ _ _ _ G (blk0 h t) (blk1 h t) (blk2 h t) a l

/-- After point `n` the two collecting blocks hold the sums over blocks `0 … n`. -/
theorem outs_sum (a : Fin 8) (l : Fin 1024) : ∀ (n : ℕ) (hn : n < cfg0.N),
    (outsAt0 m c n hn).2.1 (ix2 a l) = ((∑ s : Fin (n + 1), dgBlk X T G l ⟨s.val, by omega⟩ : ℝ) : EReal)
      ∧ (outsAt0 m c n hn).2.2 (ix2 a l) = ((∑ s : Fin (n + 1), lossBlk X T G ⟨s.val, by omega⟩ : ℝ) : EReal)
  | 0, hn => by
    rw [outsAt0_A m c ⟨0, hn⟩ rfl (by show ¬1 ≤ 0; omega)]
    constructor
    · dsimp only; frame_out
      rw [blkDg h]
      simp
    · dsimp only; frame_out
      rw [blkLoss h]
      simp
  | n + 1, hn => by
    obtain ⟨ih1, ih2⟩ := outs_sum a l n (Nat.lt_of_succ_lt hn)
    have hN : cfg0.N = 8 := N8
    rw [outsAt0_B m c ⟨n + 1, hn⟩ (by show ¬(n + 1) % 8 = 0; omega) (by show 1 ≤ n + 1; omega)]
    constructor
    · dsimp only; frame_out
      pointwise [k0_pay3]
      rw [blkDg h, Fin.sum_univ_castSucc, EReal.coe_add]
      exact congrArg₂ (· + ·) ih1 rfl
    · dsimp only; frame_out
      pointwise [k0_pay4]
      rw [blkLoss h, Fin.sum_univ_castSucc, EReal.coe_add]
      exact congrArg₂ (· + ·) ih2 rfl

/-- The first array: each row's gradient. -/
theorem final3 : (dats m 0 c).arrAt 3 cfg0.N = fun j : S4096x1024.Idx => ((dxRow (X (j 0)) G (T (j 0)) (j 1) : ℝ) : EReal) := by
  refine (dats m 0 c).arrAt_eq_of_covers 3 _ (by decide +kernel) fun t hf y => ?_
  have hN : cfg0.N = 8 := N8
  have key : (outsAt0 m c t.val t.isLt).1 = k0_pay11 (iblk m c 0 t) (iblk m c 1 t) (iblk m c 2 t) := by
    by_cases h0 : t.val % 8 = 0
    · rw [outsAt0_A m c t h0 (by have := lt_of_lt_of_eq t.isLt hN; omega)]; funext y; dsimp only; frame_out
    · rw [outsAt0_B m c t h0 (by omega)]; funext y; dsimp only; frame_out
  blk_simp; rw [after0_3, key]
  idx_vars y
  have e : (win0_3.rect t).emb (ix2 y0 y1) = ix2 (rowOf t y0) y1 := by
    funext a; apply Fin.ext
    rw [Pipeline.Window.rect_emb_val win0_3 t (ix2 y0 y1) a, (idxs t).2.2.2.1]
    fin_cases a
    · rfl
    · exact Nat.zero_add _
  show _ = ((dxRow (X ((win0_3.rect t).emb (ix2 y0 y1) 0)) G (T ((win0_3.rect t).emb (ix2 y0 y1) 0)) ((win0_3.rect t).emb (ix2 y0 y1) 1) : ℝ) : EReal)
  rw [e]
  exact pay11_apply _ _ _ _ _ G (blk0 h t) (blk1 h t) (blk2 h t) y0 y1

/-- Sums over the eight blocks are sums over all rows. -/
theorem dg_total (l : Fin 1024) (a : ∀ s : Fin 8, s.val < cfg0.N) :
    ∑ s : Fin 8, dgBlk X T G l ⟨s.val, a s⟩ = ∑ i, dgRow (X i) G (T i) l :=
  Fin.sum_mul_add_fin 8 512 fun i : Fin 4096 => dgRow (X i) G (T i) l

theorem loss_total (a : ∀ s : Fin 8, s.val < cfg0.N) :
    ∑ s : Fin 8, lossBlk X T G ⟨s.val, a s⟩ = 1 / 2 * ∑ i, lossRow (X i) G (T i) := by
  unfold lossBlk
  rw [← Finset.mul_sum]
  exact congrArg _ (Fin.sum_mul_add_fin 8 512 fun i : Fin 4096 => lossRow (X i) G (T i))

/-- The second: the gain's gradient, in each of the eight rows. -/
theorem final4 : (dats m 0 c).arrAt 4 cfg0.N = fun j : S8x1024.Idx => ((∑ i, dgRow (X i) G (T i) (j 1) : ℝ) : EReal) := by
  refine (dats m 0 c).arrAt_eq_of_after_last 4 ⟨7, by rw [N8]; omega⟩ (by decide +kernel) _ fun j => ?_
  refine (congrFun (after0_4 m c ⟨7, by rw [N8]; omega⟩) _).trans ?_
  idx_vars j
  refine (outs_sum h j0 j1 7 (by rw [N8]; omega)).1.trans ?_
  exact congrArg _ (dg_total h j1 _)

/-- The third: the loss, in every place. -/
theorem final5 : (dats m 0 c).arrAt 5 cfg0.N = fun j : S8x1024.Idx => ((1 / 2 * ∑ i, lossRow (X i) G (T i) : ℝ) : EReal) := by
  refine (dats m 0 c).arrAt_eq_of_after_last 5 ⟨7, by rw [N8]; omega⟩ (by decide +kernel) _ fun j => ?_
  refine (congrFun (after0_5 m c ⟨7, by rw [N8]; omega⟩) _).trans ?_
  idx_vars j
  refine (outs_sum h j0 j1 7 (by rw [N8]; omega)).2.trans ?_
  exact congrArg _ (loss_total h _)

end Cert.Train

end
-- ==== Proof.LossRef.lean ====
/-
  What the derivative of the loss's own lines holds, element by element, in real numbers.
-/
module

public import proofs.«01_k».proof.Proof.LossBlock
public import proofs.«01_k».proof.Proof.Gen.LossRefIdeal.Read

@[expose] public section

set_option maxRecDepth 16384

noncomputable section

namespace Cert.Train

open Idealize.ShloMosaic
open scoped BigOperators
open Cert.LossRefIdeal Cert.LossRefIdeal.Gen Cert.LossRefIdeal.Read

section Ref
variable (x t : Vec Ideal S4096x1024 .f32) (g : Vec Ideal S1024 .f32)
variable (X T : Fin 4096 → Fin 1024 → ℝ) (G : Fin 1024 → ℝ)
variable (hx : ∀ r l, x (ix2 r l) = ((X r l : ℝ) : EReal)) (hg : ∀ l, g (ix1 l) = ((G l : ℝ) : EReal))
variable (ht : ∀ r l, t (ix2 r l) = ((T r l : ℝ) : EReal))

include hx in
theorem ref6 (r : Fin 4096) : val_main_v6 x (ix2 r 0) = ((ms (X r) : ℝ) : EReal) := by
  pointwise [val_main_v6, val_main_v5, val_main_v4, val_main_v3, val_main_v2, val_main_v1, val_main_v0, val_main_cst, val_main_cst_0, val_main_cst_1]
  simp only [hx, lit_1024, lit_eps, lit_zero, ← EReal.coe_mul, coe_sum, EReal.coe_zero, zero_add]
  rw [div_real (by norm_num), ← EReal.coe_add]; rfl

include hx in
theorem ref7 (r : Fin 4096) : val_main_v7 x (ix2 r 0) = ((rs (X r) : ℝ) : EReal) := by
  pointwise [val_main_v7]
  rw [ref6 x X hx, rsqrt_pos (ms_pos _)]; rfl

include hx in
theorem ref10 (r : Fin 4096) (a : Fin 1) : val_main_v10 x (ix2 r a) = ((-1 / 2 * (rs (X r) / ms (X r)) : ℝ) : EReal) := by
  obtain rfl : a = 0 := Subsingleton.elim _ _
  pointwise [val_main_v10, val_main_v9, val_main_v8, val_main_cst_2]
  rw [ref6 x X hx, ref7 x X hx, lit_neg_half, div_real (ms_pos _).ne', ← EReal.coe_mul]

include hx in
theorem ref12 (r : Fin 4096) (l : Fin 1024) : val_main_v12 x (ix2 r l) = ((X r l * rs (X r) : ℝ) : EReal) := by
  pointwise [val_main_v12, val_main_v11]
  rw [ref7 x X hx, hx, EReal.coe_mul]

include hx hg ht in
theorem ref16 (r : Fin 4096) (l : Fin 1024) : val_main_v16 x g t (ix2 r l) = ((er (X r) G (T r) l : ℝ) : EReal) := by
  pointwise [val_main_v16, val_main_v15, val_main_v14, val_main_v13]
  rw [ref12 x X hx, hg, ht, ← EReal.coe_mul, ← EReal.coe_sub]; rfl

include hx hg ht in
theorem ref24 : val_main_v24 x g t ix0 = ((1 / 2 * ∑ r, lossRow (X r) G (T r) : ℝ) : EReal) := by
  pointwise [val_main_v24, val_main_v23, val_main_v22, val_main_v21, val_main_v20, val_main_v17, val_main_cst_4, val_main_cst_5, val_main_cst_6, val_main_cst_7]
  simp only [ref16 x t g X T G hx hg ht, lit_1024, lit_half, lit_zero, ← EReal.coe_mul, coe_sum, EReal.coe_zero, zero_add,
    div_real (show (1024 : ℝ) ≠ 0 by norm_num)]
  rfl

include hx hg ht in
theorem ref30 (r : Fin 4096) (l : Fin 1024) : val_main_v30 x g t (ix2 r l) = ((er (X r) G (T r) l * (1 / 1024) : ℝ) : EReal) := by
  pointwise [val_main_v30, val_main_v29, val_main_v28, val_main_v27, val_main_v26, val_main_v25, val_main_v19, val_main_v18, val_main_cst_3, val_main_cst_8, val_main_cst_9, val_main_cst_10]
  simp only [ref16 x t g X T G hx hg ht, lit_1024, lit_half, lit_one, lit_two, ← EReal.coe_mul,
    div_real (show (1024 : ℝ) ≠ 0 by norm_num)]
  congr 1; ring

include hx hg ht in
theorem ref51 (a : Fin 8) (l : Fin 1024) : val_main_v51 x g t (ix2 a l) = ((∑ r, dgRow (X r) G (T r) l : ℝ) : EReal) := by
  pointwise [val_main_v51, val_main_v36, val_main_v33, val_main_v32, val_main_v31, val_main_cst_11, val_main_cst_12]
  simp only [ref12 x X hx, ref30 x t g X T G hx hg ht, lit_zero, ← EReal.coe_mul, coe_sum, EReal.coe_zero, zero_add]
  rw [Finset.univ_unique, Finset.sum_singleton]
  simp only [dgRow, mul_comm]

include hx hg ht in
theorem ref52 (a : Fin 8) (l : Fin 1024) : val_main_v52 x g t (ix2 a l) = ((1 / 2 * ∑ r, lossRow (X r) G (T r) : ℝ) : EReal) := by
  pointwise [val_main_v52]
  exact ref24 x t g X T G hx hg ht

include hx hg ht in
theorem ref50 (r : Fin 4096) (l : Fin 1024) : val_main_v50 x g t (ix2 r l) = ((dxRow (X r) G (T r) l : ℝ) : EReal) := by
  pointwise [val_main_v50, val_main_v49, val_main_v48, val_main_v47, val_main_v46, val_main_v45, val_main_v44, val_main_v43, val_main_v42, val_main_v41, val_main_v40, val_main_v39, val_main_v38, val_main_v37, val_main_v35, val_main_v34, val_main_v13, val_main_cst_13, val_main_cst_14, val_main_cst_15]
  simp only [ref7 x X hx, ref10 x X hx, ref30 x t g X T G hx hg ht, hx, hg, lit_1024, lit_zero, ← EReal.coe_mul, coe_sum, EReal.coe_zero, zero_add,
    div_real (show (1024 : ℝ) ≠ 0 by norm_num), Finset.univ_unique, Finset.sum_singleton, ← EReal.coe_add]
  rw [dxRow, normDx_eq]

end Ref

end Cert.Train

end
-- ==== Proof.LossPre.lean ====
/-
  The loss call's precondition read as real arrays: arguments that lie strictly between minus and plus infinity are real.
-/
module

public import proofs.«01_k».proof.Proof.LossArr
public import proofs.«01_k».proof.Proof.LossRef
public import proofs.«01_k».proof.Proof.Gen.Pre_loss_finite

@[expose] public section

set_option maxRecDepth 16384

noncomputable section

namespace Cert.Train

open Idealize.ShloMosaic Idealize.ShloMosaic.TcCoe

variable {x t : Vec Ideal ⟨2, ![4096, 1024]⟩ .f32} {g : Vec Ideal ⟨1, ![1024]⟩ .f32}

theorem pre_reals (h1 : (Cert.Pre_loss_finite.fn (F := Ideal) x g t).1 = fun _ => 1#1)
    (h2 : (Cert.Pre_loss_finite.fn (F := Ideal) x g t).2.1 = fun _ => 1#1)
    (h3 : (Cert.Pre_loss_finite.fn (F := Ideal) x g t).2.2 = fun _ => 1#1) :
    ∃ (X T : Fin 4096 → Fin 1024 → ℝ) (G : Fin 1024 → ℝ), (∀ r l, x (ix2 r l) = ((X r l : ℝ) : EReal))
      ∧ (∀ l, g (ix1 l) = ((G l : ℝ) : EReal)) ∧ ∀ r l, t (ix2 r l) = ((T r l : ℝ) : EReal) := by
  have a : ∀ r l, ∃ y : ℝ, x (ix2 r l) = y := fun r l => real_of_test _ (congrFun h1 (ix2 r l))
  have b : ∀ l, ∃ y : ℝ, g (ix1 l) = y := fun l => real_of_test _ (congrFun h2 (ix1 l))
  have d : ∀ r l, ∃ y : ℝ, t (ix2 r l) = y := fun r l => real_of_test _ (congrFun h3 (ix2 r l))
  choose X hX using a
  choose G hG using b
  choose T hT using d
  exact ⟨X, T, G, hX, hG, hT⟩

end Cert.Train

end
-- ==== Proof.SbRules.lean ====
/- Reading and writing a part of a buffer that is owned whole, with the effect told by the contents as a
   function: a load through a rectangle reads the contents at the rectangle's elements, a store through one
   replaces them there and leaves the others. -/
module

public import Idealize.ShloMosaic.Lib.Memref
public import Idealize.ShloMosaic.Lib.Pipeline.Kit

@[expose] public section

noncomputable section

namespace Cert.SbRules

open Idealize.ShloMosaic Idealize.ShloMosaic.TcCoe
open Idealize.SL Idealize.SL.RA Idealize.SL.BI Idealize.SL.Sem Idealize.SL.ProofMode
open Idealize.SL.BI.BIBase Idealize.SL.BI.Laws
open scoped Idealize.SL.BI

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ)
variable {cs : CoreSpace} {s : Shape} {e : EltTy}
local notation "𝕄" => MT nD τ sig Ix Val Name U Lvl
variable (bd : Option 𝒱.V) (E : Set Name) {α : Type} {Q : α → sProp (MT nD τ sig Ix Val Name U Lvl)}

/-- What a load through the rectangle `r` reads of contents `X`. -/
abbrev pick {e : EltTy} (r : Rect s) (X : s.Idx → Val e) : r.shape.Idx → Val e := fun j => X (r.emb j)

theorem load_owns {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (pick r X)) Q)
          -∗ wp frame (wpE defs 𝒱 c bd) E (.op (.load m r hl) k) Q) := by
  iintro H K
  ihave H' := (show owns c m q X ⊢ iprop(∃ g, ⌜m.view.read Val g = X⌝ ∗ m.view.loc c ↦[m.view.set]{q} g) from .rfl) $$ H
  icases H' with ⟨%g, %hg, Hg⟩
  subst hg
  have h := wp_load_rect (defs := defs) (Γ := []) 𝒱 c bd E (m := m) (r := r) (hl := hl) (k := k) (Q := Q)
    (S := m.view.set) (q := q) (f := g) (View.set_slice_subset _ _)
  iapply (show iprop(m.view.loc c ↦[m.view.set]{q} g)
    ⊢ iprop(((m.view.loc c ↦[m.view.set]{q} g) -∗ wp frame (wpE defs 𝒱 c bd) E (k (pick r (m.view.read Val g))) Q)
        -∗ wp frame (wpE defs 𝒱 c bd) E (.op (.load m r hl) k) Q) from h) $$ Hg
  iintro Hg
  iapply K
  iapply (show iprop(m.view.loc c ↦[m.view.set]{q} g) ⊢ owns c m q (m.view.read Val g) from owns_intro _ _ _ _)
  iexact Hg

theorem store_owns {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) E (k ⟨⟩) Q)
          -∗ wp frame (wpE defs 𝒱 c bd) E (.op (.store m r w Finset.univ hx hm) k) Q) := by
  iintro H K
  ihave H' := (show owns c m fullShare X ⊢ iprop(∃ g, ⌜m.view.read Val g = X⌝ ∗ m.view.loc c ↦[m.view.set]{fullShare} g) from .rfl) $$ H
  icases H' with ⟨%g, %hg, Hg⟩
  subst hg
  have h := wp_store (defs := defs) (Γ := []) 𝒱 c bd E (m := m) (r := r) (w := w) (hx := hx) (hm := hm) (k := k) (Q := Q)
    (S := m.view.set) (f := g) ((View.setOn_subset_set _ _).trans (View.set_slice_subset _ _))
  iapply (show iprop(m.view.loc c ↦[m.view.set]{fullShare} g)
    ⊢ iprop(((m.view.loc c ↦[m.view.set]{fullShare} ((m.access r).write Val g w Finset.univ))
          -∗ wp frame (wpE defs 𝒱 c bd) E (k ⟨⟩) Q)
        -∗ wp frame (wpE defs 𝒱 c bd) E (.op (.store m r w Finset.univ hx hm) k) Q) from h) $$ Hg
  iintro Hg
  iapply K
  have h : r.overlay (m.view.read Val g) w = m.view.read Val ((m.access r).write Val g w Finset.univ) := by
    funext y
    by_cases hy : y ∈ r.set
    · rw [← Rect.map_emb_univ] at hy
      obtain ⟨x, -, rfl⟩ := Finset.mem_map.mp hy
      rw [Rect.overlay_emb]
      exact (View.read_slice_write_emb r g w (Finset.mem_univ x)).symm
    · rw [Rect.overlay_of_not_mem _ _ _ hy]
      exact (View.read_slice_write_of_not_mem r g w _ (by rw [Rect.map_emb_univ]; exact hy)).symm
  rw [h]
  iapply (show iprop(m.view.loc c ↦[m.view.set]{fullShare} ((m.access r).write Val g w Finset.univ))
    ⊢ owns c m fullShare (m.view.read Val ((m.access r).write Val g w Finset.univ)) from owns_intro _ _ _ _)
  iexact Hg

/-- The load as the first command of a sequence. -/
theorem load_seq {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (pick r X)) Q)
          -∗ wp frame (wpE defs 𝒱 c bd) E (Prog.lift (.load m r hl) >>= k) Q) :=
  load_owns 𝒱 c bd E

/-- The store as the first command of a sequence. -/
theorem store_seq {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) E (k ⟨⟩) Q)
          -∗ wp frame (wpE defs 𝒱 c bd) E (Prog.lift (.store m r w Finset.univ hx hm) >>= k) Q) :=
  store_owns 𝒱 c bd E

end Cert.SbRules
-- ==== Proof.SbTrip.lean ====
/- One trip of the loop over key tiles: what it does to the buffers, as a function of their contents.

   A trip finishes the tile after the current one (its `dz` and weights, left by the trip before, go into the
   accumulators of dq, dk and dv), works out the weights and `dz` of the current tile from its scores, and forms the
   scores of the next. The four places of a query block in its tile do the same to other tiles: one program, `trip`,
   with the tiles' offsets as parameters. -/
module

public import proofs.«01_k».proof.Proof.SbRules
public import proofs.«01_k».proof.Proof.Gen.SbBwdIdeal.Skeleton

@[expose] public section

noncomputable section

namespace Cert.SbBwdIdeal.Own

open Idealize.ShloMosaic Idealize.ShloMosaic.TcCoe
open Idealize.SL Idealize.SL.RA Idealize.SL.BI Idealize.SL.Sem Idealize.SL.ProofMode
open Idealize.SL.BI.BIBase Idealize.SL.BI.Laws
open scoped Idealize.SL.BI
open Cert.SbBwdIdeal.Gen Cert.SbRules

variable {F : FTy → Type} [FloatOps F] [Named F]
local notation "𝕄G" => MT nD τ sig Unit (Elt F) ℕ (UR sig nD τ) ℕ

/-- What a query block hands to every trip: the masks of the heads' lanes, the two triangles, the query and the
    cotangent rows with their other heads' lanes at zero, both transposed, and the row sums of do·o. -/
structure Env (F : FTy → Type) [FloatOps F] where
  (v23 v28 v33 v38 : IVec S128x256 1)
  (v45 v52 : FVec F S128x128 .bf16)
  (v66 v78 : FVec F S512x256 .bf16)
  (v89 v102 : FVec F S256x512 .bf16)
  (v109 : FVec F S512x1 .f32)

/-- What the trips change: dq's accumulator, the two running suffix sums, the accumulators of dk and dv, the two
    slots of the scores, of do·v, of dz and of the weights. -/
structure St (F : FTy → Type) [FloatOps F] where
  dq : FVec F S128x256 .f32
  c : FVec F S512x1 .f32
  ce : FVec F S512x1 .f32
  (X8 X9 : S256x4096.Idx → Elt F .f32)
  (X10 X11 : S2x1x512x512.Idx → Elt F .f32)
  (X12 X13 : S2x1x512x512.Idx → Elt F .bf16)

/-- The offsets of a trip: the tile after the current one among the rows of k, and among the columns of dk and dv;
    the current slot; the rows of the next tile; the other slot. -/
structure Offs where
  (o3 : Fin S4096x256.rank → ℕ) (h3 : ∀ a, o3 a + S512x256.size a ≤ S4096x256.size a)
  (o4 : Fin S2x1x512x512.rank → ℕ) (h4 : ∀ a, o4 a + S1x1x512x512.size a ≤ S2x1x512x512.size a)
  (o5 : Fin S256x4096.rank → ℕ) (h5 : ∀ a, o5 a + S256x512.size a ≤ S256x4096.size a)
  (o6 : Fin S4096x256.rank → ℕ) (h6 : ∀ a, o6 a + S512x256.size a ≤ S4096x256.size a)
  (o7 : Fin S2x1x512x512.rank → ℕ) (h7 : ∀ a, o7 a + S1x1x512x512.size a ≤ S2x1x512x512.size a)
  p7 : (Rect.unit (s := S2x1x512x512) o7 S1x1x512x512.size h7).PackedRows (EltTy.packing .bf16)

abbrev Offs.r3 (o : Offs) : Rect S4096x256 := Rect.unit o.o3 S512x256.size o.h3
abbrev Offs.r4 (o : Offs) : Rect S2x1x512x512 := Rect.unit o.o4 S1x1x512x512.size o.h4
abbrev Offs.r5 (o : Offs) : Rect S256x4096 := Rect.unit o.o5 S256x512.size o.h5
abbrev Offs.r6 (o : Offs) : Rect S4096x256 := Rect.unit o.o6 S512x256.size o.h6
abbrev Offs.r7 (o : Offs) : Rect S2x1x512x512 := Rect.unit o.o7 S1x1x512x512.size o.h7

/-! ## The values of a trip -/

/-- The weights of a tile from its scores `z` and the suffix sums `c` behind it. -/
def tW (v : Env F) (c : FVec F S512x1 .f32) (z : Vec F S1x1x512x512 .f32) : FVec F S512x512 .bf16 :=
  k0_pay31 c (k0_pay19 z) (k0_pay22 z) (k0_pay23 z) (k0_pay24 z) (k0_pay25 v.v45 z)
/-- The suffix sums with the tile's own sums added. -/
def tC (c : FVec F S512x1 .f32) (z : Vec F S1x1x512x512 .f32) : FVec F S512x1 .f32 :=
  k0_pay30 c (k0_pay21 z) (k0_pay22 z) (k0_pay23 z) (k0_pay24 z)
/-- dz of a tile from its scores, its weights, do·v and the suffix sums of their products behind it. -/
def tDz (v : Env F) (ce : FVec F S512x1 .f32) (z : Vec F S1x1x512x512 .f32) (w : FVec F S512x512 .bf16)
    (gv : Vec F S1x1x512x512 .f32) : FVec F S1x1x512x512 .bf16 :=
  k0_pay105 v.v109 (k0_pay19 z) (k0_pay32 w gv) (k0_pay34 w gv) (k0_pay35 w gv) (k0_pay37 v.v52 w gv)
    (k0_pay39 v.v52 ce w gv) (k0_pay40 ce w gv) (k0_pay41 v.v52 w gv)
/-- Those suffix sums with the tile's own added. -/
def tCe (ce : FVec F S512x1 .f32) (w : FVec F S512x512 .bf16) (gv : Vec F S1x1x512x512 .f32) : FVec F S512x1 .f32 :=
  k0_pay104 (k0_pay33 w gv) (k0_pay34 w gv) (k0_pay35 w gv) (k0_pay40 ce w gv)

variable (c : Dev nD) (v : Env F) (o : Offs)
variable (arg3 arg4 : Memref sig .tc .vmem S4096x256 .f32) (arg8 arg9 : Memref sig .tc .vmem S256x4096 .f32)
variable (arg10 arg11 : Memref sig .tc .vmem S2x1x512x512 .f32)
variable (arg12 arg13 : Memref sig .tc .vmem S2x1x512x512 .bf16) (harg12 : arg12.IsWhole) (harg13 : arg13.IsWhole)

/-- One trip. -/
def trip (acc : FVec F S128x256 .f32 × FVec F S512x1 .f32 × FVec F S512x1 .f32) :
    Prog (TpuEff nD τ sig (Elt F) Λ₀ .tc) (FVec F S128x256 .f32 × FVec F S512x1 .f32 × FVec F S512x1 .f32) := do
  let kb : Vec F S512x256 .f32 ← Prog.lift (.load arg3 o.r3.toLoadRect (View.loadsAt_vmem h_S512x256))
  let dzb : Vec F S1x1x512x512 .bf16 ← Prog.lift (.load arg12 o.r4.toLoadRect (View.loadsAt_vmem h_S1x1x512x512))
  let wb : Vec F S1x1x512x512 .bf16 ← Prog.lift (.load arg13 o.r4.toLoadRect (View.loadsAt_vmem h_S1x1x512x512))
  let dk : Vec F S256x512 .f32 ← Prog.lift (.load arg8 o.r5.toLoadRect (View.loadsAt_vmem h_S256x512))
  let _ ← Prog.lift (.load arg8 o.r5.toLoadRect (View.loadsAt_vmem h_S256x512))
  Prog.lift (.store arg8 o.r5 (k0_pay16 (k0_pay14 v.v89 dzb) dk) Finset.univ (View.stores_vmem_bits_univ h_S256x512 rfl) (.inl rfl))
  let dv : Vec F S256x512 .f32 ← Prog.lift (.load arg9 o.r5.toLoadRect (View.loadsAt_vmem h_S256x512))
  let _ ← Prog.lift (.load arg9 o.r5.toLoadRect (View.loadsAt_vmem h_S256x512))
  Prog.lift (.store arg9 o.r5 (k0_pay17 (k0_pay15 v.v102 wb) dv) Finset.univ (View.stores_vmem_bits_univ h_S256x512 rfl) (.inl rfl))
  let z : Vec F S1x1x512x512 .f32 ← Prog.lift (.load arg10 o.r4.toLoadRect (View.loadsAt_vmem h_S1x1x512x512))
  let kn : Vec F S512x256 .f32 ← Prog.lift (.load arg3 o.r6.toLoadRect (View.loadsAt_vmem h_S512x256))
  let _ ← Prog.lift (.load arg10 o.r7.toLoadRect (View.loadsAt_vmem h_S1x1x512x512))
  Prog.lift (.store arg10 o.r7 (k0_pay26 v.v66 kn) Finset.univ (View.stores_vmem_bits_univ h_S1x1x512x512 rfl) (.inl rfl))
  let gv : Vec F S1x1x512x512 .f32 ← Prog.lift (.load arg11 o.r4.toLoadRect (View.loadsAt_vmem h_S1x1x512x512))
  let vn : Vec F S512x256 .f32 ← Prog.lift (.load arg4 o.r6.toLoadRect (View.loadsAt_vmem h_S512x256))
  let _ ← Prog.lift (.load arg11 o.r7.toLoadRect (View.loadsAt_vmem h_S1x1x512x512))
  Prog.lift (.store arg11 o.r7 (k0_pay38 v.v78 vn) Finset.univ (View.stores_vmem_bits_univ h_S1x1x512x512 rfl) (.inl rfl))
  let _ ← Prog.lift (.load arg12 o.r7.toLoadRect (View.loadsAt_vmem h_S1x1x512x512))
  Prog.lift (.store arg12 o.r7 (tDz v acc.2.2 z (tW v acc.2.1 z) gv) Finset.univ
    (View.stores_vmem h_S1x1x512x512 (harg12.storeExact_slice rfl _ o.p7) (fun _ => rfl)) (.inl rfl))
  let _ ← Prog.lift (.load arg13 o.r7.toLoadRect (View.loadsAt_vmem h_S1x1x512x512))
  Prog.lift (.store arg13 o.r7 (k0_pay106 (tW v acc.2.1 z)) Finset.univ
    (View.stores_vmem h_S1x1x512x512 (harg13.storeExact_slice rfl _ o.p7) (fun _ => rfl)) (.inl rfl))
  pure (k0_pay13 v.v23 v.v28 v.v33 v.v38 acc.1 kb dzb, tC acc.2.1 z, tCe acc.2.2 (tW v acc.2.1 z) gv)

/-- What a trip makes of the state, `X3` and `X4` the rows of k and v. -/
def tripSt (X3 X4 : S4096x256.Idx → Elt F .f32) (s : St F) : St F where
  dq := k0_pay13 v.v23 v.v28 v.v33 v.v38 s.dq (pick o.r3 X3) (pick o.r4 s.X12)
  c := tC s.c (pick o.r4 s.X10)
  ce := tCe s.ce (tW v s.c (pick o.r4 s.X10)) (pick o.r4 s.X11)
  X8 := o.r5.overlay s.X8 (k0_pay16 (k0_pay14 v.v89 (pick o.r4 s.X12)) (pick o.r5 s.X8))
  X9 := o.r5.overlay s.X9 (k0_pay17 (k0_pay15 v.v102 (pick o.r4 s.X13)) (pick o.r5 s.X9))
  X10 := o.r7.overlay s.X10 (k0_pay26 v.v66 (pick o.r6 X3))
  X11 := o.r7.overlay s.X11 (k0_pay38 v.v78 (pick o.r6 X4))
  X12 := o.r7.overlay s.X12 (tDz v s.ce (pick o.r4 s.X10) (tW v s.c (pick o.r4 s.X10)) (pick o.r4 s.X11))
  X13 := o.r7.overlay s.X13 (k0_pay106 (tW v s.c (pick o.r4 s.X10)))

/-- The buffers a trip works on, at a state. -/
def held (X3 X4 : S4096x256.Idx → Elt F .f32) (s : St F) : sProp 𝕄G :=
  iprop(owns (c.tc : Thread nD τ) arg3 fullShare X3 ∗ owns (c.tc : Thread nD τ) arg4 fullShare X4
    ∗ owns (c.tc : Thread nD τ) arg8 fullShare s.X8 ∗ owns (c.tc : Thread nD τ) arg9 fullShare s.X9
    ∗ owns (c.tc : Thread nD τ) arg10 fullShare s.X10 ∗ owns (c.tc : Thread nD τ) arg11 fullShare s.X11
    ∗ owns (c.tc : Thread nD τ) arg12 fullShare s.X12 ∗ owns (c.tc : Thread nD τ) arg13 fullShare s.X13)

theorem trip_wp (E : Set ℕ) (X3 X4 : S4096x256.Idx → Elt F .f32) (s : St F)
    {Q : FVec F S128x256 .f32 × FVec F S512x1 .f32 × FVec F S512x1 .f32 → sProp 𝕄G} :
    held c arg3 arg4 arg8 arg9 arg10 arg11 arg12 arg13 X3 X4 s
      ⊢ iprop((held c arg3 arg4 arg8 arg9 arg10 arg11 arg12 arg13 X3 X4 (tripSt v o X3 X4 s)
            -∗ Q ((tripSt v o X3 X4 s).dq, (tripSt v o X3 X4 s).c, (tripSt v o X3 X4 s).ce))
          -∗ wp frame (wpE (defs₀ (F := F)) Variants.none (c.tc : Thread nD τ) none) E
              (trip v o arg3 arg4 arg8 arg9 arg10 arg11 arg12 arg13 harg12 harg13 (s.dq, s.c, s.ce)) Q) := by
  unfold held trip
  dsimp only [tripSt]
  iintro ⟨H3, H4, H8, H9, H10, H11, H12, H13⟩ K
  iapply (load_seq _ _ _ _) $$ H3; iintro H3
  iapply (load_seq _ _ _ _) $$ H12; iintro H12
  iapply (load_seq _ _ _ _) $$ H13; iintro H13
  iapply (load_seq _ _ _ _) $$ H8; iintro H8
  iapply (load_seq _ _ _ _) $$ H8; iintro H8
  iapply (store_seq _ _ _ _) $$ H8; iintro H8
  iapply (load_seq _ _ _ _) $$ H9; iintro H9
  iapply (load_seq _ _ _ _) $$ H9; iintro H9
  iapply (store_seq _ _ _ _) $$ H9; iintro H9
  iapply (load_seq _ _ _ _) $$ H10; iintro H10
  iapply (load_seq _ _ _ _) $$ H3; iintro H3
  iapply (load_seq _ _ _ _) $$ H10; iintro H10
  iapply (store_seq _ _ _ _) $$ H10; iintro H10
  iapply (load_seq _ _ _ _) $$ H11; iintro H11
  iapply (load_seq _ _ _ _) $$ H4; iintro H4
  iapply (load_seq _ _ _ _) $$ H11; iintro H11
  iapply (store_seq _ _ _ _) $$ H11; iintro H11
  iapply (load_seq _ _ _ _) $$ H12; iintro H12
  iapply (store_seq _ _ _ _) $$ H12; iintro H12
  iapply (load_seq _ _ _ _) $$ H13; iintro H13
  iapply (store_seq _ _ _ _) $$ H13; iintro H13
  rw [wp_pure]; imodintro
  iapply K
  iframe

end Cert.SbBwdIdeal.Own
-- ==== Proof.SbPlace.lean ====
/- One query block: what the kernel does to the buffers, as a function of their contents.

   It handles the keys of its own tile that come before it or in it, forms the scores of the tile before, runs the
   trips over the tiles before that, and finishes the first tile. The four places of a query block in its tile
   differ in how many keys of that tile they look at and in nothing else: one program, `place`, with the widths and
   the values of the first tile as parameters. -/
module

public import proofs.«01_k».proof.Proof.SbTrip

@[expose] public section

noncomputable section

namespace Cert.SbBwdIdeal.Own

open Idealize.ShloMosaic Idealize.ShloMosaic.TcCoe
open Idealize.SL Idealize.SL.RA Idealize.SL.BI Idealize.SL.Sem Idealize.SL.ProofMode
open Idealize.SL.BI.BIBase Idealize.SL.BI.Laws
open scoped Idealize.SL.BI
open Cert.SbBwdIdeal.Gen Cert.SbRules

variable {F : FTy → Type} [FloatOps F] [Named F]
local notation "𝕄G" => MT nD τ sig Unit (Elt F) ℕ (UR sig nD τ) ℕ

/-- What a query block hands to its trips, from its rows of q, of the cotangent (read twice) and of the output. -/
def envOf (q g g' ou : Vec F S128x256 .f32) : Env F where
  v23 := k0_pay72
  v28 := k0_pay73
  v33 := k0_pay74
  v38 := k0_pay75
  v45 := k0_pay76
  v52 := k0_pay77
  v66 := k0_pay81 k0_pay74 k0_pay75 (k0_pay78 q) (k0_pay79 q) (k0_pay80 q)
  v78 := k0_pay82 k0_pay72 k0_pay73 k0_pay74 k0_pay75 g
  v89 := k0_pay83 k0_pay72 k0_pay73 k0_pay74 k0_pay75 (k0_pay78 q)
  v102 := k0_pay84 k0_pay72 k0_pay73 k0_pay74 k0_pay75 g'
  v109 := k0_pay85 (k0_pay82 k0_pay72 k0_pay73 k0_pay74 k0_pay75 g) ou

/-- A place: the keys of the block's own tile it looks at, the rows of the tile before, the slot in which the first
    tile's dz and weights end up, the two loops and the offsets of a trip, and the values that the own tile gives
    (dz and the weights, the sums over it). -/
structure Place (F : FTy → Type) [FloatOps F] where
  rK : Rect S4096x256
  (o2 : Fin S4096x256.rank → ℕ) (h2 : ∀ a, o2 a + S512x256.size a ≤ S4096x256.size a)
  (o13 : Fin S2x1x512x512.rank → ℕ) (h13 : ∀ a, o13 a + S1x1x512x512.size a ≤ S2x1x512x512.size a)
  L1 : Scf.Loop 32
  ok1 : L1.OK
  L2 : Scf.Loop 32
  ok2 : L2.OK
  offs : Fin L1.trips → Offs
  dz : Env F → (rK.shape.Idx → Elt F .f32) → (rK.shape.Idx → Elt F .f32) → Vec F S1x1x512x512 .bf16
  w : Env F → (rK.shape.Idx → Elt F .f32) → (rK.shape.Idx → Elt F .f32) → Vec F S1x1x512x512 .bf16
  c0 : Env F → (rK.shape.Idx → Elt F .f32) → (rK.shape.Idx → Elt F .f32) → FVec F S512x1 .f32
  ce0 : Env F → (rK.shape.Idx → Elt F .f32) → (rK.shape.Idx → Elt F .f32) → FVec F S512x1 .f32

abbrev Place.r2 (P : Place F) : Rect S4096x256 := Rect.unit P.o2 S512x256.size P.h2
abbrev Place.r13 (P : Place F) : Rect S2x1x512x512 := Rect.unit P.o13 S1x1x512x512.size P.h13
/-- A whole block of query rows. -/
abbrev rAll : Rect S128x256 := Rect.unit (s := S128x256) ![0, 0] S128x256.size inb_S128x256_S128x256_0_0
/-- The first slot. -/
abbrev r0 : Rect S2x1x512x512 := Rect.unit (s := S2x1x512x512) ![0, 0, 0, 0] S1x1x512x512.size inb_S2x1x512x512_S1x1x512x512_0_0_0_0
/-- The rows of the first tile. -/
abbrev rRow0 : Rect S4096x256 := Rect.unit (s := S4096x256) ![0, 0] S512x256.size inb_S4096x256_S512x256_0_0
/-- The columns of the first tile. -/
abbrev rCol0 : Rect S256x4096 := Rect.unit (s := S256x4096) ![0, 0] S256x512.size inb_S256x4096_S256x512_0_0

/-- What the first part reads. -/
structure HeadV (P : Place F) where
  (q g g' ou : Vec F S128x256 .f32)
  (kb vb : P.rK.shape.Idx → Elt F .f32)

abbrev HeadV.env {P : Place F} (h : HeadV P) : Env F := envOf h.q h.g h.g' h.ou
/-- dq's accumulator and the sums before the first trip. -/
abbrev HeadV.init {P : Place F} (h : HeadV P) : FVec F S128x256 .f32 × FVec F S512x1 .f32 × FVec F S512x1 .f32 :=
  (k0_pay101, P.c0 h.env h.kb h.vb, P.ce0 h.env h.kb h.vb)

abbrev Acc (F : FTy → Type) [FloatOps F] := FVec F S128x256 .f32 × FVec F S512x1 .f32 × FVec F S512x1 .f32

section Program

variable (P : Place F)
variable (arg2 : Memref sig .tc .vmem S128x256 .f32) (arg3 arg4 : Memref sig .tc .vmem S4096x256 .f32)
variable (arg5 arg6 arg7 : Memref sig .tc .vmem S128x256 .f32) (arg8 arg9 : Memref sig .tc .vmem S256x4096 .f32)
variable (arg10 arg11 : Memref sig .tc .vmem S2x1x512x512 .f32)
variable (arg12 arg13 : Memref sig .tc .vmem S2x1x512x512 .bf16) (harg12 : arg12.IsWhole) (harg13 : arg13.IsWhole)
variable (hl3 : arg3.view.LoadsAt P.rK.toLoadRect) (hl4 : arg4.view.LoadsAt P.rK.toLoadRect)
variable (hs12 : (arg12.access r0).Stores Finset.univ) (hs13 : (arg13.access r0).Stores Finset.univ)
variable (body2 : HeadV P → Fin P.L2.trips → Acc F → Prog (TpuEff nD τ sig (Elt F) Λ₀ .tc) (Acc F))

/-- Before the trips. -/
def head : Prog (TpuEff nD τ sig (Elt F) Λ₀ .tc) (HeadV P) := do
  let q : Vec F S128x256 .f32 ← Prog.lift (.load arg2 rAll.toLoadRect (View.loadsAt_vmem h_S128x256))
  let g : Vec F S128x256 .f32 ← Prog.lift (.load arg5 rAll.toLoadRect (View.loadsAt_vmem h_S128x256))
  let g' : Vec F S128x256 .f32 ← Prog.lift (.load arg5 rAll.toLoadRect (View.loadsAt_vmem h_S128x256))
  let ou : Vec F S128x256 .f32 ← Prog.lift (.load arg6 rAll.toLoadRect (View.loadsAt_vmem h_S128x256))
  let kb ← Prog.lift (.load arg3 P.rK.toLoadRect hl3)
  let vb ← Prog.lift (.load arg4 P.rK.toLoadRect hl4)
  let kn : Vec F S512x256 .f32 ← Prog.lift (.load arg3 P.r2.toLoadRect (View.loadsAt_vmem h_S512x256))
  let _ ← Prog.lift (.load arg10 r0.toLoadRect (View.loadsAt_vmem h_S1x1x512x512))
  Prog.lift (.store arg10 r0 (k0_pay89 (envOf q g g' ou).v66 kn) Finset.univ (View.stores_vmem_bits_univ h_S1x1x512x512 rfl) (.inl rfl))
  let vn : Vec F S512x256 .f32 ← Prog.lift (.load arg4 P.r2.toLoadRect (View.loadsAt_vmem h_S512x256))
  let _ ← Prog.lift (.load arg11 r0.toLoadRect (View.loadsAt_vmem h_S1x1x512x512))
  Prog.lift (.store arg11 r0 (k0_pay90 (envOf q g g' ou).v78 vn) Finset.univ (View.stores_vmem_bits_univ h_S1x1x512x512 rfl) (.inl rfl))
  let _ ← Prog.lift (.load arg12 r0.toLoadRect (View.loadsAt_vmem h_S1x1x512x512))
  Prog.lift (.store arg12 r0 (P.dz (envOf q g g' ou) kb vb) Finset.univ hs12 (.inl rfl))
  let _ ← Prog.lift (.load arg13 r0.toLoadRect (View.loadsAt_vmem h_S1x1x512x512))
  Prog.lift (.store arg13 r0 (P.w (envOf q g g' ou) kb vb) Finset.univ hs13 (.inl rfl))
  pure ⟨q, g, g', ou, kb, vb⟩

/-- After the trips. -/
def tail (v : Env F) (acc : Acc F) : Prog (TpuEff nD τ sig (Elt F) Λ₀ .tc) PUnit := do
  let k0 : Vec F S512x256 .f32 ← Prog.lift (.load arg3 rRow0.toLoadRect (View.loadsAt_vmem h_S512x256))
  let dzb : Vec F S1x1x512x512 .bf16 ← Prog.lift (.load arg12 P.r13.toLoadRect (View.loadsAt_vmem h_S1x1x512x512))
  let wb : Vec F S1x1x512x512 .bf16 ← Prog.lift (.load arg13 P.r13.toLoadRect (View.loadsAt_vmem h_S1x1x512x512))
  let dk : Vec F S256x512 .f32 ← Prog.lift (.load arg8 rCol0.toLoadRect (View.loadsAt_vmem h_S256x512))
  let _ ← Prog.lift (.load arg8 rCol0.toLoadRect (View.loadsAt_vmem h_S256x512))
  Prog.lift (.store arg8 rCol0 (k0_pay3 (k0_pay114 v.v89 dzb) dk) Finset.univ (View.stores_vmem_bits_univ h_S256x512 rfl) (.inl rfl))
  let dv : Vec F S256x512 .f32 ← Prog.lift (.load arg9 rCol0.toLoadRect (View.loadsAt_vmem h_S256x512))
  let _ ← Prog.lift (.load arg9 rCol0.toLoadRect (View.loadsAt_vmem h_S256x512))
  Prog.lift (.store arg9 rCol0 (k0_pay4 (k0_pay115 v.v102 wb) dv) Finset.univ (View.stores_vmem_bits_univ h_S256x512 rfl) (.inl rfl))
  let _ ← Prog.lift (.load arg7 rAll.toLoadRect (View.loadsAt_vmem h_S128x256))
  Prog.lift (.store arg7 rAll (k0_pay5 (k0_pay113 v.v23 v.v28 v.v33 v.v38 acc.1 k0 dzb)) Finset.univ (View.stores_vmem_bits_univ h_S128x256 rfl) (.inl rfl))
  pure ⟨⟩

/-- The whole of a query block. -/
def place : Prog (TpuEff nD τ sig (Elt F) Λ₀ .tc) PUnit :=
  head P arg2 arg3 arg4 arg5 arg6 arg10 arg11 arg12 arg13 hl3 hl4 hs12 hs13 >>= fun h =>
    P.L1.for P.ok1 h.init (fun t acc => trip h.env (P.offs t) arg3 arg4 arg8 arg9 arg10 arg11 arg12 arg13 harg12 harg13 acc) >>= fun a =>
      P.L2.for P.ok2 a (body2 h) >>= fun b => tail P arg3 arg7 arg8 arg9 arg12 arg13 h.env b

end Program

/-- The contents of the five input blocks. -/
structure Ins (F : FTy → Type) [FloatOps F] where
  X2 : S128x256.Idx → Elt F .f32
  (X3 X4 : S4096x256.Idx → Elt F .f32)
  (X5 X6 : S128x256.Idx → Elt F .f32)

/-- What a query block hands to its trips, from the blocks. -/
def Ins.env (x : Ins F) : Env F := envOf (pick rAll x.X2) (pick rAll x.X5) (pick rAll x.X5) (pick rAll x.X6)

/-- The state before the first trip; of `s` the buffers count. -/
def headSt (P : Place F) (x : Ins F) (s : St F) : St F where
  dq := k0_pay101
  c := P.c0 x.env (pick P.rK x.X3) (pick P.rK x.X4)
  ce := P.ce0 x.env (pick P.rK x.X3) (pick P.rK x.X4)
  X8 := s.X8
  X9 := s.X9
  X10 := r0.overlay s.X10 (k0_pay89 x.env.v66 (pick P.r2 x.X3))
  X11 := r0.overlay s.X11 (k0_pay90 x.env.v78 (pick P.r2 x.X4))
  X12 := r0.overlay s.X12 (P.dz x.env (pick P.rK x.X3) (pick P.rK x.X4))
  X13 := r0.overlay s.X13 (P.w x.env (pick P.rK x.X3) (pick P.rK x.X4))

/-- The state after the last part. -/
def tailSt (P : Place F) (x : Ins F) (s : St F) : St F :=
  { s with
    X8 := rCol0.overlay s.X8 (k0_pay3 (k0_pay114 x.env.v89 (pick P.r13 s.X12)) (pick rCol0 s.X8))
    X9 := rCol0.overlay s.X9 (k0_pay4 (k0_pay115 x.env.v102 (pick P.r13 s.X13)) (pick rCol0 s.X9)) }

/-- What it leaves in dq's block. -/
def tailDq (P : Place F) (x : Ins F) (s : St F) (X7 : S128x256.Idx → Elt F .f32) : S128x256.Idx → Elt F .f32 :=
  rAll.overlay X7 (k0_pay5 (k0_pay113 x.env.v23 x.env.v28 x.env.v33 x.env.v38 s.dq (pick rRow0 x.X3) (pick P.r13 s.X12)))

section Run

variable (c : Dev nD) (P : Place F)
variable (arg2 : Memref sig .tc .vmem S128x256 .f32) (arg3 arg4 : Memref sig .tc .vmem S4096x256 .f32)
variable (arg5 arg6 arg7 : Memref sig .tc .vmem S128x256 .f32) (arg8 arg9 : Memref sig .tc .vmem S256x4096 .f32)
variable (arg10 arg11 : Memref sig .tc .vmem S2x1x512x512 .f32)
variable (arg12 arg13 : Memref sig .tc .vmem S2x1x512x512 .bf16) (harg12 : arg12.IsWhole) (harg13 : arg13.IsWhole)
variable (hl3 : arg3.view.LoadsAt P.rK.toLoadRect) (hl4 : arg4.view.LoadsAt P.rK.toLoadRect)
variable (hs12 : (arg12.access r0).Stores Finset.univ) (hs13 : (arg13.access r0).Stores Finset.univ)
variable (body2 : HeadV P → Fin P.L2.trips → Acc F → Prog (TpuEff nD τ sig (Elt F) Λ₀ .tc) (Acc F))

/-- The query block's own buffers: its rows of q, of the cotangent and of the output, and its block of dq. -/
def rest (x : Ins F) (X7 : S128x256.Idx → Elt F .f32) : sProp 𝕄G :=
  iprop(owns (c.tc : Thread nD τ) arg2 fullShare x.X2 ∗ owns (c.tc : Thread nD τ) arg5 fullShare x.X5
    ∗ owns (c.tc : Thread nD τ) arg6 fullShare x.X6 ∗ owns (c.tc : Thread nD τ) arg7 fullShare X7)

theorem head_wp (E : Set ℕ) (x : Ins F) (X7 : S128x256.Idx → Elt F .f32) (s : St F) {Q : HeadV P → sProp 𝕄G} :
    iprop(rest c arg2 arg5 arg6 arg7 x X7 ∗ held c arg3 arg4 arg8 arg9 arg10 arg11 arg12 arg13 x.X3 x.X4 s)
      ⊢ iprop((rest c arg2 arg5 arg6 arg7 x X7
              -∗ held c arg3 arg4 arg8 arg9 arg10 arg11 arg12 arg13 x.X3 x.X4 (headSt P x s)
              -∗ Q ⟨pick rAll x.X2, pick rAll x.X5, pick rAll x.X5, pick rAll x.X6, pick P.rK x.X3, pick P.rK x.X4⟩)
          -∗ wp frame (wpE (defs₀ (F := F)) Variants.none (c.tc : Thread nD τ) none) E
              (head P arg2 arg3 arg4 arg5 arg6 arg10 arg11 arg12 arg13 hl3 hl4 hs12 hs13) Q) := by
  unfold held rest head
  dsimp only [headSt, Ins.env]
  iintro ⟨⟨H2, H5, H6, H7⟩, ⟨H3, H4, H8, H9, H10, H11, H12, H13⟩⟩ K
  iapply (load_seq _ _ _ _) $$ H2; iintro H2
  iapply (load_seq _ _ _ _) $$ H5; iintro H5
  iapply (load_seq _ _ _ _) $$ H5; iintro H5
  iapply (load_seq _ _ _ _) $$ H6; iintro H6
  iapply (load_seq _ _ _ _) $$ H3; iintro H3
  iapply (load_seq _ _ _ _) $$ H4; iintro H4
  iapply (load_seq _ _ _ _) $$ H3; iintro H3
  iapply (load_seq _ _ _ _) $$ H10; iintro H10
  iapply (store_seq _ _ _ _) $$ H10; iintro H10
  iapply (load_seq _ _ _ _) $$ H4; iintro H4
  iapply (load_seq _ _ _ _) $$ H11; iintro H11
  iapply (store_seq _ _ _ _) $$ H11; iintro H11
  iapply (load_seq _ _ _ _) $$ H12; iintro H12
  iapply (store_seq _ _ _ _) $$ H12; iintro H12
  iapply (load_seq _ _ _ _) $$ H13; iintro H13
  iapply (store_seq _ _ _ _) $$ H13; iintro H13
  rw [wp_pure]; imodintro
  iapply K $$ [H2 H5 H6 H7] [H3 H4 H8 H9 H10 H11 H12 H13]
  · iframe
  · iframe

theorem tail_wp (E : Set ℕ) (x : Ins F) (X7 : S128x256.Idx → Elt F .f32) (s : St F) {Q : PUnit → sProp 𝕄G} :
    iprop(rest c arg2 arg5 arg6 arg7 x X7 ∗ held c arg3 arg4 arg8 arg9 arg10 arg11 arg12 arg13 x.X3 x.X4 s)
      ⊢ iprop((rest c arg2 arg5 arg6 arg7 x (tailDq P x s X7)
              -∗ held c arg3 arg4 arg8 arg9 arg10 arg11 arg12 arg13 x.X3 x.X4 (tailSt P x s) -∗ Q ⟨⟩)
          -∗ wp frame (wpE (defs₀ (F := F)) Variants.none (c.tc : Thread nD τ) none) E
              (tail P arg3 arg7 arg8 arg9 arg12 arg13 x.env (s.dq, s.c, s.ce)) Q) := by
  unfold held rest tail
  dsimp only [tailSt, tailDq]
  iintro ⟨⟨H2, H5, H6, H7⟩, ⟨H3, H4, H8, H9, H10, H11, H12, H13⟩⟩ K
  iapply (load_seq _ _ _ _) $$ H3; iintro H3
  iapply (load_seq _ _ _ _) $$ H12; iintro H12
  iapply (load_seq _ _ _ _) $$ H13; iintro H13
  iapply (load_seq _ _ _ _) $$ H8; iintro H8
  iapply (load_seq _ _ _ _) $$ H8; iintro H8
  iapply (store_seq _ _ _ _) $$ H8; iintro H8
  iapply (load_seq _ _ _ _) $$ H9; iintro H9
  iapply (load_seq _ _ _ _) $$ H9; iintro H9
  iapply (store_seq _ _ _ _) $$ H9; iintro H9
  iapply (load_seq _ _ _ _) $$ H7; iintro H7
  iapply (store_seq _ _ _ _) $$ H7; iintro H7
  rw [wp_pure]; imodintro
  iapply K $$ [H2 H5 H6 H7] [H3 H4 H8 H9 H10 H11 H12 H13]
  · iframe
  · iframe

/-- A query block from a state takes the buffers to what the last part makes of the state after the trips, of which
    an assertion `I` that the trips keep is known. -/
theorem place_wp (E : Set ℕ) (hL2 : P.L2.trips = 0) (x : Ins F) (X7 : S128x256.Idx → Elt F .f32) (s : St F)
    (I : ℕ → St F → Prop) (h0 : I 0 (headSt P x s))
    (hI : ∀ (t : Fin P.L1.trips) (s : St F), I t.val s → I (t.val + 1) (tripSt x.env (P.offs t) x.X3 x.X4 s))
    {Q : PUnit → sProp 𝕄G} :
    iprop(rest c arg2 arg5 arg6 arg7 x X7 ∗ held c arg3 arg4 arg8 arg9 arg10 arg11 arg12 arg13 x.X3 x.X4 s)
      ⊢ iprop((∀ s' : St F, ⌜I P.L1.trips s'⌝ -∗ rest c arg2 arg5 arg6 arg7 x (tailDq P x s' X7)
              -∗ held c arg3 arg4 arg8 arg9 arg10 arg11 arg12 arg13 x.X3 x.X4 (tailSt P x s') -∗ Q ⟨⟩)
          -∗ wp frame (wpE (defs₀ (F := F)) Variants.none (c.tc : Thread nD τ) none) E
              (place P arg2 arg3 arg4 arg5 arg6 arg7 arg8 arg9 arg10 arg11 arg12 arg13 harg12 harg13 hl3 hl4 hs12 hs13 body2) Q) := by
  unfold place
  rw [wp_bind]
  iintro ⟨HR, H⟩ K
  iapply (head_wp c P arg2 arg3 arg4 arg5 arg6 arg7 arg8 arg9 arg10 arg11 arg12 arg13 hl3 hl4 hs12 hs13 E x X7 s) $$ [HR H]
  · iframe
  iintro HR H
  iapply (Scf.wp_for_bind frame (wpE (defs₀ (F := F)) Variants.none (c.tc : Thread nD τ) none) E P.L1.lb P.L1.ub P.L1.st P.ok1
    (I := fun k acc => iprop(∃ s' : St F, ⌜I k s' ∧ acc = (s'.dq, s'.c, s'.ce)⌝
      ∗ held c arg3 arg4 arg8 arg9 arg10 arg11 arg12 arg13 x.X3 x.X4 s')) ?_) $$ [H]
  · intro t acc
    iintro ⟨%s', %hs, H⟩
    obtain ⟨hs, rfl⟩ := hs
    iapply (trip_wp c x.env (P.offs t) arg3 arg4 arg8 arg9 arg10 arg11 arg12 arg13 harg12 harg13 E x.X3 x.X4 s') $$ H
    iintro H
    iexists (tripSt x.env (P.offs t) x.X3 x.X4 s')
    isplitr
    · ipureintro; exact ⟨hI t s' hs, rfl⟩
    · iexact H
  · iexists (headSt P x s)
    isplitr
    · ipureintro; exact ⟨h0, rfl⟩
    · iexact H
  iintro %acc
  iintro ⟨%s', %hs, H⟩
  obtain ⟨hs, rfl⟩ := hs
  iapply (Scf.wp_for_bind frame (wpE (defs₀ (F := F)) Variants.none (c.tc : Thread nD τ) none) E P.L2.lb P.L2.ub P.L2.st P.ok2
    (I := fun k acc => iprop(⌜acc = (s'.dq, s'.c, s'.ce)⌝
      ∗ held c arg3 arg4 arg8 arg9 arg10 arg11 arg12 arg13 x.X3 x.X4 s')) ?_) $$ [H]
  · intro t
    exact absurd t.isLt (by have := hL2; unfold Scf.Loop.trips at this; omega)
  · isplitr
    · ipureintro; rfl
    · iexact H
  iintro %acc
  iintro ⟨%ha, H⟩
  subst ha
  iapply (tail_wp c P arg2 arg3 arg4 arg5 arg6 arg7 arg8 arg9 arg10 arg11 arg12 arg13 E x X7 s') $$ [HR H]
  · iframe
  iintro HR H
  iapply K $$ %s' %hs HR H

end Run

end Cert.SbBwdIdeal.Own
-- ==== Proof.SbPlaces.lean ====
/- The four places of a query block in its tile, each as the program `place` at its own widths: the printed branch of
   the kernel is that program (the branches group their sequences in their own ways, so up to associativity). -/
module

public import proofs.«01_k».proof.Proof.SbPlace

@[expose] public section

noncomputable section

namespace Cert.SbBwdIdeal.Own

open Idealize.ShloMosaic Idealize.ShloMosaic.TcCoe
open Idealize.SL Idealize.SL.Sem
open Cert.SbBwdIdeal.Gen Cert.SbRules

variable {F : FTy → Type} [FloatOps F] [Named F]

/-- A sequence of two commands and a last part, regrouped from the left. -/
theorem regroup {E : Type → Type} {σ β γ : Type} {p : Prog E σ} {q : σ → Prog E σ} {f : σ → Prog E β} {g : β → Prog E γ}
    {t : σ → Prog E γ} (h : ∀ b, f b >>= g = t b) :
    (p >>= fun a => q a >>= f) >>= g = p >>= fun a => q a >>= t := by
  rw [bind_assoc]
  refine congrArg (p >>= ·) (funext fun a => ?_)
  rw [bind_assoc]
  exact congrArg (q a >>= ·) (funext h)

/-- The number of tiles up to the query block's own. -/
abbrev tiles (i : grid0.Coords) : BitVec 32 := Scalar.addi (BitVec.ofNat 32 (i 1).val) 1#32

variable (i : grid0.Coords)
variable (arg2 : Memref sig .tc .vmem S128x256 .f32) (harg2 : arg2.IsWhole) (arg3 : Memref sig .tc .vmem S4096x256 .f32) (harg3 : arg3.IsWhole) (arg4 : Memref sig .tc .vmem S4096x256 .f32) (harg4 : arg4.IsWhole)
variable (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole)
variable (arg8 : Memref sig .tc .vmem S256x4096 .f32) (harg8 : arg8.IsWhole) (arg9 : Memref sig .tc .vmem S256x4096 .f32) (harg9 : arg9.IsWhole)
variable (arg10 : Memref sig .tc .vmem S2x1x512x512 .f32) (harg10 : arg10.IsWhole) (arg11 : Memref sig .tc .vmem S2x1x512x512 .f32) (harg11 : arg11.IsWhole)
variable (arg12 : Memref sig .tc .vmem S2x1x512x512 .bf16) (harg12 : arg12.IsWhole) (arg13 : Memref sig .tc .vmem S2x1x512x512 .bf16) (harg13 : arg13.IsWhole)

theorem packed_r0 : r0.PackedRows (EltTy.packing .bf16) := by decide +kernel

/-! ## Place 0: 128 keys of the block's own tile -/

/-- The offsets of a trip. -/
def offs0 (h : k0_cond2 i = 1#1) (t : Fin (k0_t1_loop i).trips) : Offs where
  o3 := k0_off3 i t
  h3 := k0_off3_inb i t h
  o4 := k0_off4 i t
  h4 := k0_off4_inb i t h
  o5 := k0_off5 i t
  h5 := k0_off5_inb i t h
  o6 := k0_off6 i t
  h6 := k0_off6_inb i t h
  o7 := k0_off7 i t
  h7 := k0_off7_inb i t h
  p7 := k0_off7_packedbf16 i t h

def dz0 : Env F → Vec F S128x256 .f32 → Vec F S128x256 .f32 → Vec F S1x1x512x512 .bf16 := fun v kb vb =>
    have v110 := k0_pay86
    have v120 := k0_pay87 v.v66 kb
    have v128 := k0_pay88 v.v78 vb
    have v155 := k0_pay91
    have v165 := k0_pay92 v120
    have v184 := k0_pay95 v.v45 v110 v120
    k0_pay99 v.v52 v.v109 v110 v128 v155 v165 v184

def w0 : Env F → Vec F S128x256 .f32 → Vec F S128x256 .f32 → Vec F S1x1x512x512 .bf16 := fun v kb _ =>
    have v110 := k0_pay86
    have v120 := k0_pay87 v.v66 kb
    have v155 := k0_pay91
    have v184 := k0_pay95 v.v45 v110 v120
    k0_pay100 v155 v184

def c0 : Env F → Vec F S128x256 .f32 → Vec F S128x256 .f32 → FVec F S512x1 .f32 := fun v kb _ =>
    have v110 := k0_pay86
    have v120 := k0_pay87 v.v66 kb
    have v182 := k0_pay94 v110 v120
    v182

def ce0 : Env F → Vec F S128x256 .f32 → Vec F S128x256 .f32 → FVec F S512x1 .f32 := fun v kb vb =>
    have v110 := k0_pay86
    have v120 := k0_pay87 v.v66 kb
    have v128 := k0_pay88 v.v78 vb
    have v155 := k0_pay91
    have v184 := k0_pay95 v.v45 v110 v120
    have v203 := k0_pay98 v110 v128 v155 v184
    v203

/-- The place. -/
@[reducible] def pl0 (h : k0_cond2 i = 1#1) : Place F where
  rK := Rect.unit (s := S4096x256) (k0_off1 i) S128x256.size (k0_off1_inb i h)
  o2 := k0_off2 i
  h2 := k0_off2_inb i h
  o13 := k0_off13 i
  h13 := k0_off13_inb i h
  L1 := k0_t1_loop i
  ok1 := k0_t1_ok i h
  L2 := k0_t2_loop i
  ok2 := k0_t2_ok i h
  offs := offs0 i h
  dz := dz0
  w := w0
  c0 := c0
  ce0 := ce0

/-- The body of the loop over what is left, which makes no trip. -/
def left0 (h : k0_cond2 i = 1#1) (r : HeadV (pl0 (F := F) i h)) : Fin (k0_t2_loop i).trips → Acc F → Prog (TpuEff nD τ sig (Elt F) Λ₀ .tc) (Acc F) :=
  let v := r.env
    let kb := r.kb
    let vb := r.vb

    let v110 := k0_pay86
    let v120 := k0_pay87 v.v66 kb
    let v128 := k0_pay88 v.v78 vb
    let v155 := k0_pay91
    let v182 := k0_pay94 v110 v120
    let v184 := k0_pay95 v.v45 v110 v120
    let v203 := k0_pay98 v110 v128 v155 v184
    k0_t2_body i arg2 harg2 arg3 harg3 arg4 harg4 arg5 harg5 arg6 harg6 arg7 harg7 arg8 harg8 arg9 harg9 arg10 harg10 arg11 harg11 arg12 harg12 arg13 harg13 (tiles i) h v.v23 v.v28 v.v33 v.v38 v.v45 v.v52 v.v66 v.v78 v.v89 v.v102 v.v109 v182 v203 k0_pay101 0#32 (Scalar.subi (Scalar.subi (tiles i) 1#32) 0#32) (Scalar.addi 0#32 (Scalar.muli (Scalar.divsi (Scalar.subi (Scalar.subi (tiles i) 1#32) 0#32) 1#32) 1#32))

/-- The last part up to where the branch groups it with the loops. -/
def fin0 (h : k0_cond2 i = 1#1) (r : HeadV (pl0 (F := F) i h)) (b : Acc F) : Prog (TpuEff nD τ sig (Elt F) Λ₀ .tc) (Σ' (_ : BitVec 32) (_ : FVec F S128x256 .f32) (_ : FVec F S256x512 .f32), FVec F S256x512 .f32) := do
  let k0 : Vec F S512x256 .f32 ← Prog.lift (.load arg3 rRow0.toLoadRect (View.loadsAt_vmem h_S512x256))
  let dzb : Vec F S1x1x512x512 .bf16 ← Prog.lift (.load arg12 (pl0 (F := F) i h).r13.toLoadRect (View.loadsAt_vmem h_S1x1x512x512))
  let wb : Vec F S1x1x512x512 .bf16 ← Prog.lift (.load arg13 (pl0 (F := F) i h).r13.toLoadRect (View.loadsAt_vmem h_S1x1x512x512))
  pure ⟨0#32, k0_pay113 r.env.v23 r.env.v28 r.env.v33 r.env.v38 b.1 k0 dzb, k0_pay114 r.env.v89 dzb, k0_pay115 r.env.v102 wb⟩

/-- The rest of it. -/
def out0 (h : k0_cond2 i = 1#1) (r : HeadV (pl0 (F := F) i h)) (x : Σ' (_ : BitVec 32) (_ : FVec F S128x256 .f32) (_ : FVec F S256x512 .f32), FVec F S256x512 .f32) : Prog (TpuEff nD τ sig (Elt F) Λ₀ .tc) PUnit := do
  let dk : Vec F S256x512 .f32 ← Prog.lift (.load arg8 rCol0.toLoadRect (View.loadsAt_vmem h_S256x512))
  let _ ← Prog.lift (.load arg8 rCol0.toLoadRect (View.loadsAt_vmem h_S256x512))
  Prog.lift (.store arg8 rCol0 (k0_pay3 x.2.2.1 dk) Finset.univ (View.stores_vmem_bits_univ h_S256x512 rfl) (.inl rfl))
  let dv : Vec F S256x512 .f32 ← Prog.lift (.load arg9 rCol0.toLoadRect (View.loadsAt_vmem h_S256x512))
  let _ ← Prog.lift (.load arg9 rCol0.toLoadRect (View.loadsAt_vmem h_S256x512))
  Prog.lift (.store arg9 rCol0 (k0_pay4 x.2.2.2 dv) Finset.univ (View.stores_vmem_bits_univ h_S256x512 rfl) (.inl rfl))
  let _ ← Prog.lift (.load arg7 rAll.toLoadRect (View.loadsAt_vmem h_S128x256))
  Prog.lift (.store arg7 rAll (k0_pay5 x.2.1) Finset.univ (View.stores_vmem_bits_univ h_S128x256 rfl) (.inl rfl))
  pure ⟨⟩

/-- The branch of this place, grouped as it is printed. -/
def branch0 (h : k0_cond2 i = 1#1) : Prog (TpuEff nD τ sig (Elt F) Λ₀ .tc) PUnit :=
  head (pl0 (F := F) i h) arg2 arg3 arg4 arg5 arg6 arg10 arg11 arg12 arg13 (View.loadsAt_vmem h_S128x256) (View.loadsAt_vmem h_S128x256)
      (View.stores_vmem h_S1x1x512x512 (harg12.storeExact_slice rfl _ packed_r0) (fun _ => rfl))
      (View.stores_vmem h_S1x1x512x512 (harg13.storeExact_slice rfl _ packed_r0) (fun _ => rfl)) >>= fun r =>
    (((pl0 (F := F) i h).L1.for (pl0 (F := F) i h).ok1 r.init (fun t acc => trip r.env ((pl0 (F := F) i h).offs t) arg3 arg4 arg8 arg9 arg10 arg11 arg12 arg13 harg12 harg13 acc) >>= fun a =>
      (pl0 (F := F) i h).L2.for (pl0 (F := F) i h).ok2 a (left0 i arg2 harg2 arg3 harg3 arg4 harg4 arg5 harg5 arg6 harg6 arg7 harg7 arg8 harg8 arg9 harg9 arg10 harg10 arg11 harg11 arg12 harg12 arg13 harg13 h r) >>= fin0 i arg3 arg12 arg13 h r) >>= out0 i arg7 arg8 arg9 h r)

theorem branch0_eq (h : k0_cond2 i = 1#1) : branch0 (F := F) i arg2 harg2 arg3 harg3 arg4 harg4 arg5 harg5 arg6 harg6 arg7 harg7 arg8 harg8 arg9 harg9 arg10 harg10 arg11 harg11 arg12 harg12 arg13 harg13 h
    = place (pl0 (F := F) i h) arg2 arg3 arg4 arg5 arg6 arg7 arg8 arg9 arg10 arg11 arg12 arg13 harg12 harg13 (View.loadsAt_vmem h_S128x256) (View.loadsAt_vmem h_S128x256)
      (View.stores_vmem h_S1x1x512x512 (harg12.storeExact_slice rfl _ packed_r0) (fun _ => rfl))
      (View.stores_vmem h_S1x1x512x512 (harg13.storeExact_slice rfl _ packed_r0) (fun _ => rfl)) (left0 i arg2 harg2 arg3 harg3 arg4 harg4 arg5 harg5 arg6 harg6 arg7 harg7 arg8 harg8 arg9 harg9 arg10 harg10 arg11 harg11 arg12 harg12 arg13 harg13 h) :=
  congrArg (_ >>= ·) (funext fun r => regroup (by intro b; rfl))

/-! ## Place 1: 256 keys of the block's own tile -/

/-- The offsets of a trip. -/
def offs1 (h : k0_cond3 i = 1#1) (t : Fin (k0_t3_loop i).trips) : Offs where
  o3 := k0_off16 i t
  h3 := k0_off16_inb i t h
  o4 := k0_off17 i t
  h4 := k0_off17_inb i t h
  o5 := k0_off18 i t
  h5 := k0_off18_inb i t h
  o6 := k0_off19 i t
  h6 := k0_off19_inb i t h
  o7 := k0_off20 i t
  h7 := k0_off20_inb i t h
  p7 := k0_off20_packedbf16 i t h

def dz1 : Env F → Vec F S256x256 .f32 → Vec F S256x256 .f32 → Vec F S1x1x512x512 .bf16 := fun v kb vb =>
    have v110 := k0_pay190
    have v120 := k0_pay191 v.v66 kb
    have v128 := k0_pay192 v.v78 vb
    have v155 := k0_pay195
    have v165 := k0_pay196 v120
    have v170 := k0_pay199 v120
    have v180 := k0_pay200 v.v45 v120
    have v185 := k0_pay201 v.v45 v110 v120
    have v239 := k0_pay210 v.v52 v.v109 v110 v128 v155 v165 v170 v180 v185
    k0_pay211 v155 v239

def w1 : Env F → Vec F S256x256 .f32 → Vec F S256x256 .f32 → Vec F S1x1x512x512 .bf16 := fun v kb _ =>
    have v110 := k0_pay190
    have v120 := k0_pay191 v.v66 kb
    have v155 := k0_pay195
    have v165 := k0_pay196 v120
    have v170 := k0_pay199 v120
    have v180 := k0_pay200 v.v45 v120
    have v185 := k0_pay201 v.v45 v110 v120
    have v202 := k0_pay204 v110 v155 v165 v170 v180 v185
    k0_pay212 v202

def c1 : Env F → Vec F S256x256 .f32 → Vec F S256x256 .f32 → FVec F S512x1 .f32 := fun v kb _ =>
    have v110 := k0_pay190
    have v120 := k0_pay191 v.v66 kb
    have v169 := k0_pay198 v120
    have v170 := k0_pay199 v120
    have v196 := k0_pay203 v110 v169 v170
    v196

def ce1 : Env F → Vec F S256x256 .f32 → Vec F S256x256 .f32 → FVec F S512x1 .f32 := fun v kb vb =>
    have v110 := k0_pay190
    have v120 := k0_pay191 v.v66 kb
    have v128 := k0_pay192 v.v78 vb
    have v155 := k0_pay195
    have v165 := k0_pay196 v120
    have v170 := k0_pay199 v120
    have v180 := k0_pay200 v.v45 v120
    have v185 := k0_pay201 v.v45 v110 v120
    have v232 := k0_pay209 v110 v128 v155 v165 v170 v180 v185
    v232

/-- The place. -/
@[reducible] def pl1 (h : k0_cond3 i = 1#1) : Place F where
  rK := Rect.unit (s := S4096x256) (k0_off14 i) S256x256.size (k0_off14_inb i h)
  o2 := k0_off15 i
  h2 := k0_off15_inb i h
  o13 := k0_off26 i
  h13 := k0_off26_inb i h
  L1 := k0_t3_loop i
  ok1 := k0_t3_ok i h
  L2 := k0_t4_loop i
  ok2 := k0_t4_ok i h
  offs := offs1 i h
  dz := dz1
  w := w1
  c0 := c1
  ce0 := ce1

/-- The body of the loop over what is left, which makes no trip. -/
def left1 (h : k0_cond3 i = 1#1) (r : HeadV (pl1 (F := F) i h)) : Fin (k0_t4_loop i).trips → Acc F → Prog (TpuEff nD τ sig (Elt F) Λ₀ .tc) (Acc F) :=
  let v := r.env
    let kb := r.kb
    let vb := r.vb

    let v110 := k0_pay190
    let v120 := k0_pay191 v.v66 kb
    let v128 := k0_pay192 v.v78 vb
    let v155 := k0_pay195
    let v165 := k0_pay196 v120
    let v169 := k0_pay198 v120
    let v170 := k0_pay199 v120
    let v180 := k0_pay200 v.v45 v120
    let v185 := k0_pay201 v.v45 v110 v120
    let v196 := k0_pay203 v110 v169 v170
    let v202 := k0_pay204 v110 v155 v165 v170 v180 v185
    let v232 := k0_pay209 v110 v128 v155 v165 v170 v180 v185
    let v239 := k0_pay210 v.v52 v.v109 v110 v128 v155 v165 v170 v180 v185
    k0_t4_body i arg2 harg2 arg3 harg3 arg4 harg4 arg5 harg5 arg6 harg6 arg7 harg7 arg8 harg8 arg9 harg9 arg10 harg10 arg11 harg11 arg12 harg12 arg13 harg13 (tiles i) h v.v23 v.v28 v.v33 v.v38 v.v45 v.v52 v.v66 v.v78 v.v89 v.v102 v.v109 v155 v196 v202 v232 v239 (Scalar.addi 0#32 (Scalar.muli (Scalar.divsi (Scalar.subi (Scalar.subi (tiles i) 1#32) 0#32) 1#32) 1#32))

/-- The last part up to where the branch groups it with the loops. -/
def fin1 (h : k0_cond3 i = 1#1) (r : HeadV (pl1 (F := F) i h)) (b : Acc F) : Prog (TpuEff nD τ sig (Elt F) Λ₀ .tc) (Σ' (_ : FVec F S128x256 .f32) (_ : BitVec 32) (_ : FVec F S512x256 .bf16), FVec F S512x512 .bf16) := do
  let k0 : Vec F S512x256 .f32 ← Prog.lift (.load arg3 rRow0.toLoadRect (View.loadsAt_vmem h_S512x256))
  let dzb : Vec F S1x1x512x512 .bf16 ← Prog.lift (.load arg12 (pl1 (F := F) i h).r13.toLoadRect (View.loadsAt_vmem h_S1x1x512x512))
  pure ⟨b.1, 0#32, k0_pay224 k0, k0_pay225 dzb⟩

/-- The rest of it. -/
def out1 (h : k0_cond3 i = 1#1) (r : HeadV (pl1 (F := F) i h)) (x : Σ' (_ : FVec F S128x256 .f32) (_ : BitVec 32) (_ : FVec F S512x256 .bf16), FVec F S512x512 .bf16) : Prog (TpuEff nD τ sig (Elt F) Λ₀ .tc) (FVec F S128x256 .f32) := do
  let wb : Vec F S1x1x512x512 .bf16 ← Prog.lift (.load arg13 (pl1 (F := F) i h).r13.toLoadRect (View.loadsAt_vmem h_S1x1x512x512))
  let dk : Vec F S256x512 .f32 ← Prog.lift (.load arg8 rCol0.toLoadRect (View.loadsAt_vmem h_S256x512))
  let _ ← Prog.lift (.load arg8 rCol0.toLoadRect (View.loadsAt_vmem h_S256x512))
  Prog.lift (.store arg8 rCol0 (k0_pay226 r.env.v89 x.2.2.2 dk) Finset.univ (View.stores_vmem_bits_univ h_S256x512 rfl) (.inl rfl))
  let dv : Vec F S256x512 .f32 ← Prog.lift (.load arg9 rCol0.toLoadRect (View.loadsAt_vmem h_S256x512))
  let _ ← Prog.lift (.load arg9 rCol0.toLoadRect (View.loadsAt_vmem h_S256x512))
  Prog.lift (.store arg9 rCol0 (k0_pay227 r.env.v102 wb dv) Finset.univ (View.stores_vmem_bits_univ h_S256x512 rfl) (.inl rfl))
  let _ ← Prog.lift (.load arg7 rAll.toLoadRect (View.loadsAt_vmem h_S128x256))
  pure (k0_pay228 r.env.v23 r.env.v28 r.env.v33 r.env.v38 x.1 x.2.2.1 x.2.2.2)

/-- The branch of this place, grouped as it is printed. -/
def branch1 (h : k0_cond3 i = 1#1) : Prog (TpuEff nD τ sig (Elt F) Λ₀ .tc) PUnit :=
  head (pl1 (F := F) i h) arg2 arg3 arg4 arg5 arg6 arg10 arg11 arg12 arg13 (View.loadsAt_vmem h_S256x256) (View.loadsAt_vmem h_S256x256)
      (View.stores_vmem h_S1x1x512x512 (harg12.storeExact_slice rfl _ packed_r0) (fun _ => rfl))
      (View.stores_vmem h_S1x1x512x512 (harg13.storeExact_slice rfl _ packed_r0) (fun _ => rfl)) >>= fun r =>
    ((((pl1 (F := F) i h).L1.for (pl1 (F := F) i h).ok1 r.init (fun t acc => trip r.env ((pl1 (F := F) i h).offs t) arg3 arg4 arg8 arg9 arg10 arg11 arg12 arg13 harg12 harg13 acc) >>= fun a =>
      (pl1 (F := F) i h).L2.for (pl1 (F := F) i h).ok2 a (left1 i arg2 harg2 arg3 harg3 arg4 harg4 arg5 harg5 arg6 harg6 arg7 harg7 arg8 harg8 arg9 harg9 arg10 harg10 arg11 harg11 arg12 harg12 arg13 harg13 h r) >>= fin1 i arg3 arg12 h r) >>= out1 i arg7 arg8 arg9 arg13 h r) >>= fun y =>
      Prog.lift (.store arg7 rAll (y) Finset.univ (View.stores_vmem_bits_univ h_S128x256 rfl) (.inl rfl)) >>= fun _ => pure ⟨⟩)

theorem branch1_eq (h : k0_cond3 i = 1#1) : branch1 (F := F) i arg2 harg2 arg3 harg3 arg4 harg4 arg5 harg5 arg6 harg6 arg7 harg7 arg8 harg8 arg9 harg9 arg10 harg10 arg11 harg11 arg12 harg12 arg13 harg13 h
    = place (pl1 (F := F) i h) arg2 arg3 arg4 arg5 arg6 arg7 arg8 arg9 arg10 arg11 arg12 arg13 harg12 harg13 (View.loadsAt_vmem h_S256x256) (View.loadsAt_vmem h_S256x256)
      (View.stores_vmem h_S1x1x512x512 (harg12.storeExact_slice rfl _ packed_r0) (fun _ => rfl))
      (View.stores_vmem h_S1x1x512x512 (harg13.storeExact_slice rfl _ packed_r0) (fun _ => rfl)) (left1 i arg2 harg2 arg3 harg3 arg4 harg4 arg5 harg5 arg6 harg6 arg7 harg7 arg8 harg8 arg9 harg9 arg10 harg10 arg11 harg11 arg12 harg12 arg13 harg13 h) :=
  congrArg (_ >>= ·) (funext fun r => by
    rw [regroup (f := fin1 i arg3 arg12 h r) (g := out1 i arg7 arg8 arg9 arg13 h r) (t := fun b => fin1 i arg3 arg12 h r b >>= out1 i arg7 arg8 arg9 arg13 h r) (fun _ => rfl)]
    exact regroup (by intro b; rfl))

/-! ## Place 2: 384 keys of the block's own tile -/

/-- The offsets of a trip. -/
def offs2 (h : k0_cond4 i = 1#1) (t : Fin (k0_t5_loop i).trips) : Offs where
  o3 := k0_off29 i t
  h3 := k0_off29_inb i t h
  o4 := k0_off30 i t
  h4 := k0_off30_inb i t h
  o5 := k0_off31 i t
  h5 := k0_off31_inb i t h
  o6 := k0_off32 i t
  h6 := k0_off32_inb i t h
  o7 := k0_off33 i t
  h7 := k0_off33_inb i t h
  p7 := k0_off33_packedbf16 i t h

def dz2 : Env F → Vec F S384x256 .f32 → Vec F S384x256 .f32 → Vec F S1x1x512x512 .bf16 := fun v kb vb =>
    have v110 := k0_pay303
    have v120 := k0_pay304 v.v66 kb
    have v128 := k0_pay305 v.v78 vb
    have v155 := k0_pay308
    have v165 := k0_pay309 v120
    have v170 := k0_pay312 v120
    have v171 := k0_pay313 v120
    have v185 := k0_pay314 v.v45 v120
    have v217 := k0_pay319 v110 v128 v155 v165 v170 v171 v185
    have v219 := k0_pay321 v110 v128 v155 v165 v170 v171 v185
    have v220 := k0_pay322 v110 v128 v155 v165 v170 v171 v185
    have v234 := k0_pay323 v.v52 v110 v128 v155 v165 v170 v171 v185
    have v239 := k0_pay324 v.v52 v110 v128 v155 v165 v170 v171 v185
    k0_pay328 v.v109 v110 v155 v165 v217 v219 v220 v234 v239

def w2 : Env F → Vec F S384x256 .f32 → Vec F S384x256 .f32 → Vec F S1x1x512x512 .bf16 := fun v kb _ =>
    have v110 := k0_pay303
    have v120 := k0_pay304 v.v66 kb
    have v155 := k0_pay308
    have v165 := k0_pay309 v120
    have v170 := k0_pay312 v120
    have v171 := k0_pay313 v120
    have v185 := k0_pay314 v.v45 v120
    have v215 := k0_pay318 v110 v155 v165 v170 v171 v185
    k0_pay329 v215

def c2 : Env F → Vec F S384x256 .f32 → Vec F S384x256 .f32 → FVec F S512x1 .f32 := fun v kb _ =>
    have v110 := k0_pay303
    have v120 := k0_pay304 v.v66 kb
    have v169 := k0_pay311 v120
    have v170 := k0_pay312 v120
    have v171 := k0_pay313 v120
    have v209 := k0_pay317 v110 v169 v170 v171
    v209

def ce2 : Env F → Vec F S384x256 .f32 → Vec F S384x256 .f32 → FVec F S512x1 .f32 := fun v kb vb =>
    have v110 := k0_pay303
    have v120 := k0_pay304 v.v66 kb
    have v128 := k0_pay305 v.v78 vb
    have v155 := k0_pay308
    have v165 := k0_pay309 v120
    have v170 := k0_pay312 v120
    have v171 := k0_pay313 v120
    have v185 := k0_pay314 v.v45 v120
    have v218 := k0_pay320 v110 v128 v155 v165 v170 v171 v185
    have v219 := k0_pay321 v110 v128 v155 v165 v170 v171 v185
    have v220 := k0_pay322 v110 v128 v155 v165 v170 v171 v185
    have v258 := k0_pay327 v110 v218 v219 v220
    v258

/-- The place. -/
@[reducible] def pl2 (h : k0_cond4 i = 1#1) : Place F where
  rK := Rect.unit (s := S4096x256) (k0_off27 i) S384x256.size (k0_off27_inb i h)
  o2 := k0_off28 i
  h2 := k0_off28_inb i h
  o13 := k0_off39 i
  h13 := k0_off39_inb i h
  L1 := k0_t5_loop i
  ok1 := k0_t5_ok i h
  L2 := k0_t6_loop i
  ok2 := k0_t6_ok i h
  offs := offs2 i h
  dz := dz2
  w := w2
  c0 := c2
  ce0 := ce2

/-- The body of the loop over what is left, which makes no trip. -/
def left2 (h : k0_cond4 i = 1#1) (r : HeadV (pl2 (F := F) i h)) : Fin (k0_t6_loop i).trips → Acc F → Prog (TpuEff nD τ sig (Elt F) Λ₀ .tc) (Acc F) :=
  let v := r.env
    let kb := r.kb
    let vb := r.vb

    let v110 := k0_pay303
    let v120 := k0_pay304 v.v66 kb
    let v128 := k0_pay305 v.v78 vb
    let v155 := k0_pay308
    let v165 := k0_pay309 v120
    let v169 := k0_pay311 v120
    let v170 := k0_pay312 v120
    let v171 := k0_pay313 v120
    let v185 := k0_pay314 v.v45 v120
    let v209 := k0_pay317 v110 v169 v170 v171
    let v218 := k0_pay320 v110 v128 v155 v165 v170 v171 v185
    let v219 := k0_pay321 v110 v128 v155 v165 v170 v171 v185
    let v220 := k0_pay322 v110 v128 v155 v165 v170 v171 v185
    let v258 := k0_pay327 v110 v218 v219 v220
    k0_t6_body i arg2 harg2 arg3 harg3 arg4 harg4 arg5 harg5 arg6 harg6 arg7 harg7 arg8 harg8 arg9 harg9 arg10 harg10 arg11 harg11 arg12 harg12 arg13 harg13 (tiles i) h v.v23 v.v28 v.v33 v.v38 v.v45 v.v52 v.v66 v.v78 v.v89 v.v102 v.v109 v209 v258 k0_pay330 0#32 (Scalar.subi (Scalar.subi (tiles i) 1#32) 0#32) (Scalar.addi 0#32 (Scalar.muli (Scalar.divsi (Scalar.subi (Scalar.subi (tiles i) 1#32) 0#32) 1#32) 1#32))

/-- The last part up to where the branch groups it with the loops. -/
def fin2 (h : k0_cond4 i = 1#1) (r : HeadV (pl2 (F := F) i h)) (b : Acc F) : Prog (TpuEff nD τ sig (Elt F) Λ₀ .tc) (Σ' (_ : BitVec 32) (_ : FVec F S128x256 .f32) (_ : FVec F S256x512 .f32), FVec F S256x512 .f32) := do
  let k0 : Vec F S512x256 .f32 ← Prog.lift (.load arg3 rRow0.toLoadRect (View.loadsAt_vmem h_S512x256))
  let dzb : Vec F S1x1x512x512 .bf16 ← Prog.lift (.load arg12 (pl2 (F := F) i h).r13.toLoadRect (View.loadsAt_vmem h_S1x1x512x512))
  let wb : Vec F S1x1x512x512 .bf16 ← Prog.lift (.load arg13 (pl2 (F := F) i h).r13.toLoadRect (View.loadsAt_vmem h_S1x1x512x512))
  pure ⟨0#32, k0_pay342 r.env.v23 r.env.v28 r.env.v33 r.env.v38 b.1 k0 dzb, k0_pay343 r.env.v89 dzb, k0_pay344 r.env.v102 wb⟩

/-- The rest of it. -/
def out2 (h : k0_cond4 i = 1#1) (r : HeadV (pl2 (F := F) i h)) (x : Σ' (_ : BitVec 32) (_ : FVec F S128x256 .f32) (_ : FVec F S256x512 .f32), FVec F S256x512 .f32) : Prog (TpuEff nD τ sig (Elt F) Λ₀ .tc) PUnit := do
  let dk : Vec F S256x512 .f32 ← Prog.lift (.load arg8 rCol0.toLoadRect (View.loadsAt_vmem h_S256x512))
  let _ ← Prog.lift (.load arg8 rCol0.toLoadRect (View.loadsAt_vmem h_S256x512))
  Prog.lift (.store arg8 rCol0 (k0_pay6 x.2.2.1 dk) Finset.univ (View.stores_vmem_bits_univ h_S256x512 rfl) (.inl rfl))
  let dv : Vec F S256x512 .f32 ← Prog.lift (.load arg9 rCol0.toLoadRect (View.loadsAt_vmem h_S256x512))
  let _ ← Prog.lift (.load arg9 rCol0.toLoadRect (View.loadsAt_vmem h_S256x512))
  Prog.lift (.store arg9 rCol0 (k0_pay7 x.2.2.2 dv) Finset.univ (View.stores_vmem_bits_univ h_S256x512 rfl) (.inl rfl))
  let _ ← Prog.lift (.load arg7 rAll.toLoadRect (View.loadsAt_vmem h_S128x256))
  Prog.lift (.store arg7 rAll (k0_pay8 x.2.1) Finset.univ (View.stores_vmem_bits_univ h_S128x256 rfl) (.inl rfl))
  pure ⟨⟩

/-- The branch of this place, grouped as it is printed. -/
def branch2 (h : k0_cond4 i = 1#1) : Prog (TpuEff nD τ sig (Elt F) Λ₀ .tc) PUnit :=
  head (pl2 (F := F) i h) arg2 arg3 arg4 arg5 arg6 arg10 arg11 arg12 arg13 (View.loadsAt_vmem h_S384x256) (View.loadsAt_vmem h_S384x256)
      (View.stores_vmem h_S1x1x512x512 (harg12.storeExact_slice rfl _ packed_r0) (fun _ => rfl))
      (View.stores_vmem h_S1x1x512x512 (harg13.storeExact_slice rfl _ packed_r0) (fun _ => rfl)) >>= fun r =>
    (((pl2 (F := F) i h).L1.for (pl2 (F := F) i h).ok1 r.init (fun t acc => trip r.env ((pl2 (F := F) i h).offs t) arg3 arg4 arg8 arg9 arg10 arg11 arg12 arg13 harg12 harg13 acc) >>= fun a =>
      (pl2 (F := F) i h).L2.for (pl2 (F := F) i h).ok2 a (left2 i arg2 harg2 arg3 harg3 arg4 harg4 arg5 harg5 arg6 harg6 arg7 harg7 arg8 harg8 arg9 harg9 arg10 harg10 arg11 harg11 arg12 harg12 arg13 harg13 h r) >>= fin2 i arg3 arg12 arg13 h r) >>= out2 i arg7 arg8 arg9 h r)

theorem branch2_eq (h : k0_cond4 i = 1#1) : branch2 (F := F) i arg2 harg2 arg3 harg3 arg4 harg4 arg5 harg5 arg6 harg6 arg7 harg7 arg8 harg8 arg9 harg9 arg10 harg10 arg11 harg11 arg12 harg12 arg13 harg13 h
    = place (pl2 (F := F) i h) arg2 arg3 arg4 arg5 arg6 arg7 arg8 arg9 arg10 arg11 arg12 arg13 harg12 harg13 (View.loadsAt_vmem h_S384x256) (View.loadsAt_vmem h_S384x256)
      (View.stores_vmem h_S1x1x512x512 (harg12.storeExact_slice rfl _ packed_r0) (fun _ => rfl))
      (View.stores_vmem h_S1x1x512x512 (harg13.storeExact_slice rfl _ packed_r0) (fun _ => rfl)) (left2 i arg2 harg2 arg3 harg3 arg4 harg4 arg5 harg5 arg6 harg6 arg7 harg7 arg8 harg8 arg9 harg9 arg10 harg10 arg11 harg11 arg12 harg12 arg13 harg13 h) :=
  congrArg (_ >>= ·) (funext fun r => regroup (by intro b; rfl))

/-! ## Place 3: 512 keys of the block's own tile -/

/-- The offsets of a trip. -/
def offs3 (h : k0_cond5 i = 1#1) (t : Fin (k0_t7_loop i).trips) : Offs where
  o3 := k0_off42 i t
  h3 := k0_off42_inb i t h
  o4 := k0_off43 i t
  h4 := k0_off43_inb i t h
  o5 := k0_off44 i t
  h5 := k0_off44_inb i t h
  o6 := k0_off45 i t
  h6 := k0_off45_inb i t h
  o7 := k0_off46 i t
  h7 := k0_off46_inb i t h
  p7 := k0_off46_packedbf16 i t h

def dz3 : Env F → Vec F S512x256 .f32 → Vec F S512x256 .f32 → Vec F S1x1x512x512 .bf16 := fun v kb vb =>
    have v110 := k0_pay419
    have v120 := k0_pay420 v.v66 kb
    have v128 := k0_pay421 v.v78 vb
    have v155 := k0_pay424
    have v165 := k0_pay425 v120
    have v170 := k0_pay428 v120
    have v171 := k0_pay429 v120
    have v172 := k0_pay430 v120
    have v173 := k0_pay431 v120
    have v174 := k0_pay432 v120
    have v175 := k0_pay433 v120
    have v176 := k0_pay434 v120
    have v179 := k0_pay435 v120
    have v182 := k0_pay436 v120
    have v185 := k0_pay437 v120
    have v186 := k0_pay438 v120
    have v230 := k0_pay444 v.v45 v110 v128 v155 v165 v170 v171 v172 v173 v174 v175 v176 v179 v182 v185 v186
    have v232 := k0_pay446 v.v45 v110 v128 v155 v165 v170 v171 v172 v173 v174 v175 v176 v179 v182 v185 v186
    have v233 := k0_pay447 v.v45 v110 v128 v155 v165 v170 v171 v172 v173 v174 v175 v176 v179 v182 v185 v186
    have v234 := k0_pay448 v.v45 v110 v128 v155 v165 v170 v171 v172 v173 v174 v175 v176 v179 v182 v185 v186
    have v235 := k0_pay449 v.v45 v110 v128 v155 v165 v170 v171 v172 v173 v174 v175 v176 v179 v182 v185 v186
    have v236 := k0_pay450 v.v45 v110 v128 v155 v165 v170 v171 v172 v173 v174 v175 v176 v179 v182 v185 v186
    have v237 := k0_pay451 v.v45 v110 v128 v155 v165 v170 v171 v172 v173 v174 v175 v176 v179 v182 v185 v186
    have v238 := k0_pay452 v.v45 v110 v128 v155 v165 v170 v171 v172 v173 v174 v175 v176 v179 v182 v185 v186
    have v240 := k0_pay453 v.v45 v110 v128 v155 v165 v170 v171 v172 v173 v174 v175 v176 v179 v182 v185 v186
    have v294 := k0_pay458 v.v52 v.v109 v110 v155 v165 v230 v232 v233 v234 v235 v236 v237 v238 v240
    k0_pay459 v294

def w3 : Env F → Vec F S512x256 .f32 → Vec F S512x256 .f32 → Vec F S1x1x512x512 .bf16 := fun v kb _ =>
    have v110 := k0_pay419
    have v120 := k0_pay420 v.v66 kb
    have v155 := k0_pay424
    have v165 := k0_pay425 v120
    have v170 := k0_pay428 v120
    have v171 := k0_pay429 v120
    have v172 := k0_pay430 v120
    have v173 := k0_pay431 v120
    have v174 := k0_pay432 v120
    have v175 := k0_pay433 v120
    have v176 := k0_pay434 v120
    have v179 := k0_pay435 v120
    have v182 := k0_pay436 v120
    have v185 := k0_pay437 v120
    have v186 := k0_pay438 v120
    have v228 := k0_pay443 v.v45 v110 v155 v165 v170 v171 v172 v173 v174 v175 v176 v179 v182 v185 v186
    k0_pay460 v228

def c3 : Env F → Vec F S512x256 .f32 → Vec F S512x256 .f32 → FVec F S512x1 .f32 := fun v kb _ =>
    have v110 := k0_pay419
    have v120 := k0_pay420 v.v66 kb
    have v169 := k0_pay427 v120
    have v170 := k0_pay428 v120
    have v171 := k0_pay429 v120
    have v172 := k0_pay430 v120
    have v222 := k0_pay442 v110 v169 v170 v171 v172
    v222

def ce3 : Env F → Vec F S512x256 .f32 → Vec F S512x256 .f32 → FVec F S512x1 .f32 := fun v kb vb =>
    have v110 := k0_pay419
    have v120 := k0_pay420 v.v66 kb
    have v128 := k0_pay421 v.v78 vb
    have v155 := k0_pay424
    have v165 := k0_pay425 v120
    have v170 := k0_pay428 v120
    have v171 := k0_pay429 v120
    have v172 := k0_pay430 v120
    have v173 := k0_pay431 v120
    have v174 := k0_pay432 v120
    have v175 := k0_pay433 v120
    have v176 := k0_pay434 v120
    have v179 := k0_pay435 v120
    have v182 := k0_pay436 v120
    have v185 := k0_pay437 v120
    have v186 := k0_pay438 v120
    have v231 := k0_pay445 v.v45 v110 v128 v155 v165 v170 v171 v172 v173 v174 v175 v176 v179 v182 v185 v186
    have v232 := k0_pay446 v.v45 v110 v128 v155 v165 v170 v171 v172 v173 v174 v175 v176 v179 v182 v185 v186
    have v233 := k0_pay447 v.v45 v110 v128 v155 v165 v170 v171 v172 v173 v174 v175 v176 v179 v182 v185 v186
    have v234 := k0_pay448 v.v45 v110 v128 v155 v165 v170 v171 v172 v173 v174 v175 v176 v179 v182 v185 v186
    have v284 := k0_pay457 v110 v231 v232 v233 v234
    v284

/-- The place. -/
@[reducible] def pl3 (h : k0_cond5 i = 1#1) : Place F where
  rK := Rect.unit (s := S4096x256) (k0_off40 i) S512x256.size (k0_off40_inb i h)
  o2 := k0_off41 i
  h2 := k0_off41_inb i h
  o13 := k0_off52 i
  h13 := k0_off52_inb i h
  L1 := k0_t7_loop i
  ok1 := k0_t7_ok i h
  L2 := k0_t8_loop i
  ok2 := k0_t8_ok i h
  offs := offs3 i h
  dz := dz3
  w := w3
  c0 := c3
  ce0 := ce3

/-- The body of the loop over what is left, which makes no trip. -/
def left3 (h : k0_cond5 i = 1#1) (r : HeadV (pl3 (F := F) i h)) : Fin (k0_t8_loop i).trips → Acc F → Prog (TpuEff nD τ sig (Elt F) Λ₀ .tc) (Acc F) :=
  let v := r.env
    let kb := r.kb
    let vb := r.vb

    let v110 := k0_pay419
    let v120 := k0_pay420 v.v66 kb
    let v128 := k0_pay421 v.v78 vb
    let v155 := k0_pay424
    let v165 := k0_pay425 v120
    let v169 := k0_pay427 v120
    let v170 := k0_pay428 v120
    let v171 := k0_pay429 v120
    let v172 := k0_pay430 v120
    let v173 := k0_pay431 v120
    let v174 := k0_pay432 v120
    let v175 := k0_pay433 v120
    let v176 := k0_pay434 v120
    let v179 := k0_pay435 v120
    let v182 := k0_pay436 v120
    let v185 := k0_pay437 v120
    let v186 := k0_pay438 v120
    let v222 := k0_pay442 v110 v169 v170 v171 v172
    let v228 := k0_pay443 v.v45 v110 v155 v165 v170 v171 v172 v173 v174 v175 v176 v179 v182 v185 v186
    let v230 := k0_pay444 v.v45 v110 v128 v155 v165 v170 v171 v172 v173 v174 v175 v176 v179 v182 v185 v186
    let v231 := k0_pay445 v.v45 v110 v128 v155 v165 v170 v171 v172 v173 v174 v175 v176 v179 v182 v185 v186
    let v232 := k0_pay446 v.v45 v110 v128 v155 v165 v170 v171 v172 v173 v174 v175 v176 v179 v182 v185 v186
    let v233 := k0_pay447 v.v45 v110 v128 v155 v165 v170 v171 v172 v173 v174 v175 v176 v179 v182 v185 v186
    let v234 := k0_pay448 v.v45 v110 v128 v155 v165 v170 v171 v172 v173 v174 v175 v176 v179 v182 v185 v186
    let v235 := k0_pay449 v.v45 v110 v128 v155 v165 v170 v171 v172 v173 v174 v175 v176 v179 v182 v185 v186
    let v236 := k0_pay450 v.v45 v110 v128 v155 v165 v170 v171 v172 v173 v174 v175 v176 v179 v182 v185 v186
    let v237 := k0_pay451 v.v45 v110 v128 v155 v165 v170 v171 v172 v173 v174 v175 v176 v179 v182 v185 v186
    let v238 := k0_pay452 v.v45 v110 v128 v155 v165 v170 v171 v172 v173 v174 v175 v176 v179 v182 v185 v186
    let v240 := k0_pay453 v.v45 v110 v128 v155 v165 v170 v171 v172 v173 v174 v175 v176 v179 v182 v185 v186
    let v284 := k0_pay457 v110 v231 v232 v233 v234
    let v294 := k0_pay458 v.v52 v.v109 v110 v155 v165 v230 v232 v233 v234 v235 v236 v237 v238 v240
    k0_t8_body i arg2 harg2 arg3 harg3 arg4 harg4 arg5 harg5 arg6 harg6 arg7 harg7 arg8 harg8 arg9 harg9 arg10 harg10 arg11 harg11 arg12 harg12 arg13 harg13 (tiles i) h v.v23 v.v28 v.v33 v.v38 v.v45 v.v52 v.v66 v.v78 v.v89 v.v102 v.v109 v222 v228 v284 v294 (Scalar.addi 0#32 (Scalar.muli (Scalar.divsi (Scalar.subi (Scalar.subi (tiles i) 1#32) 0#32) 1#32) 1#32))

/-- The last part up to where the branch groups it with the loops. -/
def fin3 (h : k0_cond5 i = 1#1) (r : HeadV (pl3 (F := F) i h)) (b : Acc F) : Prog (TpuEff nD τ sig (Elt F) Λ₀ .tc) (Σ' (_ : FVec F S128x256 .f32) (_ : BitVec 32) (_ : FVec F S512x512 .bf16) (_ : FVec F S512x512 .bf16) (_ : FVec F S512x256 .f32), FVec F S128x256 .f32) := do
  let k0 : Vec F S512x256 .f32 ← Prog.lift (.load arg3 rRow0.toLoadRect (View.loadsAt_vmem h_S512x256))
  let dzb : Vec F S1x1x512x512 .bf16 ← Prog.lift (.load arg12 (pl3 (F := F) i h).r13.toLoadRect (View.loadsAt_vmem h_S1x1x512x512))
  let wb : Vec F S1x1x512x512 .bf16 ← Prog.lift (.load arg13 (pl3 (F := F) i h).r13.toLoadRect (View.loadsAt_vmem h_S1x1x512x512))
  pure ⟨b.1, 0#32, k0_pay472 dzb, k0_pay473 wb, k0_pay474 k0 dzb, k0_pay475 r.env.v23 k0 dzb⟩

/-- The rest of it. -/
def out3 (h : k0_cond5 i = 1#1) (r : HeadV (pl3 (F := F) i h)) (x : Σ' (_ : FVec F S128x256 .f32) (_ : BitVec 32) (_ : FVec F S512x512 .bf16) (_ : FVec F S512x512 .bf16) (_ : FVec F S512x256 .f32), FVec F S128x256 .f32) : Prog (TpuEff nD τ sig (Elt F) Λ₀ .tc) PUnit := do
  let dk : Vec F S256x512 .f32 ← Prog.lift (.load arg8 rCol0.toLoadRect (View.loadsAt_vmem h_S256x512))
  let _ ← Prog.lift (.load arg8 rCol0.toLoadRect (View.loadsAt_vmem h_S256x512))
  Prog.lift (.store arg8 rCol0 (k0_pay9 r.env.v89 x.2.2.1 dk) Finset.univ (View.stores_vmem_bits_univ h_S256x512 rfl) (.inl rfl))
  let dv : Vec F S256x512 .f32 ← Prog.lift (.load arg9 rCol0.toLoadRect (View.loadsAt_vmem h_S256x512))
  let _ ← Prog.lift (.load arg9 rCol0.toLoadRect (View.loadsAt_vmem h_S256x512))
  Prog.lift (.store arg9 rCol0 (k0_pay10 r.env.v102 x.2.2.2.1 dv) Finset.univ (View.stores_vmem_bits_univ h_S256x512 rfl) (.inl rfl))
  let _ ← Prog.lift (.load arg7 rAll.toLoadRect (View.loadsAt_vmem h_S128x256))
  Prog.lift (.store arg7 rAll (k0_pay11 r.env.v28 r.env.v33 r.env.v38 x.1 x.2.2.2.2.1 x.2.2.2.2.2) Finset.univ (View.stores_vmem_bits_univ h_S128x256 rfl) (.inl rfl))
  pure ⟨⟩

/-- The branch of this place, grouped as it is printed. -/
def branch3 (h : k0_cond5 i = 1#1) : Prog (TpuEff nD τ sig (Elt F) Λ₀ .tc) PUnit :=
  head (pl3 (F := F) i h) arg2 arg3 arg4 arg5 arg6 arg10 arg11 arg12 arg13 (View.loadsAt_vmem h_S512x256) (View.loadsAt_vmem h_S512x256)
      (View.stores_vmem h_S1x1x512x512 (harg12.storeExact_slice rfl _ packed_r0) (fun _ => rfl))
      (View.stores_vmem h_S1x1x512x512 (harg13.storeExact_slice rfl _ packed_r0) (fun _ => rfl)) >>= fun r =>
    (((pl3 (F := F) i h).L1.for (pl3 (F := F) i h).ok1 r.init (fun t acc => trip r.env ((pl3 (F := F) i h).offs t) arg3 arg4 arg8 arg9 arg10 arg11 arg12 arg13 harg12 harg13 acc) >>= fun a =>
      (pl3 (F := F) i h).L2.for (pl3 (F := F) i h).ok2 a (left3 i arg2 harg2 arg3 harg3 arg4 harg4 arg5 harg5 arg6 harg6 arg7 harg7 arg8 harg8 arg9 harg9 arg10 harg10 arg11 harg11 arg12 harg12 arg13 harg13 h r) >>= fin3 i arg3 arg12 arg13 h r) >>= out3 i arg7 arg8 arg9 h r)

theorem branch3_eq (h : k0_cond5 i = 1#1) : branch3 (F := F) i arg2 harg2 arg3 harg3 arg4 harg4 arg5 harg5 arg6 harg6 arg7 harg7 arg8 harg8 arg9 harg9 arg10 harg10 arg11 harg11 arg12 harg12 arg13 harg13 h
    = place (pl3 (F := F) i h) arg2 arg3 arg4 arg5 arg6 arg7 arg8 arg9 arg10 arg11 arg12 arg13 harg12 harg13 (View.loadsAt_vmem h_S512x256) (View.loadsAt_vmem h_S512x256)
      (View.stores_vmem h_S1x1x512x512 (harg12.storeExact_slice rfl _ packed_r0) (fun _ => rfl))
      (View.stores_vmem h_S1x1x512x512 (harg13.storeExact_slice rfl _ packed_r0) (fun _ => rfl)) (left3 i arg2 harg2 arg3 harg3 arg4 harg4 arg5 harg5 arg6 harg6 arg7 harg7 arg8 harg8 arg9 harg9 arg10 harg10 arg11 harg11 arg12 harg12 arg13 harg13 h) :=
  congrArg (_ >>= ·) (funext fun r => regroup (by intro b; rfl))

end Cert.SbBwdIdeal.Own
-- ==== Proof.SbBody.lean ====
/- The kernel's body: the accumulators set to zero at the first point, then the branch of the block's place. -/
module

public import proofs.«01_k».proof.Proof.SbPlaces
public import Idealize.ShloMosaic.Lib.Claim

@[expose] public section

noncomputable section

namespace Cert.SbBwdIdeal.Own

open Idealize.ShloMosaic Idealize.ShloMosaic.TcCoe
open Idealize.SL Idealize.SL.Sem
open Cert.SbBwdIdeal.Gen Cert.SbRules

variable {F : FTy → Type} [FloatOps F] [Named F]

variable (i : grid0.Coords)
variable (arg2 : Memref sig .tc .vmem S128x256 .f32) (harg2 : arg2.IsWhole) (arg3 : Memref sig .tc .vmem S4096x256 .f32) (harg3 : arg3.IsWhole) (arg4 : Memref sig .tc .vmem S4096x256 .f32) (harg4 : arg4.IsWhole)
variable (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole)
variable (arg8 : Memref sig .tc .vmem S256x4096 .f32) (harg8 : arg8.IsWhole) (arg9 : Memref sig .tc .vmem S256x4096 .f32) (harg9 : arg9.IsWhole)
variable (arg10 : Memref sig .tc .vmem S2x1x512x512 .f32) (harg10 : arg10.IsWhole) (arg11 : Memref sig .tc .vmem S2x1x512x512 .f32) (harg11 : arg11.IsWhole)
variable (arg12 : Memref sig .tc .vmem S2x1x512x512 .bf16) (harg12 : arg12.IsWhole) (arg13 : Memref sig .tc .vmem S2x1x512x512 .bf16) (harg13 : arg13.IsWhole)

/-- At the first point the accumulators of dk and dv are set to zero. -/
def zeros (K : PUnit → Prog (TpuEff nD τ sig (Elt F) Λ₀ .tc) PUnit) : Prog (TpuEff nD τ sig (Elt F) Λ₀ .tc) PUnit :=
  Prog.lift (.load arg8 (Rect.unit (s := S256x4096) ![0, 0] S256x4096.size inb_S256x4096_S256x4096_0_0).toLoadRect (View.loadsAt_vmem h_S256x4096)) >>= fun _ =>
  Prog.lift (.store arg8 (Rect.unit (s := S256x4096) ![0, 0] S256x4096.size inb_S256x4096_S256x4096_0_0) k0_pay1 Finset.univ (View.stores_vmem_bits_univ h_S256x4096 rfl) (.inl rfl)) >>= fun _ =>
  Prog.lift (.load arg9 (Rect.unit (s := S256x4096) ![0, 0] S256x4096.size inb_S256x4096_S256x4096_0_0).toLoadRect (View.loadsAt_vmem h_S256x4096)) >>= fun _ =>
  Prog.lift (.store arg9 (Rect.unit (s := S256x4096) ![0, 0] S256x4096.size inb_S256x4096_S256x4096_0_0) k0_pay2 Finset.univ (View.stores_vmem_bits_univ h_S256x4096 rfl) (.inl rfl)) >>= K

/-- A branch taken or not, then what follows. -/
def chosen {p : Prop} [Decidable p] (b : p → Prog (TpuEff nD τ sig (Elt F) Λ₀ .tc) PUnit) (K : Prog (TpuEff nD τ sig (Elt F) Λ₀ .tc) PUnit) : Prog (TpuEff nD τ sig (Elt F) Λ₀ .tc) PUnit :=
  if h : p then b h >>= fun _ => K else K

/-- The body of the kernel: at the first point the accumulators of dk and dv are set to zero, then the branch of the
    block's place runs. -/
def body : Prog (TpuEff nD τ sig (Elt F) Λ₀ .tc) PUnit :=
  let K := chosen (p := k0_cond2 i = 1#1) (branch0 i arg2 harg2 arg3 harg3 arg4 harg4 arg5 harg5 arg6 harg6 arg7 harg7 arg8 harg8 arg9 harg9 arg10 harg10 arg11 harg11 arg12 harg12 arg13 harg13) <| chosen (p := k0_cond3 i = 1#1) (branch1 i arg2 harg2 arg3 harg3 arg4 harg4 arg5 harg5 arg6 harg6 arg7 harg7 arg8 harg8 arg9 harg9 arg10 harg10 arg11 harg11 arg12 harg12 arg13 harg13) <|
    chosen (p := k0_cond4 i = 1#1) (branch2 i arg2 harg2 arg3 harg3 arg4 harg4 arg5 harg5 arg6 harg6 arg7 harg7 arg8 harg8 arg9 harg9 arg10 harg10 arg11 harg11 arg12 harg12 arg13 harg13) <| chosen (p := k0_cond5 i = 1#1) (branch3 i arg2 harg2 arg3 harg3 arg4 harg4 arg5 harg5 arg6 harg6 arg7 harg7 arg8 harg8 arg9 harg9 arg10 harg10 arg11 harg11 arg12 harg12 arg13 harg13) (pure ⟨⟩)
  if k0_cond1 i = 1#1 then zeros arg8 arg9 (fun _ => K) else K

/-- The branch followed by the rest, as they are printed. -/
def branchK0 (K : Prog (TpuEff nD τ sig (Elt F) Λ₀ .tc) PUnit) (h : k0_cond2 i = 1#1) : Prog (TpuEff nD τ sig (Elt F) Λ₀ .tc) PUnit :=
  head (pl0 (F := F) i h) arg2 arg3 arg4 arg5 arg6 arg10 arg11 arg12 arg13 (View.loadsAt_vmem h_S128x256) (View.loadsAt_vmem h_S128x256)
      (View.stores_vmem h_S1x1x512x512 (harg12.storeExact_slice rfl _ packed_r0) (fun _ => rfl))
      (View.stores_vmem h_S1x1x512x512 (harg13.storeExact_slice rfl _ packed_r0) (fun _ => rfl)) >>= fun r =>
    (((pl0 (F := F) i h).L1.for (pl0 (F := F) i h).ok1 r.init (fun t acc => trip r.env ((pl0 (F := F) i h).offs t) arg3 arg4 arg8 arg9 arg10 arg11 arg12 arg13 harg12 harg13 acc) >>= fun a =>
      (pl0 (F := F) i h).L2.for (pl0 (F := F) i h).ok2 a (left0 i arg2 harg2 arg3 harg3 arg4 harg4 arg5 harg5 arg6 harg6 arg7 harg7 arg8 harg8 arg9 harg9 arg10 harg10 arg11 harg11 arg12 harg12 arg13 harg13 h r) >>= fin0 i arg3 arg12 arg13 h r) >>= fun b => out0 i arg7 arg8 arg9 h r b >>= fun _ => K)

theorem branchK0_eq (K : Prog (TpuEff nD τ sig (Elt F) Λ₀ .tc) PUnit) (h : k0_cond2 i = 1#1) : branchK0 (F := F) i arg2 harg2 arg3 harg3 arg4 harg4 arg5 harg5 arg6 harg6 arg7 harg7 arg8 harg8 arg9 harg9 arg10 harg10 arg11 harg11 arg12 harg12 arg13 harg13 K h = branch0 i arg2 harg2 arg3 harg3 arg4 harg4 arg5 harg5 arg6 harg6 arg7 harg7 arg8 harg8 arg9 harg9 arg10 harg10 arg11 harg11 arg12 harg12 arg13 harg13 h >>= fun _ => K := by
  unfold branchK0 branch0
  rw [bind_assoc]
  exact congrArg (_ >>= ·) (funext fun r => by simp only [bind_assoc])

/-- The branch followed by the rest, as they are printed. -/
def branchK1 (K : Prog (TpuEff nD τ sig (Elt F) Λ₀ .tc) PUnit) (h : k0_cond3 i = 1#1) : Prog (TpuEff nD τ sig (Elt F) Λ₀ .tc) PUnit :=
  head (pl1 (F := F) i h) arg2 arg3 arg4 arg5 arg6 arg10 arg11 arg12 arg13 (View.loadsAt_vmem h_S256x256) (View.loadsAt_vmem h_S256x256)
      (View.stores_vmem h_S1x1x512x512 (harg12.storeExact_slice rfl _ packed_r0) (fun _ => rfl))
      (View.stores_vmem h_S1x1x512x512 (harg13.storeExact_slice rfl _ packed_r0) (fun _ => rfl)) >>= fun r =>
    ((((pl1 (F := F) i h).L1.for (pl1 (F := F) i h).ok1 r.init (fun t acc => trip r.env ((pl1 (F := F) i h).offs t) arg3 arg4 arg8 arg9 arg10 arg11 arg12 arg13 harg12 harg13 acc) >>= fun a =>
      (pl1 (F := F) i h).L2.for (pl1 (F := F) i h).ok2 a (left1 i arg2 harg2 arg3 harg3 arg4 harg4 arg5 harg5 arg6 harg6 arg7 harg7 arg8 harg8 arg9 harg9 arg10 harg10 arg11 harg11 arg12 harg12 arg13 harg13 h r) >>= fin1 i arg3 arg12 h r) >>= out1 i arg7 arg8 arg9 arg13 h r) >>= fun y =>
      Prog.lift (.store arg7 rAll (y) Finset.univ (View.stores_vmem_bits_univ h_S128x256 rfl) (.inl rfl)) >>= fun _ => K)

theorem branchK1_eq (K : Prog (TpuEff nD τ sig (Elt F) Λ₀ .tc) PUnit) (h : k0_cond3 i = 1#1) : branchK1 (F := F) i arg2 harg2 arg3 harg3 arg4 harg4 arg5 harg5 arg6 harg6 arg7 harg7 arg8 harg8 arg9 harg9 arg10 harg10 arg11 harg11 arg12 harg12 arg13 harg13 K h = branch1 i arg2 harg2 arg3 harg3 arg4 harg4 arg5 harg5 arg6 harg6 arg7 harg7 arg8 harg8 arg9 harg9 arg10 harg10 arg11 harg11 arg12 harg12 arg13 harg13 h >>= fun _ => K := by
  unfold branchK1 branch1
  rw [bind_assoc]
  exact congrArg (_ >>= ·) (funext fun r => by simp only [bind_assoc, pure_bind])

/-- The branch followed by the rest, as they are printed. -/
def branchK2 (K : Prog (TpuEff nD τ sig (Elt F) Λ₀ .tc) PUnit) (h : k0_cond4 i = 1#1) : Prog (TpuEff nD τ sig (Elt F) Λ₀ .tc) PUnit :=
  head (pl2 (F := F) i h) arg2 arg3 arg4 arg5 arg6 arg10 arg11 arg12 arg13 (View.loadsAt_vmem h_S384x256) (View.loadsAt_vmem h_S384x256)
      (View.stores_vmem h_S1x1x512x512 (harg12.storeExact_slice rfl _ packed_r0) (fun _ => rfl))
      (View.stores_vmem h_S1x1x512x512 (harg13.storeExact_slice rfl _ packed_r0) (fun _ => rfl)) >>= fun r =>
    (((pl2 (F := F) i h).L1.for (pl2 (F := F) i h).ok1 r.init (fun t acc => trip r.env ((pl2 (F := F) i h).offs t) arg3 arg4 arg8 arg9 arg10 arg11 arg12 arg13 harg12 harg13 acc) >>= fun a =>
      (pl2 (F := F) i h).L2.for (pl2 (F := F) i h).ok2 a (left2 i arg2 harg2 arg3 harg3 arg4 harg4 arg5 harg5 arg6 harg6 arg7 harg7 arg8 harg8 arg9 harg9 arg10 harg10 arg11 harg11 arg12 harg12 arg13 harg13 h r) >>= fin2 i arg3 arg12 arg13 h r) >>= fun b => out2 i arg7 arg8 arg9 h r b >>= fun _ => K)

theorem branchK2_eq (K : Prog (TpuEff nD τ sig (Elt F) Λ₀ .tc) PUnit) (h : k0_cond4 i = 1#1) : branchK2 (F := F) i arg2 harg2 arg3 harg3 arg4 harg4 arg5 harg5 arg6 harg6 arg7 harg7 arg8 harg8 arg9 harg9 arg10 harg10 arg11 harg11 arg12 harg12 arg13 harg13 K h = branch2 i arg2 harg2 arg3 harg3 arg4 harg4 arg5 harg5 arg6 harg6 arg7 harg7 arg8 harg8 arg9 harg9 arg10 harg10 arg11 harg11 arg12 harg12 arg13 harg13 h >>= fun _ => K := by
  unfold branchK2 branch2
  rw [bind_assoc]
  exact congrArg (_ >>= ·) (funext fun r => by simp only [bind_assoc])

/-- The branch followed by the rest, as they are printed. -/
def branchK3 (K : Prog (TpuEff nD τ sig (Elt F) Λ₀ .tc) PUnit) (h : k0_cond5 i = 1#1) : Prog (TpuEff nD τ sig (Elt F) Λ₀ .tc) PUnit :=
  head (pl3 (F := F) i h) arg2 arg3 arg4 arg5 arg6 arg10 arg11 arg12 arg13 (View.loadsAt_vmem h_S512x256) (View.loadsAt_vmem h_S512x256)
      (View.stores_vmem h_S1x1x512x512 (harg12.storeExact_slice rfl _ packed_r0) (fun _ => rfl))
      (View.stores_vmem h_S1x1x512x512 (harg13.storeExact_slice rfl _ packed_r0) (fun _ => rfl)) >>= fun r =>
    (((pl3 (F := F) i h).L1.for (pl3 (F := F) i h).ok1 r.init (fun t acc => trip r.env ((pl3 (F := F) i h).offs t) arg3 arg4 arg8 arg9 arg10 arg11 arg12 arg13 harg12 harg13 acc) >>= fun a =>
      (pl3 (F := F) i h).L2.for (pl3 (F := F) i h).ok2 a (left3 i arg2 harg2 arg3 harg3 arg4 harg4 arg5 harg5 arg6 harg6 arg7 harg7 arg8 harg8 arg9 harg9 arg10 harg10 arg11 harg11 arg12 harg12 arg13 harg13 h r) >>= fin3 i arg3 arg12 arg13 h r) >>= fun b => out3 i arg7 arg8 arg9 h r b >>= fun _ => K)

theorem branchK3_eq (K : Prog (TpuEff nD τ sig (Elt F) Λ₀ .tc) PUnit) (h : k0_cond5 i = 1#1) : branchK3 (F := F) i arg2 harg2 arg3 harg3 arg4 harg4 arg5 harg5 arg6 harg6 arg7 harg7 arg8 harg8 arg9 harg9 arg10 harg10 arg11 harg11 arg12 harg12 arg13 harg13 K h = branch3 i arg2 harg2 arg3 harg3 arg4 harg4 arg5 harg5 arg6 harg6 arg7 harg7 arg8 harg8 arg9 harg9 arg10 harg10 arg11 harg11 arg12 harg12 arg13 harg13 h >>= fun _ => K := by
  unfold branchK3 branch3
  rw [bind_assoc]
  exact congrArg (_ >>= ·) (funext fun r => by simp only [bind_assoc])

theorem printed_eq : cc0_sb_bwd (F := F) i arg2 harg2 arg3 harg3 arg4 harg4 arg5 harg5 arg6 harg6 arg7 harg7 arg8 harg8 arg9 harg9 arg10 harg10 arg11 harg11 arg12 harg12 arg13 harg13 = if k0_cond1 i = 1#1 then zeros arg8 arg9 (fun _ => (if h : k0_cond2 i = 1#1 then branchK0 i arg2 harg2 arg3 harg3 arg4 harg4 arg5 harg5 arg6 harg6 arg7 harg7 arg8 harg8 arg9 harg9 arg10 harg10 arg11 harg11 arg12 harg12 arg13 harg13 ((if h : k0_cond3 i = 1#1 then branchK1 i arg2 harg2 arg3 harg3 arg4 harg4 arg5 harg5 arg6 harg6 arg7 harg7 arg8 harg8 arg9 harg9 arg10 harg10 arg11 harg11 arg12 harg12 arg13 harg13 ((if h : k0_cond4 i = 1#1 then branchK2 i arg2 harg2 arg3 harg3 arg4 harg4 arg5 harg5 arg6 harg6 arg7 harg7 arg8 harg8 arg9 harg9 arg10 harg10 arg11 harg11 arg12 harg12 arg13 harg13 ((if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)) h else (if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩))) h else (if h : k0_cond4 i = 1#1 then branchK2 i arg2 harg2 arg3 harg3 arg4 harg4 arg5 harg5 arg6 harg6 arg7 harg7 arg8 harg8 arg9 harg9 arg10 harg10 arg11 harg11 arg12 harg12 arg13 harg13 ((if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)) h else (if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)))) h else (if h : k0_cond3 i = 1#1 then branchK1 i arg2 harg2 arg3 harg3 arg4 harg4 arg5 harg5 arg6 harg6 arg7 harg7 arg8 harg8 arg9 harg9 arg10 harg10 arg11 harg11 arg12 harg12 arg13 harg13 ((if h : k0_cond4 i = 1#1 then branchK2 i arg2 harg2 arg3 harg3 arg4 harg4 arg5 harg5 arg6 harg6 arg7 harg7 arg8 harg8 arg9 harg9 arg10 harg10 arg11 harg11 arg12 harg12 arg13 harg13 ((if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)) h else (if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩))) h else (if h : k0_cond4 i = 1#1 then branchK2 i arg2 harg2 arg3 harg3 arg4 harg4 arg5 harg5 arg6 harg6 arg7 harg7 arg8 harg8 arg9 harg9 arg10 harg10 arg11 harg11 arg12 harg12 arg13 harg13 ((if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)) h else (if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩))))) else (if h : k0_cond2 i = 1#1 then branchK0 i arg2 harg2 arg3 harg3 arg4 harg4 arg5 harg5 arg6 harg6 arg7 harg7 arg8 harg8 arg9 harg9 arg10 harg10 arg11 harg11 arg12 harg12 arg13 harg13 ((if h : k0_cond3 i = 1#1 then branchK1 i arg2 harg2 arg3 harg3 arg4 harg4 arg5 harg5 arg6 harg6 arg7 harg7 arg8 harg8 arg9 harg9 arg10 harg10 arg11 harg11 arg12 harg12 arg13 harg13 ((if h : k0_cond4 i = 1#1 then branchK2 i arg2 harg2 arg3 harg3 arg4 harg4 arg5 harg5 arg6 harg6 arg7 harg7 arg8 harg8 arg9 harg9 arg10 harg10 arg11 harg11 arg12 harg12 arg13 harg13 ((if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)) h else (if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩))) h else (if h : k0_cond4 i = 1#1 then branchK2 i arg2 harg2 arg3 harg3 arg4 harg4 arg5 harg5 arg6 harg6 arg7 harg7 arg8 harg8 arg9 harg9 arg10 harg10 arg11 harg11 arg12 harg12 arg13 harg13 ((if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)) h else (if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)))) h else (if h : k0_cond3 i = 1#1 then branchK1 i arg2 harg2 arg3 harg3 arg4 harg4 arg5 harg5 arg6 harg6 arg7 harg7 arg8 harg8 arg9 harg9 arg10 harg10 arg11 harg11 arg12 harg12 arg13 harg13 ((if h : k0_cond4 i = 1#1 then branchK2 i arg2 harg2 arg3 harg3 arg4 harg4 arg5 harg5 arg6 harg6 arg7 harg7 arg8 harg8 arg9 harg9 arg10 harg10 arg11 harg11 arg12 harg12 arg13 harg13 ((if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)) h else (if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩))) h else (if h : k0_cond4 i = 1#1 then branchK2 i arg2 harg2 arg3 harg3 arg4 harg4 arg5 harg5 arg6 harg6 arg7 harg7 arg8 harg8 arg9 harg9 arg10 harg10 arg11 harg11 arg12 harg12 arg13 harg13 ((if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)) h else (if h : k0_cond5 i = 1#1 then branchK3 i arg2 harg2 arg3 harg3 arg4 harg4 arg5 harg5 arg6 harg6 arg7 harg7 arg8 harg8 arg9 harg9 arg10 harg10 arg11 harg11 arg12 harg12 arg13 harg13 (pure ⟨⟩) h else pure ⟨⟩)))) := by
  sl_kernel_rfl

theorem body_eq : cc0_sb_bwd (F := F) i arg2 harg2 arg3 harg3 arg4 harg4 arg5 harg5 arg6 harg6 arg7 harg7 arg8 harg8 arg9 harg9 arg10 harg10 arg11 harg11 arg12 harg12 arg13 harg13 = body i arg2 harg2 arg3 harg3 arg4 harg4 arg5 harg5 arg6 harg6 arg7 harg7 arg8 harg8 arg9 harg9 arg10 harg10 arg11 harg11 arg12 harg12 arg13 harg13 := by
  rw [printed_eq]
  simp only [branchK0_eq, branchK1_eq, branchK2_eq, branchK3_eq]
  rfl

end Cert.SbBwdIdeal.Own
-- ==== Proof.SbWp.lean ====
/- One grid point: the kernel's body takes the buffers from a state to one that the place of its query block makes of it. -/
module

public import proofs.«01_k».proof.Proof.SbBody

@[expose] public section

noncomputable section

namespace Cert.SbBwdIdeal.Own

open Idealize.ShloMosaic Idealize.ShloMosaic.TcCoe
open Idealize.SL Idealize.SL.RA Idealize.SL.BI Idealize.SL.Sem Idealize.SL.ProofMode
open Idealize.SL.BI.BIBase Idealize.SL.BI.Laws
open scoped Idealize.SL.BI
open Cert.SbBwdIdeal.Gen Cert.SbRules

variable {F : FTy → Type} [FloatOps F] [Named F]
local notation "𝕄G" => MT nD τ sig Unit (Elt F) ℕ (UR sig nD τ) ℕ

/-! ## Which place a grid point is -/

theorem place0_iff : ∀ i : grid0.Coords, k0_cond2 i = 1#1 ↔ (i 0).val = 0 := by decide +kernel
theorem place1_iff : ∀ i : grid0.Coords, k0_cond3 i = 1#1 ↔ (i 0).val = 1 := by decide +kernel
theorem place2_iff : ∀ i : grid0.Coords, k0_cond4 i = 1#1 ↔ (i 0).val = 2 := by decide +kernel
theorem place3_iff : ∀ i : grid0.Coords, k0_cond5 i = 1#1 ↔ (i 0).val = 3 := by decide +kernel
theorem place_lt : ∀ i : grid0.Coords, (i 0).val < 4 := by decide +kernel

theorem left0_none : ∀ i : grid0.Coords, (k0_t2_loop i).trips = 0 := by decide +kernel
theorem left1_none : ∀ i : grid0.Coords, (k0_t4_loop i).trips = 0 := by decide +kernel
theorem left2_none : ∀ i : grid0.Coords, (k0_t6_loop i).trips = 0 := by decide +kernel
theorem left3_none : ∀ i : grid0.Coords, (k0_t8_loop i).trips = 0 := by decide +kernel

theorem pl0_left (i : grid0.Coords) (h) : (pl0 (F := F) i h).L2.trips = 0 := by
  unfold pl0; dsimp only; exact left0_none i
theorem pl1_left (i : grid0.Coords) (h) : (pl1 (F := F) i h).L2.trips = 0 := by
  unfold pl1; dsimp only; exact left1_none i
theorem pl2_left (i : grid0.Coords) (h) : (pl2 (F := F) i h).L2.trips = 0 := by
  unfold pl2; dsimp only; exact left2_none i
theorem pl3_left (i : grid0.Coords) (h) : (pl3 (F := F) i h).L2.trips = 0 := by
  unfold pl3; dsimp only; exact left3_none i

/-- The place of the query block at a grid point. -/
inductive IsPlace (i : grid0.Coords) : Place F → Prop
  | p0 (h : k0_cond2 i = 1#1) : IsPlace i (pl0 i h)
  | p1 (h : k0_cond3 i = 1#1) : IsPlace i (pl1 i h)
  | p2 (h : k0_cond4 i = 1#1) : IsPlace i (pl2 i h)
  | p3 (h : k0_cond5 i = 1#1) : IsPlace i (pl3 i h)

/-- All of an accumulator of dk or dv. -/
abbrev rZero : Rect S256x4096 := Rect.unit (s := S256x4096) ![0, 0] S256x4096.size inb_S256x4096_S256x4096_0_0

/-- What a grid point starts from: the accumulators of dk and dv set to zero if it is the first. -/
def start (i : grid0.Coords) (s : St F) : St F :=
  if k0_cond1 i = 1#1 then { s with X8 := rZero.overlay s.X8 k0_pay1, X9 := rZero.overlay s.X9 k0_pay2 } else s

/-- A place takes the state `s` to states of which `R` holds: there is an assertion that its trips keep. -/
def Leads (P : Place F) (x : Ins F) (X7 : S128x256.Idx → Elt F .f32) (s : St F) (R : (S128x256.Idx → Elt F .f32) → St F → Prop) : Prop :=
  ∃ I : ℕ → St F → Prop, I 0 (headSt P x s)
    ∧ (∀ (t : Fin P.L1.trips) (s : St F), I t.val s → I (t.val + 1) (tripSt x.env (P.offs t) x.X3 x.X4 s))
    ∧ ∀ s, I P.L1.trips s → R (tailDq P x s X7) (tailSt P x s)

theorem chosen_pos {p : Prop} [Decidable p] (h : p) (b : p → Prog (TpuEff nD τ sig (Elt F) Λ₀ .tc) PUnit) (K) :
    chosen b K = b h >>= fun _ => K := dif_pos h
theorem chosen_neg {p : Prop} [Decidable p] (h : ¬p) (b : p → Prog (TpuEff nD τ sig (Elt F) Λ₀ .tc) PUnit) (K) :
    chosen b K = K := dif_neg h

variable (c : Dev nD) (i : grid0.Coords)
variable (arg2 : Memref sig .tc .vmem S128x256 .f32) (harg2 : arg2.IsWhole) (arg3 : Memref sig .tc .vmem S4096x256 .f32) (harg3 : arg3.IsWhole) (arg4 : Memref sig .tc .vmem S4096x256 .f32) (harg4 : arg4.IsWhole)
variable (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole)
variable (arg8 : Memref sig .tc .vmem S256x4096 .f32) (harg8 : arg8.IsWhole) (arg9 : Memref sig .tc .vmem S256x4096 .f32) (harg9 : arg9.IsWhole)
variable (arg10 : Memref sig .tc .vmem S2x1x512x512 .f32) (harg10 : arg10.IsWhole) (arg11 : Memref sig .tc .vmem S2x1x512x512 .f32) (harg11 : arg11.IsWhole)
variable (arg12 : Memref sig .tc .vmem S2x1x512x512 .bf16) (harg12 : arg12.IsWhole) (arg13 : Memref sig .tc .vmem S2x1x512x512 .bf16) (harg13 : arg13.IsWhole)

/-- The branch that runs, from the state the point starts from. -/
def taken : Prog (TpuEff nD τ sig (Elt F) Λ₀ .tc) PUnit :=
  chosen (p := k0_cond2 i = 1#1) (branch0 i arg2 harg2 arg3 harg3 arg4 harg4 arg5 harg5 arg6 harg6 arg7 harg7 arg8 harg8 arg9 harg9 arg10 harg10 arg11 harg11 arg12 harg12 arg13 harg13) <| chosen (p := k0_cond3 i = 1#1) (branch1 i arg2 harg2 arg3 harg3 arg4 harg4 arg5 harg5 arg6 harg6 arg7 harg7 arg8 harg8 arg9 harg9 arg10 harg10 arg11 harg11 arg12 harg12 arg13 harg13) <|
    chosen (p := k0_cond4 i = 1#1) (branch2 i arg2 harg2 arg3 harg3 arg4 harg4 arg5 harg5 arg6 harg6 arg7 harg7 arg8 harg8 arg9 harg9 arg10 harg10 arg11 harg11 arg12 harg12 arg13 harg13) <| chosen (p := k0_cond5 i = 1#1) (branch3 i arg2 harg2 arg3 harg3 arg4 harg4 arg5 harg5 arg6 harg6 arg7 harg7 arg8 harg8 arg9 harg9 arg10 harg10 arg11 harg11 arg12 harg12 arg13 harg13) (pure ⟨⟩)

theorem taken_wp (E : Set ℕ) (x : Ins F) (X7 : S128x256.Idx → Elt F .f32) (s : St F) (R : (S128x256.Idx → Elt F .f32) → St F → Prop)
    (hR : ∀ P, IsPlace i P → Leads P x X7 s R) {Q : PUnit → sProp 𝕄G} :
    iprop(rest c arg2 arg5 arg6 arg7 x X7 ∗ held c arg3 arg4 arg8 arg9 arg10 arg11 arg12 arg13 x.X3 x.X4 s)
      ⊢ iprop((∀ (Y : S128x256.Idx → Elt F .f32) (s' : St F), ⌜R Y s'⌝ -∗ rest c arg2 arg5 arg6 arg7 x Y -∗ held c arg3 arg4 arg8 arg9 arg10 arg11 arg12 arg13 x.X3 x.X4 s' -∗ Q ⟨⟩)
          -∗ wp frame (wpE (defs₀ (F := F)) Variants.none (c.tc : Thread nD τ) none) E (taken i arg2 harg2 arg3 harg3 arg4 harg4 arg5 harg5 arg6 harg6 arg7 harg7 arg8 harg8 arg9 harg9 arg10 harg10 arg11 harg11 arg12 harg12 arg13 harg13) Q) := by
  unfold taken
  have hlt := place_lt i
  by_cases h0 : (i 0).val = 0
  · rw [chosen_pos ((place0_iff i).2 h0)]
    rw [chosen_neg (fun h => by have := (place1_iff i).1 h; omega)]
    rw [chosen_neg (fun h => by have := (place2_iff i).1 h; omega)]
    rw [chosen_neg (fun h => by have := (place3_iff i).1 h; omega)]
    obtain ⟨I, h0, hI, hR⟩ := hR _ (.p0 ((place0_iff i).2 h0))
    rw [wp_bind, branch0_eq]
    iintro ⟨HR, H⟩ K
    iapply (place_wp c _ _ _ _ _ _ _ _ _ _ _ _ _ harg12 harg13 _ _ _ _ _ E (pl0_left i _) x X7 s I h0 hI) $$ [HR H]
    · iframe
    iintro %s' %hs HR H
    rw [wp_pure]; imodintro
    iapply K $$ %_ %_ %(hR s' hs) HR H
  by_cases h1 : (i 0).val = 1
  · rw [chosen_neg (fun h => by have := (place0_iff i).1 h; omega)]
    rw [chosen_pos ((place1_iff i).2 h1)]
    rw [chosen_neg (fun h => by have := (place2_iff i).1 h; omega)]
    rw [chosen_neg (fun h => by have := (place3_iff i).1 h; omega)]
    obtain ⟨I, h0, hI, hR⟩ := hR _ (.p1 ((place1_iff i).2 h1))
    rw [wp_bind, branch1_eq]
    iintro ⟨HR, H⟩ K
    iapply (place_wp c _ _ _ _ _ _ _ _ _ _ _ _ _ harg12 harg13 _ _ _ _ _ E (pl1_left i _) x X7 s I h0 hI) $$ [HR H]
    · iframe
    iintro %s' %hs HR H
    rw [wp_pure]; imodintro
    iapply K $$ %_ %_ %(hR s' hs) HR H
  by_cases h2 : (i 0).val = 2
  · rw [chosen_neg (fun h => by have := (place0_iff i).1 h; omega)]
    rw [chosen_neg (fun h => by have := (place1_iff i).1 h; omega)]
    rw [chosen_pos ((place2_iff i).2 h2)]
    rw [chosen_neg (fun h => by have := (place3_iff i).1 h; omega)]
    obtain ⟨I, h0, hI, hR⟩ := hR _ (.p2 ((place2_iff i).2 h2))
    rw [wp_bind, branch2_eq]
    iintro ⟨HR, H⟩ K
    iapply (place_wp c _ _ _ _ _ _ _ _ _ _ _ _ _ harg12 harg13 _ _ _ _ _ E (pl2_left i _) x X7 s I h0 hI) $$ [HR H]
    · iframe
    iintro %s' %hs HR H
    rw [wp_pure]; imodintro
    iapply K $$ %_ %_ %(hR s' hs) HR H
  have h3 : (i 0).val = 3 := by omega
  rw [chosen_neg (fun h => by have := (place0_iff i).1 h; omega)]
  rw [chosen_neg (fun h => by have := (place1_iff i).1 h; omega)]
  rw [chosen_neg (fun h => by have := (place2_iff i).1 h; omega)]
  rw [chosen_pos ((place3_iff i).2 h3)]
  obtain ⟨I, h0, hI, hR⟩ := hR _ (.p3 ((place3_iff i).2 h3))
  rw [wp_bind, branch3_eq]
  iintro ⟨HR, H⟩ K
  iapply (place_wp c _ _ _ _ _ _ _ _ _ _ _ _ _ harg12 harg13 _ _ _ _ _ E (pl3_left i _) x X7 s I h0 hI) $$ [HR H]
  · iframe
  iintro %s' %hs HR H
  rw [wp_pure]; imodintro
  iapply K $$ %_ %_ %(hR s' hs) HR H

/-- The body of the kernel takes the buffers from a state to states that the place of its query block leads to. -/
theorem body_wp (E : Set ℕ) (x : Ins F) (X7 : S128x256.Idx → Elt F .f32) (s : St F) (R : (S128x256.Idx → Elt F .f32) → St F → Prop)
    (hR : ∀ P, IsPlace i P → Leads P x X7 (start i s) R) {Q : PUnit → sProp 𝕄G} :
    iprop(rest c arg2 arg5 arg6 arg7 x X7 ∗ held c arg3 arg4 arg8 arg9 arg10 arg11 arg12 arg13 x.X3 x.X4 s)
      ⊢ iprop((∀ (Y : S128x256.Idx → Elt F .f32) (s' : St F), ⌜R Y s'⌝ -∗ rest c arg2 arg5 arg6 arg7 x Y -∗ held c arg3 arg4 arg8 arg9 arg10 arg11 arg12 arg13 x.X3 x.X4 s' -∗ Q ⟨⟩)
          -∗ wp frame (wpE (defs₀ (F := F)) Variants.none (c.tc : Thread nD τ) none) E (cc0_sb_bwd i arg2 harg2 arg3 harg3 arg4 harg4 arg5 harg5 arg6 harg6 arg7 harg7 arg8 harg8 arg9 harg9 arg10 harg10 arg11 harg11 arg12 harg12 arg13 harg13) Q) := by
  rw [body_eq]
  have T := taken_wp c i arg2 harg2 arg3 harg3 arg4 harg4 arg5 harg5 arg6 harg6 arg7 harg7 arg8 harg8 arg9 harg9 arg10 harg10 arg11 harg11 arg12 harg12 arg13 harg13 E x X7 (start i s) R hR (Q := Q)
  unfold body
  by_cases h1 : k0_cond1 i = 1#1
  · rw [if_pos h1]
    rw [start, if_pos h1] at T
    unfold zeros
    iintro ⟨HR, H⟩ K
    ihave H' := (show held c arg3 arg4 arg8 arg9 arg10 arg11 arg12 arg13 x.X3 x.X4 s ⊢ _ from by unfold held; exact .rfl) $$ H
    icases H' with ⟨H3, H4, H8, H9, H10, H11, H12, H13⟩
    iapply (load_seq _ _ _ _) $$ H8; iintro H8
    iapply (store_seq _ _ _ _) $$ H8; iintro H8
    iapply (load_seq _ _ _ _) $$ H9; iintro H9
    iapply (store_seq _ _ _ _) $$ H9; iintro H9
    iapply T $$ [HR H3 H4 H8 H9 H10 H11 H12 H13]
    · unfold held
      iframe
    · iexact K
  · rw [if_neg h1]
    rw [start, if_neg h1] at T
    exact T

end Cert.SbBwdIdeal.Own
-- ==== Proof.SbPoint.lean ====
/- One grid point as the pipeline runs it: the windows' buffers and the scratch buffers before and after the kernel's body. -/
module

public import proofs.«01_k».proof.Proof.SbWp
public import proofs.«01_k».proof.Proof.Gen.SbBwdIdeal.Frame

@[expose] public section

noncomputable section

namespace Cert.SbBwdIdeal.Own

open Idealize.ShloMosaic Idealize.ShloMosaic.TcCoe
open Idealize.SL Idealize.SL.RA Idealize.SL.BI Idealize.SL.Sem Idealize.SL.ProofMode
open Idealize.SL.BI.BIBase Idealize.SL.BI.Laws
open scoped Idealize.SL.BI
open Cert.SbBwdIdeal.Gen Cert.SbRules

variable {F : FTy → Type} [FloatOps F] [Named F]
local notation "𝕄G" => MT nD τ sig Unit (Elt F) ℕ (UR sig nD τ) ℕ

variable (c : Dev nD) (t : Fin cfg0.N)

/-- A scratch buffer at some contents. -/
theorem scratch_in (b : Ref sig .tc) :
    iprop(∃ f : Buf (Elt F) ((c : Thread nD τ).loc b), ((c : Thread nD τ).loc b) ↦{fullShare} f)
      ⊢ (iprop(∃ X, owns (c : Thread nD τ) (Memref.whole b) fullShare X) : sProp 𝕄G) := by
  iintro ⟨%f, H⟩
  iexists f
  rw [owns_whole]; iexact H

theorem scratch_out (b : Ref sig .tc) (X) :
    owns (c : Thread nD τ) (Memref.whole b) fullShare X
      ⊢ (iprop(∃ f : Buf (Elt F) ((c : Thread nD τ).loc b), ((c : Thread nD τ).loc b) ↦{fullShare} f) : sProp 𝕄G) := by
  rw [owns_whole]
  iintro H
  iexists X
  iexact H

/-- The input windows' buffers at a point. -/
def insAt (x : Ins F) : sProp 𝕄G :=
  iprop(owns (c : Thread nD τ) (st0_0 t) fullShare x.X2 ∗ owns (c : Thread nD τ) (st0_1 t) fullShare x.X3
    ∗ owns (c : Thread nD τ) (st0_2 t) fullShare x.X4 ∗ owns (c : Thread nD τ) (st0_3 t) fullShare x.X5
    ∗ owns (c : Thread nD τ) (st0_4 t) fullShare x.X6)

/-- The result windows' buffers at a point. -/
def outsAt (Y5 : S128x256.Idx → Elt F .f32) (Y6 Y7 : S256x4096.Idx → Elt F .f32) : sProp 𝕄G :=
  iprop(owns (c : Thread nD τ) (st0_5 t) fullShare Y5 ∗ owns (c : Thread nD τ) (st0_6 t) fullShare Y6
    ∗ owns (c : Thread nD τ) (st0_7 t) fullShare Y7)

/-- The state of a point that starts with the accumulators at `Y6`, `Y7`. -/
def stateOf (Y6 Y7 : S256x4096.Idx → Elt F .f32) (X10 X11 : S2x1x512x512.Idx → Elt F .f32) (X12 X13 : S2x1x512x512.Idx → Elt F .bf16) : St F where
  dq := k0_pay101
  c := k0_pay86
  ce := k0_pay86
  X8 := Y6
  X9 := Y7
  X10 := X10
  X11 := X11
  X12 := X12
  X13 := X13

theorem point_wp (x : Ins F) (Y5 : S128x256.Idx → Elt F .f32) (Y6 Y7 : S256x4096.Idx → Elt F .f32)
    (R : (S128x256.Idx → Elt F .f32) → (S256x4096.Idx → Elt F .f32) → (S256x4096.Idx → Elt F .f32) → Prop)
    (hR : ∀ X10 X11 X12 X13 P, IsPlace (grid0.coords t) P →
      Leads P x Y5 (start (grid0.coords t) (stateOf Y6 Y7 X10 X11 X12 X13)) fun Y s => R Y s.X8 s.X9)
    {Q : PUnit → sProp 𝕄G} :
    iprop(Pipeline.ΦA (U := UR sig nD τ) (Val := Elt F) spec0 c ∗ insAt c t x ∗ outsAt c t Y5 Y6 Y7)
      ⊢ iprop((∀ (Z5 : S128x256.Idx → Elt F .f32) (Z6 Z7 : S256x4096.Idx → Elt F .f32), ⌜R Z5 Z6 Z7⌝ -∗ Pipeline.ΦA (U := UR sig nD τ) (Val := Elt F) spec0 c
              -∗ insAt c t x -∗ outsAt c t Z5 Z6 Z7 -∗ Q ⟨⟩)
          -∗ wp frame (wpE (defs₀ (F := F)) Variants.none (c : Thread nD τ) none) Set.univ (bodyAt0 t) Q) := by
  unfold bodyAt0 Pipeline.ΦA insAt outsAt
  rw [scopedRest0_eq]
  iintro ⟨⟨⟨S0, S1, S2, S3⟩, HP⟩, ⟨H2, H3, H4, H5, H6⟩, H7, H8, H9⟩ K
  ihave S0 := (scratch_in c _) $$ S0
  ihave S1 := (scratch_in c _) $$ S1
  ihave S2 := (scratch_in c _) $$ S2
  ihave S3 := (scratch_in c _) $$ S3
  icases S0 with ⟨%X10, S0⟩
  icases S1 with ⟨%X11, S1⟩
  icases S2 with ⟨%X12, S2⟩
  icases S3 with ⟨%X13, S3⟩
  iapply (body_wp c (grid0.coords t) _ _ _ _ _ _ _ _ _ _ _ _ _ _ _ _ _ _ _ _ _ _ _ _ Set.univ x Y5 (stateOf Y6 Y7 X10 X11 X12 X13)
    (fun Y s => R Y s.X8 s.X9) (hR X10 X11 X12 X13)) $$ [H2 H3 H4 H5 H6 H7 H8 H9 S0 S1 S2 S3]
  · unfold rest held
    dsimp only [stateOf]
    iframe
  iintro %Y %s' %hs HR H
  unfold rest held
  icases HR with ⟨H2, H5, H6, H7⟩
  icases H with ⟨H3, H4, H8, H9, S0, S1, S2, S3⟩
  ihave S0 := (scratch_out c _ _) $$ S0
  ihave S1 := (scratch_out c _ _) $$ S1
  ihave S2 := (scratch_out c _ _) $$ S2
  ihave S3 := (scratch_out c _ _) $$ S3
  iapply K $$ %_ %_ %_ %hs [S0 S1 S2 S3 HP] [H2 H3 H4 H5 H6] [H7 H8 H9]
  · iframe
  · iframe
  · iframe

end Cert.SbBwdIdeal.Own
-- ==== Proof.SbFrame.lean ====
/- The run of the whole kernel, with nothing said of what its results hold: it ends, and the arguments are as they were. -/
module

public import proofs.«01_k».proof.Proof.SbPoint
public import Idealize.ShloMosaic.Lib.Claim

@[expose] public section

noncomputable section

namespace Cert.SbBwdIdeal.Own

open Idealize.ShloMosaic Idealize.ShloMosaic.TcCoe
open Idealize.SL Idealize.SL.RA Idealize.SL.BI Idealize.SL.Sem Idealize.SL.ProofMode
open Idealize.SL.BI.BIBase Idealize.SL.BI.Laws
open scoped Idealize.SL.BI
open Idealize.ShloMosaic.Pipeline (Dat Cfg Window BodyObligation cellOf)
open Cert.SbBwdIdeal.Gen Cert.SbRules

variable {F : FTy → Type} [FloatOps F] [Named F]
local notation "𝕄G" => MT nD τ sig Unit (Elt F) ℕ (UR sig nD τ) ℕ

variable (m : (ℓ : Loc nD τ sig) → Buf (Elt F) ℓ) (ρ : Dev nD → PrngReg)

/-- What the body is to leave in the results' buffers at every point. -/
structure Left (F : FTy → Type) [FloatOps F] where
  dq : Dev nD → Fin cfg0.N → S128x256.Idx → Elt F .f32
  dk : Dev nD → Fin cfg0.N → S256x4096.Idx → Elt F .f32
  dv : Dev nD → Fin cfg0.N → S256x4096.Idx → Elt F .f32

/-- The proof data: the inputs' buffers stay at their blocks, the results' are left at `A`. -/
def dats (A : Left F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => A.dq c t
    | ⟨6, _⟩ => A.dk c t
    | ⟨7, _⟩ => A.dv c t
  Φ _ := Pipeline.ΦA spec0 c
  q w := Pipeline.shareOf spec0 w
  owed _ := 0

variable (A : Left F)

theorem A_eq (c : Dev nD) (w : Fin cfg0.W) : (dats m A 0 c).A w = V m c (Pipeline.arrRef spec0 w) := by
  dsimp only [dats]

theorem after0_0 (c : Dev nD) (t : Fin cfg0.N) : (dats m A 0 c).after 0 t = iblk m c 0 t := by dsimp only [dats]
theorem after0_1 (c : Dev nD) (t : Fin cfg0.N) : (dats m A 0 c).after 1 t = iblk m c 1 t := by dsimp only [dats]
theorem after0_2 (c : Dev nD) (t : Fin cfg0.N) : (dats m A 0 c).after 2 t = iblk m c 2 t := by dsimp only [dats]
theorem after0_3 (c : Dev nD) (t : Fin cfg0.N) : (dats m A 0 c).after 3 t = iblk m c 3 t := by dsimp only [dats]
theorem after0_4 (c : Dev nD) (t : Fin cfg0.N) : (dats m A 0 c).after 4 t = iblk m c 4 t := by dsimp only [dats]
theorem after0_5 (c : Dev nD) (t : Fin cfg0.N) : (dats m A 0 c).after 5 t = A.dq c t := by dsimp only [dats]
theorem after0_6 (c : Dev nD) (t : Fin cfg0.N) : (dats m A 0 c).after 6 t = A.dk c t := by dsimp only [dats]
theorem after0_7 (c : Dev nD) (t : Fin cfg0.N) : (dats m A 0 c).after 7 t = A.dv c t := by dsimp only [dats]

theorem before0_0 (c : Dev nD) (t : Fin cfg0.N) (d) : (dats m A 0 c).before 0 t d = iblk m c 0 t :=
  before0_0_of m (dats m A 0 c) (A_eq m A c 0) (after0_0 m A c) t d
theorem before0_1 (c : Dev nD) (t : Fin cfg0.N) (d) : (dats m A 0 c).before 1 t d = iblk m c 1 t :=
  before0_1_of m (dats m A 0 c) (A_eq m A c 1) (after0_1 m A c) t d
theorem before0_2 (c : Dev nD) (t : Fin cfg0.N) (d) : (dats m A 0 c).before 2 t d = iblk m c 2 t :=
  before0_2_of m (dats m A 0 c) (A_eq m A c 2) (after0_2 m A c) t d
theorem before0_3 (c : Dev nD) (t : Fin cfg0.N) (d) : (dats m A 0 c).before 3 t d = iblk m c 3 t :=
  before0_3_of m (dats m A 0 c) (A_eq m A c 3) (after0_3 m A c) t d
theorem before0_4 (c : Dev nD) (t : Fin cfg0.N) (d) : (dats m A 0 c).before 4 t d = iblk m c 4 t :=
  before0_4_of m (dats m A 0 c) (A_eq m A c 4) (after0_4 m A c) t d

/-- The blocks of a point. -/
def insOf (c : Dev nD) (t : Fin cfg0.N) : Ins F where
  X2 := iblk m c 0 t
  X3 := iblk m c 1 t
  X4 := iblk m c 2 t
  X5 := iblk m c 3 t
  X6 := iblk m c 4 t

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The results' windows. -/
def results : Fin 8 → Bool
  | 0 => false | 1 => false | 2 => false | 3 => false | 4 => false | 5 => true | 6 => true | 7 => true

/-- Any place leads from any state to some state. -/
theorem leads_true (P : Place F) (x : Ins F) (Y5 : S128x256.Idx → Elt F .f32) (s : St F) :
    Leads P x Y5 s fun _ _ => True :=
  ⟨fun _ _ => True, trivial, fun _ _ _ => trivial, fun _ _ => trivial⟩

theorem obligation_frame (c : Dev nD) :
    BodyObligation (dats m A 0 c) (defs₀ (F := F)) Variants.none () Set.univ results := fun t => by
  rw [bigSep_W0, bigSep_W0, defs₀_row]
  dsimp only [results]
  simp only [before0_0, before0_1, before0_2, before0_3, before0_4, after0_0, after0_1, after0_2, after0_3, after0_4]
  rw [show (dats m A 0 c).Φ t.castSucc = Pipeline.ΦA spec0 c from rfl, show (dats m A 0 c).Φ t.succ = Pipeline.ΦA spec0 c from rfl,
    show (dats m A 0 c).owesAt () t.succ = (dats m A 0 c).owesAt () t.castSucc from rfl]
  iintro ⟨HΦ, Ho, ⟨%d0, H0⟩, ⟨%d1, H1⟩, ⟨%d2, H2⟩, ⟨%d3, H3⟩, ⟨%d4, H4⟩, ⟨%Y5, H5⟩, ⟨%Y6, H6⟩, ⟨%Y7, H7⟩⟩
  iapply (point_wp c t (insOf m c t) Y5 Y6 Y7 (fun _ _ _ => True) fun _ _ _ _ P _ => leads_true P _ _ _) $$ [HΦ H0 H1 H2 H3 H4 H5 H6 H7]
  · unfold insAt outsAt insOf
    dsimp only
    iframe
  iintro %Z5 %Z6 %Z7 %_ HΦ HI HO
  unfold insAt outsAt insOf
  dsimp only
  icases HI with ⟨H0, H1, H2, H3, H4⟩
  icases HO with ⟨H5, H6, H7⟩
  iframe
  isplitl [H5]; · iexists _; iexact H5
  isplitl [H6]; · iexists _; iexact H6
  iexists _; iexact H7

/-- Nothing said of the results. -/
def unsaid : Left F where
  dq _ _ := k0_pay101
  dk _ _ := k0_pay1
  dv _ _ := k0_pay1

set_option backward.isDefEq.respectTransparency.types false in
/-- The kernel runs to its end; the arguments are as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget_shared (Q' := _) cfgs (dats m unsaid) (0 : Fin 1) launch₀0 defs₀ Variants.none results m ρ main
    (hbody := fun c => (obligation_frame m unsaid c).loose) (hq := fun _ _ _ => rfl)
    (howed := fun _ _ => rfl) (V := V m) (hmain := hmain m Variants.none) (hA := A_eq m unsaid) (hΦ := fun _ _ => rfl)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)

end Cert.SbBwdIdeal.Own
-- ==== Proof.SbBits.lean ====
/- The kernel as it is compiled: the run of its idealization read at bit patterns, where the named constant is its word. -/
module

public import proofs.«01_k».proof.Defs
public import proofs.«01_k».proof.Proof.SbFrame
public import proofs.«01_k».proof.Proof.Gen.SbBwd

@[expose] public section

noncomputable section

namespace Cert.SbBwdIdeal.Own

open Idealize.ShloMosaic Idealize.ShloMosaic.TcCoe
open Idealize.SL Idealize.SL.Sem

/-- A named constant read as its word. -/
@[reducible] def wordNamed : Named Bits where
  named _ _ _ bits := FloatOps.ofBits _ bits

/-- The frame of the kernel. -/
theorem frame_bits : Cert.quiescent_SbBwd := fun m ρ _ =>
  Eq.mp (by sl_kernel_rfl) (@frame Bits _ wordNamed m ρ)

end Cert.SbBwdIdeal.Own
-- ==== Proof.SbMath.lean ====
/-
  Stick-breaking attention and its gradient in real numbers, one row at a time.

  The 128 queries of a block appear once for each of the 4 heads: row `r` of block `b` is head `r / 128` of query
  `128 b + r % 128`, with the lanes of the other heads at zero. A row looks at the keys before its query.
-/
module

public import Mathlib.Analysis.SpecialFunctions.Log.Basic
public import Mathlib.Algebra.BigOperators.Intervals

@[expose] public section

noncomputable section

namespace Cert.Sb

open Finset
open scoped BigOperators

/-- Queries, keys, values, the cotangent and the output, by position and lane (64 lanes to a head). -/
structure Data where
  (Q K V G O : ℕ → ℕ → ℝ)

/-- The logarithm of the sigmoid. -/
def lsz (z : ℝ) : ℝ := min z 0 - Real.log (1 + Real.exp (-|z|))

namespace Data
variable (D : Data) (b r s : ℕ)

/-- The scaled query of a row, its own head's lanes only. -/
def qs (l : ℕ) : ℝ := if l / 64 = r / 128 then D.Q (128 * b + r % 128) l * (1 / 8) else 0
/-- The cotangent of a row, its own head's lanes only. -/
def ds (l : ℕ) : ℝ := if l / 64 = r / 128 then D.G (128 * b + r % 128) l else 0
/-- The score of a key. -/
def Z : ℝ := ∑ l ∈ range 256, D.qs b r l * D.K s l
/-- do·v of a key. -/
def gv : ℝ := ∑ l ∈ range 256, D.ds b r l * D.V s l
/-- do·o of a row. -/
def del : ℝ := ∑ l ∈ range 256, D.ds b r l * D.O (128 * b + r % 128) l
/-- The logarithm of what a key leaves to the keys before it. -/
def lk : ℝ := if s < 128 * b + r % 128 then lsz (D.Z b r s) - D.Z b r s else 0
/-- The weight of a key: what it takes of what the keys after it left. -/
def w : ℝ := if s < 128 * b + r % 128 then Real.exp (lsz (D.Z b r s) + ∑ s' ∈ Ico (s + 1) 4096, D.lk b r s') else 0
/-- The weight times do·v. -/
def e : ℝ := D.w b r s * D.gv b r s
/-- The gradient of the score. -/
def dz : ℝ := if s < 128 * b + r % 128 then
    D.e b r s - Real.exp (lsz (D.Z b r s)) * (D.e b r s + (D.del b r - ∑ s' ∈ Ico s 4096, D.e b r s')) else 0

/-- dq of a query's lane, from the keys at `m` and after, before the last scaling. -/
def dqFrom (m y l : ℕ) : ℝ := ∑ s ∈ Ico m 4096, D.dz b (128 * (l / 64) + y) s * D.K s l
/-- What a block's queries add to dk, by lane and key. -/
def dkPart (l : ℕ) : ℝ := ∑ r ∈ range 512, D.qs b r l * D.dz b r s
/-- What a block's queries add to dv. -/
def dvPart (l : ℕ) : ℝ := ∑ r ∈ range 512, D.ds b r l * D.w b r s

end Data

/-- A sum from `s + 128` on, with the last of the 128 before it. -/
theorem blk_sum (f : ℕ → ℝ) {s a : ℕ} (hs : s + 128 ≤ 4096) (ha : a ≤ 128) :
    (∑ k ∈ Ico (s + 128) 4096, f k) + ∑ k ∈ Ico a 128, f (s + k) = ∑ k ∈ Ico (s + a) 4096, f k := by
  rw [sum_Ico_add f a 128 s, add_comm, Nat.add_comm a s, Nat.add_comm 128 s, sum_Ico_consecutive] <;> omega

/-- The sum over the columns that a triangle of ones keeps. -/
theorem tri_sum (f : ℕ → ℝ) (a : ℕ) : (∑ k : Fin 128, f k.val * (if a ≤ k.val then 1 else 0)) = ∑ k ∈ Ico a 128, f k := by
  rw [Fin.sum_univ_eq_sum_range (fun k => f k * (if a ≤ k then 1 else 0)) 128]
  simp only [mul_ite, mul_one, mul_zero]
  rw [← sum_filter]
  refine sum_congr ?_ fun _ _ => rfl
  ext k; simp only [mem_filter, mem_range, mem_Ico]; omega

end Cert.Sb

end
-- ==== Proof.SbSums.lean ====
/-
  Sums over the keys behind a key, as the kernel forms them: a tile is cut into blocks of 128 columns, the blocks are
  multiplied by a triangle of ones (each split into a part and its remainder, and the remainder of an exact number is
  zero), and the sums of the blocks behind are added.
-/
module

public import proofs.«01_k».proof.Proof.SbTrip
public import proofs.«01_k».proof.Proof.SbMath
public import proofs.«01_k».proof.Proof.RealCoe
public import Idealize.ShloMosaic.Lib.Pointwise

@[expose] public section

noncomputable section

namespace Cert.SbBwdIdeal.Own

open Idealize.ShloMosaic Idealize.ShloMosaic.TcCoe
open Cert.SbBwdIdeal Cert.SbBwdIdeal.Gen Cert.Sb

section Text
variable {F : FTy → Type} [FloatOps F]

/-- A column added to a block and the block of its remainders. -/
def behind (c : FVec F S512x1 .f32) (hi lo : FVec F S512x128 .f32) : FVec F S512x128 .f32 :=
  addf (addf (broadcastTo S512x128 c broadcasts_S512x1_S512x128) hi) lo
/-- A block's row sums added to a column. -/
def plus (c : FVec F S512x1 .f32) (x : FVec F S512x128 .f32) : FVec F S512x1 .f32 :=
  addf c (shapeCast S512x1 (multiReduction .add [1] S512 x 0x00000000#32 reduces_S512x128_S512 (.inl rfl) rfl) shapeCasts_S512_S512x1)
/-- A block rounded. -/
def hi (x : FVec F S512x128 .f32) : FVec F S512x128 .bf16 := truncf .bf16 x bitsLt_bf16_f32
/-- What rounding left of it. -/
def lo (x : FVec F S512x128 .f32) : FVec F S512x128 .bf16 :=
  truncf .bf16 (subf x (extf .f32 (hi x) bitsLt_bf16_f32)) bitsLt_bf16_f32

def prod1 (tri : FVec F S128x128 .bf16) (x0 : FVec F S512x128 .f32) : FVec F S1024x128 .f32 :=
  matmul dot_S1024x128_S128x128_S1024x128_1_0_0_1_n_n none
    (concatenate S1024x128 0 [⟨S512x128, hi x0⟩, ⟨S512x128, lo x0⟩] concatenates_S512x128_S512x128_S1024x128_d0)
    tri (constant S1024x128 .f32 0x00000000#32)
def prod2 (tri : FVec F S128x128 .bf16) (x0 x1 : FVec F S512x128 .f32) : FVec F S2048x128 .f32 :=
  matmul dot_S2048x128_S128x128_S2048x128_1_0_0_1_n_n none
    (concatenate S2048x128 0 [⟨S512x128, hi x0⟩, ⟨S512x128, hi x1⟩, ⟨S512x128, lo x0⟩, ⟨S512x128, lo x1⟩]
      concatenates_S512x128_S512x128_S512x128_S512x128_S2048x128_d0)
    tri (constant S2048x128 .f32 0x00000000#32)
def prod3 (tri : FVec F S128x128 .bf16) (x0 x1 x2 : FVec F S512x128 .f32) : FVec F S3072x128 .f32 :=
  matmul dot_S3072x128_S128x128_S3072x128_1_0_0_1_n_n none
    (concatenate S3072x128 0 [⟨S512x128, hi x0⟩, ⟨S512x128, hi x1⟩, ⟨S512x128, hi x2⟩, ⟨S512x128, lo x0⟩, ⟨S512x128, lo x1⟩, ⟨S512x128, lo x2⟩]
      concatenates_S512x128_S512x128_S512x128_S512x128_S512x128_S512x128_S3072x128_d0)
    tri (constant S3072x128 .f32 0x00000000#32)
def prod4 (tri : FVec F S128x128 .bf16) (x0 x1 x2 x3 : FVec F S512x128 .f32) : FVec F S4096x128 .f32 :=
  matmul dot_S4096x128_S128x128_S4096x128_1_0_0_1_n_n none
    (concatenate S4096x128 0 [⟨S512x128, hi x0⟩, ⟨S512x128, hi x1⟩, ⟨S512x128, hi x2⟩, ⟨S512x128, hi x3⟩, ⟨S512x128, lo x0⟩, ⟨S512x128, lo x1⟩, ⟨S512x128, lo x2⟩, ⟨S512x128, lo x3⟩]
      concatenates_S512x128_S512x128_S512x128_S512x128_S512x128_S512x128_S512x128_S512x128_S4096x128_d0)
    tri (constant S4096x128 .f32 0x00000000#32)

/-- The blocks of a tile of 256 columns. -/
def blk2 (x : FVec F S512x256 .f32) : Fin 2 → FVec F S512x128 .f32
  | 0 => extractStridedSlice S512x128 ![0, 0] x slices_S512x256_o0_0_S512x128
  | 1 => extractStridedSlice S512x128 ![0, 128] x slices_S512x256_o0_128_S512x128
def blk3 (x : FVec F S512x384 .f32) : Fin 3 → FVec F S512x128 .f32
  | 0 => extractStridedSlice S512x128 ![0, 0] x slices_S512x384_o0_0_S512x128
  | 1 => extractStridedSlice S512x128 ![0, 128] x slices_S512x384_o0_128_S512x128
  | 2 => extractStridedSlice S512x128 ![0, 256] x slices_S512x384_o0_256_S512x128
def blk4 (x : FVec F S512x512 .f32) : Fin 4 → FVec F S512x128 .f32
  | 0 => extractStridedSlice S512x128 ![0, 0] x slices_S512x512_o0_0_S512x128
  | 1 => extractStridedSlice S512x128 ![0, 128] x slices_S512x512_o0_128_S512x128
  | 2 => extractStridedSlice S512x128 ![0, 256] x slices_S512x512_o0_256_S512x128
  | 3 => extractStridedSlice S512x128 ![0, 384] x slices_S512x512_o0_384_S512x128

def sums1 (tri : FVec F S128x128 .bf16) (c : FVec F S512x1 .f32) (x : FVec F S512x128 .f32) : FVec F S512x128 .f32 :=
  behind c (extractStridedSlice S512x128 ![0, 0] (prod1 tri x) slices_S1024x128_o0_0_S512x128)
    (extractStridedSlice S512x128 ![512, 0] (prod1 tri x) slices_S1024x128_o512_0_S512x128)
def sums2 (tri : FVec F S128x128 .bf16) (c : FVec F S512x1 .f32) (x : FVec F S512x256 .f32) : FVec F S512x256 .f32 :=
  concatenate S512x256 1 [
    ⟨S512x128, behind (plus c (blk2 x 1)) (extractStridedSlice S512x128 ![0, 0] (prod2 tri (blk2 x 0) (blk2 x 1)) slices_S2048x128_o0_0_S512x128)
      (extractStridedSlice S512x128 ![1024, 0] (prod2 tri (blk2 x 0) (blk2 x 1)) slices_S2048x128_o1024_0_S512x128)⟩,
    ⟨S512x128, behind c (extractStridedSlice S512x128 ![512, 0] (prod2 tri (blk2 x 0) (blk2 x 1)) slices_S2048x128_o512_0_S512x128)
      (extractStridedSlice S512x128 ![1536, 0] (prod2 tri (blk2 x 0) (blk2 x 1)) slices_S2048x128_o1536_0_S512x128)⟩]
    concatenates_S512x128_S512x128_S512x256_d1
def sums3 (tri : FVec F S128x128 .bf16) (c : FVec F S512x1 .f32) (x : FVec F S512x384 .f32) : FVec F S512x384 .f32 :=
  have p := prod3 tri (blk3 x 0) (blk3 x 1) (blk3 x 2)
  concatenate S512x384 1 [
    ⟨S512x128, behind (plus (plus c (blk3 x 2)) (blk3 x 1)) (extractStridedSlice S512x128 ![0, 0] p slices_S3072x128_o0_0_S512x128)
      (extractStridedSlice S512x128 ![1536, 0] p slices_S3072x128_o1536_0_S512x128)⟩,
    ⟨S512x128, behind (plus c (blk3 x 2)) (extractStridedSlice S512x128 ![512, 0] p slices_S3072x128_o512_0_S512x128)
      (extractStridedSlice S512x128 ![2048, 0] p slices_S3072x128_o2048_0_S512x128)⟩,
    ⟨S512x128, behind c (extractStridedSlice S512x128 ![1024, 0] p slices_S3072x128_o1024_0_S512x128)
      (extractStridedSlice S512x128 ![2560, 0] p slices_S3072x128_o2560_0_S512x128)⟩]
    concatenates_S512x128_S512x128_S512x128_S512x384_d1
def sums4 (tri : FVec F S128x128 .bf16) (c : FVec F S512x1 .f32) (x : FVec F S512x512 .f32) : FVec F S512x512 .f32 :=
  have p := prod4 tri (blk4 x 0) (blk4 x 1) (blk4 x 2) (blk4 x 3)
  concatenate S512x512 1 [
    ⟨S512x128, behind (plus (plus (plus c (blk4 x 3)) (blk4 x 2)) (blk4 x 1)) (extractStridedSlice S512x128 ![0, 0] p slices_S4096x128_o0_0_S512x128)
      (extractStridedSlice S512x128 ![2048, 0] p slices_S4096x128_o2048_0_S512x128)⟩,
    ⟨S512x128, behind (plus (plus c (blk4 x 3)) (blk4 x 2)) (extractStridedSlice S512x128 ![512, 0] p slices_S4096x128_o512_0_S512x128)
      (extractStridedSlice S512x128 ![2560, 0] p slices_S4096x128_o2560_0_S512x128)⟩,
    ⟨S512x128, behind (plus c (blk4 x 3)) (extractStridedSlice S512x128 ![1024, 0] p slices_S4096x128_o1024_0_S512x128)
      (extractStridedSlice S512x128 ![3072, 0] p slices_S4096x128_o3072_0_S512x128)⟩,
    ⟨S512x128, behind c (extractStridedSlice S512x128 ![1536, 0] p slices_S4096x128_o1536_0_S512x128)
      (extractStridedSlice S512x128 ![3584, 0] p slices_S4096x128_o3584_0_S512x128)⟩]
    concatenates_S512x128_S512x128_S512x128_S512x128_S512x512_d1

def tot2 (c : FVec F S512x1 .f32) (x : FVec F S512x256 .f32) := plus (plus c (blk2 x 1)) (blk2 x 0)
def tot3 (c : FVec F S512x1 .f32) (x : FVec F S512x384 .f32) := plus (plus (plus c (blk3 x 2)) (blk3 x 1)) (blk3 x 0)
def tot4 (c : FVec F S512x1 .f32) (x : FVec F S512x512 .f32) := plus (plus (plus (plus c (blk4 x 3)) (blk4 x 2)) (blk4 x 1)) (blk4 x 0)

end Text

/-! ## The values -/

/-- A block of exact numbers: column `k` holds `f (s + k)`. -/
def Blk (x : FVec Ideal S512x128 .f32) (r : Fin 512) (f : ℕ → ℝ) (s : ℕ) : Prop := ∀ k : Fin 128, x (ix2 r k) = ((f (s + k.val) : ℝ) : EReal)
/-- A column of sums over the keys from `s` on. -/
def Col (c : FVec Ideal S512x1 .f32) (r : Fin 512) (f : ℕ → ℝ) (s : ℕ) : Prop := c (ix2 r 0) = ((∑ k ∈ Finset.Ico s 4096, f k : ℝ) : EReal)
/-- A triangle of ones from `d` columns below the diagonal on. -/
def Tri (tri : FVec Ideal S128x128 .bf16) (d : ℕ) : Prop := ∀ k a : Fin 128, tri (ix2 k a) = (((if a.val + d ≤ k.val then 1 else 0 : ℝ)) : EReal)

theorem plus_val {c : FVec Ideal S512x1 .f32} {x : FVec Ideal S512x128 .f32} {r : Fin 512} {f : ℕ → ℝ} {s : ℕ}
    (hc : Col c r f (s + 128)) (hx : Blk x r f s) (hs : s + 128 ≤ 4096) : Col (plus c x) r f s := by
  unfold Col at *
  have hx' : ∀ k : Fin 128, x (ix2 r k) = ((f (s + k.val) : ℝ) : EReal) := hx
  pointwise [plus]
  rw [hc]
  simp only [hx', Cert.Train.coe_sum, ← EReal.coe_add]
  rw [Fin.sum_univ_eq_sum_range (fun k => f (s + k)) 128, Finset.range_eq_Ico, blk_sum f hs (Nat.zero_le _), Nat.add_zero]

/-- A row of the product of a block with a triangle. -/
theorem row_hi {x : FVec Ideal S512x128 .f32} {tri : FVec Ideal S128x128 .bf16} {r : Fin 512} {f : ℕ → ℝ} {s d : ℕ}
    (hx : Blk x r f s) (ht : Tri tri d) (a : Fin 128) :
    (∑ k : Fin 128, (hi x (ix2 r k) : EReal) * tri (ix2 k a)) = ((∑ k ∈ Finset.Ico (a.val + d) 128, f (s + k) : ℝ) : EReal) := by
  have h : ∀ k : Fin 128, (hi x (ix2 r k) : EReal) * tri (ix2 k a) = ((f (s + k.val) * (if a.val + d ≤ k.val then 1 else 0) : ℝ) : EReal) := by
    intro k
    rw [ht, EReal.coe_mul]
    congr 1
    exact hx k
  simp only [h, Cert.Train.coe_sum]
  rw [tri_sum (fun k => f (s + k)) (a.val + d)]

theorem row_lo {x : FVec Ideal S512x128 .f32} {tri : FVec Ideal S128x128 .bf16} {r : Fin 512} {f : ℕ → ℝ} {s d : ℕ}
    (hx : Blk x r f s) (ht : Tri tri d) (a : Fin 128) :
    (∑ k : Fin 128, (lo x (ix2 r k) : EReal) * tri (ix2 k a)) = ((0 : ℝ) : EReal) := by
  have h : ∀ k : Fin 128, (lo x (ix2 r k) : EReal) * tri (ix2 k a) = ((0 : ℝ) : EReal) := by
    intro k
    have : (lo x (ix2 r k) : EReal) = ((f (s + k.val) - f (s + k.val) : ℝ) : EReal) := by
      rw [EReal.coe_sub, ← hx k]; rfl
    rw [this, ht, ← EReal.coe_mul, sub_self, zero_mul]
  simp only [h, Cert.Train.coe_sum, Finset.sum_const_zero]

theorem behind_val {c : FVec Ideal S512x1 .f32} {h l : FVec Ideal S512x128 .f32} {r : Fin 512} {a : Fin 128} {f : ℕ → ℝ} {s d : ℕ}
    (hc : Col c r f (s + 128)) (hh : (h (ix2 r a) : EReal) = ((∑ k ∈ Finset.Ico (a.val + d) 128, f (s + k) : ℝ) : EReal))
    (hl : (l (ix2 r a) : EReal) = ((0 : ℝ) : EReal)) (hs : s + 128 ≤ 4096) (hd : d ≤ 1) :
    (behind c h l (ix2 r a) : EReal) = ((∑ k ∈ Finset.Ico (s + (a.val + d)) 4096, f k : ℝ) : EReal) := by
  unfold Col at hc
  pointwise [behind]
  rw [hc, hh, hl, ← EReal.coe_add, ← EReal.coe_add, add_zero, blk_sum f hs (by omega)]

end Cert.SbBwdIdeal.Own
end
-- ==== Proof.SbTile.lean ====
/-
  A tile's values in the kernel's own operations, whatever its width: the logarithm of the sigmoid, what a key leaves,
  the weights, the gradient of the scores. The trips and the four places compute these.
-/
module

public import proofs.«01_k».proof.Proof.SbSums
public import proofs.«01_k».proof.Proof.SbPlaces

@[expose] public section

noncomputable section

namespace Cert.SbBwdIdeal.Own

open Idealize.ShloMosaic Idealize.ShloMosaic.TcCoe
open Idealize.SL Idealize.SL.Sem
open Cert.SbBwdIdeal Cert.SbBwdIdeal.Gen Cert.Sb

section Text
variable {F : FTy → Type} [FloatOps F] [Named F] {s : Shape}

/-- Zero everywhere. -/
def zeroS (s : Shape) : FVec F s .f32 := broadcast s (Scalar.ofBits .f32 0x00000000#32)
/-- The logarithm of the sigmoid. -/
def lszS (z : FVec F s .f32) : FVec F s .f32 :=
  subf (minimumf z (zeroS s)) (log (addf (broadcast s (Scalar.ofBits .f32 0x3F800000#32))
    (exp2 (mulf (absf z) (broadcast s (Named.named κ "nlog2e" 0xBFB8AA3B#32))))))
/-- What a key leaves, by logarithm; nothing is taken outside the mask. -/
def lkS (m : IVec s 1) (z : FVec F s .f32) : FVec F s .f32 := select m (subf (lszS z) z) (zeroS s)
/-- The weights, given the sums over the keys after. -/
def wS (m : IVec s 1) (z sums : FVec F s .f32) : FVec F s .bf16 := truncf .bf16 (select m (exp (addf (lszS z) sums)) (zeroS s)) bitsLt_bf16_f32
/-- The weights times do·v. -/
def eS (w : FVec F s .bf16) (g : FVec F s .f32) : FVec F s .f32 := mulf (extf .f32 w bitsLt_bf16_f32) g
/-- The gradient of the scores, given the row sums of do·o and the sums of the weights times do·v. -/
def dzS (z e suf del : FVec F s .f32) : FVec F s .f32 := subf e (mulf (exp (lszS z)) (addf e (subf del suf)))

/-- A tile out of its slot. -/
def flat (z : Vec F S1x1x512x512 .f32) : FVec F S512x512 .f32 := shapeCast S512x512 z shapeCasts_S1x1x512x512_S512x512

theorem tC_eq (c : FVec F S512x1 .f32) (z : Vec F S1x1x512x512 .f32) : tC c z = tot4 c (subf (lszS (flat z)) (flat z)) := rfl
theorem tW_eq (v : Env F) (c : FVec F S512x1 .f32) (z : Vec F S1x1x512x512 .f32) :
    tW v c z = truncf .bf16 (exp (addf (lszS (flat z)) (sums4 v.v45 c (subf (lszS (flat z)) (flat z))))) bitsLt_bf16_f32 := rfl
theorem tCe_eq (ce : FVec F S512x1 .f32) (w : FVec F S512x512 .bf16) (g : Vec F S1x1x512x512 .f32) : tCe ce w g = tot4 ce (eS w (flat g)) := rfl
theorem tDz_eq (v : Env F) (ce : FVec F S512x1 .f32) (z : Vec F S1x1x512x512 .f32) (w : FVec F S512x512 .bf16) (g : Vec F S1x1x512x512 .f32) :
    tDz v ce z w g = shapeCast S1x1x512x512 (truncf .bf16 (dzS (flat z) (eS w (flat g)) (sums4 v.v52 ce (eS w (flat g)))
      (broadcastTo S512x512 v.v109 broadcasts_S512x1_S512x512)) bitsLt_bf16_f32) shapeCasts_S512x512_S1x1x512x512 := rfl

/-! ## Place 0: 128 keys of the block's own tile -/

/-- The scores. -/
def z0' (v : Env F) (kb : Vec F S128x256 .f32) : FVec F S512x128 .f32 := k0_pay87 v.v66 kb
def lk0' (v : Env F) (kb : Vec F S128x256 .f32) : FVec F S512x128 .f32 := lkS k0_pay91 (z0' v kb)
def w0' (v : Env F) (kb : Vec F S128x256 .f32) : FVec F S512x128 .bf16 := wS k0_pay91 (z0' v kb) (sums1 v.v45 k0_pay86 (lk0' v kb))
def e0' (v : Env F) (kb vb : Vec F S128x256 .f32) : FVec F S512x128 .f32 := eS (w0' v kb) (k0_pay88 v.v78 vb)
def dz0' (v : Env F) (kb vb : Vec F S128x256 .f32) : FVec F S512x128 .bf16 := truncf .bf16 (select k0_pay91 (dzS (z0' v kb) (e0' v kb vb)
  (sums1 v.v52 k0_pay86 (e0' v kb vb)) (broadcastTo S512x128 v.v109 broadcasts_S512x1_S512x128)) (zeroS S512x128)) bitsLt_bf16_f32
theorem c0_eq (v : Env F) (kb vb : Vec F S128x256 .f32) : c0 v kb vb = plus k0_pay86 (lk0' v kb) := rfl
theorem ce0_eq (v : Env F) (kb vb : Vec F S128x256 .f32) : ce0 v kb vb = plus k0_pay86 (e0' v kb vb) := rfl
theorem w0_eq (v : Env F) (kb vb : Vec F S128x256 .f32) : w0 v kb vb = shapeCast S1x1x512x512 (concatenate S512x512 1 [⟨S512x128, w0' v kb⟩,
      ⟨S512x384, broadcast S512x384 (Scalar.ofBits .bf16 0x0000#16)⟩] concatenates_S512x128_S512x384_S512x512_d1) shapeCasts_S512x512_S1x1x512x512 := rfl
theorem dz0_eq (v : Env F) (kb vb : Vec F S128x256 .f32) : dz0 v kb vb = shapeCast S1x1x512x512 (concatenate S512x512 1 [⟨S512x128, dz0' v kb vb⟩,
      ⟨S512x384, broadcast S512x384 (Scalar.ofBits .bf16 0x0000#16)⟩] concatenates_S512x128_S512x384_S512x512_d1) shapeCasts_S512x512_S1x1x512x512 := rfl

/-! ## Place 1: 256 keys of the block's own tile -/

/-- The scores. -/
def z1' (v : Env F) (kb : Vec F S256x256 .f32) : FVec F S512x256 .f32 := k0_pay191 v.v66 kb
def lk1' (v : Env F) (kb : Vec F S256x256 .f32) : FVec F S512x256 .f32 := lkS k0_pay195 (z1' v kb)
def w1' (v : Env F) (kb : Vec F S256x256 .f32) : FVec F S512x256 .bf16 := wS k0_pay195 (z1' v kb) (sums2 v.v45 k0_pay86 (lk1' v kb))
def e1' (v : Env F) (kb vb : Vec F S256x256 .f32) : FVec F S512x256 .f32 := eS (w1' v kb) (k0_pay192 v.v78 vb)
def dz1' (v : Env F) (kb vb : Vec F S256x256 .f32) : FVec F S512x256 .bf16 := truncf .bf16 (select k0_pay195 (dzS (z1' v kb) (e1' v kb vb)
  (sums2 v.v52 k0_pay86 (e1' v kb vb)) (broadcastTo S512x256 v.v109 broadcasts_S512x1_S512x256)) (zeroS S512x256)) bitsLt_bf16_f32
theorem c1_eq (v : Env F) (kb vb : Vec F S256x256 .f32) : c1 v kb vb = tot2 k0_pay86 (lk1' v kb) := rfl
theorem ce1_eq (v : Env F) (kb vb : Vec F S256x256 .f32) : ce1 v kb vb = tot2 k0_pay86 (e1' v kb vb) := rfl
theorem w1_eq (v : Env F) (kb vb : Vec F S256x256 .f32) : w1 v kb vb = shapeCast S1x1x512x512 (concatenate S512x512 1 [⟨S512x256, w1' v kb⟩,
      ⟨S512x256, broadcast S512x256 (Scalar.ofBits .bf16 0x0000#16)⟩] concatenates_S512x256_S512x256_S512x512_d1) shapeCasts_S512x512_S1x1x512x512 := rfl
theorem dz1_eq (v : Env F) (kb vb : Vec F S256x256 .f32) : dz1 v kb vb = shapeCast S1x1x512x512 (concatenate S512x512 1 [⟨S512x256, dz1' v kb vb⟩,
      ⟨S512x256, broadcast S512x256 (Scalar.ofBits .bf16 0x0000#16)⟩] concatenates_S512x256_S512x256_S512x512_d1) shapeCasts_S512x512_S1x1x512x512 := rfl

/-! ## Place 2: 384 keys of the block's own tile -/

/-- The scores. -/
def z2' (v : Env F) (kb : Vec F S384x256 .f32) : FVec F S512x384 .f32 := k0_pay304 v.v66 kb
def lk2' (v : Env F) (kb : Vec F S384x256 .f32) : FVec F S512x384 .f32 := lkS k0_pay308 (z2' v kb)
def w2' (v : Env F) (kb : Vec F S384x256 .f32) : FVec F S512x384 .bf16 := wS k0_pay308 (z2' v kb) (sums3 v.v45 k0_pay86 (lk2' v kb))
def e2' (v : Env F) (kb vb : Vec F S384x256 .f32) : FVec F S512x384 .f32 := eS (w2' v kb) (k0_pay305 v.v78 vb)
def dz2' (v : Env F) (kb vb : Vec F S384x256 .f32) : FVec F S512x384 .bf16 := truncf .bf16 (select k0_pay308 (dzS (z2' v kb) (e2' v kb vb)
  (sums3 v.v52 k0_pay86 (e2' v kb vb)) (broadcastTo S512x384 v.v109 broadcasts_S512x1_S512x384)) (zeroS S512x384)) bitsLt_bf16_f32
theorem c2_eq (v : Env F) (kb vb : Vec F S384x256 .f32) : c2 v kb vb = tot3 k0_pay86 (lk2' v kb) := rfl
theorem ce2_eq (v : Env F) (kb vb : Vec F S384x256 .f32) : ce2 v kb vb = tot3 k0_pay86 (e2' v kb vb) := rfl
theorem w2_eq (v : Env F) (kb vb : Vec F S384x256 .f32) : w2 v kb vb = shapeCast S1x1x512x512 (concatenate S512x512 1 [⟨S512x384, w2' v kb⟩,
      ⟨S512x128, broadcast S512x128 (Scalar.ofBits .bf16 0x0000#16)⟩] concatenates_S512x384_S512x128_S512x512_d1) shapeCasts_S512x512_S1x1x512x512 := rfl
theorem dz2_eq (v : Env F) (kb vb : Vec F S384x256 .f32) : dz2 v kb vb = shapeCast S1x1x512x512 (concatenate S512x512 1 [⟨S512x384, dz2' v kb vb⟩,
      ⟨S512x128, broadcast S512x128 (Scalar.ofBits .bf16 0x0000#16)⟩] concatenates_S512x384_S512x128_S512x512_d1) shapeCasts_S512x512_S1x1x512x512 := rfl

/-! ## Place 3: 512 keys of the block's own tile -/

/-- The scores. -/
def z3' (v : Env F) (kb : Vec F S512x256 .f32) : FVec F S512x512 .f32 := k0_pay420 v.v66 kb
def lk3' (v : Env F) (kb : Vec F S512x256 .f32) : FVec F S512x512 .f32 := lkS k0_pay424 (z3' v kb)
def w3' (v : Env F) (kb : Vec F S512x256 .f32) : FVec F S512x512 .bf16 := wS k0_pay424 (z3' v kb) (sums4 v.v45 k0_pay86 (lk3' v kb))
def e3' (v : Env F) (kb vb : Vec F S512x256 .f32) : FVec F S512x512 .f32 := eS (w3' v kb) (k0_pay421 v.v78 vb)
def dz3' (v : Env F) (kb vb : Vec F S512x256 .f32) : FVec F S512x512 .bf16 := truncf .bf16 (select k0_pay424 (dzS (z3' v kb) (e3' v kb vb)
  (sums4 v.v52 k0_pay86 (e3' v kb vb)) (broadcastTo S512x512 v.v109 broadcasts_S512x1_S512x512)) (zeroS S512x512)) bitsLt_bf16_f32
theorem c3_eq (v : Env F) (kb vb : Vec F S512x256 .f32) : c3 v kb vb = tot4 k0_pay86 (lk3' v kb) := rfl
theorem ce3_eq (v : Env F) (kb vb : Vec F S512x256 .f32) : ce3 v kb vb = tot4 k0_pay86 (e3' v kb vb) := rfl
theorem w3_eq (v : Env F) (kb vb : Vec F S512x256 .f32) : w3 v kb vb = shapeCast S1x1x512x512 (w3' v kb) shapeCasts_S512x512_S1x1x512x512 := rfl
theorem dz3_eq (v : Env F) (kb vb : Vec F S512x256 .f32) : dz3 v kb vb = shapeCast S1x1x512x512 (dz3' v kb vb) shapeCasts_S512x512_S1x1x512x512 := rfl

end Text
end Cert.SbBwdIdeal.Own
end
-- ==== Proof.SbSumsVal.lean ====
/-
  The sums over the keys behind a key, at exact numbers: for a tile of 128, 256, 384 or 512 columns whose column `k`
  holds `f (s + k)`, after the columns of sums from its end on, they are the sums of `f` from the key (or the key after it) on.
-/
module

public import proofs.«01_k».proof.Proof.SbSums

@[expose] public section

noncomputable section

namespace Cert.SbBwdIdeal.Own

open Idealize.ShloMosaic Idealize.ShloMosaic.TcCoe
open Cert.SbBwdIdeal Cert.SbBwdIdeal.Gen Cert.Sb

variable {tri : FVec Ideal S128x128 .bf16} {c : FVec Ideal S512x1 .f32} {r : Fin 512} {f : ℕ → ℝ} {s d : ℕ}

/-! ## Rows of the products -/

theorem at_row {α : Type} {n : ℕ} (y : (⟨2, ![512, n]⟩ : Shape).Idx → α) {q : Fin 512} (k : Fin n) (h : q.val = r.val) : y (ix2 q k) = y (ix2 r k) :=
  congrArg (fun q => y (ix2 q k)) (Fin.ext h)

theorem prod1_hi0 (x0 : FVec Ideal S512x128 .f32) (a : Fin 128) (h : r.val < 1024) :
    (prod1 tri x0 (ix2 ⟨r.val, h⟩ a) : EReal) = ∑ k : Fin 128, (hi x0 (ix2 r k) : EReal) * tri (ix2 k a) := by
  pointwise [prod1]
  all_goals
    refine Finset.sum_congr rfl fun k _ => congrArg (· * _) ?_
    split_ifs <;> first | exact at_row _ k (by dsimp only; omega) | (exfalso; omega)

theorem prod1_lo0 (x0 : FVec Ideal S512x128 .f32) (a : Fin 128) (h : 512 + r.val < 1024) :
    (prod1 tri x0 (ix2 ⟨512 + r.val, h⟩ a) : EReal) = ∑ k : Fin 128, (lo x0 (ix2 r k) : EReal) * tri (ix2 k a) := by
  pointwise [prod1]
  all_goals
    refine Finset.sum_congr rfl fun k _ => congrArg (· * _) ?_
    split_ifs <;> first | exact at_row _ k (by dsimp only; omega) | (exfalso; omega)

theorem prod2_hi0 (x0 x1 : FVec Ideal S512x128 .f32) (a : Fin 128) (h : r.val < 2048) :
    (prod2 tri x0 x1 (ix2 ⟨r.val, h⟩ a) : EReal) = ∑ k : Fin 128, (hi x0 (ix2 r k) : EReal) * tri (ix2 k a) := by
  pointwise [prod2]
  all_goals
    refine Finset.sum_congr rfl fun k _ => congrArg (· * _) ?_
    split_ifs <;> first | exact at_row _ k (by dsimp only; omega) | (exfalso; omega)

theorem prod2_hi1 (x0 x1 : FVec Ideal S512x128 .f32) (a : Fin 128) (h : 512 + r.val < 2048) :
    (prod2 tri x0 x1 (ix2 ⟨512 + r.val, h⟩ a) : EReal) = ∑ k : Fin 128, (hi x1 (ix2 r k) : EReal) * tri (ix2 k a) := by
  pointwise [prod2]
  all_goals
    refine Finset.sum_congr rfl fun k _ => congrArg (· * _) ?_
    split_ifs <;> first | exact at_row _ k (by dsimp only; omega) | (exfalso; omega)

theorem prod2_lo0 (x0 x1 : FVec Ideal S512x128 .f32) (a : Fin 128) (h : 1024 + r.val < 2048) :
    (prod2 tri x0 x1 (ix2 ⟨1024 + r.val, h⟩ a) : EReal) = ∑ k : Fin 128, (lo x0 (ix2 r k) : EReal) * tri (ix2 k a) := by
  pointwise [prod2]
  all_goals
    refine Finset.sum_congr rfl fun k _ => congrArg (· * _) ?_
    split_ifs <;> first | exact at_row _ k (by dsimp only; omega) | (exfalso; omega)

theorem prod2_lo1 (x0 x1 : FVec Ideal S512x128 .f32) (a : Fin 128) (h : 1536 + r.val < 2048) :
    (prod2 tri x0 x1 (ix2 ⟨1536 + r.val, h⟩ a) : EReal) = ∑ k : Fin 128, (lo x1 (ix2 r k) : EReal) * tri (ix2 k a) := by
  pointwise [prod2]
  all_goals
    refine Finset.sum_congr rfl fun k _ => congrArg (· * _) ?_
    split_ifs <;> first | exact at_row _ k (by dsimp only; omega) | (exfalso; omega)

theorem prod3_hi0 (x0 x1 x2 : FVec Ideal S512x128 .f32) (a : Fin 128) (h : r.val < 3072) :
    (prod3 tri x0 x1 x2 (ix2 ⟨r.val, h⟩ a) : EReal) = ∑ k : Fin 128, (hi x0 (ix2 r k) : EReal) * tri (ix2 k a) := by
  pointwise [prod3]
  all_goals
    refine Finset.sum_congr rfl fun k _ => congrArg (· * _) ?_
    split_ifs <;> first | exact at_row _ k (by dsimp only; omega) | (exfalso; omega)

theorem prod3_hi1 (x0 x1 x2 : FVec Ideal S512x128 .f32) (a : Fin 128) (h : 512 + r.val < 3072) :
    (prod3 tri x0 x1 x2 (ix2 ⟨512 + r.val, h⟩ a) : EReal) = ∑ k : Fin 128, (hi x1 (ix2 r k) : EReal) * tri (ix2 k a) := by
  pointwise [prod3]
  all_goals
    refine Finset.sum_congr rfl fun k _ => congrArg (· * _) ?_
    split_ifs <;> first | exact at_row _ k (by dsimp only; omega) | (exfalso; omega)

theorem prod3_hi2 (x0 x1 x2 : FVec Ideal S512x128 .f32) (a : Fin 128) (h : 1024 + r.val < 3072) :
    (prod3 tri x0 x1 x2 (ix2 ⟨1024 + r.val, h⟩ a) : EReal) = ∑ k : Fin 128, (hi x2 (ix2 r k) : EReal) * tri (ix2 k a) := by
  pointwise [prod3]
  all_goals
    refine Finset.sum_congr rfl fun k _ => congrArg (· * _) ?_
    split_ifs <;> first | exact at_row _ k (by dsimp only; omega) | (exfalso; omega)

theorem prod3_lo0 (x0 x1 x2 : FVec Ideal S512x128 .f32) (a : Fin 128) (h : 1536 + r.val < 3072) :
    (prod3 tri x0 x1 x2 (ix2 ⟨1536 + r.val, h⟩ a) : EReal) = ∑ k : Fin 128, (lo x0 (ix2 r k) : EReal) * tri (ix2 k a) := by
  pointwise [prod3]
  all_goals
    refine Finset.sum_congr rfl fun k _ => congrArg (· * _) ?_
    split_ifs <;> first | exact at_row _ k (by dsimp only; omega) | (exfalso; omega)

theorem prod3_lo1 (x0 x1 x2 : FVec Ideal S512x128 .f32) (a : Fin 128) (h : 2048 + r.val < 3072) :
    (prod3 tri x0 x1 x2 (ix2 ⟨2048 + r.val, h⟩ a) : EReal) = ∑ k : Fin 128, (lo x1 (ix2 r k) : EReal) * tri (ix2 k a) := by
  pointwise [prod3]
  all_goals
    refine Finset.sum_congr rfl fun k _ => congrArg (· * _) ?_
    split_ifs <;> first | exact at_row _ k (by dsimp only; omega) | (exfalso; omega)

theorem prod3_lo2 (x0 x1 x2 : FVec Ideal S512x128 .f32) (a : Fin 128) (h : 2560 + r.val < 3072) :
    (prod3 tri x0 x1 x2 (ix2 ⟨2560 + r.val, h⟩ a) : EReal) = ∑ k : Fin 128, (lo x2 (ix2 r k) : EReal) * tri (ix2 k a) := by
  pointwise [prod3]
  all_goals
    refine Finset.sum_congr rfl fun k _ => congrArg (· * _) ?_
    split_ifs <;> first | exact at_row _ k (by dsimp only; omega) | (exfalso; omega)

theorem prod4_hi0 (x0 x1 x2 x3 : FVec Ideal S512x128 .f32) (a : Fin 128) (h : r.val < 4096) :
    (prod4 tri x0 x1 x2 x3 (ix2 ⟨r.val, h⟩ a) : EReal) = ∑ k : Fin 128, (hi x0 (ix2 r k) : EReal) * tri (ix2 k a) := by
  pointwise [prod4]
  all_goals
    refine Finset.sum_congr rfl fun k _ => congrArg (· * _) ?_
    split_ifs <;> first | exact at_row _ k (by dsimp only; omega) | (exfalso; omega)

theorem prod4_hi1 (x0 x1 x2 x3 : FVec Ideal S512x128 .f32) (a : Fin 128) (h : 512 + r.val < 4096) :
    (prod4 tri x0 x1 x2 x3 (ix2 ⟨512 + r.val, h⟩ a) : EReal) = ∑ k : Fin 128, (hi x1 (ix2 r k) : EReal) * tri (ix2 k a) := by
  pointwise [prod4]
  all_goals
    refine Finset.sum_congr rfl fun k _ => congrArg (· * _) ?_
    split_ifs <;> first | exact at_row _ k (by dsimp only; omega) | (exfalso; omega)

theorem prod4_hi2 (x0 x1 x2 x3 : FVec Ideal S512x128 .f32) (a : Fin 128) (h : 1024 + r.val < 4096) :
    (prod4 tri x0 x1 x2 x3 (ix2 ⟨1024 + r.val, h⟩ a) : EReal) = ∑ k : Fin 128, (hi x2 (ix2 r k) : EReal) * tri (ix2 k a) := by
  pointwise [prod4]
  all_goals
    refine Finset.sum_congr rfl fun k _ => congrArg (· * _) ?_
    split_ifs <;> first | exact at_row _ k (by dsimp only; omega) | (exfalso; omega)

theorem prod4_hi3 (x0 x1 x2 x3 : FVec Ideal S512x128 .f32) (a : Fin 128) (h : 1536 + r.val < 4096) :
    (prod4 tri x0 x1 x2 x3 (ix2 ⟨1536 + r.val, h⟩ a) : EReal) = ∑ k : Fin 128, (hi x3 (ix2 r k) : EReal) * tri (ix2 k a) := by
  pointwise [prod4]
  all_goals
    refine Finset.sum_congr rfl fun k _ => congrArg (· * _) ?_
    split_ifs <;> first | exact at_row _ k (by dsimp only; omega) | (exfalso; omega)

theorem prod4_lo0 (x0 x1 x2 x3 : FVec Ideal S512x128 .f32) (a : Fin 128) (h : 2048 + r.val < 4096) :
    (prod4 tri x0 x1 x2 x3 (ix2 ⟨2048 + r.val, h⟩ a) : EReal) = ∑ k : Fin 128, (lo x0 (ix2 r k) : EReal) * tri (ix2 k a) := by
  pointwise [prod4]
  all_goals
    refine Finset.sum_congr rfl fun k _ => congrArg (· * _) ?_
    split_ifs <;> first | exact at_row _ k (by dsimp only; omega) | (exfalso; omega)

theorem prod4_lo1 (x0 x1 x2 x3 : FVec Ideal S512x128 .f32) (a : Fin 128) (h : 2560 + r.val < 4096) :
    (prod4 tri x0 x1 x2 x3 (ix2 ⟨2560 + r.val, h⟩ a) : EReal) = ∑ k : Fin 128, (lo x1 (ix2 r k) : EReal) * tri (ix2 k a) := by
  pointwise [prod4]
  all_goals
    refine Finset.sum_congr rfl fun k _ => congrArg (· * _) ?_
    split_ifs <;> first | exact at_row _ k (by dsimp only; omega) | (exfalso; omega)

theorem prod4_lo2 (x0 x1 x2 x3 : FVec Ideal S512x128 .f32) (a : Fin 128) (h : 3072 + r.val < 4096) :
    (prod4 tri x0 x1 x2 x3 (ix2 ⟨3072 + r.val, h⟩ a) : EReal) = ∑ k : Fin 128, (lo x2 (ix2 r k) : EReal) * tri (ix2 k a) := by
  pointwise [prod4]
  all_goals
    refine Finset.sum_congr rfl fun k _ => congrArg (· * _) ?_
    split_ifs <;> first | exact at_row _ k (by dsimp only; omega) | (exfalso; omega)

theorem prod4_lo3 (x0 x1 x2 x3 : FVec Ideal S512x128 .f32) (a : Fin 128) (h : 3584 + r.val < 4096) :
    (prod4 tri x0 x1 x2 x3 (ix2 ⟨3584 + r.val, h⟩ a) : EReal) = ∑ k : Fin 128, (lo x3 (ix2 r k) : EReal) * tri (ix2 k a) := by
  pointwise [prod4]
  all_goals
    refine Finset.sum_congr rfl fun k _ => congrArg (· * _) ?_
    split_ifs <;> first | exact at_row _ k (by dsimp only; omega) | (exfalso; omega)
/-! ## The sums -/

theorem blk2_val {x : FVec Ideal S512x256 .f32} (hx : ∀ k : Fin 256, x (ix2 r k) = ((f (s + k.val) : ℝ) : EReal)) (g : Fin 2) :
    Blk (blk2 x g) r f (s + 128 * g.val) := by
  intro k
  have hx' := hx ⟨128 * g.val + k.val, by omega⟩
  rw [show s + 128 * g.val + k.val = s + (128 * g.val + k.val) by omega, ← hx']
  fin_cases g <;> (pointwise [blk2]; try exact congrArg (fun q => x (ix2 r q)) (Fin.ext (by dsimp only; omega)))

theorem tot2_val {x : FVec Ideal S512x256 .f32} (hx : ∀ k : Fin 256, x (ix2 r k) = ((f (s + k.val) : ℝ) : EReal)) (hc : Col c r f (s + 256)) (hs : s + 256 ≤ 4096) :
    Col (tot2 c x) r f s :=
  plus_val (plus_val hc (blk2_val hx 1) (by simp; omega)) (blk2_val hx 0) (by simp; omega)

theorem blk3_val {x : FVec Ideal S512x384 .f32} (hx : ∀ k : Fin 384, x (ix2 r k) = ((f (s + k.val) : ℝ) : EReal)) (g : Fin 3) :
    Blk (blk3 x g) r f (s + 128 * g.val) := by
  intro k
  have hx' := hx ⟨128 * g.val + k.val, by omega⟩
  rw [show s + 128 * g.val + k.val = s + (128 * g.val + k.val) by omega, ← hx']
  fin_cases g <;> (pointwise [blk3]; try exact congrArg (fun q => x (ix2 r q)) (Fin.ext (by dsimp only; omega)))

theorem tot3_val {x : FVec Ideal S512x384 .f32} (hx : ∀ k : Fin 384, x (ix2 r k) = ((f (s + k.val) : ℝ) : EReal)) (hc : Col c r f (s + 384)) (hs : s + 384 ≤ 4096) :
    Col (tot3 c x) r f s :=
  plus_val (plus_val (plus_val hc (blk3_val hx 2) (by simp; omega)) (blk3_val hx 1) (by simp; omega)) (blk3_val hx 0) (by simp; omega)

theorem blk4_val {x : FVec Ideal S512x512 .f32} (hx : ∀ k : Fin 512, x (ix2 r k) = ((f (s + k.val) : ℝ) : EReal)) (g : Fin 4) :
    Blk (blk4 x g) r f (s + 128 * g.val) := by
  intro k
  have hx' := hx ⟨128 * g.val + k.val, by omega⟩
  rw [show s + 128 * g.val + k.val = s + (128 * g.val + k.val) by omega, ← hx']
  fin_cases g <;> (pointwise [blk4]; try exact congrArg (fun q => x (ix2 r q)) (Fin.ext (by dsimp only; omega)))

theorem tot4_val {x : FVec Ideal S512x512 .f32} (hx : ∀ k : Fin 512, x (ix2 r k) = ((f (s + k.val) : ℝ) : EReal)) (hc : Col c r f (s + 512)) (hs : s + 512 ≤ 4096) :
    Col (tot4 c x) r f s :=
  plus_val (plus_val (plus_val (plus_val hc (blk4_val hx 3) (by simp; omega)) (blk4_val hx 2) (by simp; omega)) (blk4_val hx 1) (by simp; omega)) (blk4_val hx 0) (by simp; omega)

theorem sums1_val {x : FVec Ideal S512x128 .f32} (hx : Blk x r f s) (hc : Col c r f (s + 128)) (hs : s + 128 ≤ 4096)
    (ht : Tri tri d) (hd : d ≤ 1) (a : Fin 128) :
    (sums1 tri c x (ix2 r a) : EReal) = ((∑ k ∈ Finset.Ico (s + a.val + d) 4096, f k : ℝ) : EReal) := by
  unfold sums1
  rw [Nat.add_assoc]
  refine behind_val hc (Eq.trans ?_ (row_hi hx ht a)) (Eq.trans ?_ (row_lo hx ht a)) hs hd
  · pointwise
    exact prod1_hi0 x a _
  · pointwise
    exact prod1_lo0 x a _

theorem sums2_val {x : FVec Ideal S512x256 .f32} (hx : ∀ k : Fin 256, x (ix2 r k) = ((f (s + k.val) : ℝ) : EReal)) (hc : Col c r f (s + 256)) (hs : s + 256 ≤ 4096)
    (ht : Tri tri d) (hd : d ≤ 1) (a : Fin 256) :
    (sums2 tri c x (ix2 r a) : EReal) = ((∑ k ∈ Finset.Ico (s + a.val + d) 4096, f k : ℝ) : EReal) := by
  pointwise [sums2]
  by_cases h0 : a.val < 128
  · rw [dif_pos h0]
    refine (behind_val (plus_val hc (blk2_val hx 1) (by simp; omega)) (Eq.trans ?_ (row_hi (blk2_val hx 0) ht ⟨a.val, by omega⟩)) (Eq.trans ?_ (row_lo (blk2_val hx 0) ht ⟨a.val, by omega⟩)) (by simp; omega) hd).trans ?_
    · pointwise
      exact prod2_hi0 (blk2 x 0) (blk2 x 1) _ _
    · pointwise
      exact prod2_lo0 (blk2 x 0) (blk2 x 1) _ _
    · exact congrArg (fun q => ((∑ k ∈ Finset.Ico q 4096, f k : ℝ) : EReal)) (by simp; omega)
  rw [dif_neg h0]
  refine (behind_val hc (Eq.trans ?_ (row_hi (blk2_val hx 1) ht ⟨a.val - 128, by omega⟩)) (Eq.trans ?_ (row_lo (blk2_val hx 1) ht ⟨a.val - 128, by omega⟩)) (by simp; omega) hd).trans ?_
  · pointwise
    exact prod2_hi1 (blk2 x 0) (blk2 x 1) _ _
  · pointwise
    exact prod2_lo1 (blk2 x 0) (blk2 x 1) _ _
  · exact congrArg (fun q => ((∑ k ∈ Finset.Ico q 4096, f k : ℝ) : EReal)) (by simp; omega)

theorem sums3_val {x : FVec Ideal S512x384 .f32} (hx : ∀ k : Fin 384, x (ix2 r k) = ((f (s + k.val) : ℝ) : EReal)) (hc : Col c r f (s + 384)) (hs : s + 384 ≤ 4096)
    (ht : Tri tri d) (hd : d ≤ 1) (a : Fin 384) :
    (sums3 tri c x (ix2 r a) : EReal) = ((∑ k ∈ Finset.Ico (s + a.val + d) 4096, f k : ℝ) : EReal) := by
  pointwise [sums3]
  by_cases h0 : a.val < 128
  · rw [dif_pos h0]
    refine (behind_val (plus_val (plus_val hc (blk3_val hx 2) (by simp; omega)) (blk3_val hx 1) (by simp; omega)) (Eq.trans ?_ (row_hi (blk3_val hx 0) ht ⟨a.val, by omega⟩)) (Eq.trans ?_ (row_lo (blk3_val hx 0) ht ⟨a.val, by omega⟩)) (by simp; omega) hd).trans ?_
    · pointwise
      exact prod3_hi0 (blk3 x 0) (blk3 x 1) (blk3 x 2) _ _
    · pointwise
      exact prod3_lo0 (blk3 x 0) (blk3 x 1) (blk3 x 2) _ _
    · exact congrArg (fun q => ((∑ k ∈ Finset.Ico q 4096, f k : ℝ) : EReal)) (by simp; omega)
  rw [dif_neg h0]
  by_cases h1 : a.val - 128 < 128
  · rw [dif_pos h1]
    refine (behind_val (plus_val hc (blk3_val hx 2) (by simp; omega)) (Eq.trans ?_ (row_hi (blk3_val hx 1) ht ⟨a.val - 128, by omega⟩)) (Eq.trans ?_ (row_lo (blk3_val hx 1) ht ⟨a.val - 128, by omega⟩)) (by simp; omega) hd).trans ?_
    · pointwise
      exact prod3_hi1 (blk3 x 0) (blk3 x 1) (blk3 x 2) _ _
    · pointwise
      exact prod3_lo1 (blk3 x 0) (blk3 x 1) (blk3 x 2) _ _
    · exact congrArg (fun q => ((∑ k ∈ Finset.Ico q 4096, f k : ℝ) : EReal)) (by simp; omega)
  rw [dif_neg h1]
  refine (behind_val hc (Eq.trans ?_ (row_hi (blk3_val hx 2) ht ⟨a.val - 128 - 128, by omega⟩)) (Eq.trans ?_ (row_lo (blk3_val hx 2) ht ⟨a.val - 128 - 128, by omega⟩)) (by simp; omega) hd).trans ?_
  · pointwise
    exact prod3_hi2 (blk3 x 0) (blk3 x 1) (blk3 x 2) _ _
  · pointwise
    exact prod3_lo2 (blk3 x 0) (blk3 x 1) (blk3 x 2) _ _
  · exact congrArg (fun q => ((∑ k ∈ Finset.Ico q 4096, f k : ℝ) : EReal)) (by simp; omega)

theorem sums4_val {x : FVec Ideal S512x512 .f32} (hx : ∀ k : Fin 512, x (ix2 r k) = ((f (s + k.val) : ℝ) : EReal)) (hc : Col c r f (s + 512)) (hs : s + 512 ≤ 4096)
    (ht : Tri tri d) (hd : d ≤ 1) (a : Fin 512) :
    (sums4 tri c x (ix2 r a) : EReal) = ((∑ k ∈ Finset.Ico (s + a.val + d) 4096, f k : ℝ) : EReal) := by
  pointwise [sums4]
  by_cases h0 : a.val < 128
  · rw [dif_pos h0]
    refine (behind_val (plus_val (plus_val (plus_val hc (blk4_val hx 3) (by simp; omega)) (blk4_val hx 2) (by simp; omega)) (blk4_val hx 1) (by simp; omega)) (Eq.trans ?_ (row_hi (blk4_val hx 0) ht ⟨a.val, by omega⟩)) (Eq.trans ?_ (row_lo (blk4_val hx 0) ht ⟨a.val, by omega⟩)) (by simp; omega) hd).trans ?_
    · pointwise
      exact prod4_hi0 (blk4 x 0) (blk4 x 1) (blk4 x 2) (blk4 x 3) _ _
    · pointwise
      exact prod4_lo0 (blk4 x 0) (blk4 x 1) (blk4 x 2) (blk4 x 3) _ _
    · exact congrArg (fun q => ((∑ k ∈ Finset.Ico q 4096, f k : ℝ) : EReal)) (by simp; omega)
  rw [dif_neg h0]
  by_cases h1 : a.val - 128 < 128
  · rw [dif_pos h1]
    refine (behind_val (plus_val (plus_val hc (blk4_val hx 3) (by simp; omega)) (blk4_val hx 2) (by simp; omega)) (Eq.trans ?_ (row_hi (blk4_val hx 1) ht ⟨a.val - 128, by omega⟩)) (Eq.trans ?_ (row_lo (blk4_val hx 1) ht ⟨a.val - 128, by omega⟩)) (by simp; omega) hd).trans ?_
    · pointwise
      exact prod4_hi1 (blk4 x 0) (blk4 x 1) (blk4 x 2) (blk4 x 3) _ _
    · pointwise
      exact prod4_lo1 (blk4 x 0) (blk4 x 1) (blk4 x 2) (blk4 x 3) _ _
    · exact congrArg (fun q => ((∑ k ∈ Finset.Ico q 4096, f k : ℝ) : EReal)) (by simp; omega)
  rw [dif_neg h1]
  by_cases h2 : a.val - 128 - 128 < 128
  · rw [dif_pos h2]
    refine (behind_val (plus_val hc (blk4_val hx 3) (by simp; omega)) (Eq.trans ?_ (row_hi (blk4_val hx 2) ht ⟨a.val - 128 - 128, by omega⟩)) (Eq.trans ?_ (row_lo (blk4_val hx 2) ht ⟨a.val - 128 - 128, by omega⟩)) (by simp; omega) hd).trans ?_
    · pointwise
      exact prod4_hi2 (blk4 x 0) (blk4 x 1) (blk4 x 2) (blk4 x 3) _ _
    · pointwise
      exact prod4_lo2 (blk4 x 0) (blk4 x 1) (blk4 x 2) (blk4 x 3) _ _
    · exact congrArg (fun q => ((∑ k ∈ Finset.Ico q 4096, f k : ℝ) : EReal)) (by simp; omega)
  rw [dif_neg h2]
  refine (behind_val hc (Eq.trans ?_ (row_hi (blk4_val hx 3) ht ⟨a.val - 128 - 128 - 128, by omega⟩)) (Eq.trans ?_ (row_lo (blk4_val hx 3) ht ⟨a.val - 128 - 128 - 128, by omega⟩)) (by simp; omega) hd).trans ?_
  · pointwise
    exact prod4_hi3 (blk4 x 0) (blk4 x 1) (blk4 x 2) (blk4 x 3) _ _
  · pointwise
    exact prod4_lo3 (blk4 x 0) (blk4 x 1) (blk4 x 2) (blk4 x 3) _ _
  · exact congrArg (fun q => ((∑ k ∈ Finset.Ico q 4096, f k : ℝ) : EReal)) (by simp; omega)

end Cert.SbBwdIdeal.Own
end
-- ==== Proof.SbElem.lean ====
/-
  The elementwise parts of a tile at exact numbers, and what a query block hands to its tiles.
-/
module

public import proofs.«01_k».proof.Proof.SbTile
public import proofs.«01_k».proof.Proof.SbSumsVal
public import Idealize.ShloMosaic.Lib.WordCmp

@[expose] public section

noncomputable section

namespace Cert.SbBwdIdeal.Own

open Idealize.ShloMosaic Idealize.ShloMosaic.TcCoe
open Cert.SbBwdIdeal Cert.SbBwdIdeal.Gen Cert.Sb
open Finset (Ico range)

/-! ## Nothing is taken outside the mask -/

section Mask
variable (D : Data) {b r s : ℕ} (h : ¬ s < 128 * b + r % 128)
include h
theorem lk_out : D.lk b r s = 0 := if_neg h
theorem w_out : D.w b r s = 0 := if_neg h
theorem e_out : D.e b r s = 0 := by rw [Data.e, w_out D h, zero_mul]
theorem dz_out : D.dz b r s = 0 := if_neg h
end Mask

/-! ## Elementwise -/

theorem named_val : (Named.named κ "nlog2e" 0xBFB8AA3B#32 : Ideal .f32) = ((-(Real.log 2)⁻¹ : ℝ) : EReal) := rfl
theorem absf_val (x : ℝ) : FloatOps.absf (F := Ideal) (φ := .f32) (x : EReal) = ((|x| : ℝ) : EReal) :=
  (EReal.coe_strictMono.monotone.map_max).symm
theorem exp2_val (x : ℝ) : Ideal.exp2 ((|x| * -(Real.log 2)⁻¹ : ℝ) : EReal) = ((Real.exp (-|x|) : ℝ) : EReal) := by
  have h2 : Real.log 2 ≠ 0 := (Real.log_pos one_lt_two).ne'
  rw [Ideal.exp2_coe]
  refine congrArg (fun r : ℝ => (r : EReal)) ?_
  show (2 : ℝ) ^ (|x| * -(Real.log 2)⁻¹) = _
  rw [Real.rpow_def_of_pos two_pos]
  congr 1; field_simp
theorem log_val (x : ℝ) : Ideal.log ((1 + Real.exp (-|x|) : ℝ) : EReal) = ((Real.log (1 + Real.exp (-|x|)) : ℝ) : EReal) := by
  rw [Ideal.log_coe, if_neg (by have := Real.exp_pos (-|x|); linarith)]

variable {s : Shape} {j : s.Idx}

theorem lszS_val {z : FVec Ideal s .f32} {x : ℝ} (h : z j = (x : EReal)) : lszS z j = ((lsz x : ℝ) : EReal) := by
  pointwise [lszS, zeroS]
  have e : (FloatOps.exp2 (F := Ideal) (φ := .f32) (FloatOps.absf (z j) * Named.named κ "nlog2e" 3216550459#32) : EReal) = ((Real.exp (-|x|) : ℝ) : EReal) := by
    rw [h, absf_val, named_val, ← EReal.coe_mul]; exact exp2_val x
  have o : (1 : EReal) + ((Real.exp (-|x|) : ℝ) : EReal) = ((1 + Real.exp (-|x|) : ℝ) : EReal) := by rw [EReal.coe_add]; rfl
  rw [e, o, log_val, h, lsz, EReal.coe_sub]
  congr 1

theorem sel_val {m : BitVec 1} {P : Prop} [Decidable P] (hm : m = BitVec.ofBool (decide P)) {x y : EReal} {a b : ℝ} (hx : P → x = a) (hy : y = b) :
    Scalar.select m x y = ((if P then a else b : ℝ) : EReal) := by
  rw [hm, Scalar.select]
  by_cases h : P
  · rw [if_pos h, if_pos (by rw [decide_eq_true h]; rfl), hx h]
  · rw [if_neg h, if_neg (by rw [decide_eq_false h]; decide), hy]

theorem zeroS_val : zeroS (F := Ideal) s j = ((0 : ℝ) : EReal) := Cert.Train.lit_zero

variable {z S e d : FVec Ideal s .f32} {x u y t v : ℝ}

theorem dif_val (h : z j = (x : EReal)) : subf (lszS z) z j = ((lsz x - x : ℝ) : EReal) := by
  rw [EReal.coe_sub, ← lszS_val h, ← h]; rfl
theorem ex_val (h : z j = (x : EReal)) (hS : S j = (u : EReal)) : exp (addf (lszS z) S) j = ((Real.exp (lsz x + u) : ℝ) : EReal) := by
  rw [← Ideal.exp_coe, EReal.coe_add, ← lszS_val h, ← hS]; rfl
theorem dzS_val (h : z j = (x : EReal)) (he : e j = (y : EReal)) (hS : S j = (t : EReal)) (hd : d j = (v : EReal)) :
    dzS z e S d j = ((y - Real.exp (lsz x) * (y + (v - t)) : ℝ) : EReal) := by
  rw [EReal.coe_sub, EReal.coe_mul, EReal.coe_add, EReal.coe_sub, ← Ideal.exp_coe, ← lszS_val h, ← he, ← hS, ← hd]; rfl

theorem lit_eighth : Ideal.ofBits .f32 0x3E000000#32 = ((1 / 8 : ℝ) : EReal) := by
  simp [Ideal.ofBits, Ideal.ieee, -EReal.coe_mul]; norm_num

/-! ## What a query block hands to its tiles -/

/-- The values handed on are those of block `b`. -/
structure EnvVal (D : Data) (b : ℕ) (v : Env Ideal) : Prop where
  tri : Tri v.v45 1
  triI : Tri v.v52 0
  q : ∀ (r : Fin 512) (l : Fin 256), v.v66 (ix2 r l) = ((D.qs b r.val l.val : ℝ) : EReal)
  g : ∀ (r : Fin 512) (l : Fin 256), v.v78 (ix2 r l) = ((D.ds b r.val l.val : ℝ) : EReal)
  qT : ∀ (r : Fin 512) (l : Fin 256), v.v89 (ix2 l r) = ((D.qs b r.val l.val : ℝ) : EReal)
  gT : ∀ (r : Fin 512) (l : Fin 256), v.v102 (ix2 l r) = ((D.ds b r.val l.val : ℝ) : EReal)
  del : ∀ r : Fin 512, v.v109 (ix2 r 0) = ((D.del b r.val : ℝ) : EReal)
  m0 : ∀ (y : Fin 128) (l : Fin 256), v.v23 (ix2 y l) = BitVec.ofBool (decide (l.val / 64 = 0))
  m1 : ∀ (y : Fin 128) (l : Fin 256), v.v28 (ix2 y l) = BitVec.ofBool (decide (l.val / 64 = 1))
  m2 : ∀ (y : Fin 128) (l : Fin 256), v.v33 (ix2 y l) = BitVec.ofBool (decide (l.val / 64 = 2))
  m3 : ∀ (y : Fin 128) (l : Fin 256), v.v38 (ix2 y l) = BitVec.ofBool (decide (l.val / 64 = 3))

/-- A product over the lanes. -/
theorem lanes {n : ℕ} (f g : ℕ → ℝ) : (∑ l : Fin n, ((f l.val : ℝ) : EReal) * ((g l.val : ℝ) : EReal)) = ((∑ l ∈ range n, f l * g l : ℝ) : EReal) := by
  simp only [← EReal.coe_mul, Cert.Train.coe_sum]
  rw [Fin.sum_univ_eq_sum_range (fun l => f l * g l) n]

theorem low7 : ∀ r : Fin 512, ∀ c : Fin 4, IntOp.addi (IntOp.andi (BitVec.ofNat 32 r.val) 127#32) (BitVec.ofNat 32 (128 * c.val)) = BitVec.ofNat 32 (r.val % 128 + 128 * c.val) := by
  decide +kernel

end Cert.SbBwdIdeal.Own
end
-- ==== Proof.SbParts.lean ====
/-
  The products of a tile at exact numbers: what it adds to dq, dk and dv, the scores and do·v of the next tile; and what
  reading and writing a part of an array amounts to.
-/
module

public import proofs.«01_k».proof.Proof.SbElem
public import proofs.«01_k».proof.Proof.SbPlace

@[expose] public section

noncomputable section

namespace Cert.SbBwdIdeal.Own

open Idealize.ShloMosaic Idealize.ShloMosaic.TcCoe
open Cert.SbBwdIdeal Cert.SbBwdIdeal.Gen Cert.Sb Cert.SbRules
open Finset (Ico range)

/-! ## Parts of an array -/

section Parts
variable {α : Type}

/-- 512 rows of an array from row `m` on. -/
theorem emb_rows {o : Fin S4096x256.rank → ℕ} {n : ℕ} {h : ∀ a, o a + (⟨2, ![n, 256]⟩ : Shape).size a ≤ S4096x256.size a} {m : ℕ} (ho : o = ![m, 0]) (a : Fin n) (l : Fin 256)
    (hm : m + a.val < 4096) :
    (Rect.unit (s := S4096x256) o (⟨2, ![n, 256]⟩ : Shape).size h).emb (ix2 a l) = ix2 ⟨m + a.val, hm⟩ l := by
  subst ho
  funext x; apply Fin.ext; rw [Rect.emb_apply]
  fin_cases x <;> simp

theorem emb_cols {o : Fin S256x4096.rank → ℕ} {h : ∀ a, o a + S256x512.size a ≤ S256x4096.size a} {m : ℕ} (ho : o = ![0, m]) (l : Fin 256) (a : Fin 512)
    (hm : m + a.val < 4096) :
    (Rect.unit (s := S256x4096) o S256x512.size h).emb (ix2 l a) = ix2 l ⟨m + a.val, hm⟩ := by
  subst ho
  funext x; apply Fin.ext; rw [Rect.emb_apply]
  fin_cases x <;> simp

theorem emb_slot {o : Fin S2x1x512x512.rank → ℕ} {h : ∀ a, o a + S1x1x512x512.size a ≤ S2x1x512x512.size a} {u : ℕ} (hu : u < 2) (ho : o = ![u, 0, 0, 0]) (r a : Fin 512) :
    (Rect.unit (s := S2x1x512x512) o S1x1x512x512.size h).emb (ix4 0 0 r a) = ix4 ⟨u, hu⟩ 0 r a := by
  subst ho
  funext x; apply Fin.ext; rw [Rect.emb_apply]
  fin_cases x <;> simp <;> rfl

theorem not_col {o : Fin S256x4096.rank → ℕ} {h : ∀ a, o a + S256x512.size a ≤ S256x4096.size a} {m : ℕ} (ho : o = ![0, m]) (l : Fin 256) (s : Fin 4096)
    (hs : s.val < m ∨ m + 512 ≤ s.val) :
    ix2 l s ∉ (Rect.unit (s := S256x4096) o S256x512.size h).set := by
  subst ho
  rw [Rect.mem_set_unit]
  intro H
  obtain ⟨h1, h2⟩ : m ≤ s.val ∧ s.val < m + 512 := H 1
  omega

end Parts

/-! ## Products -/

/-- What a tile gives to dq, for every head. -/
def prodDq (kb : Vec Ideal S512x256 .f32) (dz : Vec Ideal S1x1x512x512 .bf16) : FVec Ideal S512x256 .f32 :=
  matmul (φ₁ := .bf16) (φ₂ := .bf16) dot_S512x512_S512x256_S512x256_1_0_0_1_n_n none (k0_pay12 dz) (truncf .bf16 (shapeCast S512x256 kb shapeCasts_S512x256_S512x256) bitsLt_bf16_f32) (constant S512x256 .f32 0x00000000#32)

/-- dq's accumulator and every head's rows of a product, at that head's lanes. -/
def mixDq (m0 m1 m2 m3 : IVec S128x256 1) (dq : FVec Ideal S128x256 .f32) (p : FVec Ideal S512x256 .f32) : FVec Ideal S128x256 .f32 :=
  addf dq (addf (addf (addf (select m0 (extractStridedSlice S128x256 ![0, 0] p slices_S512x256_o0_0_S128x256) (zeroS S128x256))
    (select m1 (extractStridedSlice S128x256 ![128, 0] p slices_S512x256_o128_0_S128x256) (zeroS S128x256)))
    (select m2 (extractStridedSlice S128x256 ![256, 0] p slices_S512x256_o256_0_S128x256) (zeroS S128x256)))
    (select m3 (extractStridedSlice S128x256 ![384, 0] p slices_S512x256_o384_0_S128x256) (zeroS S128x256)))

theorem pay13_eq (m0 m1 m2 m3) (dq : FVec Ideal S128x256 .f32) (kb) (dz) : k0_pay13 m0 m1 m2 m3 dq kb dz = mixDq m0 m1 m2 m3 dq (prodDq kb dz) := rfl
theorem pay113_eq (m0 m1 m2 m3) (dq : FVec Ideal S128x256 .f32) (kb) (dz) : k0_pay113 m0 m1 m2 m3 dq kb dz = mixDq m0 m1 m2 m3 dq (prodDq kb dz) := rfl

variable {D : Data} {b m : ℕ} {v : Env Ideal} (hv : EnvVal D b v)

section Tile
variable {kb vb : Vec Ideal S512x256 .f32} {dz w : Vec Ideal S1x1x512x512 .bf16}
variable (hk : ∀ (a : Fin 512) (l : Fin 256), kb (ix2 a l) = ((D.K (m + a.val) l.val : ℝ) : EReal))
variable (hw : ∀ (a : Fin 512) (l : Fin 256), vb (ix2 a l) = ((D.V (m + a.val) l.val : ℝ) : EReal))
variable (hdz : ∀ r a : Fin 512, (dz (ix4 0 0 r a) : EReal) = ((D.dz b r.val (m + a.val) : ℝ) : EReal))
variable (hww : ∀ r a : Fin 512, (w (ix4 0 0 r a) : EReal) = ((D.w b r.val (m + a.val) : ℝ) : EReal))

include hk hdz in
theorem prodDq_val (r : Fin 512) (l : Fin 256) : prodDq kb dz (ix2 r l) = ((∑ s ∈ Ico m (m + 512), D.dz b r.val s * D.K s l.val : ℝ) : EReal) := by
  pointwise [prodDq, k0_pay12]
  simp only [hk, hdz]
  rw [lanes (fun a => D.dz b r.val (m + a)) (fun a => D.K (m + a) l.val), Finset.sum_Ico_eq_sum_range, Nat.add_sub_cancel_left]

theorem four_heads (y : Fin 128) (l : Fin 256) (f : ℕ → ℝ) :
    (((if l.val / 64 = 0 then f (0 + y.val) else 0) + (if l.val / 64 = 1 then f (128 + y.val) else 0)) + (if l.val / 64 = 2 then f (256 + y.val) else 0))
      + (if l.val / 64 = 3 then f (384 + y.val) else 0) = f (128 * (l.val / 64) + y.val) := by
  have h : l.val / 64 < 4 := by omega
  generalize l.val / 64 = n at h ⊢
  interval_cases n <;> simp

include hv hk hdz in
theorem mixDq_val {dq : FVec Ideal S128x256 .f32} (hm : m + 512 ≤ 4096) (hd : ∀ (y : Fin 128) (l : Fin 256), dq (ix2 y l) = ((D.dqFrom b (m + 512) y.val l.val : ℝ) : EReal))
    (y : Fin 128) (l : Fin 256) : mixDq v.v23 v.v28 v.v33 v.v38 dq (prodDq kb dz) (ix2 y l) = ((D.dqFrom b m y.val l.val : ℝ) : EReal) := by
  have hp := prodDq_val hk hdz
  rw [Data.dqFrom, ← Finset.sum_Ico_consecutive _ (Nat.le_add_right m 512) hm, add_comm (∑ s ∈ Ico m (m + 512), _) _,
    ← four_heads y l (fun r => ∑ s ∈ Ico m (m + 512), D.dz b r s * D.K s l.val), ← Data.dqFrom]
  pointwise [mixDq]
  simp only [EReal.coe_add]
  rw [hd]
  congr 1
  congr 1
  · congr 1
    · congr 1
      · exact sel_val (hv.m0 y l) (fun _ => by rw [hp]) zeroS_val
      · exact sel_val (hv.m1 y l) (fun _ => by rw [hp]) zeroS_val
    · exact sel_val (hv.m2 y l) (fun _ => by rw [hp]) zeroS_val
  · exact sel_val (hv.m3 y l) (fun _ => by rw [hp]) zeroS_val

include hv hdz in
theorem dk_val {old : Vec Ideal S256x512 .f32} {x : ℝ} (l : Fin 256) (a : Fin 512) (ho : old (ix2 l a) = (x : EReal)) :
    k0_pay16 (k0_pay14 v.v89 dz) old (ix2 l a) = ((x + D.dkPart b (m + a.val) l.val : ℝ) : EReal) := by
  pointwise [k0_pay16, k0_pay14, k0_pay12]
  simp only [ho, hv.qT, hdz]
  rw [EReal.coe_add]
  exact congrArg ((x : EReal) + ·) (lanes (fun r => D.qs b r l.val) (fun r => D.dz b r (m + a.val)))

include hv hww in
theorem dv_val {old : Vec Ideal S256x512 .f32} {x : ℝ} (l : Fin 256) (a : Fin 512) (ho : old (ix2 l a) = (x : EReal)) :
    k0_pay17 (k0_pay15 v.v102 w) old (ix2 l a) = ((x + D.dvPart b (m + a.val) l.val : ℝ) : EReal) := by
  pointwise [k0_pay17, k0_pay15]
  simp only [ho, hv.gT, hww]
  rw [EReal.coe_add]
  exact congrArg ((x : EReal) + ·) (lanes (fun r => D.ds b r l.val) (fun r => D.w b r (m + a.val)))

include hv hk in
theorem nextZ_val (r a : Fin 512) : k0_pay26 v.v66 kb (ix4 0 0 r a) = ((D.Z b r.val (m + a.val) : ℝ) : EReal) := by
  pointwise [k0_pay26]
  simp only [hv.q, hk]
  exact lanes (D.qs b r.val) (D.K (m + a.val))

include hv hw in
theorem nextG_val (r a : Fin 512) : k0_pay38 v.v78 vb (ix4 0 0 r a) = ((D.gv b r.val (m + a.val) : ℝ) : EReal) := by
  pointwise [k0_pay38]
  simp only [hv.g, hw]
  exact lanes (D.ds b r.val) (D.V (m + a.val))

end Tile

theorem pay114_eq (v : FVec Ideal S256x512 .bf16) (dz) (old) : k0_pay3 (k0_pay114 v dz) old = k0_pay16 (k0_pay14 v dz) old := rfl
theorem pay115_eq (v : FVec Ideal S256x512 .bf16) (dz) (old) : k0_pay4 (k0_pay115 v dz) old = k0_pay17 (k0_pay15 v dz) old := rfl
theorem pay89_eq (v : FVec Ideal S512x256 .bf16) (kb) : k0_pay89 v kb = k0_pay26 v kb := rfl
theorem pay90_eq (v : FVec Ideal S512x256 .bf16) (kb) : k0_pay90 v kb = k0_pay38 v kb := rfl

end Cert.SbBwdIdeal.Own
end
-- ==== Proof.SbTripVal.lean ====
/-
  A trip's tile at exact numbers: with the scores and do·v of the tile in its slots and the sums over the keys behind
  it, the weights, the gradient of the scores and the sums from the tile on.
-/
module

public import proofs.«01_k».proof.Proof.SbElem

@[expose] public section

noncomputable section

namespace Cert.SbBwdIdeal.Own

open Idealize.ShloMosaic Idealize.ShloMosaic.TcCoe
open Cert.SbBwdIdeal Cert.SbBwdIdeal.Gen Cert.Sb
open Finset (Ico range)

variable {D : Data} {b t : ℕ} {v : Env Ideal} {c ce : FVec Ideal S512x1 .f32} {z g : Vec Ideal S1x1x512x512 .f32}
variable (hv : EnvVal D b v) (hb : 512 * t + 512 ≤ 128 * b) (hT : 512 * t + 512 ≤ 4096)
variable (hz : ∀ r a : Fin 512, z (ix4 0 0 r a) = ((D.Z b r.val (512 * t + a.val) : ℝ) : EReal))
variable (hg : ∀ r a : Fin 512, g (ix4 0 0 r a) = ((D.gv b r.val (512 * t + a.val) : ℝ) : EReal))
variable (hc : ∀ r : Fin 512, Col c r (D.lk b r.val) (512 * t + 512)) (hce : ∀ r : Fin 512, Col ce r (D.e b r.val) (512 * t + 512))

include hb in
theorem live (r a : Fin 512) : 512 * t + a.val < 128 * b + r.val % 128 := by omega

theorem flat_at (x : Vec Ideal S1x1x512x512 .f32) (r a : Fin 512) : flat x (ix2 r a) = x (ix4 0 0 r a) := by
  pointwise [flat]

include hb hz in
theorem tLk_val (r a : Fin 512) : subf (lszS (flat z)) (flat z) (ix2 r a) = ((D.lk b r.val (512 * t + a.val) : ℝ) : EReal) := by
  rw [Data.lk, if_pos (live hb r a)]
  exact dif_val ((flat_at z r a).trans (hz r a))

include hb hT hz hc in
theorem tC_val (r : Fin 512) : Col (tC c z) r (D.lk b r.val) (512 * t) := by
  rw [tC_eq]
  exact tot4_val (tLk_val hb hz r) (hc r) hT

include hv hb hT hz hc in
theorem tW_val (r a : Fin 512) : (tW v c z (ix2 r a) : EReal) = ((D.w b r.val (512 * t + a.val) : ℝ) : EReal) := by
  rw [tW_eq, Data.w, if_pos (live hb r a)]
  exact ex_val ((flat_at z r a).trans (hz r a)) (sums4_val (tLk_val hb hz r) (hc r) hT hv.tri le_rfl a)

include hv hb hT hz hc hg in
theorem tE_val (r a : Fin 512) : eS (tW v c z) (flat g) (ix2 r a) = ((D.e b r.val (512 * t + a.val) : ℝ) : EReal) := by
  rw [Data.e, EReal.coe_mul, ← tW_val hv hb hT hz hc r a, ← hg r a, ← flat_at g r a]
  rfl

include hv hb hT hz hc hg hce in
theorem tCe_val (r : Fin 512) : Col (tCe ce (tW v c z) g) r (D.e b r.val) (512 * t) := by
  rw [tCe_eq]
  exact tot4_val (tE_val hv hb hT hz hg hc r) (hce r) hT

include hv hb hT hz hc hg hce in
theorem tDz_val (r a : Fin 512) : (tDz v ce z (tW v c z) g (ix4 0 0 r a) : EReal) = ((D.dz b r.val (512 * t + a.val) : ℝ) : EReal) := by
  rw [tDz_eq, Data.dz, if_pos (live hb r a)]
  pointwise
  refine dzS_val (v := D.del b r.val) ((flat_at z r a).trans (hz r a)) (tE_val hv hb hT hz hg hc r a) (sums4_val (tE_val hv hb hT hz hg hc r) (hce r) hT hv.triI zero_le_one a) ?_
  pointwise
  exact hv.del r

end Cert.SbBwdIdeal.Own
end
-- ==== Proof.SbLead.lean ====
/-
  A query block from its own tile down to the first: what holds between two trips, and what the block's gradient and the
  accumulators of the keys' and values' gradients hold at the end.
-/
module

public import proofs.«01_k».proof.Proof.SbParts
public import proofs.«01_k».proof.Proof.SbTripVal
public import proofs.«01_k».proof.Proof.SbWp

@[expose] public section

noncomputable section

namespace Cert.SbBwdIdeal.Own

open Idealize.ShloMosaic Idealize.ShloMosaic.TcCoe
open Cert.SbBwdIdeal Cert.SbBwdIdeal.Gen Cert.Sb Cert.SbRules
open Finset (Ico range)

/-- Rows of an array of real numbers. -/
def Rows (X : S4096x256.Idx → Ideal .f32) (f : ℕ → ℕ → ℝ) : Prop := ∀ (s : Fin 4096) (l : Fin 256), X (ix2 s l) = ((f s.val l.val : ℝ) : EReal)
/-- An accumulator by lane and key. -/
def Cols (X : S256x4096.Idx → Ideal .f32) (f : ℕ → ℕ → ℝ) : Prop := ∀ (l : Fin 256) (s : Fin 4096), X (ix2 l s) = ((f l.val s.val : ℝ) : EReal)
/-- A slot of a buffer of two tiles. -/
def Slot (φ : FTy) (X : S2x1x512x512.Idx → Ideal φ) (u : ℕ) (hu : u < 2) (f : ℕ → ℕ → ℝ) : Prop :=
  ∀ r a : Fin 512, (X (ix4 ⟨u, hu⟩ 0 r a) : EReal) = ((f r.val a.val : ℝ) : EReal)

/-- The offsets of a place of block `b`, whose own tile is `j`, and what its own tile gives. -/
structure Good (D : Data) (b j : ℕ) (P : Place Ideal) : Prop where
  trips : P.L1.trips = j
  o2 : P.o2 = ![512 * (j - 1), 0]
  o13 : P.o13 = ![j % 2, 0, 0, 0]
  o3 : ∀ t, (P.offs t).o3 = ![512 * (j - t.val), 0]
  o4 : ∀ t, (P.offs t).o4 = ![t.val % 2, 0, 0, 0]
  o5 : ∀ t, (P.offs t).o5 = ![0, 512 * (j - t.val)]
  o6 : ∀ t, (P.offs t).o6 = ![512 * (j - (t.val + 1) - 1), 0]
  o7 : ∀ t, (P.offs t).o7 = ![(t.val + 1) % 2, 0, 0, 0]
  c : ∀ v X3 X4, EnvVal D b v → Rows X3 D.K → Rows X4 D.V → ∀ r, Col (P.c0 v (pick P.rK X3) (pick P.rK X4)) r (D.lk b r.val) (512 * j)
  ce : ∀ v X3 X4, EnvVal D b v → Rows X3 D.K → Rows X4 D.V → ∀ r, Col (P.ce0 v (pick P.rK X3) (pick P.rK X4)) r (D.e b r.val) (512 * j)
  dz : ∀ v X3 X4, EnvVal D b v → Rows X3 D.K → Rows X4 D.V → ∀ r a : Fin 512, (P.dz v (pick P.rK X3) (pick P.rK X4) (ix4 0 0 r a) : EReal) = ((D.dz b r.val (512 * j + a.val) : ℝ) : EReal)
  w : ∀ v X3 X4, EnvVal D b v → Rows X3 D.K → Rows X4 D.V → ∀ r a : Fin 512, (P.w v (pick P.rK X3) (pick P.rK X4) (ix4 0 0 r a) : EReal) = ((D.w b r.val (512 * j + a.val) : ℝ) : EReal)

theorem two (k : ℕ) : k % 2 < 2 := Nat.mod_lt _ two_pos

/-- With the tiles above `B` done: dz and the weights of `B` and the scores and do·v of the tile before it are in slot
    `k % 2`, the sums are those from `B` on, and the results have the keys behind `B`. -/
structure Inv (D : Data) (b j : ℕ) (dk0 dv0 : ℕ → ℕ → ℝ) (k : ℕ) (s : St Ideal) : Prop where
  le : k ≤ j
  dq : ∀ (y : Fin 128) (l : Fin 256), s.dq (ix2 y l) = ((D.dqFrom b (512 * (j - k) + 512) y.val l.val : ℝ) : EReal)
  c : ∀ r : Fin 512, Col s.c r (D.lk b r.val) (512 * (j - k))
  ce : ∀ r : Fin 512, Col s.ce r (D.e b r.val) (512 * (j - k))
  X8 : Cols s.X8 fun l n => dk0 l n + if 512 * (j - k) + 512 ≤ n then D.dkPart b n l else 0
  X9 : Cols s.X9 fun l n => dv0 l n + if 512 * (j - k) + 512 ≤ n then D.dvPart b n l else 0
  X10 : Slot .f32 s.X10 (k % 2) (two k) fun r a => D.Z b r (512 * (j - k - 1) + a)
  X11 : Slot .f32 s.X11 (k % 2) (two k) fun r a => D.gv b r (512 * (j - k - 1) + a)
  X12 : Slot .bf16 s.X12 (k % 2) (two k) fun r a => D.dz b r (512 * (j - k) + a)
  X13 : Slot .bf16 s.X13 (k % 2) (two k) fun r a => D.w b r (512 * (j - k) + a)

section Reads

theorem rows_pick {X : S4096x256.Idx → Ideal .f32} {f : ℕ → ℕ → ℝ} (hX : Rows X f) {n : ℕ} {o : Fin S4096x256.rank → ℕ} {h : ∀ a, o a + (⟨2, ![n, 256]⟩ : Shape).size a ≤ S4096x256.size a} {m : ℕ}
    (ho : o = ![m, 0]) (hm : m + n ≤ 4096) (a : Fin n) (l : Fin 256) :
    pick (Val := Elt Ideal) (e := .f32) (Rect.unit (s := S4096x256) o (⟨2, ![n, 256]⟩ : Shape).size h) X (ix2 a l) = ((f (m + a.val) l.val : ℝ) : EReal) := by
  show X ((Rect.unit (s := S4096x256) o (⟨2, ![n, 256]⟩ : Shape).size h).emb (ix2 a l)) = _
  rw [emb_rows ho a l (by omega)]
  exact hX _ _

variable {φ : FTy} {X : S2x1x512x512.Idx → Ideal φ} {f : ℕ → ℕ → ℝ} {o : Fin S2x1x512x512.rank → ℕ} {h : ∀ a, o a + S1x1x512x512.size a ≤ S2x1x512x512.size a}
variable {u : ℕ} {hu : u < 2} (ho : o = ![u, 0, 0, 0])

include ho in
theorem slot_pick (hX : Slot φ X u hu f) (r a : Fin 512) :
    (X ((Rect.unit (s := S2x1x512x512) o S1x1x512x512.size h).emb (ix4 0 0 r a)) : EReal) = ((f r.val a.val : ℝ) : EReal) := by
  rw [emb_slot hu ho]
  exact hX _ _

include ho in
theorem slot_put {w : S1x1x512x512.Idx → Ideal φ} (hw : ∀ r a : Fin 512, (w (ix4 0 0 r a) : EReal) = ((f r.val a.val : ℝ) : EReal)) :
    Slot φ ((Rect.unit (s := S2x1x512x512) o S1x1x512x512.size h).overlay X w) u hu f := fun r a => by
  rw [← emb_slot (h := h) hu ho, Rect.overlay_emb]
  exact hw r a

variable {Y : S256x4096.Idx → Ideal .f32} {g g' : ℕ → ℕ → ℝ} {q : Fin S256x4096.rank → ℕ} {hq : ∀ a, q a + S256x512.size a ≤ S256x4096.size a} {m : ℕ} (hm : m + 512 ≤ 4096) (hqm : q = ![0, m])

include hqm hm in
/-- An accumulator with a tile's columns replaced. -/
theorem cols_put (hY : Cols Y g) {w : (S256x512.Idx → Ideal .f32) → S256x512.Idx → Ideal .f32}
    (hw : ∀ old, (∀ (l : Fin 256) (a : Fin 512), old (ix2 l a) = ((g l.val (m + a.val) : ℝ) : EReal)) → ∀ (l : Fin 256) (a : Fin 512), w old (ix2 l a) = ((g' l.val (m + a.val) : ℝ) : EReal))
    (hout : ∀ l s, s < m ∨ m + 512 ≤ s → g' l s = g l s) :
    Cols ((Rect.unit (s := S256x4096) q S256x512.size hq).overlay Y (w (pick (Val := Elt Ideal) (e := .f32) (Rect.unit (s := S256x4096) q S256x512.size hq) Y))) g' := fun l s => by
  by_cases hs : s.val < m ∨ m + 512 ≤ s.val
  · rw [Rect.overlay_of_not_mem _ _ _ (not_col hqm l s hs), hout _ _ hs]; exact hY l s
  · have e : ix2 l s = (Rect.unit (s := S256x4096) q S256x512.size hq).emb (ix2 l (⟨s.val - m, by omega⟩ : Fin 512)) := by
      rw [emb_cols hqm l _ (show m + (s.val - m) < 4096 by omega)]
      congr 1; apply Fin.ext; show s.val = m + (s.val - m); omega
    rw [e, Rect.overlay_emb]
    refine (hw _ (fun l a => ?_) l _).trans ?_
    · show Y ((Rect.unit (s := S256x4096) q S256x512.size hq).emb (ix2 l a)) = _
      rw [emb_cols hqm l a (by omega)]
      exact hY _ _
    · rw [show m + (s.val - m) = s.val by omega]

end Reads

section Put

variable {D : Data} {b m : ℕ} {v : Env Ideal} (hv : EnvVal D b v) (hm : m + 512 ≤ 4096) {o : Fin S256x4096.rank → ℕ} {h : ∀ a, o a + S256x512.size a ≤ S256x4096.size a} (ho : o = ![0, m])
variable {Y : S256x4096.Idx → Ideal .f32} {base : ℕ → ℕ → ℝ} {dz w : S1x1x512x512.Idx → Ideal .bf16}

include hv hm ho in
theorem dk_put (hdz : ∀ r a : Fin 512, (dz (ix4 0 0 r a) : EReal) = ((D.dz b r.val (m + a.val) : ℝ) : EReal))
    (hY : Cols Y fun l n => base l n + if m + 512 ≤ n then D.dkPart b n l else 0) :
    Cols ((Rect.unit (s := S256x4096) o S256x512.size h).overlay Y (k0_pay16 (k0_pay14 v.v89 dz) (pick (Val := Elt Ideal) (e := .f32) (Rect.unit (s := S256x4096) o S256x512.size h) Y)))
      fun l n => base l n + if m ≤ n then D.dkPart b n l else 0 :=
  cols_put (w := fun old => k0_pay16 (k0_pay14 v.v89 dz) old) hm ho hY (fun old hold l a => (dk_val hv hdz l a (hold l a)).trans (by
      rw [if_neg (by omega), if_pos (by omega), add_zero])) fun l s hs => by
    congr 1
    exact if_congr (by omega) rfl rfl

include hv hm ho in
theorem dv_put (hw : ∀ r a : Fin 512, (w (ix4 0 0 r a) : EReal) = ((D.w b r.val (m + a.val) : ℝ) : EReal))
    (hY : Cols Y fun l n => base l n + if m + 512 ≤ n then D.dvPart b n l else 0) :
    Cols ((Rect.unit (s := S256x4096) o S256x512.size h).overlay Y (k0_pay17 (k0_pay15 v.v102 w) (pick (Val := Elt Ideal) (e := .f32) (Rect.unit (s := S256x4096) o S256x512.size h) Y)))
      fun l n => base l n + if m ≤ n then D.dvPart b n l else 0 :=
  cols_put (w := fun old => k0_pay17 (k0_pay15 v.v102 w) old) hm ho hY (fun old hold l a => (dv_val hv hw l a (hold l a)).trans (by
      rw [if_neg (by omega), if_pos (by omega), add_zero])) fun l s hs => by
    congr 1
    exact if_congr (by omega) rfl rfl

end Put

section Steps

theorem behind_own {b j : ℕ} (hb' : 128 * b < 512 * j + 512) {s r : ℕ} (hs : 512 * j + 512 ≤ s) : ¬ s < 128 * b + r % 128 := by omega

variable {D : Data} {b j : ℕ} {P : Place Ideal} (hP : Good D b j P) {x : Ins Ideal} (hv : EnvVal D b x.env) (h3 : Rows x.X3 D.K) (h4 : Rows x.X4 D.V)
variable (hj : j < 8) (hb : 512 * j ≤ 128 * b) (hb' : 128 * b < 512 * j + 512) {dk0 dv0 : ℕ → ℕ → ℝ}

include hP hv h3 h4 hj hb' in
theorem inv_head {s : St Ideal} (h8 : Cols s.X8 dk0) (h9 : Cols s.X9 dv0) : Inv D b j dk0 dv0 0 (headSt P x s) where
  le := Nat.zero_le _
  dq y l := by
    have e : D.dqFrom b (512 * (j - 0) + 512) y.val l.val = 0 :=
      Finset.sum_eq_zero fun s hs => by rw [dz_out D (behind_own hb' (Finset.mem_Ico.mp hs).1), zero_mul]
    rw [e]
    exact zeroS_val (s := S128x256) (j := ix2 y l)
  c r := hP.c _ _ _ hv h3 h4 r
  ce r := hP.ce _ _ _ hv h3 h4 r
  X8 l n := by
    refine (h8 l n).trans ?_
    have e : (if 512 * (j - 0) + 512 ≤ n.val then D.dkPart b n.val l.val else 0) = 0 :=
      ite_eq_right_iff.mpr fun hs => Finset.sum_eq_zero fun r _ => by rw [dz_out D (behind_own hb' hs), mul_zero]
    dsimp only
    rw [e, add_zero]
  X9 l n := by
    refine (h9 l n).trans ?_
    have e : (if 512 * (j - 0) + 512 ≤ n.val then D.dvPart b n.val l.val else 0) = 0 :=
      ite_eq_right_iff.mpr fun hs => Finset.sum_eq_zero fun r _ => by rw [w_out D (behind_own hb' hs), mul_zero]
    dsimp only
    rw [e, add_zero]
  X10 := slot_put (u := 0) rfl (f := fun r a => D.Z b r (512 * (j - 1) + a)) fun r a => by
    rw [pay89_eq]; exact nextZ_val hv (rows_pick h3 hP.o2 (by omega)) r a
  X11 := slot_put (u := 0) rfl (f := fun r a => D.gv b r (512 * (j - 1) + a)) fun r a => by
    rw [pay90_eq]; exact nextG_val hv (rows_pick h4 hP.o2 (by omega)) r a
  X12 := slot_put (u := 0) rfl (f := fun r a => D.dz b r (512 * j + a)) fun r a => hP.dz _ _ _ hv h3 h4 r a
  X13 := slot_put (u := 0) rfl (f := fun r a => D.w b r (512 * j + a)) fun r a => hP.w _ _ _ hv h3 h4 r a

include hP hv h3 h4 hj hb in
theorem inv_trip (t : Fin P.L1.trips) {s : St Ideal} (h : Inv D b j dk0 dv0 t.val s) : Inv D b j dk0 dv0 (t.val + 1) (tripSt x.env (P.offs t) x.X3 x.X4 s) := by
  have ht : t.val < j := lt_of_lt_of_eq t.isLt hP.trips
  obtain ⟨B, hB⟩ : ∃ B, j - t.val = B + 1 := ⟨j - t.val - 1, by omega⟩
  have hB' : j - (t.val + 1) = B := by omega
  obtain ⟨-, hdq, hc, hce, h8, h9, h10, h11, h12, h13⟩ := h
  simp only [hB, Nat.mul_succ, Nat.add_sub_cancel] at hdq hc hce h8 h9 h10 h11 h12 h13
  have o3 := hP.o3 t; have o5 := hP.o5 t; have o6 := hP.o6 t
  rw [hB, Nat.mul_succ] at o3 o5
  rw [hB'] at o6
  have hz := slot_pick (h := (P.offs t).h4) (hP.o4 t) h10
  have hg := slot_pick (h := (P.offs t).h4) (hP.o4 t) h11
  have hdz := slot_pick (h := (P.offs t).h4) (hP.o4 t) h12
  have hw := slot_pick (h := (P.offs t).h4) (hP.o4 t) h13
  have bB : 512 * B + 512 ≤ 128 * b := by omega
  have bT : 512 * B + 512 ≤ 4096 := by omega
  refine ⟨by omega, ?_, ?_, ?_, ?_, ?_, ?_, ?_, ?_, ?_⟩ <;> rw [hB']
  · intro y l
    unfold tripSt; dsimp only
    rw [pay13_eq]
    exact mixDq_val (dz := pick (P.offs t).r4 s.X12) hv (rows_pick h3 o3 (by omega)) hdz (by omega) hdq y l
  · exact tC_val (z := pick (P.offs t).r4 s.X10) bB bT hz hc
  · exact tCe_val (z := pick (P.offs t).r4 s.X10) (g := pick (P.offs t).r4 s.X11) hv bB bT hz hg hc hce
  · unfold tripSt; dsimp only
    exact dk_put (dz := pick (P.offs t).r4 s.X12) hv (by omega) o5 hdz h8
  · unfold tripSt; dsimp only
    exact dv_put (w := pick (P.offs t).r4 s.X13) hv (by omega) o5 hw h9
  · unfold tripSt; dsimp only
    exact slot_put (φ := .f32) (w := k0_pay26 x.env.v66 (pick (P.offs t).r6 x.X3)) (f := fun r a => D.Z b r (512 * (B - 1) + a)) (hP.o7 t)
      fun r a => nextZ_val hv (rows_pick h3 o6 (by omega)) r a
  · unfold tripSt; dsimp only
    exact slot_put (φ := .f32) (w := k0_pay38 x.env.v78 (pick (P.offs t).r6 x.X4)) (f := fun r a => D.gv b r (512 * (B - 1) + a)) (hP.o7 t)
      fun r a => nextG_val hv (rows_pick h4 o6 (by omega)) r a
  · unfold tripSt; dsimp only
    refine slot_put (φ := .bf16) (f := fun r a => D.dz b r (512 * B + a)) (hP.o7 t) fun r a => ?_
    exact tDz_val (z := pick (P.offs t).r4 s.X10) (g := pick (P.offs t).r4 s.X11) hv bB bT hz hg hc hce r a
  · unfold tripSt; dsimp only
    refine slot_put (φ := .bf16) (f := fun r a => D.w b r (512 * B + a)) (hP.o7 t) fun r a => Eq.trans ?_ (tW_val (z := pick (P.offs t).r4 s.X10) hv bB bT hz hc r a)
    pointwise [k0_pay106]

include hP hv h3 in
theorem inv_tail {s : St Ideal} (h : Inv D b j dk0 dv0 j s) (X7 : S128x256.Idx → Ideal .f32) :
    (∀ (y : Fin 128) (l : Fin 256), tailDq P x s X7 (ix2 y l) = ((D.dqFrom b 0 y.val l.val * (1 / 8) : ℝ) : EReal))
      ∧ Cols (tailSt P x s).X8 (fun l n => dk0 l n + D.dkPart b n l) ∧ Cols (tailSt P x s).X9 (fun l n => dv0 l n + D.dvPart b n l) := by
  obtain ⟨-, hdq, -, -, h8, h9, -, -, h12, h13⟩ := h
  rw [Nat.sub_self, Nat.mul_zero] at hdq h8 h9 h12 h13
  have hdz := slot_pick (h := P.h13) hP.o13 h12
  have hw := slot_pick (h := P.h13) hP.o13 h13
  refine ⟨fun y l => ?_, ?_, ?_⟩
  · have e : ix2 y l = rAll.emb (ix2 y l) := by
      funext a; apply Fin.ext; rw [Rect.emb_apply]; fin_cases a <;> simp
    rw [tailDq, e, Rect.overlay_emb, pay113_eq]
    have hm := mixDq_val (dz := pick P.r13 s.X12) hv (m := 0) (rows_pick h3 (o := ![0, 0]) (h := inb_S4096x256_S512x256_0_0) rfl (by omega)) hdz (by omega) hdq y l
    pointwise [k0_pay5]
    rw [EReal.coe_mul]
    exact congrArg₂ (· * ·) hm lit_eighth
  · have e := dk_put (dz := pick P.r13 s.X12) (h := inb_S256x4096_S256x512_0_0) hv (by omega) rfl hdz h8
    simp only [Nat.zero_le, if_true] at e
    exact e
  · have e := dv_put (w := pick P.r13 s.X13) (h := inb_S256x4096_S256x512_0_0) hv (by omega) rfl hw h9
    simp only [Nat.zero_le, if_true] at e
    exact e

end Steps

end Cert.SbBwdIdeal.Own
end
-- ==== Proof.SbHeadVal.lean ====
/-
  A query block's own tile at exact numbers, at the four places a block can have in its tile: the keys up to the block's
  end, masked to those before the query. Outside the mask everything is zero, and so are the columns after the block.
-/
module

public import proofs.«01_k».proof.Proof.SbElem

@[expose] public section

noncomputable section

namespace Cert.SbBwdIdeal.Own

open Idealize.ShloMosaic Idealize.ShloMosaic.TcCoe
open Cert.SbBwdIdeal Cert.SbBwdIdeal.Gen Cert.Sb
open Finset (Ico range)

variable {D : Data} {v : Env Ideal} {j : ℕ}

/-- No sums behind the tile. -/
theorem none_val {f : ℕ → ℝ} {s : ℕ} (r : Fin 512) (h : ∀ k, s ≤ k → f k = 0) : Col (k0_pay86 (F := Ideal)) r f s := by
  unfold Col
  rw [Finset.sum_eq_zero fun k hk => h k (Finset.mem_Ico.mp hk).1]
  exact Cert.Train.lit_zero

theorem pad_zero : (Scalar.ofBits .bf16 0x0000#16 : Ideal .bf16) = ((0 : ℝ) : EReal) := by
  simp [Scalar.ofBits, Ideal.ofBits, Ideal.ieee]

/-! ## Place 0 -/

section Place0
variable {kb vb : Vec Ideal S128x256 .f32}
variable (hv : EnvVal D (4 * j + 0) v) (hj : j < 8)
variable (hk : ∀ (k : Fin 128) (l : Fin 256), kb (ix2 k l) = ((D.K (512 * j + k.val) l.val : ℝ) : EReal))
variable (hw : ∀ (k : Fin 128) (l : Fin 256), vb (ix2 k l) = ((D.V (512 * j + k.val) l.val : ℝ) : EReal))

theorem past0_val (r : Fin 512) (a : Fin 128) : k0_pay91 (ix2 r a) = BitVec.ofBool (decide (512 * j + a.val < 128 * (4 * j + 0) + r.val % 128)) := by
  pointwise [k0_pay91]
  refine (congrArg (IntOp.cmpi CmpIPredicate.slt _) (low7 r 0)).trans ?_
  rw [WordCmp.cmpi_slt_ofNat (by show _ < 2147483648; omega) (by show _ < 2147483648; simp; omega)]
  exact congrArg BitVec.ofBool (decide_eq_decide.mpr (by simp; omega))

theorem after0 {r : Fin 512} {s : ℕ} (h : 512 * j + 128 ≤ s) : ¬ s < 128 * (4 * j + 0) + r.val % 128 := by omega

include hv hk in
theorem z0_val (r : Fin 512) (a : Fin 128) : z0' v kb (ix2 r a) = ((D.Z (4 * j + 0) r.val (512 * j + a.val) : ℝ) : EReal) := by
  pointwise [z0', k0_pay87]
  simp only [hv.q, hk]
  exact lanes (D.qs (4 * j + 0) r.val) (D.K (512 * j + a.val))

include hv hw in
theorem g0_val (r : Fin 512) (a : Fin 128) : k0_pay88 v.v78 vb (ix2 r a) = ((D.gv (4 * j + 0) r.val (512 * j + a.val) : ℝ) : EReal) := by
  pointwise [k0_pay88]
  simp only [hv.g, hw]
  exact lanes (D.ds (4 * j + 0) r.val) (D.V (512 * j + a.val))

include hv hk in
theorem lk0_val (r : Fin 512) (a : Fin 128) : lk0' v kb (ix2 r a) = ((D.lk (4 * j + 0) r.val (512 * j + a.val) : ℝ) : EReal) :=
  sel_val (past0_val r a) (fun _ => dif_val (z0_val hv hk r a)) zeroS_val

include hv hj hk in
theorem c0_val (r : Fin 512) : Col (c0 v kb vb) r (D.lk (4 * j + 0) r.val) (512 * j) := by
  rw [c0_eq]
  exact plus_val  (none_val r fun s h => lk_out D (after0 h)) (lk0_val hv hk r) (by omega)

include hv hj hk in
theorem w0'_val (r : Fin 512) (a : Fin 128) : (w0' v kb (ix2 r a) : EReal) = ((D.w (4 * j + 0) r.val (512 * j + a.val) : ℝ) : EReal) :=
  sel_val (past0_val r a) (fun _ => ex_val (z0_val hv hk r a)
    (sums1_val (lk0_val hv hk r) (none_val r fun s h => lk_out D (after0 h)) (by omega) hv.tri le_rfl a)) zeroS_val

include hv hj hk hw in
theorem e0_val (r : Fin 512) (a : Fin 128) : e0' v kb vb (ix2 r a) = ((D.e (4 * j + 0) r.val (512 * j + a.val) : ℝ) : EReal) := by
  rw [Data.e, EReal.coe_mul, ← w0'_val hv hj hk r a, ← g0_val hv hw r a]
  rfl

include hv hj hk hw in
theorem ce0_val (r : Fin 512) : Col (ce0 v kb vb) r (D.e (4 * j + 0) r.val) (512 * j) := by
  rw [ce0_eq]
  exact plus_val  (none_val r fun s h => e_out D (after0 h)) (e0_val hv hj hk hw r) (by omega)

include hv hj hk hw in
theorem dz0'_val (r : Fin 512) (a : Fin 128) : (dz0' v kb vb (ix2 r a) : EReal) = ((D.dz (4 * j + 0) r.val (512 * j + a.val) : ℝ) : EReal) := by
  refine sel_val (past0_val r a) (fun _ => dzS_val (v := D.del (4 * j + 0) r.val) (z0_val hv hk r a) (e0_val hv hj hk hw r a)
    (sums1_val (e0_val hv hj hk hw r) (none_val r fun s h => e_out D (after0 h)) (by omega) hv.triI zero_le_one a) ?_) zeroS_val
  pointwise
  exact hv.del r

include hv hj hk in
theorem w0_val (r a : Fin 512) : (w0 v kb vb (ix4 0 0 r a) : EReal) = ((D.w (4 * j + 0) r.val (512 * j + a.val) : ℝ) : EReal) := by
  rw [w0_eq]
  pointwise
  by_cases h : a.val < 128
  · rw [dif_pos h]; exact w0'_val hv hj hk r ⟨a.val, h⟩
  · rw [dif_neg h, w_out D (by omega)]; rfl

include hv hj hk hw in
theorem dz0_val (r a : Fin 512) : (dz0 v kb vb (ix4 0 0 r a) : EReal) = ((D.dz (4 * j + 0) r.val (512 * j + a.val) : ℝ) : EReal) := by
  rw [dz0_eq]
  pointwise
  by_cases h : a.val < 128
  · rw [dif_pos h]; exact dz0'_val hv hj hk hw r ⟨a.val, h⟩
  · rw [dif_neg h, dz_out D (by omega)]; rfl

end Place0

/-! ## Place 1 -/

section Place1
variable {kb vb : Vec Ideal S256x256 .f32}
variable (hv : EnvVal D (4 * j + 1) v) (hj : j < 8)
variable (hk : ∀ (k : Fin 256) (l : Fin 256), kb (ix2 k l) = ((D.K (512 * j + k.val) l.val : ℝ) : EReal))
variable (hw : ∀ (k : Fin 256) (l : Fin 256), vb (ix2 k l) = ((D.V (512 * j + k.val) l.val : ℝ) : EReal))

theorem past1_val (r : Fin 512) (a : Fin 256) : k0_pay195 (ix2 r a) = BitVec.ofBool (decide (512 * j + a.val < 128 * (4 * j + 1) + r.val % 128)) := by
  pointwise [k0_pay195]
  refine (congrArg (IntOp.cmpi CmpIPredicate.slt _) (low7 r 1)).trans ?_
  rw [WordCmp.cmpi_slt_ofNat (by show _ < 2147483648; omega) (by show _ < 2147483648; simp; omega)]
  exact congrArg BitVec.ofBool (decide_eq_decide.mpr (by simp; omega))

theorem after1 {r : Fin 512} {s : ℕ} (h : 512 * j + 256 ≤ s) : ¬ s < 128 * (4 * j + 1) + r.val % 128 := by omega

include hv hk in
theorem z1_val (r : Fin 512) (a : Fin 256) : z1' v kb (ix2 r a) = ((D.Z (4 * j + 1) r.val (512 * j + a.val) : ℝ) : EReal) := by
  pointwise [z1', k0_pay191]
  simp only [hv.q, hk]
  exact lanes (D.qs (4 * j + 1) r.val) (D.K (512 * j + a.val))

include hv hw in
theorem g1_val (r : Fin 512) (a : Fin 256) : k0_pay192 v.v78 vb (ix2 r a) = ((D.gv (4 * j + 1) r.val (512 * j + a.val) : ℝ) : EReal) := by
  pointwise [k0_pay192]
  simp only [hv.g, hw]
  exact lanes (D.ds (4 * j + 1) r.val) (D.V (512 * j + a.val))

include hv hk in
theorem lk1_val (r : Fin 512) (a : Fin 256) : lk1' v kb (ix2 r a) = ((D.lk (4 * j + 1) r.val (512 * j + a.val) : ℝ) : EReal) :=
  sel_val (past1_val r a) (fun _ => dif_val (z1_val hv hk r a)) zeroS_val

include hv hj hk in
theorem c1_val (r : Fin 512) : Col (c1 v kb vb) r (D.lk (4 * j + 1) r.val) (512 * j) := by
  rw [c1_eq]
  exact tot2_val (lk1_val hv hk r) (none_val r fun s h => lk_out D (after1 h))  (by omega)

include hv hj hk in
theorem w1'_val (r : Fin 512) (a : Fin 256) : (w1' v kb (ix2 r a) : EReal) = ((D.w (4 * j + 1) r.val (512 * j + a.val) : ℝ) : EReal) :=
  sel_val (past1_val r a) (fun _ => ex_val (z1_val hv hk r a)
    (sums2_val (lk1_val hv hk r) (none_val r fun s h => lk_out D (after1 h)) (by omega) hv.tri le_rfl a)) zeroS_val

include hv hj hk hw in
theorem e1_val (r : Fin 512) (a : Fin 256) : e1' v kb vb (ix2 r a) = ((D.e (4 * j + 1) r.val (512 * j + a.val) : ℝ) : EReal) := by
  rw [Data.e, EReal.coe_mul, ← w1'_val hv hj hk r a, ← g1_val hv hw r a]
  rfl

include hv hj hk hw in
theorem ce1_val (r : Fin 512) : Col (ce1 v kb vb) r (D.e (4 * j + 1) r.val) (512 * j) := by
  rw [ce1_eq]
  exact tot2_val (e1_val hv hj hk hw r) (none_val r fun s h => e_out D (after1 h))  (by omega)

include hv hj hk hw in
theorem dz1'_val (r : Fin 512) (a : Fin 256) : (dz1' v kb vb (ix2 r a) : EReal) = ((D.dz (4 * j + 1) r.val (512 * j + a.val) : ℝ) : EReal) := by
  refine sel_val (past1_val r a) (fun _ => dzS_val (v := D.del (4 * j + 1) r.val) (z1_val hv hk r a) (e1_val hv hj hk hw r a)
    (sums2_val (e1_val hv hj hk hw r) (none_val r fun s h => e_out D (after1 h)) (by omega) hv.triI zero_le_one a) ?_) zeroS_val
  pointwise
  exact hv.del r

include hv hj hk in
theorem w1_val (r a : Fin 512) : (w1 v kb vb (ix4 0 0 r a) : EReal) = ((D.w (4 * j + 1) r.val (512 * j + a.val) : ℝ) : EReal) := by
  rw [w1_eq]
  pointwise
  by_cases h : a.val < 256
  · rw [dif_pos h]; exact w1'_val hv hj hk r ⟨a.val, h⟩
  · rw [dif_neg h, w_out D (by omega)]; rfl

include hv hj hk hw in
theorem dz1_val (r a : Fin 512) : (dz1 v kb vb (ix4 0 0 r a) : EReal) = ((D.dz (4 * j + 1) r.val (512 * j + a.val) : ℝ) : EReal) := by
  rw [dz1_eq]
  pointwise
  by_cases h : a.val < 256
  · rw [dif_pos h]; exact dz1'_val hv hj hk hw r ⟨a.val, h⟩
  · rw [dif_neg h, dz_out D (by omega)]; rfl

end Place1

/-! ## Place 2 -/

section Place2
variable {kb vb : Vec Ideal S384x256 .f32}
variable (hv : EnvVal D (4 * j + 2) v) (hj : j < 8)
variable (hk : ∀ (k : Fin 384) (l : Fin 256), kb (ix2 k l) = ((D.K (512 * j + k.val) l.val : ℝ) : EReal))
variable (hw : ∀ (k : Fin 384) (l : Fin 256), vb (ix2 k l) = ((D.V (512 * j + k.val) l.val : ℝ) : EReal))

theorem past2_val (r : Fin 512) (a : Fin 384) : k0_pay308 (ix2 r a) = BitVec.ofBool (decide (512 * j + a.val < 128 * (4 * j + 2) + r.val % 128)) := by
  pointwise [k0_pay308]
  refine (congrArg (IntOp.cmpi CmpIPredicate.slt _) (low7 r 2)).trans ?_
  rw [WordCmp.cmpi_slt_ofNat (by show _ < 2147483648; omega) (by show _ < 2147483648; simp; omega)]
  exact congrArg BitVec.ofBool (decide_eq_decide.mpr (by simp; omega))

theorem after2 {r : Fin 512} {s : ℕ} (h : 512 * j + 384 ≤ s) : ¬ s < 128 * (4 * j + 2) + r.val % 128 := by omega

include hv hk in
theorem z2_val (r : Fin 512) (a : Fin 384) : z2' v kb (ix2 r a) = ((D.Z (4 * j + 2) r.val (512 * j + a.val) : ℝ) : EReal) := by
  pointwise [z2', k0_pay304]
  simp only [hv.q, hk]
  exact lanes (D.qs (4 * j + 2) r.val) (D.K (512 * j + a.val))

include hv hw in
theorem g2_val (r : Fin 512) (a : Fin 384) : k0_pay305 v.v78 vb (ix2 r a) = ((D.gv (4 * j + 2) r.val (512 * j + a.val) : ℝ) : EReal) := by
  pointwise [k0_pay305]
  simp only [hv.g, hw]
  exact lanes (D.ds (4 * j + 2) r.val) (D.V (512 * j + a.val))

include hv hk in
theorem lk2_val (r : Fin 512) (a : Fin 384) : lk2' v kb (ix2 r a) = ((D.lk (4 * j + 2) r.val (512 * j + a.val) : ℝ) : EReal) :=
  sel_val (past2_val r a) (fun _ => dif_val (z2_val hv hk r a)) zeroS_val

include hv hj hk in
theorem c2_val (r : Fin 512) : Col (c2 v kb vb) r (D.lk (4 * j + 2) r.val) (512 * j) := by
  rw [c2_eq]
  exact tot3_val (lk2_val hv hk r) (none_val r fun s h => lk_out D (after2 h))  (by omega)

include hv hj hk in
theorem w2'_val (r : Fin 512) (a : Fin 384) : (w2' v kb (ix2 r a) : EReal) = ((D.w (4 * j + 2) r.val (512 * j + a.val) : ℝ) : EReal) :=
  sel_val (past2_val r a) (fun _ => ex_val (z2_val hv hk r a)
    (sums3_val (lk2_val hv hk r) (none_val r fun s h => lk_out D (after2 h)) (by omega) hv.tri le_rfl a)) zeroS_val

include hv hj hk hw in
theorem e2_val (r : Fin 512) (a : Fin 384) : e2' v kb vb (ix2 r a) = ((D.e (4 * j + 2) r.val (512 * j + a.val) : ℝ) : EReal) := by
  rw [Data.e, EReal.coe_mul, ← w2'_val hv hj hk r a, ← g2_val hv hw r a]
  rfl

include hv hj hk hw in
theorem ce2_val (r : Fin 512) : Col (ce2 v kb vb) r (D.e (4 * j + 2) r.val) (512 * j) := by
  rw [ce2_eq]
  exact tot3_val (e2_val hv hj hk hw r) (none_val r fun s h => e_out D (after2 h))  (by omega)

include hv hj hk hw in
theorem dz2'_val (r : Fin 512) (a : Fin 384) : (dz2' v kb vb (ix2 r a) : EReal) = ((D.dz (4 * j + 2) r.val (512 * j + a.val) : ℝ) : EReal) := by
  refine sel_val (past2_val r a) (fun _ => dzS_val (v := D.del (4 * j + 2) r.val) (z2_val hv hk r a) (e2_val hv hj hk hw r a)
    (sums3_val (e2_val hv hj hk hw r) (none_val r fun s h => e_out D (after2 h)) (by omega) hv.triI zero_le_one a) ?_) zeroS_val
  pointwise
  exact hv.del r

include hv hj hk in
theorem w2_val (r a : Fin 512) : (w2 v kb vb (ix4 0 0 r a) : EReal) = ((D.w (4 * j + 2) r.val (512 * j + a.val) : ℝ) : EReal) := by
  rw [w2_eq]
  pointwise
  by_cases h : a.val < 384
  · rw [dif_pos h]; exact w2'_val hv hj hk r ⟨a.val, h⟩
  · rw [dif_neg h, w_out D (by omega)]; rfl

include hv hj hk hw in
theorem dz2_val (r a : Fin 512) : (dz2 v kb vb (ix4 0 0 r a) : EReal) = ((D.dz (4 * j + 2) r.val (512 * j + a.val) : ℝ) : EReal) := by
  rw [dz2_eq]
  pointwise
  by_cases h : a.val < 384
  · rw [dif_pos h]; exact dz2'_val hv hj hk hw r ⟨a.val, h⟩
  · rw [dif_neg h, dz_out D (by omega)]; rfl

end Place2

/-! ## Place 3 -/

section Place3
variable {kb vb : Vec Ideal S512x256 .f32}
variable (hv : EnvVal D (4 * j + 3) v) (hj : j < 8)
variable (hk : ∀ (k : Fin 512) (l : Fin 256), kb (ix2 k l) = ((D.K (512 * j + k.val) l.val : ℝ) : EReal))
variable (hw : ∀ (k : Fin 512) (l : Fin 256), vb (ix2 k l) = ((D.V (512 * j + k.val) l.val : ℝ) : EReal))

theorem past3_val (r : Fin 512) (a : Fin 512) : k0_pay424 (ix2 r a) = BitVec.ofBool (decide (512 * j + a.val < 128 * (4 * j + 3) + r.val % 128)) := by
  pointwise [k0_pay424]
  refine (congrArg (IntOp.cmpi CmpIPredicate.slt _) (low7 r 3)).trans ?_
  rw [WordCmp.cmpi_slt_ofNat (by show _ < 2147483648; omega) (by show _ < 2147483648; simp; omega)]
  exact congrArg BitVec.ofBool (decide_eq_decide.mpr (by simp; omega))

theorem after3 {r : Fin 512} {s : ℕ} (h : 512 * j + 512 ≤ s) : ¬ s < 128 * (4 * j + 3) + r.val % 128 := by omega

include hv hk in
theorem z3_val (r : Fin 512) (a : Fin 512) : z3' v kb (ix2 r a) = ((D.Z (4 * j + 3) r.val (512 * j + a.val) : ℝ) : EReal) := by
  pointwise [z3', k0_pay420]
  simp only [hv.q, hk]
  exact lanes (D.qs (4 * j + 3) r.val) (D.K (512 * j + a.val))

include hv hw in
theorem g3_val (r : Fin 512) (a : Fin 512) : k0_pay421 v.v78 vb (ix2 r a) = ((D.gv (4 * j + 3) r.val (512 * j + a.val) : ℝ) : EReal) := by
  pointwise [k0_pay421]
  simp only [hv.g, hw]
  exact lanes (D.ds (4 * j + 3) r.val) (D.V (512 * j + a.val))

include hv hk in
theorem lk3_val (r : Fin 512) (a : Fin 512) : lk3' v kb (ix2 r a) = ((D.lk (4 * j + 3) r.val (512 * j + a.val) : ℝ) : EReal) :=
  sel_val (past3_val r a) (fun _ => dif_val (z3_val hv hk r a)) zeroS_val

include hv hj hk in
theorem c3_val (r : Fin 512) : Col (c3 v kb vb) r (D.lk (4 * j + 3) r.val) (512 * j) := by
  rw [c3_eq]
  exact tot4_val (lk3_val hv hk r) (none_val r fun s h => lk_out D (after3 h))  (by omega)

include hv hj hk in
theorem w3'_val (r : Fin 512) (a : Fin 512) : (w3' v kb (ix2 r a) : EReal) = ((D.w (4 * j + 3) r.val (512 * j + a.val) : ℝ) : EReal) :=
  sel_val (past3_val r a) (fun _ => ex_val (z3_val hv hk r a)
    (sums4_val (lk3_val hv hk r) (none_val r fun s h => lk_out D (after3 h)) (by omega) hv.tri le_rfl a)) zeroS_val

include hv hj hk hw in
theorem e3_val (r : Fin 512) (a : Fin 512) : e3' v kb vb (ix2 r a) = ((D.e (4 * j + 3) r.val (512 * j + a.val) : ℝ) : EReal) := by
  rw [Data.e, EReal.coe_mul, ← w3'_val hv hj hk r a, ← g3_val hv hw r a]
  rfl

include hv hj hk hw in
theorem ce3_val (r : Fin 512) : Col (ce3 v kb vb) r (D.e (4 * j + 3) r.val) (512 * j) := by
  rw [ce3_eq]
  exact tot4_val (e3_val hv hj hk hw r) (none_val r fun s h => e_out D (after3 h))  (by omega)

include hv hj hk hw in
theorem dz3'_val (r : Fin 512) (a : Fin 512) : (dz3' v kb vb (ix2 r a) : EReal) = ((D.dz (4 * j + 3) r.val (512 * j + a.val) : ℝ) : EReal) := by
  refine sel_val (past3_val r a) (fun _ => dzS_val (v := D.del (4 * j + 3) r.val) (z3_val hv hk r a) (e3_val hv hj hk hw r a)
    (sums4_val (e3_val hv hj hk hw r) (none_val r fun s h => e_out D (after3 h)) (by omega) hv.triI zero_le_one a) ?_) zeroS_val
  pointwise
  exact hv.del r

include hv hj hk in
theorem w3_val (r a : Fin 512) : (w3 v kb vb (ix4 0 0 r a) : EReal) = ((D.w (4 * j + 3) r.val (512 * j + a.val) : ℝ) : EReal) := by
  rw [w3_eq]
  pointwise
  exact w3'_val hv hj hk r a

include hv hj hk hw in
theorem dz3_val (r a : Fin 512) : (dz3 v kb vb (ix4 0 0 r a) : EReal) = ((D.dz (4 * j + 3) r.val (512 * j + a.val) : ℝ) : EReal) := by
  rw [dz3_eq]
  pointwise
  exact dz3'_val hv hj hk hw r a

end Place3

end Cert.SbBwdIdeal.Own
end
-- ==== Proof.SbGood.lean ====
/-
  The four places at exact numbers: where each looks, and that its own tile gives what it is to give.
-/
module

public import proofs.«01_k».proof.Proof.SbLead
public import proofs.«01_k».proof.Proof.SbHeadVal

@[expose] public section

noncomputable section

namespace Cert.SbBwdIdeal.Own

open Idealize.ShloMosaic Idealize.ShloMosaic.TcCoe
open Cert.SbBwdIdeal Cert.SbBwdIdeal.Gen Cert.Sb Cert.SbRules

theorem tile_lt : ∀ i : grid0.Coords, (i 1).val < 8 := by decide +kernel

variable {D : Data} {i : grid0.Coords}

/-! ## Place 0 -/

theorem at0_trips : ∀ i : grid0.Coords, (k0_t1_loop i).trips = (i 1).val := by decide +kernel
theorem at0_own : ∀ i : grid0.Coords, k0_off1 i = ![512 * (i 1).val, 0] := by decide +kernel
theorem at0_o2 : ∀ i : grid0.Coords, k0_off2 i = ![512 * ((i 1).val - 1), 0] := by decide +kernel
theorem at0_o13 : ∀ i : grid0.Coords, k0_off13 i = ![(i 1).val % 2, 0, 0, 0] := by decide +kernel
theorem at0_o3 : ∀ (i : grid0.Coords) (t : Fin (k0_t1_loop i).trips), k0_off3 i t = ![512 * ((i 1).val - t.val), 0] := by decide +kernel
theorem at0_o4 : ∀ (i : grid0.Coords) (t : Fin (k0_t1_loop i).trips), k0_off4 i t = ![t.val % 2, 0, 0, 0] := by decide +kernel
theorem at0_o5 : ∀ (i : grid0.Coords) (t : Fin (k0_t1_loop i).trips), k0_off5 i t = ![0, 512 * ((i 1).val - t.val)] := by decide +kernel
theorem at0_o6 : ∀ (i : grid0.Coords) (t : Fin (k0_t1_loop i).trips), k0_off6 i t = ![512 * ((i 1).val - (t.val + 1) - 1), 0] := by decide +kernel
theorem at0_o7 : ∀ (i : grid0.Coords) (t : Fin (k0_t1_loop i).trips), k0_off7 i t = ![(t.val + 1) % 2, 0, 0, 0] := by decide +kernel

theorem good0 (h : k0_cond2 i = 1#1) : Good D (4 * (i 1).val + 0) (i 1).val (pl0 i h) where
  trips := at0_trips i
  o2 := at0_o2 i
  o13 := at0_o13 i
  o3 := at0_o3 i
  o4 := at0_o4 i
  o5 := at0_o5 i
  o6 := at0_o6 i
  o7 := at0_o7 i
  c v X3 X4 hv h3 h4 r := by
    have := tile_lt i
    exact c0_val (kb := pick (pl0 (F := Ideal) i h).rK X3) (vb := pick (pl0 (F := Ideal) i h).rK X4) hv this (rows_pick h3 (h := k0_off1_inb i h) (at0_own i) (by omega)) r
  ce v X3 X4 hv h3 h4 r := by
    have := tile_lt i
    exact ce0_val (kb := pick (pl0 (F := Ideal) i h).rK X3) (vb := pick (pl0 (F := Ideal) i h).rK X4) hv this (rows_pick h3 (h := k0_off1_inb i h) (at0_own i) (by omega)) (rows_pick h4 (h := k0_off1_inb i h) (at0_own i) (by omega)) r
  dz v X3 X4 hv h3 h4 r a := by
    have := tile_lt i
    exact dz0_val (kb := pick (pl0 (F := Ideal) i h).rK X3) (vb := pick (pl0 (F := Ideal) i h).rK X4) hv this (rows_pick h3 (h := k0_off1_inb i h) (at0_own i) (by omega)) (rows_pick h4 (h := k0_off1_inb i h) (at0_own i) (by omega)) r a
  w v X3 X4 hv h3 h4 r a := by
    have := tile_lt i
    exact w0_val (kb := pick (pl0 (F := Ideal) i h).rK X3) (vb := pick (pl0 (F := Ideal) i h).rK X4) hv this (rows_pick h3 (h := k0_off1_inb i h) (at0_own i) (by omega)) r a

/-! ## Place 1 -/

theorem at1_trips : ∀ i : grid0.Coords, (k0_t3_loop i).trips = (i 1).val := by decide +kernel
theorem at1_own : ∀ i : grid0.Coords, k0_off14 i = ![512 * (i 1).val, 0] := by decide +kernel
theorem at1_o2 : ∀ i : grid0.Coords, k0_off15 i = ![512 * ((i 1).val - 1), 0] := by decide +kernel
theorem at1_o13 : ∀ i : grid0.Coords, k0_off26 i = ![(i 1).val % 2, 0, 0, 0] := by decide +kernel
theorem at1_o3 : ∀ (i : grid0.Coords) (t : Fin (k0_t3_loop i).trips), k0_off16 i t = ![512 * ((i 1).val - t.val), 0] := by decide +kernel
theorem at1_o4 : ∀ (i : grid0.Coords) (t : Fin (k0_t3_loop i).trips), k0_off17 i t = ![t.val % 2, 0, 0, 0] := by decide +kernel
theorem at1_o5 : ∀ (i : grid0.Coords) (t : Fin (k0_t3_loop i).trips), k0_off18 i t = ![0, 512 * ((i 1).val - t.val)] := by decide +kernel
theorem at1_o6 : ∀ (i : grid0.Coords) (t : Fin (k0_t3_loop i).trips), k0_off19 i t = ![512 * ((i 1).val - (t.val + 1) - 1), 0] := by decide +kernel
theorem at1_o7 : ∀ (i : grid0.Coords) (t : Fin (k0_t3_loop i).trips), k0_off20 i t = ![(t.val + 1) % 2, 0, 0, 0] := by decide +kernel

theorem good1 (h : k0_cond3 i = 1#1) : Good D (4 * (i 1).val + 1) (i 1).val (pl1 i h) where
  trips := at1_trips i
  o2 := at1_o2 i
  o13 := at1_o13 i
  o3 := at1_o3 i
  o4 := at1_o4 i
  o5 := at1_o5 i
  o6 := at1_o6 i
  o7 := at1_o7 i
  c v X3 X4 hv h3 h4 r := by
    have := tile_lt i
    exact c1_val (kb := pick (pl1 (F := Ideal) i h).rK X3) (vb := pick (pl1 (F := Ideal) i h).rK X4) hv this (rows_pick h3 (h := k0_off14_inb i h) (at1_own i) (by omega)) r
  ce v X3 X4 hv h3 h4 r := by
    have := tile_lt i
    exact ce1_val (kb := pick (pl1 (F := Ideal) i h).rK X3) (vb := pick (pl1 (F := Ideal) i h).rK X4) hv this (rows_pick h3 (h := k0_off14_inb i h) (at1_own i) (by omega)) (rows_pick h4 (h := k0_off14_inb i h) (at1_own i) (by omega)) r
  dz v X3 X4 hv h3 h4 r a := by
    have := tile_lt i
    exact dz1_val (kb := pick (pl1 (F := Ideal) i h).rK X3) (vb := pick (pl1 (F := Ideal) i h).rK X4) hv this (rows_pick h3 (h := k0_off14_inb i h) (at1_own i) (by omega)) (rows_pick h4 (h := k0_off14_inb i h) (at1_own i) (by omega)) r a
  w v X3 X4 hv h3 h4 r a := by
    have := tile_lt i
    exact w1_val (kb := pick (pl1 (F := Ideal) i h).rK X3) (vb := pick (pl1 (F := Ideal) i h).rK X4) hv this (rows_pick h3 (h := k0_off14_inb i h) (at1_own i) (by omega)) r a

/-! ## Place 2 -/

theorem at2_trips : ∀ i : grid0.Coords, (k0_t5_loop i).trips = (i 1).val := by decide +kernel
theorem at2_own : ∀ i : grid0.Coords, k0_off27 i = ![512 * (i 1).val, 0] := by decide +kernel
theorem at2_o2 : ∀ i : grid0.Coords, k0_off28 i = ![512 * ((i 1).val - 1), 0] := by decide +kernel
theorem at2_o13 : ∀ i : grid0.Coords, k0_off39 i = ![(i 1).val % 2, 0, 0, 0] := by decide +kernel
theorem at2_o3 : ∀ (i : grid0.Coords) (t : Fin (k0_t5_loop i).trips), k0_off29 i t = ![512 * ((i 1).val - t.val), 0] := by decide +kernel
theorem at2_o4 : ∀ (i : grid0.Coords) (t : Fin (k0_t5_loop i).trips), k0_off30 i t = ![t.val % 2, 0, 0, 0] := by decide +kernel
theorem at2_o5 : ∀ (i : grid0.Coords) (t : Fin (k0_t5_loop i).trips), k0_off31 i t = ![0, 512 * ((i 1).val - t.val)] := by decide +kernel
theorem at2_o6 : ∀ (i : grid0.Coords) (t : Fin (k0_t5_loop i).trips), k0_off32 i t = ![512 * ((i 1).val - (t.val + 1) - 1), 0] := by decide +kernel
theorem at2_o7 : ∀ (i : grid0.Coords) (t : Fin (k0_t5_loop i).trips), k0_off33 i t = ![(t.val + 1) % 2, 0, 0, 0] := by decide +kernel

theorem good2 (h : k0_cond4 i = 1#1) : Good D (4 * (i 1).val + 2) (i 1).val (pl2 i h) where
  trips := at2_trips i
  o2 := at2_o2 i
  o13 := at2_o13 i
  o3 := at2_o3 i
  o4 := at2_o4 i
  o5 := at2_o5 i
  o6 := at2_o6 i
  o7 := at2_o7 i
  c v X3 X4 hv h3 h4 r := by
    have := tile_lt i
    exact c2_val (kb := pick (pl2 (F := Ideal) i h).rK X3) (vb := pick (pl2 (F := Ideal) i h).rK X4) hv this (rows_pick h3 (h := k0_off27_inb i h) (at2_own i) (by omega)) r
  ce v X3 X4 hv h3 h4 r := by
    have := tile_lt i
    exact ce2_val (kb := pick (pl2 (F := Ideal) i h).rK X3) (vb := pick (pl2 (F := Ideal) i h).rK X4) hv this (rows_pick h3 (h := k0_off27_inb i h) (at2_own i) (by omega)) (rows_pick h4 (h := k0_off27_inb i h) (at2_own i) (by omega)) r
  dz v X3 X4 hv h3 h4 r a := by
    have := tile_lt i
    exact dz2_val (kb := pick (pl2 (F := Ideal) i h).rK X3) (vb := pick (pl2 (F := Ideal) i h).rK X4) hv this (rows_pick h3 (h := k0_off27_inb i h) (at2_own i) (by omega)) (rows_pick h4 (h := k0_off27_inb i h) (at2_own i) (by omega)) r a
  w v X3 X4 hv h3 h4 r a := by
    have := tile_lt i
    exact w2_val (kb := pick (pl2 (F := Ideal) i h).rK X3) (vb := pick (pl2 (F := Ideal) i h).rK X4) hv this (rows_pick h3 (h := k0_off27_inb i h) (at2_own i) (by omega)) r a

/-! ## Place 3 -/

theorem at3_trips : ∀ i : grid0.Coords, (k0_t7_loop i).trips = (i 1).val := by decide +kernel
theorem at3_own : ∀ i : grid0.Coords, k0_off40 i = ![512 * (i 1).val, 0] := by decide +kernel
theorem at3_o2 : ∀ i : grid0.Coords, k0_off41 i = ![512 * ((i 1).val - 1), 0] := by decide +kernel
theorem at3_o13 : ∀ i : grid0.Coords, k0_off52 i = ![(i 1).val % 2, 0, 0, 0] := by decide +kernel
theorem at3_o3 : ∀ (i : grid0.Coords) (t : Fin (k0_t7_loop i).trips), k0_off42 i t = ![512 * ((i 1).val - t.val), 0] := by decide +kernel
theorem at3_o4 : ∀ (i : grid0.Coords) (t : Fin (k0_t7_loop i).trips), k0_off43 i t = ![t.val % 2, 0, 0, 0] := by decide +kernel
theorem at3_o5 : ∀ (i : grid0.Coords) (t : Fin (k0_t7_loop i).trips), k0_off44 i t = ![0, 512 * ((i 1).val - t.val)] := by decide +kernel
theorem at3_o6 : ∀ (i : grid0.Coords) (t : Fin (k0_t7_loop i).trips), k0_off45 i t = ![512 * ((i 1).val - (t.val + 1) - 1), 0] := by decide +kernel
theorem at3_o7 : ∀ (i : grid0.Coords) (t : Fin (k0_t7_loop i).trips), k0_off46 i t = ![(t.val + 1) % 2, 0, 0, 0] := by decide +kernel

theorem good3 (h : k0_cond5 i = 1#1) : Good D (4 * (i 1).val + 3) (i 1).val (pl3 i h) where
  trips := at3_trips i
  o2 := at3_o2 i
  o13 := at3_o13 i
  o3 := at3_o3 i
  o4 := at3_o4 i
  o5 := at3_o5 i
  o6 := at3_o6 i
  o7 := at3_o7 i
  c v X3 X4 hv h3 h4 r := by
    have := tile_lt i
    exact c3_val (kb := pick (pl3 (F := Ideal) i h).rK X3) (vb := pick (pl3 (F := Ideal) i h).rK X4) hv this (rows_pick h3 (h := k0_off40_inb i h) (at3_own i) (by omega)) r
  ce v X3 X4 hv h3 h4 r := by
    have := tile_lt i
    exact ce3_val (kb := pick (pl3 (F := Ideal) i h).rK X3) (vb := pick (pl3 (F := Ideal) i h).rK X4) hv this (rows_pick h3 (h := k0_off40_inb i h) (at3_own i) (by omega)) (rows_pick h4 (h := k0_off40_inb i h) (at3_own i) (by omega)) r
  dz v X3 X4 hv h3 h4 r a := by
    have := tile_lt i
    exact dz3_val (kb := pick (pl3 (F := Ideal) i h).rK X3) (vb := pick (pl3 (F := Ideal) i h).rK X4) hv this (rows_pick h3 (h := k0_off40_inb i h) (at3_own i) (by omega)) (rows_pick h4 (h := k0_off40_inb i h) (at3_own i) (by omega)) r a
  w v X3 X4 hv h3 h4 r a := by
    have := tile_lt i
    exact w3_val (kb := pick (pl3 (F := Ideal) i h).rK X3) (vb := pick (pl3 (F := Ideal) i h).rK X4) hv this (rows_pick h3 (h := k0_off40_inb i h) (at3_own i) (by omega)) r a

/-- Whatever the place: the number of a point's query block, and its own tile. -/
theorem good {P : Place Ideal} (hP : IsPlace i P) : Good D (4 * (i 1).val + (i 0).val) (i 1).val P := by
  cases hP with
  | p0 h => rw [(place0_iff i).mp h]; exact good0 h
  | p1 h => rw [(place1_iff i).mp h]; exact good1 h
  | p2 h => rw [(place2_iff i).mp h]; exact good2 h
  | p3 h => rw [(place3_iff i).mp h]; exact good3 h

end Cert.SbBwdIdeal.Own
end
-- ==== Proof.SbEnvVal.lean ====
/-
  What a query block hands to its tiles, at exact numbers: the triangles of ones, the heads' masks, the block's queries
  and cotangents once for every head, and do·o.
-/
module

public import proofs.«01_k».proof.Proof.SbElem
public import proofs.«01_k».proof.Proof.SbPlace

@[expose] public section

noncomputable section

namespace Cert.SbBwdIdeal.Own

open Idealize.ShloMosaic Idealize.ShloMosaic.TcCoe
open Cert.SbBwdIdeal Cert.SbBwdIdeal.Gen Cert.Sb Cert.SbRules
open Finset (Ico range)

theorem gt_small : ∀ k a : Fin 128, IntOp.cmpi .sgt (BitVec.ofNat 32 k.val) (BitVec.ofNat 32 a.val) = BitVec.ofBool (decide (a.val + 1 ≤ k.val)) := by
  decide +kernel
theorem ge_small : ∀ k a : Fin 128, IntOp.cmpi .sge (BitVec.ofNat 32 k.val) (BitVec.ofNat 32 a.val) = BitVec.ofBool (decide (a.val + 0 ≤ k.val)) := by
  decide +kernel

theorem tri_val : Tri (k0_pay76 (F := Ideal)) 1 := fun k a => by
  pointwise [k0_pay76]
  exact sel_val (gt_small k a) (fun _ => EReal.coe_one.symm) EReal.coe_zero.symm
theorem triI_val : Tri (k0_pay77 (F := Ideal)) 0 := fun k a => by
  pointwise [k0_pay77]
  exact sel_val (ge_small k a) (fun _ => EReal.coe_one.symm) EReal.coe_zero.symm

theorem head0 : ∀ l : Fin 256, IntOp.andi (IntOp.cmpi .sge (BitVec.ofNat 32 l.val) 0#32) (IntOp.cmpi .slt (BitVec.ofNat 32 l.val) 64#32) = BitVec.ofBool (decide (l.val / 64 = 0)) := by
  decide +kernel
theorem head1 : ∀ l : Fin 256, IntOp.andi (IntOp.cmpi .sge (BitVec.ofNat 32 l.val) 64#32) (IntOp.cmpi .slt (BitVec.ofNat 32 l.val) 128#32) = BitVec.ofBool (decide (l.val / 64 = 1)) := by
  decide +kernel
theorem head2 : ∀ l : Fin 256, IntOp.andi (IntOp.cmpi .sge (BitVec.ofNat 32 l.val) 128#32) (IntOp.cmpi .slt (BitVec.ofNat 32 l.val) 192#32) = BitVec.ofBool (decide (l.val / 64 = 2)) := by
  decide +kernel
theorem head3 : ∀ l : Fin 256, IntOp.andi (IntOp.cmpi .sge (BitVec.ofNat 32 l.val) 192#32) (IntOp.cmpi .slt (BitVec.ofNat 32 l.val) 256#32) = BitVec.ofBool (decide (l.val / 64 = 3)) := by
  decide +kernel

theorem mask0 (y : Fin 128) (l : Fin 256) : k0_pay72 (ix2 y l) = BitVec.ofBool (decide (l.val / 64 = 0)) := by
  pointwise [k0_pay72]; exact head0 l
theorem mask1 (y : Fin 128) (l : Fin 256) : k0_pay73 (ix2 y l) = BitVec.ofBool (decide (l.val / 64 = 1)) := by
  pointwise [k0_pay73]; exact head1 l
theorem mask2 (y : Fin 128) (l : Fin 256) : k0_pay74 (ix2 y l) = BitVec.ofBool (decide (l.val / 64 = 2)) := by
  pointwise [k0_pay74]; exact head2 l
theorem mask3 (y : Fin 128) (l : Fin 256) : k0_pay75 (ix2 y l) = BitVec.ofBool (decide (l.val / 64 = 3)) := by
  pointwise [k0_pay75]; exact head3 l

/-- A block once for every head, the lanes of the other heads at zero. -/
def stack (x : FVec Ideal S128x256 .f32) : FVec Ideal S512x256 .f32 :=
  concatenate S512x256 0 [⟨S128x256, select k0_pay72 x (zeroS S128x256)⟩, ⟨S128x256, select k0_pay73 x (zeroS S128x256)⟩, ⟨S128x256, select k0_pay74 x (zeroS S128x256)⟩, ⟨S128x256, select k0_pay75 x (zeroS S128x256)⟩] concatenates_S128x256_S128x256_S128x256_S128x256_S512x256_d0

/-- A block four times. -/
def copies (x : FVec Ideal S128x256 .f32) : FVec Ideal S512x256 .f32 :=
  concatenate S512x256 0 [⟨S128x256, x⟩, ⟨S128x256, x⟩, ⟨S128x256, x⟩, ⟨S128x256, x⟩] concatenates_S128x256_S128x256_S128x256_S128x256_S512x256_d0

theorem row_of {r : Fin 512} {n : ℕ} (h : n * 128 ≤ r.val) (h' : r.val < n * 128 + 128) : r.val / 128 = n ∧ r.val % 128 = r.val - n * 128 := by omega

theorem stack_val {x : FVec Ideal S128x256 .f32} {f : ℕ → ℕ → ℝ} (hx : ∀ (y : Fin 128) (l : Fin 256), x (ix2 y l) = ((f y.val l.val : ℝ) : EReal)) (r : Fin 512) (l : Fin 256) :
    stack x (ix2 r l) = ((if l.val / 64 = r.val / 128 then f (r.val % 128) l.val else 0 : ℝ) : EReal) := by
  pointwise [stack]
  by_cases h0 : r.val < 128
  · rw [dif_pos h0]
    obtain ⟨e, e'⟩ := row_of (r := r) (n := 0) (by omega) (by omega)
    rw [e, e']
    exact sel_val (mask0 _ l) (fun _ => hx _ l) zeroS_val
  rw [dif_neg h0]
  by_cases h1 : r.val - 128 < 128
  · rw [dif_pos h1]
    obtain ⟨e, e'⟩ := row_of (r := r) (n := 1) (by omega) (by omega)
    rw [e, e']
    exact sel_val (mask1 _ l) (fun _ => hx _ l) zeroS_val
  rw [dif_neg h1]
  by_cases h2 : r.val - 128 - 128 < 128
  · rw [dif_pos h2]
    obtain ⟨e, e'⟩ := row_of (r := r) (n := 2) (by omega) (by omega)
    rw [e, e', show r.val - 2 * 128 = r.val - 128 - 128 by omega]
    exact sel_val (mask2 _ l) (fun _ => hx _ l) zeroS_val
  rw [dif_neg h2]
  obtain ⟨e, e'⟩ := row_of (r := r) (n := 3) (by omega) (by omega)
  rw [e, e', show r.val - 3 * 128 = r.val - 128 - 128 - 128 by omega]
  exact sel_val (mask3 _ l) (fun _ => hx _ l) zeroS_val

theorem copies_val {x : FVec Ideal S128x256 .f32} {f : ℕ → ℕ → ℝ} (hx : ∀ (y : Fin 128) (l : Fin 256), x (ix2 y l) = ((f y.val l.val : ℝ) : EReal)) (r : Fin 512) (l : Fin 256) :
    copies x (ix2 r l) = ((f (r.val % 128) l.val : ℝ) : EReal) := by
  pointwise [copies]
  by_cases h0 : r.val < 128
  · rw [dif_pos h0, (row_of (r := r) (n := 0) (by omega) (by omega)).2]; exact hx _ l
  rw [dif_neg h0]
  by_cases h1 : r.val - 128 < 128
  · rw [dif_pos h1, (row_of (r := r) (n := 1) (by omega) (by omega)).2]; exact hx _ l
  rw [dif_neg h1]
  by_cases h2 : r.val - 128 - 128 < 128
  · rw [dif_pos h2, (row_of (r := r) (n := 2) (by omega) (by omega)).2, show r.val - 2 * 128 = r.val - 128 - 128 by omega]; exact hx _ l
  rw [dif_neg h2, (row_of (r := r) (n := 3) (by omega) (by omega)).2, show r.val - 3 * 128 = r.val - 128 - 128 - 128 by omega]
  exact hx _ l

variable {D : Data} {b : ℕ} {q g ou : Vec Ideal S128x256 .f32}
variable (hq : ∀ (y : Fin 128) (l : Fin 256), q (ix2 y l) = ((D.Q (128 * b + y.val) l.val : ℝ) : EReal))
variable (hg : ∀ (y : Fin 128) (l : Fin 256), g (ix2 y l) = ((D.G (128 * b + y.val) l.val : ℝ) : EReal))
variable (ho : ∀ (y : Fin 128) (l : Fin 256), ou (ix2 y l) = ((D.O (128 * b + y.val) l.val : ℝ) : EReal))

include hq in
theorem scaled_val (y : Fin 128) (l : Fin 256) : k0_pay78 q (ix2 y l) = ((D.Q (128 * b + y.val) l.val * (1 / 8) : ℝ) : EReal) := by
  pointwise [k0_pay78]
  rw [hq, EReal.coe_mul]
  congr 1
  exact lit_eighth

include hq hg ho in
theorem env_val : EnvVal D b (envOf q g g ou) where
  tri := tri_val
  triI := triI_val
  q r l := stack_val (x := k0_pay78 q) (f := fun y l => D.Q (128 * b + y) l * (1 / 8)) (scaled_val hq) r l
  g r l := by
    refine Eq.trans ?_ (stack_val (x := g) (f := fun y l => D.G (128 * b + y) l) hg r l)
    pointwise [envOf, k0_pay82, stack, zeroS]
  qT r l := by
    refine Eq.trans ?_ (stack_val (x := k0_pay78 q) (f := fun y l => D.Q (128 * b + y) l * (1 / 8)) (scaled_val hq) r l)
    pointwise [envOf, k0_pay83, stack, zeroS]
  gT r l := by
    refine Eq.trans ?_ (stack_val (x := g) (f := fun y l => D.G (128 * b + y) l) hg r l)
    pointwise [envOf, k0_pay84, stack, zeroS]
  del r := by
    have hs := stack_val (x := g) (f := fun y l => D.G (128 * b + y) l) hg r
    have hc := copies_val (f := fun y l => D.O (128 * b + y) l) ho r
    refine Eq.trans (b := ∑ l : Fin 256, stack g (ix2 r l) * copies ou (ix2 r l)) ?_ ?_
    · pointwise [envOf, k0_pay85, k0_pay82, stack, copies, zeroS]
    · simp only [hs, hc]
      exact lanes (D.ds b r.val) (fun l => D.O (128 * b + r.val % 128) l)
  m0 := mask0
  m1 := mask1
  m2 := mask2
  m3 := mask3

end Cert.SbBwdIdeal.Own
end
-- ==== Proof.SbGrad.lean ====
/-
  From rows to heads: what a row of a block is in terms of a head and a query, the derivative of the attention in the form
  that the chain rule gives it, and the sums over all queries.
-/
module

public import proofs.«01_k».proof.Proof.SbMath
public import Mathlib.Tactic.Ring

@[expose] public section

noncomputable section

namespace Cert.Sb

open Finset
open scoped BigOperators

/-- The row of head `h` for query `t`, within its block. -/
def row (h t : ℕ) : ℕ := 128 * h + t % 128

/-- The query block of a grid point. -/
def blk (t : ℕ) : ℕ := 4 * (t % 8) + t / 8

theorem row_div (h t : ℕ) : row h t / 128 = h := by unfold row; omega
theorem row_query (h t : ℕ) : 128 * (t / 128) + row h t % 128 = t := by unfold row; omega
theorem row_lt {h : ℕ} (t : ℕ) (hh : h < 4) : row h t < 512 := by unfold row; omega

/-- Only a head's own 64 lanes count. -/
theorem head_sum {h : ℕ} (hh : h < 4) (f g : ℕ → ℝ) :
    ∑ l ∈ range 256, (if l / 64 = h then f l else 0) * g l = ∑ d ∈ range 64, f (64 * h + d) * g (64 * h + d) := by
  simp only [ite_mul, zero_mul]
  rw [← sum_filter]
  symm
  refine sum_bij (fun d _ => 64 * h + d) ?_ ?_ ?_ ?_
  · intro d hd; simp only [mem_filter, mem_range] at hd ⊢; omega
  · intro a _ b _ hab; simpa using hab
  · intro l hl; simp only [mem_filter, mem_range] at hl
    exact ⟨l - 64 * h, by simp only [mem_range]; omega, by omega⟩
  · intro d _; rfl

/-- Sums over the 32 blocks of the grid, and within each over the 512 rows of which a lane's head has 128, are sums over all queries. -/
theorem grid_sum {l : ℕ} (hl : l < 256) (f : ℕ → ℝ) (g : ℕ → ℕ → ℝ) :
    ∑ n ∈ range 32, ∑ r ∈ range 512, (if l / 64 = r / 128 then f (128 * blk n + r % 128) else 0) * g (blk n) r
      = ∑ t ∈ range 4096, f t * g (t / 128) (row (l / 64) t) := by
  have inner : ∀ b, ∑ r ∈ range 512, (if l / 64 = r / 128 then f (128 * b + r % 128) else 0) * g b r
      = ∑ y ∈ range 128, f (128 * b + y) * g b (128 * (l / 64) + y) := by
    intro b
    simp only [ite_mul, zero_mul]
    rw [← sum_filter]
    symm
    refine sum_bij (fun y _ => 128 * (l / 64) + y) ?_ ?_ ?_ ?_
    · intro d hd; simp only [mem_filter, mem_range] at hd ⊢; omega
    · intro a _ b _ hab; simpa using hab
    · intro r hr; simp only [mem_filter, mem_range] at hr
      exact ⟨r - 128 * (l / 64), by simp only [mem_range]; omega, by omega⟩
    · intro y hy; simp only [mem_range] at hy
      rw [show (128 * (l / 64) + y) % 128 = y by omega]
  simp only [inner]
  rw [sum_sigma']
  refine sum_bij (fun p _ => 128 * blk p.1 + p.2) ?_ ?_ ?_ ?_
  · rintro ⟨n, y⟩ hp; simp only [mem_sigma, mem_range] at hp ⊢; unfold blk; omega
  · rintro ⟨n, y⟩ hp ⟨n', y'⟩ hp' he
    simp only [mem_sigma, mem_range] at hp hp'
    dsimp only at he
    unfold blk at he
    have h1 : n = n' := by omega
    have h2 : y = y' := by subst h1; omega
    subst h1 h2; rfl
  · intro t ht; simp only [mem_range] at ht
    refine ⟨⟨8 * (t / 128 % 4) + t / 128 / 4, t % 128⟩, by simp only [mem_sigma, mem_range]; omega, ?_⟩
    unfold blk; dsimp only; omega
  · rintro ⟨n, y⟩ hp; simp only [mem_sigma, mem_range] at hp
    dsimp only
    rw [show (128 * blk n + y) / 128 = blk n by omega, row, show (128 * blk n + y) % 128 = y by omega]

namespace Data
variable (D : Data) {h : ℕ} (t s : ℕ) (hh : h < 4)

include hh in
theorem Z_head : D.Z (t / 128) (row h t) s = (∑ d ∈ range 64, D.Q t (64 * h + d) * D.K s (64 * h + d)) * (1 / 8) := by
  unfold Z qs
  rw [row_div, row_query, head_sum hh (fun l => D.Q t l * (1 / 8)) (D.K s), sum_mul]
  exact sum_congr rfl fun d _ => by ring

include hh in
theorem gv_head : D.gv (t / 128) (row h t) s = ∑ d ∈ range 64, D.G t (64 * h + d) * D.V s (64 * h + d) := by
  unfold gv ds
  rw [row_div, row_query, head_sum hh (fun l => D.G t l) (D.V s)]

/-- The output belongs to the data: each lane the weighted sum of the values. -/
def Out : Prop := ∀ t l, l < 256 → D.O t l = ∑ s ∈ range 4096, D.w (t / 128) (row (l / 64) t) s * D.V s l

variable {D}

include hh in
/-- do·o is the sum of the weights times do·v. -/
theorem del_head (hO : D.Out) : D.del (t / 128) (row h t) = ∑ s ∈ range 4096, D.e (t / 128) (row h t) s := by
  unfold del ds
  rw [row_div, row_query, head_sum hh (fun l => D.G t l) (D.O t)]
  have : ∀ d ∈ range 64, D.G t (64 * h + d) * D.O t (64 * h + d)
      = ∑ s ∈ range 4096, D.w (t / 128) (row h t) s * (D.G t (64 * h + d) * D.V s (64 * h + d)) := by
    intro d hd; rw [mem_range] at hd
    rw [hO t _ (by omega), show (64 * h + d) / 64 = h by omega, mul_sum]
    exact sum_congr rfl fun s _ => by ring
  rw [sum_congr rfl this, sum_comm]
  refine sum_congr rfl fun s _ => ?_
  rw [e, D.gv_head t s hh, mul_sum]

include hh in
/-- The gradient of the score, as the chain rule gives it: the weights of the keys before take from what this key leaves. -/
theorem dz_head (hO : D.Out) (hs : s < 4096) : D.dz (t / 128) (row h t) s
    = -((if s < t then -D.e (t / 128) (row h t) s + ∑ s' ∈ range (s + 1), D.e (t / 128) (row h t) s' else 0) * Real.exp (lsz (D.Z (t / 128) (row h t) s)))
      + D.e (t / 128) (row h t) s * (1 - Real.exp (lsz (D.Z (t / 128) (row h t) s))) := by
  unfold dz
  rw [row_query]
  by_cases hst : s < t
  · rw [if_pos hst, if_pos hst, del_head t hh hO, sum_range_succ _ s, ← sum_range_add_sum_Ico _ (le_of_lt hs)]
    ring
  · rw [if_neg hst, if_neg hst]
    have : D.e (t / 128) (row h t) s = 0 := by
      unfold e w; rw [row_query, if_neg hst, zero_mul]
    rw [this]; ring

variable (D)

/-- dk over the whole grid. -/
theorem dk_total {l : ℕ} (hl : l < 256) : ∑ n ∈ range 32, D.dkPart (blk n) s l
    = ∑ t ∈ range 4096, D.Q t l * (1 / 8) * D.dz (t / 128) (row (l / 64) t) s :=
  grid_sum hl (fun t => D.Q t l * (1 / 8)) fun b r => D.dz b r s

/-- dv over the whole grid. -/
theorem dv_total {l : ℕ} (hl : l < 256) : ∑ n ∈ range 32, D.dvPart (blk n) s l
    = ∑ t ∈ range 4096, D.G t l * D.w (t / 128) (row (l / 64) t) s :=
  grid_sum hl (fun t => D.G t l) fun b r => D.w b r s

end Data

end Cert.Sb

end
-- ==== Proof.SbSpec.lean ====
/-
  What every grid point leaves in the results' buffers, at exact numbers: its block of dq, and dk and dv of all the blocks so far.
-/
module

public import proofs.«01_k».proof.Proof.SbGood
public import proofs.«01_k».proof.Proof.SbEnvVal
public import proofs.«01_k».proof.Proof.SbFrame
public import proofs.«01_k».proof.Proof.SbGrad

@[expose] public section

noncomputable section

namespace Cert.SbBwdIdeal.Own

open Idealize.ShloMosaic Idealize.ShloMosaic.TcCoe
open Idealize.SL Idealize.SL.RA Idealize.SL.BI Idealize.SL.Sem Idealize.SL.ProofMode
open Idealize.SL.BI.BIBase Idealize.SL.BI.Laws
open scoped Idealize.SL.BI
open Idealize.ShloMosaic.Pipeline (Dat Cfg Window BodyObligation cellOf)
open Cert.SbBwdIdeal Cert.SbBwdIdeal.Gen Cert.Sb Cert.SbRules
open Finset (Ico range)

theorem coord0 : ∀ t : Fin cfg0.N, (grid0.coords t 0).val = t.val / 8 := by decide +kernel
theorem coord1 : ∀ t : Fin cfg0.N, (grid0.coords t 1).val = t.val % 8 := by decide +kernel
theorem first_iff : ∀ t : Fin cfg0.N, k0_cond1 (grid0.coords t) = 1#1 ↔ t.val = 0 := by decide +kernel

/-- The inputs' blocks at a point of query block `b` hold the data. -/
structure InsVal (D : Data) (b : ℕ) (x : Ins Ideal) : Prop where
  X2 : ∀ (y : Fin 128) (l : Fin 256), x.X2 (ix2 y l) = ((D.Q (128 * b + y.val) l.val : ℝ) : EReal)
  X3 : Rows x.X3 D.K
  X4 : Rows x.X4 D.V
  X5 : ∀ (y : Fin 128) (l : Fin 256), x.X5 (ix2 y l) = ((D.G (128 * b + y.val) l.val : ℝ) : EReal)
  X6 : ∀ (y : Fin 128) (l : Fin 256), x.X6 (ix2 y l) = ((D.O (128 * b + y.val) l.val : ℝ) : EReal)

theorem all_emb (y : Fin 128) (l : Fin 256) : rAll.emb (ix2 y l) = ix2 y l := by
  funext a; apply Fin.ext; rw [Rect.emb_apply]; fin_cases a <;> simp <;> rfl

theorem zero_emb (l : Fin 256) (s : Fin 4096) : rZero.emb (ix2 l s) = ix2 l s := by
  funext a; apply Fin.ext; rw [Rect.emb_apply]; fin_cases a <;> simp <;> rfl

theorem InsVal.env {D : Data} {b : ℕ} {x : Ins Ideal} (h : InsVal D b x) : EnvVal D b x.env :=
  env_val (fun y l => by rw [pick, all_emb]; exact h.X2 y l) (fun y l => by rw [pick, all_emb]; exact h.X5 y l) (fun y l => by rw [pick, all_emb]; exact h.X6 y l)

/-- dq of a block. -/
def dqAt (D : Data) (b : ℕ) : S128x256.Idx → Ideal .f32 := fun i => ((D.dqFrom b 0 (i 0).val (i 1).val * (1 / 8) : ℝ) : EReal)
/-- dk from the first `n` blocks of the grid. -/
def dkAt (D : Data) (n : ℕ) : S256x4096.Idx → Ideal .f32 := fun i => ((∑ t ∈ range n, D.dkPart (blk t) (i 1).val (i 0).val : ℝ) : EReal)
/-- dv from the first `n` blocks of the grid. -/
def dvAt (D : Data) (n : ℕ) : S256x4096.Idx → Ideal .f32 := fun i => ((∑ t ∈ range n, D.dvPart (blk t) (i 1).val (i 0).val : ℝ) : EReal)

/-- What the points leave. -/
def spec (D : Dev nD → Data) : Left Ideal where
  dq c t := dqAt (D c) (blk t.val)
  dk c t := dkAt (D c) (t.val + 1)
  dv c t := dvAt (D c) (t.val + 1)

section Point

variable {D : Data} (t : Fin cfg0.N) {x : Ins Ideal} (hx : InsVal D (blk t.val) x) {Y5 : S128x256.Idx → Ideal .f32} {Y6 Y7 : S256x4096.Idx → Ideal .f32}
variable (h6 : t.val ≠ 0 → Y6 = dkAt D t.val) (h7 : t.val ≠ 0 → Y7 = dvAt D t.val)

include h6 in
theorem start_dk (X10 X11 : S2x1x512x512.Idx → Ideal .f32) (X12 X13 : S2x1x512x512.Idx → Ideal .bf16) :
    Cols (start (F := Ideal) (grid0.coords t) (stateOf Y6 Y7 X10 X11 X12 X13)).X8 fun l n => ∑ t' ∈ range t.val, D.dkPart (blk t') n l := by
  intro l n
  by_cases h : t.val = 0
  · rw [start, if_pos ((first_iff t).mpr h), h, Finset.range_zero]
    dsimp only
    rw [Finset.sum_empty, ← zero_emb l n, Rect.overlay_emb]
    exact zeroS_val (s := S256x4096) (j := ix2 l n)
  · rw [start, if_neg fun h' => h ((first_iff t).mp h')]
    dsimp only [stateOf]
    rw [h6 h]; rfl

include h7 in
theorem start_dv (X10 X11 : S2x1x512x512.Idx → Ideal .f32) (X12 X13 : S2x1x512x512.Idx → Ideal .bf16) :
    Cols (start (F := Ideal) (grid0.coords t) (stateOf Y6 Y7 X10 X11 X12 X13)).X9 fun l n => ∑ t' ∈ range t.val, D.dvPart (blk t') n l := by
  intro l n
  by_cases h : t.val = 0
  · rw [start, if_pos ((first_iff t).mpr h), h, Finset.range_zero]
    dsimp only
    rw [Finset.sum_empty, ← zero_emb l n, Rect.overlay_emb]
    exact zeroS_val (s := S256x4096) (j := ix2 l n)
  · rw [start, if_neg fun h' => h ((first_iff t).mp h')]
    dsimp only [stateOf]
    rw [h7 h]; rfl

include hx h6 h7 in
/-- A point leads to what it is to leave. -/
theorem leads_val (X10 X11 : S2x1x512x512.Idx → Ideal .f32) (X12 X13 : S2x1x512x512.Idx → Ideal .bf16) (P : Place Ideal) (hP : IsPlace (grid0.coords t) P) :
    Leads P x Y5 (start (grid0.coords t) (stateOf Y6 Y7 X10 X11 X12 X13))
      fun Y s => Y = dqAt D (blk t.val) ∧ s.X8 = dkAt D (t.val + 1) ∧ s.X9 = dvAt D (t.val + 1) := by
  have hg := good (D := D) hP
  have e0 := coord0 t
  have e1 := coord1 t
  have ht : t.val < 32 := lt_of_lt_of_eq t.isLt (show cfg0.N = 32 from N_0)
  rw [e0, e1] at hg
  change Good D (blk t.val) _ _ at hg
  have hb : blk t.val = 4 * (t.val % 8) + t.val / 8 := rfl
  have hv := hx.env
  refine ⟨Inv D (blk t.val) (t.val % 8) (fun l n => ∑ t' ∈ range t.val, D.dkPart (blk t') n l) (fun l n => ∑ t' ∈ range t.val, D.dvPart (blk t') n l),
    inv_head hg hv hx.X3 hx.X4 (by omega) (by omega) (start_dk t h6 X10 X11 X12 X13) (start_dv t h7 X10 X11 X12 X13),
    fun u s h => inv_trip hg hv hx.X3 hx.X4 (by omega) (by omega) u h, fun s h => ?_⟩
  rw [hg.trips] at h
  obtain ⟨hq, hk, hw⟩ := inv_tail hg hv hx.X3 h Y5
  refine ⟨?_, ?_, ?_⟩
  · funext i; idx_vars i; exact hq _ _
  · funext i; idx_vars i
    refine (hk _ _).trans ?_
    rw [dkAt, Finset.sum_range_succ]; rfl
  · funext i; idx_vars i
    refine (hw _ _).trans ?_
    rw [dvAt, Finset.sum_range_succ]; rfl

end Point

end Cert.SbBwdIdeal.Own
end
-- ==== Proof.SbRun.lean ====
/-
  The run of the whole kernel at exact numbers: if the arrays it stages hold the data, its results are dq, and dk and dv
  summed over all query blocks.
-/
module

public import proofs.«01_k».proof.Proof.SbSpec
public import Idealize.ShloMosaic.Lib.Pipeline.ValueKit
public import Idealize.ShloMosaic.Lib.Claim

@[expose] public section

noncomputable section

namespace Cert.SbBwdIdeal.Own

open Idealize.ShloMosaic Idealize.ShloMosaic.TcCoe
open Idealize.SL Idealize.SL.RA Idealize.SL.BI Idealize.SL.Sem Idealize.SL.ProofMode
open Idealize.SL.BI.BIBase Idealize.SL.BI.Laws
open scoped Idealize.SL.BI
open Idealize.ShloMosaic.Pipeline (Dat Cfg Window BodyObligation cellOf)
open Cert.SbBwdIdeal Cert.SbBwdIdeal.Gen Cert.Sb Cert.SbRules
open Finset (Ico range)

variable (m : (ℓ : Loc nD τ sig) → Buf (Elt Ideal) ℓ) (ρ : Dev nD → PrngReg) (D : Dev nD → Data)

theorem live5 : ∀ i, idle0 5 i = false := by decide +kernel
theorem live6 : ∀ i, idle0 6 i = false := by decide +kernel
theorem live7 : ∀ i, idle0 7 i = false := by decide +kernel

theorem before_dk (c : Dev nD) (t : Fin cfg0.N) (ht : t.val ≠ 0) (d) : (dats m (spec D) 0 c).before 6 t d = dkAt (D c) t.val := by
  have hN : t.val < 32 := lt_of_lt_of_eq t.isLt (show cfg0.N = 32 from N_0)
  rw [Pipeline.Dat.before_out_kept (dats m (spec D) 0 c) 6 rfl t ht
    (by rw [Bool.eq_false_iff]; intro h; have := (flush0_6 _).mp h; dsimp only at this; omega) live6 (fun _ _ => rfl) d, after0_6]
  show dkAt (D c) (t.val - 1 + 1) = _
  rw [Nat.sub_add_cancel (by omega)]

theorem before_dv (c : Dev nD) (t : Fin cfg0.N) (ht : t.val ≠ 0) (d) : (dats m (spec D) 0 c).before 7 t d = dvAt (D c) t.val := by
  have hN : t.val < 32 := lt_of_lt_of_eq t.isLt (show cfg0.N = 32 from N_0)
  rw [Pipeline.Dat.before_out_kept (dats m (spec D) 0 c) 7 rfl t ht
    (by rw [Bool.eq_false_iff]; intro h; have := (flush0_7 _).mp h; dsimp only at this; omega) live7 (fun _ _ => rfl) d, after0_7]
  show dvAt (D c) (t.val - 1 + 1) = _
  rw [Nat.sub_add_cancel (by omega)]

variable (hin : ∀ (c : Dev nD) (t : Fin cfg0.N), InsVal (D c) (blk t.val) (insOf m c t))

include hin in
theorem obligation_val (c : Dev nD) : BodyObligation (dats m (spec D) 0 c) (defs₀ (F := Ideal)) Variants.none () Set.univ := fun t => by
  rw [bigSep_W0, bigSep_W0, defs₀_row]
  dsimp only
  have l5 : idle0 5 (grid0.coords t) = false := live5 _
  have l6 : idle0 6 (grid0.coords t) = false := live6 _
  have l7 : idle0 7 (grid0.coords t) = false := live7 _
  simp only [before0_0, before0_1, before0_2, before0_3, before0_4, after0_0, after0_1, after0_2, after0_3, after0_4, after0_5, after0_6, after0_7]
  rw [show (dats m (spec D) 0 c).Φ t.castSucc = Pipeline.ΦA spec0 c from rfl, show (dats m (spec D) 0 c).Φ t.succ = Pipeline.ΦA spec0 c from rfl,
    show (dats m (spec D) 0 c).owesAt () t.succ = (dats m (spec D) 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (point_wp c t (insOf m c t) _ _ _ (fun Z5 Z6 Z7 => Z5 = dqAt (D c) (blk t.val) ∧ Z6 = dkAt (D c) (t.val + 1) ∧ Z7 = dvAt (D c) (t.val + 1))
    fun X10 X11 X12 X13 P hP => leads_val t (hin c t) (fun h => before_dk m D c t h d6) (fun h => before_dv m D c t h d7) X10 X11 X12 X13 P hP) $$ [HΦ H0 H1 H2 H3 H4 H5 H6 H7]
  · unfold insAt outsAt insOf
    dsimp only
    iframe
  iintro %Z5 %Z6 %Z7 %hZ HΦ HI HO
  obtain ⟨rfl, rfl, rfl⟩ := hZ
  unfold insAt outsAt insOf
  dsimp only
  icases HI with ⟨H0, H1, H2, H3, H4⟩
  icases HO with ⟨H5, H6, H7⟩
  dsimp only [spec]
  simp only [l5, l6, l7]
  iframe

variable {m D}

theorem idx5 : ∀ t : Fin cfg0.N, win0_5.index t = ![blk t.val, 0] := (by decide +kernel : ∀ t : Fin grid0.N, win0_5.index t = ![blk t.val, 0])

/-- The first result: dq. -/
theorem arr_dq (c : Dev nD) : (dats m (spec D) 0 c).arrAt 5 cfg0.N
    = fun j : S4096x256.Idx => (((D c).dqFrom ((j 0).val / 128) 0 ((j 0).val % 128) (j 1).val * (1 / 8) : ℝ) : EReal) := by
  refine (dats m (spec D) 0 c).arrAt_eq_of_covers 5 _ (by decide +kernel) fun t hf y => ?_
  blk_simp; rw [after0_5]
  idx_vars y
  have hN : t.val < 32 := lt_of_lt_of_eq t.isLt (show cfg0.N = 32 from N_0)
  rw [idx5 t]
  show dqAt (D c) (blk t.val) (ix2 y0 y1) = (((D c).dqFrom ((blk t.val * 128 + y0.val) / 128) 0 ((blk t.val * 128 + y0.val) % 128) (0 * 256 + y1.val) * (1 / 8) : ℝ) : EReal)
  have hy := y0.isLt
  rw [show (blk t.val * 128 + y0.val) / 128 = blk t.val by omega, show (blk t.val * 128 + y0.val) % 128 = y0.val by omega, show 0 * 256 + y1.val = y1.val by omega]
  rfl

/-- The second: dk, turned. -/
theorem arr_dk (c : Dev nD) : (dats m (spec D) 0 c).arrAt 6 cfg0.N = dkAt (D c) 32 := by
  refine (dats m (spec D) 0 c).arrAt_eq_of_after_last 6 ⟨31, by rw [show cfg0.N = 32 from N_0]; omega⟩ (by decide +kernel) _ fun j => ?_
  exact congrFun (after0_6 m (spec D) c ⟨31, by rw [show cfg0.N = 32 from N_0]; omega⟩) _

/-- The third: dv, turned. -/
theorem arr_dv (c : Dev nD) : (dats m (spec D) 0 c).arrAt 7 cfg0.N = dvAt (D c) 32 := by
  refine (dats m (spec D) 0 c).arrAt_eq_of_after_last 7 ⟨31, by rw [show cfg0.N = 32 from N_0]; omega⟩ (by decide +kernel) _ fun j => ?_
  exact congrFun (after0_7 m (spec D) c ⟨31, by rw [show cfg0.N = 32 from N_0]; omega⟩) _

include hin in
set_option backward.isDefEq.respectTransparency.types false in
/-- The whole run: the results hold dq, dk and dv; the arguments are as they were. -/
theorem run_val : θ_run defs (onTc (τ := τ) (main (F := Ideal))) ⟨m, fun _ => 0, ρ⟩ fun r => (∀ c : Dev nD,
      r.2.mem ((c : Thread nD τ).loc main_v33_0) = (fun j : S4096x256.Idx => (((D c).dqFrom ((j 0).val / 128) 0 ((j 0).val % 128) (j 1).val * (1 / 8) : ℝ) : EReal))
      ∧ r.2.mem ((c : Thread nD τ).loc main_v33_1) = dkAt (D c) 32 ∧ r.2.mem ((c : Thread nD τ).loc main_v33_2) = dvAt (D c) 32
      ∧ r.2.mem ((c : Thread nD τ).loc main_arg0) = m ((c : Thread nD τ).loc main_arg0) ∧ r.2.mem ((c : Thread nD τ).loc main_arg1) = m ((c : Thread nD τ).loc main_arg1)) ∧ r.2.sem = fun _ => 0 :=
  Pipeline.θ_run_frame_shared (Q' := _) cfgs (dats m (spec D)) (0 : Fin 1) launch₀0 defs₀ Variants.none m ρ main
    (hbody := fun c => (obligation_val m D hin c).loose) (hq := fun _ _ _ => rfl)
    (howed := fun _ _ => rfl) (V := V m) (hmain := hmain m Variants.none) (hA := A_eq m (spec D)) (hΦ := fun _ _ => rfl)
    (hQ' := fun r h => ⟨fun c => ⟨((h.1 c).1 5).trans (arr_dq c), ((h.1 c).1 6).trans (arr_dk c), ((h.1 c).1 7).trans (arr_dv c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩)

end Cert.SbBwdIdeal.Own
end
-- ==== Proof.SbHost.lean ====
/-
  The host lines before the kernel: the arrays the kernel is given are the projection, the cotangent and the output of the
  attention, this one computed by the same lines as the reference's own forward pass.
-/
module

public import proofs.«01_k».proof.Proof.Gen.SbBwdIdeal.Frame
public import proofs.«01_k».proof.Proof.Gen.SbRefIdeal.Read

@[expose] public section

set_option maxRecDepth 8192
set_option maxHeartbeats 2000000

noncomputable section

namespace Cert.SbBwdIdeal.Own

open Idealize.ShloMosaic Idealize.ShloMosaic.TcCoe Idealize.SL.Sem Idealize.ShloMosaic.StableHlo
open Cert.SbBwdIdeal Cert.SbBwdIdeal.Gen

variable {F : FTy → Type} [FloatOps F] [Named F]

/-- The buffers after two stretches. -/
theorem after_two (l₁ l₂ : List (HloOp τ sig (Elt F))) (W : Valuation τ sig (Elt F)) : after (l₁ ++ l₂) W = after l₂ (after l₁ W) := by
  induction l₁ generalizing W with
  | nil => rfl
  | cons a l ih => rw [List.cons_append, after_cons, after_cons, ih]

variable (W : Valuation τ sig (Elt F)) (x : (⟨S1x4096x5120, .f32⟩ : BufTy).Contents (Elt F))

theorem s0_v8 (h : W (Proc.devRef .tc main_arg0) = x) : after hostOps0 W (Proc.devRef .tc main_v8) = SbRefIdeal.Read.val_main_v8 x := by
  simp only [hostOps0, TRef.ternary, TRef.binary, TRef.nullary, TRef.unary, TRef.toBuf, TRef.ofBuf, cast_eq]; after_results_simp; rw [h]; rfl

theorem s0_v12 (h : W (Proc.devRef .tc main_arg0) = x) : after hostOps0 W (Proc.devRef .tc main_v12) = SbRefIdeal.Read.val_main_v12 x := by
  simp only [hostOps0, TRef.ternary, TRef.binary, TRef.nullary, TRef.unary, TRef.toBuf, TRef.ofBuf, cast_eq]; after_results_simp; rw [h]; rfl

theorem s0_v17 : after hostOps0 W (Proc.devRef .tc main_v17) = SbRefIdeal.Read.val_main_v17 (F := F) := by
  simp only [hostOps0, TRef.ternary, TRef.binary, TRef.nullary, TRef.unary, TRef.toBuf, TRef.ofBuf, cast_eq]; after_results_simp; rfl

theorem s1_v18 (h0 : W (Proc.devRef .tc main_v12) = SbRefIdeal.Read.val_main_v12 x) : after hostOps0_1 W (Proc.devRef .tc main_v18) = SbRefIdeal.Read.val_main_v18_0 x := by
  simp only [hostOps0_1, TRef.ternary, TRef.binary, TRef.nullary, TRef.unary, TRef.toBuf, TRef.ofBuf, cast_eq]; after_results_simp; rw [h0]; rfl

theorem s2_v19 (h0 : W (Proc.devRef .tc main_v12) = SbRefIdeal.Read.val_main_v12 x) : after hostOps0_2 W (Proc.devRef .tc main_v19) = SbRefIdeal.Read.val_main_v19 x := by
  simp only [hostOps0_2, TRef.ternary, TRef.binary, TRef.nullary, TRef.unary, TRef.toBuf, TRef.ofBuf, cast_eq]; after_results_simp; rw [h0]; rfl

theorem s3_v20 (h0 : W (Proc.devRef .tc main_v19) = SbRefIdeal.Read.val_main_v19 x) : after hostOps0_3 W (Proc.devRef .tc main_v20) = SbRefIdeal.Read.val_main_v20_0 x := by
  simp only [hostOps0_3, TRef.ternary, TRef.binary, TRef.nullary, TRef.unary, TRef.toBuf, TRef.ofBuf, cast_eq]; after_results_simp; rw [h0]; rfl

theorem s4_cst_0 : after hostOps0_4 W (Proc.devRef .tc main_cst_0) = SbRefIdeal.Read.val_main_cst_0 (F := F) := by
  simp only [hostOps0_4, TRef.ternary, TRef.binary, TRef.nullary, TRef.unary, TRef.toBuf, TRef.ofBuf, cast_eq]; after_results_simp; rfl

theorem s5_v21 (h0 : W (Proc.devRef .tc main_cst_0) = SbRefIdeal.Read.val_main_cst_0 (F := F)) (h1 : W (Proc.devRef .tc main_v17) = SbRefIdeal.Read.val_main_v17 (F := F)) (h2 : W (Proc.devRef .tc main_v20) = SbRefIdeal.Read.val_main_v20_0 x) : after hostOps0_5 W (Proc.devRef .tc main_v21) = SbRefIdeal.Read.val_main_v21_0 x := by
  simp only [hostOps0_5, TRef.ternary, TRef.binary, TRef.nullary, TRef.unary, TRef.toBuf, TRef.ofBuf, cast_eq]; after_results_simp; rw [h0, h1, h2]; rfl

theorem s6_v22 (h0 : W (Proc.devRef .tc main_v21) = SbRefIdeal.Read.val_main_v21_0 x) : after hostOps0_6 W (Proc.devRef .tc main_v22) = SbRefIdeal.Read.val_main_v22 x := by
  simp only [hostOps0_6, TRef.ternary, TRef.binary, TRef.nullary, TRef.unary, TRef.toBuf, TRef.ofBuf, cast_eq]; after_results_simp; rw [h0]; rfl

theorem s7_v25 (h0 : W (Proc.devRef .tc main_v22) = SbRefIdeal.Read.val_main_v22 x) (h1 : W (Proc.devRef .tc main_v21) = SbRefIdeal.Read.val_main_v21_0 x) (h2 : W (Proc.devRef .tc main_v18) = SbRefIdeal.Read.val_main_v18_0 x) : after hostOps0_7 W (Proc.devRef .tc main_v25) = SbRefIdeal.Read.val_main_v25 x := by
  simp only [hostOps0_7, TRef.ternary, TRef.binary, TRef.nullary, TRef.unary, TRef.toBuf, TRef.ofBuf, cast_eq]; after_results_simp; rw [h0, h1, h2]; rfl

theorem s7_cst_1 : after hostOps0_7 W (Proc.devRef .tc main_cst_1) = SbRefIdeal.Read.val_main_cst_1 (F := F) := by
  simp only [hostOps0_7, TRef.ternary, TRef.binary, TRef.nullary, TRef.unary, TRef.toBuf, TRef.ofBuf, cast_eq]; after_results_simp; rfl

theorem s8_v26 (h0 : W (Proc.devRef .tc main_cst_1) = SbRefIdeal.Read.val_main_cst_1 (F := F)) (h1 : W (Proc.devRef .tc main_v17) = SbRefIdeal.Read.val_main_v17 (F := F)) (h2 : W (Proc.devRef .tc main_v25) = SbRefIdeal.Read.val_main_v25 x) : after hostOps0_8 W (Proc.devRef .tc main_v26) = SbRefIdeal.Read.val_main_v26_0 x := by
  simp only [hostOps0_8, TRef.ternary, TRef.binary, TRef.nullary, TRef.unary, TRef.toBuf, TRef.ofBuf, cast_eq]; after_results_simp; rw [h0, h1, h2]; rfl

/-- What each stretch leaves alone. -/
theorem keep0 : ∀ b ∈ [main_arg0, main_arg1], after hostOps0 W (Proc.devRef .tc b) = W (Proc.devRef .tc b) := by
  simp only [List.forall_mem_cons, List.not_mem_nil, false_imp_iff, implies_true, and_true]
  refine ⟨?_, ?_⟩ <;> (simp only [hostOps0, TRef.ternary, TRef.binary, TRef.nullary, TRef.unary, TRef.toBuf, TRef.ofBuf, cast_eq]; after_results_simp)
theorem keep1 : ∀ b ∈ [main_v8, main_v12, main_v17, main_arg0, main_arg1], after hostOps0_1 W (Proc.devRef .tc b) = W (Proc.devRef .tc b) := by
  simp only [List.forall_mem_cons, List.not_mem_nil, false_imp_iff, implies_true, and_true]
  refine ⟨?_, ?_, ?_, ?_, ?_⟩ <;> (simp only [hostOps0_1, TRef.ternary, TRef.binary, TRef.nullary, TRef.unary, TRef.toBuf, TRef.ofBuf, cast_eq]; after_results_simp)
theorem keep2 : ∀ b ∈ [main_v8, main_v17, main_v18, main_arg0, main_arg1], after hostOps0_2 W (Proc.devRef .tc b) = W (Proc.devRef .tc b) := by
  simp only [List.forall_mem_cons, List.not_mem_nil, false_imp_iff, implies_true, and_true]
  refine ⟨?_, ?_, ?_, ?_, ?_⟩ <;> (simp only [hostOps0_2, TRef.ternary, TRef.binary, TRef.nullary, TRef.unary, TRef.toBuf, TRef.ofBuf, cast_eq]; after_results_simp)
theorem keep3 : ∀ b ∈ [main_v8, main_v17, main_v18, main_arg0, main_arg1], after hostOps0_3 W (Proc.devRef .tc b) = W (Proc.devRef .tc b) := by
  simp only [List.forall_mem_cons, List.not_mem_nil, false_imp_iff, implies_true, and_true]
  refine ⟨?_, ?_, ?_, ?_, ?_⟩ <;> (simp only [hostOps0_3, TRef.ternary, TRef.binary, TRef.nullary, TRef.unary, TRef.toBuf, TRef.ofBuf, cast_eq]; after_results_simp)
theorem keep4 : ∀ b ∈ [main_v8, main_v17, main_v18, main_v20, main_arg0, main_arg1], after hostOps0_4 W (Proc.devRef .tc b) = W (Proc.devRef .tc b) := by
  simp only [List.forall_mem_cons, List.not_mem_nil, false_imp_iff, implies_true, and_true]
  refine ⟨?_, ?_, ?_, ?_, ?_, ?_⟩ <;> (simp only [hostOps0_4, TRef.ternary, TRef.binary, TRef.nullary, TRef.unary, TRef.toBuf, TRef.ofBuf, cast_eq]; after_results_simp)
theorem keep5 : ∀ b ∈ [main_v8, main_v17, main_v18, main_arg0, main_arg1], after hostOps0_5 W (Proc.devRef .tc b) = W (Proc.devRef .tc b) := by
  simp only [List.forall_mem_cons, List.not_mem_nil, false_imp_iff, implies_true, and_true]
  refine ⟨?_, ?_, ?_, ?_, ?_⟩ <;> (simp only [hostOps0_5, TRef.ternary, TRef.binary, TRef.nullary, TRef.unary, TRef.toBuf, TRef.ofBuf, cast_eq]; after_results_simp)
theorem keep6 : ∀ b ∈ [main_v8, main_v17, main_v18, main_v21, main_arg0, main_arg1], after hostOps0_6 W (Proc.devRef .tc b) = W (Proc.devRef .tc b) := by
  simp only [List.forall_mem_cons, List.not_mem_nil, false_imp_iff, implies_true, and_true]
  refine ⟨?_, ?_, ?_, ?_, ?_, ?_⟩ <;> (simp only [hostOps0_6, TRef.ternary, TRef.binary, TRef.nullary, TRef.unary, TRef.toBuf, TRef.ofBuf, cast_eq]; after_results_simp)
theorem keep7 : ∀ b ∈ [main_v8, main_v17, main_arg0, main_arg1], after hostOps0_7 W (Proc.devRef .tc b) = W (Proc.devRef .tc b) := by
  simp only [List.forall_mem_cons, List.not_mem_nil, false_imp_iff, implies_true, and_true]
  refine ⟨?_, ?_, ?_, ?_⟩ <;> (simp only [hostOps0_7, TRef.ternary, TRef.binary, TRef.nullary, TRef.unary, TRef.toBuf, TRef.ofBuf, cast_eq]; after_results_simp)
theorem keep8 : ∀ b ∈ [main_v8, main_arg0, main_arg1], after hostOps0_8 W (Proc.devRef .tc b) = W (Proc.devRef .tc b) := by
  simp only [List.forall_mem_cons, List.not_mem_nil, false_imp_iff, implies_true, and_true]
  refine ⟨?_, ?_, ?_⟩ <;> (simp only [hostOps0_8, TRef.ternary, TRef.binary, TRef.nullary, TRef.unary, TRef.toBuf, TRef.ofBuf, cast_eq]; after_results_simp)

theorem s9_v32 (h0 : W (Proc.devRef .tc main_v26) = SbRefIdeal.Read.val_main_v26_0 x) (h1 : W (Proc.devRef .tc main_v8) = SbRefIdeal.Read.val_main_v8 x) :
    after hostOps0_9 W (Proc.devRef .tc main_v32) = shapeCast S4096x256 (SbRefIdeal.Read.val_main_v29 x) shapeCasts_S1x4096x256_S4096x256 := by
  simp only [hostOps0_9, TRef.ternary, TRef.binary, TRef.nullary, TRef.unary, TRef.toBuf, TRef.ofBuf, cast_eq]; after_results_simp; rw [h0, h1]; rfl

theorem s9_v30 : after hostOps0_9 W (Proc.devRef .tc main_v30) = shapeCast S4096x5120 (W (Proc.devRef .tc main_arg0)) shapeCasts_S1x4096x5120_S4096x5120 := by
  simp only [hostOps0_9, TRef.ternary, TRef.binary, TRef.nullary, TRef.unary, TRef.toBuf, TRef.ofBuf, cast_eq]; after_results_simp; rfl

theorem s9_v31 : after hostOps0_9 W (Proc.devRef .tc main_v31) = shapeCast S4096x256 (W (Proc.devRef .tc main_arg1)) shapeCasts_S1x4096x256_S4096x256 := by
  simp only [hostOps0_9, TRef.ternary, TRef.binary, TRef.nullary, TRef.unary, TRef.toBuf, TRef.ofBuf, cast_eq]; after_results_simp; rfl

variable (m : (ℓ : Loc nD τ sig) → Buf (Elt F) ℓ) (c : Dev nD)

/-- The buffers before the kernel, stretch by stretch. -/
theorem V_after (b : Ref sig .tc) : V m c b = after hostOps0_9 (after hostOps0_8 (after hostOps0_7 (after hostOps0_6 (after hostOps0_5 (after hostOps0_4 (after hostOps0_3
    (after hostOps0_2 (after hostOps0_1 (after hostOps0 fun b => m (c, b)))))))))) (Proc.devRef .tc b) := by
  unfold V
  simp only [List.flatten_cons, List.flatten_nil, List.append_nil, after_two]

theorem V_v30 : V m c main_v30 = shapeCast S4096x5120 (m ((c : Thread nD τ).loc main_arg0)) shapeCasts_S1x4096x5120_S4096x5120 := by
  rw [V_after, s9_v30, keep8 _ main_arg0 (by decide), keep7 _ main_arg0 (by decide), keep6 _ main_arg0 (by decide), keep5 _ main_arg0 (by decide), keep4 _ main_arg0 (by decide), keep3 _ main_arg0 (by decide), keep2 _ main_arg0 (by decide), keep1 _ main_arg0 (by decide), keep0 _ main_arg0 (by decide)]

theorem V_v31 : V m c main_v31 = shapeCast S4096x256 (m ((c : Thread nD τ).loc main_arg1)) shapeCasts_S1x4096x256_S4096x256 := by
  rw [V_after, s9_v31, keep8 _ main_arg1 (by decide), keep7 _ main_arg1 (by decide), keep6 _ main_arg1 (by decide), keep5 _ main_arg1 (by decide), keep4 _ main_arg1 (by decide), keep3 _ main_arg1 (by decide), keep2 _ main_arg1 (by decide), keep1 _ main_arg1 (by decide), keep0 _ main_arg1 (by decide)]

/-- The third array is the attention's output. -/
theorem V_v32 : V m c main_v32 = shapeCast S4096x256 (SbRefIdeal.Read.val_main_v29 (m ((c : Thread nD τ).loc main_arg0))) shapeCasts_S1x4096x256_S4096x256 := by
  rw [V_after]
  set x := m ((c : Thread nD τ).loc main_arg0) with hx
  generalize hW : (fun b => m (c, b) : Valuation τ sig (Elt F)) = W₀
  have ha : W₀ (Proc.devRef .tc main_arg0) = x := by rw [← hW]
  have h8 := s0_v8 W₀ x ha
  have h12 := s0_v12 W₀ x ha
  have h17 := s0_v17 W₀
  have h18 := s1_v18 _ x h12
  have h20 := s3_v20 _ x (s2_v19 _ x ((keep1 _ main_v12 (by decide)).trans h12))
  have g17 := (keep3 _ main_v17 (by decide)).trans ((keep2 _ main_v17 (by decide)).trans ((keep1 _ main_v17 (by decide)).trans h17))
  have h21 := s5_v21 _ x (s4_cst_0 _) ((keep4 _ main_v17 (by decide)).trans g17) ((keep4 _ main_v20 (by decide)).trans h20)
  have h25 := s7_v25 _ x (s6_v22 _ x h21) ((keep6 _ main_v21 (by decide)).trans h21)
    ((keep6 _ main_v18 (by decide)).trans ((keep5 _ main_v18 (by decide)).trans ((keep4 _ main_v18 (by decide)).trans ((keep3 _ main_v18 (by decide)).trans ((keep2 _ main_v18 (by decide)).trans h18)))))
  have h26 := s8_v26 _ x (s7_cst_1 _) ((keep7 _ main_v17 (by decide)).trans ((keep6 _ main_v17 (by decide)).trans ((keep5 _ main_v17 (by decide)).trans ((keep4 _ main_v17 (by decide)).trans g17)))) h25
  exact s9_v32 _ x h26 ((keep8 _ main_v8 (by decide)).trans ((keep7 _ main_v8 (by decide)).trans ((keep6 _ main_v8 (by decide)).trans ((keep5 _ main_v8 (by decide)).trans ((keep4 _ main_v8 (by decide)).trans ((keep3 _ main_v8 (by decide)).trans ((keep2 _ main_v8 (by decide)).trans ((keep1 _ main_v8 (by decide)).trans h8))))))))

end Cert.SbBwdIdeal.Own
end
-- ==== Proof.SbSoft.lean ====
/-
  The logarithm of the sigmoid as the reference takes it, and its two slopes.
-/
module

public import proofs.«01_k».proof.Proof.SbMath
public import proofs.«01_k».proof.Proof.RealCoe
public import Idealize.ShloMosaic.Lib.Pointwise

@[expose] public section

noncomputable section

namespace Cert.Sb

open Idealize.ShloMosaic Idealize.ShloMosaic.TcCoe Cert.Train

/-- What one score leaves, in logarithms, is its mirror image. -/
theorem lsz_neg (z : ℝ) : lsz (-z) = lsz z - z := by
  unfold lsz
  rw [abs_neg]
  rcases le_total z 0 with h | h
  · rw [min_eq_left h, min_eq_right (by linarith)]; ring
  · rw [min_eq_right h, min_eq_left (by linarith)]; ring

/-- A score's sigmoid and its mirror image make one. -/
theorem exp_lsz_neg (z : ℝ) : Real.exp (lsz (-z)) = 1 - Real.exp (lsz z) := by
  have p : 0 < 1 + Real.exp (-|z|) := by have := Real.exp_pos (-|z|); linarith
  unfold lsz
  rw [abs_neg, Real.exp_sub, Real.exp_sub, Real.exp_log p, eq_sub_iff_add_eq, ← add_div, div_eq_one_iff_eq p.ne']
  rcases le_total z 0 with h | h
  · rw [min_eq_left h, min_eq_right (by linarith), abs_of_nonpos h, neg_neg, Real.exp_zero]
  · rw [min_eq_right h, min_eq_left (by linarith), abs_of_nonneg h, Real.exp_zero, add_comm]

/-- The logarithm of one plus the exponential of `a`. -/
abbrev softE (a : Ideal .f32) : Ideal .f32 :=
  Scalar.select (FloatOps.cmpf .une (FloatOps.subf a (FloatOps.ofBits .f32 0x00000000#32)) (FloatOps.subf a (FloatOps.ofBits .f32 0x00000000#32)))
    (FloatOps.addf a (FloatOps.ofBits .f32 0x00000000#32))
    (FloatOps.addf (FloatOps.maximumf a (FloatOps.ofBits .f32 0x00000000#32))
      (FloatOps.hostUnary .log1p (FloatOps.hostUnary .exp (FloatOps.hostNegf (FloatOps.hostAbsf (FloatOps.subf a (FloatOps.ofBits .f32 0x00000000#32)))))))

theorem zero_lit : (FloatOps.ofBits .f32 0x00000000#32 : Ideal .f32) = ((0 : ℝ) : EReal) := lit_zero
theorem inf_lit : (FloatOps.ofBits .f32 0x7F800000#32 : Ideal .f32) = (⊤ : EReal) := by
  show Ideal.ofBits .f32 0x7F800000#32 = _
  simp [Ideal.ofBits, Ideal.ieee]

theorem soft_val {a : Ideal .f32} {x : ℝ} (h : a = (x : EReal)) : softE a = ((-lsz (-x) : ℝ) : EReal) := by
  have e : Ideal.cmp .une ((x : EReal) - ((0 : ℝ) : EReal)) ((x : EReal) - ((0 : ℝ) : EReal)) = 0#1 := by simp [Ideal.cmp]
  have l : Ideal.log1p (Ideal.exp (-(max ((x : EReal) - ((0 : ℝ) : EReal)) (-((x : EReal) - ((0 : ℝ) : EReal)))))) = ((Real.log (1 + Real.exp (-|x|)) : ℝ) : EReal) := by
    rw [← EReal.coe_sub, sub_zero, ← EReal.coe_neg, ← EReal.coe_strictMono.monotone.map_max, ← EReal.coe_neg]
    show Ideal.log (1 + ((Real.exp (-|x|) : ℝ) : EReal)) = _
    rw [← EReal.coe_one, ← EReal.coe_add, Ideal.log_coe, if_neg (by have := Real.exp_pos (-|x|); linarith)]
  have m : max (x : EReal) ((0 : ℝ) : EReal) = ((max x 0 : ℝ) : EReal) := (EReal.coe_strictMono.monotone.map_max).symm
  unfold softE
  rw [zero_lit, h]
  show Scalar.select (Ideal.cmp .une ((x : EReal) - ((0 : ℝ) : EReal)) ((x : EReal) - ((0 : ℝ) : EReal))) _ (max (x : EReal) ((0 : ℝ) : EReal) +
    Ideal.log1p (Ideal.exp (-(max ((x : EReal) - ((0 : ℝ) : EReal)) (-((x : EReal) - ((0 : ℝ) : EReal))))))) = _
  rw [e, l, m, ← EReal.coe_add]
  refine congrArg (fun r : ℝ => (r : EReal)) ?_
  unfold lsz
  rw [abs_neg, min_comm, ← neg_zero, min_neg_neg, neg_zero, max_comm]
  ring

/-- The slope of that logarithm. -/
abbrev slopeE (a : Ideal .f32) : Ideal .f32 :=
  FloatOps.hostUnary .exp (FloatOps.subf
    (Scalar.select (FloatOps.cmpf .oeq a (FloatOps.ofBits .f32 0x7F800000#32)) (FloatOps.ofBits .f32 0x00000000#32) a)
    (Scalar.select (FloatOps.cmpf .oeq (softE a) (FloatOps.ofBits .f32 0x7F800000#32)) (FloatOps.ofBits .f32 0x00000000#32) (softE a)))

theorem fin_sel (x : ℝ) (y : Ideal .f32) : Scalar.select (FloatOps.cmpf (F := Ideal) (φ := .f32) .oeq (x : EReal) (⊤ : EReal)) y (x : EReal) = (x : EReal) := by
  have e : Ideal.cmp .oeq (x : EReal) (⊤ : EReal) = 0#1 := by simp [Ideal.cmp]
  show Scalar.select (Ideal.cmp .oeq (x : EReal) (⊤ : EReal)) y _ = _
  rw [e]; rfl

theorem slope_val {a : Ideal .f32} {x : ℝ} (h : a = (x : EReal)) : slopeE a = ((Real.exp (lsz x) : ℝ) : EReal) := by
  unfold slopeE
  rw [soft_val h, h, inf_lit, fin_sel, fin_sel]
  show Ideal.exp ((x : EReal) - ((-lsz (-x) : ℝ) : EReal)) = _
  rw [← EReal.coe_sub]
  refine congrArg (fun r : ℝ => ((Real.exp r : ℝ) : EReal)) ?_
  rw [lsz_neg]; ring

theorem eighth_lit : (FloatOps.ofBits .f32 0x3E000000#32 : Ideal .f32) = ((1 / 8 : ℝ) : EReal) := by
  show Ideal.ofBits .f32 0x3E000000#32 = _
  simp [Ideal.ofBits, Ideal.ieee, -EReal.coe_mul]; norm_num

/-- A choice between two real numbers. -/
theorem pick_val {m : BitVec 1} {P : Prop} [Decidable P] (hm : m = BitVec.ofBool (decide P)) {x y : Ideal .f32} {a b : ℝ}
    (hx : x = (a : EReal)) (hy : y = (b : EReal)) : Scalar.select m x y = ((if P then a else b : ℝ) : EReal) := by
  rw [hm, Scalar.select]
  by_cases h : P
  · rw [if_pos h, if_pos (by rw [decide_eq_true h]; rfl), hx]
  · rw [if_neg h, if_neg (by rw [decide_eq_false h]; decide), hy]

/-- A sum of products of real numbers. -/
theorem dot_val {n : ℕ} {a b : Fin n → EReal} (f g : ℕ → ℝ) (ha : ∀ k, a k = ((f k.val : ℝ) : EReal)) (hb : ∀ k, b k = ((g k.val : ℝ) : EReal)) :
    ∑ k, a k * b k = ((∑ k ∈ Finset.range n, f k * g k : ℝ) : EReal) := by
  rw [← Fin.sum_univ_eq_sum_range (fun k => f k * g k) n, ← coe_sum]
  exact Finset.sum_congr rfl fun k _ => by rw [ha, hb, EReal.coe_mul]

end Cert.Sb

end
-- ==== Proof.SbWindow.lean ====
/-
  The sums from a key on and the sums up to a key, as the reference takes them over a sliding window.
-/
module

public import proofs.«01_k».proof.Proof.Gen.SbRefIdeal.Read
public import proofs.«01_k».proof.Proof.RealCoe
public import Idealize.ShloMosaic.Lib.Pointwise

@[expose] public section

noncomputable section

namespace Cert.Sb

open Idealize.ShloMosaic Idealize.ShloMosaic.TcCoe
open Cert.SbRefIdeal Cert.SbRefIdeal.Gen Cert.SbRefIdeal.Read Cert.Train
open Finset (range Ico)

theorem foldl_plus {β : Type} (f : β → EReal) (l : List β) (v : EReal) : l.foldl (fun r n => r + f n) v = v + (l.map f).sum := by
  induction l generalizing v with
  | nil => simp
  | cons a l ih => rw [List.foldl_cons, ih, List.map_cons, List.sum_cons, add_assoc]

/-- The window: a whole row of keys. -/
abbrev Win : Shape := ⟨4, ![1, 1, 1, 4096]⟩

/-- A position of the window is a number below 4096. -/
def winEquiv : Fin 4096 ≃ Win.Idx where
  toFun k := fun a => match a with
    | ⟨0, _⟩ => ⟨0, Nat.zero_lt_one⟩
    | ⟨1, _⟩ => ⟨0, Nat.zero_lt_one⟩
    | ⟨2, _⟩ => ⟨0, Nat.zero_lt_one⟩
    | ⟨3, _⟩ => ⟨k.val, k.isLt⟩
  invFun i := ⟨(i 3).val, (i 3).isLt⟩
  left_inv k := rfl
  right_inv i := by
    funext a
    have h0 : (i 0).val < 1 := (i 0).isLt
    have h1 : (i 1).val < 1 := (i 1).isLt
    have h2 : (i 2).val < 1 := (i 2).isLt
    match a with
    | ⟨0, _⟩ => exact Fin.ext (show 0 = (i 0).val by omega)
    | ⟨1, _⟩ => exact Fin.ext (show 0 = (i 1).val by omega)
    | ⟨2, _⟩ => exact Fin.ext (show 0 = (i 2).val by omega)
    | ⟨3, _⟩ => rfl

/-- What a position adds: an entry inside, zero in the padding. -/
theorem term_val {P Q : Prop} [Decidable P] [Decidable Q] {a : P → EReal} {z : EReal} {b : ℝ} (hz : z = 0) (hq : P ↔ Q) (h : ∀ p, a p = (b : EReal)) :
    (if p : P then a p else z) = ((if Q then b else 0 : ℝ) : EReal) := by
  by_cases p : P
  · rw [dif_pos p, if_pos (hq.mp p), h]
  · rw [dif_neg p, if_neg (fun q => p (hq.mpr q)), hz]; rfl

theorem from_sum (f : ℕ → ℝ) {a : ℕ} (h : a < 4096) : (∑ k ∈ range 4096, if a + k < 4096 then f (a + k) else 0) = ∑ s ∈ Ico a 4096, f s := by
  rw [← Finset.sum_filter, Finset.sum_Ico_eq_sum_range]
  refine Finset.sum_congr ?_ fun _ _ => rfl
  ext k; simp only [Finset.mem_filter, Finset.mem_range]; omega

theorem upto_sum (f : ℕ → ℝ) {a : ℕ} (h : a < 4096) : (∑ k ∈ range 4096, if 4095 ≤ a + k then f (a + k - 4095) else 0) = ∑ s ∈ range (a + 1), f s := by
  rw [← Finset.sum_filter]
  have e : (range 4096).filter (fun k => 4095 ≤ a + k) = Ico (4095 - a) 4096 := by
    ext k; simp only [Finset.mem_filter, Finset.mem_range, Finset.mem_Ico]; omega
  rw [e, Finset.sum_Ico_eq_sum_range]
  refine Finset.sum_congr ?_ fun k _ => congrArg f ?_
  · exact congrArg range (by omega)
  · omega

variable {x0 : (⟨S1x4096x5120, .f32⟩ : BufTy).Contents (Elt Ideal)} {x1 : (⟨S1x4096x256, .f32⟩ : BufTy).Contents (Elt Ideal)}
variable {f : ℕ → ℝ} (j : S1x4x4096x4096.Idx)

/-- Padded behind, the window sums the keys from its own on. -/
theorem window_from (hx : ∀ i : S1x4x4096x4096.Idx, (i 0).val = (j 0).val → (i 1).val = (j 1).val → (i 2).val = (j 2).val →
      val_main_v21_0 (F := Ideal) x0 i = ((f (i 3).val : ℝ) : EReal)) :
    val_main_v22 (F := Ideal) x0 j = ((∑ s ∈ Ico (j 3).val 4096, f s : ℝ) : EReal) := by
  have h3 : (j 3).val < 4096 := (j 3).isLt
  unfold val_main_v22
  generalize val_main_v21_0 (F := Ideal) x0 = x at hx
  simp only [Host.reduceWindowAdd, Ideal.hostReduceWindowAdd_def, Ideal.hostReduceWindowAdd, Host.reduceWindow]
  have z : ∀ i, val_main_call3_v0 (F := Ideal) i = 0 := fun i => lit_zero
  have g0 : (j 0).val < 1 := (j 0).isLt
  have g1 : (j 1).val < 4 := (j 1).isLt
  have g2 : (j 2).val < 4096 := (j 2).isLt
  rw [z]
  rw [foldl_plus, zero_add, ← Fin.sum_univ_def]
  rw [← from_sum f h3, ← coe_sum, ← Fin.sum_univ_eq_sum_range (fun k => ((if (j 3).val + k < 4096 then f ((j 3).val + k) else 0 : ℝ) : EReal)) 4096]
  refine Fintype.sum_equiv (Win.rowMajor.symm.trans winEquiv.symm) _ _ fun n => ?_
  rw [Equiv.trans_apply]
  let k := Win.rowMajor.symm n
  have k0 : (k 0).val < 1 := (k 0).isLt
  have k1 : (k 1).val < 1 := (k 1).isLt
  have k2 : (k 2).val < 1 := (k 2).isLt
  have k3 : (winEquiv.symm (Win.rowMajor.symm n)).val = (k 3).val := rfl
  simp only [k3]
  refine term_val rfl ⟨fun p => ?_, fun q a => ?_⟩ fun p => ?_
  · have := p 3; have : (j 3).val * 1 + (k 3).val - 0 < 4096 := this.2; omega
  · match a with
    | ⟨0, _⟩ => exact ⟨Nat.zero_le _, show (j 0).val * 1 + (k 0).val - 0 < 1 by omega⟩
    | ⟨1, _⟩ => exact ⟨Nat.zero_le _, show (j 1).val * 1 + (k 1).val - 0 < 4 by omega⟩
    | ⟨2, _⟩ => exact ⟨Nat.zero_le _, show (j 2).val * 1 + (k 2).val - 0 < 4096 by omega⟩
    | ⟨3, _⟩ => exact ⟨Nat.zero_le _, show (j 3).val * 1 + (k 3).val - 0 < 4096 by omega⟩
  · refine (hx _ ?_ ?_ ?_).trans (congrArg (fun n => ((f n : ℝ) : EReal)) ?_)
    · show (j 0).val * 1 + (k 0).val - 0 = _; omega
    · show (j 1).val * 1 + (k 1).val - 0 = _; omega
    · show (j 2).val * 1 + (k 2).val - 0 = _; omega
    · show (j 3).val * 1 + (k 3).val - 0 = _; omega

/-- Padded in front, it sums the keys up to its own. -/
theorem window_upto (hx : ∀ i : S1x4x4096x4096.Idx, (i 0).val = (j 0).val → (i 1).val = (j 1).val → (i 2).val = (j 2).val →
      val_main_v36 (F := Ideal) x0 x1 i = ((f (i 3).val : ℝ) : EReal)) :
    val_main_v38 (F := Ideal) x0 x1 j = ((∑ s ∈ range ((j 3).val + 1), f s : ℝ) : EReal) := by
  have h3 : (j 3).val < 4096 := (j 3).isLt
  unfold val_main_v38
  generalize val_main_v36 (F := Ideal) x0 x1 = x at hx
  simp only [Host.reduceWindowAdd, Ideal.hostReduceWindowAdd_def, Ideal.hostReduceWindowAdd, Host.reduceWindow]
  have z : ∀ i, val_main_call6_v0 (F := Ideal) i = 0 := fun i => lit_zero
  have g0 : (j 0).val < 1 := (j 0).isLt
  have g1 : (j 1).val < 4 := (j 1).isLt
  have g2 : (j 2).val < 4096 := (j 2).isLt
  rw [z]
  rw [foldl_plus, zero_add, ← Fin.sum_univ_def]
  rw [← upto_sum f h3, ← coe_sum, ← Fin.sum_univ_eq_sum_range (fun k => ((if 4095 ≤ (j 3).val + k then f ((j 3).val + k - 4095) else 0 : ℝ) : EReal)) 4096]
  refine Fintype.sum_equiv (Win.rowMajor.symm.trans winEquiv.symm) _ _ fun n => ?_
  rw [Equiv.trans_apply]
  let k := Win.rowMajor.symm n
  have k0 : (k 0).val < 1 := (k 0).isLt
  have k1 : (k 1).val < 1 := (k 1).isLt
  have k2 : (k 2).val < 1 := (k 2).isLt
  have k3 : (winEquiv.symm (Win.rowMajor.symm n)).val = (k 3).val := rfl
  simp only [k3]
  refine term_val rfl ⟨fun p => ?_, fun q a => ?_⟩ fun p => ?_
  · have := p 3; have : 4095 ≤ (j 3).val * 1 + (k 3).val := this.1; omega
  · match a with
    | ⟨0, _⟩ => exact ⟨Nat.zero_le _, show (j 0).val * 1 + (k 0).val - 0 < 1 by omega⟩
    | ⟨1, _⟩ => exact ⟨Nat.zero_le _, show (j 1).val * 1 + (k 1).val - 0 < 4 by omega⟩
    | ⟨2, _⟩ => exact ⟨Nat.zero_le _, show (j 2).val * 1 + (k 2).val - 0 < 4096 by omega⟩
    | ⟨3, _⟩ => exact ⟨show 4095 ≤ (j 3).val * 1 + (k 3).val by omega, show (j 3).val * 1 + (k 3).val - 4095 < 4096 by omega⟩
  · refine (hx _ ?_ ?_ ?_).trans (congrArg (fun n => ((f n : ℝ) : EReal)) ?_)
    · show (j 0).val * 1 + (k 0).val - 0 = _; omega
    · show (j 1).val * 1 + (k 1).val - 0 = _; omega
    · show (j 2).val * 1 + (k 2).val - 0 = _; omega
    · show (j 3).val * 1 + (k 3).val - 4095 = _; omega

end Cert.Sb

end
-- ==== Proof.SbRef.lean ====
/-
  What the reference computes, one array after another, in real numbers: scores, weights, output, and the gradients.
-/
module

public import proofs.«01_k».proof.Proof.Gen.SbRefIdeal.Read
public import proofs.«01_k».proof.Proof.SbGrad
public import proofs.«01_k».proof.Proof.SbSoft
public import proofs.«01_k».proof.Proof.SbWindow
public import Idealize.ShloMosaic.Lib.WordCmp
public import Idealize.ShloMosaic.Lib.Pointwise

@[expose] public section

noncomputable section

namespace Cert.Sb

open Idealize.ShloMosaic Idealize.ShloMosaic.TcCoe
open Cert.SbRefIdeal Cert.SbRefIdeal.Gen Cert.SbRefIdeal.Read Cert.Train
open Finset (range Ico)

theorem flat_query {z a t d : ℕ} (hz : z < 1) (ha : a < 4) (ht : t < 4096) (hd : d < 64) : (((z * 4 + a) * 4096 + t) * 64 + d) / 64 % 4096 = t := by omega
theorem flat_head {z a t d : ℕ} (hz : z < 1) (ha : a < 4) (ht : t < 4096) (hd : d < 64) : (((z * 4 + a) * 4096 + t) * 64 + d) / 262144 % 4 = a := by omega
theorem flat_lane {z a t d : ℕ} (hd : d < 64) : (((z * 4 + a) * 4096 + t) * 64 + d) % 64 = d := by omega
theorem proj_query {t c a d : ℕ} (ht : t < 4096) (hc : c < 3) (ha : a < 4) (hd : d < 64) : ((((0 * 4096 + t) * 3 + c) * 4 + a) * 64 + d) / 768 % 4096 = t := by omega
theorem proj_lane {t c a d : ℕ} (hc : c < 3) (ha : a < 4) (hd : d < 64) : ((((0 * 4096 + t) * 3 + c) * 4 + a) * 64 + d) % 768 = 256 * c + (64 * a + d) := by omega

/-- The two arguments hold the data: queries, keys and values in their columns of the projection. -/
structure Args (x0 : (⟨S1x4096x5120, .f32⟩ : BufTy).Contents (Elt Ideal)) (x1 : (⟨S1x4096x256, .f32⟩ : BufTy).Contents (Elt Ideal)) (D : Data) : Prop where
  q : ∀ (i : S1x4096x5120.Idx) (l : ℕ), l < 256 → (i 2).val = 2304 + l → x0 i = ((D.Q (i 1).val l : ℝ) : EReal)
  k : ∀ (i : S1x4096x5120.Idx) (l : ℕ), l < 256 → (i 2).val = 2560 + l → x0 i = ((D.K (i 1).val l : ℝ) : EReal)
  v : ∀ (i : S1x4096x5120.Idx) (l : ℕ), l < 256 → (i 2).val = 2816 + l → x0 i = ((D.V (i 1).val l : ℝ) : EReal)
  g : ∀ (i : S1x4096x256.Idx), x1 i = ((D.G (i 1).val (i 2).val : ℝ) : EReal)
  out : D.Out

variable {x0 : (⟨S1x4096x5120, .f32⟩ : BufTy).Contents (Elt Ideal)} {x1 : (⟨S1x4096x256, .f32⟩ : BufTy).Contents (Elt Ideal)} {D : Data}
variable (H : Args x0 x1 D)
include H

/-- The query by head. -/
theorem r4 (i : S1x4x4096x64.Idx) : val_main_v4 (F := Ideal) x0 i = ((D.Q (i 2).val (64 * (i 1).val + (i 3).val) : ℝ) : EReal) := by
  have h0 : (i 0).val < 1 := (i 0).isLt
  have h1 : (i 1).val < 4 := (i 1).isLt
  have h2 : (i 2).val < 4096 := (i 2).isLt
  have h3 : (i 3).val < 64 := (i 3).isLt
  rw [val_main_v4_apply, val_main_v3_apply, val_main_v2_apply, val_main_v1_apply, val_main_v0_apply]
  have e := H.q (idx_main_v0 (idx_main_v1 (idx_main_v2 (idx_main_v3 (idx_main_v4 i))))) (64 * (i 1).val + (i 3).val) (by omega)
  dsimp only [idx_main_v4, idx_main_v3, idx_main_v2, idx_main_v1, idx_main_v0] at e ⊢
  simp only [flat_query h0 h1 h2 h3, flat_head h0 h1 h2 h3, flat_lane h3] at e ⊢
  simp only [proj_query h2 (by decide : 0 < 3) h1 h3, proj_lane (by decide : 0 < 3) h1 h3] at e ⊢
  exact e (by omega)

/-- The key by head. -/
theorem r6 (i : S1x4x4096x64.Idx) : val_main_v6 (F := Ideal) x0 i = ((D.K (i 2).val (64 * (i 1).val + (i 3).val) : ℝ) : EReal) := by
  have h0 : (i 0).val < 1 := (i 0).isLt
  have h1 : (i 1).val < 4 := (i 1).isLt
  have h2 : (i 2).val < 4096 := (i 2).isLt
  have h3 : (i 3).val < 64 := (i 3).isLt
  rw [val_main_v6_apply, val_main_v5_apply, val_main_v2_apply, val_main_v1_apply, val_main_v0_apply]
  have e := H.k (idx_main_v0 (idx_main_v1 (idx_main_v2 (idx_main_v5 (idx_main_v6 i))))) (64 * (i 1).val + (i 3).val) (by omega)
  dsimp only [idx_main_v6, idx_main_v5, idx_main_v2, idx_main_v1, idx_main_v0] at e ⊢
  simp only [flat_query h0 h1 h2 h3, flat_head h0 h1 h2 h3, flat_lane h3] at e ⊢
  simp only [proj_query h2 (by decide : 1 + 0 < 3) h1 h3, proj_lane (by decide : 1 + 0 < 3) h1 h3] at e ⊢
  exact e (by omega)

/-- The value by head. -/
theorem r8 (i : S1x4x4096x64.Idx) : val_main_v8 (F := Ideal) x0 i = ((D.V (i 2).val (64 * (i 1).val + (i 3).val) : ℝ) : EReal) := by
  have h0 : (i 0).val < 1 := (i 0).isLt
  have h1 : (i 1).val < 4 := (i 1).isLt
  have h2 : (i 2).val < 4096 := (i 2).isLt
  have h3 : (i 3).val < 64 := (i 3).isLt
  rw [val_main_v8_apply, val_main_v7_apply, val_main_v2_apply, val_main_v1_apply, val_main_v0_apply]
  have e := H.v (idx_main_v0 (idx_main_v1 (idx_main_v2 (idx_main_v7 (idx_main_v8 i))))) (64 * (i 1).val + (i 3).val) (by omega)
  dsimp only [idx_main_v8, idx_main_v7, idx_main_v2, idx_main_v1, idx_main_v0] at e ⊢
  simp only [flat_query h0 h1 h2 h3, flat_head h0 h1 h2 h3, flat_lane h3] at e ⊢
  simp only [proj_query h2 (by decide : 2 + 0 < 3) h1 h3, proj_lane (by decide : 2 + 0 < 3) h1 h3] at e ⊢
  exact e (by omega)

/-- The cotangent by head. -/
theorem r31 (i : S1x4x4096x64.Idx) : val_main_v31 (F := Ideal) x1 i = ((D.G (i 2).val (64 * (i 1).val + (i 3).val) : ℝ) : EReal) := by
  have h0 : (i 0).val < 1 := (i 0).isLt
  have h1 : (i 1).val < 4 := (i 1).isLt
  have h2 : (i 2).val < 4096 := (i 2).isLt
  have h3 : (i 3).val < 64 := (i 3).isLt
  rw [val_main_v31_apply, val_main_v30_apply]
  refine (H.g _).trans ?_
  dsimp only [idx_main_v30, idx_main_v31]
  rw [show ((((i 0).val * 4096 + (i 2).val) * 4 + (i 1).val) * 64 + (i 3).val) / 256 % 4096 = (i 2).val by omega,
    show ((((i 0).val * 4096 + (i 2).val) * 4 + (i 1).val) * 64 + (i 3).val) % 256 = 64 * (i 1).val + (i 3).val by omega]

/-! ## The scores and the weights -/

section Scores
variable (i : S1x4x4096x4096.Idx)

/-- The scores. -/
theorem r12 : val_main_v12 (F := Ideal) x0 i = ((D.Z ((i 2).val / 128) (row (i 1).val (i 2).val) (i 3).val : ℝ) : EReal) := by
  rw [val_main_v12_apply, val_main_v10_apply, val_main_v11_apply, val_main_cst_apply, eighth_lit,
    dot_val (fun d => D.Q (i 2).val (64 * (i 1).val + d)) (fun d => D.K (i 3).val (64 * (i 1).val + d)) (fun k => r4 H _) (fun k => r6 H _)]
  refine (EReal.coe_mul _ _).symm.trans (congrArg (fun r : ℝ => (r : EReal)) ?_)
  exact (D.Z_head _ _ (i 1).isLt).symm

/-- The logarithm of a key's take. -/
theorem r18 : val_main_v18_0 (F := Ideal) x0 i = ((lsz (D.Z ((i 2).val / 128) (row (i 1).val (i 2).val) (i 3).val) : ℝ) : EReal) := by
  have e : val_main_call0_v0 (F := Ideal) x0 i = ((-D.Z ((i 2).val / 128) (row (i 1).val (i 2).val) (i 3).val : ℝ) : EReal) := by
    rw [val_main_call0_v0_apply, r12 H]; rfl
  have s : val_main_call0_v1_0 (F := Ideal) x0 i = _ := soft_val e
  rw [val_main_v18_0_apply, s, neg_neg]
  refine (EReal.coe_neg _).symm.trans ?_
  rw [neg_neg]

/-- One minus a key's take. -/
theorem r18_1 : val_main_v18_1 (F := Ideal) x0 i = ((1 - Real.exp (lsz (D.Z ((i 2).val / 128) (row (i 1).val (i 2).val) (i 3).val)) : ℝ) : EReal) := by
  have e : val_main_call0_v0 (F := Ideal) x0 i = ((-D.Z ((i 2).val / 128) (row (i 1).val (i 2).val) (i 3).val : ℝ) : EReal) := by
    rw [val_main_call0_v0_apply, r12 H]; rfl
  exact (slope_val e).trans (congrArg (fun r : ℝ => (r : EReal)) (exp_lsz_neg _))

theorem rneg : val_main_call1_v0 (F := Ideal) x0 i = ((D.Z ((i 2).val / 128) (row (i 1).val (i 2).val) (i 3).val : ℝ) : EReal) := by
  rw [val_main_call1_v0_apply, val_main_v19_apply, r12 H]
  exact neg_neg (G := EReal) _

/-- The logarithm of what a key leaves. -/
theorem r20 : val_main_v20_0 (F := Ideal) x0 i = ((lsz (D.Z ((i 2).val / 128) (row (i 1).val (i 2).val) (i 3).val) - D.Z ((i 2).val / 128) (row (i 1).val (i 2).val) (i 3).val : ℝ) : EReal) := by
  have s : val_main_call1_v1_0 (F := Ideal) x0 i = _ := soft_val (rneg H i)
  rw [val_main_v20_0_apply, s, lsz_neg]
  refine (EReal.coe_neg _).symm.trans ?_
  rw [neg_neg]

/-- A key's take. -/
theorem r20_1 : val_main_v20_1 (F := Ideal) x0 i = ((Real.exp (lsz (D.Z ((i 2).val / 128) (row (i 1).val (i 2).val) (i 3).val)) : ℝ) : EReal) :=
  slope_val (rneg H i)

omit H in
/-- The mask: keys before the query. -/
theorem r17 (j : S4096x4096.Idx) : val_main_v17 (F := Ideal) j = BitVec.ofBool (decide ((j 1).val < (j 0).val)) := by
  have h0 : (j 0).val < 4096 := (j 0).isLt
  have h1 : (j 1).val < 4096 := (j 1).isLt
  simp only [val_main_v17_apply, val_main_v15_apply, val_main_v16_apply, val_main_v14_apply, val_main_v13_apply, val_main_v9_apply]
  exact WordCmp.cmpi_slt_ofNat (by omega) (by omega)

omit H in
theorem rmask : val_main_v21_1 (F := Ideal) i = BitVec.ofBool (decide ((i 3).val < (i 2).val)) :=
  (val_main_v21_1_apply i).trans (r17 _)

omit H in
theorem rmask' : val_main_v26_1 (F := Ideal) i = BitVec.ofBool (decide ((i 3).val < (i 2).val)) :=
  (val_main_v26_1_apply i).trans (r17 _)

/-- What a key leaves, in logarithms, inside the mask. -/
theorem r21 : val_main_v21_0 (F := Ideal) x0 i = ((D.lk ((i 2).val / 128) (row (i 1).val (i 2).val) (i 3).val : ℝ) : EReal) := by
  rw [val_main_v21_0_apply, Data.lk, row_query]
  exact pick_val (rmask i) (r20 H i) lit_zero

/-- What the keys from one on leave. -/
theorem r22 : val_main_v22 (F := Ideal) x0 i = ((∑ s ∈ Ico (i 3).val 4096, D.lk ((i 2).val / 128) (row (i 1).val (i 2).val) s : ℝ) : EReal) :=
  window_from i fun k _ h1 h2 => by rw [r21 H, h1, h2]

/-- The weight before the mask. -/
theorem r25 : val_main_v25 (F := Ideal) x0 i
    = ((Real.exp (lsz (D.Z ((i 2).val / 128) (row (i 1).val (i 2).val) (i 3).val) + ∑ s ∈ Ico ((i 3).val + 1) 4096, D.lk ((i 2).val / 128) (row (i 1).val (i 2).val) s) : ℝ) : EReal) := by
  have h3 : (i 3).val < 4096 := (i 3).isLt
  rw [val_main_v25_apply, val_main_v24_apply, val_main_v23_apply, r18 H, r22 H, r21 H, Finset.sum_eq_sum_Ico_succ_bot h3]
  show Ideal.exp (((_ : ℝ) : EReal) + (((_ : ℝ) : EReal) - ((_ : ℝ) : EReal))) = _
  rw [← EReal.coe_sub, ← EReal.coe_add, add_sub_cancel_left]
  rfl

/-- The weight. -/
theorem r26 : val_main_v26_0 (F := Ideal) x0 i = ((D.w ((i 2).val / 128) (row (i 1).val (i 2).val) (i 3).val : ℝ) : EReal) := by
  rw [val_main_v26_0_apply, Data.w, row_query]
  exact pick_val (rmask' i) (r25 H i) lit_zero

end Scores

/-- The output by head. -/
theorem r27 (i : S1x4x4096x64.Idx) : val_main_v27 (F := Ideal) x0 i = ((D.O (i 2).val (64 * (i 1).val + (i 3).val) : ℝ) : EReal) := by
  have h1 : (i 1).val < 4 := (i 1).isLt
  have h3 : (i 3).val < 64 := (i 3).isLt
  rw [val_main_v27_apply, dot_val (fun s => D.w ((i 2).val / 128) (row (i 1).val (i 2).val) s) (fun s => D.V s (64 * (i 1).val + (i 3).val)) (fun k => r26 H _) (fun k => r8 H _),
    H.out _ _ (by omega), show (64 * (i 1).val + (i 3).val) / 64 = (i 1).val by omega]

/-- The output. -/
theorem r29 (i : S1x4096x256.Idx) : val_main_v29 (F := Ideal) x0 i = ((D.O (i 1).val (i 2).val : ℝ) : EReal) := by
  have h0 : (i 0).val < 1 := (i 0).isLt
  have h1 : (i 1).val < 4096 := (i 1).isLt
  have h2 : (i 2).val < 256 := (i 2).isLt
  rw [val_main_v29_apply, val_main_v28_apply]
  refine (r27 H _).trans ?_
  dsimp only [idx_main_v28, idx_main_v29]
  rw [show (((i 0).val * 4096 + (i 1).val) * 256 + (i 2).val) / 256 % 4096 = (i 1).val by omega,
    show 64 * ((((i 0).val * 4096 + (i 1).val) * 256 + (i 2).val) / 64 % 4) + (((i 0).val * 4096 + (i 1).val) * 256 + (i 2).val) % 64 = (i 2).val by omega]

/-! ## The gradients -/

/-- The gradient of the values. -/
theorem r33 (i : S1x4x4096x64.Idx) : val_main_v33 (F := Ideal) x0 x1 i
    = ((∑ t ∈ range 4096, D.G t (64 * (i 1).val + (i 3).val) * D.w (t / 128) (row (i 1).val t) (i 2).val : ℝ) : EReal) := by
  rw [val_main_v33_apply, val_main_v32_apply]
  exact dot_val (fun t => D.G t (64 * (i 1).val + (i 3).val)) (fun t => D.w (t / 128) (row (i 1).val t) (i 2).val) (fun k => r31 H _) (fun k => r26 H _)

section Slopes
variable (i : S1x4x4096x4096.Idx)

theorem r34 : val_main_v34 (F := Ideal) x0 x1 i = ((D.gv ((i 2).val / 128) (row (i 1).val (i 2).val) (i 3).val : ℝ) : EReal) := by
  rw [val_main_v34_apply, D.gv_head _ _ (i 1).isLt]
  exact dot_val (fun d => D.G (i 2).val (64 * (i 1).val + d)) (fun d => D.V (i 3).val (64 * (i 1).val + d)) (fun k => r31 H _) (fun k => r8 H _)

/-- The weight times its own gradient. -/
theorem r36 : val_main_v36 (F := Ideal) x0 x1 i = ((D.e ((i 2).val / 128) (row (i 1).val (i 2).val) (i 3).val : ℝ) : EReal) := by
  have e : val_main_v35 (F := Ideal) x0 x1 i = _ := pick_val (rmask' i) (r34 H i) (y := val_main_call5_v0 (F := Ideal) i) lit_zero
  rw [val_main_v36_apply, e, r25 H, Data.e, Data.w, row_query]
  refine (EReal.coe_mul _ _).symm.trans (congrArg (fun r : ℝ => (r : EReal)) ?_)
  by_cases h : (i 3).val < (i 2).val
  · rw [if_pos h, if_pos h, mul_comm]
  · rw [if_neg h, if_neg h, zero_mul, zero_mul]

theorem r38 : val_main_v38 (F := Ideal) x0 x1 i = ((∑ s ∈ range ((i 3).val + 1), D.e ((i 2).val / 128) (row (i 1).val (i 2).val) s : ℝ) : EReal) :=
  window_upto i fun k _ h1 h2 => by rw [r36 H, h1, h2]

/-- The gradient of what a key leaves. -/
theorem r40 : val_main_v40 (F := Ideal) x0 x1 i
    = ((if (i 3).val < (i 2).val then -D.e ((i 2).val / 128) (row (i 1).val (i 2).val) (i 3).val + ∑ s ∈ range ((i 3).val + 1), D.e ((i 2).val / 128) (row (i 1).val (i 2).val) s else 0 : ℝ) : EReal) := by
  have e : val_main_v39 (F := Ideal) x0 x1 i = ((-D.e ((i 2).val / 128) (row (i 1).val (i 2).val) (i 3).val + ∑ s ∈ range ((i 3).val + 1), D.e ((i 2).val / 128) (row (i 1).val (i 2).val) s : ℝ) : EReal) := by
    rw [val_main_v39_apply, val_main_v37_apply, r36 H, r38 H, EReal.coe_add, EReal.coe_neg]; rfl
  rw [val_main_v40_apply]
  exact pick_val (rmask i) e lit_zero

/-- The gradient of the score, scaled. -/
theorem r46 : val_main_v46 (F := Ideal) x0 x1 i = ((D.dz ((i 2).val / 128) (row (i 1).val (i 2).val) (i 3).val * (1 / 8) : ℝ) : EReal) := by
  rw [val_main_v46_apply, val_main_v45_apply, val_main_cst_2_apply, eighth_lit, val_main_v44_apply, val_main_v43_apply, val_main_v42_apply, val_main_v41_apply,
    val_main_call8_v1_apply, val_main_call8_v0_apply, val_main_call9_v1_apply, val_main_call9_v0_apply, r40 H, r36 H, r18_1 H, r20_1 H,
    D.dz_head _ _ (i 1).isLt H.out (i 3).isLt]
  show (-(-(-((_ : ℝ) : EReal) * ((_ : ℝ) : EReal))) + -(-((_ : ℝ) : EReal) * ((_ : ℝ) : EReal))) * ((_ : ℝ) : EReal) = _
  simp only [← EReal.coe_neg, ← EReal.coe_mul, ← EReal.coe_add]
  refine congrArg (fun r : ℝ => (r : EReal)) ?_
  ring

end Slopes

/-- The gradient of the keys. -/
theorem r47 (i : S1x4x4096x64.Idx) : val_main_v47 (F := Ideal) x0 x1 i
    = ((∑ t ∈ range 4096, D.dz (t / 128) (row (i 1).val t) (i 2).val * (1 / 8) * D.Q t (64 * (i 1).val + (i 3).val) : ℝ) : EReal) := by
  rw [val_main_v47_apply]
  exact dot_val (fun t => D.dz (t / 128) (row (i 1).val t) (i 2).val * (1 / 8)) (fun t => D.Q t (64 * (i 1).val + (i 3).val)) (fun k => r46 H _) (fun k => r4 H _)

/-- The gradient of the queries. -/
theorem r48 (i : S1x4x4096x64.Idx) : val_main_v48 (F := Ideal) x0 x1 i
    = ((∑ s ∈ range 4096, D.dz ((i 2).val / 128) (row (i 1).val (i 2).val) s * (1 / 8) * D.K s (64 * (i 1).val + (i 3).val) : ℝ) : EReal) := by
  rw [val_main_v48_apply]
  exact dot_val (fun s => D.dz ((i 2).val / 128) (row (i 1).val (i 2).val) s * (1 / 8)) (fun s => D.K s (64 * (i 1).val + (i 3).val)) (fun k => r46 H _) (fun k => r6 H _)

end Cert.Sb

end
-- ==== Proof.SbIn.lean ====
/-
  The blocks the kernel's points read hold the data.
-/
module

public import proofs.«01_k».proof.Proof.SbRun
public import proofs.«01_k».proof.Proof.SbHost
public import proofs.«01_k».proof.Proof.SbRef
public import Idealize.ShloMosaic.Lib.Pointwise
public import Idealize.ShloMosaic.Lib.Claim
public import Idealize.ShloMosaic.Lib.Pipeline.ValueKit

@[expose] public section

set_option maxRecDepth 16384

noncomputable section

namespace Cert.SbBwdIdeal.Own

open Idealize.ShloMosaic Idealize.ShloMosaic.TcCoe
open Cert.SbBwdIdeal Cert.SbBwdIdeal.Gen Cert.Sb

variable (m : (ℓ : Loc nD τ sig) → Buf (Elt Ideal) ℓ)

theorem idx0 : ∀ t : Fin cfg0.N, win0_0.index t = ![blk t.val, 9] := (by decide +kernel : ∀ t : Fin grid0.N, win0_0.index t = ![blk t.val, 9])

theorem emb0 (t : Fin cfg0.N) (y : Fin 128) (l : Fin 256) (a : Fin 2) :
    ((((cfg0.win 0).blk t).view.emb (ix2 y l)) a).val = (![blk t.val * 128 + y.val, 9 * 256 + l.val] : Fin 2 → ℕ) a := by
  refine (Pipeline.Window.rect_emb_val win0_0 t (ix2 y l) a).trans ?_
  rw [idx0 t]
  match a with
  | ⟨0, _⟩ => rfl
  | ⟨1, _⟩ => rfl

theorem idx1 : ∀ t : Fin cfg0.N, win0_1.index t = ![0, 10] := (by decide +kernel : ∀ t : Fin grid0.N, win0_1.index t = ![0, 10])

theorem emb1 (t : Fin cfg0.N) (y : Fin 4096) (l : Fin 256) (a : Fin 2) :
    ((((cfg0.win 1).blk t).view.emb (ix2 y l)) a).val = (![0 * 4096 + y.val, 10 * 256 + l.val] : Fin 2 → ℕ) a := by
  refine (Pipeline.Window.rect_emb_val win0_1 t (ix2 y l) a).trans ?_
  rw [idx1 t]
  match a with
  | ⟨0, _⟩ => rfl
  | ⟨1, _⟩ => rfl

theorem idx2 : ∀ t : Fin cfg0.N, win0_2.index t = ![0, 11] := (by decide +kernel : ∀ t : Fin grid0.N, win0_2.index t = ![0, 11])

theorem emb2 (t : Fin cfg0.N) (y : Fin 4096) (l : Fin 256) (a : Fin 2) :
    ((((cfg0.win 2).blk t).view.emb (ix2 y l)) a).val = (![0 * 4096 + y.val, 11 * 256 + l.val] : Fin 2 → ℕ) a := by
  refine (Pipeline.Window.rect_emb_val win0_2 t (ix2 y l) a).trans ?_
  rw [idx2 t]
  match a with
  | ⟨0, _⟩ => rfl
  | ⟨1, _⟩ => rfl

theorem idx3 : ∀ t : Fin cfg0.N, win0_3.index t = ![blk t.val, 0] := (by decide +kernel : ∀ t : Fin grid0.N, win0_3.index t = ![blk t.val, 0])

theorem emb3 (t : Fin cfg0.N) (y : Fin 128) (l : Fin 256) (a : Fin 2) :
    ((((cfg0.win 3).blk t).view.emb (ix2 y l)) a).val = (![blk t.val * 128 + y.val, 0 * 256 + l.val] : Fin 2 → ℕ) a := by
  refine (Pipeline.Window.rect_emb_val win0_3 t (ix2 y l) a).trans ?_
  rw [idx3 t]
  match a with
  | ⟨0, _⟩ => rfl
  | ⟨1, _⟩ => rfl

theorem idx4 : ∀ t : Fin cfg0.N, win0_4.index t = ![blk t.val, 0] := (by decide +kernel : ∀ t : Fin grid0.N, win0_4.index t = ![blk t.val, 0])

theorem emb4 (t : Fin cfg0.N) (y : Fin 128) (l : Fin 256) (a : Fin 2) :
    ((((cfg0.win 4).blk t).view.emb (ix2 y l)) a).val = (![blk t.val * 128 + y.val, 0 * 256 + l.val] : Fin 2 → ℕ) a := by
  refine (Pipeline.Window.rect_emb_val win0_4 t (ix2 y l) a).trans ?_
  rw [idx4 t]
  match a with
  | ⟨0, _⟩ => rfl
  | ⟨1, _⟩ => rfl

theorem flat_proj (x : (⟨S1x4096x5120, .f32⟩ : BufTy).Contents (Elt Ideal)) (i : S4096x5120.Idx) :
    shapeCast S4096x5120 x shapeCasts_S1x4096x5120_S4096x5120 i = x (ix3 0 (i 0) (i 1)) := by
  idx_vars i; pointwise []

theorem flat_cot (x : (⟨S1x4096x256, .f32⟩ : BufTy).Contents (Elt Ideal)) (i : S4096x256.Idx) :
    shapeCast S4096x256 x shapeCasts_S1x4096x256_S4096x256 i = x (ix3 0 (i 0) (i 1)) := by
  idx_vars i; pointwise []

variable {m} {c : Dev nD} {D : Data} (H : Args (m ((c : Thread nD τ).loc main_arg0)) (m ((c : Thread nD τ).loc main_arg1)) D)
include H

theorem in0 (t : Fin cfg0.N) (y : Fin 128) (l : Fin 256) : (insOf m c t).X2 (ix2 y l) = ((D.Q (128 * blk t.val + y.val) l.val : ℝ) : EReal) := by
  show iblk m c 0 t (ix2 y l) = _
  unfold iblk
  rw [show V m c (Pipeline.arrRef spec0 0) = _ from V_v30 m c]
  refine (flat_proj _ (((cfg0.win 0).blk t).view.emb (ix2 y l))).trans ?_
  refine (H.q _ l.val l.isLt ((emb0 t y l 1).trans (show 9 * 256 + l.val = 2304 + l.val by omega))).trans ?_
  rw [show ((ix3 0 (((cfg0.win 0).blk t).view.emb (ix2 y l) 0) (((cfg0.win 0).blk t).view.emb (ix2 y l) 1) : S1x4096x5120.Idx) 1).val = 128 * blk t.val + y.val from (emb0 t y l 0).trans (show blk t.val * 128 + y.val = _ by omega)]

theorem in1 (t : Fin cfg0.N) : Rows (insOf m c t).X3 D.K := by
  intro y l
  show iblk m c 1 t (ix2 y l) = _
  unfold iblk
  rw [show V m c (Pipeline.arrRef spec0 1) = _ from V_v30 m c]
  refine (flat_proj _ (((cfg0.win 1).blk t).view.emb (ix2 y l))).trans ?_
  refine (H.k _ l.val l.isLt ((emb1 t y l 1).trans (show 10 * 256 + l.val = 2560 + l.val by omega))).trans ?_
  rw [show ((ix3 0 (((cfg0.win 1).blk t).view.emb (ix2 y l) 0) (((cfg0.win 1).blk t).view.emb (ix2 y l) 1) : S1x4096x5120.Idx) 1).val = y.val from (emb1 t y l 0).trans (show 0 * 4096 + y.val = y.val by omega)]

theorem in2 (t : Fin cfg0.N) : Rows (insOf m c t).X4 D.V := by
  intro y l
  show iblk m c 2 t (ix2 y l) = _
  unfold iblk
  rw [show V m c (Pipeline.arrRef spec0 2) = _ from V_v30 m c]
  refine (flat_proj _ (((cfg0.win 2).blk t).view.emb (ix2 y l))).trans ?_
  refine (H.v _ l.val l.isLt ((emb2 t y l 1).trans (show 11 * 256 + l.val = 2816 + l.val by omega))).trans ?_
  rw [show ((ix3 0 (((cfg0.win 2).blk t).view.emb (ix2 y l) 0) (((cfg0.win 2).blk t).view.emb (ix2 y l) 1) : S1x4096x5120.Idx) 1).val = y.val from (emb2 t y l 0).trans (show 0 * 4096 + y.val = y.val by omega)]

theorem in3 (t : Fin cfg0.N) (y : Fin 128) (l : Fin 256) : (insOf m c t).X5 (ix2 y l) = ((D.G (128 * blk t.val + y.val) l.val : ℝ) : EReal) := by
  show iblk m c 3 t (ix2 y l) = _
  unfold iblk
  rw [show V m c (Pipeline.arrRef spec0 3) = _ from V_v31 m c]
  refine (flat_cot _ (((cfg0.win 3).blk t).view.emb (ix2 y l))).trans ?_
  refine (H.g _).trans ?_
  rw [show ((ix3 0 (((cfg0.win 3).blk t).view.emb (ix2 y l) 0) (((cfg0.win 3).blk t).view.emb (ix2 y l) 1) : S1x4096x256.Idx) 1).val = 128 * blk t.val + y.val from (emb3 t y l 0).trans (show blk t.val * 128 + y.val = _ by omega),
    show ((ix3 0 (((cfg0.win 3).blk t).view.emb (ix2 y l) 0) (((cfg0.win 3).blk t).view.emb (ix2 y l) 1) : S1x4096x256.Idx) 2).val = l.val from (emb3 t y l 1).trans (show 0 * 256 + l.val = l.val by omega)]

omit H in
theorem in4 {x : (⟨S1x4096x256, .f32⟩ : BufTy).Contents (Elt Ideal)} (hx : V m c main_v32 = shapeCast S4096x256 x shapeCasts_S1x4096x256_S4096x256)
    (hr : ∀ i : S1x4096x256.Idx, x i = ((D.O (i 1).val (i 2).val : ℝ) : EReal)) (t : Fin cfg0.N) (y : Fin 128) (l : Fin 256) : (insOf m c t).X6 (ix2 y l) = ((D.O (128 * blk t.val + y.val) l.val : ℝ) : EReal) := by
  show iblk m c 4 t (ix2 y l) = _
  unfold iblk
  rw [show V m c (Pipeline.arrRef spec0 4) = _ from hx]
  refine (flat_cot x (((cfg0.win 4).blk t).view.emb (ix2 y l))).trans ?_
  refine (hr _).trans ?_
  rw [show ((ix3 0 (((cfg0.win 4).blk t).view.emb (ix2 y l) 0) (((cfg0.win 4).blk t).view.emb (ix2 y l) 1) : S1x4096x256.Idx) 1).val = 128 * blk t.val + y.val from (emb4 t y l 0).trans (show blk t.val * 128 + y.val = _ by omega),
    show ((ix3 0 (((cfg0.win 4).blk t).view.emb (ix2 y l) 0) (((cfg0.win 4).blk t).view.emb (ix2 y l) 1) : S1x4096x256.Idx) 2).val = l.val from (emb4 t y l 1).trans (show 0 * 256 + l.val = l.val by omega)]

/-- Every point's blocks hold the data. -/
theorem ins_val (t : Fin cfg0.N) : InsVal D (blk t.val) (insOf m c t) := ⟨in0 H t, in1 H t, in2 H t, in3 H t, in4 (V_v32 m c) (r29 H) t⟩

end Cert.SbBwdIdeal.Own
end
-- ==== Proof.SbRefOut.lean ====
/-
  The three gradients the reference returns: cut out of the one array that holds them side by side.
-/
module

public import proofs.«01_k».proof.Proof.SbRef
public import Idealize.ShloMosaic.Lib.KernelVsHost

@[expose] public section

noncomputable section

namespace Cert.Sb

open Idealize.ShloMosaic Idealize.ShloMosaic.TcCoe
open Cert.SbRefIdeal Cert.SbRefIdeal.Gen Cert.SbRefIdeal.Read Cert.Train
open Finset (range Ico)

/-- A layer of three, alone. -/
def layer (i : S3x1x4x4096x64.Idx) : S1x1x4x4096x64.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨(i 3).val, (i 3).isLt⟩
  | ⟨4, _⟩ => ⟨(i 4).val, (i 4).isLt⟩

/-- One layer of three, the others zero: the layer itself. -/
theorem layer_in {c : ℕ} {lo hi : Fin 5 → ℕ} (hlo : lo = ![c, 0, 0, 0, 0]) (x : FVec Ideal S1x1x4x4096x64 .f32) (v : FVec Ideal S_ .f32)
    (h : S1x1x4x4096x64.Pads lo hi ![0, 0, 0, 0, 0] S3x1x4x4096x64) (hu : 0 < S_.numel)
    (i : S3x1x4x4096x64.Idx) (hc : (i 0).val = c) : pad S3x1x4x4096x64 lo hi ![0, 0, 0, 0, 0] x v h hu i = x (layer i) := by
  have h1 : (i 1).val < 1 := (i 1).isLt
  refine pad_apply_of_inside lo hi ![0, 0, 0, 0, 0] x v h hu i (layer i) fun a => ?_
  subst hlo
  match a with
  | ⟨0, _⟩ => show (i 0).val = c + 0 * (0 + 1); omega
  | ⟨1, _⟩ => show (i 1).val = 0 + 0 * (0 + 1); omega
  | ⟨2, _⟩ => show (i 2).val = 0 + (i 2).val * (0 + 1); omega
  | ⟨3, _⟩ => show (i 3).val = 0 + (i 3).val * (0 + 1); omega
  | ⟨4, _⟩ => show (i 4).val = 0 + (i 4).val * (0 + 1); omega

/-- And elsewhere. -/
theorem layer_out {c : ℕ} {lo hi : Fin 5 → ℕ} (hlo : lo = ![c, 0, 0, 0, 0]) (x : FVec Ideal S1x1x4x4096x64 .f32) (v : FVec Ideal S_ .f32)
    (hv : ∀ k, v k = ((0 : ℝ) : EReal)) (h : S1x1x4x4096x64.Pads lo hi ![0, 0, 0, 0, 0] S3x1x4x4096x64) (hu : 0 < S_.numel)
    (i : S3x1x4x4096x64.Idx) (hc : (i 0).val ≠ c) : pad S3x1x4x4096x64 lo hi ![0, 0, 0, 0, 0] x v h hu i = 0 := by
  refine (pad_apply_of_not_inside lo hi ![0, 0, 0, 0, 0] x v h hu i 0 ?_).trans (hv _)
  subst hlo
  show ¬(c ≤ (i 0).val ∧ ((i 0).val - c) % (0 + 1) = 0 ∧ ((i 0).val - c) / (0 + 1) < 1)
  omega

variable {x0 : (⟨S1x4096x5120, .f32⟩ : BufTy).Contents (Elt Ideal)} {x1 : (⟨S1x4096x256, .f32⟩ : BufTy).Contents (Elt Ideal)} {D : Data}

/-- The place of a column among the three gradients. -/
def colOf (i : S1x4096x5120.Idx) (c l : ℕ) (h : 256 * c + l < 768) : S1x4096x768.Idx := fun a => match a with
  | ⟨0, _⟩ => ⟨(i 0).val, (i 0).isLt⟩
  | ⟨1, _⟩ => ⟨(i 1).val, (i 1).isLt⟩
  | ⟨2, _⟩ => ⟨256 * c + l, h⟩

theorem col_query {z t n : ℕ} (hz : z < 1) (ht : t < 4096) (hn : n < 768) : ((z * 4096 + t) * 768 + n) / 768 % 4096 = t := by omega
theorem col_part {z t c l : ℕ} (hl : l < 256) (hc : c < 3) : ((z * 4096 + t) * 768 + (256 * c + l)) / 256 % 3 = c := by omega
theorem col_head {z t c l : ℕ} (hl : l < 256) : ((z * 4096 + t) * 768 + (256 * c + l)) / 64 % 4 = l / 64 := by omega
theorem col_lane {z t c l : ℕ} : ((z * 4096 + t) * 768 + (256 * c + l)) % 64 = l % 64 := by omega

/-- A column of the projection's gradient is a lane of a layer. -/
theorem r59 (i : S1x4096x5120.Idx) {c l : ℕ} (hc : c < 3) (hl : l < 256) (h2 : (i 2).val = 2304 + (256 * c + l)) :
    ∃ k : S3x1x4x4096x64.Idx, val_main_v59 (F := Ideal) x0 x1 i = val_main_v56 (F := Ideal) x0 x1 k
      ∧ (k 0).val = c ∧ (k 2).val = l / 64 ∧ (k 3).val = (i 1).val ∧ (k 4).val = l % 64 := by
  have i0 : (i 0).val < 1 := (i 0).isLt
  have i1 : (i 1).val < 4096 := (i 1).isLt
  have hn : 256 * c + l < 768 := by omega
  refine ⟨idx_main_v57 (idx_main_v58 (colOf i c l hn)), ?_, col_part hl hc, col_head hl, col_query i0 i1 hn, col_lane⟩
  rw [← val_main_v57_apply, ← val_main_v58_apply]
  refine pad_apply_of_inside _ _ _ _ _ _ _ i (colOf i c l hn) fun a => ?_
  match a with
  | ⟨0, _⟩ => show (i 0).val = 0 + (i 0).val * (0 + 1); omega
  | ⟨1, _⟩ => show (i 1).val = 0 + (i 1).val * (0 + 1); omega
  | ⟨2, _⟩ => show (i 2).val = 2304 + (256 * c + l) * (0 + 1); omega

variable (H : Args x0 x1 D)
include H

/-- The layer of the queries. -/
theorem r56q (i : S3x1x4x4096x64.Idx) (h : (i 0).val = 0) : val_main_v56 (F := Ideal) x0 x1 i
    = ((∑ s ∈ range 4096, D.dz ((i 3).val / 128) (row (i 2).val (i 3).val) s * (1 / 8) * D.K s (64 * (i 2).val + (i 4).val) : ℝ) : EReal) := by
  rw [val_main_v56_apply, val_main_v53_apply,
    (show val_main_v50 (F := Ideal) x0 x1 i = 0 from layer_out (c := 2) rfl _ _ (fun _ => lit_zero) _ _ i (by omega)),
    (show val_main_v52 (F := Ideal) x0 x1 i = 0 from layer_out (c := 1) rfl _ _ (fun _ => lit_zero) _ _ i (by omega)),
    (show val_main_v55 (F := Ideal) x0 x1 i = val_main_v54 (F := Ideal) x0 x1 (layer i) from layer_in (c := 0) rfl _ _ _ _ i h), val_main_v54_apply]
  refine Eq.trans ?_ (r48 H (idx_main_v54 (layer i)))
  exact (congrArg (· + _) (zero_add (0 : EReal))).trans (zero_add _)

/-- The layer of the keys. -/
theorem r56k (i : S3x1x4x4096x64.Idx) (h : (i 0).val = 1) : val_main_v56 (F := Ideal) x0 x1 i
    = ((∑ t ∈ range 4096, D.dz (t / 128) (row (i 2).val t) (i 3).val * (1 / 8) * D.Q t (64 * (i 2).val + (i 4).val) : ℝ) : EReal) := by
  rw [val_main_v56_apply, val_main_v53_apply,
    (show val_main_v50 (F := Ideal) x0 x1 i = 0 from layer_out (c := 2) rfl _ _ (fun _ => lit_zero) _ _ i (by omega)),
    (show val_main_v52 (F := Ideal) x0 x1 i = val_main_v51 (F := Ideal) x0 x1 (layer i) from layer_in (c := 1) rfl _ _ _ _ i h),
    (show val_main_v55 (F := Ideal) x0 x1 i = 0 from layer_out (c := 0) rfl _ _ (fun _ => lit_zero) _ _ i (by omega)), val_main_v51_apply]
  refine Eq.trans ?_ (r47 H (idx_main_v51 (layer i)))
  exact (add_zero _).trans (zero_add _)

/-- The layer of the values. -/
theorem r56v (i : S3x1x4x4096x64.Idx) (h : (i 0).val = 2) : val_main_v56 (F := Ideal) x0 x1 i
    = ((∑ t ∈ range 4096, D.G t (64 * (i 2).val + (i 4).val) * D.w (t / 128) (row (i 2).val t) (i 3).val : ℝ) : EReal) := by
  rw [val_main_v56_apply, val_main_v53_apply,
    (show val_main_v50 (F := Ideal) x0 x1 i = val_main_v49 (F := Ideal) x0 x1 (layer i) from layer_in (c := 2) rfl _ _ _ _ i h),
    (show val_main_v52 (F := Ideal) x0 x1 i = 0 from layer_out (c := 1) rfl _ _ (fun _ => lit_zero) _ _ i (by omega)),
    (show val_main_v55 (F := Ideal) x0 x1 i = 0 from layer_out (c := 0) rfl _ _ (fun _ => lit_zero) _ _ i (by omega)), val_main_v49_apply]
  refine Eq.trans ?_ (r33 H (idx_main_v49 (layer i)))
  exact (add_zero _).trans (add_zero _)

/-- The gradient of the queries. -/
theorem out_q (j : S4096x256.Idx) : val_main_v61 (F := Ideal) x0 x1 j
    = ((∑ s ∈ range 4096, D.dz ((j 0).val / 128) (row ((j 1).val / 64) (j 0).val) s * (1 / 8) * D.K s (j 1).val : ℝ) : EReal) := by
  have hT : (j 0).val < 4096 := (j 0).isLt
  have hL : (j 1).val < 256 := (j 1).isLt
  have e2 : ((j 0).val * 256 + (j 1).val) % 256 = (j 1).val := by omega
  have e1 : ((j 0).val * 256 + (j 1).val) / 256 % 4096 = (j 0).val := by omega
  obtain ⟨k, ek, k0, k2, k3, k4⟩ := r59 (x0 := x0) (x1 := x1) (idx_main_v60 (idx_main_v61 j)) (c := 0) (l := (j 1).val) (by omega) hL
    (by show 2304 + ((j 0).val * 256 + (j 1).val) % 256 = _; omega)
  rw [val_main_v61_apply, val_main_v60_apply, ek, r56q H k k0, k2, k4, k3, show 64 * ((j 1).val / 64) + (j 1).val % 64 = (j 1).val by omega]
  show (((∑ s ∈ range 4096, D.dz ((((j 0).val * 256 + (j 1).val) / 256 % 4096) / 128) (row ((j 1).val / 64) (((j 0).val * 256 + (j 1).val) / 256 % 4096)) s * (1 / 8) * D.K s (j 1).val) : ℝ) : EReal) = _
  rw [e1]

/-- The gradient of the keys. -/
theorem out_k (j : S256x4096.Idx) : val_main_v64 (F := Ideal) x0 x1 j
    = ((∑ t ∈ range 4096, D.dz (t / 128) (row ((j 0).val / 64) t) (j 1).val * (1 / 8) * D.Q t (j 0).val : ℝ) : EReal) := by
  have hT : (j 1).val < 4096 := (j 1).isLt
  have hL : (j 0).val < 256 := (j 0).isLt
  have e2 : ((j 1).val * 256 + (j 0).val) % 256 = (j 0).val := by omega
  have e1 : ((j 1).val * 256 + (j 0).val) / 256 % 4096 = (j 1).val := by omega
  obtain ⟨k, ek, k0, k2, k3, k4⟩ := r59 (x0 := x0) (x1 := x1) (idx_main_v62 (idx_main_v63 (idx_main_v64 j))) (c := 1) (l := (j 0).val) (by omega) hL
    (by show 2560 + ((j 1).val * 256 + (j 0).val) % 256 = _; omega)
  rw [val_main_v64_apply, val_main_v63_apply, val_main_v62_apply, ek, r56k H k k0, k2, k4, k3, show 64 * ((j 0).val / 64) + (j 0).val % 64 = (j 0).val by omega]
  show (((∑ t ∈ range 4096, D.dz (t / 128) (row ((j 0).val / 64) t) (((j 1).val * 256 + (j 0).val) / 256 % 4096) * (1 / 8) * D.Q t (j 0).val) : ℝ) : EReal) = _
  rw [e1]

/-- The gradient of the values. -/
theorem out_v (j : S256x4096.Idx) : val_main_v67 (F := Ideal) x0 x1 j
    = ((∑ t ∈ range 4096, D.G t (j 0).val * D.w (t / 128) (row ((j 0).val / 64) t) (j 1).val : ℝ) : EReal) := by
  have hT : (j 1).val < 4096 := (j 1).isLt
  have hL : (j 0).val < 256 := (j 0).isLt
  have e2 : ((j 1).val * 256 + (j 0).val) % 256 = (j 0).val := by omega
  have e1 : ((j 1).val * 256 + (j 0).val) / 256 % 4096 = (j 1).val := by omega
  obtain ⟨k, ek, k0, k2, k3, k4⟩ := r59 (x0 := x0) (x1 := x1) (idx_main_v65 (idx_main_v66 (idx_main_v67 j))) (c := 2) (l := (j 0).val) (by omega) hL
    (by show 2816 + ((j 1).val * 256 + (j 0).val) % 256 = _; omega)
  rw [val_main_v67_apply, val_main_v66_apply, val_main_v65_apply, ek, r56v H k k0, k2, k4, k3, show 64 * ((j 0).val / 64) + (j 0).val % 64 = (j 0).val by omega]
  show (((∑ t ∈ range 4096, D.G t (j 0).val * D.w (t / 128) (row ((j 0).val / 64) t) (((j 1).val * 256 + (j 0).val) / 256 % 4096)) : ℝ) : EReal) = _
  rw [e1]

end Cert.Sb

end
-- ==== Proof.SbData.lean ====
/-
  The data of the attention read off its two arguments, and the precondition: what it reads is real.
-/
module

public import proofs.«01_k».proof.Proof.SbRef
public import proofs.«01_k».proof.Proof.Gen.Pre_sb_finite
public import Idealize.ShloMosaic.Lib.Pointwise

@[expose] public section

set_option maxRecDepth 16384

noncomputable section

namespace Cert.Sb

open Idealize.ShloMosaic Idealize.ShloMosaic.TcCoe
open Cert.SbRefIdeal Cert.SbRefIdeal.Gen Cert.Train
open Finset (range Ico)

/-- A place of the projection. -/
def projAt (t c : ℕ) : S1x4096x5120.Idx := fun a => match a with
  | ⟨0, _⟩ => ⟨0, Nat.one_pos⟩
  | ⟨1, _⟩ => ⟨t % 4096, Nat.mod_lt _ (by omega : 0 < 4096)⟩
  | ⟨2, _⟩ => ⟨c % 5120, Nat.mod_lt _ (by omega : 0 < 5120)⟩
/-- A place of the cotangent. -/
def cotAt (t l : ℕ) : S1x4096x256.Idx := fun a => match a with
  | ⟨0, _⟩ => ⟨0, Nat.one_pos⟩
  | ⟨1, _⟩ => ⟨t % 4096, Nat.mod_lt _ (by omega : 0 < 4096)⟩
  | ⟨2, _⟩ => ⟨l % 256, Nat.mod_lt _ (by omega : 0 < 256)⟩

theorem projAt_self (i : S1x4096x5120.Idx) {t c : ℕ} (ht : (i 1).val = t) (hc : (i 2).val = c) : projAt t c = i := by
  have h0 : (i 0).val < 1 := (i 0).isLt
  have h1 : (i 1).val < 4096 := (i 1).isLt
  have h2 : (i 2).val < 5120 := (i 2).isLt
  funext a
  match a with
  | ⟨0, _⟩ => exact Fin.ext (show 0 = (i 0).val by omega)
  | ⟨1, _⟩ => exact Fin.ext (show t % 4096 = (i 1).val by omega)
  | ⟨2, _⟩ => exact Fin.ext (show c % 5120 = (i 2).val by omega)

theorem cotAt_self (i : S1x4096x256.Idx) : cotAt (i 1).val (i 2).val = i := by
  have h0 : (i 0).val < 1 := (i 0).isLt
  have h1 : (i 1).val < 4096 := (i 1).isLt
  have h2 : (i 2).val < 256 := (i 2).isLt
  funext a
  match a with
  | ⟨0, _⟩ => exact Fin.ext (show 0 = (i 0).val by omega)
  | ⟨1, _⟩ => exact Fin.ext (show (i 1).val % 4096 = (i 1).val by omega)
  | ⟨2, _⟩ => exact Fin.ext (show (i 2).val % 256 = (i 2).val by omega)

/-- What the arguments hold, the output left out. -/
def rawData (x0 : (⟨S1x4096x5120, .f32⟩ : BufTy).Contents (Elt Ideal)) (x1 : (⟨S1x4096x256, .f32⟩ : BufTy).Contents (Elt Ideal)) : Data where
  Q t l := EReal.toReal (x0 (projAt t (2304 + l)))
  K t l := EReal.toReal (x0 (projAt t (2560 + l)))
  V t l := EReal.toReal (x0 (projAt t (2816 + l)))
  G t l := EReal.toReal (x1 (cotAt t l))
  O _ _ := 0

/-- The arguments' data, with the output they lead to. -/
def dataOf (x0 : (⟨S1x4096x5120, .f32⟩ : BufTy).Contents (Elt Ideal)) (x1 : (⟨S1x4096x256, .f32⟩ : BufTy).Contents (Elt Ideal)) : Data :=
  { rawData x0 x1 with O := fun t l => ∑ s ∈ range 4096, (rawData x0 x1).w (t / 128) (row (l / 64) t) s * (rawData x0 x1).V s l }

theorem real_self {x : EReal} (h : ∃ r : ℝ, x = r) : x = ((EReal.toReal x : ℝ) : EReal) := by
  obtain ⟨r, rfl⟩ := h; rw [EReal.toReal_coe]

theorem args_of {x0 : (⟨S1x4096x5120, .f32⟩ : BufTy).Contents (Elt Ideal)} {x1 : (⟨S1x4096x256, .f32⟩ : BufTy).Contents (Elt Ideal)}
    (h0 : ∀ i : S1x4096x5120.Idx, 2304 ≤ (i 2).val → (i 2).val < 3072 → ∃ r : ℝ, x0 i = r) (h1 : ∀ i, ∃ r : ℝ, x1 i = r) : Args x0 x1 (dataOf x0 x1) where
  q i l hl h := (real_self (h0 i (by omega) (by omega))).trans (congrArg (fun j => ((EReal.toReal (x0 j) : ℝ) : EReal)) (projAt_self i rfl h).symm)
  k i l hl h := (real_self (h0 i (by omega) (by omega))).trans (congrArg (fun j => ((EReal.toReal (x0 j) : ℝ) : EReal)) (projAt_self i rfl h).symm)
  v i l hl h := (real_self (h0 i (by omega) (by omega))).trans (congrArg (fun j => ((EReal.toReal (x0 j) : ℝ) : EReal)) (projAt_self i rfl h).symm)
  g i := (real_self (h1 i)).trans (congrArg (fun j => ((EReal.toReal (x1 j) : ℝ) : EReal)) (cotAt_self i).symm)
  out _ _ _ := rfl

/-- The host's test `|x| < +∞` says that `x` is a real number. -/
theorem real_test (x : EReal) (h : BitVec.ofBool (decide (max x (-x) < Ideal.ofBits .f32 0x7F800000#32)) = 1#1) : ∃ r : ℝ, x = r := by
  refine real_of_abs_lt ?_
  by_contra hn
  have e : Ideal.ofBits .f32 0x7F800000#32 = ⊤ := by simp [Ideal.ofBits, Ideal.ieee]
  rw [e, decide_eq_false hn] at h
  exact absurd h (by decide)

/-- Under the precondition the arguments hold the data. -/
theorem pre_args {x0 : (⟨S1x4096x5120, .f32⟩ : BufTy).Contents (Elt Ideal)} {x1 : (⟨S1x4096x256, .f32⟩ : BufTy).Contents (Elt Ideal)}
    (h1 : (Cert.Pre_sb_finite.fn (F := Ideal) x0 x1).1 = fun _ => 1#1) (h2 : (Cert.Pre_sb_finite.fn (F := Ideal) x0 x1).2 = fun _ => 1#1) :
    Args x0 x1 (dataOf x0 x1) := by
  refine args_of (fun i ha hb => ?_) fun i => real_test _ (congrFun h2 i)
  have hi : (i 1).val < 4096 := (i 1).isLt
  have e : shapeCast Cert.Pre_sb_finite.S4096x768 (extractStridedSlice Cert.Pre_sb_finite.S1x4096x768 ![0, 0, 2304] x0 Cert.Pre_sb_finite.Gen.slices_S1x4096x5120_S1x4096x768_0_0_2304)
      Cert.Pre_sb_finite.Gen.shapeCasts_S1x4096x768_S4096x768 (ix2 ⟨(i 1).val, hi⟩ ⟨(i 2).val - 2304, by omega⟩) = x0 i := by
    conv_rhs => rw [← projAt_self i rfl rfl]
    pointwise []
    exact congrArg x0 (projAt_self _ rfl (show 2304 + ((i 2).val - 2304) = (i 2).val by omega)).symm
  exact e ▸ real_test _ (congrFun h1 (ix2 ⟨(i 1).val, hi⟩ ⟨(i 2).val - 2304, by omega⟩))

end Cert.Sb

end
-- ==== Proof.SbValue.lean ====
/-
  The attention's backward call gives the gradients of the reference.
-/
module

public import proofs.«01_k».proof.Proof.SbIn
public import proofs.«01_k».proof.Proof.SbRefOut
public import proofs.«01_k».proof.Proof.SbData
public import proofs.«01_k».proof.Proof.Gen.SbRefIdeal.Run
public import proofs.«01_k».proof.Defs
public import Idealize.ShloMosaic.Lib.Quiescent

@[expose] public section

set_option maxRecDepth 16384

noncomputable section

namespace Cert.Sb

open Idealize.ShloMosaic Idealize.ShloMosaic.TcCoe Idealize.SL.Sem
open Cert.SbBwdIdeal.Own
open Finset (range Ico)

variable (D : Data)

/-- dq: the blocks' own sums are the reference's. -/
theorem dq_eq {t l : ℕ} : D.dqFrom (t / 128) 0 (t % 128) l * (1 / 8)
    = ∑ s ∈ range 4096, D.dz (t / 128) (row (l / 64) t) s * (1 / 8) * D.K s l := by
  unfold Data.dqFrom row
  rw [Finset.sum_mul, Finset.range_eq_Ico]
  exact Finset.sum_congr rfl fun s _ => by ring

/-- dk: what the blocks add up to. -/
theorem dk_eq {s l : ℕ} (hl : l < 256) : ∑ n ∈ range 32, D.dkPart (blk n) s l
    = ∑ t ∈ range 4096, D.dz (t / 128) (row (l / 64) t) s * (1 / 8) * D.Q t l := by
  rw [D.dk_total s hl]
  exact Finset.sum_congr rfl fun t _ => by ring

end Cert.Sb

namespace Cert

open Idealize.ShloMosaic Idealize.ShloMosaic.TcCoe Idealize.SL.Sem
open Cert.SbBwdIdeal.Own Cert.Sb

theorem frame_sbRef : Cert.quiescent_SbRefIdeal := fun m ρ _ =>
  (θ_run Cert.SbRefIdeal.defs _ _).mono (fun r h => ⟨fun c => (h c).2.2.2, sem_eq_zero_of_no_sems rfl r.2⟩)
    (Cert.SbRefIdeal.Value.run (F := Ideal) m ρ)

section Ref
open Cert.SbRefIdeal Cert.SbRefIdeal.Read
variable {x0 : (⟨S1x4096x5120, .f32⟩ : BufTy).Contents (Elt Ideal)} {x1 : (⟨S1x4096x256, .f32⟩ : BufTy).Contents (Elt Ideal)} {D : Data} (H : Args x0 x1 D)
include H

theorem ref_q : val_main_v61 (F := Ideal) x0 x1 = fun j : S4096x256.Idx => ((D.dqFrom ((j 0).val / 128) 0 ((j 0).val % 128) (j 1).val * (1 / 8) : ℝ) : EReal) :=
  funext fun j => (out_q H j).trans (congrArg (fun r : ℝ => (r : EReal)) (dq_eq D).symm)
theorem ref_k : val_main_v64 (F := Ideal) x0 x1 = dkAt D 32 :=
  funext fun j => (out_k H j).trans (congrArg (fun r : ℝ => (r : EReal)) (dk_eq D (j 0).isLt).symm)
theorem ref_v : val_main_v67 (F := Ideal) x0 x1 = dvAt D 32 :=
  funext fun j => (out_v H j).trans (congrArg (fun r : ℝ => (r : EReal)) (D.dv_total _ (j 0).isLt).symm)
end Ref

/-- The call's three arrays are the gradients of the queries, the keys and the values. -/
theorem sb_value : Cert.algebraic_SbBwdIdeal_SbRefIdeal_pre_sb_finite := by
  intro m g m' g' hpre hargs
  let D := fun c : Dev Cert.SbBwdIdeal.nD => dataOf (m ((c : Thread Cert.SbBwdIdeal.nD Cert.SbBwdIdeal.τ).loc Cert.SbBwdIdeal.main_arg0)) (m ((c : Thread Cert.SbBwdIdeal.nD Cert.SbBwdIdeal.τ).loc Cert.SbBwdIdeal.main_arg1))
  have H : ∀ c : Dev Cert.SbBwdIdeal.nD, Args (m ((c : Thread Cert.SbBwdIdeal.nD Cert.SbBwdIdeal.τ).loc Cert.SbBwdIdeal.main_arg0)) (m ((c : Thread Cert.SbBwdIdeal.nD Cert.SbBwdIdeal.τ).loc Cert.SbBwdIdeal.main_arg1)) (D c) :=
    fun c => pre_args (hpre c).1 (hpre c).2
  refine ⟨_, _, _, (θ_run _ _ _).mono (fun r h c => h.1 c) (run_val (m := m) (ρ := g) (D := D) fun c t => ins_val (H c) t), ?_⟩
  refine (θ_run _ _ _).mono (fun r h c => ?_) (Cert.SbRefIdeal.Value.run (F := Ideal) m' g')
  obtain ⟨h0, h1, h2, ha⟩ := h c
  obtain ⟨a0, a1⟩ := hargs c
  have H' : Args (m' ((c : Thread Cert.SbRefIdeal.nD Cert.SbRefIdeal.τ).loc Cert.SbRefIdeal.main_arg0)) (m' ((c : Thread Cert.SbRefIdeal.nD Cert.SbRefIdeal.τ).loc Cert.SbRefIdeal.main_arg1)) (D c) := by
    rw [a0, a1]; exact H c
  exact ⟨(h0.trans (Cert.SbRefIdeal.Read.val_main_v61_eq _)).trans (ref_q H'), (h1.trans (Cert.SbRefIdeal.Read.val_main_v64_eq _)).trans (ref_k H'),
    (h2.trans (Cert.SbRefIdeal.Read.val_main_v67_eq _)).trans (ref_v H'), ha⟩

end Cert

end
-- ==== Proof.lean ====
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Pre_loss_finite
public import proofs.«01_k».proof.Proof.Gen.LossIdeal.Value
public import proofs.«01_k».proof.Proof.Gen.LossRefIdeal.Run
public import proofs.«01_k».proof.Proof.Gen.LossRefIdeal.Read
public import proofs.«01_k».proof.Proof.Gen.SbBwd
public import proofs.«01_k».proof.Proof.Gen.SbBwd.Skeleton
public import proofs.«01_k».proof.Proof.Gen.SbBwd.Loops
public import proofs.«01_k».proof.Proof.Gen.SbBwd.Launch
public import proofs.«01_k».proof.Proof.Gen.SbBwd.Points
public import proofs.«01_k».proof.Proof.Gen.SbBwd.Frame
public import proofs.«01_k».proof.Proof.Gen.SbBwdIdeal
public import proofs.«01_k».proof.Proof.Gen.SbBwdIdeal.Skeleton
public import proofs.«01_k».proof.Proof.Gen.SbBwdIdeal.Loops
public import proofs.«01_k».proof.Proof.Gen.SbBwdIdeal.Launch
public import proofs.«01_k».proof.Proof.Gen.SbBwdIdeal.Points
public import proofs.«01_k».proof.Proof.Gen.SbBwdIdeal.Frame
public import proofs.«01_k».proof.Proof.Gen.SbRefIdeal
public import proofs.«01_k».proof.Proof.Gen.Pre_sb_finite
public import proofs.«01_k».proof.Proof.Gen.SbRefIdeal.Run
public import proofs.«01_k».proof.Proof.Gen.SbRefIdeal.Read
public import proofs.«01_k».proof.Proof.Gen.FfnDx
public import proofs.«01_k».proof.Proof.Gen.FfnDx.Skeleton
public import proofs.«01_k».proof.Proof.Gen.FfnDx.Launch
public import proofs.«01_k».proof.Proof.Gen.FfnDx.Points
public import proofs.«01_k».proof.Proof.Gen.FfnDx.Frame
public import proofs.«01_k».proof.Proof.Gen.FfnDxIdeal
public import proofs.«01_k».proof.Proof.Gen.FfnDxIdeal.Skeleton
public import proofs.«01_k».proof.Proof.Gen.FfnDxIdeal.Launch
public import proofs.«01_k».proof.Proof.Gen.FfnDxIdeal.Points
public import proofs.«01_k».proof.Proof.Gen.FfnDxIdeal.Frame
public import proofs.«01_k».proof.Proof.Gen.FfnDxIdeal.Value
public import proofs.«01_k».proof.Proof.Gen.FfnDxRefIdeal
public import proofs.«01_k».proof.Proof.Gen.FfnDxRefIdeal.Run
public import proofs.«01_k».proof.Proof.Gen.FfnDxRefIdeal.Read
public import proofs.«01_k».proof.Proof.Gen.MixDx
public import proofs.«01_k».proof.Proof.Gen.MixDx.Skeleton
public import proofs.«01_k».proof.Proof.Gen.MixDx.Launch
public import proofs.«01_k».proof.Proof.Gen.MixDx.Points
public import proofs.«01_k».proof.Proof.Gen.MixDx.Frame
public import proofs.«01_k».proof.Proof.Gen.MixDxIdeal
public import proofs.«01_k».proof.Proof.Gen.MixDxIdeal.Skeleton
public import proofs.«01_k».proof.Proof.Gen.MixDxIdeal.Launch
public import proofs.«01_k».proof.Proof.Gen.MixDxIdeal.Points
public import proofs.«01_k».proof.Proof.Gen.MixDxIdeal.Frame
public import proofs.«01_k».proof.Proof.Gen.MixDxIdeal.Value
public import proofs.«01_k».proof.Proof.Gen.MixDxRefIdeal
public import proofs.«01_k».proof.Proof.Gen.MixDxRefIdeal.Run
public import proofs.«01_k».proof.Proof.Gen.MixDxRefIdeal.Read
public import proofs.«01_k».proof.Proof.Gen.Pre_ffndx_finite
public import proofs.«01_k».proof.Proof.Gen.Pre_mixdx_finite
public import proofs.«01_k».proof.Proof.FfnDxValue
public import proofs.«01_k».proof.Proof.MixDxValue
public import proofs.«01_k».proof.Proof.Gen.FfnDact
public import proofs.«01_k».proof.Proof.Gen.FfnDact.Skeleton
public import proofs.«01_k».proof.Proof.Gen.FfnDact.Launch
public import proofs.«01_k».proof.Proof.Gen.FfnDact.Points
public import proofs.«01_k».proof.Proof.Gen.FfnDact.Frame
public import proofs.«01_k».proof.Proof.Gen.FfnDactIdeal
public import proofs.«01_k».proof.Proof.Gen.FfnDactIdeal.Skeleton
public import proofs.«01_k».proof.Proof.Gen.FfnDactIdeal.Launch
public import proofs.«01_k».proof.Proof.Gen.FfnDactIdeal.Points
public import proofs.«01_k».proof.Proof.Gen.FfnDactIdeal.Frame
public import proofs.«01_k».proof.Proof.Gen.FfnDactRefIdeal
public import proofs.«01_k».proof.Proof.Gen.FfnDactRefIdeal.Run
public import proofs.«01_k».proof.Proof.Gen.FfnDactRefIdeal.Read
public import proofs.«01_k».proof.Proof.Gen.MixDu
public import proofs.«01_k».proof.Proof.Gen.MixDu.Skeleton
public import proofs.«01_k».proof.Proof.Gen.MixDu.Launch
public import proofs.«01_k».proof.Proof.Gen.MixDu.Points
public import proofs.«01_k».proof.Proof.Gen.MixDu.Frame
public import proofs.«01_k».proof.Proof.Gen.MixDuIdeal
public import proofs.«01_k».proof.Proof.Gen.MixDuIdeal.Skeleton
public import proofs.«01_k».proof.Proof.Gen.MixDuIdeal.Launch
public import proofs.«01_k».proof.Proof.Gen.MixDuIdeal.Points
public import proofs.«01_k».proof.Proof.Gen.MixDuIdeal.Frame
public import proofs.«01_k».proof.Proof.Gen.MixDuRefIdeal
public import proofs.«01_k».proof.Proof.Gen.MixDuRefIdeal.Run
public import proofs.«01_k».proof.Proof.Gen.MixDuRefIdeal.Read
public import proofs.«01_k».proof.Proof.Gen.Pre_fact_finite
public import proofs.«01_k».proof.Proof.FfnGateValue
public import proofs.«01_k».proof.Proof.MixGateValue
public import proofs.«01_k».proof.Proof.Gen.Assemble
public import proofs.«01_k».proof.Proof.Gen.AssembleIdeal
public import proofs.«01_k».proof.Proof.Gen.AssembleRefIdeal
public import proofs.«01_k».proof.Proof.Gen.AssembleIdeal.Skeleton
public import proofs.«01_k».proof.Proof.Gen.AssembleIdeal.Launch
public import proofs.«01_k».proof.Proof.Gen.AssembleIdeal.Points
public import proofs.«01_k».proof.Proof.Gen.AssembleIdeal.Frame.Runs
public import proofs.«01_k».proof.Proof.Gen.AssembleRefIdeal.Run
public import proofs.«01_k».proof.Proof.Gen.AssembleRefIdeal.Read
public import proofs.«01_k».proof.Proof.Gen.DilMerge
public import proofs.«01_k».proof.Proof.Gen.DilMerge.Frame
public import proofs.«01_k».proof.Proof.Gen.DilMergeIdeal
public import proofs.«01_k».proof.Proof.Gen.DilMergeIdeal.Frame
public import proofs.«01_k».proof.Proof.Gen.DilMergeIdeal.Value
public import proofs.«01_k».proof.Proof.Gen.DilMergeRefIdeal
public import proofs.«01_k».proof.Proof.Gen.DilMergeRefIdeal.Run
public import proofs.«01_k».proof.Proof.Gen.DilMergeRefIdeal.Read
public import proofs.«01_k».proof.Proof.Gen.Pre_lse_finite
public import proofs.«01_k».proof.Proof.MergeValue
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.MixInValue
public import proofs.«01_k».proof.Proof.AsmValue
public import Idealize.ShloMosaic.Adequacy
public import Idealize.ShloMosaic.Init
public import Idealize.ShloMosaic.Lib.Quiescent
public import proofs.«01_k».proof.Proof.LossPre
public import proofs.«01_k».proof.Proof.SbBits
public import proofs.«01_k».proof.Proof.SbValue

@[expose] public section

noncomputable section

namespace Cert.Proof

open Idealize.ShloMosaic Idealize.SL.Sem Cert.Train
open scoped BigOperators

theorem frame_lossRef : Cert.quiescent_LossRefIdeal := fun m ρ _ =>
  (θ_run Cert.LossRefIdeal.defs _ _).mono (fun r h => ⟨fun c => (h c).2.2.2, sem_eq_zero_of_no_sems rfl r.2⟩)
    (Cert.LossRefIdeal.Value.run (F := Ideal) m ρ)

/-- The loss call's three arrays are the loss and its gradients. -/
theorem loss_value : Cert.algebraic_LossIdeal_LossRefIdeal_pre_loss_finite := by
  intro m g m' g' hpre hargs
  have hr : ∀ c, ∃ (X T : Fin 4096 → Fin 1024 → ℝ) (G : Fin 1024 → ℝ), LossArgs m c X T G := fun c => by
    obtain ⟨X, T, G, a, b, d⟩ := pre_reals (hpre c).1 (hpre c).2.1 (hpre c).2.2
    exact ⟨X, T, G, a, b, d⟩
  choose X T G hr using hr
  refine ⟨fun c j => ((dxRow (X c (j 0)) (G c) (T c (j 0)) (j 1) : ℝ) : EReal),
    fun c j => ((∑ i, dgRow (X c i) (G c) (T c i) (j 1) : ℝ) : EReal),
    fun c _ => ((1 / 2 * ∑ i, lossRow (X c i) (G c) (T c i) : ℝ) : EReal), ?_, ?_⟩
  · refine (θ_run _ _ _).mono (fun r h c => ?_) (Cert.LossIdeal.Value.run_blocks (F := Ideal) m g)
    obtain ⟨h3, h4, h5, ha⟩ := h c
    exact ⟨h3.trans (final3 (hr c)), h4.trans (final4 (hr c)), h5.trans (final5 (hr c)), ha⟩
  · refine (θ_run _ _ _).mono (fun r h c => ?_) (Cert.LossRefIdeal.Value.run (F := Ideal) m' g')
    obtain ⟨h0, h1, h2, ha⟩ := h c
    obtain ⟨a0, a1, a2⟩ := hargs c
    have hx : ∀ r l, m' ((c.tc : Thread _ _).loc Cert.LossRefIdeal.main_arg0) (ix2 r l) = ((X c r l : ℝ) : EReal) := fun r l => by rw [a0]; exact (hr c).x r l
    have hg : ∀ l, m' ((c.tc : Thread _ _).loc Cert.LossRefIdeal.main_arg1) (ix1 l) = ((G c l : ℝ) : EReal) := fun l => by rw [a1]; exact (hr c).g l
    have ht : ∀ r l, m' ((c.tc : Thread _ _).loc Cert.LossRefIdeal.main_arg2) (ix2 r l) = ((T c r l : ℝ) : EReal) := fun r l => by rw [a2]; exact (hr c).t r l
    refine ⟨h0.trans ((Cert.LossRefIdeal.Read.val_main_v50_eq m' c).trans ?_), h1.trans ((Cert.LossRefIdeal.Read.val_main_v51_eq _ _ _).trans ?_),
      h2.trans ((Cert.LossRefIdeal.Read.val_main_v52_eq _ _ _).trans ?_), ha⟩
    · funext j; idx_vars j; exact ref50 _ _ _ _ _ _ hx hg ht j0 j1
    · funext j; idx_vars j; exact ref51 _ _ _ _ _ _ hx hg ht j0 j1
    · funext j; idx_vars j; exact ref52 _ _ _ _ _ _ hx hg ht j0 j1

theorem preserves_sb : Cert.preserves_SbBwd_SbBwdIdeal :=
  IdealRules.named_const.statement Cert.SbBwdIdeal.κ "nlog2e" .f32 0xBFB8AA3B#32 _ rfl

theorem claim : Cert.Claim := ⟨Cert.Loss.Gen.facts, Cert.LossIdeal.Gen.facts, Cert.LossRefIdeal.Gen.facts,
  Cert.SbBwd.Gen.facts, Cert.SbBwdIdeal.Gen.facts, Cert.SbRefIdeal.Gen.facts,
  Cert.FfnDx.Gen.facts, Cert.FfnDxIdeal.Gen.facts, Cert.FfnDxRefIdeal.Gen.facts,
  Cert.MixDx.Gen.facts, Cert.MixDxIdeal.Gen.facts, Cert.MixDxRefIdeal.Gen.facts,
  Cert.FfnDact.Gen.facts, Cert.FfnDactIdeal.Gen.facts, Cert.FfnDactRefIdeal.Gen.facts,
  Cert.MixDu.Gen.facts, Cert.MixDuIdeal.Gen.facts, Cert.MixDuRefIdeal.Gen.facts,
  Cert.Assemble.Gen.facts, Cert.AssembleIdeal.Gen.facts, Cert.AssembleRefIdeal.Gen.facts,
  Cert.DilMerge.Gen.facts, Cert.DilMergeIdeal.Gen.facts, Cert.DilMergeRefIdeal.Gen.facts,
  Cert.MixIn.Gen.facts, Cert.MixInIdeal.Gen.facts, Cert.MixInRefIdeal.Gen.facts,
  Cert.Pre_loss_finite.Gen.facts, Cert.Pre_sb_finite.Gen.facts, Cert.Pre_ffndx_finite.Gen.facts, Cert.Pre_mixdx_finite.Gen.facts, Cert.Pre_fact_finite.Gen.facts, Cert.Pre_lse_finite.Gen.facts,
  fun m ρ _ => Cert.Loss.Gen.frame m ρ, fun m ρ _ => Cert.LossIdeal.Gen.frame m ρ, fun m ρ _ => Cert.LossIdeal.Gen.frame m ρ,
  frame_lossRef, fun m ρ _ => frame_lossRef m ρ trivial,
  Cert.SbBwdIdeal.Own.frame_bits, fun m ρ _ => Cert.SbBwdIdeal.Own.frame m ρ, fun m ρ _ => Cert.SbBwdIdeal.Own.frame m ρ,
  Cert.frame_sbRef, fun m ρ _ => Cert.frame_sbRef m ρ trivial,
  fun m ρ _ => Cert.FfnDx.Gen.frame m ρ, fun m ρ _ => Cert.FfnDxIdeal.Gen.frame m ρ, fun m ρ _ => Cert.FfnDxIdeal.Gen.frame m ρ,
  FfnDx.frame_ref, fun m ρ _ => FfnDx.frame_ref m ρ trivial,
  fun m ρ _ => Cert.MixDx.Gen.frame m ρ, fun m ρ _ => Cert.MixDxIdeal.Gen.frame m ρ, fun m ρ _ => Cert.MixDxIdeal.Gen.frame m ρ,
  MixDx.frame_ref, fun m ρ _ => MixDx.frame_ref m ρ trivial,
  fun m ρ _ => Cert.FfnDact.Gen.frame m ρ, fun m ρ _ => Cert.FfnDactIdeal.Gen.frame m ρ, fun m ρ _ => Cert.FfnDactIdeal.Gen.frame m ρ,
  FfnGate.frame_ref, fun m ρ _ => FfnGate.frame_ref m ρ trivial,
  fun m ρ _ => Cert.MixDu.Gen.frame m ρ, fun m ρ _ => Cert.MixDuIdeal.Gen.frame m ρ, MixGate.frame_ref,
  Asm.frame_bits, Asm.frame_ideal, Asm.frame_ref,
  fun m ρ _ => Cert.DilMerge.Gen.frame m ρ, fun m ρ _ => Cert.DilMergeIdeal.Gen.frame m ρ, fun m ρ _ => Cert.DilMergeIdeal.Gen.frame m ρ,
  DilMerge.frame_ref, fun m ρ _ => DilMerge.frame_ref m ρ trivial,
  fun m ρ _ => Cert.MixIn.Gen.frame m ρ, fun m ρ _ => Cert.MixInIdeal.Gen.frame m ρ, MixIn.frame_ref,
  trivial, loss_value, preserves_sb, Cert.sb_value, trivial, FfnDx.value, trivial, MixDx.value,
  trivial, FfnGate.value, trivial, MixGate.value, trivial, Asm.value, trivial, DilMerge.value,
  trivial, MixIn.value⟩

end Cert.Proof

end
